-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite3 [hPre_finite3 : Cert.Pre_finite3.Facts] (m : (ℓ : Loc Cert.FwdIdeal.nD Cert.FwdIdeal.τ Cert.FwdIdeal.sig) → Buf (Elt Ideal) ℓ) : Prop :=
  ∀ c : Dev Cert.FwdIdeal.nD,
    (Cert.Pre_finite3.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite3.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite3.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite3 [hPre_finite3 : Cert.Pre_finite3.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite3.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite3.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.1 = (fun _ => 1#1)
    ∧ (Cert.Pre_finite3.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InADx (m : (ℓ : Loc Cert.InADx.nD Cert.InADx.τ Cert.InADx.sig) → Buf (Elt Bits) ℓ) : Prop :=
  True

def Pre_InADxIdeal (m : (ℓ : Loc Cert.InADxIdeal.nD Cert.InADxIdeal.τ Cert.InADxIdeal.sig) → Buf (Elt Ideal) ℓ) : Prop :=
  True

def Pre_InADxRefIdeal (m : (ℓ : Loc Cert.InADxRefIdeal.nD Cert.InADxRefIdeal.τ Cert.InADxRefIdeal.sig) → Buf (Elt Ideal) ℓ) : Prop :=
  True

def Pre_InADw (m : (ℓ : Loc Cert.InADw.nD Cert.InADw.τ Cert.InADw.sig) → Buf (Elt Bits) ℓ) : Prop :=
  True

def Pre_InADwIdeal (m : (ℓ : Loc Cert.InADwIdeal.nD Cert.InADwIdeal.τ Cert.InADwIdeal.sig) → Buf (Elt Ideal) ℓ) : Prop :=
  True

def Pre_InADwRefIdeal (m : (ℓ : Loc Cert.InADwRefIdeal.nD Cert.InADwRefIdeal.τ Cert.InADwRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InBDx (m : (ℓ : Loc Cert.InBDx.nD Cert.InBDx.τ Cert.InBDx.sig) → Buf (Elt Bits) ℓ) : Prop :=
  True

def Pre_InBDxIdeal (m : (ℓ : Loc Cert.InBDxIdeal.nD Cert.InBDxIdeal.τ Cert.InBDxIdeal.sig) → Buf (Elt Ideal) ℓ) : Prop :=
  True

def Pre_InBDxRefIdeal (m : (ℓ : Loc Cert.InBDxRefIdeal.nD Cert.InBDxRefIdeal.τ Cert.InBDxRefIdeal.sig) → Buf (Elt Ideal) ℓ) : Prop :=
  True

def Pre_InBDw (m : (ℓ : Loc Cert.InBDw.nD Cert.InBDw.τ Cert.InBDw.sig) → Buf (Elt Bits) ℓ) : Prop :=
  True

def Pre_InBDwIdeal (m : (ℓ : Loc Cert.InBDwIdeal.nD Cert.InBDwIdeal.τ Cert.InBDwIdeal.sig) → Buf (Elt Ideal) ℓ) : Prop :=
  True

def Pre_InBDwRefIdeal (m : (ℓ : Loc Cert.InBDwRefIdeal.nD Cert.InBDwRefIdeal.τ Cert.InBDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbRefIdeal (m : (ℓ : Loc Cert.QbRefIdeal.nD Cert.QbRefIdeal.τ Cert.QbRefIdeal.sig) → Buf (Elt Ideal) ℓ) : Prop :=
  True

def Pre_QbDx (m : (ℓ : Loc Cert.QbDx.nD Cert.QbDx.τ Cert.QbDx.sig) → Buf (Elt Bits) ℓ) : Prop :=
  True

def Pre_QbDxIdeal (m : (ℓ : Loc Cert.QbDxIdeal.nD Cert.QbDxIdeal.τ Cert.QbDxIdeal.sig) → Buf (Elt Ideal) ℓ) : Prop :=
  True

def Pre_QbDxRefIdeal (m : (ℓ : Loc Cert.QbDxRefIdeal.nD Cert.QbDxRefIdeal.τ Cert.QbDxRefIdeal.sig) → Buf (Elt Ideal) ℓ) : Prop :=
  True

def Pre_QbDw (m : (ℓ : Loc Cert.QbDw.nD Cert.QbDw.τ Cert.QbDw.sig) → Buf (Elt Bits) ℓ) : Prop :=
  True

def Pre_QbDwIdeal (m : (ℓ : Loc Cert.QbDwIdeal.nD Cert.QbDwIdeal.τ Cert.QbDwIdeal.sig) → Buf (Elt Ideal) ℓ) : Prop :=
  True

def Pre_QbDwRefIdeal (m : (ℓ : Loc Cert.QbDwRefIdeal.nD Cert.QbDwRefIdeal.τ Cert.QbDwRefIdeal.sig) → Buf (Elt Ideal) ℓ) : Prop :=
  True

def Pre_Kvb (m : (ℓ : Loc Cert.Kvb.nD Cert.Kvb.τ Cert.Kvb.sig) → Buf (Elt Bits) ℓ) : Prop :=
  True

def Pre_KvbIdeal (m : (ℓ : Loc Cert.KvbIdeal.nD Cert.KvbIdeal.τ Cert.KvbIdeal.sig) → Buf (Elt Ideal) ℓ) : Prop :=
  True

def Pre_KvbRefIdeal (m : (ℓ : Loc Cert.KvbRefIdeal.nD Cert.KvbRefIdeal.τ Cert.KvbRefIdeal.sig) → Buf (Elt Ideal) ℓ) : Prop :=
  True

def Pre_KvbDx (m : (ℓ : Loc Cert.KvbDx.nD Cert.KvbDx.τ Cert.KvbDx.sig) → Buf (Elt Bits) ℓ) : Prop :=
  True

def Pre_KvbDxIdeal (m : (ℓ : Loc Cert.KvbDxIdeal.nD Cert.KvbDxIdeal.τ Cert.KvbDxIdeal.sig) → Buf (Elt Ideal) ℓ) : Prop :=
  True

def Pre_KvbDxRefIdeal (m : (ℓ : Loc Cert.KvbDxRefIdeal.nD Cert.KvbDxRefIdeal.τ Cert.KvbDxRefIdeal.sig) → Buf (Elt Ideal) ℓ) : Prop :=
  True

def Pre_KvbDw (m : (ℓ : Loc Cert.KvbDw.nD Cert.KvbDw.τ Cert.KvbDw.sig) → Buf (Elt Bits) ℓ) : Prop :=
  True

def Pre_KvbDwIdeal (m : (ℓ : Loc Cert.KvbDwIdeal.nD Cert.KvbDwIdeal.τ Cert.KvbDwIdeal.sig) → Buf (Elt Ideal) ℓ) : Prop :=
  True

def Pre_KvbDwRefIdeal (m : (ℓ : Loc Cert.KvbDwRefIdeal.nD Cert.KvbDwRefIdeal.τ Cert.KvbDwRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_StepInA (m : (ℓ : Loc Cert.StepInA.nD Cert.StepInA.τ Cert.StepInA.sig) → Buf (Elt Bits) ℓ) : Prop :=
  True

def Pre_StepInAIdeal (m : (ℓ : Loc Cert.StepInAIdeal.nD Cert.StepInAIdeal.τ Cert.StepInAIdeal.sig) → Buf (Elt Ideal) ℓ) : Prop :=
  True

def Pre_StepInARefIdeal (m : (ℓ : Loc Cert.StepInARefIdeal.nD Cert.StepInARefIdeal.τ Cert.StepInARefIdeal.sig) → Buf (Elt Ideal) ℓ) : Prop :=
  True

def Pre_StepInB (m : (ℓ : Loc Cert.StepInB.nD Cert.StepInB.τ Cert.StepInB.sig) → Buf (Elt Bits) ℓ) : Prop :=
  True

def Pre_StepInBIdeal (m : (ℓ : Loc Cert.StepInBIdeal.nD Cert.StepInBIdeal.τ Cert.StepInBIdeal.sig) → Buf (Elt Ideal) ℓ) : Prop :=
  True

def Pre_StepInBRefIdeal (m : (ℓ : Loc Cert.StepInBRefIdeal.nD Cert.StepInBRefIdeal.τ Cert.StepInBRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepQb (m : (ℓ : Loc Cert.StepQb.nD Cert.StepQb.τ Cert.StepQb.sig) → Buf (Elt Bits) ℓ) : Prop :=
  True

def Pre_StepQbIdeal (m : (ℓ : Loc Cert.StepQbIdeal.nD Cert.StepQbIdeal.τ Cert.StepQbIdeal.sig) → Buf (Elt Ideal) ℓ) : Prop :=
  True

def Pre_StepQbRefIdeal (m : (ℓ : Loc Cert.StepQbRefIdeal.nD Cert.StepQbRefIdeal.τ Cert.StepQbRefIdeal.sig) → Buf (Elt Ideal) ℓ) : Prop :=
  True

def Pre_StepKvb (m : (ℓ : Loc Cert.StepKvb.nD Cert.StepKvb.τ Cert.StepKvb.sig) → Buf (Elt Bits) ℓ) : Prop :=
  True

def Pre_StepKvbIdeal (m : (ℓ : Loc Cert.StepKvbIdeal.nD Cert.StepKvbIdeal.τ Cert.StepKvbIdeal.sig) → Buf (Elt Ideal) ℓ) : Prop :=
  True

def Pre_StepKvbRefIdeal (m : (ℓ : Loc Cert.StepKvbRefIdeal.nD Cert.StepKvbRefIdeal.τ Cert.StepKvbRefIdeal.sig) → Buf (Elt Ideal) ℓ) : Prop :=
  True

def Pre_StepAda (m : (ℓ : Loc Cert.StepAda.nD Cert.StepAda.τ Cert.StepAda.sig) → Buf (Elt Bits) ℓ) : Prop :=
  True

def Pre_StepAdaIdeal (m : (ℓ : Loc Cert.StepAdaIdeal.nD Cert.StepAdaIdeal.τ Cert.StepAdaIdeal.sig) → Buf (Elt Ideal) ℓ) : Prop :=
  True

def Pre_StepAdaRefIdeal (m : (ℓ : Loc Cert.StepAdaRefIdeal.nD Cert.StepAdaRefIdeal.τ Cert.StepAdaRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaDact (m : (ℓ : Loc Cert.AdaDact.nD Cert.AdaDact.τ Cert.AdaDact.sig) → Buf (Elt Bits) ℓ) : Prop :=
  True

def Pre_AdaDactIdeal (m : (ℓ : Loc Cert.AdaDactIdeal.nD Cert.AdaDactIdeal.τ Cert.AdaDactIdeal.sig) → Buf (Elt Ideal) ℓ) : Prop :=
  True

def Pre_AdaDactRefIdeal (m : (ℓ : Loc Cert.AdaDactRefIdeal.nD Cert.AdaDactRefIdeal.τ Cert.AdaDactRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite3 [hFwdIdeal : Cert.FwdIdeal.Facts] [hPre_finite3 : Cert.Pre_finite3.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite3 m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite3 [hFwdRefIdeal : Cert.FwdRefIdeal.Facts] [hPre_finite3 : Cert.Pre_finite3.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite3 m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InADx [hInADx : Cert.InADx.Facts] : Prop :=
  ∀ (m : (ℓ : Loc Cert.InADx.nD Cert.InADx.τ Cert.InADx.sig) → Buf (Elt Bits) ℓ) (g : Dev Cert.InADx.nD → PrngReg), Pre_InADx m →
    θ_run (Cert.InADx.defs (F := Bits)) (onTc (τ := Cert.InADx.τ) (Cert.InADx.main (F := Bits))) ⟨m, fun _ => 0, g⟩ (fun r => (∀ c : Dev Cert.InADx.nD,
      r.2.mem ((c.tc : Thread Cert.InADx.nD Cert.InADx.τ).loc Cert.InADx.main_arg0) = m ((c.tc : Thread Cert.InADx.nD Cert.InADx.τ).loc Cert.InADx.main_arg0)
      ∧ r.2.mem ((c.tc : Thread Cert.InADx.nD Cert.InADx.τ).loc Cert.InADx.main_arg1) = m ((c.tc : Thread Cert.InADx.nD Cert.InADx.τ).loc Cert.InADx.main_arg1))
      ∧ r.2.sem = fun _ => 0)

def quiescent_InADxIdeal [hInADxIdeal : Cert.InADxIdeal.Facts] : Prop :=
  ∀ (m : (ℓ : Loc Cert.InADxIdeal.nD Cert.InADxIdeal.τ Cert.InADxIdeal.sig) → Buf (Elt Ideal) ℓ) (g : Dev Cert.InADxIdeal.nD → PrngReg), Pre_InADxIdeal m →
    θ_run (Cert.InADxIdeal.defs (F := Ideal)) (onTc (τ := Cert.InADxIdeal.τ) (Cert.InADxIdeal.main (F := Ideal))) ⟨m, fun _ => 0, g⟩ (fun r => (∀ c : Dev Cert.InADxIdeal.nD,
      r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
      ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ r.2.sem = fun _ => 0)

def quiescent_InADxRefIdeal [hInADxRefIdeal : Cert.InADxRefIdeal.Facts] : Prop :=
  ∀ (m : (ℓ : Loc Cert.InADxRefIdeal.nD Cert.InADxRefIdeal.τ Cert.InADxRefIdeal.sig) → Buf (Elt Ideal) ℓ) (g : Dev Cert.InADxRefIdeal.nD → PrngReg), Pre_InADxRefIdeal m →
    θ_run (Cert.InADxRefIdeal.defs (F := Ideal)) (onTc (τ := Cert.InADxRefIdeal.τ) (Cert.InADxRefIdeal.main (F := Ideal))) ⟨m, fun _ => 0, g⟩ (fun r => (∀ c : Dev Cert.InADxRefIdeal.nD,
      r.2.mem ((c.tc : Thread Cert.InADxRefIdeal.nD Cert.InADxRefIdeal.τ).loc Cert.InADxRefIdeal.main_arg0) = m ((c.tc : Thread Cert.InADxRefIdeal.nD Cert.InADxRefIdeal.τ).loc Cert.InADxRefIdeal.main_arg0)
      ∧ r.2.mem ((c.tc : Thread Cert.InADxRefIdeal.nD Cert.InADxRefIdeal.τ).loc Cert.InADxRefIdeal.main_arg1) = m ((c.tc : Thread Cert.InADxRefIdeal.nD Cert.InADxRefIdeal.τ).loc Cert.InADxRefIdeal.main_arg1))
      ∧ r.2.sem = fun _ => 0)

def quiescent_InADw [hInADw : Cert.InADw.Facts] : Prop :=
  ∀ (m : (ℓ : Loc Cert.InADw.nD Cert.InADw.τ Cert.InADw.sig) → Buf (Elt Bits) ℓ) (g : Dev Cert.InADw.nD → PrngReg), Pre_InADw m →
    θ_run (Cert.InADw.defs (F := Bits)) (onTc (τ := Cert.InADw.τ) (Cert.InADw.main (F := Bits))) ⟨m, fun _ => 0, g⟩ (fun r => (∀ c : Dev Cert.InADw.nD,
      r.2.mem ((c.tc : Thread Cert.InADw.nD Cert.InADw.τ).loc Cert.InADw.main_arg0) = m ((c.tc : Thread Cert.InADw.nD Cert.InADw.τ).loc Cert.InADw.main_arg0)
      ∧ r.2.mem ((c.tc : Thread Cert.InADw.nD Cert.InADw.τ).loc Cert.InADw.main_arg1) = m ((c.tc : Thread Cert.InADw.nD Cert.InADw.τ).loc Cert.InADw.main_arg1))
      ∧ r.2.sem = fun _ => 0)

def quiescent_InADwIdeal [hInADwIdeal : Cert.InADwIdeal.Facts] : Prop :=
  ∀ (m : (ℓ : Loc Cert.InADwIdeal.nD Cert.InADwIdeal.τ Cert.InADwIdeal.sig) → Buf (Elt Ideal) ℓ) (g : Dev Cert.InADwIdeal.nD → PrngReg), Pre_InADwIdeal m →
    θ_run (Cert.InADwIdeal.defs (F := Ideal)) (onTc (τ := Cert.InADwIdeal.τ) (Cert.InADwIdeal.main (F := Ideal))) ⟨m, fun _ => 0, g⟩ (fun r => (∀ c : Dev Cert.InADwIdeal.nD,
      r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
      ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ r.2.sem = fun _ => 0)

def quiescent_InADwRefIdeal [hInADwRefIdeal : Cert.InADwRefIdeal.Facts] : Prop :=
  ∀ (m : (ℓ : Loc Cert.InADwRefIdeal.nD Cert.InADwRefIdeal.τ Cert.InADwRefIdeal.sig) → Buf (Elt Ideal) ℓ) (g : Dev Cert.InADwRefIdeal.nD → PrngReg), Pre_InADwRefIdeal m →
    θ_run (Cert.InADwRefIdeal.defs (F := Ideal)) (onTc (τ := Cert.InADwRefIdeal.τ) (Cert.InADwRefIdeal.main (F := Ideal))) ⟨m, fun _ => 0, g⟩ (fun r => (∀ c : Dev Cert.InADwRefIdeal.nD,
      r.2.mem ((c.tc : Thread Cert.InADwRefIdeal.nD Cert.InADwRefIdeal.τ).loc Cert.InADwRefIdeal.main_arg0) = m ((c.tc : Thread Cert.InADwRefIdeal.nD Cert.InADwRefIdeal.τ).loc Cert.InADwRefIdeal.main_arg0)
      ∧ r.2.mem ((c.tc : Thread Cert.InADwRefIdeal.nD Cert.InADwRefIdeal.τ).loc Cert.InADwRefIdeal.main_arg1) = m ((c.tc : Thread Cert.InADwRefIdeal.nD Cert.InADwRefIdeal.τ).loc Cert.InADwRefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_InBDx [hInBDx : Cert.InBDx.Facts] : Prop :=
  ∀ (m : (ℓ : Loc Cert.InBDx.nD Cert.InBDx.τ Cert.InBDx.sig) → Buf (Elt Bits) ℓ) (g : Dev Cert.InBDx.nD → PrngReg), Pre_InBDx m →
    θ_run (Cert.InBDx.defs (F := Bits)) (onTc (τ := Cert.InBDx.τ) (Cert.InBDx.main (F := Bits))) ⟨m, fun _ => 0, g⟩ (fun r => (∀ c : Dev Cert.InBDx.nD,
      r.2.mem ((c.tc : Thread Cert.InBDx.nD Cert.InBDx.τ).loc Cert.InBDx.main_arg0) = m ((c.tc : Thread Cert.InBDx.nD Cert.InBDx.τ).loc Cert.InBDx.main_arg0)
      ∧ r.2.mem ((c.tc : Thread Cert.InBDx.nD Cert.InBDx.τ).loc Cert.InBDx.main_arg1) = m ((c.tc : Thread Cert.InBDx.nD Cert.InBDx.τ).loc Cert.InBDx.main_arg1))
      ∧ r.2.sem = fun _ => 0)

def quiescent_InBDxIdeal [hInBDxIdeal : Cert.InBDxIdeal.Facts] : Prop :=
  ∀ (m : (ℓ : Loc Cert.InBDxIdeal.nD Cert.InBDxIdeal.τ Cert.InBDxIdeal.sig) → Buf (Elt Ideal) ℓ) (g : Dev Cert.InBDxIdeal.nD → PrngReg), Pre_InBDxIdeal m →
    θ_run (Cert.InBDxIdeal.defs (F := Ideal)) (onTc (τ := Cert.InBDxIdeal.τ) (Cert.InBDxIdeal.main (F := Ideal))) ⟨m, fun _ => 0, g⟩ (fun r => (∀ c : Dev Cert.InBDxIdeal.nD,
      r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
      ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1))
      ∧ r.2.sem = fun _ => 0)

def quiescent_InBDxRefIdeal [hInBDxRefIdeal : Cert.InBDxRefIdeal.Facts] : Prop :=
  ∀ (m : (ℓ : Loc Cert.InBDxRefIdeal.nD Cert.InBDxRefIdeal.τ Cert.InBDxRefIdeal.sig) → Buf (Elt Ideal) ℓ) (g : Dev Cert.InBDxRefIdeal.nD → PrngReg), Pre_InBDxRefIdeal m →
    θ_run (Cert.InBDxRefIdeal.defs (F := Ideal)) (onTc (τ := Cert.InBDxRefIdeal.τ) (Cert.InBDxRefIdeal.main (F := Ideal))) ⟨m, fun _ => 0, g⟩ (fun r => (∀ c : Dev Cert.InBDxRefIdeal.nD,
      r.2.mem ((c.tc : Thread Cert.InBDxRefIdeal.nD Cert.InBDxRefIdeal.τ).loc Cert.InBDxRefIdeal.main_arg0) = m ((c.tc : Thread Cert.InBDxRefIdeal.nD Cert.InBDxRefIdeal.τ).loc Cert.InBDxRefIdeal.main_arg0)
      ∧ r.2.mem ((c.tc : Thread Cert.InBDxRefIdeal.nD Cert.InBDxRefIdeal.τ).loc Cert.InBDxRefIdeal.main_arg1) = m ((c.tc : Thread Cert.InBDxRefIdeal.nD Cert.InBDxRefIdeal.τ).loc Cert.InBDxRefIdeal.main_arg1))
      ∧ r.2.sem = fun _ => 0)

def quiescent_InBDw [hInBDw : Cert.InBDw.Facts] : Prop :=
  ∀ (m : (ℓ : Loc Cert.InBDw.nD Cert.InBDw.τ Cert.InBDw.sig) → Buf (Elt Bits) ℓ) (g : Dev Cert.InBDw.nD → PrngReg), Pre_InBDw m →
    θ_run (Cert.InBDw.defs (F := Bits)) (onTc (τ := Cert.InBDw.τ) (Cert.InBDw.main (F := Bits))) ⟨m, fun _ => 0, g⟩ (fun r => (∀ c : Dev Cert.InBDw.nD,
      r.2.mem ((c.tc : Thread Cert.InBDw.nD Cert.InBDw.τ).loc Cert.InBDw.main_arg0) = m ((c.tc : Thread Cert.InBDw.nD Cert.InBDw.τ).loc Cert.InBDw.main_arg0)
      ∧ r.2.mem ((c.tc : Thread Cert.InBDw.nD Cert.InBDw.τ).loc Cert.InBDw.main_arg1) = m ((c.tc : Thread Cert.InBDw.nD Cert.InBDw.τ).loc Cert.InBDw.main_arg1))
      ∧ r.2.sem = fun _ => 0)

def quiescent_InBDwIdeal [hInBDwIdeal : Cert.InBDwIdeal.Facts] : Prop :=
  ∀ (m : (ℓ : Loc Cert.InBDwIdeal.nD Cert.InBDwIdeal.τ Cert.InBDwIdeal.sig) → Buf (Elt Ideal) ℓ) (g : Dev Cert.InBDwIdeal.nD → PrngReg), Pre_InBDwIdeal m →
    θ_run (Cert.InBDwIdeal.defs (F := Ideal)) (onTc (τ := Cert.InBDwIdeal.τ) (Cert.InBDwIdeal.main (F := Ideal))) ⟨m, fun _ => 0, g⟩ (fun r => (∀ c : Dev Cert.InBDwIdeal.nD,
      r.2.mem ((c.tc : Thread Cert.InBDwIdeal.nD Cert.InBDwIdeal.τ).loc Cert.InBDwIdeal.main_arg0) = m ((c.tc : Thread Cert.InBDwIdeal.nD Cert.InBDwIdeal.τ).loc Cert.InBDwIdeal.main_arg0)
      ∧ r.2.mem ((c.tc : Thread Cert.InBDwIdeal.nD Cert.InBDwIdeal.τ).loc Cert.InBDwIdeal.main_arg1) = m ((c.tc : Thread Cert.InBDwIdeal.nD Cert.InBDwIdeal.τ).loc Cert.InBDwIdeal.main_arg1))
      ∧ r.2.sem = fun _ => 0)

def quiescent_InBDwRefIdeal [hInBDwRefIdeal : Cert.InBDwRefIdeal.Facts] : Prop :=
  ∀ (m : (ℓ : Loc Cert.InBDwRefIdeal.nD Cert.InBDwRefIdeal.τ Cert.InBDwRefIdeal.sig) → Buf (Elt Ideal) ℓ) (g : Dev Cert.InBDwRefIdeal.nD → PrngReg), Pre_InBDwRefIdeal m →
    θ_run (Cert.InBDwRefIdeal.defs (F := Ideal)) (onTc (τ := Cert.InBDwRefIdeal.τ) (Cert.InBDwRefIdeal.main (F := Ideal))) ⟨m, fun _ => 0, g⟩ (fun r => (∀ c : Dev Cert.InBDwRefIdeal.nD,
      r.2.mem ((c.tc : Thread Cert.InBDwRefIdeal.nD Cert.InBDwRefIdeal.τ).loc Cert.InBDwRefIdeal.main_arg0) = m ((c.tc : Thread Cert.InBDwRefIdeal.nD Cert.InBDwRefIdeal.τ).loc Cert.InBDwRefIdeal.main_arg0)
      ∧ r.2.mem ((c.tc : Thread Cert.InBDwRefIdeal.nD Cert.InBDwRefIdeal.τ).loc Cert.InBDwRefIdeal.main_arg1) = m ((c.tc : Thread Cert.InBDwRefIdeal.nD Cert.InBDwRefIdeal.τ).loc Cert.InBDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1))
      ∧ r.2.sem = fun _ => 0)

def quiescent_QbDx [hQbDx : Cert.QbDx.Facts] : Prop :=
  ∀ (m : (ℓ : Loc Cert.QbDx.nD Cert.QbDx.τ Cert.QbDx.sig) → Buf (Elt Bits) ℓ) (g : Dev Cert.QbDx.nD → PrngReg), Pre_QbDx m →
    θ_run (Cert.QbDx.defs (F := Bits)) (onTc (τ := Cert.QbDx.τ) (Cert.QbDx.main (F := Bits))) ⟨m, fun _ => 0, g⟩ (fun r => (∀ c : Dev Cert.QbDx.nD,
      r.2.mem ((c.tc : Thread Cert.QbDx.nD Cert.QbDx.τ).loc Cert.QbDx.main_arg0) = m ((c.tc : Thread Cert.QbDx.nD Cert.QbDx.τ).loc Cert.QbDx.main_arg0)
      ∧ r.2.mem ((c.tc : Thread Cert.QbDx.nD Cert.QbDx.τ).loc Cert.QbDx.main_arg1) = m ((c.tc : Thread Cert.QbDx.nD Cert.QbDx.τ).loc Cert.QbDx.main_arg1))
      ∧ r.2.sem = fun _ => 0)

def quiescent_QbDxIdeal [hQbDxIdeal : Cert.QbDxIdeal.Facts] : Prop :=
  ∀ (m : (ℓ : Loc Cert.QbDxIdeal.nD Cert.QbDxIdeal.τ Cert.QbDxIdeal.sig) → Buf (Elt Ideal) ℓ) (g : Dev Cert.QbDxIdeal.nD → PrngReg), Pre_QbDxIdeal m →
    θ_run (Cert.QbDxIdeal.defs (F := Ideal)) (onTc (τ := Cert.QbDxIdeal.τ) (Cert.QbDxIdeal.main (F := Ideal))) ⟨m, fun _ => 0, g⟩ (fun r => (∀ c : Dev Cert.QbDxIdeal.nD,
      r.2.mem ((c.tc : Thread Cert.QbDxIdeal.nD Cert.QbDxIdeal.τ).loc Cert.QbDxIdeal.main_arg0) = m ((c.tc : Thread Cert.QbDxIdeal.nD Cert.QbDxIdeal.τ).loc Cert.QbDxIdeal.main_arg0)
      ∧ r.2.mem ((c.tc : Thread Cert.QbDxIdeal.nD Cert.QbDxIdeal.τ).loc Cert.QbDxIdeal.main_arg1) = m ((c.tc : Thread Cert.QbDxIdeal.nD Cert.QbDxIdeal.τ).loc Cert.QbDxIdeal.main_arg1))
      ∧ r.2.sem = fun _ => 0)

def quiescent_QbDxRefIdeal [hQbDxRefIdeal : Cert.QbDxRefIdeal.Facts] : Prop :=
  ∀ (m : (ℓ : Loc Cert.QbDxRefIdeal.nD Cert.QbDxRefIdeal.τ Cert.QbDxRefIdeal.sig) → Buf (Elt Ideal) ℓ) (g : Dev Cert.QbDxRefIdeal.nD → PrngReg), Pre_QbDxRefIdeal m →
    θ_run (Cert.QbDxRefIdeal.defs (F := Ideal)) (onTc (τ := Cert.QbDxRefIdeal.τ) (Cert.QbDxRefIdeal.main (F := Ideal))) ⟨m, fun _ => 0, g⟩ (fun r => (∀ c : Dev Cert.QbDxRefIdeal.nD,
      r.2.mem ((c.tc : Thread Cert.QbDxRefIdeal.nD Cert.QbDxRefIdeal.τ).loc Cert.QbDxRefIdeal.main_arg0) = m ((c.tc : Thread Cert.QbDxRefIdeal.nD Cert.QbDxRefIdeal.τ).loc Cert.QbDxRefIdeal.main_arg0)
      ∧ r.2.mem ((c.tc : Thread Cert.QbDxRefIdeal.nD Cert.QbDxRefIdeal.τ).loc Cert.QbDxRefIdeal.main_arg1) = m ((c.tc : Thread Cert.QbDxRefIdeal.nD Cert.QbDxRefIdeal.τ).loc Cert.QbDxRefIdeal.main_arg1))
      ∧ r.2.sem = fun _ => 0)

def quiescent_QbDw [hQbDw : Cert.QbDw.Facts] : Prop :=
  ∀ (m : (ℓ : Loc Cert.QbDw.nD Cert.QbDw.τ Cert.QbDw.sig) → Buf (Elt Bits) ℓ) (g : Dev Cert.QbDw.nD → PrngReg), Pre_QbDw m →
    θ_run (Cert.QbDw.defs (F := Bits)) (onTc (τ := Cert.QbDw.τ) (Cert.QbDw.main (F := Bits))) ⟨m, fun _ => 0, g⟩ (fun r => (∀ c : Dev Cert.QbDw.nD,
      r.2.mem ((c.tc : Thread Cert.QbDw.nD Cert.QbDw.τ).loc Cert.QbDw.main_arg0) = m ((c.tc : Thread Cert.QbDw.nD Cert.QbDw.τ).loc Cert.QbDw.main_arg0)
      ∧ r.2.mem ((c.tc : Thread Cert.QbDw.nD Cert.QbDw.τ).loc Cert.QbDw.main_arg1) = m ((c.tc : Thread Cert.QbDw.nD Cert.QbDw.τ).loc Cert.QbDw.main_arg1))
      ∧ r.2.sem = fun _ => 0)

def quiescent_QbDwIdeal [hQbDwIdeal : Cert.QbDwIdeal.Facts] : Prop :=
  ∀ (m : (ℓ : Loc Cert.QbDwIdeal.nD Cert.QbDwIdeal.τ Cert.QbDwIdeal.sig) → Buf (Elt Ideal) ℓ) (g : Dev Cert.QbDwIdeal.nD → PrngReg), Pre_QbDwIdeal m →
    θ_run (Cert.QbDwIdeal.defs (F := Ideal)) (onTc (τ := Cert.QbDwIdeal.τ) (Cert.QbDwIdeal.main (F := Ideal))) ⟨m, fun _ => 0, g⟩ (fun r => (∀ c : Dev Cert.QbDwIdeal.nD,
      r.2.mem ((c.tc : Thread Cert.QbDwIdeal.nD Cert.QbDwIdeal.τ).loc Cert.QbDwIdeal.main_arg0) = m ((c.tc : Thread Cert.QbDwIdeal.nD Cert.QbDwIdeal.τ).loc Cert.QbDwIdeal.main_arg0)
      ∧ r.2.mem ((c.tc : Thread Cert.QbDwIdeal.nD Cert.QbDwIdeal.τ).loc Cert.QbDwIdeal.main_arg1) = m ((c.tc : Thread Cert.QbDwIdeal.nD Cert.QbDwIdeal.τ).loc Cert.QbDwIdeal.main_arg1))
      ∧ r.2.sem = fun _ => 0)

def quiescent_QbDwRefIdeal [hQbDwRefIdeal : Cert.QbDwRefIdeal.Facts] : Prop :=
  ∀ (m : (ℓ : Loc Cert.QbDwRefIdeal.nD Cert.QbDwRefIdeal.τ Cert.QbDwRefIdeal.sig) → Buf (Elt Ideal) ℓ) (g : Dev Cert.QbDwRefIdeal.nD → PrngReg), Pre_QbDwRefIdeal m →
    θ_run (Cert.QbDwRefIdeal.defs (F := Ideal)) (onTc (τ := Cert.QbDwRefIdeal.τ) (Cert.QbDwRefIdeal.main (F := Ideal))) ⟨m, fun _ => 0, g⟩ (fun r => (∀ c : Dev Cert.QbDwRefIdeal.nD,
      r.2.mem ((c.tc : Thread Cert.QbDwRefIdeal.nD Cert.QbDwRefIdeal.τ).loc Cert.QbDwRefIdeal.main_arg0) = m ((c.tc : Thread Cert.QbDwRefIdeal.nD Cert.QbDwRefIdeal.τ).loc Cert.QbDwRefIdeal.main_arg0)
      ∧ r.2.mem ((c.tc : Thread Cert.QbDwRefIdeal.nD Cert.QbDwRefIdeal.τ).loc Cert.QbDwRefIdeal.main_arg1) = m ((c.tc : Thread Cert.QbDwRefIdeal.nD Cert.QbDwRefIdeal.τ).loc Cert.QbDwRefIdeal.main_arg1))
      ∧ r.2.sem = fun _ => 0)

def quiescent_Kvb [hKvb : Cert.Kvb.Facts] : Prop :=
  ∀ (m : (ℓ : Loc Cert.Kvb.nD Cert.Kvb.τ Cert.Kvb.sig) → Buf (Elt Bits) ℓ) (g : Dev Cert.Kvb.nD → PrngReg), Pre_Kvb m →
    θ_run (Cert.Kvb.defs (F := Bits)) (onTc (τ := Cert.Kvb.τ) (Cert.Kvb.main (F := Bits))) ⟨m, fun _ => 0, g⟩ (fun r => (∀ c : Dev Cert.Kvb.nD,
      r.2.mem ((c.tc : Thread Cert.Kvb.nD Cert.Kvb.τ).loc Cert.Kvb.main_arg0) = m ((c.tc : Thread Cert.Kvb.nD Cert.Kvb.τ).loc Cert.Kvb.main_arg0)
      ∧ r.2.mem ((c.tc : Thread Cert.Kvb.nD Cert.Kvb.τ).loc Cert.Kvb.main_arg1) = m ((c.tc : Thread Cert.Kvb.nD Cert.Kvb.τ).loc Cert.Kvb.main_arg1))
      ∧ r.2.sem = fun _ => 0)

def quiescent_KvbIdeal [hKvbIdeal : Cert.KvbIdeal.Facts] : Prop :=
  ∀ (m : (ℓ : Loc Cert.KvbIdeal.nD Cert.KvbIdeal.τ Cert.KvbIdeal.sig) → Buf (Elt Ideal) ℓ) (g : Dev Cert.KvbIdeal.nD → PrngReg), Pre_KvbIdeal m →
    θ_run (Cert.KvbIdeal.defs (F := Ideal)) (onTc (τ := Cert.KvbIdeal.τ) (Cert.KvbIdeal.main (F := Ideal))) ⟨m, fun _ => 0, g⟩ (fun r => (∀ c : Dev Cert.KvbIdeal.nD,
      r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
      ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ r.2.sem = fun _ => 0)

def quiescent_KvbRefIdeal [hKvbRefIdeal : Cert.KvbRefIdeal.Facts] : Prop :=
  ∀ (m : (ℓ : Loc Cert.KvbRefIdeal.nD Cert.KvbRefIdeal.τ Cert.KvbRefIdeal.sig) → Buf (Elt Ideal) ℓ) (g : Dev Cert.KvbRefIdeal.nD → PrngReg), Pre_KvbRefIdeal m →
    θ_run (Cert.KvbRefIdeal.defs (F := Ideal)) (onTc (τ := Cert.KvbRefIdeal.τ) (Cert.KvbRefIdeal.main (F := Ideal))) ⟨m, fun _ => 0, g⟩ (fun r => (∀ c : Dev Cert.KvbRefIdeal.nD,
      r.2.mem ((c.tc : Thread Cert.KvbRefIdeal.nD Cert.KvbRefIdeal.τ).loc Cert.KvbRefIdeal.main_arg0) = m ((c.tc : Thread Cert.KvbRefIdeal.nD Cert.KvbRefIdeal.τ).loc Cert.KvbRefIdeal.main_arg0)
      ∧ r.2.mem ((c.tc : Thread Cert.KvbRefIdeal.nD Cert.KvbRefIdeal.τ).loc Cert.KvbRefIdeal.main_arg1) = m ((c.tc : Thread Cert.KvbRefIdeal.nD Cert.KvbRefIdeal.τ).loc Cert.KvbRefIdeal.main_arg1))
      ∧ r.2.sem = fun _ => 0)

def quiescent_KvbDx [hKvbDx : Cert.KvbDx.Facts] : Prop :=
  ∀ (m : (ℓ : Loc Cert.KvbDx.nD Cert.KvbDx.τ Cert.KvbDx.sig) → Buf (Elt Bits) ℓ) (g : Dev Cert.KvbDx.nD → PrngReg), Pre_KvbDx m →
    θ_run (Cert.KvbDx.defs (F := Bits)) (onTc (τ := Cert.KvbDx.τ) (Cert.KvbDx.main (F := Bits))) ⟨m, fun _ => 0, g⟩ (fun r => (∀ c : Dev Cert.KvbDx.nD,
      r.2.mem ((c.tc : Thread Cert.KvbDx.nD Cert.KvbDx.τ).loc Cert.KvbDx.main_arg0) = m ((c.tc : Thread Cert.KvbDx.nD Cert.KvbDx.τ).loc Cert.KvbDx.main_arg0)
      ∧ r.2.mem ((c.tc : Thread Cert.KvbDx.nD Cert.KvbDx.τ).loc Cert.KvbDx.main_arg1) = m ((c.tc : Thread Cert.KvbDx.nD Cert.KvbDx.τ).loc Cert.KvbDx.main_arg1))
      ∧ r.2.sem = fun _ => 0)

def quiescent_KvbDxIdeal [hKvbDxIdeal : Cert.KvbDxIdeal.Facts] : Prop :=
  ∀ (m : (ℓ : Loc Cert.KvbDxIdeal.nD Cert.KvbDxIdeal.τ Cert.KvbDxIdeal.sig) → Buf (Elt Ideal) ℓ) (g : Dev Cert.KvbDxIdeal.nD → PrngReg), Pre_KvbDxIdeal m →
    θ_run (Cert.KvbDxIdeal.defs (F := Ideal)) (onTc (τ := Cert.KvbDxIdeal.τ) (Cert.KvbDxIdeal.main (F := Ideal))) ⟨m, fun _ => 0, g⟩ (fun r => (∀ c : Dev Cert.KvbDxIdeal.nD,
      r.2.mem ((c.tc : Thread Cert.KvbDxIdeal.nD Cert.KvbDxIdeal.τ).loc Cert.KvbDxIdeal.main_arg0) = m ((c.tc : Thread Cert.KvbDxIdeal.nD Cert.KvbDxIdeal.τ).loc Cert.KvbDxIdeal.main_arg0)
      ∧ r.2.mem ((c.tc : Thread Cert.KvbDxIdeal.nD Cert.KvbDxIdeal.τ).loc Cert.KvbDxIdeal.main_arg1) = m ((c.tc : Thread Cert.KvbDxIdeal.nD Cert.KvbDxIdeal.τ).loc Cert.KvbDxIdeal.main_arg1))
      ∧ r.2.sem = fun _ => 0)

def quiescent_KvbDxRefIdeal [hKvbDxRefIdeal : Cert.KvbDxRefIdeal.Facts] : Prop :=
  ∀ (m : (ℓ : Loc Cert.KvbDxRefIdeal.nD Cert.KvbDxRefIdeal.τ Cert.KvbDxRefIdeal.sig) → Buf (Elt Ideal) ℓ) (g : Dev Cert.KvbDxRefIdeal.nD → PrngReg), Pre_KvbDxRefIdeal m →
    θ_run (Cert.KvbDxRefIdeal.defs (F := Ideal)) (onTc (τ := Cert.KvbDxRefIdeal.τ) (Cert.KvbDxRefIdeal.main (F := Ideal))) ⟨m, fun _ => 0, g⟩ (fun r => (∀ c : Dev Cert.KvbDxRefIdeal.nD,
      r.2.mem ((c.tc : Thread Cert.KvbDxRefIdeal.nD Cert.KvbDxRefIdeal.τ).loc Cert.KvbDxRefIdeal.main_arg0) = m ((c.tc : Thread Cert.KvbDxRefIdeal.nD Cert.KvbDxRefIdeal.τ).loc Cert.KvbDxRefIdeal.main_arg0)
      ∧ r.2.mem ((c.tc : Thread Cert.KvbDxRefIdeal.nD Cert.KvbDxRefIdeal.τ).loc Cert.KvbDxRefIdeal.main_arg1) = m ((c.tc : Thread Cert.KvbDxRefIdeal.nD Cert.KvbDxRefIdeal.τ).loc Cert.KvbDxRefIdeal.main_arg1))
      ∧ r.2.sem = fun _ => 0)

def quiescent_KvbDw [hKvbDw : Cert.KvbDw.Facts] : Prop :=
  ∀ (m : (ℓ : Loc Cert.KvbDw.nD Cert.KvbDw.τ Cert.KvbDw.sig) → Buf (Elt Bits) ℓ) (g : Dev Cert.KvbDw.nD → PrngReg), Pre_KvbDw m →
    θ_run (Cert.KvbDw.defs (F := Bits)) (onTc (τ := Cert.KvbDw.τ) (Cert.KvbDw.main (F := Bits))) ⟨m, fun _ => 0, g⟩ (fun r => (∀ c : Dev Cert.KvbDw.nD,
      r.2.mem ((c.tc : Thread Cert.KvbDw.nD Cert.KvbDw.τ).loc Cert.KvbDw.main_arg0) = m ((c.tc : Thread Cert.KvbDw.nD Cert.KvbDw.τ).loc Cert.KvbDw.main_arg0)
      ∧ r.2.mem ((c.tc : Thread Cert.KvbDw.nD Cert.KvbDw.τ).loc Cert.KvbDw.main_arg1) = m ((c.tc : Thread Cert.KvbDw.nD Cert.KvbDw.τ).loc Cert.KvbDw.main_arg1))
      ∧ r.2.sem = fun _ => 0)

def quiescent_KvbDwIdeal [hKvbDwIdeal : Cert.KvbDwIdeal.Facts] : Prop :=
  ∀ (m : (ℓ : Loc Cert.KvbDwIdeal.nD Cert.KvbDwIdeal.τ Cert.KvbDwIdeal.sig) → Buf (Elt Ideal) ℓ) (g : Dev Cert.KvbDwIdeal.nD → PrngReg), Pre_KvbDwIdeal m →
    θ_run (Cert.KvbDwIdeal.defs (F := Ideal)) (onTc (τ := Cert.KvbDwIdeal.τ) (Cert.KvbDwIdeal.main (F := Ideal))) ⟨m, fun _ => 0, g⟩ (fun r => (∀ c : Dev Cert.KvbDwIdeal.nD,
      r.2.mem ((c.tc : Thread Cert.KvbDwIdeal.nD Cert.KvbDwIdeal.τ).loc Cert.KvbDwIdeal.main_arg0) = m ((c.tc : Thread Cert.KvbDwIdeal.nD Cert.KvbDwIdeal.τ).loc Cert.KvbDwIdeal.main_arg0)
      ∧ r.2.mem ((c.tc : Thread Cert.KvbDwIdeal.nD Cert.KvbDwIdeal.τ).loc Cert.KvbDwIdeal.main_arg1) = m ((c.tc : Thread Cert.KvbDwIdeal.nD Cert.KvbDwIdeal.τ).loc Cert.KvbDwIdeal.main_arg1))
      ∧ r.2.sem = fun _ => 0)

def quiescent_KvbDwRefIdeal [hKvbDwRefIdeal : Cert.KvbDwRefIdeal.Facts] : Prop :=
  ∀ (m : (ℓ : Loc Cert.KvbDwRefIdeal.nD Cert.KvbDwRefIdeal.τ Cert.KvbDwRefIdeal.sig) → Buf (Elt Ideal) ℓ) (g : Dev Cert.KvbDwRefIdeal.nD → PrngReg), Pre_KvbDwRefIdeal m →
    θ_run (Cert.KvbDwRefIdeal.defs (F := Ideal)) (onTc (τ := Cert.KvbDwRefIdeal.τ) (Cert.KvbDwRefIdeal.main (F := Ideal))) ⟨m, fun _ => 0, g⟩ (fun r => (∀ c : Dev Cert.KvbDwRefIdeal.nD,
      r.2.mem ((c.tc : Thread Cert.KvbDwRefIdeal.nD Cert.KvbDwRefIdeal.τ).loc Cert.KvbDwRefIdeal.main_arg0) = m ((c.tc : Thread Cert.KvbDwRefIdeal.nD Cert.KvbDwRefIdeal.τ).loc Cert.KvbDwRefIdeal.main_arg0)
      ∧ r.2.mem ((c.tc : Thread Cert.KvbDwRefIdeal.nD Cert.KvbDwRefIdeal.τ).loc Cert.KvbDwRefIdeal.main_arg1) = m ((c.tc : Thread Cert.KvbDwRefIdeal.nD Cert.KvbDwRefIdeal.τ).loc Cert.KvbDwRefIdeal.main_arg1))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
      ∧ r.2.sem = fun _ => 0)

def quiescent_StepInA [hStepInA : Cert.StepInA.Facts] : Prop :=
  ∀ (m : (ℓ : Loc Cert.StepInA.nD Cert.StepInA.τ Cert.StepInA.sig) → Buf (Elt Bits) ℓ) (g : Dev Cert.StepInA.nD → PrngReg), Pre_StepInA m →
    θ_run (Cert.StepInA.defs (F := Bits)) (onTc (τ := Cert.StepInA.τ) (Cert.StepInA.main (F := Bits))) ⟨m, fun _ => 0, g⟩ (fun r => (∀ c : Dev Cert.StepInA.nD,
      r.2.mem ((c.tc : Thread Cert.StepInA.nD Cert.StepInA.τ).loc Cert.StepInA.main_arg0) = m ((c.tc : Thread Cert.StepInA.nD Cert.StepInA.τ).loc Cert.StepInA.main_arg0)
      ∧ r.2.mem ((c.tc : Thread Cert.StepInA.nD Cert.StepInA.τ).loc Cert.StepInA.main_arg1) = m ((c.tc : Thread Cert.StepInA.nD Cert.StepInA.τ).loc Cert.StepInA.main_arg1)
      ∧ r.2.mem ((c.tc : Thread Cert.StepInA.nD Cert.StepInA.τ).loc Cert.StepInA.main_arg2) = m ((c.tc : Thread Cert.StepInA.nD Cert.StepInA.τ).loc Cert.StepInA.main_arg2)
      ∧ r.2.mem ((c.tc : Thread Cert.StepInA.nD Cert.StepInA.τ).loc Cert.StepInA.main_arg3) = m ((c.tc : Thread Cert.StepInA.nD Cert.StepInA.τ).loc Cert.StepInA.main_arg3))
      ∧ r.2.sem = fun _ => 0)

def quiescent_StepInAIdeal [hStepInAIdeal : Cert.StepInAIdeal.Facts] : Prop :=
  ∀ (m : (ℓ : Loc Cert.StepInAIdeal.nD Cert.StepInAIdeal.τ Cert.StepInAIdeal.sig) → Buf (Elt Ideal) ℓ) (g : Dev Cert.StepInAIdeal.nD → PrngReg), Pre_StepInAIdeal m →
    θ_run (Cert.StepInAIdeal.defs (F := Ideal)) (onTc (τ := Cert.StepInAIdeal.τ) (Cert.StepInAIdeal.main (F := Ideal))) ⟨m, fun _ => 0, g⟩ (fun r => (∀ c : Dev Cert.StepInAIdeal.nD,
      r.2.mem ((c.tc : Thread Cert.StepInAIdeal.nD Cert.StepInAIdeal.τ).loc Cert.StepInAIdeal.main_arg0) = m ((c.tc : Thread Cert.StepInAIdeal.nD Cert.StepInAIdeal.τ).loc Cert.StepInAIdeal.main_arg0)
      ∧ r.2.mem ((c.tc : Thread Cert.StepInAIdeal.nD Cert.StepInAIdeal.τ).loc Cert.StepInAIdeal.main_arg1) = m ((c.tc : Thread Cert.StepInAIdeal.nD Cert.StepInAIdeal.τ).loc Cert.StepInAIdeal.main_arg1)
      ∧ r.2.mem ((c.tc : Thread Cert.StepInAIdeal.nD Cert.StepInAIdeal.τ).loc Cert.StepInAIdeal.main_arg2) = m ((c.tc : Thread Cert.StepInAIdeal.nD Cert.StepInAIdeal.τ).loc Cert.StepInAIdeal.main_arg2)
      ∧ r.2.mem ((c.tc : Thread Cert.StepInAIdeal.nD Cert.StepInAIdeal.τ).loc Cert.StepInAIdeal.main_arg3) = m ((c.tc : Thread Cert.StepInAIdeal.nD Cert.StepInAIdeal.τ).loc Cert.StepInAIdeal.main_arg3))
      ∧ r.2.sem = fun _ => 0)

def quiescent_StepInARefIdeal [hStepInARefIdeal : Cert.StepInARefIdeal.Facts] : Prop :=
  ∀ (m : (ℓ : Loc Cert.StepInARefIdeal.nD Cert.StepInARefIdeal.τ Cert.StepInARefIdeal.sig) → Buf (Elt Ideal) ℓ) (g : Dev Cert.StepInARefIdeal.nD → PrngReg), Pre_StepInARefIdeal m →
    θ_run (Cert.StepInARefIdeal.defs (F := Ideal)) (onTc (τ := Cert.StepInARefIdeal.τ) (Cert.StepInARefIdeal.main (F := Ideal))) ⟨m, fun _ => 0, g⟩ (fun r => (∀ c : Dev Cert.StepInARefIdeal.nD,
      r.2.mem ((c.tc : Thread Cert.StepInARefIdeal.nD Cert.StepInARefIdeal.τ).loc Cert.StepInARefIdeal.main_arg0) = m ((c.tc : Thread Cert.StepInARefIdeal.nD Cert.StepInARefIdeal.τ).loc Cert.StepInARefIdeal.main_arg0)
      ∧ r.2.mem ((c.tc : Thread Cert.StepInARefIdeal.nD Cert.StepInARefIdeal.τ).loc Cert.StepInARefIdeal.main_arg1) = m ((c.tc : Thread Cert.StepInARefIdeal.nD Cert.StepInARefIdeal.τ).loc Cert.StepInARefIdeal.main_arg1)
      ∧ r.2.mem ((c.tc : Thread Cert.StepInARefIdeal.nD Cert.StepInARefIdeal.τ).loc Cert.StepInARefIdeal.main_arg2) = m ((c.tc : Thread Cert.StepInARefIdeal.nD Cert.StepInARefIdeal.τ).loc Cert.StepInARefIdeal.main_arg2)
      ∧ r.2.mem ((c.tc : Thread Cert.StepInARefIdeal.nD Cert.StepInARefIdeal.τ).loc Cert.StepInARefIdeal.main_arg3) = m ((c.tc : Thread Cert.StepInARefIdeal.nD Cert.StepInARefIdeal.τ).loc Cert.StepInARefIdeal.main_arg3))
      ∧ r.2.sem = fun _ => 0)

def quiescent_StepInB [hStepInB : Cert.StepInB.Facts] : Prop :=
  ∀ (m : (ℓ : Loc Cert.StepInB.nD Cert.StepInB.τ Cert.StepInB.sig) → Buf (Elt Bits) ℓ) (g : Dev Cert.StepInB.nD → PrngReg), Pre_StepInB m →
    θ_run (Cert.StepInB.defs (F := Bits)) (onTc (τ := Cert.StepInB.τ) (Cert.StepInB.main (F := Bits))) ⟨m, fun _ => 0, g⟩ (fun r => (∀ c : Dev Cert.StepInB.nD,
      r.2.mem ((c.tc : Thread Cert.StepInB.nD Cert.StepInB.τ).loc Cert.StepInB.main_arg0) = m ((c.tc : Thread Cert.StepInB.nD Cert.StepInB.τ).loc Cert.StepInB.main_arg0)
      ∧ r.2.mem ((c.tc : Thread Cert.StepInB.nD Cert.StepInB.τ).loc Cert.StepInB.main_arg1) = m ((c.tc : Thread Cert.StepInB.nD Cert.StepInB.τ).loc Cert.StepInB.main_arg1)
      ∧ r.2.mem ((c.tc : Thread Cert.StepInB.nD Cert.StepInB.τ).loc Cert.StepInB.main_arg2) = m ((c.tc : Thread Cert.StepInB.nD Cert.StepInB.τ).loc Cert.StepInB.main_arg2)
      ∧ r.2.mem ((c.tc : Thread Cert.StepInB.nD Cert.StepInB.τ).loc Cert.StepInB.main_arg3) = m ((c.tc : Thread Cert.StepInB.nD Cert.StepInB.τ).loc Cert.StepInB.main_arg3))
      ∧ r.2.sem = fun _ => 0)

def quiescent_StepInBIdeal [hStepInBIdeal : Cert.StepInBIdeal.Facts] : Prop :=
  ∀ (m : (ℓ : Loc Cert.StepInBIdeal.nD Cert.StepInBIdeal.τ Cert.StepInBIdeal.sig) → Buf (Elt Ideal) ℓ) (g : Dev Cert.StepInBIdeal.nD → PrngReg), Pre_StepInBIdeal m →
    θ_run (Cert.StepInBIdeal.defs (F := Ideal)) (onTc (τ := Cert.StepInBIdeal.τ) (Cert.StepInBIdeal.main (F := Ideal))) ⟨m, fun _ => 0, g⟩ (fun r => (∀ c : Dev Cert.StepInBIdeal.nD,
      r.2.mem ((c.tc : Thread Cert.StepInBIdeal.nD Cert.StepInBIdeal.τ).loc Cert.StepInBIdeal.main_arg0) = m ((c.tc : Thread Cert.StepInBIdeal.nD Cert.StepInBIdeal.τ).loc Cert.StepInBIdeal.main_arg0)
      ∧ r.2.mem ((c.tc : Thread Cert.StepInBIdeal.nD Cert.StepInBIdeal.τ).loc Cert.StepInBIdeal.main_arg1) = m ((c.tc : Thread Cert.StepInBIdeal.nD Cert.StepInBIdeal.τ).loc Cert.StepInBIdeal.main_arg1)
      ∧ r.2.mem ((c.tc : Thread Cert.StepInBIdeal.nD Cert.StepInBIdeal.τ).loc Cert.StepInBIdeal.main_arg2) = m ((c.tc : Thread Cert.StepInBIdeal.nD Cert.StepInBIdeal.τ).loc Cert.StepInBIdeal.main_arg2)
      ∧ r.2.mem ((c.tc : Thread Cert.StepInBIdeal.nD Cert.StepInBIdeal.τ).loc Cert.StepInBIdeal.main_arg3) = m ((c.tc : Thread Cert.StepInBIdeal.nD Cert.StepInBIdeal.τ).loc Cert.StepInBIdeal.main_arg3))
      ∧ r.2.sem = fun _ => 0)

def quiescent_StepInBRefIdeal [hStepInBRefIdeal : Cert.StepInBRefIdeal.Facts] : Prop :=
  ∀ (m : (ℓ : Loc Cert.StepInBRefIdeal.nD Cert.StepInBRefIdeal.τ Cert.StepInBRefIdeal.sig) → Buf (Elt Ideal) ℓ) (g : Dev Cert.StepInBRefIdeal.nD → PrngReg), Pre_StepInBRefIdeal m →
    θ_run (Cert.StepInBRefIdeal.defs (F := Ideal)) (onTc (τ := Cert.StepInBRefIdeal.τ) (Cert.StepInBRefIdeal.main (F := Ideal))) ⟨m, fun _ => 0, g⟩ (fun r => (∀ c : Dev Cert.StepInBRefIdeal.nD,
      r.2.mem ((c.tc : Thread Cert.StepInBRefIdeal.nD Cert.StepInBRefIdeal.τ).loc Cert.StepInBRefIdeal.main_arg0) = m ((c.tc : Thread Cert.StepInBRefIdeal.nD Cert.StepInBRefIdeal.τ).loc Cert.StepInBRefIdeal.main_arg0)
      ∧ r.2.mem ((c.tc : Thread Cert.StepInBRefIdeal.nD Cert.StepInBRefIdeal.τ).loc Cert.StepInBRefIdeal.main_arg1) = m ((c.tc : Thread Cert.StepInBRefIdeal.nD Cert.StepInBRefIdeal.τ).loc Cert.StepInBRefIdeal.main_arg1)
      ∧ r.2.mem ((c.tc : Thread Cert.StepInBRefIdeal.nD Cert.StepInBRefIdeal.τ).loc Cert.StepInBRefIdeal.main_arg2) = m ((c.tc : Thread Cert.StepInBRefIdeal.nD Cert.StepInBRefIdeal.τ).loc Cert.StepInBRefIdeal.main_arg2)
      ∧ r.2.mem ((c.tc : Thread Cert.StepInBRefIdeal.nD Cert.StepInBRefIdeal.τ).loc Cert.StepInBRefIdeal.main_arg3) = m ((c.tc : Thread Cert.StepInBRefIdeal.nD Cert.StepInBRefIdeal.τ).loc Cert.StepInBRefIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepQb [hStepQb : Cert.StepQb.Facts] : Prop :=
  ∀ (m : (ℓ : Loc Cert.StepQb.nD Cert.StepQb.τ Cert.StepQb.sig) → Buf (Elt Bits) ℓ) (g : Dev Cert.StepQb.nD → PrngReg), Pre_StepQb m →
    θ_run (Cert.StepQb.defs (F := Bits)) (onTc (τ := Cert.StepQb.τ) (Cert.StepQb.main (F := Bits))) ⟨m, fun _ => 0, g⟩ (fun r => (∀ c : Dev Cert.StepQb.nD,
      r.2.mem ((c.tc : Thread Cert.StepQb.nD Cert.StepQb.τ).loc Cert.StepQb.main_arg0) = m ((c.tc : Thread Cert.StepQb.nD Cert.StepQb.τ).loc Cert.StepQb.main_arg0)
      ∧ r.2.mem ((c.tc : Thread Cert.StepQb.nD Cert.StepQb.τ).loc Cert.StepQb.main_arg1) = m ((c.tc : Thread Cert.StepQb.nD Cert.StepQb.τ).loc Cert.StepQb.main_arg1)
      ∧ r.2.mem ((c.tc : Thread Cert.StepQb.nD Cert.StepQb.τ).loc Cert.StepQb.main_arg2) = m ((c.tc : Thread Cert.StepQb.nD Cert.StepQb.τ).loc Cert.StepQb.main_arg2)
      ∧ r.2.mem ((c.tc : Thread Cert.StepQb.nD Cert.StepQb.τ).loc Cert.StepQb.main_arg3) = m ((c.tc : Thread Cert.StepQb.nD Cert.StepQb.τ).loc Cert.StepQb.main_arg3))
      ∧ r.2.sem = fun _ => 0)

def quiescent_StepQbIdeal [hStepQbIdeal : Cert.StepQbIdeal.Facts] : Prop :=
  ∀ (m : (ℓ : Loc Cert.StepQbIdeal.nD Cert.StepQbIdeal.τ Cert.StepQbIdeal.sig) → Buf (Elt Ideal) ℓ) (g : Dev Cert.StepQbIdeal.nD → PrngReg), Pre_StepQbIdeal m →
    θ_run (Cert.StepQbIdeal.defs (F := Ideal)) (onTc (τ := Cert.StepQbIdeal.τ) (Cert.StepQbIdeal.main (F := Ideal))) ⟨m, fun _ => 0, g⟩ (fun r => (∀ c : Dev Cert.StepQbIdeal.nD,
      r.2.mem ((c.tc : Thread Cert.StepQbIdeal.nD Cert.StepQbIdeal.τ).loc Cert.StepQbIdeal.main_arg0) = m ((c.tc : Thread Cert.StepQbIdeal.nD Cert.StepQbIdeal.τ).loc Cert.StepQbIdeal.main_arg0)
      ∧ r.2.mem ((c.tc : Thread Cert.StepQbIdeal.nD Cert.StepQbIdeal.τ).loc Cert.StepQbIdeal.main_arg1) = m ((c.tc : Thread Cert.StepQbIdeal.nD Cert.StepQbIdeal.τ).loc Cert.StepQbIdeal.main_arg1)
      ∧ r.2.mem ((c.tc : Thread Cert.StepQbIdeal.nD Cert.StepQbIdeal.τ).loc Cert.StepQbIdeal.main_arg2) = m ((c.tc : Thread Cert.StepQbIdeal.nD Cert.StepQbIdeal.τ).loc Cert.StepQbIdeal.main_arg2)
      ∧ r.2.mem ((c.tc : Thread Cert.StepQbIdeal.nD Cert.StepQbIdeal.τ).loc Cert.StepQbIdeal.main_arg3) = m ((c.tc : Thread Cert.StepQbIdeal.nD Cert.StepQbIdeal.τ).loc Cert.StepQbIdeal.main_arg3))
      ∧ r.2.sem = fun _ => 0)

def quiescent_StepQbRefIdeal [hStepQbRefIdeal : Cert.StepQbRefIdeal.Facts] : Prop :=
  ∀ (m : (ℓ : Loc Cert.StepQbRefIdeal.nD Cert.StepQbRefIdeal.τ Cert.StepQbRefIdeal.sig) → Buf (Elt Ideal) ℓ) (g : Dev Cert.StepQbRefIdeal.nD → PrngReg), Pre_StepQbRefIdeal m →
    θ_run (Cert.StepQbRefIdeal.defs (F := Ideal)) (onTc (τ := Cert.StepQbRefIdeal.τ) (Cert.StepQbRefIdeal.main (F := Ideal))) ⟨m, fun _ => 0, g⟩ (fun r => (∀ c : Dev Cert.StepQbRefIdeal.nD,
      r.2.mem ((c.tc : Thread Cert.StepQbRefIdeal.nD Cert.StepQbRefIdeal.τ).loc Cert.StepQbRefIdeal.main_arg0) = m ((c.tc : Thread Cert.StepQbRefIdeal.nD Cert.StepQbRefIdeal.τ).loc Cert.StepQbRefIdeal.main_arg0)
      ∧ r.2.mem ((c.tc : Thread Cert.StepQbRefIdeal.nD Cert.StepQbRefIdeal.τ).loc Cert.StepQbRefIdeal.main_arg1) = m ((c.tc : Thread Cert.StepQbRefIdeal.nD Cert.StepQbRefIdeal.τ).loc Cert.StepQbRefIdeal.main_arg1)
      ∧ r.2.mem ((c.tc : Thread Cert.StepQbRefIdeal.nD Cert.StepQbRefIdeal.τ).loc Cert.StepQbRefIdeal.main_arg2) = m ((c.tc : Thread Cert.StepQbRefIdeal.nD Cert.StepQbRefIdeal.τ).loc Cert.StepQbRefIdeal.main_arg2)
      ∧ r.2.mem ((c.tc : Thread Cert.StepQbRefIdeal.nD Cert.StepQbRefIdeal.τ).loc Cert.StepQbRefIdeal.main_arg3) = m ((c.tc : Thread Cert.StepQbRefIdeal.nD Cert.StepQbRefIdeal.τ).loc Cert.StepQbRefIdeal.main_arg3))
      ∧ r.2.sem = fun _ => 0)

def quiescent_StepKvb [hStepKvb : Cert.StepKvb.Facts] : Prop :=
  ∀ (m : (ℓ : Loc Cert.StepKvb.nD Cert.StepKvb.τ Cert.StepKvb.sig) → Buf (Elt Bits) ℓ) (g : Dev Cert.StepKvb.nD → PrngReg), Pre_StepKvb m →
    θ_run (Cert.StepKvb.defs (F := Bits)) (onTc (τ := Cert.StepKvb.τ) (Cert.StepKvb.main (F := Bits))) ⟨m, fun _ => 0, g⟩ (fun r => (∀ c : Dev Cert.StepKvb.nD,
      r.2.mem ((c.tc : Thread Cert.StepKvb.nD Cert.StepKvb.τ).loc Cert.StepKvb.main_arg0) = m ((c.tc : Thread Cert.StepKvb.nD Cert.StepKvb.τ).loc Cert.StepKvb.main_arg0)
      ∧ r.2.mem ((c.tc : Thread Cert.StepKvb.nD Cert.StepKvb.τ).loc Cert.StepKvb.main_arg1) = m ((c.tc : Thread Cert.StepKvb.nD Cert.StepKvb.τ).loc Cert.StepKvb.main_arg1)
      ∧ r.2.mem ((c.tc : Thread Cert.StepKvb.nD Cert.StepKvb.τ).loc Cert.StepKvb.main_arg2) = m ((c.tc : Thread Cert.StepKvb.nD Cert.StepKvb.τ).loc Cert.StepKvb.main_arg2)
      ∧ r.2.mem ((c.tc : Thread Cert.StepKvb.nD Cert.StepKvb.τ).loc Cert.StepKvb.main_arg3) = m ((c.tc : Thread Cert.StepKvb.nD Cert.StepKvb.τ).loc Cert.StepKvb.main_arg3))
      ∧ r.2.sem = fun _ => 0)

def quiescent_StepKvbIdeal [hStepKvbIdeal : Cert.StepKvbIdeal.Facts] : Prop :=
  ∀ (m : (ℓ : Loc Cert.StepKvbIdeal.nD Cert.StepKvbIdeal.τ Cert.StepKvbIdeal.sig) → Buf (Elt Ideal) ℓ) (g : Dev Cert.StepKvbIdeal.nD → PrngReg), Pre_StepKvbIdeal m →
    θ_run (Cert.StepKvbIdeal.defs (F := Ideal)) (onTc (τ := Cert.StepKvbIdeal.τ) (Cert.StepKvbIdeal.main (F := Ideal))) ⟨m, fun _ => 0, g⟩ (fun r => (∀ c : Dev Cert.StepKvbIdeal.nD,
      r.2.mem ((c.tc : Thread Cert.StepKvbIdeal.nD Cert.StepKvbIdeal.τ).loc Cert.StepKvbIdeal.main_arg0) = m ((c.tc : Thread Cert.StepKvbIdeal.nD Cert.StepKvbIdeal.τ).loc Cert.StepKvbIdeal.main_arg0)
      ∧ r.2.mem ((c.tc : Thread Cert.StepKvbIdeal.nD Cert.StepKvbIdeal.τ).loc Cert.StepKvbIdeal.main_arg1) = m ((c.tc : Thread Cert.StepKvbIdeal.nD Cert.StepKvbIdeal.τ).loc Cert.StepKvbIdeal.main_arg1)
      ∧ r.2.mem ((c.tc : Thread Cert.StepKvbIdeal.nD Cert.StepKvbIdeal.τ).loc Cert.StepKvbIdeal.main_arg2) = m ((c.tc : Thread Cert.StepKvbIdeal.nD Cert.StepKvbIdeal.τ).loc Cert.StepKvbIdeal.main_arg2)
      ∧ r.2.mem ((c.tc : Thread Cert.StepKvbIdeal.nD Cert.StepKvbIdeal.τ).loc Cert.StepKvbIdeal.main_arg3) = m ((c.tc : Thread Cert.StepKvbIdeal.nD Cert.StepKvbIdeal.τ).loc Cert.StepKvbIdeal.main_arg3))
      ∧ r.2.sem = fun _ => 0)

def quiescent_StepKvbRefIdeal [hStepKvbRefIdeal : Cert.StepKvbRefIdeal.Facts] : Prop :=
  ∀ (m : (ℓ : Loc Cert.StepKvbRefIdeal.nD Cert.StepKvbRefIdeal.τ Cert.StepKvbRefIdeal.sig) → Buf (Elt Ideal) ℓ) (g : Dev Cert.StepKvbRefIdeal.nD → PrngReg), Pre_StepKvbRefIdeal m →
    θ_run (Cert.StepKvbRefIdeal.defs (F := Ideal)) (onTc (τ := Cert.StepKvbRefIdeal.τ) (Cert.StepKvbRefIdeal.main (F := Ideal))) ⟨m, fun _ => 0, g⟩ (fun r => (∀ c : Dev Cert.StepKvbRefIdeal.nD,
      r.2.mem ((c.tc : Thread Cert.StepKvbRefIdeal.nD Cert.StepKvbRefIdeal.τ).loc Cert.StepKvbRefIdeal.main_arg0) = m ((c.tc : Thread Cert.StepKvbRefIdeal.nD Cert.StepKvbRefIdeal.τ).loc Cert.StepKvbRefIdeal.main_arg0)
      ∧ r.2.mem ((c.tc : Thread Cert.StepKvbRefIdeal.nD Cert.StepKvbRefIdeal.τ).loc Cert.StepKvbRefIdeal.main_arg1) = m ((c.tc : Thread Cert.StepKvbRefIdeal.nD Cert.StepKvbRefIdeal.τ).loc Cert.StepKvbRefIdeal.main_arg1)
      ∧ r.2.mem ((c.tc : Thread Cert.StepKvbRefIdeal.nD Cert.StepKvbRefIdeal.τ).loc Cert.StepKvbRefIdeal.main_arg2) = m ((c.tc : Thread Cert.StepKvbRefIdeal.nD Cert.StepKvbRefIdeal.τ).loc Cert.StepKvbRefIdeal.main_arg2)
      ∧ r.2.mem ((c.tc : Thread Cert.StepKvbRefIdeal.nD Cert.StepKvbRefIdeal.τ).loc Cert.StepKvbRefIdeal.main_arg3) = m ((c.tc : Thread Cert.StepKvbRefIdeal.nD Cert.StepKvbRefIdeal.τ).loc Cert.StepKvbRefIdeal.main_arg3))
      ∧ r.2.sem = fun _ => 0)

def quiescent_StepAda [hStepAda : Cert.StepAda.Facts] : Prop :=
  ∀ (m : (ℓ : Loc Cert.StepAda.nD Cert.StepAda.τ Cert.StepAda.sig) → Buf (Elt Bits) ℓ) (g : Dev Cert.StepAda.nD → PrngReg), Pre_StepAda m →
    θ_run (Cert.StepAda.defs (F := Bits)) (onTc (τ := Cert.StepAda.τ) (Cert.StepAda.main (F := Bits))) ⟨m, fun _ => 0, g⟩ (fun r => (∀ c : Dev Cert.StepAda.nD,
      r.2.mem ((c.tc : Thread Cert.StepAda.nD Cert.StepAda.τ).loc Cert.StepAda.main_arg0) = m ((c.tc : Thread Cert.StepAda.nD Cert.StepAda.τ).loc Cert.StepAda.main_arg0)
      ∧ r.2.mem ((c.tc : Thread Cert.StepAda.nD Cert.StepAda.τ).loc Cert.StepAda.main_arg1) = m ((c.tc : Thread Cert.StepAda.nD Cert.StepAda.τ).loc Cert.StepAda.main_arg1)
      ∧ r.2.mem ((c.tc : Thread Cert.StepAda.nD Cert.StepAda.τ).loc Cert.StepAda.main_arg2) = m ((c.tc : Thread Cert.StepAda.nD Cert.StepAda.τ).loc Cert.StepAda.main_arg2)
      ∧ r.2.mem ((c.tc : Thread Cert.StepAda.nD Cert.StepAda.τ).loc Cert.StepAda.main_arg3) = m ((c.tc : Thread Cert.StepAda.nD Cert.StepAda.τ).loc Cert.StepAda.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_StepAdaRefIdeal [hStepAdaRefIdeal : Cert.StepAdaRefIdeal.Facts] : Prop :=
  ∀ (m : (ℓ : Loc Cert.StepAdaRefIdeal.nD Cert.StepAdaRefIdeal.τ Cert.StepAdaRefIdeal.sig) → Buf (Elt Ideal) ℓ) (g : Dev Cert.StepAdaRefIdeal.nD → PrngReg), Pre_StepAdaRefIdeal m →
    θ_run (Cert.StepAdaRefIdeal.defs (F := Ideal)) (onTc (τ := Cert.StepAdaRefIdeal.τ) (Cert.StepAdaRefIdeal.main (F := Ideal))) ⟨m, fun _ => 0, g⟩ (fun r => (∀ c : Dev Cert.StepAdaRefIdeal.nD,
      r.2.mem ((c.tc : Thread Cert.StepAdaRefIdeal.nD Cert.StepAdaRefIdeal.τ).loc Cert.StepAdaRefIdeal.main_arg0) = m ((c.tc : Thread Cert.StepAdaRefIdeal.nD Cert.StepAdaRefIdeal.τ).loc Cert.StepAdaRefIdeal.main_arg0)
      ∧ r.2.mem ((c.tc : Thread Cert.StepAdaRefIdeal.nD Cert.StepAdaRefIdeal.τ).loc Cert.StepAdaRefIdeal.main_arg1) = m ((c.tc : Thread Cert.StepAdaRefIdeal.nD Cert.StepAdaRefIdeal.τ).loc Cert.StepAdaRefIdeal.main_arg1)
      ∧ r.2.mem ((c.tc : Thread Cert.StepAdaRefIdeal.nD Cert.StepAdaRefIdeal.τ).loc Cert.StepAdaRefIdeal.main_arg2) = m ((c.tc : Thread Cert.StepAdaRefIdeal.nD Cert.StepAdaRefIdeal.τ).loc Cert.StepAdaRefIdeal.main_arg2)
      ∧ r.2.mem ((c.tc : Thread Cert.StepAdaRefIdeal.nD Cert.StepAdaRefIdeal.τ).loc Cert.StepAdaRefIdeal.main_arg3) = m ((c.tc : Thread Cert.StepAdaRefIdeal.nD Cert.StepAdaRefIdeal.τ).loc Cert.StepAdaRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_AdaDact [hAdaDact : Cert.AdaDact.Facts] : Prop :=
  ∀ (m : (ℓ : Loc Cert.AdaDact.nD Cert.AdaDact.τ Cert.AdaDact.sig) → Buf (Elt Bits) ℓ) (g : Dev Cert.AdaDact.nD → PrngReg), Pre_AdaDact m →
    θ_run (Cert.AdaDact.defs (F := Bits)) (onTc (τ := Cert.AdaDact.τ) (Cert.AdaDact.main (F := Bits))) ⟨m, fun _ => 0, g⟩ (fun r => (∀ c : Dev Cert.AdaDact.nD,
      r.2.mem ((c.tc : Thread Cert.AdaDact.nD Cert.AdaDact.τ).loc Cert.AdaDact.main_arg0) = m ((c.tc : Thread Cert.AdaDact.nD Cert.AdaDact.τ).loc Cert.AdaDact.main_arg0)
      ∧ r.2.mem ((c.tc : Thread Cert.AdaDact.nD Cert.AdaDact.τ).loc Cert.AdaDact.main_arg1) = m ((c.tc : Thread Cert.AdaDact.nD Cert.AdaDact.τ).loc Cert.AdaDact.main_arg1)
      ∧ r.2.mem ((c.tc : Thread Cert.AdaDact.nD Cert.AdaDact.τ).loc Cert.AdaDact.main_arg2) = m ((c.tc : Thread Cert.AdaDact.nD Cert.AdaDact.τ).loc Cert.AdaDact.main_arg2)
      ∧ r.2.mem ((c.tc : Thread Cert.AdaDact.nD Cert.AdaDact.τ).loc Cert.AdaDact.main_arg3) = m ((c.tc : Thread Cert.AdaDact.nD Cert.AdaDact.τ).loc Cert.AdaDact.main_arg3))
      ∧ r.2.sem = fun _ => 0)

def quiescent_AdaDactIdeal [hAdaDactIdeal : Cert.AdaDactIdeal.Facts] : Prop :=
  ∀ (m : (ℓ : Loc Cert.AdaDactIdeal.nD Cert.AdaDactIdeal.τ Cert.AdaDactIdeal.sig) → Buf (Elt Ideal) ℓ) (g : Dev Cert.AdaDactIdeal.nD → PrngReg), Pre_AdaDactIdeal m →
    θ_run (Cert.AdaDactIdeal.defs (F := Ideal)) (onTc (τ := Cert.AdaDactIdeal.τ) (Cert.AdaDactIdeal.main (F := Ideal))) ⟨m, fun _ => 0, g⟩ (fun r => (∀ c : Dev Cert.AdaDactIdeal.nD,
      r.2.mem ((c.tc : Thread Cert.AdaDactIdeal.nD Cert.AdaDactIdeal.τ).loc Cert.AdaDactIdeal.main_arg0) = m ((c.tc : Thread Cert.AdaDactIdeal.nD Cert.AdaDactIdeal.τ).loc Cert.AdaDactIdeal.main_arg0)
      ∧ r.2.mem ((c.tc : Thread Cert.AdaDactIdeal.nD Cert.AdaDactIdeal.τ).loc Cert.AdaDactIdeal.main_arg1) = m ((c.tc : Thread Cert.AdaDactIdeal.nD Cert.AdaDactIdeal.τ).loc Cert.AdaDactIdeal.main_arg1)
      ∧ r.2.mem ((c.tc : Thread Cert.AdaDactIdeal.nD Cert.AdaDactIdeal.τ).loc Cert.AdaDactIdeal.main_arg2) = m ((c.tc : Thread Cert.AdaDactIdeal.nD Cert.AdaDactIdeal.τ).loc Cert.AdaDactIdeal.main_arg2)
      ∧ r.2.mem ((c.tc : Thread Cert.AdaDactIdeal.nD Cert.AdaDactIdeal.τ).loc Cert.AdaDactIdeal.main_arg3) = m ((c.tc : Thread Cert.AdaDactIdeal.nD Cert.AdaDactIdeal.τ).loc Cert.AdaDactIdeal.main_arg3))
      ∧ r.2.sem = fun _ => 0)

def quiescent_AdaDactRefIdeal [hAdaDactRefIdeal : Cert.AdaDactRefIdeal.Facts] : Prop :=
  ∀ (m : (ℓ : Loc Cert.AdaDactRefIdeal.nD Cert.AdaDactRefIdeal.τ Cert.AdaDactRefIdeal.sig) → Buf (Elt Ideal) ℓ) (g : Dev Cert.AdaDactRefIdeal.nD → PrngReg), Pre_AdaDactRefIdeal m →
    θ_run (Cert.AdaDactRefIdeal.defs (F := Ideal)) (onTc (τ := Cert.AdaDactRefIdeal.τ) (Cert.AdaDactRefIdeal.main (F := Ideal))) ⟨m, fun _ => 0, g⟩ (fun r => (∀ c : Dev Cert.AdaDactRefIdeal.nD,
      r.2.mem ((c.tc : Thread Cert.AdaDactRefIdeal.nD Cert.AdaDactRefIdeal.τ).loc Cert.AdaDactRefIdeal.main_arg0) = m ((c.tc : Thread Cert.AdaDactRefIdeal.nD Cert.AdaDactRefIdeal.τ).loc Cert.AdaDactRefIdeal.main_arg0)
      ∧ r.2.mem ((c.tc : Thread Cert.AdaDactRefIdeal.nD Cert.AdaDactRefIdeal.τ).loc Cert.AdaDactRefIdeal.main_arg1) = m ((c.tc : Thread Cert.AdaDactRefIdeal.nD Cert.AdaDactRefIdeal.τ).loc Cert.AdaDactRefIdeal.main_arg1)
      ∧ r.2.mem ((c.tc : Thread Cert.AdaDactRefIdeal.nD Cert.AdaDactRefIdeal.τ).loc Cert.AdaDactRefIdeal.main_arg2) = m ((c.tc : Thread Cert.AdaDactRefIdeal.nD Cert.AdaDactRefIdeal.τ).loc Cert.AdaDactRefIdeal.main_arg2)
      ∧ r.2.mem ((c.tc : Thread Cert.AdaDactRefIdeal.nD Cert.AdaDactRefIdeal.τ).loc Cert.AdaDactRefIdeal.main_arg3) = m ((c.tc : Thread Cert.AdaDactRefIdeal.nD Cert.AdaDactRefIdeal.τ).loc Cert.AdaDactRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  IdealRules.named_const.Statement Cert.FwdIdeal.κ "ln2" .f32 0x3F317218#32 ((Real.log 2 : ℝ) : EReal)

def algebraic_FwdIdeal_FwdRefIdeal_pre_finite3 [hFwdIdeal : Cert.FwdIdeal.Facts] [hFwdRefIdeal : Cert.FwdRefIdeal.Facts] [hPre_finite3 : Cert.Pre_finite3.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite3 m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v13_0)) (v1 : (c : Dev Cert.FwdIdeal.nD) → Buf (Elt Ideal) ((c.tc : Thread Cert.FwdIdeal.nD Cert.FwdIdeal.τ).loc Cert.FwdIdeal.main_v13_1)) (v2 : (c : Dev Cert.FwdIdeal.nD) → Buf (Elt Ideal) ((c.tc : Thread Cert.FwdIdeal.nD Cert.FwdIdeal.τ).loc Cert.FwdIdeal.main_v13_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v13_0) = v0 c
          ∧ r.2.mem ((c.tc : Thread Cert.FwdIdeal.nD Cert.FwdIdeal.τ).loc Cert.FwdIdeal.main_v13_1) = v1 c
          ∧ r.2.mem ((c.tc : Thread Cert.FwdIdeal.nD Cert.FwdIdeal.τ).loc Cert.FwdIdeal.main_v13_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v35) = v0 c
          ∧ r.2.mem ((c.tc : Thread Cert.FwdRefIdeal.nD Cert.FwdRefIdeal.τ).loc Cert.FwdRefIdeal.main_v56) = v1 c
          ∧ r.2.mem ((c.tc : Thread Cert.FwdRefIdeal.nD Cert.FwdRefIdeal.τ).loc Cert.FwdRefIdeal.main_v59) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v2) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v5)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v5) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v1) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v0) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v2) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v2)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v2) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v0) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InADx_InADxIdeal : Prop :=
  True

def algebraic_InADxIdeal_InADxRefIdeal [hInADxIdeal : Cert.InADxIdeal.Facts] [hInADxRefIdeal : Cert.InADxRefIdeal.Facts] : Prop :=
  ∀ (m : (ℓ : Loc Cert.InADxIdeal.nD Cert.InADxIdeal.τ Cert.InADxIdeal.sig) → Buf (Elt Ideal) ℓ) (g : Dev Cert.InADxIdeal.nD → PrngReg)
    (m' : (ℓ : Loc Cert.InADxRefIdeal.nD Cert.InADxRefIdeal.τ Cert.InADxRefIdeal.sig) → Buf (Elt Ideal) ℓ) (g' : Dev Cert.InADxRefIdeal.nD → PrngReg), Pre_InADxIdeal m →
    (∀ c : Dev Cert.InADxIdeal.nD,
      m' ((c.tc : Thread Cert.InADxRefIdeal.nD Cert.InADxRefIdeal.τ).loc Cert.InADxRefIdeal.main_arg0) = m ((c.tc : Thread Cert.InADxIdeal.nD Cert.InADxIdeal.τ).loc Cert.InADxIdeal.main_arg0)
      ∧ m' ((c.tc : Thread Cert.InADxRefIdeal.nD Cert.InADxRefIdeal.τ).loc Cert.InADxRefIdeal.main_arg1) = m ((c.tc : Thread Cert.InADxIdeal.nD Cert.InADxIdeal.τ).loc Cert.InADxIdeal.main_arg1)) →
    ∃ (v0 : (c : Dev Cert.InADxIdeal.nD) → Buf (Elt Ideal) ((c.tc : Thread Cert.InADxIdeal.nD Cert.InADxIdeal.τ).loc Cert.InADxIdeal.main_v2)),
      θ_run (Cert.InADxIdeal.defs (F := Ideal)) (onTc (τ := Cert.InADxIdeal.τ) (Cert.InADxIdeal.main (F := Ideal))) ⟨m, fun _ => 0, g⟩ (fun r => ∀ c : Dev Cert.InADxIdeal.nD,
          r.2.mem ((c.tc : Thread Cert.InADxIdeal.nD Cert.InADxIdeal.τ).loc Cert.InADxIdeal.main_v2) = v0 c
          ∧ r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
          ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ θ_run (Cert.InADxRefIdeal.defs (F := Ideal)) (onTc (τ := Cert.InADxRefIdeal.τ) (Cert.InADxRefIdeal.main (F := Ideal))) ⟨m', fun _ => 0, g'⟩ (fun r => ∀ c : Dev Cert.InADxRefIdeal.nD,
          r.2.mem ((c.tc : Thread Cert.InADxRefIdeal.nD Cert.InADxRefIdeal.τ).loc Cert.InADxRefIdeal.main_v0) = v0 c
          ∧ r.2.mem ((c.tc : Thread Cert.InADxRefIdeal.nD Cert.InADxRefIdeal.τ).loc Cert.InADxRefIdeal.main_arg0) = m' ((c.tc : Thread Cert.InADxRefIdeal.nD Cert.InADxRefIdeal.τ).loc Cert.InADxRefIdeal.main_arg0)
          ∧ r.2.mem ((c.tc : Thread Cert.InADxRefIdeal.nD Cert.InADxRefIdeal.τ).loc Cert.InADxRefIdeal.main_arg1) = m' ((c.tc : Thread Cert.InADxRefIdeal.nD Cert.InADxRefIdeal.τ).loc Cert.InADxRefIdeal.main_arg1))

def preserves_InADw_InADwIdeal : Prop :=
  True

def algebraic_InADwIdeal_InADwRefIdeal [hInADwIdeal : Cert.InADwIdeal.Facts] [hInADwRefIdeal : Cert.InADwRefIdeal.Facts] : Prop :=
  ∀ (m : (ℓ : Loc Cert.InADwIdeal.nD Cert.InADwIdeal.τ Cert.InADwIdeal.sig) → Buf (Elt Ideal) ℓ) (g : Dev Cert.InADwIdeal.nD → PrngReg)
    (m' : (ℓ : Loc Cert.InADwRefIdeal.nD Cert.InADwRefIdeal.τ Cert.InADwRefIdeal.sig) → Buf (Elt Ideal) ℓ) (g' : Dev Cert.InADwRefIdeal.nD → PrngReg), Pre_InADwIdeal m →
    (∀ c : Dev Cert.InADwIdeal.nD,
      m' ((c.tc : Thread Cert.InADwRefIdeal.nD Cert.InADwRefIdeal.τ).loc Cert.InADwRefIdeal.main_arg0) = m ((c.tc : Thread Cert.InADwIdeal.nD Cert.InADwIdeal.τ).loc Cert.InADwIdeal.main_arg0)
      ∧ m' ((c.tc : Thread Cert.InADwRefIdeal.nD Cert.InADwRefIdeal.τ).loc Cert.InADwRefIdeal.main_arg1) = m ((c.tc : Thread Cert.InADwIdeal.nD Cert.InADwIdeal.τ).loc Cert.InADwIdeal.main_arg1)) →
    ∃ (v0 : (c : Dev Cert.InADwIdeal.nD) → Buf (Elt Ideal) ((c.tc : Thread Cert.InADwIdeal.nD Cert.InADwIdeal.τ).loc Cert.InADwIdeal.main_v2)),
      θ_run (Cert.InADwIdeal.defs (F := Ideal)) (onTc (τ := Cert.InADwIdeal.τ) (Cert.InADwIdeal.main (F := Ideal))) ⟨m, fun _ => 0, g⟩ (fun r => ∀ c : Dev Cert.InADwIdeal.nD,
          r.2.mem ((c.tc : Thread Cert.InADwIdeal.nD Cert.InADwIdeal.τ).loc Cert.InADwIdeal.main_v2) = v0 c
          ∧ r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
          ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ θ_run (Cert.InADwRefIdeal.defs (F := Ideal)) (onTc (τ := Cert.InADwRefIdeal.τ) (Cert.InADwRefIdeal.main (F := Ideal))) ⟨m', fun _ => 0, g'⟩ (fun r => ∀ c : Dev Cert.InADwRefIdeal.nD,
          r.2.mem ((c.tc : Thread Cert.InADwRefIdeal.nD Cert.InADwRefIdeal.τ).loc Cert.InADwRefIdeal.main_v2) = v0 c
          ∧ r.2.mem ((c.tc : Thread Cert.InADwRefIdeal.nD Cert.InADwRefIdeal.τ).loc Cert.InADwRefIdeal.main_arg0) = m' ((c.tc : Thread Cert.InADwRefIdeal.nD Cert.InADwRefIdeal.τ).loc Cert.InADwRefIdeal.main_arg0)
          ∧ r.2.mem ((c.tc : Thread Cert.InADwRefIdeal.nD Cert.InADwRefIdeal.τ).loc Cert.InADwRefIdeal.main_arg1) = m' ((c.tc : Thread Cert.InADwRefIdeal.nD Cert.InADwRefIdeal.τ).loc Cert.InADwRefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v2)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v2) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v0) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_InBDx_InBDxIdeal : Prop :=
  True

def algebraic_InBDxIdeal_InBDxRefIdeal [hInBDxIdeal : Cert.InBDxIdeal.Facts] [hInBDxRefIdeal : Cert.InBDxRefIdeal.Facts] : Prop :=
  ∀ (m : (ℓ : Loc Cert.InBDxIdeal.nD Cert.InBDxIdeal.τ Cert.InBDxIdeal.sig) → Buf (Elt Ideal) ℓ) (g : Dev Cert.InBDxIdeal.nD → PrngReg)
    (m' : (ℓ : Loc Cert.InBDxRefIdeal.nD Cert.InBDxRefIdeal.τ Cert.InBDxRefIdeal.sig) → Buf (Elt Ideal) ℓ) (g' : Dev Cert.InBDxRefIdeal.nD → PrngReg), Pre_InBDxIdeal m →
    (∀ c : Dev Cert.InBDxIdeal.nD,
      m' ((c.tc : Thread Cert.InBDxRefIdeal.nD Cert.InBDxRefIdeal.τ).loc Cert.InBDxRefIdeal.main_arg0) = m ((c.tc : Thread Cert.InBDxIdeal.nD Cert.InBDxIdeal.τ).loc Cert.InBDxIdeal.main_arg0)
      ∧ m' ((c.tc : Thread Cert.InBDxRefIdeal.nD Cert.InBDxRefIdeal.τ).loc Cert.InBDxRefIdeal.main_arg1) = m ((c.tc : Thread Cert.InBDxIdeal.nD Cert.InBDxIdeal.τ).loc Cert.InBDxIdeal.main_arg1)) →
    ∃ (v0 : (c : Dev Cert.InBDxIdeal.nD) → Buf (Elt Ideal) ((c.tc : Thread Cert.InBDxIdeal.nD Cert.InBDxIdeal.τ).loc Cert.InBDxIdeal.main_v2)),
      θ_run (Cert.InBDxIdeal.defs (F := Ideal)) (onTc (τ := Cert.InBDxIdeal.τ) (Cert.InBDxIdeal.main (F := Ideal))) ⟨m, fun _ => 0, g⟩ (fun r => ∀ c : Dev Cert.InBDxIdeal.nD,
          r.2.mem ((c.tc : Thread Cert.InBDxIdeal.nD Cert.InBDxIdeal.τ).loc Cert.InBDxIdeal.main_v2) = v0 c
          ∧ r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
          ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1))
      ∧ θ_run (Cert.InBDxRefIdeal.defs (F := Ideal)) (onTc (τ := Cert.InBDxRefIdeal.τ) (Cert.InBDxRefIdeal.main (F := Ideal))) ⟨m', fun _ => 0, g'⟩ (fun r => ∀ c : Dev Cert.InBDxRefIdeal.nD,
          r.2.mem ((c.tc : Thread Cert.InBDxRefIdeal.nD Cert.InBDxRefIdeal.τ).loc Cert.InBDxRefIdeal.main_v0) = v0 c
          ∧ r.2.mem ((c.tc : Thread Cert.InBDxRefIdeal.nD Cert.InBDxRefIdeal.τ).loc Cert.InBDxRefIdeal.main_arg0) = m' ((c.tc : Thread Cert.InBDxRefIdeal.nD Cert.InBDxRefIdeal.τ).loc Cert.InBDxRefIdeal.main_arg0)
          ∧ r.2.mem ((c.tc : Thread Cert.InBDxRefIdeal.nD Cert.InBDxRefIdeal.τ).loc Cert.InBDxRefIdeal.main_arg1) = m' ((c.tc : Thread Cert.InBDxRefIdeal.nD Cert.InBDxRefIdeal.τ).loc Cert.InBDxRefIdeal.main_arg1))

def preserves_InBDw_InBDwIdeal : Prop :=
  True

def algebraic_InBDwIdeal_InBDwRefIdeal [hInBDwIdeal : Cert.InBDwIdeal.Facts] [hInBDwRefIdeal : Cert.InBDwRefIdeal.Facts] : Prop :=
  ∀ (m : (ℓ : Loc Cert.InBDwIdeal.nD Cert.InBDwIdeal.τ Cert.InBDwIdeal.sig) → Buf (Elt Ideal) ℓ) (g : Dev Cert.InBDwIdeal.nD → PrngReg)
    (m' : (ℓ : Loc Cert.InBDwRefIdeal.nD Cert.InBDwRefIdeal.τ Cert.InBDwRefIdeal.sig) → Buf (Elt Ideal) ℓ) (g' : Dev Cert.InBDwRefIdeal.nD → PrngReg), Pre_InBDwIdeal m →
    (∀ c : Dev Cert.InBDwIdeal.nD,
      m' ((c.tc : Thread Cert.InBDwRefIdeal.nD Cert.InBDwRefIdeal.τ).loc Cert.InBDwRefIdeal.main_arg0) = m ((c.tc : Thread Cert.InBDwIdeal.nD Cert.InBDwIdeal.τ).loc Cert.InBDwIdeal.main_arg0)
      ∧ m' ((c.tc : Thread Cert.InBDwRefIdeal.nD Cert.InBDwRefIdeal.τ).loc Cert.InBDwRefIdeal.main_arg1) = m ((c.tc : Thread Cert.InBDwIdeal.nD Cert.InBDwIdeal.τ).loc Cert.InBDwIdeal.main_arg1)) →
    ∃ (v0 : (c : Dev Cert.InBDwIdeal.nD) → Buf (Elt Ideal) ((c.tc : Thread Cert.InBDwIdeal.nD Cert.InBDwIdeal.τ).loc Cert.InBDwIdeal.main_v2)),
      θ_run (Cert.InBDwIdeal.defs (F := Ideal)) (onTc (τ := Cert.InBDwIdeal.τ) (Cert.InBDwIdeal.main (F := Ideal))) ⟨m, fun _ => 0, g⟩ (fun r => ∀ c : Dev Cert.InBDwIdeal.nD,
          r.2.mem ((c.tc : Thread Cert.InBDwIdeal.nD Cert.InBDwIdeal.τ).loc Cert.InBDwIdeal.main_v2) = v0 c
          ∧ r.2.mem ((c.tc : Thread Cert.InBDwIdeal.nD Cert.InBDwIdeal.τ).loc Cert.InBDwIdeal.main_arg0) = m ((c.tc : Thread Cert.InBDwIdeal.nD Cert.InBDwIdeal.τ).loc Cert.InBDwIdeal.main_arg0)
          ∧ r.2.mem ((c.tc : Thread Cert.InBDwIdeal.nD Cert.InBDwIdeal.τ).loc Cert.InBDwIdeal.main_arg1) = m ((c.tc : Thread Cert.InBDwIdeal.nD Cert.InBDwIdeal.τ).loc Cert.InBDwIdeal.main_arg1))
      ∧ θ_run (Cert.InBDwRefIdeal.defs (F := Ideal)) (onTc (τ := Cert.InBDwRefIdeal.τ) (Cert.InBDwRefIdeal.main (F := Ideal))) ⟨m', fun _ => 0, g'⟩ (fun r => ∀ c : Dev Cert.InBDwRefIdeal.nD,
          r.2.mem ((c.tc : Thread Cert.InBDwRefIdeal.nD Cert.InBDwRefIdeal.τ).loc Cert.InBDwRefIdeal.main_v2) = v0 c
          ∧ r.2.mem ((c.tc : Thread Cert.InBDwRefIdeal.nD Cert.InBDwRefIdeal.τ).loc Cert.InBDwRefIdeal.main_arg0) = m' ((c.tc : Thread Cert.InBDwRefIdeal.nD Cert.InBDwRefIdeal.τ).loc Cert.InBDwRefIdeal.main_arg0)
          ∧ r.2.mem ((c.tc : Thread Cert.InBDwRefIdeal.nD Cert.InBDwRefIdeal.τ).loc Cert.InBDwRefIdeal.main_arg1) = m' ((c.tc : Thread Cert.InBDwRefIdeal.nD Cert.InBDwRefIdeal.τ).loc Cert.InBDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v0) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Qb_QbIdeal : Prop :=
  True

def algebraic_QbIdeal_QbRefIdeal [hQbIdeal : Cert.QbIdeal.Facts] [hQbRefIdeal : Cert.QbRefIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)) →
    ∃ (v0 : (c : Dev Cert.QbIdeal.nD) → Buf (Elt Ideal) ((c.tc : Thread Cert.QbIdeal.nD Cert.QbIdeal.τ).loc Cert.QbIdeal.main_v2)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v2) = v0 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v0) = v0 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1))

def preserves_QbDx_QbDxIdeal : Prop :=
  True

def algebraic_QbDxIdeal_QbDxRefIdeal [hQbDxIdeal : Cert.QbDxIdeal.Facts] [hQbDxRefIdeal : Cert.QbDxRefIdeal.Facts] : Prop :=
  ∀ (m : (ℓ : Loc Cert.QbDxIdeal.nD Cert.QbDxIdeal.τ Cert.QbDxIdeal.sig) → Buf (Elt Ideal) ℓ) (g : Dev Cert.QbDxIdeal.nD → PrngReg)
    (m' : (ℓ : Loc Cert.QbDxRefIdeal.nD Cert.QbDxRefIdeal.τ Cert.QbDxRefIdeal.sig) → Buf (Elt Ideal) ℓ) (g' : Dev Cert.QbDxRefIdeal.nD → PrngReg), Pre_QbDxIdeal m →
    (∀ c : Dev Cert.QbDxIdeal.nD,
      m' ((c.tc : Thread Cert.QbDxRefIdeal.nD Cert.QbDxRefIdeal.τ).loc Cert.QbDxRefIdeal.main_arg0) = m ((c.tc : Thread Cert.QbDxIdeal.nD Cert.QbDxIdeal.τ).loc Cert.QbDxIdeal.main_arg0)
      ∧ m' ((c.tc : Thread Cert.QbDxRefIdeal.nD Cert.QbDxRefIdeal.τ).loc Cert.QbDxRefIdeal.main_arg1) = m ((c.tc : Thread Cert.QbDxIdeal.nD Cert.QbDxIdeal.τ).loc Cert.QbDxIdeal.main_arg1)) →
    ∃ (v0 : (c : Dev Cert.QbDxIdeal.nD) → Buf (Elt Ideal) ((c.tc : Thread Cert.QbDxIdeal.nD Cert.QbDxIdeal.τ).loc Cert.QbDxIdeal.main_v2)),
      θ_run (Cert.QbDxIdeal.defs (F := Ideal)) (onTc (τ := Cert.QbDxIdeal.τ) (Cert.QbDxIdeal.main (F := Ideal))) ⟨m, fun _ => 0, g⟩ (fun r => ∀ c : Dev Cert.QbDxIdeal.nD,
          r.2.mem ((c.tc : Thread Cert.QbDxIdeal.nD Cert.QbDxIdeal.τ).loc Cert.QbDxIdeal.main_v2) = v0 c
          ∧ r.2.mem ((c.tc : Thread Cert.QbDxIdeal.nD Cert.QbDxIdeal.τ).loc Cert.QbDxIdeal.main_arg0) = m ((c.tc : Thread Cert.QbDxIdeal.nD Cert.QbDxIdeal.τ).loc Cert.QbDxIdeal.main_arg0)
          ∧ r.2.mem ((c.tc : Thread Cert.QbDxIdeal.nD Cert.QbDxIdeal.τ).loc Cert.QbDxIdeal.main_arg1) = m ((c.tc : Thread Cert.QbDxIdeal.nD Cert.QbDxIdeal.τ).loc Cert.QbDxIdeal.main_arg1))
      ∧ θ_run (Cert.QbDxRefIdeal.defs (F := Ideal)) (onTc (τ := Cert.QbDxRefIdeal.τ) (Cert.QbDxRefIdeal.main (F := Ideal))) ⟨m', fun _ => 0, g'⟩ (fun r => ∀ c : Dev Cert.QbDxRefIdeal.nD,
          r.2.mem ((c.tc : Thread Cert.QbDxRefIdeal.nD Cert.QbDxRefIdeal.τ).loc Cert.QbDxRefIdeal.main_v0) = v0 c
          ∧ r.2.mem ((c.tc : Thread Cert.QbDxRefIdeal.nD Cert.QbDxRefIdeal.τ).loc Cert.QbDxRefIdeal.main_arg0) = m' ((c.tc : Thread Cert.QbDxRefIdeal.nD Cert.QbDxRefIdeal.τ).loc Cert.QbDxRefIdeal.main_arg0)
          ∧ r.2.mem ((c.tc : Thread Cert.QbDxRefIdeal.nD Cert.QbDxRefIdeal.τ).loc Cert.QbDxRefIdeal.main_arg1) = m' ((c.tc : Thread Cert.QbDxRefIdeal.nD Cert.QbDxRefIdeal.τ).loc Cert.QbDxRefIdeal.main_arg1))

def preserves_QbDw_QbDwIdeal : Prop :=
  True

def algebraic_QbDwIdeal_QbDwRefIdeal [hQbDwIdeal : Cert.QbDwIdeal.Facts] [hQbDwRefIdeal : Cert.QbDwRefIdeal.Facts] : Prop :=
  ∀ (m : (ℓ : Loc Cert.QbDwIdeal.nD Cert.QbDwIdeal.τ Cert.QbDwIdeal.sig) → Buf (Elt Ideal) ℓ) (g : Dev Cert.QbDwIdeal.nD → PrngReg)
    (m' : (ℓ : Loc Cert.QbDwRefIdeal.nD Cert.QbDwRefIdeal.τ Cert.QbDwRefIdeal.sig) → Buf (Elt Ideal) ℓ) (g' : Dev Cert.QbDwRefIdeal.nD → PrngReg), Pre_QbDwIdeal m →
    (∀ c : Dev Cert.QbDwIdeal.nD,
      m' ((c.tc : Thread Cert.QbDwRefIdeal.nD Cert.QbDwRefIdeal.τ).loc Cert.QbDwRefIdeal.main_arg0) = m ((c.tc : Thread Cert.QbDwIdeal.nD Cert.QbDwIdeal.τ).loc Cert.QbDwIdeal.main_arg0)
      ∧ m' ((c.tc : Thread Cert.QbDwRefIdeal.nD Cert.QbDwRefIdeal.τ).loc Cert.QbDwRefIdeal.main_arg1) = m ((c.tc : Thread Cert.QbDwIdeal.nD Cert.QbDwIdeal.τ).loc Cert.QbDwIdeal.main_arg1)) →
    ∃ (v0 : (c : Dev Cert.QbDwIdeal.nD) → Buf (Elt Ideal) ((c.tc : Thread Cert.QbDwIdeal.nD Cert.QbDwIdeal.τ).loc Cert.QbDwIdeal.main_v2)),
      θ_run (Cert.QbDwIdeal.defs (F := Ideal)) (onTc (τ := Cert.QbDwIdeal.τ) (Cert.QbDwIdeal.main (F := Ideal))) ⟨m, fun _ => 0, g⟩ (fun r => ∀ c : Dev Cert.QbDwIdeal.nD,
          r.2.mem ((c.tc : Thread Cert.QbDwIdeal.nD Cert.QbDwIdeal.τ).loc Cert.QbDwIdeal.main_v2) = v0 c
          ∧ r.2.mem ((c.tc : Thread Cert.QbDwIdeal.nD Cert.QbDwIdeal.τ).loc Cert.QbDwIdeal.main_arg0) = m ((c.tc : Thread Cert.QbDwIdeal.nD Cert.QbDwIdeal.τ).loc Cert.QbDwIdeal.main_arg0)
          ∧ r.2.mem ((c.tc : Thread Cert.QbDwIdeal.nD Cert.QbDwIdeal.τ).loc Cert.QbDwIdeal.main_arg1) = m ((c.tc : Thread Cert.QbDwIdeal.nD Cert.QbDwIdeal.τ).loc Cert.QbDwIdeal.main_arg1))
      ∧ θ_run (Cert.QbDwRefIdeal.defs (F := Ideal)) (onTc (τ := Cert.QbDwRefIdeal.τ) (Cert.QbDwRefIdeal.main (F := Ideal))) ⟨m', fun _ => 0, g'⟩ (fun r => ∀ c : Dev Cert.QbDwRefIdeal.nD,
          r.2.mem ((c.tc : Thread Cert.QbDwRefIdeal.nD Cert.QbDwRefIdeal.τ).loc Cert.QbDwRefIdeal.main_v2) = v0 c
          ∧ r.2.mem ((c.tc : Thread Cert.QbDwRefIdeal.nD Cert.QbDwRefIdeal.τ).loc Cert.QbDwRefIdeal.main_arg0) = m' ((c.tc : Thread Cert.QbDwRefIdeal.nD Cert.QbDwRefIdeal.τ).loc Cert.QbDwRefIdeal.main_arg0)
          ∧ r.2.mem ((c.tc : Thread Cert.QbDwRefIdeal.nD Cert.QbDwRefIdeal.τ).loc Cert.QbDwRefIdeal.main_arg1) = m' ((c.tc : Thread Cert.QbDwRefIdeal.nD Cert.QbDwRefIdeal.τ).loc Cert.QbDwRefIdeal.main_arg1))

def preserves_Kvb_KvbIdeal : Prop :=
  True

def algebraic_KvbIdeal_KvbRefIdeal [hKvbIdeal : Cert.KvbIdeal.Facts] [hKvbRefIdeal : Cert.KvbRefIdeal.Facts] : Prop :=
  ∀ (m : (ℓ : Loc Cert.KvbIdeal.nD Cert.KvbIdeal.τ Cert.KvbIdeal.sig) → Buf (Elt Ideal) ℓ) (g : Dev Cert.KvbIdeal.nD → PrngReg)
    (m' : (ℓ : Loc Cert.KvbRefIdeal.nD Cert.KvbRefIdeal.τ Cert.KvbRefIdeal.sig) → Buf (Elt Ideal) ℓ) (g' : Dev Cert.KvbRefIdeal.nD → PrngReg), Pre_KvbIdeal m →
    (∀ c : Dev Cert.KvbIdeal.nD,
      m' ((c.tc : Thread Cert.KvbRefIdeal.nD Cert.KvbRefIdeal.τ).loc Cert.KvbRefIdeal.main_arg0) = m ((c.tc : Thread Cert.KvbIdeal.nD Cert.KvbIdeal.τ).loc Cert.KvbIdeal.main_arg0)
      ∧ m' ((c.tc : Thread Cert.KvbRefIdeal.nD Cert.KvbRefIdeal.τ).loc Cert.KvbRefIdeal.main_arg1) = m ((c.tc : Thread Cert.KvbIdeal.nD Cert.KvbIdeal.τ).loc Cert.KvbIdeal.main_arg1)) →
    ∃ (v0 : (c : Dev Cert.KvbIdeal.nD) → Buf (Elt Ideal) ((c.tc : Thread Cert.KvbIdeal.nD Cert.KvbIdeal.τ).loc Cert.KvbIdeal.main_v2)),
      θ_run (Cert.KvbIdeal.defs (F := Ideal)) (onTc (τ := Cert.KvbIdeal.τ) (Cert.KvbIdeal.main (F := Ideal))) ⟨m, fun _ => 0, g⟩ (fun r => ∀ c : Dev Cert.KvbIdeal.nD,
          r.2.mem ((c.tc : Thread Cert.KvbIdeal.nD Cert.KvbIdeal.τ).loc Cert.KvbIdeal.main_v2) = v0 c
          ∧ r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
          ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ θ_run (Cert.KvbRefIdeal.defs (F := Ideal)) (onTc (τ := Cert.KvbRefIdeal.τ) (Cert.KvbRefIdeal.main (F := Ideal))) ⟨m', fun _ => 0, g'⟩ (fun r => ∀ c : Dev Cert.KvbRefIdeal.nD,
          r.2.mem ((c.tc : Thread Cert.KvbRefIdeal.nD Cert.KvbRefIdeal.τ).loc Cert.KvbRefIdeal.main_v1) = v0 c
          ∧ r.2.mem ((c.tc : Thread Cert.KvbRefIdeal.nD Cert.KvbRefIdeal.τ).loc Cert.KvbRefIdeal.main_arg0) = m' ((c.tc : Thread Cert.KvbRefIdeal.nD Cert.KvbRefIdeal.τ).loc Cert.KvbRefIdeal.main_arg0)
          ∧ r.2.mem ((c.tc : Thread Cert.KvbRefIdeal.nD Cert.KvbRefIdeal.τ).loc Cert.KvbRefIdeal.main_arg1) = m' ((c.tc : Thread Cert.KvbRefIdeal.nD Cert.KvbRefIdeal.τ).loc Cert.KvbRefIdeal.main_arg1))

def preserves_KvbDx_KvbDxIdeal : Prop :=
  True

def algebraic_KvbDxIdeal_KvbDxRefIdeal [hKvbDxIdeal : Cert.KvbDxIdeal.Facts] [hKvbDxRefIdeal : Cert.KvbDxRefIdeal.Facts] : Prop :=
  ∀ (m : (ℓ : Loc Cert.KvbDxIdeal.nD Cert.KvbDxIdeal.τ Cert.KvbDxIdeal.sig) → Buf (Elt Ideal) ℓ) (g : Dev Cert.KvbDxIdeal.nD → PrngReg)
    (m' : (ℓ : Loc Cert.KvbDxRefIdeal.nD Cert.KvbDxRefIdeal.τ Cert.KvbDxRefIdeal.sig) → Buf (Elt Ideal) ℓ) (g' : Dev Cert.KvbDxRefIdeal.nD → PrngReg), Pre_KvbDxIdeal m →
    (∀ c : Dev Cert.KvbDxIdeal.nD,
      m' ((c.tc : Thread Cert.KvbDxRefIdeal.nD Cert.KvbDxRefIdeal.τ).loc Cert.KvbDxRefIdeal.main_arg0) = m ((c.tc : Thread Cert.KvbDxIdeal.nD Cert.KvbDxIdeal.τ).loc Cert.KvbDxIdeal.main_arg0)
      ∧ m' ((c.tc : Thread Cert.KvbDxRefIdeal.nD Cert.KvbDxRefIdeal.τ).loc Cert.KvbDxRefIdeal.main_arg1) = m ((c.tc : Thread Cert.KvbDxIdeal.nD Cert.KvbDxIdeal.τ).loc Cert.KvbDxIdeal.main_arg1)) →
    ∃ (v0 : (c : Dev Cert.KvbDxIdeal.nD) → Buf (Elt Ideal) ((c.tc : Thread Cert.KvbDxIdeal.nD Cert.KvbDxIdeal.τ).loc Cert.KvbDxIdeal.main_v2)),
      θ_run (Cert.KvbDxIdeal.defs (F := Ideal)) (onTc (τ := Cert.KvbDxIdeal.τ) (Cert.KvbDxIdeal.main (F := Ideal))) ⟨m, fun _ => 0, g⟩ (fun r => ∀ c : Dev Cert.KvbDxIdeal.nD,
          r.2.mem ((c.tc : Thread Cert.KvbDxIdeal.nD Cert.KvbDxIdeal.τ).loc Cert.KvbDxIdeal.main_v2) = v0 c
          ∧ r.2.mem ((c.tc : Thread Cert.KvbDxIdeal.nD Cert.KvbDxIdeal.τ).loc Cert.KvbDxIdeal.main_arg0) = m ((c.tc : Thread Cert.KvbDxIdeal.nD Cert.KvbDxIdeal.τ).loc Cert.KvbDxIdeal.main_arg0)
          ∧ r.2.mem ((c.tc : Thread Cert.KvbDxIdeal.nD Cert.KvbDxIdeal.τ).loc Cert.KvbDxIdeal.main_arg1) = m ((c.tc : Thread Cert.KvbDxIdeal.nD Cert.KvbDxIdeal.τ).loc Cert.KvbDxIdeal.main_arg1))
      ∧ θ_run (Cert.KvbDxRefIdeal.defs (F := Ideal)) (onTc (τ := Cert.KvbDxRefIdeal.τ) (Cert.KvbDxRefIdeal.main (F := Ideal))) ⟨m', fun _ => 0, g'⟩ (fun r => ∀ c : Dev Cert.KvbDxRefIdeal.nD,
          r.2.mem ((c.tc : Thread Cert.KvbDxRefIdeal.nD Cert.KvbDxRefIdeal.τ).loc Cert.KvbDxRefIdeal.main_v0) = v0 c
          ∧ r.2.mem ((c.tc : Thread Cert.KvbDxRefIdeal.nD Cert.KvbDxRefIdeal.τ).loc Cert.KvbDxRefIdeal.main_arg0) = m' ((c.tc : Thread Cert.KvbDxRefIdeal.nD Cert.KvbDxRefIdeal.τ).loc Cert.KvbDxRefIdeal.main_arg0)
          ∧ r.2.mem ((c.tc : Thread Cert.KvbDxRefIdeal.nD Cert.KvbDxRefIdeal.τ).loc Cert.KvbDxRefIdeal.main_arg1) = m' ((c.tc : Thread Cert.KvbDxRefIdeal.nD Cert.KvbDxRefIdeal.τ).loc Cert.KvbDxRefIdeal.main_arg1))

def preserves_KvbDw_KvbDwIdeal : Prop :=
  True

def algebraic_KvbDwIdeal_KvbDwRefIdeal [hKvbDwIdeal : Cert.KvbDwIdeal.Facts] [hKvbDwRefIdeal : Cert.KvbDwRefIdeal.Facts] : Prop :=
  ∀ (m : (ℓ : Loc Cert.KvbDwIdeal.nD Cert.KvbDwIdeal.τ Cert.KvbDwIdeal.sig) → Buf (Elt Ideal) ℓ) (g : Dev Cert.KvbDwIdeal.nD → PrngReg)
    (m' : (ℓ : Loc Cert.KvbDwRefIdeal.nD Cert.KvbDwRefIdeal.τ Cert.KvbDwRefIdeal.sig) → Buf (Elt Ideal) ℓ) (g' : Dev Cert.KvbDwRefIdeal.nD → PrngReg), Pre_KvbDwIdeal m →
    (∀ c : Dev Cert.KvbDwIdeal.nD,
      m' ((c.tc : Thread Cert.KvbDwRefIdeal.nD Cert.KvbDwRefIdeal.τ).loc Cert.KvbDwRefIdeal.main_arg0) = m ((c.tc : Thread Cert.KvbDwIdeal.nD Cert.KvbDwIdeal.τ).loc Cert.KvbDwIdeal.main_arg0)
      ∧ m' ((c.tc : Thread Cert.KvbDwRefIdeal.nD Cert.KvbDwRefIdeal.τ).loc Cert.KvbDwRefIdeal.main_arg1) = m ((c.tc : Thread Cert.KvbDwIdeal.nD Cert.KvbDwIdeal.τ).loc Cert.KvbDwIdeal.main_arg1)) →
    ∃ (v0 : (c : Dev Cert.KvbDwIdeal.nD) → Buf (Elt Ideal) ((c.tc : Thread Cert.KvbDwIdeal.nD Cert.KvbDwIdeal.τ).loc Cert.KvbDwIdeal.main_v2)),
      θ_run (Cert.KvbDwIdeal.defs (F := Ideal)) (onTc (τ := Cert.KvbDwIdeal.τ) (Cert.KvbDwIdeal.main (F := Ideal))) ⟨m, fun _ => 0, g⟩ (fun r => ∀ c : Dev Cert.KvbDwIdeal.nD,
          r.2.mem ((c.tc : Thread Cert.KvbDwIdeal.nD Cert.KvbDwIdeal.τ).loc Cert.KvbDwIdeal.main_v2) = v0 c
          ∧ r.2.mem ((c.tc : Thread Cert.KvbDwIdeal.nD Cert.KvbDwIdeal.τ).loc Cert.KvbDwIdeal.main_arg0) = m ((c.tc : Thread Cert.KvbDwIdeal.nD Cert.KvbDwIdeal.τ).loc Cert.KvbDwIdeal.main_arg0)
          ∧ r.2.mem ((c.tc : Thread Cert.KvbDwIdeal.nD Cert.KvbDwIdeal.τ).loc Cert.KvbDwIdeal.main_arg1) = m ((c.tc : Thread Cert.KvbDwIdeal.nD Cert.KvbDwIdeal.τ).loc Cert.KvbDwIdeal.main_arg1))
      ∧ θ_run (Cert.KvbDwRefIdeal.defs (F := Ideal)) (onTc (τ := Cert.KvbDwRefIdeal.τ) (Cert.KvbDwRefIdeal.main (F := Ideal))) ⟨m', fun _ => 0, g'⟩ (fun r => ∀ c : Dev Cert.KvbDwRefIdeal.nD,
          r.2.mem ((c.tc : Thread Cert.KvbDwRefIdeal.nD Cert.KvbDwRefIdeal.τ).loc Cert.KvbDwRefIdeal.main_v2) = v0 c
          ∧ r.2.mem ((c.tc : Thread Cert.KvbDwRefIdeal.nD Cert.KvbDwRefIdeal.τ).loc Cert.KvbDwRefIdeal.main_arg0) = m' ((c.tc : Thread Cert.KvbDwRefIdeal.nD Cert.KvbDwRefIdeal.τ).loc Cert.KvbDwRefIdeal.main_arg0)
          ∧ r.2.mem ((c.tc : Thread Cert.KvbDwRefIdeal.nD Cert.KvbDwRefIdeal.τ).loc Cert.KvbDwRefIdeal.main_arg1) = m' ((c.tc : Thread Cert.KvbDwRefIdeal.nD Cert.KvbDwRefIdeal.τ).loc Cert.KvbDwRefIdeal.main_arg1))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v1) = v0 c
          ∧ r.2.mem ((c.tc : Thread Cert.StepUpRefIdeal.nD Cert.StepUpRefIdeal.τ).loc Cert.StepUpRefIdeal.main_v25) = v1 c
          ∧ r.2.mem ((c.tc : Thread Cert.StepUpRefIdeal.nD Cert.StepUpRefIdeal.τ).loc Cert.StepUpRefIdeal.main_v6) = v2 c
          ∧ r.2.mem ((c.tc : Thread Cert.StepUpRefIdeal.nD Cert.StepUpRefIdeal.τ).loc Cert.StepUpRefIdeal.main_v12) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v1) = v0 c
          ∧ r.2.mem ((c.tc : Thread Cert.StepDownRefIdeal.nD Cert.StepDownRefIdeal.τ).loc Cert.StepDownRefIdeal.main_v25) = v1 c
          ∧ r.2.mem ((c.tc : Thread Cert.StepDownRefIdeal.nD Cert.StepDownRefIdeal.τ).loc Cert.StepDownRefIdeal.main_v6) = v2 c
          ∧ r.2.mem ((c.tc : Thread Cert.StepDownRefIdeal.nD Cert.StepDownRefIdeal.τ).loc Cert.StepDownRefIdeal.main_v12) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3))

def preserves_StepInA_StepInAIdeal : Prop :=
  True

def algebraic_StepInAIdeal_StepInARefIdeal [hStepInAIdeal : Cert.StepInAIdeal.Facts] [hStepInARefIdeal : Cert.StepInARefIdeal.Facts] : Prop :=
  ∀ (m : (ℓ : Loc Cert.StepInAIdeal.nD Cert.StepInAIdeal.τ Cert.StepInAIdeal.sig) → Buf (Elt Ideal) ℓ) (g : Dev Cert.StepInAIdeal.nD → PrngReg)
    (m' : (ℓ : Loc Cert.StepInARefIdeal.nD Cert.StepInARefIdeal.τ Cert.StepInARefIdeal.sig) → Buf (Elt Ideal) ℓ) (g' : Dev Cert.StepInARefIdeal.nD → PrngReg), Pre_StepInAIdeal m →
    (∀ c : Dev Cert.StepInAIdeal.nD,
      m' ((c.tc : Thread Cert.StepInARefIdeal.nD Cert.StepInARefIdeal.τ).loc Cert.StepInARefIdeal.main_arg0) = m ((c.tc : Thread Cert.StepInAIdeal.nD Cert.StepInAIdeal.τ).loc Cert.StepInAIdeal.main_arg0)
      ∧ m' ((c.tc : Thread Cert.StepInARefIdeal.nD Cert.StepInARefIdeal.τ).loc Cert.StepInARefIdeal.main_arg1) = m ((c.tc : Thread Cert.StepInAIdeal.nD Cert.StepInAIdeal.τ).loc Cert.StepInAIdeal.main_arg1)
      ∧ m' ((c.tc : Thread Cert.StepInARefIdeal.nD Cert.StepInARefIdeal.τ).loc Cert.StepInARefIdeal.main_arg2) = m ((c.tc : Thread Cert.StepInAIdeal.nD Cert.StepInAIdeal.τ).loc Cert.StepInAIdeal.main_arg2)
      ∧ m' ((c.tc : Thread Cert.StepInARefIdeal.nD Cert.StepInARefIdeal.τ).loc Cert.StepInARefIdeal.main_arg3) = m ((c.tc : Thread Cert.StepInAIdeal.nD Cert.StepInAIdeal.τ).loc Cert.StepInAIdeal.main_arg3)) →
    ∃ (v0 : (c : Dev Cert.StepInAIdeal.nD) → Buf (Elt Ideal) ((c.tc : Thread Cert.StepInAIdeal.nD Cert.StepInAIdeal.τ).loc Cert.StepInAIdeal.main_v0_0)) (v1 : (c : Dev Cert.StepInAIdeal.nD) → Buf (Elt Ideal) ((c.tc : Thread Cert.StepInAIdeal.nD Cert.StepInAIdeal.τ).loc Cert.StepInAIdeal.main_v0_1)) (v2 : (c : Dev Cert.StepInAIdeal.nD) → Buf (Elt Ideal) ((c.tc : Thread Cert.StepInAIdeal.nD Cert.StepInAIdeal.τ).loc Cert.StepInAIdeal.main_v0_2)) (v3 : (c : Dev Cert.StepInAIdeal.nD) → Buf (Elt Ideal) ((c.tc : Thread Cert.StepInAIdeal.nD Cert.StepInAIdeal.τ).loc Cert.StepInAIdeal.main_v0_3)),
      θ_run (Cert.StepInAIdeal.defs (F := Ideal)) (onTc (τ := Cert.StepInAIdeal.τ) (Cert.StepInAIdeal.main (F := Ideal))) ⟨m, fun _ => 0, g⟩ (fun r => ∀ c : Dev Cert.StepInAIdeal.nD,
          r.2.mem ((c.tc : Thread Cert.StepInAIdeal.nD Cert.StepInAIdeal.τ).loc Cert.StepInAIdeal.main_v0_0) = v0 c
          ∧ r.2.mem ((c.tc : Thread Cert.StepInAIdeal.nD Cert.StepInAIdeal.τ).loc Cert.StepInAIdeal.main_v0_1) = v1 c
          ∧ r.2.mem ((c.tc : Thread Cert.StepInAIdeal.nD Cert.StepInAIdeal.τ).loc Cert.StepInAIdeal.main_v0_2) = v2 c
          ∧ r.2.mem ((c.tc : Thread Cert.StepInAIdeal.nD Cert.StepInAIdeal.τ).loc Cert.StepInAIdeal.main_v0_3) = v3 c
          ∧ r.2.mem ((c.tc : Thread Cert.StepInAIdeal.nD Cert.StepInAIdeal.τ).loc Cert.StepInAIdeal.main_arg0) = m ((c.tc : Thread Cert.StepInAIdeal.nD Cert.StepInAIdeal.τ).loc Cert.StepInAIdeal.main_arg0)
          ∧ r.2.mem ((c.tc : Thread Cert.StepInAIdeal.nD Cert.StepInAIdeal.τ).loc Cert.StepInAIdeal.main_arg1) = m ((c.tc : Thread Cert.StepInAIdeal.nD Cert.StepInAIdeal.τ).loc Cert.StepInAIdeal.main_arg1)
          ∧ r.2.mem ((c.tc : Thread Cert.StepInAIdeal.nD Cert.StepInAIdeal.τ).loc Cert.StepInAIdeal.main_arg2) = m ((c.tc : Thread Cert.StepInAIdeal.nD Cert.StepInAIdeal.τ).loc Cert.StepInAIdeal.main_arg2)
          ∧ r.2.mem ((c.tc : Thread Cert.StepInAIdeal.nD Cert.StepInAIdeal.τ).loc Cert.StepInAIdeal.main_arg3) = m ((c.tc : Thread Cert.StepInAIdeal.nD Cert.StepInAIdeal.τ).loc Cert.StepInAIdeal.main_arg3))
      ∧ θ_run (Cert.StepInARefIdeal.defs (F := Ideal)) (onTc (τ := Cert.StepInARefIdeal.τ) (Cert.StepInARefIdeal.main (F := Ideal))) ⟨m', fun _ => 0, g'⟩ (fun r => ∀ c : Dev Cert.StepInARefIdeal.nD,
          r.2.mem ((c.tc : Thread Cert.StepInARefIdeal.nD Cert.StepInARefIdeal.τ).loc Cert.StepInARefIdeal.main_v1) = v0 c
          ∧ r.2.mem ((c.tc : Thread Cert.StepInARefIdeal.nD Cert.StepInARefIdeal.τ).loc Cert.StepInARefIdeal.main_v25) = v1 c
          ∧ r.2.mem ((c.tc : Thread Cert.StepInARefIdeal.nD Cert.StepInARefIdeal.τ).loc Cert.StepInARefIdeal.main_v6) = v2 c
          ∧ r.2.mem ((c.tc : Thread Cert.StepInARefIdeal.nD Cert.StepInARefIdeal.τ).loc Cert.StepInARefIdeal.main_v12) = v3 c
          ∧ r.2.mem ((c.tc : Thread Cert.StepInARefIdeal.nD Cert.StepInARefIdeal.τ).loc Cert.StepInARefIdeal.main_arg0) = m' ((c.tc : Thread Cert.StepInARefIdeal.nD Cert.StepInARefIdeal.τ).loc Cert.StepInARefIdeal.main_arg0)
          ∧ r.2.mem ((c.tc : Thread Cert.StepInARefIdeal.nD Cert.StepInARefIdeal.τ).loc Cert.StepInARefIdeal.main_arg1) = m' ((c.tc : Thread Cert.StepInARefIdeal.nD Cert.StepInARefIdeal.τ).loc Cert.StepInARefIdeal.main_arg1)
          ∧ r.2.mem ((c.tc : Thread Cert.StepInARefIdeal.nD Cert.StepInARefIdeal.τ).loc Cert.StepInARefIdeal.main_arg2) = m' ((c.tc : Thread Cert.StepInARefIdeal.nD Cert.StepInARefIdeal.τ).loc Cert.StepInARefIdeal.main_arg2)
          ∧ r.2.mem ((c.tc : Thread Cert.StepInARefIdeal.nD Cert.StepInARefIdeal.τ).loc Cert.StepInARefIdeal.main_arg3) = m' ((c.tc : Thread Cert.StepInARefIdeal.nD Cert.StepInARefIdeal.τ).loc Cert.StepInARefIdeal.main_arg3))

def preserves_StepInB_StepInBIdeal : Prop :=
  True

def algebraic_StepInBIdeal_StepInBRefIdeal [hStepInBIdeal : Cert.StepInBIdeal.Facts] [hStepInBRefIdeal : Cert.StepInBRefIdeal.Facts] : Prop :=
  ∀ (m : (ℓ : Loc Cert.StepInBIdeal.nD Cert.StepInBIdeal.τ Cert.StepInBIdeal.sig) → Buf (Elt Ideal) ℓ) (g : Dev Cert.StepInBIdeal.nD → PrngReg)
    (m' : (ℓ : Loc Cert.StepInBRefIdeal.nD Cert.StepInBRefIdeal.τ Cert.StepInBRefIdeal.sig) → Buf (Elt Ideal) ℓ) (g' : Dev Cert.StepInBRefIdeal.nD → PrngReg), Pre_StepInBIdeal m →
    (∀ c : Dev Cert.StepInBIdeal.nD,
      m' ((c.tc : Thread Cert.StepInBRefIdeal.nD Cert.StepInBRefIdeal.τ).loc Cert.StepInBRefIdeal.main_arg0) = m ((c.tc : Thread Cert.StepInBIdeal.nD Cert.StepInBIdeal.τ).loc Cert.StepInBIdeal.main_arg0)
      ∧ m' ((c.tc : Thread Cert.StepInBRefIdeal.nD Cert.StepInBRefIdeal.τ).loc Cert.StepInBRefIdeal.main_arg1) = m ((c.tc : Thread Cert.StepInBIdeal.nD Cert.StepInBIdeal.τ).loc Cert.StepInBIdeal.main_arg1)
      ∧ m' ((c.tc : Thread Cert.StepInBRefIdeal.nD Cert.StepInBRefIdeal.τ).loc Cert.StepInBRefIdeal.main_arg2) = m ((c.tc : Thread Cert.StepInBIdeal.nD Cert.StepInBIdeal.τ).loc Cert.StepInBIdeal.main_arg2)
      ∧ m' ((c.tc : Thread Cert.StepInBRefIdeal.nD Cert.StepInBRefIdeal.τ).loc Cert.StepInBRefIdeal.main_arg3) = m ((c.tc : Thread Cert.StepInBIdeal.nD Cert.StepInBIdeal.τ).loc Cert.StepInBIdeal.main_arg3)) →
    ∃ (v0 : (c : Dev Cert.StepInBIdeal.nD) → Buf (Elt Ideal) ((c.tc : Thread Cert.StepInBIdeal.nD Cert.StepInBIdeal.τ).loc Cert.StepInBIdeal.main_v0_0)) (v1 : (c : Dev Cert.StepInBIdeal.nD) → Buf (Elt Ideal) ((c.tc : Thread Cert.StepInBIdeal.nD Cert.StepInBIdeal.τ).loc Cert.StepInBIdeal.main_v0_1)) (v2 : (c : Dev Cert.StepInBIdeal.nD) → Buf (Elt Ideal) ((c.tc : Thread Cert.StepInBIdeal.nD Cert.StepInBIdeal.τ).loc Cert.StepInBIdeal.main_v0_2)) (v3 : (c : Dev Cert.StepInBIdeal.nD) → Buf (Elt Ideal) ((c.tc : Thread Cert.StepInBIdeal.nD Cert.StepInBIdeal.τ).loc Cert.StepInBIdeal.main_v0_3)),
      θ_run (Cert.StepInBIdeal.defs (F := Ideal)) (onTc (τ := Cert.StepInBIdeal.τ) (Cert.StepInBIdeal.main (F := Ideal))) ⟨m, fun _ => 0, g⟩ (fun r => ∀ c : Dev Cert.StepInBIdeal.nD,
          r.2.mem ((c.tc : Thread Cert.StepInBIdeal.nD Cert.StepInBIdeal.τ).loc Cert.StepInBIdeal.main_v0_0) = v0 c
          ∧ r.2.mem ((c.tc : Thread Cert.StepInBIdeal.nD Cert.StepInBIdeal.τ).loc Cert.StepInBIdeal.main_v0_1) = v1 c
          ∧ r.2.mem ((c.tc : Thread Cert.StepInBIdeal.nD Cert.StepInBIdeal.τ).loc Cert.StepInBIdeal.main_v0_2) = v2 c
          ∧ r.2.mem ((c.tc : Thread Cert.StepInBIdeal.nD Cert.StepInBIdeal.τ).loc Cert.StepInBIdeal.main_v0_3) = v3 c
          ∧ r.2.mem ((c.tc : Thread Cert.StepInBIdeal.nD Cert.StepInBIdeal.τ).loc Cert.StepInBIdeal.main_arg0) = m ((c.tc : Thread Cert.StepInBIdeal.nD Cert.StepInBIdeal.τ).loc Cert.StepInBIdeal.main_arg0)
          ∧ r.2.mem ((c.tc : Thread Cert.StepInBIdeal.nD Cert.StepInBIdeal.τ).loc Cert.StepInBIdeal.main_arg1) = m ((c.tc : Thread Cert.StepInBIdeal.nD Cert.StepInBIdeal.τ).loc Cert.StepInBIdeal.main_arg1)
          ∧ r.2.mem ((c.tc : Thread Cert.StepInBIdeal.nD Cert.StepInBIdeal.τ).loc Cert.StepInBIdeal.main_arg2) = m ((c.tc : Thread Cert.StepInBIdeal.nD Cert.StepInBIdeal.τ).loc Cert.StepInBIdeal.main_arg2)
          ∧ r.2.mem ((c.tc : Thread Cert.StepInBIdeal.nD Cert.StepInBIdeal.τ).loc Cert.StepInBIdeal.main_arg3) = m ((c.tc : Thread Cert.StepInBIdeal.nD Cert.StepInBIdeal.τ).loc Cert.StepInBIdeal.main_arg3))
      ∧ θ_run (Cert.StepInBRefIdeal.defs (F := Ideal)) (onTc (τ := Cert.StepInBRefIdeal.τ) (Cert.StepInBRefIdeal.main (F := Ideal))) ⟨m', fun _ => 0, g'⟩ (fun r => ∀ c : Dev Cert.StepInBRefIdeal.nD,
          r.2.mem ((c.tc : Thread Cert.StepInBRefIdeal.nD Cert.StepInBRefIdeal.τ).loc Cert.StepInBRefIdeal.main_v1) = v0 c
          ∧ r.2.mem ((c.tc : Thread Cert.StepInBRefIdeal.nD Cert.StepInBRefIdeal.τ).loc Cert.StepInBRefIdeal.main_v25) = v1 c
          ∧ r.2.mem ((c.tc : Thread Cert.StepInBRefIdeal.nD Cert.StepInBRefIdeal.τ).loc Cert.StepInBRefIdeal.main_v6) = v2 c
          ∧ r.2.mem ((c.tc : Thread Cert.StepInBRefIdeal.nD Cert.StepInBRefIdeal.τ).loc Cert.StepInBRefIdeal.main_v12) = v3 c
          ∧ r.2.mem ((c.tc : Thread Cert.StepInBRefIdeal.nD Cert.StepInBRefIdeal.τ).loc Cert.StepInBRefIdeal.main_arg0) = m' ((c.tc : Thread Cert.StepInBRefIdeal.nD Cert.StepInBRefIdeal.τ).loc Cert.StepInBRefIdeal.main_arg0)
          ∧ r.2.mem ((c.tc : Thread Cert.StepInBRefIdeal.nD Cert.StepInBRefIdeal.τ).loc Cert.StepInBRefIdeal.main_arg1) = m' ((c.tc : Thread Cert.StepInBRefIdeal.nD Cert.StepInBRefIdeal.τ).loc Cert.StepInBRefIdeal.main_arg1)
          ∧ r.2.mem ((c.tc : Thread Cert.StepInBRefIdeal.nD Cert.StepInBRefIdeal.τ).loc Cert.StepInBRefIdeal.main_arg2) = m' ((c.tc : Thread Cert.StepInBRefIdeal.nD Cert.StepInBRefIdeal.τ).loc Cert.StepInBRefIdeal.main_arg2)
          ∧ r.2.mem ((c.tc : Thread Cert.StepInBRefIdeal.nD Cert.StepInBRefIdeal.τ).loc Cert.StepInBRefIdeal.main_arg3) = m' ((c.tc : Thread Cert.StepInBRefIdeal.nD Cert.StepInBRefIdeal.τ).loc Cert.StepInBRefIdeal.main_arg3))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v1) = v0 c
          ∧ r.2.mem ((c.tc : Thread Cert.StepOutRefIdeal.nD Cert.StepOutRefIdeal.τ).loc Cert.StepOutRefIdeal.main_v25) = v1 c
          ∧ r.2.mem ((c.tc : Thread Cert.StepOutRefIdeal.nD Cert.StepOutRefIdeal.τ).loc Cert.StepOutRefIdeal.main_v6) = v2 c
          ∧ r.2.mem ((c.tc : Thread Cert.StepOutRefIdeal.nD Cert.StepOutRefIdeal.τ).loc Cert.StepOutRefIdeal.main_v12) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepQb_StepQbIdeal : Prop :=
  True

def algebraic_StepQbIdeal_StepQbRefIdeal [hStepQbIdeal : Cert.StepQbIdeal.Facts] [hStepQbRefIdeal : Cert.StepQbRefIdeal.Facts] : Prop :=
  ∀ (m : (ℓ : Loc Cert.StepQbIdeal.nD Cert.StepQbIdeal.τ Cert.StepQbIdeal.sig) → Buf (Elt Ideal) ℓ) (g : Dev Cert.StepQbIdeal.nD → PrngReg)
    (m' : (ℓ : Loc Cert.StepQbRefIdeal.nD Cert.StepQbRefIdeal.τ Cert.StepQbRefIdeal.sig) → Buf (Elt Ideal) ℓ) (g' : Dev Cert.StepQbRefIdeal.nD → PrngReg), Pre_StepQbIdeal m →
    (∀ c : Dev Cert.StepQbIdeal.nD,
      m' ((c.tc : Thread Cert.StepQbRefIdeal.nD Cert.StepQbRefIdeal.τ).loc Cert.StepQbRefIdeal.main_arg0) = m ((c.tc : Thread Cert.StepQbIdeal.nD Cert.StepQbIdeal.τ).loc Cert.StepQbIdeal.main_arg0)
      ∧ m' ((c.tc : Thread Cert.StepQbRefIdeal.nD Cert.StepQbRefIdeal.τ).loc Cert.StepQbRefIdeal.main_arg1) = m ((c.tc : Thread Cert.StepQbIdeal.nD Cert.StepQbIdeal.τ).loc Cert.StepQbIdeal.main_arg1)
      ∧ m' ((c.tc : Thread Cert.StepQbRefIdeal.nD Cert.StepQbRefIdeal.τ).loc Cert.StepQbRefIdeal.main_arg2) = m ((c.tc : Thread Cert.StepQbIdeal.nD Cert.StepQbIdeal.τ).loc Cert.StepQbIdeal.main_arg2)
      ∧ m' ((c.tc : Thread Cert.StepQbRefIdeal.nD Cert.StepQbRefIdeal.τ).loc Cert.StepQbRefIdeal.main_arg3) = m ((c.tc : Thread Cert.StepQbIdeal.nD Cert.StepQbIdeal.τ).loc Cert.StepQbIdeal.main_arg3)) →
    ∃ (v0 : (c : Dev Cert.StepQbIdeal.nD) → Buf (Elt Ideal) ((c.tc : Thread Cert.StepQbIdeal.nD Cert.StepQbIdeal.τ).loc Cert.StepQbIdeal.main_v0_0)) (v1 : (c : Dev Cert.StepQbIdeal.nD) → Buf (Elt Ideal) ((c.tc : Thread Cert.StepQbIdeal.nD Cert.StepQbIdeal.τ).loc Cert.StepQbIdeal.main_v0_1)) (v2 : (c : Dev Cert.StepQbIdeal.nD) → Buf (Elt Ideal) ((c.tc : Thread Cert.StepQbIdeal.nD Cert.StepQbIdeal.τ).loc Cert.StepQbIdeal.main_v0_2)) (v3 : (c : Dev Cert.StepQbIdeal.nD) → Buf (Elt Ideal) ((c.tc : Thread Cert.StepQbIdeal.nD Cert.StepQbIdeal.τ).loc Cert.StepQbIdeal.main_v0_3)),
      θ_run (Cert.StepQbIdeal.defs (F := Ideal)) (onTc (τ := Cert.StepQbIdeal.τ) (Cert.StepQbIdeal.main (F := Ideal))) ⟨m, fun _ => 0, g⟩ (fun r => ∀ c : Dev Cert.StepQbIdeal.nD,
          r.2.mem ((c.tc : Thread Cert.StepQbIdeal.nD Cert.StepQbIdeal.τ).loc Cert.StepQbIdeal.main_v0_0) = v0 c
          ∧ r.2.mem ((c.tc : Thread Cert.StepQbIdeal.nD Cert.StepQbIdeal.τ).loc Cert.StepQbIdeal.main_v0_1) = v1 c
          ∧ r.2.mem ((c.tc : Thread Cert.StepQbIdeal.nD Cert.StepQbIdeal.τ).loc Cert.StepQbIdeal.main_v0_2) = v2 c
          ∧ r.2.mem ((c.tc : Thread Cert.StepQbIdeal.nD Cert.StepQbIdeal.τ).loc Cert.StepQbIdeal.main_v0_3) = v3 c
          ∧ r.2.mem ((c.tc : Thread Cert.StepQbIdeal.nD Cert.StepQbIdeal.τ).loc Cert.StepQbIdeal.main_arg0) = m ((c.tc : Thread Cert.StepQbIdeal.nD Cert.StepQbIdeal.τ).loc Cert.StepQbIdeal.main_arg0)
          ∧ r.2.mem ((c.tc : Thread Cert.StepQbIdeal.nD Cert.StepQbIdeal.τ).loc Cert.StepQbIdeal.main_arg1) = m ((c.tc : Thread Cert.StepQbIdeal.nD Cert.StepQbIdeal.τ).loc Cert.StepQbIdeal.main_arg1)
          ∧ r.2.mem ((c.tc : Thread Cert.StepQbIdeal.nD Cert.StepQbIdeal.τ).loc Cert.StepQbIdeal.main_arg2) = m ((c.tc : Thread Cert.StepQbIdeal.nD Cert.StepQbIdeal.τ).loc Cert.StepQbIdeal.main_arg2)
          ∧ r.2.mem ((c.tc : Thread Cert.StepQbIdeal.nD Cert.StepQbIdeal.τ).loc Cert.StepQbIdeal.main_arg3) = m ((c.tc : Thread Cert.StepQbIdeal.nD Cert.StepQbIdeal.τ).loc Cert.StepQbIdeal.main_arg3))
      ∧ θ_run (Cert.StepQbRefIdeal.defs (F := Ideal)) (onTc (τ := Cert.StepQbRefIdeal.τ) (Cert.StepQbRefIdeal.main (F := Ideal))) ⟨m', fun _ => 0, g'⟩ (fun r => ∀ c : Dev Cert.StepQbRefIdeal.nD,
          r.2.mem ((c.tc : Thread Cert.StepQbRefIdeal.nD Cert.StepQbRefIdeal.τ).loc Cert.StepQbRefIdeal.main_v1) = v0 c
          ∧ r.2.mem ((c.tc : Thread Cert.StepQbRefIdeal.nD Cert.StepQbRefIdeal.τ).loc Cert.StepQbRefIdeal.main_v25) = v1 c
          ∧ r.2.mem ((c.tc : Thread Cert.StepQbRefIdeal.nD Cert.StepQbRefIdeal.τ).loc Cert.StepQbRefIdeal.main_v6) = v2 c
          ∧ r.2.mem ((c.tc : Thread Cert.StepQbRefIdeal.nD Cert.StepQbRefIdeal.τ).loc Cert.StepQbRefIdeal.main_v12) = v3 c
          ∧ r.2.mem ((c.tc : Thread Cert.StepQbRefIdeal.nD Cert.StepQbRefIdeal.τ).loc Cert.StepQbRefIdeal.main_arg0) = m' ((c.tc : Thread Cert.StepQbRefIdeal.nD Cert.StepQbRefIdeal.τ).loc Cert.StepQbRefIdeal.main_arg0)
          ∧ r.2.mem ((c.tc : Thread Cert.StepQbRefIdeal.nD Cert.StepQbRefIdeal.τ).loc Cert.StepQbRefIdeal.main_arg1) = m' ((c.tc : Thread Cert.StepQbRefIdeal.nD Cert.StepQbRefIdeal.τ).loc Cert.StepQbRefIdeal.main_arg1)
          ∧ r.2.mem ((c.tc : Thread Cert.StepQbRefIdeal.nD Cert.StepQbRefIdeal.τ).loc Cert.StepQbRefIdeal.main_arg2) = m' ((c.tc : Thread Cert.StepQbRefIdeal.nD Cert.StepQbRefIdeal.τ).loc Cert.StepQbRefIdeal.main_arg2)
          ∧ r.2.mem ((c.tc : Thread Cert.StepQbRefIdeal.nD Cert.StepQbRefIdeal.τ).loc Cert.StepQbRefIdeal.main_arg3) = m' ((c.tc : Thread Cert.StepQbRefIdeal.nD Cert.StepQbRefIdeal.τ).loc Cert.StepQbRefIdeal.main_arg3))

def preserves_StepKvb_StepKvbIdeal : Prop :=
  True

def algebraic_StepKvbIdeal_StepKvbRefIdeal [hStepKvbIdeal : Cert.StepKvbIdeal.Facts] [hStepKvbRefIdeal : Cert.StepKvbRefIdeal.Facts] : Prop :=
  ∀ (m : (ℓ : Loc Cert.StepKvbIdeal.nD Cert.StepKvbIdeal.τ Cert.StepKvbIdeal.sig) → Buf (Elt Ideal) ℓ) (g : Dev Cert.StepKvbIdeal.nD → PrngReg)
    (m' : (ℓ : Loc Cert.StepKvbRefIdeal.nD Cert.StepKvbRefIdeal.τ Cert.StepKvbRefIdeal.sig) → Buf (Elt Ideal) ℓ) (g' : Dev Cert.StepKvbRefIdeal.nD → PrngReg), Pre_StepKvbIdeal m →
    (∀ c : Dev Cert.StepKvbIdeal.nD,
      m' ((c.tc : Thread Cert.StepKvbRefIdeal.nD Cert.StepKvbRefIdeal.τ).loc Cert.StepKvbRefIdeal.main_arg0) = m ((c.tc : Thread Cert.StepKvbIdeal.nD Cert.StepKvbIdeal.τ).loc Cert.StepKvbIdeal.main_arg0)
      ∧ m' ((c.tc : Thread Cert.StepKvbRefIdeal.nD Cert.StepKvbRefIdeal.τ).loc Cert.StepKvbRefIdeal.main_arg1) = m ((c.tc : Thread Cert.StepKvbIdeal.nD Cert.StepKvbIdeal.τ).loc Cert.StepKvbIdeal.main_arg1)
      ∧ m' ((c.tc : Thread Cert.StepKvbRefIdeal.nD Cert.StepKvbRefIdeal.τ).loc Cert.StepKvbRefIdeal.main_arg2) = m ((c.tc : Thread Cert.StepKvbIdeal.nD Cert.StepKvbIdeal.τ).loc Cert.StepKvbIdeal.main_arg2)
      ∧ m' ((c.tc : Thread Cert.StepKvbRefIdeal.nD Cert.StepKvbRefIdeal.τ).loc Cert.StepKvbRefIdeal.main_arg3) = m ((c.tc : Thread Cert.StepKvbIdeal.nD Cert.StepKvbIdeal.τ).loc Cert.StepKvbIdeal.main_arg3)) →
    ∃ (v0 : (c : Dev Cert.StepKvbIdeal.nD) → Buf (Elt Ideal) ((c.tc : Thread Cert.StepKvbIdeal.nD Cert.StepKvbIdeal.τ).loc Cert.StepKvbIdeal.main_v0_0)) (v1 : (c : Dev Cert.StepKvbIdeal.nD) → Buf (Elt Ideal) ((c.tc : Thread Cert.StepKvbIdeal.nD Cert.StepKvbIdeal.τ).loc Cert.StepKvbIdeal.main_v0_1)) (v2 : (c : Dev Cert.StepKvbIdeal.nD) → Buf (Elt Ideal) ((c.tc : Thread Cert.StepKvbIdeal.nD Cert.StepKvbIdeal.τ).loc Cert.StepKvbIdeal.main_v0_2)) (v3 : (c : Dev Cert.StepKvbIdeal.nD) → Buf (Elt Ideal) ((c.tc : Thread Cert.StepKvbIdeal.nD Cert.StepKvbIdeal.τ).loc Cert.StepKvbIdeal.main_v0_3)),
      θ_run (Cert.StepKvbIdeal.defs (F := Ideal)) (onTc (τ := Cert.StepKvbIdeal.τ) (Cert.StepKvbIdeal.main (F := Ideal))) ⟨m, fun _ => 0, g⟩ (fun r => ∀ c : Dev Cert.StepKvbIdeal.nD,
          r.2.mem ((c.tc : Thread Cert.StepKvbIdeal.nD Cert.StepKvbIdeal.τ).loc Cert.StepKvbIdeal.main_v0_0) = v0 c
          ∧ r.2.mem ((c.tc : Thread Cert.StepKvbIdeal.nD Cert.StepKvbIdeal.τ).loc Cert.StepKvbIdeal.main_v0_1) = v1 c
          ∧ r.2.mem ((c.tc : Thread Cert.StepKvbIdeal.nD Cert.StepKvbIdeal.τ).loc Cert.StepKvbIdeal.main_v0_2) = v2 c
          ∧ r.2.mem ((c.tc : Thread Cert.StepKvbIdeal.nD Cert.StepKvbIdeal.τ).loc Cert.StepKvbIdeal.main_v0_3) = v3 c
          ∧ r.2.mem ((c.tc : Thread Cert.StepKvbIdeal.nD Cert.StepKvbIdeal.τ).loc Cert.StepKvbIdeal.main_arg0) = m ((c.tc : Thread Cert.StepKvbIdeal.nD Cert.StepKvbIdeal.τ).loc Cert.StepKvbIdeal.main_arg0)
          ∧ r.2.mem ((c.tc : Thread Cert.StepKvbIdeal.nD Cert.StepKvbIdeal.τ).loc Cert.StepKvbIdeal.main_arg1) = m ((c.tc : Thread Cert.StepKvbIdeal.nD Cert.StepKvbIdeal.τ).loc Cert.StepKvbIdeal.main_arg1)
          ∧ r.2.mem ((c.tc : Thread Cert.StepKvbIdeal.nD Cert.StepKvbIdeal.τ).loc Cert.StepKvbIdeal.main_arg2) = m ((c.tc : Thread Cert.StepKvbIdeal.nD Cert.StepKvbIdeal.τ).loc Cert.StepKvbIdeal.main_arg2)
          ∧ r.2.mem ((c.tc : Thread Cert.StepKvbIdeal.nD Cert.StepKvbIdeal.τ).loc Cert.StepKvbIdeal.main_arg3) = m ((c.tc : Thread Cert.StepKvbIdeal.nD Cert.StepKvbIdeal.τ).loc Cert.StepKvbIdeal.main_arg3))
      ∧ θ_run (Cert.StepKvbRefIdeal.defs (F := Ideal)) (onTc (τ := Cert.StepKvbRefIdeal.τ) (Cert.StepKvbRefIdeal.main (F := Ideal))) ⟨m', fun _ => 0, g'⟩ (fun r => ∀ c : Dev Cert.StepKvbRefIdeal.nD,
          r.2.mem ((c.tc : Thread Cert.StepKvbRefIdeal.nD Cert.StepKvbRefIdeal.τ).loc Cert.StepKvbRefIdeal.main_v1) = v0 c
          ∧ r.2.mem ((c.tc : Thread Cert.StepKvbRefIdeal.nD Cert.StepKvbRefIdeal.τ).loc Cert.StepKvbRefIdeal.main_v25) = v1 c
          ∧ r.2.mem ((c.tc : Thread Cert.StepKvbRefIdeal.nD Cert.StepKvbRefIdeal.τ).loc Cert.StepKvbRefIdeal.main_v6) = v2 c
          ∧ r.2.mem ((c.tc : Thread Cert.StepKvbRefIdeal.nD Cert.StepKvbRefIdeal.τ).loc Cert.StepKvbRefIdeal.main_v12) = v3 c
          ∧ r.2.mem ((c.tc : Thread Cert.StepKvbRefIdeal.nD Cert.StepKvbRefIdeal.τ).loc Cert.StepKvbRefIdeal.main_arg0) = m' ((c.tc : Thread Cert.StepKvbRefIdeal.nD Cert.StepKvbRefIdeal.τ).loc Cert.StepKvbRefIdeal.main_arg0)
          ∧ r.2.mem ((c.tc : Thread Cert.StepKvbRefIdeal.nD Cert.StepKvbRefIdeal.τ).loc Cert.StepKvbRefIdeal.main_arg1) = m' ((c.tc : Thread Cert.StepKvbRefIdeal.nD Cert.StepKvbRefIdeal.τ).loc Cert.StepKvbRefIdeal.main_arg1)
          ∧ r.2.mem ((c.tc : Thread Cert.StepKvbRefIdeal.nD Cert.StepKvbRefIdeal.τ).loc Cert.StepKvbRefIdeal.main_arg2) = m' ((c.tc : Thread Cert.StepKvbRefIdeal.nD Cert.StepKvbRefIdeal.τ).loc Cert.StepKvbRefIdeal.main_arg2)
          ∧ r.2.mem ((c.tc : Thread Cert.StepKvbRefIdeal.nD Cert.StepKvbRefIdeal.τ).loc Cert.StepKvbRefIdeal.main_arg3) = m' ((c.tc : Thread Cert.StepKvbRefIdeal.nD Cert.StepKvbRefIdeal.τ).loc Cert.StepKvbRefIdeal.main_arg3))

def preserves_StepAda_StepAdaIdeal : Prop :=
  True

def algebraic_StepAdaIdeal_StepAdaRefIdeal [hStepAdaIdeal : Cert.StepAdaIdeal.Facts] [hStepAdaRefIdeal : Cert.StepAdaRefIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg)
    (m' : (ℓ : Loc Cert.StepAdaRefIdeal.nD Cert.StepAdaRefIdeal.τ Cert.StepAdaRefIdeal.sig) → Buf (Elt Ideal) ℓ) (g' : Dev Cert.StepAdaRefIdeal.nD → PrngReg), Pre_StepAdaIdeal m →
    (∀ c : Dev Cert.StepAdaIdeal.nD,
      m' ((c.tc : Thread Cert.StepAdaRefIdeal.nD Cert.StepAdaRefIdeal.τ).loc Cert.StepAdaRefIdeal.main_arg0) = m ((c.tc : Thread Cert.StepAdaIdeal.nD Cert.StepAdaIdeal.τ).loc Cert.StepAdaIdeal.main_arg0)
      ∧ m' ((c.tc : Thread Cert.StepAdaRefIdeal.nD Cert.StepAdaRefIdeal.τ).loc Cert.StepAdaRefIdeal.main_arg1) = m ((c.tc : Thread Cert.StepAdaIdeal.nD Cert.StepAdaIdeal.τ).loc Cert.StepAdaIdeal.main_arg1)
      ∧ m' ((c.tc : Thread Cert.StepAdaRefIdeal.nD Cert.StepAdaRefIdeal.τ).loc Cert.StepAdaRefIdeal.main_arg2) = m ((c.tc : Thread Cert.StepAdaIdeal.nD Cert.StepAdaIdeal.τ).loc Cert.StepAdaIdeal.main_arg2)
      ∧ m' ((c.tc : Thread Cert.StepAdaRefIdeal.nD Cert.StepAdaRefIdeal.τ).loc Cert.StepAdaRefIdeal.main_arg3) = m ((c.tc : Thread Cert.StepAdaIdeal.nD Cert.StepAdaIdeal.τ).loc Cert.StepAdaIdeal.main_arg3)) →
    ∃ (v0 : (c : Dev Cert.StepAdaIdeal.nD) → Buf (Elt Ideal) ((c.tc : Thread Cert.StepAdaIdeal.nD Cert.StepAdaIdeal.τ).loc Cert.StepAdaIdeal.main_v0_0)) (v1 : (c : Dev Cert.StepAdaIdeal.nD) → Buf (Elt Ideal) ((c.tc : Thread Cert.StepAdaIdeal.nD Cert.StepAdaIdeal.τ).loc Cert.StepAdaIdeal.main_v0_1)) (v2 : (c : Dev Cert.StepAdaIdeal.nD) → Buf (Elt Ideal) ((c.tc : Thread Cert.StepAdaIdeal.nD Cert.StepAdaIdeal.τ).loc Cert.StepAdaIdeal.main_v0_2)) (v3 : (c : Dev Cert.StepAdaIdeal.nD) → Buf (Elt Ideal) ((c.tc : Thread Cert.StepAdaIdeal.nD Cert.StepAdaIdeal.τ).loc Cert.StepAdaIdeal.main_v0_3)),
      θ_run (Cert.StepAdaIdeal.defs (F := Ideal)) (onTc (τ := Cert.StepAdaIdeal.τ) (Cert.StepAdaIdeal.main (F := Ideal))) ⟨m, fun _ => 0, g⟩ (fun r => ∀ c : Dev Cert.StepAdaIdeal.nD,
          r.2.mem ((c.tc : Thread Cert.StepAdaIdeal.nD Cert.StepAdaIdeal.τ).loc Cert.StepAdaIdeal.main_v0_0) = v0 c
          ∧ r.2.mem ((c.tc : Thread Cert.StepAdaIdeal.nD Cert.StepAdaIdeal.τ).loc Cert.StepAdaIdeal.main_v0_1) = v1 c
          ∧ r.2.mem ((c.tc : Thread Cert.StepAdaIdeal.nD Cert.StepAdaIdeal.τ).loc Cert.StepAdaIdeal.main_v0_2) = v2 c
          ∧ r.2.mem ((c.tc : Thread Cert.StepAdaIdeal.nD Cert.StepAdaIdeal.τ).loc Cert.StepAdaIdeal.main_v0_3) = v3 c
          ∧ r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ θ_run (Cert.StepAdaRefIdeal.defs (F := Ideal)) (onTc (τ := Cert.StepAdaRefIdeal.τ) (Cert.StepAdaRefIdeal.main (F := Ideal))) ⟨m', fun _ => 0, g'⟩ (fun r => ∀ c : Dev Cert.StepAdaRefIdeal.nD,
          r.2.mem ((c.tc : Thread Cert.StepAdaRefIdeal.nD Cert.StepAdaRefIdeal.τ).loc Cert.StepAdaRefIdeal.main_v0) = v0 c
          ∧ r.2.mem ((c.tc : Thread Cert.StepAdaRefIdeal.nD Cert.StepAdaRefIdeal.τ).loc Cert.StepAdaRefIdeal.main_v24) = v1 c
          ∧ r.2.mem ((c.tc : Thread Cert.StepAdaRefIdeal.nD Cert.StepAdaRefIdeal.τ).loc Cert.StepAdaRefIdeal.main_v5) = v2 c
          ∧ r.2.mem ((c.tc : Thread Cert.StepAdaRefIdeal.nD Cert.StepAdaRefIdeal.τ).loc Cert.StepAdaRefIdeal.main_v11) = v3 c
          ∧ r.2.mem ((c.tc : Thread Cert.StepAdaRefIdeal.nD Cert.StepAdaRefIdeal.τ).loc Cert.StepAdaRefIdeal.main_arg0) = m' ((c.tc : Thread Cert.StepAdaRefIdeal.nD Cert.StepAdaRefIdeal.τ).loc Cert.StepAdaRefIdeal.main_arg0)
          ∧ r.2.mem ((c.tc : Thread Cert.StepAdaRefIdeal.nD Cert.StepAdaRefIdeal.τ).loc Cert.StepAdaRefIdeal.main_arg1) = m' ((c.tc : Thread Cert.StepAdaRefIdeal.nD Cert.StepAdaRefIdeal.τ).loc Cert.StepAdaRefIdeal.main_arg1)
          ∧ r.2.mem ((c.tc : Thread Cert.StepAdaRefIdeal.nD Cert.StepAdaRefIdeal.τ).loc Cert.StepAdaRefIdeal.main_arg2) = m' ((c.tc : Thread Cert.StepAdaRefIdeal.nD Cert.StepAdaRefIdeal.τ).loc Cert.StepAdaRefIdeal.main_arg2)
          ∧ r.2.mem ((c.tc : Thread Cert.StepAdaRefIdeal.nD Cert.StepAdaRefIdeal.τ).loc Cert.StepAdaRefIdeal.main_arg3) = m' ((c.tc : Thread Cert.StepAdaRefIdeal.nD Cert.StepAdaRefIdeal.τ).loc Cert.StepAdaRefIdeal.main_arg3))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)) (v3 : (c : Dev Cert.StepSmallIdeal.nD) → Buf (Elt Ideal) ((c.tc : Thread Cert.StepSmallIdeal.nD Cert.StepSmallIdeal.τ).loc Cert.StepSmallIdeal.main_v0_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_v0_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v0) = v0 c
          ∧ r.2.mem ((c.tc : Thread Cert.StepSmallRefIdeal.nD Cert.StepSmallRefIdeal.τ).loc Cert.StepSmallRefIdeal.main_v24) = v1 c
          ∧ r.2.mem ((c.tc : Thread Cert.StepSmallRefIdeal.nD Cert.StepSmallRefIdeal.τ).loc Cert.StepSmallRefIdeal.main_v5) = v2 c
          ∧ r.2.mem ((c.tc : Thread Cert.StepSmallRefIdeal.nD Cert.StepSmallRefIdeal.τ).loc Cert.StepSmallRefIdeal.main_v11) = v3 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v1) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v2) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_AdaDact_AdaDactIdeal : Prop :=
  True

def algebraic_AdaDactIdeal_AdaDactRefIdeal [hAdaDactIdeal : Cert.AdaDactIdeal.Facts] [hAdaDactRefIdeal : Cert.AdaDactRefIdeal.Facts] : Prop :=
  ∀ (m : (ℓ : Loc Cert.AdaDactIdeal.nD Cert.AdaDactIdeal.τ Cert.AdaDactIdeal.sig) → Buf (Elt Ideal) ℓ) (g : Dev Cert.AdaDactIdeal.nD → PrngReg)
    (m' : (ℓ : Loc Cert.AdaDactRefIdeal.nD Cert.AdaDactRefIdeal.τ Cert.AdaDactRefIdeal.sig) → Buf (Elt Ideal) ℓ) (g' : Dev Cert.AdaDactRefIdeal.nD → PrngReg), Pre_AdaDactIdeal m →
    (∀ c : Dev Cert.AdaDactIdeal.nD,
      m' ((c.tc : Thread Cert.AdaDactRefIdeal.nD Cert.AdaDactRefIdeal.τ).loc Cert.AdaDactRefIdeal.main_arg0) = m ((c.tc : Thread Cert.AdaDactIdeal.nD Cert.AdaDactIdeal.τ).loc Cert.AdaDactIdeal.main_arg0)
      ∧ m' ((c.tc : Thread Cert.AdaDactRefIdeal.nD Cert.AdaDactRefIdeal.τ).loc Cert.AdaDactRefIdeal.main_arg1) = m ((c.tc : Thread Cert.AdaDactIdeal.nD Cert.AdaDactIdeal.τ).loc Cert.AdaDactIdeal.main_arg1)
      ∧ m' ((c.tc : Thread Cert.AdaDactRefIdeal.nD Cert.AdaDactRefIdeal.τ).loc Cert.AdaDactRefIdeal.main_arg2) = m ((c.tc : Thread Cert.AdaDactIdeal.nD Cert.AdaDactIdeal.τ).loc Cert.AdaDactIdeal.main_arg2)
      ∧ m' ((c.tc : Thread Cert.AdaDactRefIdeal.nD Cert.AdaDactRefIdeal.τ).loc Cert.AdaDactRefIdeal.main_arg3) = m ((c.tc : Thread Cert.AdaDactIdeal.nD Cert.AdaDactIdeal.τ).loc Cert.AdaDactIdeal.main_arg3)) →
    ∃ (v0 : (c : Dev Cert.AdaDactIdeal.nD) → Buf (Elt Ideal) ((c.tc : Thread Cert.AdaDactIdeal.nD Cert.AdaDactIdeal.τ).loc Cert.AdaDactIdeal.main_v0)),
      θ_run (Cert.AdaDactIdeal.defs (F := Ideal)) (onTc (τ := Cert.AdaDactIdeal.τ) (Cert.AdaDactIdeal.main (F := Ideal))) ⟨m, fun _ => 0, g⟩ (fun r => ∀ c : Dev Cert.AdaDactIdeal.nD,
          r.2.mem ((c.tc : Thread Cert.AdaDactIdeal.nD Cert.AdaDactIdeal.τ).loc Cert.AdaDactIdeal.main_v0) = v0 c
          ∧ r.2.mem ((c.tc : Thread Cert.AdaDactIdeal.nD Cert.AdaDactIdeal.τ).loc Cert.AdaDactIdeal.main_arg0) = m ((c.tc : Thread Cert.AdaDactIdeal.nD Cert.AdaDactIdeal.τ).loc Cert.AdaDactIdeal.main_arg0)
          ∧ r.2.mem ((c.tc : Thread Cert.AdaDactIdeal.nD Cert.AdaDactIdeal.τ).loc Cert.AdaDactIdeal.main_arg1) = m ((c.tc : Thread Cert.AdaDactIdeal.nD Cert.AdaDactIdeal.τ).loc Cert.AdaDactIdeal.main_arg1)
          ∧ r.2.mem ((c.tc : Thread Cert.AdaDactIdeal.nD Cert.AdaDactIdeal.τ).loc Cert.AdaDactIdeal.main_arg2) = m ((c.tc : Thread Cert.AdaDactIdeal.nD Cert.AdaDactIdeal.τ).loc Cert.AdaDactIdeal.main_arg2)
          ∧ r.2.mem ((c.tc : Thread Cert.AdaDactIdeal.nD Cert.AdaDactIdeal.τ).loc Cert.AdaDactIdeal.main_arg3) = m ((c.tc : Thread Cert.AdaDactIdeal.nD Cert.AdaDactIdeal.τ).loc Cert.AdaDactIdeal.main_arg3))
      ∧ θ_run (Cert.AdaDactRefIdeal.defs (F := Ideal)) (onTc (τ := Cert.AdaDactRefIdeal.τ) (Cert.AdaDactRefIdeal.main (F := Ideal))) ⟨m', fun _ => 0, g'⟩ (fun r => ∀ c : Dev Cert.AdaDactRefIdeal.nD,
          r.2.mem ((c.tc : Thread Cert.AdaDactRefIdeal.nD Cert.AdaDactRefIdeal.τ).loc Cert.AdaDactRefIdeal.main_v2) = v0 c
          ∧ r.2.mem ((c.tc : Thread Cert.AdaDactRefIdeal.nD Cert.AdaDactRefIdeal.τ).loc Cert.AdaDactRefIdeal.main_arg0) = m' ((c.tc : Thread Cert.AdaDactRefIdeal.nD Cert.AdaDactRefIdeal.τ).loc Cert.AdaDactRefIdeal.main_arg0)
          ∧ r.2.mem ((c.tc : Thread Cert.AdaDactRefIdeal.nD Cert.AdaDactRefIdeal.τ).loc Cert.AdaDactRefIdeal.main_arg1) = m' ((c.tc : Thread Cert.AdaDactRefIdeal.nD Cert.AdaDactRefIdeal.τ).loc Cert.AdaDactRefIdeal.main_arg1)
          ∧ r.2.mem ((c.tc : Thread Cert.AdaDactRefIdeal.nD Cert.AdaDactRefIdeal.τ).loc Cert.AdaDactRefIdeal.main_arg2) = m' ((c.tc : Thread Cert.AdaDactRefIdeal.nD Cert.AdaDactRefIdeal.τ).loc Cert.AdaDactRefIdeal.main_arg2)
          ∧ r.2.mem ((c.tc : Thread Cert.AdaDactRefIdeal.nD Cert.AdaDactRefIdeal.τ).loc Cert.AdaDactRefIdeal.main_arg3) = m' ((c.tc : Thread Cert.AdaDactRefIdeal.nD Cert.AdaDactRefIdeal.τ).loc Cert.AdaDactRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v3) = v0 c
          ∧ r.2.mem ((c.tc : Thread Cert.PrepRefIdeal.nD Cert.PrepRefIdeal.τ).loc Cert.PrepRefIdeal.main_v6) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInA : Cert.InA.Facts) (hInAIdeal : Cert.InAIdeal.Facts) (hInARefIdeal : Cert.InARefIdeal.Facts) (hInADx : Cert.InADx.Facts) (hInADxIdeal : Cert.InADxIdeal.Facts) (hInADxRefIdeal : Cert.InADxRefIdeal.Facts) (hInADw : Cert.InADw.Facts) (hInADwIdeal : Cert.InADwIdeal.Facts) (hInADwRefIdeal : Cert.InADwRefIdeal.Facts) (hInB : Cert.InB.Facts) (hInBIdeal : Cert.InBIdeal.Facts) (hInBRefIdeal : Cert.InBRefIdeal.Facts) (hInBDx : Cert.InBDx.Facts) (hInBDxIdeal : Cert.InBDxIdeal.Facts) (hInBDxRefIdeal : Cert.InBDxRefIdeal.Facts) (hInBDw : Cert.InBDw.Facts) (hInBDwIdeal : Cert.InBDwIdeal.Facts) (hInBDwRefIdeal : Cert.InBDwRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hQb : Cert.Qb.Facts) (hQbIdeal : Cert.QbIdeal.Facts) (hQbRefIdeal : Cert.QbRefIdeal.Facts) (hQbDx : Cert.QbDx.Facts) (hQbDxIdeal : Cert.QbDxIdeal.Facts) (hQbDxRefIdeal : Cert.QbDxRefIdeal.Facts) (hQbDw : Cert.QbDw.Facts) (hQbDwIdeal : Cert.QbDwIdeal.Facts) (hQbDwRefIdeal : Cert.QbDwRefIdeal.Facts) (hKvb : Cert.Kvb.Facts) (hKvbIdeal : Cert.KvbIdeal.Facts) (hKvbRefIdeal : Cert.KvbRefIdeal.Facts) (hKvbDx : Cert.KvbDx.Facts) (hKvbDxIdeal : Cert.KvbDxIdeal.Facts) (hKvbDxRefIdeal : Cert.KvbDxRefIdeal.Facts) (hKvbDw : Cert.KvbDw.Facts) (hKvbDwIdeal : Cert.KvbDwIdeal.Facts) (hKvbDwRefIdeal : Cert.KvbDwRefIdeal.Facts) (hStepUp : Cert.StepUp.Facts) (hStepUpIdeal : Cert.StepUpIdeal.Facts) (hStepUpRefIdeal : Cert.StepUpRefIdeal.Facts) (hStepDown : Cert.StepDown.Facts) (hStepDownIdeal : Cert.StepDownIdeal.Facts) (hStepDownRefIdeal : Cert.StepDownRefIdeal.Facts) (hStepInA : Cert.StepInA.Facts) (hStepInAIdeal : Cert.StepInAIdeal.Facts) (hStepInARefIdeal : Cert.StepInARefIdeal.Facts) (hStepInB : Cert.StepInB.Facts) (hStepInBIdeal : Cert.StepInBIdeal.Facts) (hStepInBRefIdeal : Cert.StepInBRefIdeal.Facts) (hStepOut : Cert.StepOut.Facts) (hStepOutIdeal : Cert.StepOutIdeal.Facts) (hStepOutRefIdeal : Cert.StepOutRefIdeal.Facts) (hStepQb : Cert.StepQb.Facts) (hStepQbIdeal : Cert.StepQbIdeal.Facts) (hStepQbRefIdeal : Cert.StepQbRefIdeal.Facts) (hStepKvb : Cert.StepKvb.Facts) (hStepKvbIdeal : Cert.StepKvbIdeal.Facts) (hStepKvbRefIdeal : Cert.StepKvbRefIdeal.Facts) (hStepAda : Cert.StepAda.Facts) (hStepAdaIdeal : Cert.StepAdaIdeal.Facts) (hStepAdaRefIdeal : Cert.StepAdaRefIdeal.Facts) (hStepSmall : Cert.StepSmall.Facts) (hStepSmallIdeal : Cert.StepSmallIdeal.Facts) (hStepSmallRefIdeal : Cert.StepSmallRefIdeal.Facts) (hAda : Cert.Ada.Facts) (hAdaIdeal : Cert.AdaIdeal.Facts) (hAdaRefIdeal : Cert.AdaRefIdeal.Facts) (hAdaDw : Cert.AdaDw.Facts) (hAdaDwIdeal : Cert.AdaDwIdeal.Facts) (hAdaDwRefIdeal : Cert.AdaDwRefIdeal.Facts) (hAdaDact : Cert.AdaDact.Facts) (hAdaDactIdeal : Cert.AdaDactIdeal.Facts) (hAdaDactRefIdeal : Cert.AdaDactRefIdeal.Facts) (hSumSmall : Cert.SumSmall.Facts) (hSumSmallIdeal : Cert.SumSmallIdeal.Facts) (hSumSmallRefIdeal : Cert.SumSmallRefIdeal.Facts) (hPrep : Cert.Prep.Facts) (hPrepIdeal : Cert.PrepIdeal.Facts) (hPrepRefIdeal : Cert.PrepRefIdeal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite3 (hFwdIdeal := hFwdIdeal) (hPre_finite3 := hPre_finite3)
    ∧ quiescent_FwdRefIdeal (hFwdRefIdeal := hFwdRefIdeal)
    ∧ quiescent_FwdRefIdeal_pre_finite3 (hFwdRefIdeal := hFwdRefIdeal) (hPre_finite3 := hPre_finite3)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_InA (hInA := hInA)
    ∧ quiescent_InAIdeal (hInAIdeal := hInAIdeal)
    ∧ quiescent_InARefIdeal (hInARefIdeal := hInARefIdeal)
    ∧ quiescent_InADx (hInADx := hInADx)
    ∧ quiescent_InADxIdeal (hInADxIdeal := hInADxIdeal)
    ∧ quiescent_InADxRefIdeal (hInADxRefIdeal := hInADxRefIdeal)
    ∧ quiescent_InADw (hInADw := hInADw)
    ∧ quiescent_InADwIdeal (hInADwIdeal := hInADwIdeal)
    ∧ quiescent_InADwRefIdeal (hInADwRefIdeal := hInADwRefIdeal)
    ∧ quiescent_InB (hInB := hInB)
    ∧ quiescent_InBIdeal (hInBIdeal := hInBIdeal)
    ∧ quiescent_InBRefIdeal (hInBRefIdeal := hInBRefIdeal)
    ∧ quiescent_InBDx (hInBDx := hInBDx)
    ∧ quiescent_InBDxIdeal (hInBDxIdeal := hInBDxIdeal)
    ∧ quiescent_InBDxRefIdeal (hInBDxRefIdeal := hInBDxRefIdeal)
    ∧ quiescent_InBDw (hInBDw := hInBDw)
    ∧ quiescent_InBDwIdeal (hInBDwIdeal := hInBDwIdeal)
    ∧ quiescent_InBDwRefIdeal (hInBDwRefIdeal := hInBDwRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Qb (hQb := hQb)
    ∧ quiescent_QbIdeal (hQbIdeal := hQbIdeal)
    ∧ quiescent_QbRefIdeal (hQbRefIdeal := hQbRefIdeal)
    ∧ quiescent_QbDx (hQbDx := hQbDx)
    ∧ quiescent_QbDxIdeal (hQbDxIdeal := hQbDxIdeal)
    ∧ quiescent_QbDxRefIdeal (hQbDxRefIdeal := hQbDxRefIdeal)
    ∧ quiescent_QbDw (hQbDw := hQbDw)
    ∧ quiescent_QbDwIdeal (hQbDwIdeal := hQbDwIdeal)
    ∧ quiescent_QbDwRefIdeal (hQbDwRefIdeal := hQbDwRefIdeal)
    ∧ quiescent_Kvb (hKvb := hKvb)
    ∧ quiescent_KvbIdeal (hKvbIdeal := hKvbIdeal)
    ∧ quiescent_KvbRefIdeal (hKvbRefIdeal := hKvbRefIdeal)
    ∧ quiescent_KvbDx (hKvbDx := hKvbDx)
    ∧ quiescent_KvbDxIdeal (hKvbDxIdeal := hKvbDxIdeal)
    ∧ quiescent_KvbDxRefIdeal (hKvbDxRefIdeal := hKvbDxRefIdeal)
    ∧ quiescent_KvbDw (hKvbDw := hKvbDw)
    ∧ quiescent_KvbDwIdeal (hKvbDwIdeal := hKvbDwIdeal)
    ∧ quiescent_KvbDwRefIdeal (hKvbDwRefIdeal := hKvbDwRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_StepInA (hStepInA := hStepInA)
    ∧ quiescent_StepInAIdeal (hStepInAIdeal := hStepInAIdeal)
    ∧ quiescent_StepInARefIdeal (hStepInARefIdeal := hStepInARefIdeal)
    ∧ quiescent_StepInB (hStepInB := hStepInB)
    ∧ quiescent_StepInBIdeal (hStepInBIdeal := hStepInBIdeal)
    ∧ quiescent_StepInBRefIdeal (hStepInBRefIdeal := hStepInBRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepQb (hStepQb := hStepQb)
    ∧ quiescent_StepQbIdeal (hStepQbIdeal := hStepQbIdeal)
    ∧ quiescent_StepQbRefIdeal (hStepQbRefIdeal := hStepQbRefIdeal)
    ∧ quiescent_StepKvb (hStepKvb := hStepKvb)
    ∧ quiescent_StepKvbIdeal (hStepKvbIdeal := hStepKvbIdeal)
    ∧ quiescent_StepKvbRefIdeal (hStepKvbRefIdeal := hStepKvbRefIdeal)
    ∧ quiescent_StepAda (hStepAda := hStepAda)
    ∧ quiescent_StepAdaIdeal (hStepAdaIdeal := hStepAdaIdeal)
    ∧ quiescent_StepAdaRefIdeal (hStepAdaRefIdeal := hStepAdaRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_Ada (hAda := hAda)
    ∧ quiescent_AdaIdeal (hAdaIdeal := hAdaIdeal)
    ∧ quiescent_AdaRefIdeal (hAdaRefIdeal := hAdaRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaDact (hAdaDact := hAdaDact)
    ∧ quiescent_AdaDactIdeal (hAdaDactIdeal := hAdaDactIdeal)
    ∧ quiescent_AdaDactRefIdeal (hAdaDactRefIdeal := hAdaDactRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdRefIdeal_pre_finite3 (hFwdIdeal := hFwdIdeal) (hFwdRefIdeal := hFwdRefIdeal) (hPre_finite3 := hPre_finite3)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_InA_InAIdeal
    ∧ algebraic_InAIdeal_InARefIdeal (hInAIdeal := hInAIdeal) (hInARefIdeal := hInARefIdeal)
    ∧ preserves_InADx_InADxIdeal
    ∧ algebraic_InADxIdeal_InADxRefIdeal (hInADxIdeal := hInADxIdeal) (hInADxRefIdeal := hInADxRefIdeal)
    ∧ preserves_InADw_InADwIdeal
    ∧ algebraic_InADwIdeal_InADwRefIdeal (hInADwIdeal := hInADwIdeal) (hInADwRefIdeal := hInADwRefIdeal)
    ∧ preserves_InB_InBIdeal
    ∧ algebraic_InBIdeal_InBRefIdeal (hInBIdeal := hInBIdeal) (hInBRefIdeal := hInBRefIdeal)
    ∧ preserves_InBDx_InBDxIdeal
    ∧ algebraic_InBDxIdeal_InBDxRefIdeal (hInBDxIdeal := hInBDxIdeal) (hInBDxRefIdeal := hInBDxRefIdeal)
    ∧ preserves_InBDw_InBDwIdeal
    ∧ algebraic_InBDwIdeal_InBDwRefIdeal (hInBDwIdeal := hInBDwIdeal) (hInBDwRefIdeal := hInBDwRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Qb_QbIdeal
    ∧ algebraic_QbIdeal_QbRefIdeal (hQbIdeal := hQbIdeal) (hQbRefIdeal := hQbRefIdeal)
    ∧ preserves_QbDx_QbDxIdeal
    ∧ algebraic_QbDxIdeal_QbDxRefIdeal (hQbDxIdeal := hQbDxIdeal) (hQbDxRefIdeal := hQbDxRefIdeal)
    ∧ preserves_QbDw_QbDwIdeal
    ∧ algebraic_QbDwIdeal_QbDwRefIdeal (hQbDwIdeal := hQbDwIdeal) (hQbDwRefIdeal := hQbDwRefIdeal)
    ∧ preserves_Kvb_KvbIdeal
    ∧ algebraic_KvbIdeal_KvbRefIdeal (hKvbIdeal := hKvbIdeal) (hKvbRefIdeal := hKvbRefIdeal)
    ∧ preserves_KvbDx_KvbDxIdeal
    ∧ algebraic_KvbDxIdeal_KvbDxRefIdeal (hKvbDxIdeal := hKvbDxIdeal) (hKvbDxRefIdeal := hKvbDxRefIdeal)
    ∧ preserves_KvbDw_KvbDwIdeal
    ∧ algebraic_KvbDwIdeal_KvbDwRefIdeal (hKvbDwIdeal := hKvbDwIdeal) (hKvbDwRefIdeal := hKvbDwRefIdeal)
    ∧ preserves_StepUp_StepUpIdeal
    ∧ algebraic_StepUpIdeal_StepUpRefIdeal (hStepUpIdeal := hStepUpIdeal) (hStepUpRefIdeal := hStepUpRefIdeal)
    ∧ preserves_StepDown_StepDownIdeal
    ∧ algebraic_StepDownIdeal_StepDownRefIdeal (hStepDownIdeal := hStepDownIdeal) (hStepDownRefIdeal := hStepDownRefIdeal)
    ∧ preserves_StepInA_StepInAIdeal
    ∧ algebraic_StepInAIdeal_StepInARefIdeal (hStepInAIdeal := hStepInAIdeal) (hStepInARefIdeal := hStepInARefIdeal)
    ∧ preserves_StepInB_StepInBIdeal
    ∧ algebraic_StepInBIdeal_StepInBRefIdeal (hStepInBIdeal := hStepInBIdeal) (hStepInBRefIdeal := hStepInBRefIdeal)
    ∧ preserves_StepOut_StepOutIdeal
    ∧ algebraic_StepOutIdeal_StepOutRefIdeal (hStepOutIdeal := hStepOutIdeal) (hStepOutRefIdeal := hStepOutRefIdeal)
    ∧ preserves_StepQb_StepQbIdeal
    ∧ algebraic_StepQbIdeal_StepQbRefIdeal (hStepQbIdeal := hStepQbIdeal) (hStepQbRefIdeal := hStepQbRefIdeal)
    ∧ preserves_StepKvb_StepKvbIdeal
    ∧ algebraic_StepKvbIdeal_StepKvbRefIdeal (hStepKvbIdeal := hStepKvbIdeal) (hStepKvbRefIdeal := hStepKvbRefIdeal)
    ∧ preserves_StepAda_StepAdaIdeal
    ∧ algebraic_StepAdaIdeal_StepAdaRefIdeal (hStepAdaIdeal := hStepAdaIdeal) (hStepAdaRefIdeal := hStepAdaRefIdeal)
    ∧ preserves_StepSmall_StepSmallIdeal
    ∧ algebraic_StepSmallIdeal_StepSmallRefIdeal (hStepSmallIdeal := hStepSmallIdeal) (hStepSmallRefIdeal := hStepSmallRefIdeal)
    ∧ preserves_Ada_AdaIdeal
    ∧ algebraic_AdaIdeal_AdaRefIdeal (hAdaIdeal := hAdaIdeal) (hAdaRefIdeal := hAdaRefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaDact_AdaDactIdeal
    ∧ algebraic_AdaDactIdeal_AdaDactRefIdeal (hAdaDactIdeal := hAdaDactIdeal) (hAdaDactRefIdeal := hAdaDactRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Prep_PrepIdeal
    ∧ algebraic_PrepIdeal_PrepRefIdeal (hPrepIdeal := hPrepIdeal) (hPrepRefIdeal := hPrepRefIdeal)
-- ==== Pre_finite.lean ====
abbrev S8448x8x256 : Shape := ⟨3, ![8448, 8, 256]⟩
abbrev S8448x8x128 : Shape := ⟨3, ![8448, 8, 128]⟩
abbrev S_ : Shape := ⟨0, ![]⟩

class Facts : Prop where
  bcast_S_S8448x8x256 : S_.BroadcastsInDim S8448x8x256 (![] : Fin 0 → Fin S8448x8x256.rank)
  bcast_S_S8448x8x128 : S_.BroadcastsInDim S8448x8x128 (![] : Fin 0 → Fin S8448x8x128.rank)

variable [Facts]

def fn {F : FTy → Type} [FloatOps F] (main_arg0 : FVec F S8448x8x256 .f32) (main_arg1 : FVec F S8448x8x256 .f32) (main_arg2 : FVec F S8448x8x128 .f32) (main_arg3 : FVec F S8448x8x128 .f32) : IVec S8448x8x256 1 × IVec S8448x8x256 1 × IVec S8448x8x128 1 × IVec S8448x8x128 1 :=
  let main_v0 : FVec F S8448x8x256 .f32 := Host.absf main_arg0
  let main_cst : FVec F S_ .f32 := constant S_ .f32 0x7F800000#32
  let main_v1 : FVec F S8448x8x256 .f32 := broadcastInDim S8448x8x256 ![] bcast_S_S8448x8x256 main_cst
  let main_v2 : IVec S8448x8x256 1 := cmpf .olt main_v0 main_v1
  let main_v3 : FVec F S8448x8x256 .f32 := Host.absf main_arg1
  let main_cst_0 : FVec F S_ .f32 := constant S_ .f32 0x7F800000#32
  let main_v4 : FVec F S8448x8x256 .f32 := broadcastInDim S8448x8x256 ![] bcast_S_S8448x8x256 main_cst_0
  let main_v5 : IVec S8448x8x256 1 := cmpf .olt main_v3 main_v4
  let main_v6 : FVec F S8448x8x128 .f32 := Host.absf main_arg2
  let main_cst_1 : FVec F S_ .f32 := constant S_ .f32 0x7F800000#32
  let main_v7 : FVec F S8448x8x128 .f32 := broadcastInDim S8448x8x128 ![] bcast_S_S8448x8x128 main_cst_1
  let main_v8 : IVec S8448x8x128 1 := cmpf .olt main_v6 main_v7
  let main_v9 : FVec F S8448x8x128 .f32 := Host.absf main_arg3
  let main_cst_2 : FVec F S_ .f32 := constant S_ .f32 0x7F800000#32
  let main_v10 : FVec F S8448x8x128 .f32 := broadcastInDim S8448x8x128 ![] bcast_S_S8448x8x128 main_cst_2
  let main_v11 : IVec S8448x8x128 1 := cmpf .olt main_v9 main_v10
  (main_v2, main_v5, main_v8, main_v11)
-- ==== Pre_finite3.lean ====
abbrev S8448x8x256 : Shape := ⟨3, ![8448, 8, 256]⟩
abbrev S8448x8x128 : Shape := ⟨3, ![8448, 8, 128]⟩
abbrev S_ : Shape := ⟨0, ![]⟩

class Facts : Prop where
  bcast_S_S8448x8x256 : S_.BroadcastsInDim S8448x8x256 (![] : Fin 0 → Fin S8448x8x256.rank)
  bcast_S_S8448x8x128 : S_.BroadcastsInDim S8448x8x128 (![] : Fin 0 → Fin S8448x8x128.rank)

variable [Facts]

def fn {F : FTy → Type} [FloatOps F] (main_arg0 : FVec F S8448x8x256 .f32) (main_arg1 : FVec F S8448x8x256 .f32) (main_arg2 : FVec F S8448x8x128 .f32) : IVec S8448x8x256 1 × IVec S8448x8x256 1 × IVec S8448x8x128 1 :=
  let main_v0 : FVec F S8448x8x256 .f32 := Host.absf main_arg0
  let main_cst : FVec F S_ .f32 := constant S_ .f32 0x7F800000#32
  let main_v1 : FVec F S8448x8x256 .f32 := broadcastInDim S8448x8x256 ![] bcast_S_S8448x8x256 main_cst
  let main_v2 : IVec S8448x8x256 1 := cmpf .olt main_v0 main_v1
  let main_v3 : FVec F S8448x8x256 .f32 := Host.absf main_arg1
  let main_cst_0 : FVec F S_ .f32 := constant S_ .f32 0x7F800000#32
  let main_v4 : FVec F S8448x8x256 .f32 := broadcastInDim S8448x8x256 ![] bcast_S_S8448x8x256 main_cst_0
  let main_v5 : IVec S8448x8x256 1 := cmpf .olt main_v3 main_v4
  let main_v6 : FVec F S8448x8x128 .f32 := Host.absf main_arg2
  let main_cst_1 : FVec F S_ .f32 := constant S_ .f32 0x7F800000#32
  let main_v7 : FVec F S8448x8x128 .f32 := broadcastInDim S8448x8x128 ![] bcast_S_S8448x8x128 main_cst_1
  let main_v8 : IVec S8448x8x128 1 := cmpf .olt main_v6 main_v7
  (main_v2, main_v5, main_v8)
-- ==== Kernel.lean ====
abbrev S8448x8x256 : Shape := ⟨3, ![8448, 8, 256]⟩
abbrev S8448x8x128 : Shape := ⟨3, ![8448, 8, 128]⟩
abbrev S8192x8x256 : Shape := ⟨3, ![8192, 8, 256]⟩
abbrev S8192x8x128 : Shape := ⟨3, ![8192, 8, 128]⟩
abbrev S_ : Shape := ⟨0, ![]⟩
abbrev S8x8192x8448 : Shape := ⟨3, ![8, 8192, 8448]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S256x8 : Shape := ⟨2, ![256, 8]⟩
abbrev S8448x8 : Shape := ⟨2, ![8448, 8]⟩
abbrev S8448x8x1 : Shape := ⟨3, ![8448, 8, 1]⟩
abbrev S1x1x128 : Shape := ⟨3, ![1, 1, 128]⟩
abbrev S8448x1024 : Shape := ⟨2, ![8448, 1024]⟩
abbrev S8448x2048 : Shape := ⟨2, ![8448, 2048]⟩
abbrev S8448x256 : Shape := ⟨2, ![8448, 256]⟩
abbrev S8448x128 : Shape := ⟨2, ![8448, 128]⟩
abbrev S256x256 : Shape := ⟨2, ![256, 256]⟩
abbrev S256x128 : Shape := ⟨2, ![256, 128]⟩
abbrev S1024x256 : Shape := ⟨2, ![1024, 256]⟩
abbrev S1024x128 : Shape := ⟨2, ![1024, 128]⟩
abbrev S1024x1 : Shape := ⟨2, ![1024, 1]⟩
abbrev S256x1 : Shape := ⟨2, ![256, 1]⟩

abbrev nBuf : Space → Nat
  | .hbm => 99
  | .vmem => 16
  | .smem => 0
  | _ => 0

abbrev bufTy : (tb : Table) → Fin (tcTables nBuf tb) → BufTy
  | .hbm, ⟨0, _⟩ => ⟨S8448x8x256, .f32⟩
  | .hbm, ⟨1, _⟩ => ⟨S8448x8x256, .f32⟩
  | .hbm, ⟨2, _⟩ => ⟨S8448x8x128, .f32⟩
  | .hbm, ⟨3, _⟩ => ⟨S8448x8x128, .f32⟩
  | .hbm, ⟨4, _⟩ => ⟨S8192x8x256, .f32⟩
  | .hbm, ⟨5, _⟩ => ⟨S8192x8x128, .f32⟩
  | .hbm, ⟨6, _⟩ => ⟨S_, .f32⟩
  | .hbm, ⟨7, _⟩ => ⟨S8192x8x256, .f32⟩
  | .hbm, ⟨8, _⟩ => ⟨S8192x8x256, .f32⟩
  | .hbm, ⟨9, _⟩ => ⟨S8x8192x8448, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S8x8192x8448, .f32⟩
  | .hbm, ⟨14, _⟩ => ⟨S8x8192x8448, .f32⟩
  | .hbm, ⟨15, _⟩ => ⟨S8x8192x8448, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S8x8192x8448, .f32⟩
  | .hbm, ⟨20, _⟩ => ⟨S8x8192x8448, .f32⟩
  | .hbm, ⟨21, _⟩ => ⟨S8x128x8192, .f32⟩
  | .hbm, ⟨22, _⟩ => ⟨S8192x8x128, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S_, .f32⟩
  | .hbm, ⟨27, _⟩ => ⟨S8x8192x1, .f32⟩
  | .hbm, ⟨28, _⟩ => ⟨S8x8192x1, .f32⟩
  | .hbm, ⟨29, _⟩ => ⟨S8x8192, .f32⟩
  | .hbm, ⟨30, _⟩ => ⟨S8192x8, .f32⟩
  | .hbm, ⟨31, _⟩ => ⟨S8192x8x128, .f32⟩
  | .hbm, ⟨32, _⟩ => ⟨S_, .f32⟩
  | .hbm, ⟨33, _⟩ => ⟨S8192x8, .f32⟩
  | .hbm, ⟨34, _⟩ => ⟨S256x8x256, .f32⟩
  | .hbm, ⟨35, _⟩ => ⟨S256x8x256, .f32⟩
  | .hbm, ⟨36, _⟩ => ⟨S256x8x128, .f32⟩
  | .hbm, ⟨37, _⟩ => ⟨S256x8x128, .f32⟩
  | .hbm, ⟨38, _⟩ => ⟨S_, .f32⟩
  | .hbm, ⟨39, _⟩ => ⟨S256x8x256, .f32⟩
  | .hbm, ⟨40, _⟩ => ⟨S256x8x256, .f32⟩
  | .hbm, ⟨41, _⟩ => ⟨S8x256x256, .f32⟩
  | .hbm, ⟨42, _⟩ => ⟨S_, .f32⟩
  | .hbm, ⟨43, _⟩ => ⟨S8x256, .f32⟩
  | .hbm, ⟨44, _⟩ => ⟨S8x256x1, .f32⟩
  | .hbm, ⟨45, _⟩ => ⟨S8x256x256, .f32⟩
  | .hbm, ⟨46, _⟩ => ⟨S8x256x256, .f32⟩
  | .hbm, ⟨47, _⟩ => ⟨S8x256x256, .f32⟩
  | .hbm, ⟨48, _⟩ => ⟨S_, .f32⟩
  | .hbm, ⟨49, _⟩ => ⟨S8x256, .f32⟩
  | .hbm, ⟨50, _⟩ => ⟨S8x256x1, .f32⟩
  | .hbm, ⟨51, _⟩ => ⟨S8x256x256, .f32⟩
  | .hbm, ⟨52, _⟩ => ⟨S8x256x256, .f32⟩
  | .hbm, ⟨53, _⟩ => ⟨S8x128x256, .f32⟩
  | .hbm, ⟨54, _⟩ => ⟨S256x8x128, .f32⟩
  | .hbm, ⟨55, _⟩ => ⟨S8x256x1, .f32⟩
  | .hbm, ⟨56, _⟩ => ⟨S8x256x1, .f32⟩
  | .hbm, ⟨57, _⟩ => ⟨S_, .f32⟩
  | .hbm, ⟨58, _⟩ => ⟨S_, .f32⟩
  | .hbm, ⟨59, _⟩ => ⟨S8x256x1, .f32⟩
  | .hbm, ⟨60, _⟩ => ⟨S8x256x1, .f32⟩
  | .hbm, ⟨61, _⟩ => ⟨S8x256, .f32⟩
  | .hbm, ⟨62, _⟩ => ⟨S256x8, .f32⟩
  | .hbm, ⟨63, _⟩ => ⟨S256x8x128, .f32⟩
  | .hbm, ⟨64, _⟩ => ⟨S_, .f32⟩
  | .hbm, ⟨65, _⟩ => ⟨S256x8, .f32⟩
  | .hbm, ⟨66, _⟩ => ⟨S8448x8, .f32⟩
  | .hbm, ⟨67, _⟩ => ⟨S8448x8x1, .f32⟩
  | .hbm, ⟨68, _⟩ => ⟨S8448x8, .f32⟩
  | .hbm, ⟨69, _⟩ => ⟨S8448x8x1, .f32⟩
  | .hbm, ⟨70, _⟩ => ⟨S1x1x128, .i32⟩
  | .hbm, ⟨71, _⟩ => ⟨S_, .i32⟩
  | .hbm, ⟨72, _⟩ => ⟨S1x1x128, .i32⟩
  | .hbm, ⟨73, _⟩ => ⟨S1x1x128, .i1⟩
  | .hbm, ⟨74, _⟩ => ⟨S8448x8x128, .i1⟩
  | .hbm, ⟨75, _⟩ => ⟨S8448x8x128, .f32⟩
  | .hbm, ⟨76, _⟩ => ⟨S8448x8x128, .f32⟩
  | .hbm, ⟨77, _⟩ => ⟨S8448x8x128, .f32⟩
  | .hbm, ⟨78, _⟩ => ⟨S8448x1024, .f32⟩
  | .hbm, ⟨79, _⟩ => ⟨S8448x8x128, .f32⟩
  | .hbm, ⟨80, _⟩ => ⟨S8448x1024, .f32⟩
  | .hbm, ⟨81, _⟩ => ⟨S8448x1024, .f32⟩
  | .hbm, ⟨82, _⟩ => ⟨S8448x2048, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8448x8x256, .f32⟩
  | .hbm, ⟨88, _⟩ => ⟨S8448x8x256, .f32⟩
  | .hbm, ⟨89, _⟩ => ⟨S8448x8x256, .bf16⟩
  | .hbm, ⟨90, _⟩ => ⟨S8448x2048, .bf16⟩
  | .hbm, ⟨91, _⟩ => ⟨S8448x8x256, .bf16⟩
  | .hbm, ⟨92, _⟩ => ⟨S8448x2048, .bf16⟩
  | .hbm, ⟨93, _⟩ => ⟨S8448x2048, .bf16⟩
  | .hbm, ⟨94, _⟩ => ⟨S8448x8x128, .bf16⟩
  | .hbm, ⟨95, _⟩ => ⟨S8448x1024, .bf16⟩
  | .hbm, ⟨96, _⟩ => ⟨S8448x2048, .f32⟩
  | .hbm, ⟨97, _⟩ => ⟨S8448x2048, .f32⟩
  | .hbm, ⟨98, _⟩ => ⟨S8448x1024, .bf16⟩
  | .local _ .vmem, ⟨0, _⟩ => ⟨S8448x256, .bf16⟩
  | .local _ .vmem, ⟨1, _⟩ => ⟨S8448x256, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .f32⟩
  | .local _ .vmem, ⟨5, _⟩ => ⟨S8448x128, .f32⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S8448x256, .f32⟩
  | .local _ .vmem, ⟨11, _⟩ => ⟨S8448x256, .f32⟩
  | .local _ .vmem, ⟨12, _⟩ => ⟨S256x256, .f32⟩
  | .local _ .vmem, ⟨13, _⟩ => ⟨S256x256, .f32⟩
  | .local _ .vmem, ⟨14, _⟩ => ⟨S256x128, .bf16⟩
  | .local _ .vmem, ⟨15, _⟩ => ⟨S256x128, .bf16⟩
  | _, _ => ⟨S8448x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c : Ref sig .tc := ⟨.hbm, 71, rfl⟩
abbrev main_v57 : Ref sig .tc := ⟨.hbm, 72, rfl⟩
abbrev main_v58 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76_0 : Ref sig .tc := ⟨.hbm, 96, rfl⟩
abbrev main_v76_1 : Ref sig .tc := ⟨.hbm, 97, rfl⟩
abbrev main_v76_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 33], ![false, false]⟩

@[reducible] def k0_t1_loop : Scf.Loop 32 :=
  let c0_i32_5 : BitVec 32 := 0#32
  let c4_i32 : BitVec 32 := 4#32
  let v9 : BitVec 32 := Scalar.addi c0_i32_5 c4_i32
  let c1_i32 : BitVec 32 := 1#32
  ⟨c0_i32_5, v9, c1_i32⟩
def k0_mult1 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c2048_i32 : BitVec 32 := 2048#32
  let v19 : BitVec 32 := Scalar.muli arg10 c2048_i32
  v19
def k0_mult2 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c2048_i32 : BitVec 32 := 2048#32
  let v19 : BitVec 32 := Scalar.muli arg10 c2048_i32
  let v20 : BitVec 32 := v19
  let c0_i32_13 : BitVec 32 := 0#32
  let v21 : BitVec 32 := Scalar.addi v20 c0_i32_13
  v21
def k0_off1 (k0_t1 : Fin k0_t1_loop.trips) (c0_i32_13 : BitVec 32) : Fin 2 → Nat :=
  let c0_i32_5 : BitVec 32 := 0#32
  let c1_i32 : BitVec 32 := 1#32
  let arg10 : BitVec 32 := Scf.iv c0_i32_5 c1_i32 k0_t1
  let c2048_i32 : BitVec 32 := 2048#32
  let v19 : BitVec 32 := Scalar.muli arg10 c2048_i32
  let v20 : BitVec 32 := v19
  let v21 : BitVec 32 := Scalar.addi v20 c0_i32_13
  let v22 : BitVec 32 := v21
  let v23 : Index := Scalar.indexCast v22
  let c0_14 : Index := 0#32
  ![v23.toNat, 0]
def k0_off2 (k0_t1 : Fin k0_t1_loop.trips) (c0_i32_13 : BitVec 32) : Fin 2 → Nat :=
  let c0_i32_5 : BitVec 32 := 0#32
  let c1_i32 : BitVec 32 := 1#32
  let arg10 : BitVec 32 := Scf.iv c0_i32_5 c1_i32 k0_t1
  let c2048_i32 : BitVec 32 := 2048#32
  let v19 : BitVec 32 := Scalar.muli arg10 c2048_i32
  let v20 : BitVec 32 := v19
  let v21 : BitVec 32 := Scalar.addi v20 c0_i32_13
  let v22 : BitVec 32 := v21
  let v26 : Index := Scalar.indexCast v22
  let c0_15 : Index := 0#32
  ![v26.toNat, 0]
def k0_mult3 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c2048_i32 : BitVec 32 := 2048#32
  let v19 : BitVec 32 := Scalar.muli arg10 c2048_i32
  let v20 : BitVec 32 := v19
  let c1024_i32 : BitVec 32 := 1024#32
  let v56 : BitVec 32 := Scalar.addi v20 c1024_i32
  v56
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8448x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8448x8x256 : Shape := ⟨3, ![8448, 8, 256]⟩
abbrev S8448x8x128 : Shape := ⟨3, ![8448, 8, 128]⟩
abbrev S_ : Shape := ⟨0, ![]⟩
abbrev S8192x8x256 : Shape := ⟨3, ![8192, 8, 256]⟩
abbrev S8x8192x8448 : Shape := ⟨3, ![8, 8192, 8448]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S8x128x8448 : Shape := ⟨3, ![8, 128, 8448]⟩
abbrev S8x8448x256 : Shape := ⟨3, ![8, 8448, 256]⟩
abbrev S8x8192x256 : Shape := ⟨3, ![8, 8192, 256]⟩
abbrev S8448x2048 : Shape := ⟨2, ![8448, 2048]⟩
abbrev S8448x1024 : Shape := ⟨2, ![8448, 1024]⟩

abbrev nBuf : Space → Nat
  | .hbm => 155
  | .vmem => 0
  | .smem => 0
  | _ => 0

abbrev hbmTy0_0 (i : Nat) : BufTy := match i % 128 with
  | 0 => ⟨S8448x8x256, .f32⟩
  | 1 => ⟨S8448x8x256, .f32⟩
  | 2 => ⟨S8448x8x128, .f32⟩
  | 3 => ⟨S8448x8x128, .f32⟩
  | 4 => ⟨S_, .f32⟩
  | 5 => ⟨S8448x8x256, .f32⟩
  | 6 => ⟨S8448x8x256, .f32⟩
  | 7 => ⟨S8192x8x256, .f32⟩
  | 8 => ⟨S8x8192x8448, .f32⟩
  | 9 => ⟨S_, .f32⟩
  | 10 => ⟨S8x8192, .f32⟩
  | 11 => ⟨S8x8192x1, .f32⟩
  | 12 => ⟨S8x8192x8448, .f32⟩
  | 13 => ⟨S8x8192x8448, .i1⟩
  | 14 => ⟨S8x8192x8448, .f32⟩
  | 15 => ⟨S_, .f32⟩
  | 16 => ⟨S8x8192, .f32⟩
  | 17 => ⟨S_, .f32⟩
  | 18 => ⟨S8x8192, .f32⟩
  | 19 => ⟨S8x8192, .f32⟩
  | 20 => ⟨S_, .f32⟩
  | 21 => ⟨S8x8192, .f32⟩
  | 22 => ⟨S8x8192, .i1⟩
  | 23 => ⟨S_, .f32⟩
  | 24 => ⟨S8x8192, .f32⟩
  | 25 => ⟨S8x8192, .i1⟩
  | 26 => ⟨S_, .f32⟩
  | 27 => ⟨S8x8192, .f32⟩
  | 28 => ⟨S_, .f32⟩
  | 29 => ⟨S8x8192, .f32⟩
  | 30 => ⟨S_, .f32⟩
  | 31 => ⟨S8x8192, .f32⟩
  | 32 => ⟨S8x8192, .f32⟩
  | 33 => ⟨S8x8192, .f32⟩
  | 34 => ⟨S8x8192x1, .f32⟩
  | 35 => ⟨S8x8192x8448, .f32⟩
  | 36 => ⟨S8x8192x8448, .f32⟩
  | 37 => ⟨S8x8192x8448, .f32⟩
  | 38 => ⟨S_, .f32⟩
  | 39 => ⟨S8x8192, .f32⟩
  | 40 => ⟨S8x8192x1, .f32⟩
  | 41 => ⟨S8x8192x8448, .f32⟩
  | 42 => ⟨S8x8192x8448, .f32⟩
  | 43 => ⟨S8x8192x1, .f32⟩
  | 44 => ⟨S_, .f32⟩
  | 45 => ⟨S8x8192x1, .f32⟩
  | 46 => ⟨S8x8192x1, .f32⟩
  | 47 => ⟨S8x128x8192, .f32⟩
  | 48 => ⟨S8192x8x128, .f32⟩
  | 49 => ⟨S256x8x256, .f32⟩
  | 50 => ⟨S256x8x256, .f32⟩
  | 51 => ⟨S256x8x128, .f32⟩
  | 52 => ⟨S8x256x256, .f32⟩
  | 53 => ⟨S_, .f32⟩
  | 54 => ⟨S8x256, .f32⟩
  | 55 => ⟨S8x256x1, .f32⟩
  | 56 => ⟨S8x256x256, .f32⟩
  | 57 => ⟨S8x256x256, .i1⟩
  | 58 => ⟨S8x256x256, .f32⟩
  | 59 => ⟨S_, .f32⟩
  | 60 => ⟨S8x256, .f32⟩
  | 61 => ⟨S_, .f32⟩
  | 62 => ⟨S8x256, .f32⟩
  | 63 => ⟨S8x256, .f32⟩
  | 64 => ⟨S_, .f32⟩
  | 65 => ⟨S8x256, .f32⟩
  | 66 => ⟨S8x256, .i1⟩
  | 67 => ⟨S_, .f32⟩
  | 68 => ⟨S8x256, .f32⟩
  | 69 => ⟨S8x256, .i1⟩
  | 70 => ⟨S_, .f32⟩
  | 71 => ⟨S8x256, .f32⟩
  | 72 => ⟨S_, .f32⟩
  | 73 => ⟨S8x256, .f32⟩
  | 74 => ⟨S_, .f32⟩
  | 75 => ⟨S8x256, .f32⟩
  | 76 => ⟨S8x256, .f32⟩
  | 77 => ⟨S8x256, .f32⟩
  | 78 => ⟨S8x256x1, .f32⟩
  | 79 => ⟨S8x256x256, .f32⟩
  | 80 => ⟨S8x256x256, .f32⟩
  | 81 => ⟨S8x256x256, .f32⟩
  | 82 => ⟨S_, .f32⟩
  | 83 => ⟨S8x256, .f32⟩
  | 84 => ⟨S8x256x1, .f32⟩
  | 85 => ⟨S8x256x256, .f32⟩
  | 86 => ⟨S8x256x256, .f32⟩
  | 87 => ⟨S8x256x1, .f32⟩
  | 88 => ⟨S_, .f32⟩
  | 89 => ⟨S8x256x1, .f32⟩
  | 90 => ⟨S8x256x1, .f32⟩
  | 91 => ⟨S8x128x256, .f32⟩
  | 92 => ⟨S256x8x128, .f32⟩
  | 93 => ⟨S8448x8x128, .f32⟩
  | 94 => ⟨S8192x8x128, .f32⟩
  | 95 => ⟨S256x8x128, .f32⟩
  | 96 => ⟨S8x128x256, .f32⟩
  | 97 => ⟨S8x256x256, .f32⟩
  | 98 => ⟨S8x128x256, .f32⟩
  | 99 => ⟨S256x8x128, .f32⟩
  | 100 => ⟨S8x256x256, .f32⟩
  | 101 => ⟨S8x256x256, .f32⟩
  | 102 => ⟨S8x256x256, .f32⟩
  | 103 => ⟨S_, .f32⟩
  | 104 => ⟨S8x256, .f32⟩
  | 105 => ⟨S8x256x1, .f32⟩
  | 106 => ⟨S8x256x1, .f32⟩
  | 107 => ⟨S8x256x256, .f32⟩
  | 108 => ⟨S8x256x256, .f32⟩
  | 109 => ⟨S_, .f32⟩
  | 110 => ⟨S8x256, .f32⟩
  | 111 => ⟨S8x256x256, .f32⟩
  | 112 => ⟨S8x256x256, .f32⟩
  | 113 => ⟨S8x256x256, .f32⟩
  | 114 => ⟨S8x256x256, .f32⟩
  | 115 => ⟨S256x8x256, .f32⟩
  | 116 => ⟨S8x256x256, .f32⟩
  | 117 => ⟨S256x8x256, .f32⟩
  | 118 => ⟨S_, .f32⟩
  | 119 => ⟨S8448x8x128, .f32⟩
  | 120 => ⟨S_, .f32⟩
  | 121 => ⟨S8448x8x256, .f32⟩
  | 122 => ⟨S_, .f32⟩
  | 123 => ⟨S8448x8x256, .f32⟩
  | 124 => ⟨S8x128x8192, .f32⟩
  | 125 => ⟨S8x8192x8448, .f32⟩
  | 126 => ⟨S8x128x8448, .f32⟩
  | 127 => ⟨S8448x8x128, .f32⟩
  | _ => ⟨S8448x8x256, .f32⟩

abbrev hbmTy0_1 (i : Nat) : BufTy := match i % 128 with
  | 0 => ⟨S8448x8x128, .f32⟩
  | 1 => ⟨S8x8192x8448, .f32⟩
  | 2 => ⟨S8x8192x8448, .f32⟩
  | 3 => ⟨S8x8192x8448, .f32⟩
  | 4 => ⟨S_, .f32⟩
  | 5 => ⟨S8x8192, .f32⟩
  | 6 => ⟨S8x8192x1, .f32⟩
  | 7 => ⟨S8x8192x1, .f32⟩
  | 8 => ⟨S8x8192x8448, .f32⟩
  | 9 => ⟨S8x8192x8448, .f32⟩
  | 10 => ⟨S_, .f32⟩
  | 11 => ⟨S8x8192, .f32⟩
  | 12 => ⟨S8x8192x8448, .f32⟩
  | 13 => ⟨S8x8192x8448, .f32⟩
  | 14 => ⟨S8x8192x8448, .f32⟩
  | 15 => ⟨S8x8448x256, .f32⟩
  | 16 => ⟨S8448x8x256, .f32⟩
  | 17 => ⟨S8448x8x256, .f32⟩
  | 18 => ⟨S8x8192x256, .f32⟩
  | 19 => ⟨S8192x8x256, .f32⟩
  | 20 => ⟨S_, .f32⟩
  | 21 => ⟨S8448x8x256, .f32⟩
  | 22 => ⟨S8448x8x256, .f32⟩
  | 23 => ⟨S8448x2048, .f32⟩
  | 24 => ⟨S8448x2048, .f32⟩
  | 25 => ⟨S8448x8x128, .bf16⟩
  | 26 => ⟨S8448x1024, .bf16⟩
  | _ => ⟨S8448x8x256, .f32⟩

abbrev hbmTy (i : Nat) : BufTy := match i / 128 with
  | 0 => hbmTy0_0 i
  | 1 => hbmTy0_1 i
  | _ => ⟨S8448x8x256, .f32⟩

abbrev bufTy : (tb : Table) → Fin (tcTables nBuf tb) → BufTy
  | .hbm, ⟨i, _⟩ => hbmTy i
  | _, _ => ⟨S8448x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_19 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_21 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_22 : Ref sig .tc := ⟨.hbm, 118, rfl⟩
abbrev main_v91 : Ref sig .tc := ⟨.hbm, 119, rfl⟩
abbrev main_cst_23 : Ref sig .tc := ⟨.hbm, 120, rfl⟩
abbrev main_v92 : Ref sig .tc := ⟨.hbm, 121, rfl⟩
abbrev main_cst_24 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_25 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_26 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_27 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩

abbrev nD : Nat := 1
abbrev τ : Topo := Topo.v7x

variable {F : FTy → Type} [FloatOps F]
-- ==== Fwd.lean ====
abbrev S8448x8x256 : Shape := ⟨3, ![8448, 8, 256]⟩
abbrev S8448x8x128 : Shape := ⟨3, ![8448, 8, 128]⟩
abbrev S8448x1024 : Shape := ⟨2, ![8448, 1024]⟩
abbrev S8448x2048 : Shape := ⟨2, ![8448, 2048]⟩
abbrev S_ : Shape := ⟨0, ![]⟩
abbrev S256x256 : Shape := ⟨2, ![256, 256]⟩
abbrev S8448x256 : Shape := ⟨2, ![8448, 256]⟩
abbrev S8448x128 : Shape := ⟨2, ![8448, 128]⟩
abbrev S256x128 : Shape := ⟨2, ![256, 128]⟩
abbrev S256x1 : Shape := ⟨2, ![256, 1]⟩
abbrev S1024x256 : Shape := ⟨2, ![1024, 256]⟩
abbrev S256x1024 : Shape := ⟨2, ![256, 1024]⟩
abbrev S256 : Shape := ⟨1, ![256]⟩
abbrev S1024x128 : Shape := ⟨2, ![1024, 128]⟩

abbrev nBuf : Space → Nat
  | .hbm => 21
  | .vmem => 12
  | .smem => 0
  | _ => 0

abbrev bufTy : (tb : Table) → Fin (tcTables nBuf tb) → BufTy
  | .hbm, ⟨0, _⟩ => ⟨S8448x8x256, .f32⟩
  | .hbm, ⟨1, _⟩ => ⟨S8448x8x256, .f32⟩
  | .hbm, ⟨2, _⟩ => ⟨S8448x8x128, .f32⟩
  | .hbm, ⟨3, _⟩ => ⟨S8448x8x128, .f32⟩
  | .hbm, ⟨4, _⟩ => ⟨S8448x1024, .f32⟩
  | .hbm, ⟨5, _⟩ => ⟨S8448x1024, .f32⟩
  | .hbm, ⟨6, _⟩ => ⟨S8448x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8448x8x256, .f32⟩
  | .hbm, ⟨12, _⟩ => ⟨S8448x8x256, .f32⟩
  | .hbm, ⟨13, _⟩ => ⟨S8448x8x256, .bf16⟩
  | .hbm, ⟨14, _⟩ => ⟨S8448x2048, .bf16⟩
  | .hbm, ⟨15, _⟩ => ⟨S8448x8x256, .bf16⟩
  | .hbm, ⟨16, _⟩ => ⟨S8448x2048, .bf16⟩
  | .hbm, ⟨17, _⟩ => ⟨S8448x2048, .bf16⟩
  | .hbm, ⟨18, _⟩ => ⟨S8448x1024, .f32⟩
  | .hbm, ⟨19, _⟩ => ⟨S8448x1024, .bf16⟩
  | .hbm, ⟨20, _⟩ => ⟨S8448x1024, .f32⟩
  | .local _ .vmem, ⟨0, _⟩ => ⟨S256x256, .bf16⟩
  | .local _ .vmem, ⟨1, _⟩ => ⟨S256x256, .bf16⟩
  | .local _ .vmem, ⟨2, _⟩ => ⟨S8448x256, .bf16⟩
  | .local _ .vmem, ⟨3, _⟩ => ⟨S8448x256, .bf16⟩
  | .local _ .vmem, ⟨4, _⟩ => ⟨S8448x128, .bf16⟩
  | .local _ .vmem, ⟨5, _⟩ => ⟨S8448x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | _, _ => ⟨S8448x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 33], ![false, false]⟩

@[reducible] def k0_t1_loop (i : grid0.Coords) : Scf.Loop 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_4 : BitVec 32 := 1#32
  ⟨c0_i32_3, v11, c1_i32_4⟩
def k0_mult1 (i : grid0.Coords) (k0_t1 : Fin (k0_t1_loop i).trips) : BitVec 32 :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  v48
def k0_mult2 (i : grid0.Coords) (k0_t1 : Fin (k0_t1_loop i).trips) : BitVec 32 :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  let v49 : BitVec 32 := v48
  let c0_i32_20 : BitVec 32 := 0#32
  let v50 : BitVec 32 := Scalar.addi v49 c0_i32_20
  v50
def k0_off1 (i : grid0.Coords) (k0_t1 : Fin (k0_t1_loop i).trips) (c0_i32_20 : BitVec 32) : Fin 2 → Nat :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  let v49 : BitVec 32 := v48
  let v50 : BitVec 32 := Scalar.addi v49 c0_i32_20
  let v51 : BitVec 32 := v50
  let v52 : Index := Scalar.indexCast v51
  let c0_21 : Index := 0#32
  ![v52.toNat, 0]
def k0_off2 (i : grid0.Coords) (k0_t1 : Fin (k0_t1_loop i).trips) (c0_i32_20 : BitVec 32) : Fin 2 → Nat :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  let v49 : BitVec 32 := v48
  let v50 : BitVec 32 := Scalar.addi v49 c0_i32_20
  let v51 : BitVec 32 := v50
  let v70 : Index := Scalar.indexCast v51
  let c0_25 : Index := 0#32
  ![v70.toNat, 0]
def k0_mult3 (i : grid0.Coords) (k0_t1 : Fin (k0_t1_loop i).trips) : BitVec 32 :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  let v49 : BitVec 32 := v48
  let c1024_i32 : BitVec 32 := 1024#32
  let v76 : BitVec 32 := Scalar.addi v49 c1024_i32
  v76
def k0_mult4 (i : grid0.Coords) (k0_t1 : Fin (k0_t1_loop i).trips) : BitVec 32 :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  let v49 : BitVec 32 := v48
  let c2048_i32 : BitVec 32 := 2048#32
  let v102 : BitVec 32 := Scalar.addi v49 c2048_i32
  v102
def k0_mult5 (i : grid0.Coords) (k0_t1 : Fin (k0_t1_loop i).trips) : BitVec 32 :=
  let c0_i32_3 : BitVec 32 := 0#32
  let c1_i32_4 : BitVec 32 := 1#32
  let arg8 : BitVec 32 := Scf.iv c0_i32_3 c1_i32_4 k0_t1
  let c4096_i32 : BitVec 32 := 4096#32
  let v48 : BitVec 32 := Scalar.muli arg8 c4096_i32
  let v49 : BitVec 32 := v48
  let c3072_i32 : BitVec 32 := 3072#32
  let v128 : BitVec 32 := Scalar.addi v49 c3072_i32
  v128
@[reducible] def k0_t2_loop (i : grid0.Coords) : Scf.Loop 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let v8 : BitVec 32 := Scalar.addi c0_i32_3 v7
  let c1_i32_5 : BitVec 32 := 1#32
  ⟨v11, v8, c1_i32_5⟩
def k0_mult6 (i : grid0.Coords) (k0_t2 : Fin (k0_t2_loop i).trips) : BitVec 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  v48
def k0_mult7 (i : grid0.Coords) (k0_t2 : Fin (k0_t2_loop i).trips) : BitVec 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  let v49 : BitVec 32 := v48
  let c0_i32_20 : BitVec 32 := 0#32
  let v50 : BitVec 32 := Scalar.addi v49 c0_i32_20
  v50
def k0_off3 (i : grid0.Coords) (k0_t2 : Fin (k0_t2_loop i).trips) (c0_i32_20 : BitVec 32) : Fin 2 → Nat :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  let v49 : BitVec 32 := v48
  let v50 : BitVec 32 := Scalar.addi v49 c0_i32_20
  let v51 : BitVec 32 := v50
  let v52 : Index := Scalar.indexCast v51
  let c0_21 : Index := 0#32
  ![v52.toNat, 0]
def k0_off4 (i : grid0.Coords) (k0_t2 : Fin (k0_t2_loop i).trips) (c0_i32_20 : BitVec 32) : Fin 2 → Nat :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  let v49 : BitVec 32 := v48
  let v50 : BitVec 32 := Scalar.addi v49 c0_i32_20
  let v51 : BitVec 32 := v50
  let v70 : Index := Scalar.indexCast v51
  let c0_25 : Index := 0#32
  ![v70.toNat, 0]
def k0_mult8 (i : grid0.Coords) (k0_t2 : Fin (k0_t2_loop i).trips) : BitVec 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  let v49 : BitVec 32 := v48
  let c1024_i32 : BitVec 32 := 1024#32
  let v76 : BitVec 32 := Scalar.addi v49 c1024_i32
  v76
def k0_mult9 (i : grid0.Coords) (k0_t2 : Fin (k0_t2_loop i).trips) : BitVec 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  let v49 : BitVec 32 := v48
  let c2048_i32 : BitVec 32 := 2048#32
  let v102 : BitVec 32 := Scalar.addi v49 c2048_i32
  v102
def k0_mult10 (i : grid0.Coords) (k0_t2 : Fin (k0_t2_loop i).trips) : BitVec 32 :=
  let c0_i32_3 : BitVec 32 := 0#32
  let arg1 : BitVec 32 := BitVec.ofNat 32 (i 1).val
  let c32_i32 : BitVec 32 := 32#32
  let v5 : BitVec 1 := Scalar.cmpi .slt arg1 c32_i32
  let c2_i32 : BitVec 32 := 2#32
  let c0_i32 : BitVec 32 := 0#32
  let v6 : BitVec 32 := Scalar.select v5 c2_i32 c0_i32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg8 : BitVec 32 := Scf.iv v11 c1_i32_5 k0_t2
  let c4096_i32 : BitVec 32 := 4096#32
  let v48 : BitVec 32 := Scalar.muli arg8 c4096_i32
  let v49 : BitVec 32 := v48
  let c3072_i32 : BitVec 32 := 3072#32
  let v128 : BitVec 32 := Scalar.addi v49 c3072_i32
  v128
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdIdeal.lean ====
variable {F : FTy → Type} [FloatOps F] [Named F]
def κ : String → Option EReal := fun
  | "ln2" => some ((Real.log 2 : ℝ) : EReal)
  | _ => none
-- ==== FwdRefIdeal.lean ====
abbrev S8448x8x256 : Shape := ⟨3, ![8448, 8, 256]⟩
abbrev S8448x8x128 : Shape := ⟨3, ![8448, 8, 128]⟩
abbrev S_ : Shape := ⟨0, ![]⟩
abbrev S8192x8x256 : Shape := ⟨3, ![8192, 8, 256]⟩
abbrev S8x8192x8448 : Shape := ⟨3, ![8, 8192, 8448]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S8448x1024 : Shape := ⟨2, ![8448, 1024]⟩
abbrev S8x8448x8192 : Shape := ⟨3, ![8, 8448, 8192]⟩
abbrev S8192x8x8448 : Shape := ⟨3, ![8192, 8, 8448]⟩
abbrev S8192x8 : Shape := ⟨2, ![8192, 8]⟩
abbrev S256x8 : Shape := ⟨2, ![256, 8]⟩
abbrev S8448x8 : Shape := ⟨2, ![8448, 8]⟩
abbrev S8448x8x1 : Shape := ⟨3, ![8448, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S8448x8x256, .f32⟩
  | .hbm, ⟨1, _⟩ => ⟨S8448x8x256, .f32⟩
  | .hbm, ⟨2, _⟩ => ⟨S8448x8x128, .f32⟩
  | .hbm, ⟨3, _⟩ => ⟨S_, .f32⟩
  | .hbm, ⟨4, _⟩ => ⟨S8448x8x256, .f32⟩
  | .hbm, ⟨5, _⟩ => ⟨S8448x8x256, .f32⟩
  | .hbm, ⟨6, _⟩ => ⟨S8192x8x256, .f32⟩
  | .hbm, ⟨7, _⟩ => ⟨S8x8192x8448, .f32⟩
  | .hbm, ⟨8, _⟩ => ⟨S_, .f32⟩
  | .hbm, ⟨9, _⟩ => ⟨S8x8192, .f32⟩
  | .hbm, ⟨10, _⟩ => ⟨S_, .f32⟩
  | .hbm, ⟨11, _⟩ => ⟨S8x8192, .f32⟩
  | .hbm, ⟨12, _⟩ => ⟨S8x8192, .f32⟩
  | .hbm, ⟨13, _⟩ => ⟨S8x8192x1, .f32⟩
  | .hbm, ⟨14, _⟩ => ⟨S8x8192x8448, .f32⟩
  | .hbm, ⟨15, _⟩ => ⟨S8x8192x8448, .f32⟩
  | .hbm, ⟨16, _⟩ => ⟨S8x8192x8448, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x8448, .f32⟩
  | .hbm, ⟨21, _⟩ => ⟨S8x8192x8448, .f32⟩
  | .hbm, ⟨22, _⟩ => ⟨S8x128x8192, .f32⟩
  | .hbm, ⟨23, _⟩ => ⟨S8192x8x128, .f32⟩
  | .hbm, ⟨24, _⟩ => ⟨S256x8x256, .f32⟩
  | .hbm, ⟨25, _⟩ => ⟨S256x8x256, .f32⟩
  | .hbm, ⟨26, _⟩ => ⟨S256x8x128, .f32⟩
  | .hbm, ⟨27, _⟩ => ⟨S8x256x256, .f32⟩
  | .hbm, ⟨28, _⟩ => ⟨S_, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256x1, .f32⟩
  | .hbm, ⟨34, _⟩ => ⟨S8x256x256, .f32⟩
  | .hbm, ⟨35, _⟩ => ⟨S8x256x256, .f32⟩
  | .hbm, ⟨36, _⟩ => ⟨S8x256x256, .f32⟩
  | .hbm, ⟨37, _⟩ => ⟨S_, .f32⟩
  | .hbm, ⟨38, _⟩ => ⟨S8x256, .f32⟩
  | .hbm, ⟨39, _⟩ => ⟨S8x256x1, .f32⟩
  | .hbm, ⟨40, _⟩ => ⟨S8x256x256, .f32⟩
  | .hbm, ⟨41, _⟩ => ⟨S8x256x256, .f32⟩
  | .hbm, ⟨42, _⟩ => ⟨S8x128x256, .f32⟩
  | .hbm, ⟨43, _⟩ => ⟨S256x8x128, .f32⟩
  | .hbm, ⟨44, _⟩ => ⟨S8448x8x128, .f32⟩
  | .hbm, ⟨45, _⟩ => ⟨S8448x1024, .f32⟩
  | .hbm, ⟨46, _⟩ => ⟨S8192x8x256, .f32⟩
  | .hbm, ⟨47, _⟩ => ⟨S8x8448x8192, .f32⟩
  | .hbm, ⟨48, _⟩ => ⟨S8192x8x8448, .f32⟩
  | .hbm, ⟨49, _⟩ => ⟨S8192x8x8448, .f32⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S_, .f32⟩
  | .hbm, ⟨54, _⟩ => ⟨S_, .f32⟩
  | .hbm, ⟨55, _⟩ => ⟨S8192x8, .f32⟩
  | .hbm, ⟨56, _⟩ => ⟨S8192x8, .f32⟩
  | .hbm, ⟨57, _⟩ => ⟨S256x8x256, .f32⟩
  | .hbm, ⟨58, _⟩ => ⟨S256x8x256, .f32⟩
  | .hbm, ⟨59, _⟩ => ⟨S8x256x256, .f32⟩
  | .hbm, ⟨60, _⟩ => ⟨S256x8x256, .f32⟩
  | .hbm, ⟨61, _⟩ => ⟨S256x8x256, .f32⟩
  | .hbm, ⟨62, _⟩ => ⟨S_, .f32⟩
  | .hbm, ⟨63, _⟩ => ⟨S256x8, .f32⟩
  | .hbm, ⟨64, _⟩ => ⟨S256x8, .f32⟩
  | .hbm, ⟨65, _⟩ => ⟨S_, .f32⟩
  | .hbm, ⟨66, _⟩ => ⟨S_, .f32⟩
  | .hbm, ⟨67, _⟩ => ⟨S256x8, .f32⟩
  | .hbm, ⟨68, _⟩ => ⟨S256x8, .f32⟩
  | .hbm, ⟨69, _⟩ => ⟨S8448x8, .f32⟩
  | .hbm, ⟨70, _⟩ => ⟨S8448x1024, .bf16⟩
  | .hbm, ⟨71, _⟩ => ⟨S8448x8x1, .f32⟩
  | .hbm, ⟨72, _⟩ => ⟨S8448x8x128, .f32⟩
  | .hbm, ⟨73, _⟩ => ⟨S8448x1024, .f32⟩
  | _, _ => ⟨S8448x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== UpDw.lean ====
abbrev S8448x2048 : Shape := ⟨2, ![8448, 2048]⟩
abbrev S8448x5632 : Shape := ⟨2, ![8448, 5632]⟩
abbrev S2048x5632 : Shape := ⟨2, ![2048, 5632]⟩
abbrev S2816x512 : Shape := ⟨2, ![2816, 512]⟩
abbrev S2816x1408 : Shape := ⟨2, ![2816, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x5632, .f32⟩
  | .hbm, ⟨2, _⟩ => ⟨S8448x2048, .bf16⟩
  | .hbm, ⟨3, _⟩ => ⟨S8448x5632, .bf16⟩
  | .hbm, ⟨4, _⟩ => ⟨S2048x5632, .bf16⟩
  | .local _ .vmem, ⟨0, _⟩ => ⟨S2816x512, .bf16⟩
  | .local _ .vmem, ⟨1, _⟩ => ⟨S2816x512, .bf16⟩
  | .local _ .vmem, ⟨2, _⟩ => ⟨S2816x1408, .bf16⟩
  | .local _ .vmem, ⟨3, _⟩ => ⟨S2816x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8448x2048 : Shape := ⟨2, ![8448, 2048]⟩
abbrev S8448x5632 : Shape := ⟨2, ![8448, 5632]⟩
abbrev S5632x2048 : Shape := ⟨2, ![5632, 2048]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x5632, .f32⟩
  | .hbm, ⟨2, _⟩ => ⟨S5632x2048, .f32⟩
  | .hbm, ⟨3, _⟩ => ⟨S2048x5632, .f32⟩
  | .hbm, ⟨4, _⟩ => ⟨S2048x5632, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S8448x5632 : Shape := ⟨2, ![8448, 5632]⟩
abbrev S2048x11264 : Shape := ⟨2, ![2048, 11264]⟩
abbrev S2048x5632 : Shape := ⟨2, ![2048, 5632]⟩
abbrev S8448x2048 : Shape := ⟨2, ![8448, 2048]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8448x5632, .f32⟩
  | .hbm, ⟨1, _⟩ => ⟨S8448x5632, .f32⟩
  | .hbm, ⟨2, _⟩ => ⟨S2048x11264, .f32⟩
  | .hbm, ⟨3, _⟩ => ⟨S2048x11264, .bf16⟩
  | .hbm, ⟨4, _⟩ => ⟨S8448x5632, .bf16⟩
  | .hbm, ⟨5, _⟩ => ⟨S2048x5632, .bf16⟩
  | .hbm, ⟨6, _⟩ => ⟨S8448x5632, .bf16⟩
  | .hbm, ⟨7, _⟩ => ⟨S2048x5632, .bf16⟩
  | .hbm, ⟨8, _⟩ => ⟨S8448x2048, .f32⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S1024x2816, .bf16⟩
  | .local _ .vmem, ⟨4, _⟩ => ⟨S768x2816, .bf16⟩
  | .local _ .vmem, ⟨5, _⟩ => ⟨S768x2816, .bf16⟩
  | .local _ .vmem, ⟨6, _⟩ => ⟨S1024x2816, .bf16⟩
  | .local _ .vmem, ⟨7, _⟩ => ⟨S1024x2816, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpDxRefIdeal.lean ====
abbrev S8448x5632 : Shape := ⟨2, ![8448, 5632]⟩
abbrev S2048x11264 : Shape := ⟨2, ![2048, 11264]⟩
abbrev S8448x11264 : Shape := ⟨2, ![8448, 11264]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x5632, .f32⟩
  | .hbm, ⟨2, _⟩ => ⟨S2048x11264, .f32⟩
  | .hbm, ⟨3, _⟩ => ⟨S8448x11264, .f32⟩
  | .hbm, ⟨4, _⟩ => ⟨S8448x2048, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownDx.lean ====
abbrev S8448x2048 : Shape := ⟨2, ![8448, 2048]⟩
abbrev S5632x2048 : Shape := ⟨2, ![5632, 2048]⟩
abbrev S8448x5632 : Shape := ⟨2, ![8448, 5632]⟩
abbrev S768x2048 : Shape := ⟨2, ![768, 2048]⟩
abbrev S1408x2048 : Shape := ⟨2, ![1408, 2048]⟩
abbrev S768x1408 : Shape := ⟨2, ![768, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S5632x2048, .f32⟩
  | .hbm, ⟨2, _⟩ => ⟨S8448x2048, .bf16⟩
  | .hbm, ⟨3, _⟩ => ⟨S5632x2048, .bf16⟩
  | .hbm, ⟨4, _⟩ => ⟨S8448x5632, .f32⟩
  | .local _ .vmem, ⟨0, _⟩ => ⟨S768x2048, .bf16⟩
  | .local _ .vmem, ⟨1, _⟩ => ⟨S768x2048, .bf16⟩
  | .local _ .vmem, ⟨2, _⟩ => ⟨S1408x2048, .bf16⟩
  | .local _ .vmem, ⟨3, _⟩ => ⟨S1408x2048, .bf16⟩
  | .local _ .vmem, ⟨4, _⟩ => ⟨S768x1408, .f32⟩
  | .local _ .vmem, ⟨5, _⟩ => ⟨S768x1408, .f32⟩
  | .local _ .vmem, ⟨6, _⟩ => ⟨S768x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8448x2048 : Shape := ⟨2, ![8448, 2048]⟩
abbrev S5632x2048 : Shape := ⟨2, ![5632, 2048]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S5632x2048, .f32⟩
  | .hbm, ⟨2, _⟩ => ⟨S8448x5632, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDw.lean ====
abbrev S8448x5632 : Shape := ⟨2, ![8448, 5632]⟩
abbrev S8448x2048 : Shape := ⟨2, ![8448, 2048]⟩
abbrev S5632x2048 : Shape := ⟨2, ![5632, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S8448x5632, .bf16⟩
  | .hbm, ⟨3, _⟩ => ⟨S8448x2048, .bf16⟩
  | .hbm, ⟨4, _⟩ => ⟨S5632x2048, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8448x5632 : Shape := ⟨2, ![8448, 5632]⟩
abbrev S8448x2048 : Shape := ⟨2, ![8448, 2048]⟩
abbrev S2048x5632 : Shape := ⟨2, ![2048, 5632]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S2048x5632, .f32⟩
  | .hbm, ⟨3, _⟩ => ⟨S5632x2048, .f32⟩
  | .hbm, ⟨4, _⟩ => ⟨S5632x2048, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S8448x2048 : Shape := ⟨2, ![8448, 2048]⟩
abbrev S2048x11264 : Shape := ⟨2, ![2048, 11264]⟩
abbrev S8448x11264 : Shape := ⟨2, ![8448, 11264]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x2048, .bf16⟩
  | .hbm, ⟨3, _⟩ => ⟨S2048x11264, .bf16⟩
  | .hbm, ⟨4, _⟩ => ⟨S8448x11264, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8448x2048 : Shape := ⟨2, ![8448, 2048]⟩
abbrev S2048x11264 : Shape := ⟨2, ![2048, 11264]⟩
abbrev S8448x11264 : Shape := ⟨2, ![8448, 11264]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down.lean ====
abbrev S8448x5632 : Shape := ⟨2, ![8448, 5632]⟩
abbrev S5632x2048 : Shape := ⟨2, ![5632, 2048]⟩
abbrev S8448x2048 : Shape := ⟨2, ![8448, 2048]⟩
abbrev S768x2816 : Shape := ⟨2, ![768, 2816]⟩
abbrev S2816x1024 : Shape := ⟨2, ![2816, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x5632, .bf16⟩
  | .hbm, ⟨3, _⟩ => ⟨S5632x2048, .bf16⟩
  | .hbm, ⟨4, _⟩ => ⟨S8448x2048, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S2816x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InA.lean ====
abbrev S8448x2048 : Shape := ⟨2, ![8448, 2048]⟩
abbrev S2048x4096 : Shape := ⟨2, ![2048, 4096]⟩
abbrev S8448x4096 : Shape := ⟨2, ![8448, 4096]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x4096, .f32⟩
  | .hbm, ⟨2, _⟩ => ⟨S8448x2048, .bf16⟩
  | .hbm, ⟨3, _⟩ => ⟨S2048x4096, .bf16⟩
  | .hbm, ⟨4, _⟩ => ⟨S8448x4096, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAIdeal.lean ====
abbrev S8448x2048 : Shape := ⟨2, ![8448, 2048]⟩
abbrev S2048x4096 : Shape := ⟨2, ![2048, 4096]⟩
abbrev S8448x4096 : Shape := ⟨2, ![8448, 4096]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x4096, .f32⟩
  | .hbm, ⟨2, _⟩ => ⟨S8448x2048, .bf16⟩
  | .hbm, ⟨3, _⟩ => ⟨S2048x4096, .bf16⟩
  | .hbm, ⟨4, _⟩ => ⟨S8448x4096, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S8448x2048 : Shape := ⟨2, ![8448, 2048]⟩
abbrev S2048x4096 : Shape := ⟨2, ![2048, 4096]⟩
abbrev S8448x4096 : Shape := ⟨2, ![8448, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x4096, .f32⟩
  | .hbm, ⟨2, _⟩ => ⟨S8448x4096, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InADx.lean ====
abbrev S8448x4096 : Shape := ⟨2, ![8448, 4096]⟩
abbrev S2048x4096 : Shape := ⟨2, ![2048, 4096]⟩
abbrev S8448x2048 : Shape := ⟨2, ![8448, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S2048x4096, .f32⟩
  | .hbm, ⟨2, _⟩ => ⟨S8448x4096, .bf16⟩
  | .hbm, ⟨3, _⟩ => ⟨S2048x4096, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADxIdeal.lean ====
abbrev S8448x4096 : Shape := ⟨2, ![8448, 4096]⟩
abbrev S2048x4096 : Shape := ⟨2, ![2048, 4096]⟩
abbrev S8448x2048 : Shape := ⟨2, ![8448, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S2048x4096, .f32⟩
  | .hbm, ⟨2, _⟩ => ⟨S8448x4096, .bf16⟩
  | .hbm, ⟨3, _⟩ => ⟨S2048x4096, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADxRefIdeal.lean ====
abbrev S8448x4096 : Shape := ⟨2, ![8448, 4096]⟩
abbrev S2048x4096 : Shape := ⟨2, ![2048, 4096]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S2048x4096, .f32⟩
  | .hbm, ⟨2, _⟩ => ⟨S8448x2048, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InADw.lean ====
abbrev S8448x2048 : Shape := ⟨2, ![8448, 2048]⟩
abbrev S8448x4096 : Shape := ⟨2, ![8448, 4096]⟩
abbrev S2048x4096 : Shape := ⟨2, ![2048, 4096]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x4096, .f32⟩
  | .hbm, ⟨2, _⟩ => ⟨S8448x2048, .bf16⟩
  | .hbm, ⟨3, _⟩ => ⟨S8448x4096, .bf16⟩
  | .hbm, ⟨4, _⟩ => ⟨S2048x4096, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADwIdeal.lean ====
abbrev S8448x2048 : Shape := ⟨2, ![8448, 2048]⟩
abbrev S8448x4096 : Shape := ⟨2, ![8448, 4096]⟩
abbrev S2048x4096 : Shape := ⟨2, ![2048, 4096]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x4096, .f32⟩
  | .hbm, ⟨2, _⟩ => ⟨S8448x2048, .bf16⟩
  | .hbm, ⟨3, _⟩ => ⟨S8448x4096, .bf16⟩
  | .hbm, ⟨4, _⟩ => ⟨S2048x4096, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADwRefIdeal.lean ====
abbrev S8448x2048 : Shape := ⟨2, ![8448, 2048]⟩
abbrev S8448x4096 : Shape := ⟨2, ![8448, 4096]⟩
abbrev S4096x2048 : Shape := ⟨2, ![4096, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x4096, .f32⟩
  | .hbm, ⟨2, _⟩ => ⟨S4096x2048, .f32⟩
  | .hbm, ⟨3, _⟩ => ⟨S2048x4096, .f32⟩
  | .hbm, ⟨4, _⟩ => ⟨S2048x4096, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InB.lean ====
abbrev S8448x2048 : Shape := ⟨2, ![8448, 2048]⟩
abbrev S2048x6272 : Shape := ⟨2, ![2048, 6272]⟩
abbrev S8448x6272 : Shape := ⟨2, ![8448, 6272]⟩
abbrev S768x2048 : Shape := ⟨2, ![768, 2048]⟩
abbrev S2048x896 : Shape := ⟨2, ![2048, 896]⟩
abbrev S768x896 : Shape := ⟨2, ![768, 896]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x6272, .f32⟩
  | .hbm, ⟨2, _⟩ => ⟨S8448x2048, .bf16⟩
  | .hbm, ⟨3, _⟩ => ⟨S2048x6272, .bf16⟩
  | .hbm, ⟨4, _⟩ => ⟨S8448x6272, .f32⟩
  | .local _ .vmem, ⟨0, _⟩ => ⟨S768x2048, .bf16⟩
  | .local _ .vmem, ⟨1, _⟩ => ⟨S768x2048, .bf16⟩
  | .local _ .vmem, ⟨2, _⟩ => ⟨S2048x896, .bf16⟩
  | .local _ .vmem, ⟨3, _⟩ => ⟨S2048x896, .bf16⟩
  | .local _ .vmem, ⟨4, _⟩ => ⟨S768x896, .f32⟩
  | .local _ .vmem, ⟨5, _⟩ => ⟨S768x896, .f32⟩
  | .local _ .vmem, ⟨6, _⟩ => ⟨S768x896, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBIdeal.lean ====
abbrev S8448x2048 : Shape := ⟨2, ![8448, 2048]⟩
abbrev S2048x6272 : Shape := ⟨2, ![2048, 6272]⟩
abbrev S8448x6272 : Shape := ⟨2, ![8448, 6272]⟩
abbrev S768x2048 : Shape := ⟨2, ![768, 2048]⟩
abbrev S2048x896 : Shape := ⟨2, ![2048, 896]⟩
abbrev S768x896 : Shape := ⟨2, ![768, 896]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x6272, .f32⟩
  | .hbm, ⟨2, _⟩ => ⟨S8448x2048, .bf16⟩
  | .hbm, ⟨3, _⟩ => ⟨S2048x6272, .bf16⟩
  | .hbm, ⟨4, _⟩ => ⟨S8448x6272, .f32⟩
  | .local _ .vmem, ⟨0, _⟩ => ⟨S768x2048, .bf16⟩
  | .local _ .vmem, ⟨1, _⟩ => ⟨S768x2048, .bf16⟩
  | .local _ .vmem, ⟨2, _⟩ => ⟨S2048x896, .bf16⟩
  | .local _ .vmem, ⟨3, _⟩ => ⟨S2048x896, .bf16⟩
  | .local _ .vmem, ⟨4, _⟩ => ⟨S768x896, .f32⟩
  | .local _ .vmem, ⟨5, _⟩ => ⟨S768x896, .f32⟩
  | .local _ .vmem, ⟨6, _⟩ => ⟨S768x896, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S8448x2048 : Shape := ⟨2, ![8448, 2048]⟩
abbrev S2048x6272 : Shape := ⟨2, ![2048, 6272]⟩
abbrev S8448x6272 : Shape := ⟨2, ![8448, 6272]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x6272, .f32⟩
  | .hbm, ⟨2, _⟩ => ⟨S8448x6272, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InBDx.lean ====
abbrev S8448x6272 : Shape := ⟨2, ![8448, 6272]⟩
abbrev S2048x6272 : Shape := ⟨2, ![2048, 6272]⟩
abbrev S8448x2048 : Shape := ⟨2, ![8448, 2048]⟩
abbrev S768x896 : Shape := ⟨2, ![768, 896]⟩
abbrev S1024x896 : Shape := ⟨2, ![1024, 896]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x6272, .f32⟩
  | .hbm, ⟨1, _⟩ => ⟨S2048x6272, .f32⟩
  | .hbm, ⟨2, _⟩ => ⟨S8448x6272, .bf16⟩
  | .hbm, ⟨3, _⟩ => ⟨S2048x6272, .bf16⟩
  | .hbm, ⟨4, _⟩ => ⟨S8448x2048, .f32⟩
  | .local _ .vmem, ⟨0, _⟩ => ⟨S768x896, .bf16⟩
  | .local _ .vmem, ⟨1, _⟩ => ⟨S768x896, .bf16⟩
  | .local _ .vmem, ⟨2, _⟩ => ⟨S1024x896, .bf16⟩
  | .local _ .vmem, ⟨3, _⟩ => ⟨S1024x896, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 7], ![false, false, false]⟩

def k0_cond3 (i : grid0.Coords) : BitVec 1 :=
  let arg2 : BitVec 32 := BitVec.ofNat 32 (i 2).val
  let c6_i32_3 : BitVec 32 := 6#32
  let v8 : BitVec 1 := Scalar.cmpi .eq arg2 c6_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBDxIdeal.lean ====
abbrev S8448x6272 : Shape := ⟨2, ![8448, 6272]⟩
abbrev S2048x6272 : Shape := ⟨2, ![2048, 6272]⟩
abbrev S8448x2048 : Shape := ⟨2, ![8448, 2048]⟩
abbrev S768x896 : Shape := ⟨2, ![768, 896]⟩
abbrev S1024x896 : Shape := ⟨2, ![1024, 896]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x6272, .f32⟩
  | .hbm, ⟨1, _⟩ => ⟨S2048x6272, .f32⟩
  | .hbm, ⟨2, _⟩ => ⟨S8448x6272, .bf16⟩
  | .hbm, ⟨3, _⟩ => ⟨S2048x6272, .bf16⟩
  | .hbm, ⟨4, _⟩ => ⟨S8448x2048, .f32⟩
  | .local _ .vmem, ⟨0, _⟩ => ⟨S768x896, .bf16⟩
  | .local _ .vmem, ⟨1, _⟩ => ⟨S768x896, .bf16⟩
  | .local _ .vmem, ⟨2, _⟩ => ⟨S1024x896, .bf16⟩
  | .local _ .vmem, ⟨3, _⟩ => ⟨S1024x896, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 7], ![false, false, false]⟩

def k0_cond3 (i : grid0.Coords) : BitVec 1 :=
  let arg2 : BitVec 32 := BitVec.ofNat 32 (i 2).val
  let c6_i32_3 : BitVec 32 := 6#32
  let v8 : BitVec 1 := Scalar.cmpi .eq arg2 c6_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBDxRefIdeal.lean ====
abbrev S8448x6272 : Shape := ⟨2, ![8448, 6272]⟩
abbrev S2048x6272 : Shape := ⟨2, ![2048, 6272]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x6272, .f32⟩
  | .hbm, ⟨1, _⟩ => ⟨S2048x6272, .f32⟩
  | .hbm, ⟨2, _⟩ => ⟨S8448x2048, .f32⟩
  | _, _ => ⟨S8448x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InBDw.lean ====
abbrev S8448x2048 : Shape := ⟨2, ![8448, 2048]⟩
abbrev S8448x6272 : Shape := ⟨2, ![8448, 6272]⟩
abbrev S2048x6272 : Shape := ⟨2, ![2048, 6272]⟩
abbrev S2816x512 : Shape := ⟨2, ![2816, 512]⟩
abbrev S2816x896 : Shape := ⟨2, ![2816, 896]⟩
abbrev S512x896 : Shape := ⟨2, ![512, 896]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x6272, .f32⟩
  | .hbm, ⟨2, _⟩ => ⟨S8448x2048, .bf16⟩
  | .hbm, ⟨3, _⟩ => ⟨S8448x6272, .bf16⟩
  | .hbm, ⟨4, _⟩ => ⟨S2048x6272, .bf16⟩
  | .local _ .vmem, ⟨0, _⟩ => ⟨S2816x512, .bf16⟩
  | .local _ .vmem, ⟨1, _⟩ => ⟨S2816x512, .bf16⟩
  | .local _ .vmem, ⟨2, _⟩ => ⟨S2816x896, .bf16⟩
  | .local _ .vmem, ⟨3, _⟩ => ⟨S2816x896, .bf16⟩
  | .local _ .vmem, ⟨4, _⟩ => ⟨S512x896, .bf16⟩
  | .local _ .vmem, ⟨5, _⟩ => ⟨S512x896, .bf16⟩
  | .local _ .vmem, ⟨6, _⟩ => ⟨S512x896, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBDwIdeal.lean ====
abbrev S8448x2048 : Shape := ⟨2, ![8448, 2048]⟩
abbrev S8448x6272 : Shape := ⟨2, ![8448, 6272]⟩
abbrev S2048x6272 : Shape := ⟨2, ![2048, 6272]⟩
abbrev S2816x512 : Shape := ⟨2, ![2816, 512]⟩
abbrev S2816x896 : Shape := ⟨2, ![2816, 896]⟩
abbrev S512x896 : Shape := ⟨2, ![512, 896]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x6272, .f32⟩
  | .hbm, ⟨2, _⟩ => ⟨S8448x2048, .bf16⟩
  | .hbm, ⟨3, _⟩ => ⟨S8448x6272, .bf16⟩
  | .hbm, ⟨4, _⟩ => ⟨S2048x6272, .bf16⟩
  | .local _ .vmem, ⟨0, _⟩ => ⟨S2816x512, .bf16⟩
  | .local _ .vmem, ⟨1, _⟩ => ⟨S2816x512, .bf16⟩
  | .local _ .vmem, ⟨2, _⟩ => ⟨S2816x896, .bf16⟩
  | .local _ .vmem, ⟨3, _⟩ => ⟨S2816x896, .bf16⟩
  | .local _ .vmem, ⟨4, _⟩ => ⟨S512x896, .bf16⟩
  | .local _ .vmem, ⟨5, _⟩ => ⟨S512x896, .bf16⟩
  | .local _ .vmem, ⟨6, _⟩ => ⟨S512x896, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBDwRefIdeal.lean ====
abbrev S8448x2048 : Shape := ⟨2, ![8448, 2048]⟩
abbrev S8448x6272 : Shape := ⟨2, ![8448, 6272]⟩
abbrev S6272x2048 : Shape := ⟨2, ![6272, 2048]⟩
abbrev S2048x6272 : Shape := ⟨2, ![2048, 6272]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x6272, .f32⟩
  | .hbm, ⟨2, _⟩ => ⟨S6272x2048, .f32⟩
  | .hbm, ⟨3, _⟩ => ⟨S2048x6272, .f32⟩
  | .hbm, ⟨4, _⟩ => ⟨S2048x6272, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .bf16⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .bf16⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8448x2048 : Shape := ⟨2, ![8448, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S8448x2048 : Shape := ⟨2, ![8448, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .bf16⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8448x2048 : Shape := ⟨2, ![8448, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .bf16⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8448x2048 : Shape := ⟨2, ![8448, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDw.lean ====
abbrev S8448x2048 : Shape := ⟨2, ![8448, 2048]⟩
abbrev S2048x2048 : Shape := ⟨2, ![2048, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .bf16⟩
  | .hbm, ⟨3, _⟩ => ⟨S8448x2048, .bf16⟩
  | .hbm, ⟨4, _⟩ => ⟨S2048x2048, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S8448x2048 : Shape := ⟨2, ![8448, 2048]⟩
abbrev S2048x2048 : Shape := ⟨2, ![2048, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .bf16⟩
  | .hbm, ⟨3, _⟩ => ⟨S8448x2048, .bf16⟩
  | .hbm, ⟨4, _⟩ => ⟨S2048x2048, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8448x2048 : Shape := ⟨2, ![8448, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qb.lean ====
abbrev S8448x512 : Shape := ⟨2, ![8448, 512]⟩
abbrev S512x2048 : Shape := ⟨2, ![512, 2048]⟩
abbrev S8448x2048 : Shape := ⟨2, ![8448, 2048]⟩
abbrev S768x512 : Shape := ⟨2, ![768, 512]⟩
abbrev S512x1024 : Shape := ⟨2, ![512, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x512, .bf16⟩
  | .hbm, ⟨3, _⟩ => ⟨S512x2048, .bf16⟩
  | .hbm, ⟨4, _⟩ => ⟨S8448x2048, .f32⟩
  | .local _ .vmem, ⟨0, _⟩ => ⟨S768x512, .bf16⟩
  | .local _ .vmem, ⟨1, _⟩ => ⟨S768x512, .bf16⟩
  | .local _ .vmem, ⟨2, _⟩ => ⟨S512x1024, .bf16⟩
  | .local _ .vmem, ⟨3, _⟩ => ⟨S512x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbIdeal.lean ====
abbrev S8448x512 : Shape := ⟨2, ![8448, 512]⟩
abbrev S512x2048 : Shape := ⟨2, ![512, 2048]⟩
abbrev S8448x2048 : Shape := ⟨2, ![8448, 2048]⟩
abbrev S768x512 : Shape := ⟨2, ![768, 512]⟩
abbrev S512x1024 : Shape := ⟨2, ![512, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x512, .bf16⟩
  | .hbm, ⟨3, _⟩ => ⟨S512x2048, .bf16⟩
  | .hbm, ⟨4, _⟩ => ⟨S8448x2048, .f32⟩
  | .local _ .vmem, ⟨0, _⟩ => ⟨S768x512, .bf16⟩
  | .local _ .vmem, ⟨1, _⟩ => ⟨S768x512, .bf16⟩
  | .local _ .vmem, ⟨2, _⟩ => ⟨S512x1024, .bf16⟩
  | .local _ .vmem, ⟨3, _⟩ => ⟨S512x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbRefIdeal.lean ====
abbrev S8448x512 : Shape := ⟨2, ![8448, 512]⟩
abbrev S512x2048 : Shape := ⟨2, ![512, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QbDx.lean ====
abbrev S8448x2048 : Shape := ⟨2, ![8448, 2048]⟩
abbrev S512x2048 : Shape := ⟨2, ![512, 2048]⟩
abbrev S8448x512 : Shape := ⟨2, ![8448, 512]⟩
abbrev S768x2048 : Shape := ⟨2, ![768, 2048]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S512x2048, .f32⟩
  | .hbm, ⟨2, _⟩ => ⟨S8448x2048, .bf16⟩
  | .hbm, ⟨3, _⟩ => ⟨S512x2048, .bf16⟩
  | .hbm, ⟨4, _⟩ => ⟨S8448x512, .f32⟩
  | .local _ .vmem, ⟨0, _⟩ => ⟨S768x2048, .bf16⟩
  | .local _ .vmem, ⟨1, _⟩ => ⟨S768x2048, .bf16⟩
  | .local _ .vmem, ⟨2, _⟩ => ⟨S512x2048, .bf16⟩
  | .local _ .vmem, ⟨3, _⟩ => ⟨S768x512, .f32⟩
  | .local _ .vmem, ⟨4, _⟩ => ⟨S768x512, .f32⟩
  | .local _ .vmem, ⟨5, _⟩ => ⟨S768x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDxIdeal.lean ====
abbrev S8448x2048 : Shape := ⟨2, ![8448, 2048]⟩
abbrev S512x2048 : Shape := ⟨2, ![512, 2048]⟩
abbrev S8448x512 : Shape := ⟨2, ![8448, 512]⟩
abbrev S768x2048 : Shape := ⟨2, ![768, 2048]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S512x2048, .f32⟩
  | .hbm, ⟨2, _⟩ => ⟨S8448x2048, .bf16⟩
  | .hbm, ⟨3, _⟩ => ⟨S512x2048, .bf16⟩
  | .hbm, ⟨4, _⟩ => ⟨S8448x512, .f32⟩
  | .local _ .vmem, ⟨0, _⟩ => ⟨S768x2048, .bf16⟩
  | .local _ .vmem, ⟨1, _⟩ => ⟨S768x2048, .bf16⟩
  | .local _ .vmem, ⟨2, _⟩ => ⟨S512x2048, .bf16⟩
  | .local _ .vmem, ⟨3, _⟩ => ⟨S768x512, .f32⟩
  | .local _ .vmem, ⟨4, _⟩ => ⟨S768x512, .f32⟩
  | .local _ .vmem, ⟨5, _⟩ => ⟨S768x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDxRefIdeal.lean ====
abbrev S8448x2048 : Shape := ⟨2, ![8448, 2048]⟩
abbrev S512x2048 : Shape := ⟨2, ![512, 2048]⟩
abbrev S8448x512 : Shape := ⟨2, ![8448, 512]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S512x2048, .f32⟩
  | .hbm, ⟨2, _⟩ => ⟨S8448x512, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QbDw.lean ====
abbrev S8448x512 : Shape := ⟨2, ![8448, 512]⟩
abbrev S8448x2048 : Shape := ⟨2, ![8448, 2048]⟩
abbrev S512x2048 : Shape := ⟨2, ![512, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S8448x2048, .f32⟩
  | .hbm, ⟨2, _⟩ => ⟨S8448x512, .bf16⟩
  | .hbm, ⟨3, _⟩ => ⟨S8448x2048, .bf16⟩
  | .hbm, ⟨4, _⟩ => ⟨S512x2048, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDwIdeal.lean ====
abbrev S8448x512 : Shape := ⟨2, ![8448, 512]⟩
abbrev S8448x2048 : Shape := ⟨2, ![8448, 2048]⟩
abbrev S512x2048 : Shape := ⟨2, ![512, 2048]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S8448x2048, .f32⟩
  | .hbm, ⟨2, _⟩ => ⟨S8448x512, .bf16⟩
  | .hbm, ⟨3, _⟩ => ⟨S8448x2048, .bf16⟩
  | .hbm, ⟨4, _⟩ => ⟨S512x2048, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDwRefIdeal.lean ====
abbrev S8448x512 : Shape := ⟨2, ![8448, 512]⟩
abbrev S8448x2048 : Shape := ⟨2, ![8448, 2048]⟩
abbrev S2048x512 : Shape := ⟨2, ![2048, 512]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x2048, .f32⟩
  | .hbm, ⟨2, _⟩ => ⟨S2048x512, .f32⟩
  | .hbm, ⟨3, _⟩ => ⟨S512x2048, .f32⟩
  | .hbm, ⟨4, _⟩ => ⟨S512x2048, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kvb.lean ====
abbrev S8448x256 : Shape := ⟨2, ![8448, 256]⟩
abbrev S256x2048 : Shape := ⟨2, ![256, 2048]⟩
abbrev S8448x2048 : Shape := ⟨2, ![8448, 2048]⟩
abbrev S768x256 : Shape := ⟨2, ![768, 256]⟩
abbrev S256x1024 : Shape := ⟨2, ![256, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x256, .bf16⟩
  | .hbm, ⟨3, _⟩ => ⟨S256x2048, .bf16⟩
  | .hbm, ⟨4, _⟩ => ⟨S8448x2048, .bf16⟩
  | .local _ .vmem, ⟨0, _⟩ => ⟨S768x256, .bf16⟩
  | .local _ .vmem, ⟨1, _⟩ => ⟨S768x256, .bf16⟩
  | .local _ .vmem, ⟨2, _⟩ => ⟨S256x1024, .bf16⟩
  | .local _ .vmem, ⟨3, _⟩ => ⟨S256x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbRefIdeal.lean ====
abbrev S8448x256 : Shape := ⟨2, ![8448, 256]⟩
abbrev S256x2048 : Shape := ⟨2, ![256, 2048]⟩
abbrev S8448x2048 : Shape := ⟨2, ![8448, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .bf16⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvbDx.lean ====
abbrev S8448x2048 : Shape := ⟨2, ![8448, 2048]⟩
abbrev S256x2048 : Shape := ⟨2, ![256, 2048]⟩
abbrev S8448x256 : Shape := ⟨2, ![8448, 256]⟩
abbrev S768x2048 : Shape := ⟨2, ![768, 2048]⟩
abbrev S768x256 : Shape := ⟨2, ![768, 256]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S256x2048, .f32⟩
  | .hbm, ⟨2, _⟩ => ⟨S8448x2048, .bf16⟩
  | .hbm, ⟨3, _⟩ => ⟨S256x2048, .bf16⟩
  | .hbm, ⟨4, _⟩ => ⟨S8448x256, .f32⟩
  | .local _ .vmem, ⟨0, _⟩ => ⟨S768x2048, .bf16⟩
  | .local _ .vmem, ⟨1, _⟩ => ⟨S768x2048, .bf16⟩
  | .local _ .vmem, ⟨2, _⟩ => ⟨S256x2048, .bf16⟩
  | .local _ .vmem, ⟨3, _⟩ => ⟨S768x256, .f32⟩
  | .local _ .vmem, ⟨4, _⟩ => ⟨S768x256, .f32⟩
  | .local _ .vmem, ⟨5, _⟩ => ⟨S768x256, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbDxRefIdeal.lean ====
abbrev S8448x2048 : Shape := ⟨2, ![8448, 2048]⟩
abbrev S256x2048 : Shape := ⟨2, ![256, 2048]⟩
abbrev S8448x256 : Shape := ⟨2, ![8448, 256]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S256x2048, .f32⟩
  | .hbm, ⟨2, _⟩ => ⟨S8448x256, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KvbDw.lean ====
abbrev S8448x256 : Shape := ⟨2, ![8448, 256]⟩
abbrev S8448x2048 : Shape := ⟨2, ![8448, 2048]⟩
abbrev S256x2048 : Shape := ⟨2, ![256, 2048]⟩
abbrev S2816x256 : Shape := ⟨2, ![2816, 256]⟩
abbrev S2816x1024 : Shape := ⟨2, ![2816, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x256, .f32⟩
  | .hbm, ⟨1, _⟩ => ⟨S8448x2048, .f32⟩
  | .hbm, ⟨2, _⟩ => ⟨S8448x256, .bf16⟩
  | .hbm, ⟨3, _⟩ => ⟨S8448x2048, .bf16⟩
  | .hbm, ⟨4, _⟩ => ⟨S256x2048, .bf16⟩
  | .local _ .vmem, ⟨0, _⟩ => ⟨S2816x256, .bf16⟩
  | .local _ .vmem, ⟨1, _⟩ => ⟨S2816x256, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvbDwRefIdeal.lean ====
abbrev S8448x256 : Shape := ⟨2, ![8448, 256]⟩
abbrev S8448x2048 : Shape := ⟨2, ![8448, 2048]⟩
abbrev S2048x256 : Shape := ⟨2, ![2048, 256]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S8448x2048, .f32⟩
  | .hbm, ⟨2, _⟩ => ⟨S2048x256, .f32⟩
  | .hbm, ⟨3, _⟩ => ⟨S256x2048, .f32⟩
  | .hbm, ⟨4, _⟩ => ⟨S256x2048, .bf16⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StepUp.lean ====
abbrev S8x2048x1408 : Shape := ⟨3, ![8, 2048, 1408]⟩
abbrev S2048x1408 : Shape := ⟨2, ![2048, 1408]⟩
abbrev S8x64x1408 : Shape := ⟨3, ![8, 64, 1408]⟩
abbrev S64x1408 : Shape := ⟨2, ![64, 1408]⟩
abbrev S1x64x1408 : Shape := ⟨3, ![1, 64, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x64x1408, .bf16⟩
  | .local _ .vmem, ⟨1, _⟩ => ⟨S8x64x1408, .bf16⟩
  | .local _ .vmem, ⟨2, _⟩ => ⟨S64x1408, .f32⟩
  | .local _ .vmem, ⟨3, _⟩ => ⟨S64x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | .local _ .vmem, ⟨14, _⟩ => ⟨S64x1408, .f32⟩
  | .local _ .vmem, ⟨15, _⟩ => ⟨S64x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpIdeal.lean ====
abbrev S8x2048x1408 : Shape := ⟨3, ![8, 2048, 1408]⟩
abbrev S2048x1408 : Shape := ⟨2, ![2048, 1408]⟩
abbrev S8x64x1408 : Shape := ⟨3, ![8, 64, 1408]⟩
abbrev S64x1408 : Shape := ⟨2, ![64, 1408]⟩
abbrev S1x64x1408 : Shape := ⟨3, ![1, 64, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x64x1408, .bf16⟩
  | .local _ .vmem, ⟨1, _⟩ => ⟨S8x64x1408, .bf16⟩
  | .local _ .vmem, ⟨2, _⟩ => ⟨S64x1408, .f32⟩
  | .local _ .vmem, ⟨3, _⟩ => ⟨S64x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | .local _ .vmem, ⟨14, _⟩ => ⟨S64x1408, .f32⟩
  | .local _ .vmem, ⟨15, _⟩ => ⟨S64x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpRefIdeal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepDown.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownIdeal.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownRefIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepInA.lean ====
abbrev S8x2048x488 : Shape := ⟨3, ![8, 2048, 488]⟩
abbrev S2048x488 : Shape := ⟨2, ![2048, 488]⟩
abbrev S8x64x488 : Shape := ⟨3, ![8, 64, 488]⟩
abbrev S64x488 : Shape := ⟨2, ![64, 488]⟩
abbrev S1x64x488 : Shape := ⟨3, ![1, 64, 488]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x488, .bf16⟩
  | .hbm, ⟨1, _⟩ => ⟨S2048x488, .f32⟩
  | .hbm, ⟨2, _⟩ => ⟨S2048x488, .f32⟩
  | .hbm, ⟨3, _⟩ => ⟨S2048x488, .f32⟩
  | .hbm, ⟨4, _⟩ => ⟨S2048x488, .f32⟩
  | .hbm, ⟨5, _⟩ => ⟨S2048x488, .f32⟩
  | .hbm, ⟨6, _⟩ => ⟨S2048x488, .f32⟩
  | .hbm, ⟨7, _⟩ => ⟨S2048x488, .f32⟩
  | .local _ .vmem, ⟨0, _⟩ => ⟨S8x64x488, .bf16⟩
  | .local _ .vmem, ⟨1, _⟩ => ⟨S8x64x488, .bf16⟩
  | .local _ .vmem, ⟨2, _⟩ => ⟨S64x488, .f32⟩
  | .local _ .vmem, ⟨3, _⟩ => ⟨S64x488, .f32⟩
  | .local _ .vmem, ⟨4, _⟩ => ⟨S64x488, .f32⟩
  | .local _ .vmem, ⟨5, _⟩ => ⟨S64x488, .f32⟩
  | .local _ .vmem, ⟨6, _⟩ => ⟨S64x488, .f32⟩
  | .local _ .vmem, ⟨7, _⟩ => ⟨S64x488, .f32⟩
  | .local _ .vmem, ⟨8, _⟩ => ⟨S64x488, .f32⟩
  | .local _ .vmem, ⟨9, _⟩ => ⟨S64x488, .f32⟩
  | .local _ .vmem, ⟨10, _⟩ => ⟨S64x488, .f32⟩
  | .local _ .vmem, ⟨11, _⟩ => ⟨S64x488, .f32⟩
  | .local _ .vmem, ⟨12, _⟩ => ⟨S64x488, .f32⟩
  | .local _ .vmem, ⟨13, _⟩ => ⟨S64x488, .f32⟩
  | .local _ .vmem, ⟨14, _⟩ => ⟨S64x488, .f32⟩
  | .local _ .vmem, ⟨15, _⟩ => ⟨S64x488, .f32⟩
  | _, _ => ⟨S8x2048x488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x488 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x488 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInAIdeal.lean ====
abbrev S8x2048x488 : Shape := ⟨3, ![8, 2048, 488]⟩
abbrev S2048x488 : Shape := ⟨2, ![2048, 488]⟩
abbrev S8x64x488 : Shape := ⟨3, ![8, 64, 488]⟩
abbrev S64x488 : Shape := ⟨2, ![64, 488]⟩
abbrev S1x64x488 : Shape := ⟨3, ![1, 64, 488]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x488, .bf16⟩
  | .hbm, ⟨1, _⟩ => ⟨S2048x488, .f32⟩
  | .hbm, ⟨2, _⟩ => ⟨S2048x488, .f32⟩
  | .hbm, ⟨3, _⟩ => ⟨S2048x488, .f32⟩
  | .hbm, ⟨4, _⟩ => ⟨S2048x488, .f32⟩
  | .hbm, ⟨5, _⟩ => ⟨S2048x488, .f32⟩
  | .hbm, ⟨6, _⟩ => ⟨S2048x488, .f32⟩
  | .hbm, ⟨7, _⟩ => ⟨S2048x488, .f32⟩
  | .local _ .vmem, ⟨0, _⟩ => ⟨S8x64x488, .bf16⟩
  | .local _ .vmem, ⟨1, _⟩ => ⟨S8x64x488, .bf16⟩
  | .local _ .vmem, ⟨2, _⟩ => ⟨S64x488, .f32⟩
  | .local _ .vmem, ⟨3, _⟩ => ⟨S64x488, .f32⟩
  | .local _ .vmem, ⟨4, _⟩ => ⟨S64x488, .f32⟩
  | .local _ .vmem, ⟨5, _⟩ => ⟨S64x488, .f32⟩
  | .local _ .vmem, ⟨6, _⟩ => ⟨S64x488, .f32⟩
  | .local _ .vmem, ⟨7, _⟩ => ⟨S64x488, .f32⟩
  | .local _ .vmem, ⟨8, _⟩ => ⟨S64x488, .f32⟩
  | .local _ .vmem, ⟨9, _⟩ => ⟨S64x488, .f32⟩
  | .local _ .vmem, ⟨10, _⟩ => ⟨S64x488, .f32⟩
  | .local _ .vmem, ⟨11, _⟩ => ⟨S64x488, .f32⟩
  | .local _ .vmem, ⟨12, _⟩ => ⟨S64x488, .f32⟩
  | .local _ .vmem, ⟨13, _⟩ => ⟨S64x488, .f32⟩
  | .local _ .vmem, ⟨14, _⟩ => ⟨S64x488, .f32⟩
  | .local _ .vmem, ⟨15, _⟩ => ⟨S64x488, .f32⟩
  | _, _ => ⟨S8x2048x488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x488 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x488 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInARefIdeal.lean ====
abbrev S8x2048x488 : Shape := ⟨3, ![8, 2048, 488]⟩
abbrev S2048x488 : Shape := ⟨2, ![2048, 488]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x488, .bf16⟩
  | .hbm, ⟨1, _⟩ => ⟨S2048x488, .f32⟩
  | .hbm, ⟨2, _⟩ => ⟨S2048x488, .f32⟩
  | .hbm, ⟨3, _⟩ => ⟨S2048x488, .f32⟩
  | .hbm, ⟨4, _⟩ => ⟨S8x2048x488, .f32⟩
  | .hbm, ⟨5, _⟩ => ⟨S_, .f32⟩
  | .hbm, ⟨6, _⟩ => ⟨S2048x488, .f32⟩
  | .hbm, ⟨7, _⟩ => ⟨S_, .f32⟩
  | .hbm, ⟨8, _⟩ => ⟨S2048x488, .f32⟩
  | .hbm, ⟨9, _⟩ => ⟨S2048x488, .f32⟩
  | .hbm, ⟨10, _⟩ => ⟨S_, .f32⟩
  | .hbm, ⟨11, _⟩ => ⟨S2048x488, .f32⟩
  | .hbm, ⟨12, _⟩ => ⟨S2048x488, .f32⟩
  | .hbm, ⟨13, _⟩ => ⟨S2048x488, .f32⟩
  | .hbm, ⟨14, _⟩ => ⟨S_, .f32⟩
  | .hbm, ⟨15, _⟩ => ⟨S2048x488, .f32⟩
  | .hbm, ⟨16, _⟩ => ⟨S2048x488, .f32⟩
  | .hbm, ⟨17, _⟩ => ⟨S2048x488, .f32⟩
  | .hbm, ⟨18, _⟩ => ⟨S_, .f32⟩
  | .hbm, ⟨19, _⟩ => ⟨S2048x488, .f32⟩
  | .hbm, ⟨20, _⟩ => ⟨S2048x488, .f32⟩
  | .hbm, ⟨21, _⟩ => ⟨S2048x488, .f32⟩
  | .hbm, ⟨22, _⟩ => ⟨S_, .f32⟩
  | .hbm, ⟨23, _⟩ => ⟨S2048x488, .f32⟩
  | .hbm, ⟨24, _⟩ => ⟨S2048x488, .f32⟩
  | .hbm, ⟨25, _⟩ => ⟨S_, .f32⟩
  | .hbm, ⟨26, _⟩ => ⟨S2048x488, .f32⟩
  | .hbm, ⟨27, _⟩ => ⟨S2048x488, .f32⟩
  | .hbm, ⟨28, _⟩ => ⟨S2048x488, .f32⟩
  | .hbm, ⟨29, _⟩ => ⟨S_, .f32⟩
  | .hbm, ⟨30, _⟩ => ⟨S2048x488, .f32⟩
  | .hbm, ⟨31, _⟩ => ⟨S2048x488, .f32⟩
  | .hbm, ⟨32, _⟩ => ⟨S2048x488, .f32⟩
  | .hbm, ⟨33, _⟩ => ⟨S_, .f32⟩
  | .hbm, ⟨34, _⟩ => ⟨S2048x488, .f32⟩
  | .hbm, ⟨35, _⟩ => ⟨S2048x488, .f32⟩
  | .hbm, ⟨36, _⟩ => ⟨S2048x488, .f32⟩
  | .hbm, ⟨37, _⟩ => ⟨S_, .f32⟩
  | .hbm, ⟨38, _⟩ => ⟨S2048x488, .f32⟩
  | .hbm, ⟨39, _⟩ => ⟨S2048x488, .f32⟩
  | _, _ => ⟨S8x2048x488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepInB.lean ====
abbrev S8x2048x772 : Shape := ⟨3, ![8, 2048, 772]⟩
abbrev S2048x772 : Shape := ⟨2, ![2048, 772]⟩
abbrev S8x64x772 : Shape := ⟨3, ![8, 64, 772]⟩
abbrev S64x772 : Shape := ⟨2, ![64, 772]⟩
abbrev S1x64x772 : Shape := ⟨3, ![1, 64, 772]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x772, .bf16⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .local _ .vmem, ⟨0, _⟩ => ⟨S8x64x772, .bf16⟩
  | .local _ .vmem, ⟨1, _⟩ => ⟨S8x64x772, .bf16⟩
  | .local _ .vmem, ⟨2, _⟩ => ⟨S64x772, .f32⟩
  | .local _ .vmem, ⟨3, _⟩ => ⟨S64x772, .f32⟩
  | .local _ .vmem, ⟨4, _⟩ => ⟨S64x772, .f32⟩
  | .local _ .vmem, ⟨5, _⟩ => ⟨S64x772, .f32⟩
  | .local _ .vmem, ⟨6, _⟩ => ⟨S64x772, .f32⟩
  | .local _ .vmem, ⟨7, _⟩ => ⟨S64x772, .f32⟩
  | .local _ .vmem, ⟨8, _⟩ => ⟨S64x772, .f32⟩
  | .local _ .vmem, ⟨9, _⟩ => ⟨S64x772, .f32⟩
  | .local _ .vmem, ⟨10, _⟩ => ⟨S64x772, .f32⟩
  | .local _ .vmem, ⟨11, _⟩ => ⟨S64x772, .f32⟩
  | .local _ .vmem, ⟨12, _⟩ => ⟨S64x772, .f32⟩
  | .local _ .vmem, ⟨13, _⟩ => ⟨S64x772, .f32⟩
  | .local _ .vmem, ⟨14, _⟩ => ⟨S64x772, .f32⟩
  | .local _ .vmem, ⟨15, _⟩ => ⟨S64x772, .f32⟩
  | _, _ => ⟨S8x2048x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInBIdeal.lean ====
abbrev S8x2048x772 : Shape := ⟨3, ![8, 2048, 772]⟩
abbrev S2048x772 : Shape := ⟨2, ![2048, 772]⟩
abbrev S8x64x772 : Shape := ⟨3, ![8, 64, 772]⟩
abbrev S64x772 : Shape := ⟨2, ![64, 772]⟩
abbrev S1x64x772 : Shape := ⟨3, ![1, 64, 772]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x772, .bf16⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .local _ .vmem, ⟨0, _⟩ => ⟨S8x64x772, .bf16⟩
  | .local _ .vmem, ⟨1, _⟩ => ⟨S8x64x772, .bf16⟩
  | .local _ .vmem, ⟨2, _⟩ => ⟨S64x772, .f32⟩
  | .local _ .vmem, ⟨3, _⟩ => ⟨S64x772, .f32⟩
  | .local _ .vmem, ⟨4, _⟩ => ⟨S64x772, .f32⟩
  | .local _ .vmem, ⟨5, _⟩ => ⟨S64x772, .f32⟩
  | .local _ .vmem, ⟨6, _⟩ => ⟨S64x772, .f32⟩
  | .local _ .vmem, ⟨7, _⟩ => ⟨S64x772, .f32⟩
  | .local _ .vmem, ⟨8, _⟩ => ⟨S64x772, .f32⟩
  | .local _ .vmem, ⟨9, _⟩ => ⟨S64x772, .f32⟩
  | .local _ .vmem, ⟨10, _⟩ => ⟨S64x772, .f32⟩
  | .local _ .vmem, ⟨11, _⟩ => ⟨S64x772, .f32⟩
  | .local _ .vmem, ⟨12, _⟩ => ⟨S64x772, .f32⟩
  | .local _ .vmem, ⟨13, _⟩ => ⟨S64x772, .f32⟩
  | .local _ .vmem, ⟨14, _⟩ => ⟨S64x772, .f32⟩
  | .local _ .vmem, ⟨15, _⟩ => ⟨S64x772, .f32⟩
  | _, _ => ⟨S8x2048x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInBRefIdeal.lean ====
abbrev S8x2048x772 : Shape := ⟨3, ![8, 2048, 772]⟩
abbrev S2048x772 : Shape := ⟨2, ![2048, 772]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x772, .bf16⟩
  | .hbm, ⟨1, _⟩ => ⟨S2048x772, .f32⟩
  | .hbm, ⟨2, _⟩ => ⟨S2048x772, .f32⟩
  | .hbm, ⟨3, _⟩ => ⟨S2048x772, .f32⟩
  | .hbm, ⟨4, _⟩ => ⟨S8x2048x772, .f32⟩
  | .hbm, ⟨5, _⟩ => ⟨S_, .f32⟩
  | .hbm, ⟨6, _⟩ => ⟨S2048x772, .f32⟩
  | .hbm, ⟨7, _⟩ => ⟨S_, .f32⟩
  | .hbm, ⟨8, _⟩ => ⟨S2048x772, .f32⟩
  | .hbm, ⟨9, _⟩ => ⟨S2048x772, .f32⟩
  | .hbm, ⟨10, _⟩ => ⟨S_, .f32⟩
  | .hbm, ⟨11, _⟩ => ⟨S2048x772, .f32⟩
  | .hbm, ⟨12, _⟩ => ⟨S2048x772, .f32⟩
  | .hbm, ⟨13, _⟩ => ⟨S2048x772, .f32⟩
  | .hbm, ⟨14, _⟩ => ⟨S_, .f32⟩
  | .hbm, ⟨15, _⟩ => ⟨S2048x772, .f32⟩
  | .hbm, ⟨16, _⟩ => ⟨S2048x772, .f32⟩
  | .hbm, ⟨17, _⟩ => ⟨S2048x772, .f32⟩
  | .hbm, ⟨18, _⟩ => ⟨S_, .f32⟩
  | .hbm, ⟨19, _⟩ => ⟨S2048x772, .f32⟩
  | .hbm, ⟨20, _⟩ => ⟨S2048x772, .f32⟩
  | .hbm, ⟨21, _⟩ => ⟨S2048x772, .f32⟩
  | .hbm, ⟨22, _⟩ => ⟨S_, .f32⟩
  | .hbm, ⟨23, _⟩ => ⟨S2048x772, .f32⟩
  | .hbm, ⟨24, _⟩ => ⟨S2048x772, .f32⟩
  | .hbm, ⟨25, _⟩ => ⟨S_, .f32⟩
  | .hbm, ⟨26, _⟩ => ⟨S2048x772, .f32⟩
  | .hbm, ⟨27, _⟩ => ⟨S2048x772, .f32⟩
  | .hbm, ⟨28, _⟩ => ⟨S2048x772, .f32⟩
  | .hbm, ⟨29, _⟩ => ⟨S_, .f32⟩
  | .hbm, ⟨30, _⟩ => ⟨S2048x772, .f32⟩
  | .hbm, ⟨31, _⟩ => ⟨S2048x772, .f32⟩
  | .hbm, ⟨32, _⟩ => ⟨S2048x772, .f32⟩
  | .hbm, ⟨33, _⟩ => ⟨S_, .f32⟩
  | .hbm, ⟨34, _⟩ => ⟨S2048x772, .f32⟩
  | .hbm, ⟨35, _⟩ => ⟨S2048x772, .f32⟩
  | .hbm, ⟨36, _⟩ => ⟨S2048x772, .f32⟩
  | .hbm, ⟨37, _⟩ => ⟨S_, .f32⟩
  | .hbm, ⟨38, _⟩ => ⟨S2048x772, .f32⟩
  | .hbm, ⟨39, _⟩ => ⟨S2048x772, .f32⟩
  | _, _ => ⟨S8x2048x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepOut.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutIdeal.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepQb.lean ====
abbrev S8x512x192 : Shape := ⟨3, ![8, 512, 192]⟩
abbrev S512x192 : Shape := ⟨2, ![512, 192]⟩
abbrev S8x64x192 : Shape := ⟨3, ![8, 64, 192]⟩
abbrev S64x192 : Shape := ⟨2, ![64, 192]⟩
abbrev S1x64x192 : Shape := ⟨3, ![1, 64, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x512x192, .bf16⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S512x192, .f32⟩
  | .hbm, ⟨5, _⟩ => ⟨S512x192, .f32⟩
  | .hbm, ⟨6, _⟩ => ⟨S512x192, .f32⟩
  | .hbm, ⟨7, _⟩ => ⟨S512x192, .f32⟩
  | .local _ .vmem, ⟨0, _⟩ => ⟨S8x64x192, .bf16⟩
  | .local _ .vmem, ⟨1, _⟩ => ⟨S8x64x192, .bf16⟩
  | .local _ .vmem, ⟨2, _⟩ => ⟨S64x192, .f32⟩
  | .local _ .vmem, ⟨3, _⟩ => ⟨S64x192, .f32⟩
  | .local _ .vmem, ⟨4, _⟩ => ⟨S64x192, .f32⟩
  | .local _ .vmem, ⟨5, _⟩ => ⟨S64x192, .f32⟩
  | .local _ .vmem, ⟨6, _⟩ => ⟨S64x192, .f32⟩
  | .local _ .vmem, ⟨7, _⟩ => ⟨S64x192, .f32⟩
  | .local _ .vmem, ⟨8, _⟩ => ⟨S64x192, .f32⟩
  | .local _ .vmem, ⟨9, _⟩ => ⟨S64x192, .f32⟩
  | .local _ .vmem, ⟨10, _⟩ => ⟨S64x192, .f32⟩
  | .local _ .vmem, ⟨11, _⟩ => ⟨S64x192, .f32⟩
  | .local _ .vmem, ⟨12, _⟩ => ⟨S64x192, .f32⟩
  | .local _ .vmem, ⟨13, _⟩ => ⟨S64x192, .f32⟩
  | .local _ .vmem, ⟨14, _⟩ => ⟨S64x192, .f32⟩
  | .local _ .vmem, ⟨15, _⟩ => ⟨S64x192, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepQbIdeal.lean ====
abbrev S8x512x192 : Shape := ⟨3, ![8, 512, 192]⟩
abbrev S512x192 : Shape := ⟨2, ![512, 192]⟩
abbrev S8x64x192 : Shape := ⟨3, ![8, 64, 192]⟩
abbrev S64x192 : Shape := ⟨2, ![64, 192]⟩
abbrev S1x64x192 : Shape := ⟨3, ![1, 64, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x512x192, .bf16⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S512x192, .f32⟩
  | .hbm, ⟨5, _⟩ => ⟨S512x192, .f32⟩
  | .hbm, ⟨6, _⟩ => ⟨S512x192, .f32⟩
  | .hbm, ⟨7, _⟩ => ⟨S512x192, .f32⟩
  | .local _ .vmem, ⟨0, _⟩ => ⟨S8x64x192, .bf16⟩
  | .local _ .vmem, ⟨1, _⟩ => ⟨S8x64x192, .bf16⟩
  | .local _ .vmem, ⟨2, _⟩ => ⟨S64x192, .f32⟩
  | .local _ .vmem, ⟨3, _⟩ => ⟨S64x192, .f32⟩
  | .local _ .vmem, ⟨4, _⟩ => ⟨S64x192, .f32⟩
  | .local _ .vmem, ⟨5, _⟩ => ⟨S64x192, .f32⟩
  | .local _ .vmem, ⟨6, _⟩ => ⟨S64x192, .f32⟩
  | .local _ .vmem, ⟨7, _⟩ => ⟨S64x192, .f32⟩
  | .local _ .vmem, ⟨8, _⟩ => ⟨S64x192, .f32⟩
  | .local _ .vmem, ⟨9, _⟩ => ⟨S64x192, .f32⟩
  | .local _ .vmem, ⟨10, _⟩ => ⟨S64x192, .f32⟩
  | .local _ .vmem, ⟨11, _⟩ => ⟨S64x192, .f32⟩
  | .local _ .vmem, ⟨12, _⟩ => ⟨S64x192, .f32⟩
  | .local _ .vmem, ⟨13, _⟩ => ⟨S64x192, .f32⟩
  | .local _ .vmem, ⟨14, _⟩ => ⟨S64x192, .f32⟩
  | .local _ .vmem, ⟨15, _⟩ => ⟨S64x192, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepQbRefIdeal.lean ====
abbrev S8x512x192 : Shape := ⟨3, ![8, 512, 192]⟩
abbrev S512x192 : Shape := ⟨2, ![512, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x192, .bf16⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S8x512x192, .f32⟩
  | .hbm, ⟨5, _⟩ => ⟨S_, .f32⟩
  | .hbm, ⟨6, _⟩ => ⟨S512x192, .f32⟩
  | .hbm, ⟨7, _⟩ => ⟨S_, .f32⟩
  | .hbm, ⟨8, _⟩ => ⟨S512x192, .f32⟩
  | .hbm, ⟨9, _⟩ => ⟨S512x192, .f32⟩
  | .hbm, ⟨10, _⟩ => ⟨S_, .f32⟩
  | .hbm, ⟨11, _⟩ => ⟨S512x192, .f32⟩
  | .hbm, ⟨12, _⟩ => ⟨S512x192, .f32⟩
  | .hbm, ⟨13, _⟩ => ⟨S512x192, .f32⟩
  | .hbm, ⟨14, _⟩ => ⟨S_, .f32⟩
  | .hbm, ⟨15, _⟩ => ⟨S512x192, .f32⟩
  | .hbm, ⟨16, _⟩ => ⟨S512x192, .f32⟩
  | .hbm, ⟨17, _⟩ => ⟨S512x192, .f32⟩
  | .hbm, ⟨18, _⟩ => ⟨S_, .f32⟩
  | .hbm, ⟨19, _⟩ => ⟨S512x192, .f32⟩
  | .hbm, ⟨20, _⟩ => ⟨S512x192, .f32⟩
  | .hbm, ⟨21, _⟩ => ⟨S512x192, .f32⟩
  | .hbm, ⟨22, _⟩ => ⟨S_, .f32⟩
  | .hbm, ⟨23, _⟩ => ⟨S512x192, .f32⟩
  | .hbm, ⟨24, _⟩ => ⟨S512x192, .f32⟩
  | .hbm, ⟨25, _⟩ => ⟨S_, .f32⟩
  | .hbm, ⟨26, _⟩ => ⟨S512x192, .f32⟩
  | .hbm, ⟨27, _⟩ => ⟨S512x192, .f32⟩
  | .hbm, ⟨28, _⟩ => ⟨S512x192, .f32⟩
  | .hbm, ⟨29, _⟩ => ⟨S_, .f32⟩
  | .hbm, ⟨30, _⟩ => ⟨S512x192, .f32⟩
  | .hbm, ⟨31, _⟩ => ⟨S512x192, .f32⟩
  | .hbm, ⟨32, _⟩ => ⟨S512x192, .f32⟩
  | .hbm, ⟨33, _⟩ => ⟨S_, .f32⟩
  | .hbm, ⟨34, _⟩ => ⟨S512x192, .f32⟩
  | .hbm, ⟨35, _⟩ => ⟨S512x192, .f32⟩
  | .hbm, ⟨36, _⟩ => ⟨S512x192, .f32⟩
  | .hbm, ⟨37, _⟩ => ⟨S_, .f32⟩
  | .hbm, ⟨38, _⟩ => ⟨S512x192, .f32⟩
  | .hbm, ⟨39, _⟩ => ⟨S512x192, .f32⟩
  | _, _ => ⟨S8x512x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepKvb.lean ====
abbrev S8x256x256 : Shape := ⟨3, ![8, 256, 256]⟩
abbrev S256x256 : Shape := ⟨2, ![256, 256]⟩
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x64x256, .bf16⟩
  | .local _ .vmem, ⟨1, _⟩ => ⟨S8x64x256, .bf16⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepKvbIdeal.lean ====
abbrev S8x256x256 : Shape := ⟨3, ![8, 256, 256]⟩
abbrev S256x256 : Shape := ⟨2, ![256, 256]⟩
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x64x256, .bf16⟩
  | .local _ .vmem, ⟨1, _⟩ => ⟨S8x64x256, .bf16⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepKvbRefIdeal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepAda.lean ====
abbrev S1x2048x1536 : Shape := ⟨3, ![1, 2048, 1536]⟩
abbrev S2048x1536 : Shape := ⟨2, ![2048, 1536]⟩
abbrev S1x64x1536 : Shape := ⟨3, ![1, 64, 1536]⟩
abbrev S64x1536 : Shape := ⟨2, ![64, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S1x64x1536, .f32⟩
  | .local _ .vmem, ⟨1, _⟩ => ⟨S1x64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | .local _ .vmem, ⟨14, _⟩ => ⟨S64x1536, .f32⟩
  | .local _ .vmem, ⟨15, _⟩ => ⟨S64x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaIdeal.lean ====
abbrev S1x2048x1536 : Shape := ⟨3, ![1, 2048, 1536]⟩
abbrev S2048x1536 : Shape := ⟨2, ![2048, 1536]⟩
abbrev S1x64x1536 : Shape := ⟨3, ![1, 64, 1536]⟩
abbrev S64x1536 : Shape := ⟨2, ![64, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S1x64x1536, .f32⟩
  | .local _ .vmem, ⟨1, _⟩ => ⟨S1x64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | .local _ .vmem, ⟨14, _⟩ => ⟨S64x1536, .f32⟩
  | .local _ .vmem, ⟨15, _⟩ => ⟨S64x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaRefIdeal.lean ====
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S_, .f32⟩
  | .hbm, ⟨7, _⟩ => ⟨S2048x1536, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepSmall.lean ====
abbrev S1x592x128 : Shape := ⟨3, ![1, 592, 128]⟩
abbrev S592x128 : Shape := ⟨2, ![592, 128]⟩
abbrev S1x16x128 : Shape := ⟨3, ![1, 16, 128]⟩
abbrev S16x128 : Shape := ⟨2, ![16, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x592x128, .f32⟩
  | .hbm, ⟨1, _⟩ => ⟨S592x128, .f32⟩
  | .hbm, ⟨2, _⟩ => ⟨S592x128, .f32⟩
  | .hbm, ⟨3, _⟩ => ⟨S592x128, .f32⟩
  | .hbm, ⟨4, _⟩ => ⟨S592x128, .f32⟩
  | .hbm, ⟨5, _⟩ => ⟨S592x128, .f32⟩
  | .hbm, ⟨6, _⟩ => ⟨S592x128, .f32⟩
  | .hbm, ⟨7, _⟩ => ⟨S592x128, .f32⟩
  | .local _ .vmem, ⟨0, _⟩ => ⟨S1x16x128, .f32⟩
  | .local _ .vmem, ⟨1, _⟩ => ⟨S1x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S1x592x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![37], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepSmallIdeal.lean ====
abbrev S1x592x128 : Shape := ⟨3, ![1, 592, 128]⟩
abbrev S592x128 : Shape := ⟨2, ![592, 128]⟩
abbrev S1x16x128 : Shape := ⟨3, ![1, 16, 128]⟩
abbrev S16x128 : Shape := ⟨2, ![16, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x592x128, .f32⟩
  | .hbm, ⟨1, _⟩ => ⟨S592x128, .f32⟩
  | .hbm, ⟨2, _⟩ => ⟨S592x128, .f32⟩
  | .hbm, ⟨3, _⟩ => ⟨S592x128, .f32⟩
  | .hbm, ⟨4, _⟩ => ⟨S592x128, .f32⟩
  | .hbm, ⟨5, _⟩ => ⟨S592x128, .f32⟩
  | .hbm, ⟨6, _⟩ => ⟨S592x128, .f32⟩
  | .hbm, ⟨7, _⟩ => ⟨S592x128, .f32⟩
  | .local _ .vmem, ⟨0, _⟩ => ⟨S1x16x128, .f32⟩
  | .local _ .vmem, ⟨1, _⟩ => ⟨S1x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S1x592x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![37], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepSmallRefIdeal.lean ====
abbrev S1x592x128 : Shape := ⟨3, ![1, 592, 128]⟩
abbrev S592x128 : Shape := ⟨2, ![592, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x592x128, .f32⟩
  | .hbm, ⟨1, _⟩ => ⟨S592x128, .f32⟩
  | .hbm, ⟨2, _⟩ => ⟨S592x128, .f32⟩
  | .hbm, ⟨3, _⟩ => ⟨S592x128, .f32⟩
  | .hbm, ⟨4, _⟩ => ⟨S_, .f32⟩
  | .hbm, ⟨5, _⟩ => ⟨S592x128, .f32⟩
  | .hbm, ⟨6, _⟩ => ⟨S_, .f32⟩
  | .hbm, ⟨7, _⟩ => ⟨S592x128, .f32⟩
  | .hbm, ⟨8, _⟩ => ⟨S592x128, .f32⟩
  | .hbm, ⟨9, _⟩ => ⟨S_, .f32⟩
  | .hbm, ⟨10, _⟩ => ⟨S592x128, .f32⟩
  | .hbm, ⟨11, _⟩ => ⟨S592x128, .f32⟩
  | .hbm, ⟨12, _⟩ => ⟨S592x128, .f32⟩
  | .hbm, ⟨13, _⟩ => ⟨S_, .f32⟩
  | .hbm, ⟨14, _⟩ => ⟨S592x128, .f32⟩
  | .hbm, ⟨15, _⟩ => ⟨S592x128, .f32⟩
  | .hbm, ⟨16, _⟩ => ⟨S592x128, .f32⟩
  | .hbm, ⟨17, _⟩ => ⟨S_, .f32⟩
  | .hbm, ⟨18, _⟩ => ⟨S592x128, .f32⟩
  | .hbm, ⟨19, _⟩ => ⟨S592x128, .f32⟩
  | .hbm, ⟨20, _⟩ => ⟨S592x128, .f32⟩
  | .hbm, ⟨21, _⟩ => ⟨S_, .f32⟩
  | .hbm, ⟨22, _⟩ => ⟨S592x128, .f32⟩
  | .hbm, ⟨23, _⟩ => ⟨S592x128, .f32⟩
  | .hbm, ⟨24, _⟩ => ⟨S_, .f32⟩
  | .hbm, ⟨25, _⟩ => ⟨S592x128, .f32⟩
  | .hbm, ⟨26, _⟩ => ⟨S592x128, .f32⟩
  | .hbm, ⟨27, _⟩ => ⟨S592x128, .f32⟩
  | .hbm, ⟨28, _⟩ => ⟨S_, .f32⟩
  | .hbm, ⟨29, _⟩ => ⟨S592x128, .f32⟩
  | .hbm, ⟨30, _⟩ => ⟨S592x128, .f32⟩
  | .hbm, ⟨31, _⟩ => ⟨S592x128, .f32⟩
  | .hbm, ⟨32, _⟩ => ⟨S_, .f32⟩
  | .hbm, ⟨33, _⟩ => ⟨S592x128, .f32⟩
  | .hbm, ⟨34, _⟩ => ⟨S592x128, .f32⟩
  | .hbm, ⟨35, _⟩ => ⟨S592x128, .f32⟩
  | .hbm, ⟨36, _⟩ => ⟨S_, .f32⟩
  | .hbm, ⟨37, _⟩ => ⟨S592x128, .f32⟩
  | .hbm, ⟨38, _⟩ => ⟨S592x128, .f32⟩
  | _, _ => ⟨S1x592x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Ada.lean ====
abbrev S16x2048 : Shape := ⟨2, ![16, 2048]⟩
abbrev S2048x1536 : Shape := ⟨2, ![2048, 1536]⟩
abbrev S16x1536 : Shape := ⟨2, ![16, 1536]⟩
abbrev S2048x768 : Shape := ⟨2, ![2048, 768]⟩
abbrev S16x768 : Shape := ⟨2, ![16, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .bf16⟩
  | .hbm, ⟨1, _⟩ => ⟨S2048x1536, .f32⟩
  | .hbm, ⟨2, _⟩ => ⟨S16x1536, .f32⟩
  | .local _ .vmem, ⟨0, _⟩ => ⟨S16x2048, .bf16⟩
  | .local _ .vmem, ⟨1, _⟩ => ⟨S2048x768, .f32⟩
  | .local _ .vmem, ⟨2, _⟩ => ⟨S2048x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | _, _ => ⟨S16x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaRefIdeal.lean ====
abbrev S16x2048 : Shape := ⟨2, ![16, 2048]⟩
abbrev S2048x1536 : Shape := ⟨2, ![2048, 1536]⟩
abbrev S16x1536 : Shape := ⟨2, ![16, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16x2048, .bf16⟩
  | .hbm, ⟨1, _⟩ => ⟨S2048x1536, .f32⟩
  | .hbm, ⟨2, _⟩ => ⟨S16x2048, .f32⟩
  | .hbm, ⟨3, _⟩ => ⟨S16x1536, .f32⟩
  | _, _ => ⟨S16x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdaDw.lean ====
abbrev S16x2048 : Shape := ⟨2, ![16, 2048]⟩
abbrev S16x1536 : Shape := ⟨2, ![16, 1536]⟩
abbrev S2048x1536 : Shape := ⟨2, ![2048, 1536]⟩
abbrev S16x512 : Shape := ⟨2, ![16, 512]⟩
abbrev S16x768 : Shape := ⟨2, ![16, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S16x2048, .bf16⟩
  | .hbm, ⟨1, _⟩ => ⟨S16x1536, .f32⟩
  | .hbm, ⟨2, _⟩ => ⟨S2048x1536, .f32⟩
  | .local _ .vmem, ⟨0, _⟩ => ⟨S16x512, .bf16⟩
  | .local _ .vmem, ⟨1, _⟩ => ⟨S16x512, .bf16⟩
  | .local _ .vmem, ⟨2, _⟩ => ⟨S16x768, .f32⟩
  | .local _ .vmem, ⟨3, _⟩ => ⟨S16x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S16x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S16x2048 : Shape := ⟨2, ![16, 2048]⟩
abbrev S16x1536 : Shape := ⟨2, ![16, 1536]⟩
abbrev S1536x2048 : Shape := ⟨2, ![1536, 2048]⟩
abbrev S2048x1536 : Shape := ⟨2, ![2048, 1536]⟩

abbrev nBuf : Space → Nat
  | .hbm => 5
  | .vmem => 0
  | .smem => 0
  | _ => 0

abbrev bufTy : (tb : Table) → Fin (tcTables nBuf tb) → BufTy
  | .hbm, ⟨0, _⟩ => ⟨S16x2048, .bf16⟩
  | .hbm, ⟨1, _⟩ => ⟨S16x1536, .f32⟩
  | .hbm, ⟨2, _⟩ => ⟨S16x2048, .f32⟩
  | .hbm, ⟨3, _⟩ => ⟨S1536x2048, .f32⟩
  | .hbm, ⟨4, _⟩ => ⟨S2048x1536, .f32⟩
  | _, _ => ⟨S16x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdaDact.lean ====
abbrev S16x1536 : Shape := ⟨2, ![16, 1536]⟩
abbrev S2048x1536 : Shape := ⟨2, ![2048, 1536]⟩
abbrev S16x2048 : Shape := ⟨2, ![16, 2048]⟩
abbrev S1024x1536 : Shape := ⟨2, ![1024, 1536]⟩
abbrev S16x1024 : Shape := ⟨2, ![16, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16x1536, .f32⟩
  | .hbm, ⟨1, _⟩ => ⟨S2048x1536, .f32⟩
  | .hbm, ⟨2, _⟩ => ⟨S16x1536, .f32⟩
  | .hbm, ⟨3, _⟩ => ⟨S2048x1536, .f32⟩
  | .hbm, ⟨4, _⟩ => ⟨S16x2048, .f32⟩
  | .local _ .vmem, ⟨0, _⟩ => ⟨S16x1536, .f32⟩
  | .local _ .vmem, ⟨1, _⟩ => ⟨S1024x1536, .f32⟩
  | .local _ .vmem, ⟨2, _⟩ => ⟨S1024x1536, .f32⟩
  | .local _ .vmem, ⟨3, _⟩ => ⟨S16x1536, .f32⟩
  | .local _ .vmem, ⟨4, _⟩ => ⟨S1024x1536, .f32⟩
  | .local _ .vmem, ⟨5, _⟩ => ⟨S1024x1536, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | _, _ => ⟨S16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AdaDactRefIdeal.lean ====
abbrev S16x1536 : Shape := ⟨2, ![16, 1536]⟩
abbrev S2048x1536 : Shape := ⟨2, ![2048, 1536]⟩
abbrev S16x2048 : Shape := ⟨2, ![16, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x1536, .f32⟩
  | .hbm, ⟨1, _⟩ => ⟨S2048x1536, .f32⟩
  | .hbm, ⟨2, _⟩ => ⟨S16x1536, .f32⟩
  | .hbm, ⟨3, _⟩ => ⟨S2048x1536, .f32⟩
  | .hbm, ⟨4, _⟩ => ⟨S16x2048, .f32⟩
  | .hbm, ⟨5, _⟩ => ⟨S16x2048, .f32⟩
  | .hbm, ⟨6, _⟩ => ⟨S16x2048, .f32⟩
  | _, _ => ⟨S16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== SumSmall.lean ====
abbrev S8x1112x128 : Shape := ⟨3, ![8, 1112, 128]⟩
abbrev S1112x128 : Shape := ⟨2, ![1112, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1112x128, .f32⟩
  | .hbm, ⟨1, _⟩ => ⟨S1112x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x1112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![139], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x1112x128 : Shape := ⟨3, ![8, 1112, 128]⟩
abbrev S_ : Shape := ⟨0, ![]⟩
abbrev S1112x128 : Shape := ⟨2, ![1112, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1112x128, .f32⟩
  | .hbm, ⟨1, _⟩ => ⟨S_, .f32⟩
  | .hbm, ⟨2, _⟩ => ⟨S1112x128, .f32⟩
  | _, _ => ⟨S8x1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Prep.lean ====
abbrev S2x8x12288 : Shape := ⟨3, ![2, 8, 12288]⟩
abbrev S2x16x12288 : Shape := ⟨3, ![2, 16, 12288]⟩
abbrev S2x1x12288 : Shape := ⟨3, ![2, 1, 12288]⟩
abbrev S2x12288 : Shape := ⟨2, ![2, 12288]⟩
abbrev S1x8x1 : Shape := ⟨3, ![1, 8, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x8x12288, .f32⟩
  | .hbm, ⟨1, _⟩ => ⟨S2x8x12288, .f32⟩
  | .hbm, ⟨2, _⟩ => ⟨S2x16x12288, .f32⟩
  | .hbm, ⟨3, _⟩ => ⟨S2x1x12288, .f32⟩
  | .local _ .vmem, ⟨0, _⟩ => ⟨S2x8x12288, .f32⟩
  | .local _ .vmem, ⟨1, _⟩ => ⟨S2x8x12288, .f32⟩
  | .local _ .vmem, ⟨2, _⟩ => ⟨S2x16x12288, .f32⟩
  | .local _ .vmem, ⟨3, _⟩ => ⟨S2x1x12288, .f32⟩
  | _, _ => ⟨S2x8x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x8x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== PrepRefIdeal.lean ====
abbrev S2x8x12288 : Shape := ⟨3, ![2, 8, 12288]⟩
abbrev S_ : Shape := ⟨0, ![]⟩
abbrev S2x12288 : Shape := ⟨2, ![2, 12288]⟩
abbrev S2x1x12288 : Shape := ⟨3, ![2, 1, 12288]⟩
abbrev S2x7x12288 : Shape := ⟨3, ![2, 7, 12288]⟩
abbrev S2x16x12288 : Shape := ⟨3, ![2, 16, 12288]⟩

abbrev nBuf : Space → Nat
  | .hbm => 12
  | .vmem => 0
  | .smem => 0
  | _ => 0

abbrev bufTy : (tb : Table) → Fin (tcTables nBuf tb) → BufTy
  | .hbm, ⟨0, _⟩ => ⟨S2x8x12288, .f32⟩
  | .hbm, ⟨1, _⟩ => ⟨S2x8x12288, .f32⟩
  | .hbm, ⟨2, _⟩ => ⟨S_, .f32⟩
  | .hbm, ⟨3, _⟩ => ⟨S2x12288, .f32⟩
  | .hbm, ⟨4, _⟩ => ⟨S2x1x12288, .f32⟩
  | .hbm, ⟨5, _⟩ => ⟨S_, .f32⟩
  | .hbm, ⟨6, _⟩ => ⟨S2x7x12288, .f32⟩
  | .hbm, ⟨7, _⟩ => ⟨S2x16x12288, .f32⟩
  | .hbm, ⟨8, _⟩ => ⟨S_, .f32⟩
  | .hbm, ⟨9, _⟩ => ⟨S2x12288, .f32⟩
  | .hbm, ⟨10, _⟩ => ⟨S2x1x12288, .f32⟩
  | .hbm, ⟨11, _⟩ => ⟨S2x1x12288, .f32⟩
  | _, _ => ⟨S2x8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Model.lean ====
/- The attention's gradient as real numbers: the probabilities of a row of queries over the keys it sees, the
   scores' gradient, and the three gradients. Facts about sums and exponentials only; no program is read here. -/
module

public import Idealize.ShloMosaic.PureOps.Ideal.Laws
public import Idealize.ShloMosaic.Lib.IdealHost
public import Mathlib.Analysis.SpecialFunctions.Log.Basic
public import Mathlib.Analysis.SpecialFunctions.Pow.Real
public import Mathlib.Data.EReal.Inv

@[expose] public section

noncomputable section

open Idealize.ShloMosaic

namespace Cert.AttnModel

/-- A finite sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by a real number other than zero, read among the extended reals. -/
theorem div_real (x : ℝ) {y : ℝ} (hy : y ≠ 0) : Ideal.div (x : EReal) (y : EReal) = ((x / y : ℝ) : EReal) := by
  rw [Ideal.div_coe hy, ← EReal.coe_mul, mul_one_div]

/-- The logarithm of a positive real number, read among the extended reals. -/
theorem log_real {y : ℝ} (hy : 0 < y) : Ideal.log (y : EReal) = ((Real.log y : ℝ) : EReal) := by
  rw [Ideal.log_coe, if_neg (not_le.mpr hy)]

/-- The scale of the scores, the real number that the constant's word denotes. -/
def scale : ℝ := (Ideal.ofBits .f32 0x3D93CD3A#32).toReal

theorem scale_eq : Ideal.ofBits .f32 0x3D93CD3A#32 = ((scale : ℝ) : EReal) := by
  have h : Ideal.ofBits .f32 0x3D93CD3A#32 = ((9686330 * (2 ^ 27)⁻¹ : ℝ) : EReal) := by
    simp [Ideal.ofBits, Ideal.ieee]
  rw [scale, h, EReal.toReal_coe]

theorem two_eq : Ideal.ofBits .f32 0x40000000#32 = ((2 : ℝ) : EReal) := by
  simp [Ideal.ofBits, Ideal.ieee, -EReal.coe_mul]; norm_num

theorem bot_eq : Ideal.ofBits .f32 0xFF800000#32 = (⊥ : EReal) := by
  simp [Ideal.ofBits, Ideal.ieee]

/-- The greatest of finitely many real numbers, started at `⊥`, is `⊥` or a real number. -/
theorem fold_max_coe {ι : Type} (s : Finset ι) (f : ι → ℝ) :
    s.fold max (⊥ : EReal) (fun i => (f i : EReal)) = ⊥ ∨ ∃ M : ℝ, s.fold max (⊥ : EReal) (fun i => (f i : EReal)) = (M : EReal) := by
  classical
  induction s using Finset.induction_on with
  | empty => left; simp
  | insert a s ha ih =>
    right
    rw [Finset.fold_insert ha]
    rcases ih with h | ⟨M, h⟩
    · exact ⟨f a, by rw [h]; exact max_eq_left bot_le⟩
    · exact ⟨max (f a) M, by rw [h]; exact (EReal.coe_strictMono.monotone.map_max).symm⟩

/-- The greatest of the entries of a nonempty axis is a real number. -/
theorem fold_max_real {ι : Type} (s : Finset ι) (hs : s.Nonempty) (f : ι → ℝ) :
    ∃ M : ℝ, s.fold max (⊥ : EReal) (fun i => (f i : EReal)) = (M : EReal) := by
  classical
  rcases fold_max_coe s f with h | h
  · obtain ⟨i, hi⟩ := hs
    have hle : (f i : EReal) ≤ s.fold max (⊥ : EReal) (fun i => (f i : EReal)) :=
      (Finset.le_fold_max _).mpr (Or.inr ⟨i, hi, le_rfl⟩)
    rw [h] at hle
    exact absurd (le_bot_iff.mp hle) (EReal.coe_ne_bot _)
  · exact h

/-- A sum over the last 256 rows, as a sum over all rows with the earlier ones left out. -/
theorem sum_tail (f : Fin 8448 → ℝ) :
    ∑ i : Fin 256, f ⟨8192 + i.val, by omega⟩ = ∑ k : Fin 8448, if 8192 ≤ k.val then f k else 0 := by
  have h := Fin.sum_univ_add (a := 8192) (b := 256) (fun k : Fin (8192 + 256) => if 8192 ≤ k.val then f k else 0)
  refine Eq.trans ?_ h.symm
  rw [Finset.sum_eq_zero (fun i _ => if_neg (by simp [Fin.castAdd])), zero_add]
  exact Finset.sum_congr rfl fun i _ => (if_pos (by simp [Fin.natAdd])).symm

/-- A sum over the first 8192 rows, as a sum over all rows with the later ones left out. -/
theorem sum_head (f : Fin 8448 → ℝ) :
    ∑ i : Fin 8192, f ⟨i.val, by omega⟩ = ∑ k : Fin 8448, if k.val < 8192 then f k else 0 := by
  have h := Fin.sum_univ_add (a := 8192) (b := 256) (fun k : Fin (8192 + 256) => if k.val < 8192 then f k else 0)
  refine Eq.trans ?_ h.symm
  rw [Finset.sum_eq_zero (s := (Finset.univ : Finset (Fin 256))) (fun i _ => if_neg (by simp [Fin.natAdd])), add_zero]
  exact Finset.sum_congr rfl fun i _ => (if_pos (by simp [Fin.castAdd])).symm

/-- A softmax's entry does not see by how much the scores are shifted. -/
theorem shift_prob {ι : Type} (s : Finset ι) (f : ι → ℝ) (M : ℝ) (i : ι) :
    Real.exp (f i - M) / ∑ j ∈ s, Real.exp (f j - M) = Real.exp (f i) / ∑ j ∈ s, Real.exp (f j) := by
  have e : ∀ j, Real.exp (f j - M) = Real.exp (f j) * (Real.exp M)⁻¹ := fun j => by
    rw [Real.exp_sub, div_eq_mul_inv]
  simp only [e]
  rw [← Finset.sum_mul]
  exact mul_div_mul_right _ _ (inv_ne_zero (Real.exp_ne_zero M))

theorem sum_exp_pos {ι : Type} (s : Finset ι) (hs : s.Nonempty) (f : ι → ℝ) : 0 < ∑ j ∈ s, Real.exp (f j) :=
  Finset.sum_pos (fun j _ => Real.exp_pos _) hs

/-- A row's probability out of its saved logarithm to base 2: `2 ^ (x/ln 2 − (M + log L)/ln 2) = exp (x − M) / L`. -/
theorem two_pow_prob (x M : ℝ) {L : ℝ} (hL : 0 < L) :
    Real.rpow 2 (x / Real.log 2 - (M + Real.log L) / Real.log 2) = Real.exp (x - M) / L := by
  have h2 : Real.log 2 ≠ 0 := ne_of_gt (Real.log_pos (by norm_num))
  rw [Real.rpow_eq_pow]
  rw [Real.rpow_def_of_pos (by norm_num : (0 : ℝ) < 2)]
  have e : Real.log 2 * (x / Real.log 2 - (M + Real.log L) / Real.log 2) = (x - M) - Real.log L := by
    field_simp
    ring
  rw [e, Real.exp_sub, Real.exp_log hL]

/-! ## The gradients -/

section
variable (sees : Fin 8448 → Fin 8448 → Prop) [DecidableRel sees]

/-- The keys a query sees. -/
def keys (q : Fin 8448) : Finset (Fin 8448) := Finset.univ.filter (sees q)

end

/-- Latent queries see every key, context queries the context's keys. -/
def sees (q k : Fin 8448) : Prop := q.val < 8192 ∨ 8192 ≤ k.val
instance : DecidableRel sees := fun q k => inferInstanceAs (Decidable (_ ∨ _))

variable (c : ℝ) (Q K : Fin 8448 → Fin 8 → Fin 256 → ℝ) (V C : Fin 8448 → Fin 8 → Fin 128 → ℝ)

/-- The score of a query and a key; the query carries its scale `c`. -/
def score (h : Fin 8) (q k : Fin 8448) : ℝ := ∑ d, (Q q h d * c) * K k h d
/-- The sum of the exponentials of a query's scores. -/
def total (h : Fin 8) (q : Fin 8448) : ℝ := ∑ k ∈ keys sees q, Real.exp (score c Q K h q k)
/-- The probability a query gives to a key. -/
def prob (h : Fin 8) (q k : Fin 8448) : ℝ := Real.exp (score c Q K h q k) / total c Q K h q
/-- The gradient of a probability: the cotangent times the key's value. -/
def dprob (h : Fin 8) (q k : Fin 8448) : ℝ := ∑ d, C q h d * V k h d
/-- The mean of a row's gradients under its probabilities. -/
def mean (h : Fin 8) (q : Fin 8448) : ℝ := ∑ k ∈ keys sees q, prob c Q K h q k * dprob V C h q k
/-- The gradient of a score. -/
def dscore (h : Fin 8) (q k : Fin 8448) : ℝ := prob c Q K h q k * (dprob V C h q k - mean c Q K V C h q)

/-- The gradient of a scaled query. -/
def gradQ (q : Fin 8448) (h : Fin 8) (d : Fin 256) : ℝ := ∑ k, if sees q k then dscore c Q K V C h q k * K k h d else 0
/-- The gradient of a key. -/
def gradK (k : Fin 8448) (h : Fin 8) (d : Fin 256) : ℝ := ∑ q, if sees q k then dscore c Q K V C h q k * (Q q h d * c) else 0
/-- The gradient of a value. -/
def gradV (k : Fin 8448) (h : Fin 8) (d : Fin 128) : ℝ := ∑ q, if sees q k then prob c Q K h q k * C q h d else 0

theorem keys_nonempty (q : Fin 8448) : (keys sees q).Nonempty :=
  ⟨⟨8447, by omega⟩, Finset.mem_filter.mpr ⟨Finset.mem_univ _, Or.inr (by norm_num)⟩⟩

theorem total_pos (h : Fin 8) (q : Fin 8448) : 0 < total c Q K h q := sum_exp_pos _ (keys_nonempty q) _

/-- A latent query's keys are all the keys. -/
theorem sum_keys_latent (q : Fin 8448) (hq : q.val < 8192) (f : Fin 8448 → ℝ) : ∑ k ∈ keys sees q, f k = ∑ k, f k := by
  have e : keys sees q = Finset.univ := Finset.filter_true_of_mem fun k _ => Or.inl hq
  rw [e]

/-- A context query's keys are the last 256. -/
theorem sum_keys_context (q : Fin 8448) (hq : 8192 ≤ q.val) (f : Fin 8448 → ℝ) :
    ∑ k ∈ keys sees q, f k = ∑ i : Fin 256, f ⟨8192 + i.val, by omega⟩ := by
  rw [sum_tail, keys, Finset.sum_filter]
  refine Finset.sum_congr rfl fun k _ => ?_
  by_cases hk : 8192 ≤ k.val
  · rw [if_pos hk, if_pos (show sees q k from Or.inr hk)]
  · rw [if_neg hk, if_neg (show ¬ sees q k by rintro (h | h) <;> omega)]

/-- The row of a latent position. -/
def latent (q : Fin 8192) : Fin 8448 := ⟨q.val, by omega⟩
/-- The row of a context position. -/
def context (q : Fin 256) : Fin 8448 := ⟨8192 + q.val, by omega⟩

theorem sum_latent (q : Fin 8192) (f : Fin 8448 → ℝ) : ∑ k, f k = ∑ k ∈ keys sees (latent q), f k :=
  (sum_keys_latent _ q.isLt f).symm

theorem sum_context (q : Fin 256) (f : Fin 8448 → ℝ) : ∑ i, f (context i) = ∑ k ∈ keys sees (context q), f k :=
  (sum_keys_context _ (by show 8192 ≤ 8192 + q.val; omega) f).symm

theorem latent_or_context (k : Fin 8448) : (∃ q, k = latent q) ∨ ∃ q, k = context q := by
  by_cases hk : k.val < 8192
  · exact Or.inl ⟨⟨k.val, hk⟩, rfl⟩
  · exact Or.inr ⟨⟨k.val - 8192, by omega⟩, Fin.ext (show k.val = 8192 + (k.val - 8192) by omega)⟩

/-- The rows that see a latent key are the latent rows. -/
theorem sum_sees_latent (k : Fin 8192) (f : Fin 8448 → ℝ) :
    (∑ q, if sees q (latent k) then f q else 0) = ∑ q, f (latent q) := by
  refine Eq.trans (Finset.sum_congr rfl fun q _ => ?_) (sum_head f).symm
  have hk : (latent k).val < 8192 := k.isLt
  by_cases hq : q.val < 8192
  · rw [if_pos hq, if_pos (show sees q (latent k) from Or.inl hq)]
  · rw [if_neg hq, if_neg (show ¬ sees q (latent k) by rintro (h | h) <;> omega)]

/-- Every row sees a context key. -/
theorem sum_sees_context (k : Fin 256) (f : Fin 8448 → ℝ) :
    (∑ q, if sees q (context k) then f q else 0) = (∑ q, f (context q)) + ∑ q, f (latent q) := by
  refine Eq.trans ?_ (congrArg₂ (· + ·) (sum_tail f) (sum_head f)).symm
  refine Eq.trans ?_ Finset.sum_add_distrib
  refine Finset.sum_congr rfl fun q _ => ?_
  rw [if_pos (show sees q (context k) from Or.inr (by show 8192 ≤ 8192 + k.val; omega))]
  by_cases hq : q.val < 8192
  · rw [if_pos hq, if_neg (by omega), zero_add]
  · rw [if_neg hq, if_pos (by omega), add_zero]

/-- The mean of a row's gradients is the row's output against its cotangent. -/
theorem mean_eq (h : Fin 8) (q : Fin 8448) :
    ∑ d, (∑ k ∈ keys sees q, V k h d * prob c Q K h q k) * C q h d = mean c Q K V C h q := by
  unfold mean dprob
  simp only [Finset.sum_mul, Finset.mul_sum]
  rw [Finset.sum_comm]
  exact Finset.sum_congr rfl fun k _ => Finset.sum_congr rfl fun d _ => by ring

/-- The gradient of a score as a softmax's gradient is usually written out: with exponentials shifted by `M`, their sum
    `L`, and the row's correction taken over `1 / L²`. -/
theorem dscore_eq (h : Fin 8) (q k : Fin 8448) (M : ℝ) :
    (dprob V C h q k / (∑ j ∈ keys sees q, Real.exp (score c Q K h q j - M))
        + -(∑ j ∈ keys sees q, dprob V C h q j * (1 / ((∑ j ∈ keys sees q, Real.exp (score c Q K h q j - M)) * (∑ j ∈ keys sees q, Real.exp (score c Q K h q j - M))))
              * Real.exp (score c Q K h q j - M))) * Real.exp (score c Q K h q k - M)
      = dscore c Q K V C h q k := by
  have hp : ∀ j, prob c Q K h q j = Real.exp (score c Q K h q j - M) / (∑ j ∈ keys sees q, Real.exp (score c Q K h q j - M)) :=
    fun j => (shift_prob _ _ M j).symm
  have hL : (∑ j ∈ keys sees q, Real.exp (score c Q K h q j - M)) ≠ 0 := ne_of_gt (sum_exp_pos _ (keys_nonempty q) _)
  unfold dscore mean
  simp only [hp]
  generalize (∑ j ∈ keys sees q, Real.exp (score c Q K h q j - M)) = L at hL
  have e : ∑ j ∈ keys sees q, dprob V C h q j * (1 / (L * L)) * Real.exp (score c Q K h q j - M)
      = (∑ j ∈ keys sees q, Real.exp (score c Q K h q j - M) / L * dprob V C h q j) * (1 / L) := by
    rw [Finset.sum_mul]
    exact Finset.sum_congr rfl fun j _ => by field_simp
  rw [e]
  generalize (∑ j ∈ keys sees q, Real.exp (score c Q K h q j - M) / L * dprob V C h q j) = D
  field_simp
  ring

end Cert.AttnModel

end
-- ==== Proof.FwdPay.lean ====
/- One step of the running softmax: what a chunk of keys makes of a query row's maximum, of its total and of its
   weighted sum, entry by entry, and what the three of them say about the keys seen so far. -/
module

public import proofs.«01_k».proof.Proof.Gen.FwdIdeal.Frame
public import proofs.«01_k».proof.Proof.Model
public import Idealize.ShloMosaic.Lib.Pipeline.ValueKit

@[expose] public section

set_option maxRecDepth 16384

noncomputable section

open Idealize.ShloMosaic Idealize.ShloMosaic.TcCoe Idealize.SL.Sem

namespace Cert.FwdIdeal.Attn

open Cert.FwdIdeal Cert.FwdIdeal.Gen Cert.AttnModel

/-! ## A chunk's operations, entry by entry -/

section pay
variable (q : Vec Ideal S256x256 .bf16) (ks : Vec Ideal S1024x256 .bf16) (vs : Vec Ideal S1024x128 .bf16)
  (mx l : FVec Ideal S256x1 .f32) (acc : FVec Ideal S256x128 .f32)

theorem score_apply (r : Fin 256) (k : Fin 1024) :
    (k0_pay3 q ks (ix2 r k) : EReal) = ∑ d : Fin 256, q (ix2 r d) * ks (ix2 k d) := by
  pointwise [k0_pay3]

theorem max_apply (r : Fin 256) :
    (k0_pay4 q mx ks (ix2 r 0) : EReal)
      = max (mx (ix2 r 0)) ((Finset.univ : Finset (Fin 1024)).fold max ⊥ fun k => (k0_pay3 q ks (ix2 r k) : EReal)) := by
  unfold k0_pay4
  generalize k0_pay3 q ks = y
  rw [← bot_eq]
  pointwise

theorem power_apply (r : Fin 256) (k : Fin 1024) :
    (k0_pay5 q mx ks (ix2 r k) : EReal) = Ideal.exp2 (k0_pay3 q ks (ix2 r k) - k0_pay4 q mx ks (ix2 r 0)) := by
  unfold k0_pay5
  generalize k0_pay3 q ks = y
  generalize k0_pay4 q mx ks = z
  pointwise
  rfl

theorem factor_apply (r : Fin 256) :
    (k0_pay6 q mx ks (ix2 r 0) : EReal) = Ideal.exp2 (mx (ix2 r 0) - k0_pay4 q mx ks (ix2 r 0)) := by
  unfold k0_pay6
  generalize k0_pay4 q mx ks = z
  pointwise
  rfl

theorem total_apply (r : Fin 256) :
    (k0_pay17 q mx l ks (ix2 r 0) : EReal)
      = k0_pay6 q mx ks (ix2 r 0) * l (ix2 r 0) + ∑ k : Fin 1024, k0_pay5 q mx ks (ix2 r k) := by
  show ((have v116 : FVec Ideal S256x1 .f32 := mulf (k0_pay6 q mx ks) l
    have v117 : FVec Ideal S256 .f32 := multiReduction .add [1] S256 (k0_pay5 q mx ks) 0x00000000#32 reduces_S256x1024_S256 (.inl rfl) rfl
    have v118 : FVec Ideal S256x1 .f32 := shapeCast S256x1 v117 shapeCasts_S256_S256x1
    addf v116 v118) (ix2 r 0) : EReal) = _
  generalize k0_pay6 q mx ks = y
  generalize k0_pay5 q mx ks = z
  pointwise

theorem sum_apply (r : Fin 256) (d : Fin 128) :
    (k0_pay7 q mx acc ks vs (ix2 r d) : EReal)
      = k0_pay6 q mx ks (ix2 r 0) * acc (ix2 r d) + ∑ k : Fin 1024, k0_pay5 q mx ks (ix2 r k) * vs (ix2 k d) := by
  unfold k0_pay7
  generalize k0_pay6 q mx ks = y
  generalize k0_pay5 q mx ks = z
  pointwise

end pay

/-! ## The last chunk: the 256 context keys -/

section last
variable (q : Vec Ideal S256x256 .bf16) (ks : Vec Ideal S256x256 .bf16) (vs : Vec Ideal S256x128 .bf16)
  (mx l : FVec Ideal S256x1 .f32) (acc : FVec Ideal S256x128 .f32)

theorem score_last (r k : Fin 256) :
    (k0_pay53 q ks (ix2 r k) : EReal) = ∑ d : Fin 256, q (ix2 r d) * ks (ix2 k d) := by
  pointwise [k0_pay53, k0_pay43]

theorem max_last (r : Fin 256) :
    (k0_pay54 q mx ks (ix2 r 0) : EReal)
      = max (mx (ix2 r 0)) ((Finset.univ : Finset (Fin 256)).fold max ⊥ fun k => (k0_pay53 q ks (ix2 r k) : EReal)) := by
  unfold k0_pay54
  generalize k0_pay53 q ks = y
  rw [← bot_eq]
  pointwise

theorem power_last (r k : Fin 256) :
    (k0_pay55 q mx ks (ix2 r k) : EReal) = Ideal.exp2 (k0_pay53 q ks (ix2 r k) - k0_pay54 q mx ks (ix2 r 0)) := by
  unfold k0_pay55
  generalize k0_pay53 q ks = y
  generalize k0_pay54 q mx ks = z
  pointwise
  rfl

theorem factor_last (r : Fin 256) :
    (k0_pay56 q mx ks (ix2 r 0) : EReal) = Ideal.exp2 (mx (ix2 r 0) - k0_pay54 q mx ks (ix2 r 0)) := by
  unfold k0_pay56
  generalize k0_pay54 q mx ks = z
  pointwise
  rfl

theorem total_last (r : Fin 256) :
    (k0_pay57 q mx l ks (ix2 r 0) : EReal)
      = k0_pay56 q mx ks (ix2 r 0) * l (ix2 r 0) + ∑ k : Fin 256, k0_pay55 q mx ks (ix2 r k) := by
  unfold k0_pay57
  generalize k0_pay56 q mx ks = y
  generalize k0_pay55 q mx ks = z
  pointwise

theorem mean_last (r : Fin 256) (d : Fin 128) :
    (k0_pay58 q mx l acc ks vs (ix2 r d) : EReal)
      = Ideal.div (k0_pay56 q mx ks (ix2 r 0) * acc (ix2 r d) + ∑ k : Fin 256, k0_pay55 q mx ks (ix2 r k) * vs (ix2 k d))
          (k0_pay57 q mx l ks (ix2 r 0)) := by
  unfold k0_pay58
  generalize k0_pay57 q mx l ks = x
  generalize k0_pay56 q mx ks = y
  generalize k0_pay55 q mx ks = z
  pointwise

theorem narrow_apply (x : FVec Ideal S256x128 .f32) (j : S256x128.Idx) : (k0_pay1 x j : EReal) = x j := rfl

/-- The saved statistic of a row: its maximum plus the logarithm of its total over the named constant. -/
theorem saved_apply (r : Fin 256) (d : Fin 128) :
    (k0_pay2 mx l (ix2 r d) : EReal)
      = mx (ix2 r 0) + Ideal.div (Ideal.log (l (ix2 r 0))) (Named.named (F := Ideal) κ "ln2" (φ := .f32) 0x3F317218#32 : Ideal .f32) := by
  unfold k0_pay2
  generalize (Named.named (F := Ideal) κ "ln2" (φ := .f32) 0x3F317218#32 : Ideal .f32) = x
  pointwise

end last

/-! ## What a row's three quantities say about the keys `a`, …, `b − 1` -/

/-- The row's maximum is some real number `M`; its total and its weighted sums are those of the keys `a`, …, `b − 1`,
    the powers of two shifted by `M`. -/
def Holds (f : ℕ → ℝ) (g : Fin 128 → ℕ → ℝ) (a b : ℕ) (mx l : EReal) (acc : Fin 128 → EReal) : Prop :=
  ∃ M : ℝ, mx = (M : EReal) ∧ l = ((∑ k ∈ Finset.Ico a b, Real.rpow 2 (f k - M) : ℝ) : EReal)
    ∧ ∀ d, acc d = ((∑ k ∈ Finset.Ico a b, Real.rpow 2 (f k - M) * g d k : ℝ) : EReal)

theorem sum_next (a b n : ℕ) (hab : a ≤ b) (f : ℕ → ℝ) :
    ∑ k ∈ Finset.Ico a (b + n), f k = ∑ k ∈ Finset.Ico a b, f k + ∑ k : Fin n, f (b + k.val) := by
  rw [← Finset.sum_Ico_consecutive f hab (Nat.le_add_right b n), Finset.sum_Ico_eq_sum_range f b (b + n), Nat.add_sub_cancel_left,
    Finset.sum_range]

theorem exp2_real (x : ℝ) : Ideal.exp2 (x : EReal) = ((Real.rpow 2 x : ℝ) : EReal) := Ideal.exp2_coe x

theorem rescale (x M N : ℝ) : Real.rpow 2 (M - N) * Real.rpow 2 (x - M) = Real.rpow 2 (x - N) := by
  rw [Real.rpow_eq_pow, Real.rpow_eq_pow, Real.rpow_eq_pow, ← Real.rpow_add (by norm_num)]
  congr 1
  ring

/-- A further chunk of `n` keys. -/
theorem Holds.step {f : ℕ → ℝ} {g : Fin 128 → ℕ → ℝ} {a b n : ℕ} (hn : 0 < n) (hab : a ≤ b) {mx l mx' l' : EReal} {acc acc' : Fin 128 → EReal}
    (h : Holds f g a b mx l acc) (s : Fin n → EReal) (v : Fin n → Fin 128 → EReal)
    (hs : ∀ k, s k = ((f (b + k.val) : ℝ) : EReal)) (hv : ∀ k d, v k d = ((g d (b + k.val) : ℝ) : EReal))
    (hm : mx' = max mx ((Finset.univ : Finset (Fin n)).fold max ⊥ s))
    (hl : l' = Ideal.exp2 (mx - mx') * l + ∑ k, Ideal.exp2 (s k - mx'))
    (ha : ∀ d, acc' d = Ideal.exp2 (mx - mx') * acc d + ∑ k, Ideal.exp2 (s k - mx') * v k d) :
    Holds f g a (b + n) mx' l' acc' := by
  obtain ⟨M, rfl, rfl, hacc⟩ := h
  obtain ⟨N, hN⟩ := fold_max_real (Finset.univ : Finset (Fin n)) ⟨⟨0, hn⟩, Finset.mem_univ _⟩ (fun k => f (b + k.val))
  have hs' : s = fun k => ((f (b + k.val) : ℝ) : EReal) := funext hs
  rw [hs', hN, ← EReal.coe_strictMono.monotone.map_max] at hm
  subst hm
  refine ⟨max M N, rfl, ?_, fun d => ?_⟩
  · rw [hl, sum_next a b n hab, EReal.coe_add, ← EReal.coe_sub, exp2_real, ← EReal.coe_mul, Finset.mul_sum]
    refine congrArg₂ (· + ·) (congrArg (fun x : ℝ => (x : EReal)) (Finset.sum_congr rfl fun k _ => rescale _ _ _)) ?_
    rw [coe_sum]
    exact Finset.sum_congr rfl fun k _ => by rw [hs, ← EReal.coe_sub, exp2_real]
  · rw [ha, hacc, sum_next a b n hab, EReal.coe_add, ← EReal.coe_sub, exp2_real, ← EReal.coe_mul, Finset.mul_sum]
    refine congrArg₂ (· + ·) (congrArg (fun x : ℝ => (x : EReal)) (Finset.sum_congr rfl fun k _ => ?_)) ?_
    · rw [← mul_assoc, rescale]
    · rw [coe_sum]
      exact Finset.sum_congr rfl fun k _ => by rw [hs, hv, ← EReal.coe_sub, exp2_real, ← EReal.coe_mul]

end Cert.FwdIdeal.Attn

end
-- ==== Proof.FwdModel.lean ====
/- The attention's results as real numbers, and what the running softmax amounts to after the last key: the mean of
   the values under the probabilities, and the logarithm to the base two of the sum of the exponentials. -/
module

public import proofs.«01_k».proof.Proof.FwdPay

@[expose] public section

noncomputable section

open Idealize.ShloMosaic

namespace Cert.FwdIdeal.Attn

open Cert.AttnModel

variable (c : ℝ) (Q K : Fin 8448 → Fin 8 → Fin 256 → ℝ) (W : Fin 8448 → Fin 8 → Fin 128 → ℝ)

/-- A query's result: the mean of the values under its probabilities. -/
def meanV (q : Fin 8448) (h : Fin 8) (d : Fin 128) : ℝ := ∑ k ∈ keys sees q, prob c Q K h q k * W k h d
/-- The logarithm, to the base two, of the sum of the exponentials of a query's scores. -/
def logTotal (q : Fin 8448) (h : Fin 8) : ℝ := Real.log (total c Q K h q) / Real.log 2

/-- A function of the keys as a function of natural numbers. -/
def onNat (x : Fin 8448 → ℝ) (k : ℕ) : ℝ := if h : k < 8448 then x ⟨k, h⟩ else 0

theorem onNat_at (x : Fin 8448 → ℝ) (k : Fin 8448) : onNat x k.val = x k := dif_pos k.isLt

/-- The keys a query sees are those from 0, or those from 8192. -/
theorem sum_onNat (q : Fin 8448) (x : Fin 8448 → ℝ) :
    ∑ k ∈ Finset.Ico (if q.val < 8192 then 0 else 8192) 8448, onNat x k = ∑ k ∈ keys sees q, x k := by
  by_cases hq : q.val < 8192
  · rw [if_pos hq, ← Finset.range_eq_Ico, Finset.sum_range, sum_keys_latent q hq]
    exact Finset.sum_congr rfl fun k _ => onNat_at x k
  · rw [if_neg hq, Finset.sum_Ico_eq_sum_range (onNat x) 8192 8448, Finset.sum_range, sum_keys_context q (not_lt.mp hq)]
    exact Finset.sum_congr rfl fun k _ => onNat_at x ⟨8192 + k.val, by have := k.isLt; omega⟩

theorem sum_onNat_of (q : Fin 8448) (F : ℕ → ℝ) (x : Fin 8448 → ℝ) (h : ∀ k : Fin 8448, F k.val = x k) :
    ∑ k ∈ Finset.Ico (if q.val < 8192 then 0 else 8192) 8448, F k = ∑ k ∈ keys sees q, x k := by
  rw [← sum_onNat]
  refine Finset.sum_congr rfl fun k hk => ?_
  have hk' : k < 8448 := (Finset.mem_Ico.mp hk).2
  exact (h ⟨k, hk'⟩).trans (onNat_at x ⟨k, hk'⟩).symm

/-- A power of two of a score in units of the logarithm of two is an exponential. -/
theorem two_pow_exp (x M : ℝ) : Real.rpow 2 (x / Real.log 2 - M) = Real.exp (x - M * Real.log 2) := by
  have h2 : Real.log 2 ≠ 0 := ne_of_gt (Real.log_pos (by norm_num))
  rw [Real.rpow_eq_pow, Real.rpow_def_of_pos (by norm_num : (0 : ℝ) < 2)]
  congr 1
  field_simp

theorem log_shift {ι : Type} (s : Finset ι) (hs : s.Nonempty) (f : ι → ℝ) (M : ℝ) :
    Real.log (∑ j ∈ s, Real.exp (f j - M)) = Real.log (∑ j ∈ s, Real.exp (f j)) - M := by
  have e : ∀ j, Real.exp (f j - M) = Real.exp (f j) * Real.exp (-M) := fun j => by rw [← Real.exp_add, sub_eq_add_neg]
  simp only [e]
  have hp : 0 < ∑ j ∈ s, Real.exp (f j) := Finset.sum_pos (fun j _ => Real.exp_pos _) hs
  rw [← Finset.sum_mul, Real.log_mul (ne_of_gt hp) (Real.exp_ne_zero _), Real.log_exp, sub_eq_add_neg]

variable {q : Fin 8448} {x : Fin 8448 → ℝ} {g : Fin 128 → Fin 8448 → ℝ} {mx l : EReal} {acc : Fin 128 → EReal}

/-- The quotient after the last key is the mean. -/
theorem Holds.quotient (h : Holds (onNat fun k => x k / Real.log 2) (fun d => onNat (g d)) (if q.val < 8192 then 0 else 8192) 8448 mx l acc) (d : Fin 128) :
    Ideal.div (acc d) l = ((∑ k ∈ keys sees q, Real.exp (x k) / (∑ j ∈ keys sees q, Real.exp (x j)) * g d k : ℝ) : EReal) := by
  obtain ⟨M, -, rfl, hacc⟩ := h
  have el := sum_onNat_of q (fun k => Real.rpow 2 (onNat (fun k => x k / Real.log 2) k - M)) (fun k => Real.exp (x k - M * Real.log 2))
    fun k => by rw [onNat_at, two_pow_exp]
  have ea := sum_onNat_of q (fun k => Real.rpow 2 (onNat (fun k => x k / Real.log 2) k - M) * onNat (g d) k)
    (fun k => Real.exp (x k - M * Real.log 2) * g d k) fun k => by rw [onNat_at, onNat_at, two_pow_exp]
  have hp : (∑ k ∈ keys sees q, Real.exp (x k - M * Real.log 2)) ≠ 0 := ne_of_gt (Finset.sum_pos (fun j _ => Real.exp_pos _) (keys_nonempty q))
  rw [hacc d, el, ea, div_real _ hp, Finset.sum_div]
  refine congrArg (fun y : ℝ => (y : EReal)) (Finset.sum_congr rfl fun k _ => ?_)
  rw [← shift_prob (keys sees q) x (M * Real.log 2) k]
  ring

/-- The greatest score plus the logarithm of the shifted sum is the logarithm of the sum. -/
theorem Holds.log (h : Holds (onNat fun k => x k / Real.log 2) (fun d => onNat (g d)) (if q.val < 8192 then 0 else 8192) 8448 mx l acc) :
    mx + Ideal.div (Ideal.log l) ((Real.log 2 : ℝ) : EReal) = ((Real.log (∑ j ∈ keys sees q, Real.exp (x j)) / Real.log 2 : ℝ) : EReal) := by
  obtain ⟨M, rfl, rfl, -⟩ := h
  have h2 : Real.log 2 ≠ 0 := ne_of_gt (Real.log_pos (by norm_num))
  have el := sum_onNat_of q (fun k => Real.rpow 2 (onNat (fun k => x k / Real.log 2) k - M)) (fun k => Real.exp (x k - M * Real.log 2))
    fun k => by rw [onNat_at, two_pow_exp]
  have hp : 0 < ∑ k ∈ keys sees q, Real.exp (x k - M * Real.log 2) := Finset.sum_pos (fun j _ => Real.exp_pos _) (keys_nonempty q)
  rw [el, log_real hp, div_real _ h2, ← EReal.coe_add, log_shift _ (keys_nonempty q)]
  refine congrArg (fun y : ℝ => (y : EReal)) ?_
  field_simp
  ring

end Cert.FwdIdeal.Attn

end
-- ==== Proof.FwdTrip.lean ====
/- The loop over the latent keys: a trip is four chunks of 1024 keys, and after the trips a query row's three
   quantities are those of all the keys passed. -/
module

public import proofs.«01_k».proof.Proof.FwdPay

@[expose] public section

set_option maxRecDepth 16384

noncomputable section

open Idealize.ShloMosaic Idealize.ShloMosaic.TcCoe Idealize.SL.Sem

namespace Cert.FwdIdeal.Attn

open Cert.FwdIdeal Cert.FwdIdeal.Gen Cert.AttnModel

/-- The latent queries' tiles take two trips, the context queries' tile takes none; no trip is left over after them. -/
theorem trips_latent : ∀ i : grid0.Coords, (i 1).val < 32 → (k0_t1_loop i).trips = 2 := by decide +kernel
theorem trips_context : ∀ i : grid0.Coords, ¬ (i 1).val < 32 → (k0_t1_loop i).trips = 0 := by decide +kernel
theorem trips_rest : ∀ i : grid0.Coords, (k0_t2_loop i).trips = 0 := by decide +kernel

/-- The four chunks of trip `k` start at the rows `4096 k`, `4096 k + 1024`, `4096 k + 2048` and `4096 k + 3072`. -/
theorem off1_0 : ∀ (i : grid0.Coords) (k : Fin (k0_t1_loop i).trips), k0_off1 i k 0#32 = ![4096 * k.val, 0] := by decide +kernel
theorem off1_1 : ∀ (i : grid0.Coords) (k : Fin (k0_t1_loop i).trips), k0_off1 i k 1024#32 = ![4096 * k.val + 1024, 0] := by decide +kernel
theorem off1_2 : ∀ (i : grid0.Coords) (k : Fin (k0_t1_loop i).trips), k0_off1 i k 2048#32 = ![4096 * k.val + 2048, 0] := by decide +kernel
theorem off1_3 : ∀ (i : grid0.Coords) (k : Fin (k0_t1_loop i).trips), k0_off1 i k 3072#32 = ![4096 * k.val + 3072, 0] := by decide +kernel
theorem off2_0 : ∀ (i : grid0.Coords) (k : Fin (k0_t1_loop i).trips), k0_off2 i k 0#32 = ![4096 * k.val, 0] := by decide +kernel
theorem off2_1 : ∀ (i : grid0.Coords) (k : Fin (k0_t1_loop i).trips), k0_off2 i k 1024#32 = ![4096 * k.val + 1024, 0] := by decide +kernel
theorem off2_2 : ∀ (i : grid0.Coords) (k : Fin (k0_t1_loop i).trips), k0_off2 i k 2048#32 = ![4096 * k.val + 2048, 0] := by decide +kernel
theorem off2_3 : ∀ (i : grid0.Coords) (k : Fin (k0_t1_loop i).trips), k0_off2 i k 3072#32 = ![4096 * k.val + 3072, 0] := by decide +kernel

/-- `n` rows read at row `o` of a block, at an index. -/
theorem rows_apply {e : EltTy} {R C n : ℕ} (x : Vec Ideal ⟨2, ![R, C]⟩ e) (o : ℕ) (ho : o + n ≤ R) (off : Fin 2 → ℕ) (hoff : off = ![o, 0])
    (b : ∀ a, off a + (⟨2, ![n, C]⟩ : Shape).size a ≤ (⟨2, ![R, C]⟩ : Shape).size a) (r : Fin n) (d : Fin C) :
    View.ld (Val := Elt Ideal) x (Rect.unit (s := ⟨2, ![R, C]⟩) off (⟨2, ![n, C]⟩ : Shape).size b) (ix2 r d)
      = x (ix2 ⟨o + r.val, by omega⟩ d) := by
  subst hoff
  refine congrArg x ?_
  ext a
  fin_cases a
  · exact (Rect.idx_unit_val ..).trans rfl
  · exact (Rect.idx_unit_val ..).trans (Nat.zero_add _)

/-- What the loop carries: the rows' maxima, totals and weighted sums. -/
abbrev Carry := FVec Ideal S256x1 .f32 × FVec Ideal S256x1 .f32 × FVec Ideal S256x128 .f32

/-- A chunk of 1024 keys and values. -/
def chunk (q : Vec Ideal S256x256 .bf16) (ks : Vec Ideal S1024x256 .bf16) (vs : Vec Ideal S1024x128 .bf16) (s : Carry) : Carry :=
  (k0_pay4 q s.1 ks, k0_pay17 q s.1 s.2.1 ks, k0_pay7 q s.1 s.2.2 ks vs)

/-- `Holds` of row `r`. -/
abbrev Row (f : ℕ → ℝ) (g : Fin 128 → ℕ → ℝ) (a b : ℕ) (r : Fin 256) (s : Carry) : Prop :=
  Holds f g a b (s.1 (ix2 r 0)) (s.2.1 (ix2 r 0)) (fun d => s.2.2 (ix2 r d))

theorem chunk_step (q : Vec Ideal S256x256 .bf16) (ks : Vec Ideal S1024x256 .bf16) (vs : Vec Ideal S1024x128 .bf16)
    (f : ℕ → ℝ) (g : Fin 128 → ℕ → ℝ) (r : Fin 256) (a b : ℕ) (hab : a ≤ b)
    (hf : ∀ k : Fin 1024, (∑ d : Fin 256, q (ix2 r d) * ks (ix2 k d) : EReal) = ((f (b + k.val) : ℝ) : EReal))
    (hg : ∀ (k : Fin 1024) (d : Fin 128), (vs (ix2 k d) : EReal) = ((g d (b + k.val) : ℝ) : EReal))
    (mx l : FVec Ideal S256x1 .f32) (acc : FVec Ideal S256x128 .f32)
    (h : Holds f g a b (mx (ix2 r 0)) (l (ix2 r 0)) (fun d => acc (ix2 r d))) :
    Holds f g a (b + 1024) (k0_pay4 q mx ks (ix2 r 0)) (k0_pay17 q mx l ks (ix2 r 0)) (fun d => k0_pay7 q mx acc ks vs (ix2 r d)) := by
  have hs : ∀ k : Fin 1024, (k0_pay3 q ks (ix2 r k) : EReal) = ((f (b + k.val) : ℝ) : EReal) := fun k => (score_apply q ks r k).trans (hf k)
  have hl : (k0_pay17 q mx l ks (ix2 r 0) : EReal) = Ideal.exp2 (mx (ix2 r 0) - k0_pay4 q mx ks (ix2 r 0)) * l (ix2 r 0)
      + ∑ k : Fin 1024, Ideal.exp2 (k0_pay3 q ks (ix2 r k) - k0_pay4 q mx ks (ix2 r 0)) := by
    rw [total_apply, factor_apply]
    exact congrArg _ (Finset.sum_congr rfl fun k _ => power_apply q ks mx r k)
  have ha : ∀ d : Fin 128, (k0_pay7 q mx acc ks vs (ix2 r d) : EReal) = Ideal.exp2 (mx (ix2 r 0) - k0_pay4 q mx ks (ix2 r 0)) * acc (ix2 r d)
      + ∑ k : Fin 1024, Ideal.exp2 (k0_pay3 q ks (ix2 r k) - k0_pay4 q mx ks (ix2 r 0)) * vs (ix2 k d) := by
    intro d
    rw [sum_apply, factor_apply]
    exact congrArg _ (Finset.sum_congr rfl fun k _ => congrArg (· * _) (power_apply q ks mx r k))
  have hm := max_apply q ks mx r
  generalize k0_pay3 q ks = s3 at hs hm hl ha
  generalize k0_pay4 q mx ks = s4 at hm hl ha ⊢
  generalize k0_pay17 q mx l ks = s17 at hl ⊢
  generalize k0_pay7 q mx acc ks vs = s7 at ha ⊢
  exact Holds.step (n := 1024) (by norm_num) hab h (fun k => s3 (ix2 r k)) (fun k d => vs (ix2 k d)) hs hg hm hl ha

section rows
variable (q : Vec Ideal S256x256 .bf16) (kc : Vec Ideal S8448x256 .bf16) (vc : Vec Ideal S8448x128 .bf16)
  (f : ℕ → ℝ) (g : Fin 128 → ℕ → ℝ) (r : Fin 256)
  (hf : ∀ k : Fin 8448, (∑ d : Fin 256, q (ix2 r d) * kc (ix2 k d) : EReal) = ((f k.val : ℝ) : EReal))
  (hg : ∀ (k : Fin 8448) (d : Fin 128), (vc (ix2 k d) : EReal) = ((g d k.val : ℝ) : EReal))

include hf hg in
theorem chunk_row (a b : ℕ) (hab : a ≤ b) (hb : b + 1024 ≤ 8448) (o1 o2 : Fin 2 → ℕ) (h1 : o1 = ![b, 0]) (h2 : o2 = ![b, 0])
    (b1 : ∀ x, o1 x + S1024x256.size x ≤ S8448x256.size x) (b2 : ∀ x, o2 x + S1024x128.size x ≤ S8448x128.size x) (s : Carry) (h : Row f g a b r s) :
    Row f g a (b + 1024) r (chunk q (View.ld (Val := Elt Ideal) kc (Rect.unit (s := S8448x256) o1 S1024x256.size b1))
      (View.ld (Val := Elt Ideal) vc (Rect.unit (s := S8448x128) o2 S1024x128.size b2)) s) := by
  have ek : ∀ (k : Fin 1024) (d : Fin 256), View.ld (Val := Elt Ideal) kc (Rect.unit (s := S8448x256) o1 S1024x256.size b1) (ix2 k d)
      = kc (ix2 ⟨b + k.val, by omega⟩ d) := rows_apply kc b hb o1 h1 b1
  have ev : ∀ (k : Fin 1024) (d : Fin 128), View.ld (Val := Elt Ideal) vc (Rect.unit (s := S8448x128) o2 S1024x128.size b2) (ix2 k d)
      = vc (ix2 ⟨b + k.val, by omega⟩ d) := rows_apply vc b hb o2 h2 b2
  generalize View.ld (Val := Elt Ideal) kc (Rect.unit (s := S8448x256) o1 S1024x256.size b1) = ks at ek ⊢
  generalize View.ld (Val := Elt Ideal) vc (Rect.unit (s := S8448x128) o2 S1024x128.size b2) = vs at ev ⊢
  obtain ⟨mx, l, acc⟩ := s
  refine chunk_step q ks vs f g r a b hab (fun k => ?_) (fun k d => ?_) mx l acc h
  · exact Eq.trans (Finset.sum_congr rfl fun d _ => congrArg _ (ek k d)) (hf ⟨b + k.val, by omega⟩)
  · exact (ev k d).trans (hg _ _)

end rows

section trip
variable (𝒱 : Variants) (c : Dev nD) (bd : Option 𝒱.V) (i : grid0.Coords)
  (a2 : Memref sig .tc .vmem S256x256 .bf16) (h2 : a2.IsWhole) (a3 : Memref sig .tc .vmem S8448x256 .bf16) (h3 : a3.IsWhole)
  (a4 : Memref sig .tc .vmem S8448x128 .bf16) (h4 : a4.IsWhole) (a5 : Memref sig .tc .vmem S256x128 .f32) (h5 : a5.IsWhole)
  (a6 : Memref sig .tc .vmem S256x128 .bf16) (h6 : a6.IsWhole) (a7 : Memref sig .tc .vmem S256x128 .f32) (h7 : a7.IsWhole)
  (q : Vec Ideal S256x256 .bf16) (kc : Vec Ideal S8448x256 .bf16) (vc : Vec Ideal S8448x128 .bf16)

/-- The chunk of trip `k` at the offset word `o`. -/
abbrev part (k : Fin (k0_t1_loop i).trips) (j : Fin 4) : Carry → Carry :=
  chunk (k0_pay43 q) (View.ld (Val := Elt Ideal) kc (Rect.unit (s := S8448x256) (k0_off1 i k (BitVec.ofNat 32 (1024 * j.val))) S1024x256.size (k0_off1_inb i k j)))
    (View.ld (Val := Elt Ideal) vc (Rect.unit (s := S8448x128) (k0_off2 i k (BitVec.ofNat 32 (1024 * j.val))) S1024x128.size (k0_off2_inb i k j)))

theorem tripR_eq (k : Fin (k0_t1_loop i).trips) (s : Carry) :
    tripR_k0_t1 (F := Ideal) 𝒱 c bd i a2 h2 a3 h3 a4 h4 a5 h5 a6 h6 a7 h7 q (h3.unread kc) (h4.unread vc) k s
      = part i q kc vc k 3 (part i q kc vc k 2 (part i q kc vc k 1 (part i q kc vc k 0 s))) := by
  unfold tripR_k0_t1 trip_k0_t1; dsimp only
  sl_unfold_words
  simp only [View.readAt_eq_ld, h3.read_unread, h4.read_unread]
  rfl

/-- What the loop carries before trip `k`. -/
def carried (n : ℕ) : Carry :=
  st_k0_t1 (F := Ideal) 𝒱 c bd i a2 h2 a3 h3 a4 h4 a5 h5 a6 h6 a7 h7 q (h3.unread kc) (h4.unread vc) (k0_pay44, k0_pay45, k0_pay46) n

theorem pay43_eq (x : Vec Ideal S256x256 .bf16) : k0_pay43 x = x := shapeCast_self _ _

/-- The first maximum is a real number, and the first total and the first sums are zero: no key is passed. -/
theorem start_row (f : ℕ → ℝ) (g : Fin 128 → ℕ → ℝ) (a : ℕ) (r : Fin 256) : Row f g a a r (k0_pay44 (F := Ideal), k0_pay45 (F := Ideal), k0_pay46 (F := Ideal)) := by
  have e : Ideal.ofBits .f32 0xF149F2CA#32 = (((Ideal.ofBits .f32 0xF149F2CA#32).toReal : ℝ) : EReal) := by
    have h : Ideal.ofBits .f32 0xF149F2CA#32 = ((-(13234890 * 2 ^ 76) : ℝ) : EReal) := by
      simp [Ideal.ofBits, Ideal.ieee]
    rw [h, EReal.toReal_coe]
  refine ⟨(Ideal.ofBits .f32 0xF149F2CA#32).toReal, ?_, ?_, fun d => ?_⟩
  · refine Eq.trans ?_ e
    pointwise [k0_pay44]
  · rw [Finset.Ico_self, Finset.sum_empty]
    pointwise [k0_pay45]
    rfl
  · rw [Finset.Ico_self, Finset.sum_empty]
    pointwise [k0_pay46]
    rfl

section
variable (f : ℕ → ℝ) (g : Fin 128 → ℕ → ℝ) (r : Fin 256)
  (hf : ∀ k : Fin 8448, (∑ d : Fin 256, q (ix2 r d) * kc (ix2 k d) : EReal) = ((f k.val : ℝ) : EReal))
  (hg : ∀ (k : Fin 8448) (d : Fin 128), (vc (ix2 k d) : EReal) = ((g d k.val : ℝ) : EReal))

include hf hg in
/-- A trip passes 4096 keys. -/
theorem trip_row (k : Fin (k0_t1_loop i).trips) (hk : 4096 * k.val + 4096 ≤ 8448) (s : Carry) (h : Row f g 0 (4096 * k.val) r s) :
    Row f g 0 (4096 * k.val + 4096) r
      (tripR_k0_t1 (F := Ideal) 𝒱 c bd i a2 h2 a3 h3 a4 h4 a5 h5 a6 h6 a7 h7 q (h3.unread kc) (h4.unread vc) k s) := by
  rw [tripR_eq]
  simp only [part, pay43_eq]
  have s0 := chunk_row q kc vc f g r hf hg 0 (4096 * k.val) (Nat.zero_le _) (by omega) _ _ (off1_0 i k) (off2_0 i k) (k0_off1_inb i k 0) (k0_off2_inb i k 0) s h
  have s1 := chunk_row q kc vc f g r hf hg 0 (4096 * k.val + 1024) (Nat.zero_le _) (by omega) _ _ (off1_1 i k) (off2_1 i k) (k0_off1_inb i k 1) (k0_off2_inb i k 1) _ s0
  have s2 := chunk_row q kc vc f g r hf hg 0 (4096 * k.val + 2048) (Nat.zero_le _) (by omega) _ _ (off1_2 i k) (off2_2 i k) (k0_off1_inb i k 2) (k0_off2_inb i k 2) _ s1
  exact chunk_row q kc vc f g r hf hg 0 (4096 * k.val + 3072) (Nat.zero_le _) (by omega) _ _ (off1_3 i k) (off2_3 i k) (k0_off1_inb i k 3) (k0_off2_inb i k 3) _ s2

include hf hg in
/-- Before trip `k` the keys passed are the first `4096 k`. -/
theorem carried_row (n : ℕ) (hn : n ≤ (k0_t1_loop i).trips) (h2' : (k0_t1_loop i).trips ≤ 2) :
    Row f g 0 (4096 * n) r (carried 𝒱 c bd i a2 h2 a3 h3 a4 h4 a5 h5 a6 h6 a7 h7 q kc vc n) := by
  induction n with
  | zero => exact start_row f g 0 r
  | succ n ih =>
    have e := st_k0_t1_succ (F := Ideal) 𝒱 c bd i a2 h2 a3 h3 a4 h4 a5 h5 a6 h6 a7 h7 q (h3.unread kc) (h4.unread vc) (k0_pay44, k0_pay45, k0_pay46) ⟨n, hn⟩
    have t := trip_row 𝒱 c bd i a2 h2 a3 h3 a4 h4 a5 h5 a6 h6 a7 h7 q kc vc f g r hf hg ⟨n, hn⟩ (by simp only; omega) _ (ih (by omega))
    rw [show 4096 * (n + 1) = 4096 * n + 4096 from rfl]
    have e' : carried 𝒱 c bd i a2 h2 a3 h3 a4 h4 a5 h5 a6 h6 a7 h7 q kc vc (n + 1) = _ := e
    rw [e']
    exact t

end

end trip

end Cert.FwdIdeal.Attn

end
-- ==== Proof.FwdPoint.lean ====
/- What one grid point leaves in its three blocks: the running softmax after all its keys. -/
module

public import proofs.«01_k».proof.Proof.FwdTrip
public import proofs.«01_k».proof.Proof.Gen.FwdIdeal.Value
public import Idealize.ShloMosaic.Lib.WritesUnit

@[expose] public section

set_option maxRecDepth 16384

noncomputable section

open Idealize.ShloMosaic Idealize.ShloMosaic.TcCoe Idealize.SL.Sem

namespace Cert.FwdIdeal.Attn

open Cert.FwdIdeal Cert.FwdIdeal.Gen Cert.AttnModel

theorem zero2 : (![0, 0] : Fin 2 → ℕ) = fun _ => 0 := by funext a; fin_cases a <;> rfl

section point
variable (c : Dev nD) (i : grid0.Coords)
  (a2 : Memref sig .tc .vmem S256x256 .bf16) (h2 : a2.IsWhole) (a3 : Memref sig .tc .vmem S8448x256 .bf16) (h3 : a3.IsWhole)
  (a4 : Memref sig .tc .vmem S8448x128 .bf16) (h4 : a4.IsWhole) (a5 : Memref sig .tc .vmem S256x128 .f32) (h5 : a5.IsWhole)
  (a6 : Memref sig .tc .vmem S256x128 .bf16) (h6 : a6.IsWhole) (a7 : Memref sig .tc .vmem S256x128 .f32) (h7 : a7.IsWhole)
  (q : Vec Ideal S256x256 .bf16) (kc : Vec Ideal S8448x256 .bf16) (vc : Vec Ideal S8448x128 .bf16)

/-- What the loop over the latent keys leaves. -/
def looped : Carry := carried Variants.none c none i a2 h2 a3 h3 a4 h4 a5 h5 a6 h6 a7 h7 q kc vc (k0_t1_loop i).trips

/-- The context's keys and values. -/
abbrev lastK : Vec Ideal S256x256 .bf16 := View.ld (Val := Elt Ideal) kc (Rect.unit (s := S8448x256) ![8192, 0] S256x256.size inb_S8448x256_S256x256_8192_0)
abbrev lastV : Vec Ideal S256x128 .bf16 := View.ld (Val := Elt Ideal) vc (Rect.unit (s := S8448x128) ![8192, 0] S256x128.size inb_S8448x128_S256x128_8192_0)

theorem out3 (r : Fin 256) (d : Fin 128) :
    (out0_A_3 (F := Ideal) c i a2 h2 a3 h3 a4 h4 a5 h5 a6 h6 a7 h7 q kc vc (ix2 r d) : EReal)
      = k0_pay58 q (looped c i a2 h2 a3 h3 a4 h4 a5 h5 a6 h6 a7 h7 q kc vc).1 (looped c i a2 h2 a3 h3 a4 h4 a5 h5 a6 h6 a7 h7 q kc vc).2.1
          (looped c i a2 h2 a3 h3 a4 h4 a5 h5 a6 h6 a7 h7 q kc vc).2.2 (lastK kc) (lastV vc) (ix2 r d) := by
  have e := trips_rest i
  dsimp only [k0_t2_loop, Scf.Loop.trips] at e
  unfold out0_A_3 kernelRun0_A
  dsimp only
  sl_unfold_words
  simp only [View.readAt_eq_ld, h2.read_unread, h3.read_unread, h4.read_unread,
    View.ld_unit_zero (S := S256x256) zero2 inb_S256x256_S256x256_0_0]
  rw [e]
  simp only [st_k0_t2_zero]
  obtain ⟨n, hn⟩ : ∃ n, (k0_t1_loop i).trips = n := ⟨_, rfl⟩
  unfold looped carried
  rw [hn]
  dsimp only [k0_t1_loop, Scf.Loop.trips] at hn
  rw [hn]
  generalize st_k0_t1 (F := Ideal) Variants.none c none i a2 h2 a3 h3 a4 h4 a5 h5 a6 h6 a7 h7 q (h3.unread kc) (h4.unread vc) (k0_pay44, k0_pay45, k0_pay46) n = s
  exact View.read_writes_cons_rows_of_mem (size := S256x128.size) VO0_3 _ _ _ _ (ix2 r d) (ix2 r d) rfl (Nat.zero_add _).symm rfl

theorem out4 (r : Fin 256) (d : Fin 128) :
    (out0_A_4 (F := Ideal) c i a2 h2 a3 h3 a4 h4 a5 h5 a6 h6 a7 h7 q kc vc (ix2 r d) : EReal)
      = k0_pay1 (k0_pay58 q (looped c i a2 h2 a3 h3 a4 h4 a5 h5 a6 h6 a7 h7 q kc vc).1 (looped c i a2 h2 a3 h3 a4 h4 a5 h5 a6 h6 a7 h7 q kc vc).2.1
          (looped c i a2 h2 a3 h3 a4 h4 a5 h5 a6 h6 a7 h7 q kc vc).2.2 (lastK kc) (lastV vc)) (ix2 r d) := by
  have e := trips_rest i
  dsimp only [k0_t2_loop, Scf.Loop.trips] at e
  unfold out0_A_4 kernelRun0_A
  dsimp only
  sl_unfold_words
  simp only [View.readAt_eq_ld, h2.read_unread, h3.read_unread, h4.read_unread,
    View.ld_unit_zero (S := S256x256) zero2 inb_S256x256_S256x256_0_0]
  rw [e]
  simp only [st_k0_t2_zero]
  obtain ⟨n, hn⟩ : ∃ n, (k0_t1_loop i).trips = n := ⟨_, rfl⟩
  unfold looped carried
  rw [hn]
  dsimp only [k0_t1_loop, Scf.Loop.trips] at hn
  rw [hn]
  generalize st_k0_t1 (F := Ideal) Variants.none c none i a2 h2 a3 h3 a4 h4 a5 h5 a6 h6 a7 h7 q (h3.unread kc) (h4.unread vc) (k0_pay44, k0_pay45, k0_pay46) n = s
  exact View.read_writes_cons_rows_of_mem (size := S256x128.size) VO0_4 _ _ _ _ (ix2 r d) (ix2 r d) rfl (Nat.zero_add _).symm rfl

theorem out5 (r : Fin 256) (d : Fin 128) :
    (out0_A_5 (F := Ideal) c i a2 h2 a3 h3 a4 h4 a5 h5 a6 h6 a7 h7 q kc vc (ix2 r d) : EReal)
      = k0_pay2 (k0_pay54 q (looped c i a2 h2 a3 h3 a4 h4 a5 h5 a6 h6 a7 h7 q kc vc).1 (lastK kc))
          (k0_pay57 q (looped c i a2 h2 a3 h3 a4 h4 a5 h5 a6 h6 a7 h7 q kc vc).1 (looped c i a2 h2 a3 h3 a4 h4 a5 h5 a6 h6 a7 h7 q kc vc).2.1 (lastK kc)) (ix2 r d) := by
  have e := trips_rest i
  dsimp only [k0_t2_loop, Scf.Loop.trips] at e
  unfold out0_A_5 kernelRun0_A
  dsimp only
  sl_unfold_words
  simp only [View.readAt_eq_ld, h2.read_unread, h3.read_unread, h4.read_unread,
    View.ld_unit_zero (S := S256x256) zero2 inb_S256x256_S256x256_0_0]
  rw [e]
  simp only [st_k0_t2_zero]
  obtain ⟨n, hn⟩ : ∃ n, (k0_t1_loop i).trips = n := ⟨_, rfl⟩
  unfold looped carried
  rw [hn]
  dsimp only [k0_t1_loop, Scf.Loop.trips] at hn
  rw [hn]
  generalize st_k0_t1 (F := Ideal) Variants.none c none i a2 h2 a3 h3 a4 h4 a5 h5 a6 h6 a7 h7 q (h3.unread kc) (h4.unread vc) (k0_pay44, k0_pay45, k0_pay46) n = s
  exact View.read_writes_cons_rows_of_mem (size := S256x128.size) VO0_5 _ _ _ _ (ix2 r d) (ix2 r d) rfl (Nat.zero_add _).symm rfl

/-! ## The three blocks' entries, over real numbers -/

section
variable (f : ℕ → ℝ) (g : Fin 128 → ℕ → ℝ) (r : Fin 256)
  (hf : ∀ k : Fin 8448, (∑ d : Fin 256, q (ix2 r d) * kc (ix2 k d) : EReal) = ((f k.val : ℝ) : EReal))
  (hg : ∀ (k : Fin 8448) (d : Fin 128), (vc (ix2 k d) : EReal) = ((g d k.val : ℝ) : EReal))

/-- The first key of a tile's queries: a latent tile's see all keys, the context's tile's the context keys. -/
def first : ℕ := if (i 1).val < 32 then 0 else 8192

include hf hg in
theorem looped_row : Row f g (first i) 8192 r (looped c i a2 h2 a3 h3 a4 h4 a5 h5 a6 h6 a7 h7 q kc vc) := by
  unfold first
  by_cases hi : (i 1).val < 32
  · rw [if_pos hi]
    unfold looped
    rw [trips_latent i hi]
    exact carried_row Variants.none c none i a2 h2 a3 h3 a4 h4 a5 h5 a6 h6 a7 h7 q kc vc f g r hf hg 2 (trips_latent i hi).ge (trips_latent i hi).le
  · rw [if_neg hi]
    unfold looped
    rw [trips_context i hi]
    exact start_row f g 8192 r

theorem first_le : first i ≤ 8192 := by
  unfold first
  split <;> omega

theorem last_step (ks : Vec Ideal S256x256 .bf16) (vs : Vec Ideal S256x128 .bf16) (a b : ℕ) (hab : a ≤ b)
    (hf : ∀ k : Fin 256, (∑ d : Fin 256, q (ix2 r d) * ks (ix2 k d) : EReal) = ((f (b + k.val) : ℝ) : EReal))
    (hg : ∀ (k : Fin 256) (d : Fin 128), (vs (ix2 k d) : EReal) = ((g d (b + k.val) : ℝ) : EReal))
    (mx l : FVec Ideal S256x1 .f32) (acc : FVec Ideal S256x128 .f32)
    (h : Holds f g a b (mx (ix2 r 0)) (l (ix2 r 0)) (fun d => acc (ix2 r d))) :
    ∃ acc' : Fin 128 → EReal, Holds f g a (b + 256) (k0_pay54 q mx ks (ix2 r 0)) (k0_pay57 q mx l ks (ix2 r 0)) acc'
      ∧ ∀ d, (k0_pay58 q mx l acc ks vs (ix2 r d) : EReal) = Ideal.div (acc' d) (k0_pay57 q mx l ks (ix2 r 0)) := by
  have hs : ∀ k : Fin 256, (k0_pay53 q ks (ix2 r k) : EReal) = ((f (b + k.val) : ℝ) : EReal) := fun k => (score_last q ks r k).trans (hf k)
  have hl : (k0_pay57 q mx l ks (ix2 r 0) : EReal) = Ideal.exp2 (mx (ix2 r 0) - k0_pay54 q mx ks (ix2 r 0)) * l (ix2 r 0)
      + ∑ k : Fin 256, Ideal.exp2 (k0_pay53 q ks (ix2 r k) - k0_pay54 q mx ks (ix2 r 0)) := by
    rw [total_last, factor_last]
    exact congrArg _ (Finset.sum_congr rfl fun k _ => power_last q ks mx r k)
  have ha : ∀ d : Fin 128, (k0_pay58 q mx l acc ks vs (ix2 r d) : EReal) = Ideal.div (Ideal.exp2 (mx (ix2 r 0) - k0_pay54 q mx ks (ix2 r 0)) * acc (ix2 r d)
      + ∑ k : Fin 256, Ideal.exp2 (k0_pay53 q ks (ix2 r k) - k0_pay54 q mx ks (ix2 r 0)) * vs (ix2 k d)) (k0_pay57 q mx l ks (ix2 r 0)) := by
    intro d
    rw [mean_last, factor_last]
    exact congrArg (Ideal.div · _) (congrArg _ (Finset.sum_congr rfl fun k _ => congrArg (· * _) (power_last q ks mx r k)))
  have hm := max_last q ks mx r
  refine ⟨_, ?_, ha⟩
  clear ha
  generalize k0_pay53 q ks = s3 at hs hm hl ⊢
  generalize k0_pay54 q mx ks = s4 at hm hl ⊢
  generalize k0_pay57 q mx l ks = s17 at hl ⊢
  exact Holds.step (n := 256) (by norm_num) hab h (fun k => s3 (ix2 r k)) (fun k d => vs (ix2 k d)) hs hg hm hl (fun d => rfl)

include hf hg in
theorem point_row :
    ∃ (mx l : EReal) (acc : Fin 128 → EReal), Holds f g (first i) 8448 mx l acc
      ∧ (∀ d : Fin 128, (out0_A_3 (F := Ideal) c i a2 h2 a3 h3 a4 h4 a5 h5 a6 h6 a7 h7 q kc vc (ix2 r d) : EReal) = Ideal.div (acc d) l)
      ∧ (∀ d : Fin 128, (out0_A_4 (F := Ideal) c i a2 h2 a3 h3 a4 h4 a5 h5 a6 h6 a7 h7 q kc vc (ix2 r d) : EReal) = Ideal.div (acc d) l)
      ∧ (∀ d : Fin 128, (out0_A_5 (F := Ideal) c i a2 h2 a3 h3 a4 h4 a5 h5 a6 h6 a7 h7 q kc vc (ix2 r d) : EReal)
          = mx + Ideal.div (Ideal.log l) ((Real.log 2 : ℝ) : EReal)) := by
  have hrow := looped_row c i a2 h2 a3 h3 a4 h4 a5 h5 a6 h6 a7 h7 q kc vc f g r hf hg
  have ek : ∀ (k : Fin 256) (d : Fin 256), lastK kc (ix2 k d) = kc (ix2 ⟨8192 + k.val, by omega⟩ d) := rows_apply kc 8192 (by omega) _ rfl _
  have ev : ∀ (k : Fin 256) (d : Fin 128), lastV vc (ix2 k d) = vc (ix2 ⟨8192 + k.val, by omega⟩ d) := rows_apply vc 8192 (by omega) _ rfl _
  have o3 := fun d => out3 c i a2 h2 a3 h3 a4 h4 a5 h5 a6 h6 a7 h7 q kc vc r d
  have o4 := fun d => out4 c i a2 h2 a3 h3 a4 h4 a5 h5 a6 h6 a7 h7 q kc vc r d
  have o5 := fun d => out5 c i a2 h2 a3 h3 a4 h4 a5 h5 a6 h6 a7 h7 q kc vc r d
  generalize looped c i a2 h2 a3 h3 a4 h4 a5 h5 a6 h6 a7 h7 q kc vc = s at hrow o3 o4 o5
  generalize lastK kc = ks at ek o3 o4 o5
  generalize lastV vc = vs at ev o3 o4
  obtain ⟨mx, l, acc⟩ := s
  obtain ⟨acc', hh, hd⟩ := last_step q f g r ks vs (first i) 8192 (first_le i)
    (fun k => Eq.trans (Finset.sum_congr rfl fun d _ => congrArg _ (ek k d)) (hf ⟨8192 + k.val, by omega⟩))
    (fun k d => (ev k d).trans (hg _ _)) mx l acc hrow
  refine ⟨_, _, acc', hh, fun d => (o3 d).trans (hd d), fun d => (o4 d).trans ((narrow_apply _ _).trans (hd d)), fun d => (o5 d).trans ?_⟩
  exact saved_apply _ _ r d

end

end point

end Cert.FwdIdeal.Attn

end
-- ==== Proof.FwdFinal.lean ====
/- The three result arrays over real arguments: the blocks of the grid points as places of the arrays, the arrays the
   call is given, and what every point leaves. -/
module

public import proofs.«01_k».proof.Proof.FwdModel
public import proofs.«01_k».proof.Proof.FwdPoint

@[expose] public section

set_option maxRecDepth 16384

noncomputable section

open Idealize.ShloMosaic Idealize.ShloMosaic.TcCoe Idealize.SL.Sem
open Idealize.ShloMosaic.Pipeline (Dat Cfg Window)

namespace Cert.FwdIdeal.Attn

open Cert.FwdIdeal Cert.FwdIdeal.Gen Cert.AttnModel

variable (m : (ℓ : Loc nD τ sig) → Buf (Elt Ideal) ℓ)

/-- Point `t` is head `t / 33` and query tile `t % 33`. -/
theorem idx : ∀ t : Fin cfg0.N, win0_0.index t = ![t.val % 33, t.val / 33] ∧ win0_1.index t = ![0, t.val / 33] ∧ win0_2.index t = ![0, 8 + t.val / 33]
    ∧ win0_3.index t = ![t.val % 33, t.val / 33] ∧ win0_4.index t = ![t.val % 33, t.val / 33] ∧ win0_5.index t = ![t.val % 33, t.val / 33]
    ∧ ((grid0.coords t) 1).val = t.val % 33 :=
  (by decide +kernel : ∀ t : Fin grid0.N, _)

theorem N_eq : cfg0.N = 264 := by decide +kernel

variable (c : Dev nD) (t : Fin cfg0.N)

theorem t_lt : t.val / 33 < 8 := by have := t.isLt; have := N_eq; omega

/-- The head and the query row a point and a row of its block stand for. -/
abbrev headOf : Fin 8 := ⟨t.val / 33, t_lt t⟩
abbrev rowOf (r : Fin 256) : Fin 8448 := ⟨256 * (t.val % 33) + r.val, by omega⟩

/-- The three blocks of a point, with their shapes. -/
abbrev qBlk : Vec Ideal S256x256 .bf16 := iblk m c 0 t
abbrev kBlk : Vec Ideal S8448x256 .bf16 := iblk m c 1 t
abbrev vBlk : Vec Ideal S8448x128 .bf16 := iblk m c 2 t

theorem q_apply (r : Fin 256) (d : Fin 256) :
    (qBlk m c t (ix2 r d) : EReal) = V m c main_v9 (ix2 (rowOf t r) ⟨256 * (t.val / 33) + d.val, by have := t_lt t; omega⟩) := by
  have := t_lt t
  blk_ext [qBlk, kBlk, vBlk, iblk, idx t]
theorem k_apply (k : Fin 8448) (d : Fin 256) :
    (kBlk m c t (ix2 k d) : EReal) = V m c main_v11 (ix2 k ⟨256 * (t.val / 33) + d.val, by have := t_lt t; omega⟩) := by
  have := t_lt t
  blk_ext [qBlk, kBlk, vBlk, iblk, idx t]
theorem v_apply (k : Fin 8448) (d : Fin 128) :
    (vBlk m c t (ix2 k d) : EReal) = V m c main_v12 (ix2 k ⟨1024 + 128 * (t.val / 33) + d.val, by have := t_lt t; omega⟩) := by
  have := t_lt t
  blk_ext [qBlk, kBlk, vBlk, iblk, idx t]

theorem first_eq (r : Fin 256) : first (grid0.coords t) = if (rowOf t r).val < 8192 then 0 else 8192 := by
  obtain ⟨-, -, -, -, -, -, e⟩ := idx t
  unfold first
  rw [e]
  by_cases h : t.val % 33 < 32
  · rw [if_pos h, if_pos (show 256 * (t.val % 33) + r.val < 8192 by omega)]
  · rw [if_neg h, if_neg (show ¬ 256 * (t.val % 33) + r.val < 8192 by omega)]

/-! ## The arrays the call is given -/

abbrev argQ : FVec Ideal S8448x8x256 .f32 := m ((c : Thread nD τ).loc main_arg0)
abbrev argK : FVec Ideal S8448x8x256 .f32 := m ((c : Thread nD τ).loc main_arg1)
abbrev argV : FVec Ideal S8448x8x128 .f32 := m ((c : Thread nD τ).loc main_arg2)

theorem V_eq (b : Ref sig .tc) : V m c b = StableHlo.after hostOps0 (fun b => m (c, b)) b := rfl

theorem host_k (k : Fin 8448) (h : ℕ) (hh : h < 8) (d : Fin 256) (hj : 256 * h + d.val < 2048) :
    (V m c main_v11 (ix2 k ⟨256 * h + d.val, hj⟩) : EReal) = argK m c (ix3 k ⟨h, hh⟩ d) := by
  rw [V_eq]
  entry_read
  pointwise
  have e : (256 * h + d.val) / 256 = h := by have := d.isLt; omega
  simp only [e]

theorem host_v (k : Fin 8448) (h : ℕ) (hh : h < 8) (d : Fin 128) (hj : 1024 + 128 * h + d.val < 2048) :
    (V m c main_v12 (ix2 k ⟨1024 + 128 * h + d.val, hj⟩) : EReal) = argV m c (ix3 k ⟨h, hh⟩ d) := by
  rw [V_eq]
  entry_read
  pointwise
  rw [dif_neg (by omega)]
  have e : (1024 + 128 * h + d.val - 1024) / 128 = h := by have := d.isLt; omega
  have e' : (1024 + 128 * h + d.val - 1024) % 128 = d.val := by have := d.isLt; omega
  simp only [e, e']

theorem host_q (k : Fin 8448) (h : ℕ) (hh : h < 8) (d : Fin 256) (hj : 256 * h + d.val < 2048) :
    (V m c main_v9 (ix2 k ⟨256 * h + d.val, hj⟩) : EReal) = argQ m c (ix3 k ⟨h, hh⟩ d) *
      Ideal.div (Ideal.ofBits .f32 0x3D93CD3A#32) (Ideal.log (Ideal.ofBits .f32 0x40000000#32)) := by
  rw [V_eq]
  entry_read
  pointwise
  have e : (256 * h + d.val) / 256 = h := by have := d.isLt; omega
  simp only [e]

/-! ## Over real arguments -/

/-- Real numbers as an array of queries or keys, and as an array of values. -/
abbrev wide (Q : Fin 8448 → Fin 8 → Fin 256 → ℝ) : FVec Ideal S8448x8x256 .f32 := fun i => ((Q (i 0) (i 1) (i 2) : ℝ) : EReal)
abbrev thin (W : Fin 8448 → Fin 8 → Fin 128 → ℝ) : FVec Ideal S8448x8x128 .f32 := fun i => ((W (i 0) (i 1) (i 2) : ℝ) : EReal)

variable (Q K : Fin 8448 → Fin 8 → Fin 256 → ℝ) (W : Fin 8448 → Fin 8 → Fin 128 → ℝ)

/-- The arguments are these real numbers. -/
structure Real3 : Prop where
  q : argQ m c = wide Q
  k : argK m c = wide K
  v : argV m c = thin W

variable {m c Q K W} (hr : Real3 m c Q K W)
include hr

theorem q_real (q : Fin 8448) (h : ℕ) (hh : h < 8) (d : Fin 256) (hj : 256 * h + d.val < 2048) :
    (V m c main_v9 (ix2 q ⟨256 * h + d.val, hj⟩) : EReal) = ((Q q ⟨h, hh⟩ d * (scale / Real.log 2) : ℝ) : EReal) := by
  rw [host_q m c q h hh d hj, hr.q, scale_eq, two_eq, log_real (show (0 : ℝ) < 2 by norm_num), div_real _ (ne_of_gt (Real.log_pos (by norm_num))), EReal.coe_mul]
  rfl

theorem k_real (k : Fin 8448) (h : ℕ) (hh : h < 8) (d : Fin 256) (hj : 256 * h + d.val < 2048) :
    (V m c main_v11 (ix2 k ⟨256 * h + d.val, hj⟩) : EReal) = ((K k ⟨h, hh⟩ d : ℝ) : EReal) := by
  rw [host_k m c k h hh d hj, hr.k]
  rfl

theorem v_real (k : Fin 8448) (h : ℕ) (hh : h < 8) (d : Fin 128) (hj : 1024 + 128 * h + d.val < 2048) :
    (V m c main_v12 (ix2 k ⟨1024 + 128 * h + d.val, hj⟩) : EReal) = ((W k ⟨h, hh⟩ d : ℝ) : EReal) := by
  rw [host_v m c k h hh d hj, hr.v]
  rfl

/-- A point's scores, in units of the logarithm of two. -/
theorem scores_real (r : Fin 256) (k : Fin 8448) :
    (∑ d : Fin 256, (qBlk m c t) (ix2 r d) * (kBlk m c t) (ix2 k d) : EReal)
      = ((onNat (fun k => score scale Q K (headOf t) (rowOf t r) k / Real.log 2) k.val : ℝ) : EReal) := by
  rw [onNat_at, score, Finset.sum_div, coe_sum]
  refine Finset.sum_congr rfl fun d _ => ?_
  rw [q_apply, k_apply, q_real hr _ _ (t_lt t), k_real hr _ _ (t_lt t), ← EReal.coe_mul]
  exact congrArg (fun x : ℝ => (x : EReal)) (by ring)

theorem values_real (k : Fin 8448) (d : Fin 128) :
    (vBlk m c t (ix2 k d) : EReal) = ((onNat (fun k => W k (headOf t) d) k.val : ℝ) : EReal) := by
  rw [onNat_at, v_apply, v_real hr _ _ (t_lt t)]

/-- What a point leaves in a row of its three blocks. -/
theorem point_real (r : Fin 256) :
    (∀ d : Fin 128, ((outsAt0 m c t).1 (ix2 r d) : EReal) = ((meanV scale Q K W (rowOf t r) (headOf t) d : ℝ) : EReal))
      ∧ (∀ d : Fin 128, ((outsAt0 m c t).2.1 (ix2 r d) : EReal) = ((meanV scale Q K W (rowOf t r) (headOf t) d : ℝ) : EReal))
      ∧ (∀ d : Fin 128, ((outsAt0 m c t).2.2 (ix2 r d) : EReal) = ((logTotal scale Q K (rowOf t r) (headOf t) : ℝ) : EReal)) := by
  have e := point_row c (grid0.coords t) (ms0_0 t) (hs0_0 t) (ms0_1 t) (hs0_1 t) (ms0_2 t) (hs0_2 t) (ms0_3 t) (hs0_3 t) (ms0_4 t) (hs0_4 t)
    (ms0_5 t) (hs0_5 t) (qBlk m c t) (kBlk m c t) (vBlk m c t)
    (onNat fun k => score scale Q K (headOf t) (rowOf t r) k / Real.log 2) (fun d => onNat fun k => W k (headOf t) d) r
    (fun k => scores_real t hr r k) (fun k d => values_real t hr k d)
  obtain ⟨mx, l, acc, hh, h3, h4, h5⟩ := e
  rw [first_eq t r] at hh
  unfold outsAt0
  dsimp only
  exact ⟨fun d => (h3 d).trans (hh.quotient d), fun d => (h4 d).trans (hh.quotient d), fun d => (h5 d).trans hh.log⟩

/-! ## The result arrays -/

omit hr in
theorem head128 (j : Fin 1024) : j.val / 128 < 8 := by omega
/-- A column of a result: its head and its place in the head. -/
abbrev colHead (j : Fin 1024) : Fin 8 := ⟨j.val / 128, head128 j⟩
abbrev colAt (j : Fin 1024) : Fin 128 := ⟨j.val % 128, Nat.mod_lt _ (by norm_num)⟩

variable (Q K W) in
omit hr in
def meanArr (q : Fin 8448) (j : Fin 1024) : EReal := ((meanV scale Q K W q (colHead j) (colAt j) : ℝ) : EReal)
variable (Q K) in
omit hr in
def logArr (q : Fin 8448) (j : Fin 1024) : EReal := ((logTotal scale Q K q (colHead j) : ℝ) : EReal)

omit hr in
theorem meanArr_at (q : Fin 8448) (h : Fin 8) (d : Fin 128) (hj : 128 * h.val + d.val < 1024) :
    meanArr Q K W q ⟨128 * h.val + d.val, hj⟩ = ((meanV scale Q K W q h d : ℝ) : EReal) := by
  unfold meanArr
  have e1 : colHead ⟨128 * h.val + d.val, hj⟩ = h := Fin.ext (show (128 * h.val + d.val) / 128 = h.val by omega)
  have e2 : colAt ⟨128 * h.val + d.val, hj⟩ = d := Fin.ext (show (128 * h.val + d.val) % 128 = d.val by omega)
  rw [e1, e2]
omit hr in
theorem logArr_at (q : Fin 8448) (h : Fin 8) (d : Fin 128) (hj : 128 * h.val + d.val < 1024) :
    logArr Q K q ⟨128 * h.val + d.val, hj⟩ = ((logTotal scale Q K q h : ℝ) : EReal) := by
  unfold logArr
  have e1 : colHead ⟨128 * h.val + d.val, hj⟩ = h := Fin.ext (show (128 * h.val + d.val) / 128 = h.val by omega)
  rw [e1]

theorem final3 : (dats m 0 c).arrAt 3 cfg0.N = fun j => meanArr Q K W (j 0) (j 1) := by
  refine (dats m 0 c).arrAt_eq_of_covers 3 (fun j => meanArr Q K W (j 0) (j 1)) (by decide +kernel) fun t hf y => ?_
  blk_simp
  rw [after0_3]
  idx_vars y
  have e : ((View.whole main_v13_0).slice (win0_3.rect t)).emb (ix2 y0 y1) = ix2 (rowOf t y0) ⟨128 * (headOf t).val + y1.val, by have := t_lt t; show 128 * (t.val / 33) + y1.val < 1024; omega⟩ := by
    have := t_lt t
    blk_ext [idx t]
  rw [e]
  exact ((point_real t hr y0).1 y1).trans (meanArr_at (rowOf t y0) (headOf t) y1 _).symm

theorem final4 : (dats m 0 c).arrAt 4 cfg0.N = fun j => meanArr Q K W (j 0) (j 1) := by
  refine (dats m 0 c).arrAt_eq_of_covers 4 (fun j => meanArr Q K W (j 0) (j 1)) (by decide +kernel) fun t hf y => ?_
  blk_simp
  rw [after0_4]
  idx_vars y
  have e : ((View.whole main_v13_1).slice (win0_4.rect t)).emb (ix2 y0 y1) = ix2 (rowOf t y0) ⟨128 * (headOf t).val + y1.val, by have := t_lt t; show 128 * (t.val / 33) + y1.val < 1024; omega⟩ := by
    have := t_lt t
    blk_ext [idx t]
  rw [e]
  exact ((point_real t hr y0).2.1 y1).trans (meanArr_at (rowOf t y0) (headOf t) y1 _).symm

theorem final5 : (dats m 0 c).arrAt 5 cfg0.N = fun j => logArr Q K (j 0) (j 1) := by
  refine (dats m 0 c).arrAt_eq_of_covers 5 (fun j => logArr Q K (j 0) (j 1)) (by decide +kernel) fun t hf y => ?_
  blk_simp
  rw [after0_5]
  idx_vars y
  have e : ((View.whole main_v13_2).slice (win0_5.rect t)).emb (ix2 y0 y1) = ix2 (rowOf t y0) ⟨128 * (headOf t).val + y1.val, by have := t_lt t; show 128 * (t.val / 33) + y1.val < 1024; omega⟩ := by
    have := t_lt t
    blk_ext [idx t]
  rw [e]
  exact ((point_real t hr y0).2.2 y1).trans (logArr_at (rowOf t y0) (headOf t) y1 _).symm

end Cert.FwdIdeal.Attn

end
-- ==== Proof.FwdRef.lean ====
/- The attention reference's three results over real arguments: the means of the values, the same rounded, and each
   row's logarithm to the base two. The latent rows and the context rows are two stretches of the same operations. -/
module

public import proofs.«01_k».proof.Proof.Gen.FwdRefIdeal.Read
public import proofs.«01_k».proof.Proof.FwdModel
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.FwdRefIdeal.Attn

open Cert.FwdRefIdeal Cert.FwdRefIdeal.Value Cert.FwdRefIdeal.Read Cert.AttnModel
open Cert.FwdIdeal.Attn (meanV logTotal)

/-- Real numbers as an array of queries or keys. -/
abbrev wide (Q : Fin 8448 → Fin 8 → Fin 256 → ℝ) : (⟨S8448x8x256, .f32⟩ : BufTy).Contents (Elt Ideal) := fun i => ((Q (i 0) (i 1) (i 2) : ℝ) : EReal)
/-- Real numbers as an array of values. -/
abbrev thin (W : Fin 8448 → Fin 8 → Fin 128 → ℝ) : (⟨S8448x8x128, .f32⟩ : BufTy).Contents (Elt Ideal) := fun i => ((W (i 0) (i 1) (i 2) : ℝ) : EReal)

variable (Q K : Fin 8448 → Fin 8 → Fin 256 → ℝ) (W : Fin 8448 → Fin 8 → Fin 128 → ℝ)

theorem scaled_at (q : Fin 8448) (h : Fin 8) (d : Fin 256) :
    (val_main_v1 (F := Ideal) (wide Q) (ix3 q h d) : EReal) = ((Q q h d * scale : ℝ) : EReal) := by
  rw [val_main_v1_apply, val_main_v0_apply, val_main_cst_apply, Ideal.mulf_def, Ideal.ofBits_def, scale_eq, EReal.coe_mul]
  rfl

/-! ## The latent rows -/

theorem lat_query (q : Fin 8192) (h : Fin 8) (d : Fin 256) :
    (val_main_v2 (F := Ideal) (wide Q) (ix3 q h d) : EReal) = ((Q (latent q) h d * scale : ℝ) : EReal) := by
  rw [val_main_v2_apply, ← scaled_at]
  exact congrArg _ (funext fun a => by fin_cases a <;> rfl)
theorem lat_query' (q : Fin 8192) (h : Fin 8) (d : Fin 256) :
    (val_main_v36 (F := Ideal) (wide Q) (ix3 q h d) : EReal) = ((Q (latent q) h d * scale : ℝ) : EReal) := by
  rw [val_main_v36_apply, ← scaled_at]
  exact congrArg _ (funext fun a => by fin_cases a <;> rfl)

theorem lat_key (k : Fin 8448) (h : Fin 8) (d : Fin 256) : (wide K (ix3 k h d) : EReal) = ((K k h d : ℝ) : EReal) := rfl
theorem lat_key' (k : Fin 8448) (h : Fin 8) (d : Fin 256) : (wide K (ix3 k h d) : EReal) = ((K k h d : ℝ) : EReal) := rfl
theorem lat_value (k : Fin 8448) (h : Fin 8) (d : Fin 128) : (thin W (ix3 k h d) : EReal) = ((W k h d : ℝ) : EReal) := rfl

theorem lat_score (h : Fin 8) (q : Fin 8192) (k : Fin 8448) :
    (val_main_v3 (F := Ideal) (wide Q) (wide K) (ix3 h q k) : EReal) = ((score scale Q K h (latent q) k : ℝ) : EReal) := by
  rw [val_main_v3_apply]
  unfold score
  rw [coe_sum]
  refine Finset.sum_congr rfl fun d _ => ?_
  have e1 : lidx_main_v3 (ix3 h q k) d = ix3 q h d := funext fun a => by fin_cases a <;> rfl
  have e2 : ridx_main_v3 (ix3 h q k) d = ix3 k h d := funext fun a => by fin_cases a <;> rfl
  rw [e1, e2, lat_query, lat_key, ← EReal.coe_mul]

theorem lat_max (h : Fin 8) (q : Fin 8192) :
    ∃ M : ℝ, (val_main_v4 (F := Ideal) (wide Q) (wide K) (ix2 h q) : EReal) = (M : EReal) := by
  obtain ⟨M, hM⟩ := fold_max_real (Finset.univ : Finset (Fin 8448)) ⟨0, Finset.mem_univ _⟩ (fun k => score scale Q K h (latent q) k)
  refine ⟨M, hM ▸ ?_⟩
  have e : ∀ k, (val_main_v3 (F := Ideal) (wide Q) (wide K) (ix3 h q k) : EReal) = _ := fun k => lat_score Q K h q k
  simp only [← e, ← bot_eq]
  unfold val_main_v4 val_main_cst_0
  generalize val_main_v3 (F := Ideal) (wide Q) (wide K) = y
  pointwise

theorem lat_exp (h : Fin 8) (q : Fin 8192) (M : ℝ) (hM : (val_main_v4 (F := Ideal) (wide Q) (wide K) (ix2 h q) : EReal) = (M : EReal)) (k : Fin 8448) :
    (val_main_v10 (F := Ideal) (wide Q) (wide K) (ix3 h q k) : EReal)
      = ((Real.exp (score scale Q K h (latent q) k - M) : ℝ) : EReal) := by
  rw [val_main_v10_apply, val_main_v9_apply, val_main_v8_apply, val_main_v7_apply, val_main_v6_apply, val_main_v5_apply,
    val_main_cst_1_apply]
  have e : idx_main_v7 (idx_main_v8 (ix3 h q k)) = ix2 h q := funext fun a => by fin_cases a <;> rfl
  rw [e, lat_score, hM, Ideal.ofBits_def, bot_eq, Ideal.subf_def, Ideal.maximumf_def, Ideal.hostUnary_exp_def]
  rw [show max (⊥ : EReal) ((M : ℝ) : EReal) = ((M : ℝ) : EReal) from max_eq_right bot_le, ← EReal.coe_sub]
  exact Ideal.exp_coe _

/-- The sum of a row's exponentials, shifted by `M`. -/
abbrev latTotal (h : Fin 8) (q : Fin 8192) (M : ℝ) : ℝ := ∑ j ∈ keys sees (latent q), Real.exp (score scale Q K h (latent q) j - M)

theorem latTotal_ne (h : Fin 8) (q : Fin 8192) (M : ℝ) : latTotal Q K h q M ≠ 0 := ne_of_gt (sum_exp_pos _ (keys_nonempty _) _)

theorem lat_total (h : Fin 8) (q : Fin 8192) (M : ℝ) (hM : (val_main_v4 (F := Ideal) (wide Q) (wide K) (ix2 h q) : EReal) = (M : EReal)) :
    (val_main_v11 (F := Ideal) (wide Q) (wide K) (ix2 h q) : EReal) = ((latTotal Q K h q M : ℝ) : EReal) := by
  rw [val_main_v11_apply, val_main_cst_2_apply, Ideal.ofBits_def, Ideal.ofBits_zero_f32]
  refine (zero_add _).trans ?_
  refine Eq.trans (Finset.sum_congr rfl fun k _ => ?_) ((coe_sum Finset.univ _).symm.trans (congrArg (fun x : ℝ => (x : EReal)) (sum_latent q fun j => Real.exp (score scale Q K h (latent q) j - M))))
  have e : idx_main_v11 (ix2 h q) k = ix3 h q k := funext fun a => by fin_cases a <;> rfl
  rw [e, lat_exp Q K h q M hM]

theorem lat_prob (h : Fin 8) (q : Fin 8192) (k : Fin 8448) :
    (val_main_v14 (F := Ideal) (wide Q) (wide K) (ix3 h q k) : EReal) = ((prob scale Q K h (latent q) k : ℝ) : EReal) := by
  obtain ⟨M, hM⟩ := lat_max Q K h q
  rw [val_main_v14_apply, val_main_v13_apply, val_main_v12_apply]
  have e : idx_main_v12 (idx_main_v13 (ix3 h q k)) = ix2 h q := funext fun a => by fin_cases a <;> rfl
  rw [e, lat_exp Q K h q M hM, lat_total Q K h q M hM, Ideal.hostDivf_def, div_real _ (latTotal_ne Q K h q M), shift_prob]
  rfl

theorem lat_mean (h : Fin 8) (q : Fin 8192) (d : Fin 128) :
    (val_main_v16 (F := Ideal) (wide Q) (wide K) (thin W) (ix3 q h d) : EReal) = ((meanV scale Q K W (latent q) h d : ℝ) : EReal) := by
  rw [val_main_v16_apply]
  have e : idx_main_v16 (ix3 q h d) = ix3 h d q := funext fun a => by fin_cases a <;> rfl
  rw [e, val_main_v15_apply]
  refine Eq.trans (Finset.sum_congr rfl fun k _ => ?_) ((coe_sum Finset.univ _).symm.trans (congrArg (fun x : ℝ => (x : EReal)) (sum_latent q fun j => prob scale Q K h (latent q) j * W j h d)))
  have e1 : lidx_main_v15 (ix3 h d q) k = ix3 k h d := funext fun a => by fin_cases a <;> rfl
  have e2 : ridx_main_v15 (ix3 h d q) k = ix3 h q k := funext fun a => by fin_cases a <;> rfl
  rw [e1, e2, lat_prob, lat_value, ← EReal.coe_mul, mul_comm]

theorem lat_power (q : Fin 8192) (h : Fin 8) (k : Fin 8448) :
    (val_main_v39 (F := Ideal) (wide Q) (wide K) (ix3 q h k) : EReal) = ((Real.exp (score scale Q K h (latent q) k) : ℝ) : EReal) := by
  rw [val_main_v39_apply, val_main_v38_apply]
  have e : idx_main_v38 (ix3 q h k) = ix3 h k q := funext fun a => by fin_cases a <;> rfl
  have es : (val_main_v37 (F := Ideal) (wide Q) (wide K) (ix3 h k q) : EReal) = ((score scale Q K h (latent q) k : ℝ) : EReal) := by
    rw [val_main_v37_apply]
    unfold score
    rw [coe_sum]
    refine Finset.sum_congr rfl fun d _ => ?_
    have e1 : lidx_main_v37 (ix3 h k q) d = ix3 k h d := funext fun a => by fin_cases a <;> rfl
    have e2 : ridx_main_v37 (ix3 h k q) d = ix3 q h d := funext fun a => by fin_cases a <;> rfl
    rw [e1, e2, lat_query', lat_key', ← EReal.coe_mul, mul_comm]
  rw [e, es, Ideal.hostUnary_exp_def]
  exact Ideal.exp_coe _

theorem lat_log (q : Fin 8192) (h : Fin 8) :
    (val_main_v44 (F := Ideal) (wide Q) (wide K) (ix2 q h) : EReal) = ((logTotal scale Q K (latent q) h : ℝ) : EReal) := by
  have es : (val_main_v40 (F := Ideal) (wide Q) (wide K) (ix2 q h) : EReal) = ((total scale Q K h (latent q) : ℝ) : EReal) := by
    rw [val_main_v40_apply, val_main_cst_6_apply, Ideal.ofBits_def, Ideal.ofBits_zero_f32]
    refine (zero_add _).trans ?_
    refine Eq.trans (Finset.sum_congr rfl fun k _ => ?_) ((coe_sum Finset.univ _).symm.trans (congrArg (fun x : ℝ => (x : EReal)) (sum_latent q fun j => Real.exp (score scale Q K h (latent q) j))))
    have e : idx_main_v40 (ix2 q h) k = ix3 q h k := funext fun a => by fin_cases a <;> rfl
    rw [e, lat_power]
  rw [val_main_v44_apply, val_main_v41_apply, es, val_main_v43_apply, val_main_v42_apply, val_main_cst_7_apply, Ideal.ofBits_def, two_eq,
    Ideal.hostDivf_def, Ideal.hostUnary_log_def, Ideal.hostUnary_log_def, log_real (total_pos scale Q K h (latent q)), log_real (show (0 : ℝ) < 2 by norm_num),
    div_real _ (ne_of_gt (Real.log_pos (by norm_num)))]
  rfl

/-! ## The context rows -/

theorem ctx_query (q : Fin 256) (h : Fin 8) (d : Fin 256) :
    (val_main_v17 (F := Ideal) (wide Q) (ix3 q h d) : EReal) = ((Q (context q) h d * scale : ℝ) : EReal) := by
  rw [val_main_v17_apply, ← scaled_at]
  exact congrArg _ (funext fun a => by fin_cases a <;> rfl)
theorem ctx_query' (q : Fin 256) (h : Fin 8) (d : Fin 256) :
    (val_main_v45 (F := Ideal) (wide Q) (ix3 q h d) : EReal) = ((Q (context q) h d * scale : ℝ) : EReal) := by
  rw [val_main_v45_apply, ← scaled_at]
  exact congrArg _ (funext fun a => by fin_cases a <;> rfl)

theorem ctx_key (k : Fin 256) (h : Fin 8) (d : Fin 256) :
    (val_main_v18 (F := Ideal) (wide K) (ix3 k h d) : EReal) = ((K (context k) h d : ℝ) : EReal) := by
  rw [val_main_v18_apply]
  have e : idx_main_v18 (ix3 k h d) = ix3 (context k) h d := funext fun a => by fin_cases a <;> rfl
  rw [e]
  rfl

theorem ctx_key' (k : Fin 256) (h : Fin 8) (d : Fin 256) :
    (val_main_v46 (F := Ideal) (wide K) (ix3 k h d) : EReal) = ((K (context k) h d : ℝ) : EReal) := by
  rw [val_main_v46_apply]
  have e : idx_main_v46 (ix3 k h d) = ix3 (context k) h d := funext fun a => by fin_cases a <;> rfl
  rw [e]
  rfl

theorem ctx_value (k : Fin 256) (h : Fin 8) (d : Fin 128) :
    (val_main_v19 (F := Ideal) (thin W) (ix3 k h d) : EReal) = ((W (context k) h d : ℝ) : EReal) := by
  rw [val_main_v19_apply]
  have e : idx_main_v19 (ix3 k h d) = ix3 (context k) h d := funext fun a => by fin_cases a <;> rfl
  rw [e]
  rfl

theorem ctx_score (h : Fin 8) (q : Fin 256) (k : Fin 256) :
    (val_main_v20 (F := Ideal) (wide Q) (wide K) (ix3 h q k) : EReal) = ((score scale Q K h (context q) (context k) : ℝ) : EReal) := by
  rw [val_main_v20_apply]
  unfold score
  rw [coe_sum]
  refine Finset.sum_congr rfl fun d _ => ?_
  have e1 : lidx_main_v20 (ix3 h q k) d = ix3 q h d := funext fun a => by fin_cases a <;> rfl
  have e2 : ridx_main_v20 (ix3 h q k) d = ix3 k h d := funext fun a => by fin_cases a <;> rfl
  rw [e1, e2, ctx_query, ctx_key, ← EReal.coe_mul]

theorem ctx_max (h : Fin 8) (q : Fin 256) :
    ∃ M : ℝ, (val_main_v21 (F := Ideal) (wide Q) (wide K) (ix2 h q) : EReal) = (M : EReal) := by
  obtain ⟨M, hM⟩ := fold_max_real (Finset.univ : Finset (Fin 256)) ⟨0, Finset.mem_univ _⟩ (fun k => score scale Q K h (context q) (context k))
  refine ⟨M, hM ▸ ?_⟩
  have e : ∀ k, (val_main_v20 (F := Ideal) (wide Q) (wide K) (ix3 h q k) : EReal) = _ := fun k => ctx_score Q K h q k
  simp only [← e, ← bot_eq]
  unfold val_main_v21 val_main_cst_3
  generalize val_main_v20 (F := Ideal) (wide Q) (wide K) = y
  pointwise

theorem ctx_exp (h : Fin 8) (q : Fin 256) (M : ℝ) (hM : (val_main_v21 (F := Ideal) (wide Q) (wide K) (ix2 h q) : EReal) = (M : EReal)) (k : Fin 256) :
    (val_main_v27 (F := Ideal) (wide Q) (wide K) (ix3 h q k) : EReal)
      = ((Real.exp (score scale Q K h (context q) (context k) - M) : ℝ) : EReal) := by
  rw [val_main_v27_apply, val_main_v26_apply, val_main_v25_apply, val_main_v24_apply, val_main_v23_apply, val_main_v22_apply,
    val_main_cst_4_apply]
  have e : idx_main_v24 (idx_main_v25 (ix3 h q k)) = ix2 h q := funext fun a => by fin_cases a <;> rfl
  rw [e, ctx_score, hM, Ideal.ofBits_def, bot_eq, Ideal.subf_def, Ideal.maximumf_def, Ideal.hostUnary_exp_def]
  rw [show max (⊥ : EReal) ((M : ℝ) : EReal) = ((M : ℝ) : EReal) from max_eq_right bot_le, ← EReal.coe_sub]
  exact Ideal.exp_coe _

/-- The sum of a row's exponentials, shifted by `M`. -/
abbrev ctxTotal (h : Fin 8) (q : Fin 256) (M : ℝ) : ℝ := ∑ j ∈ keys sees (context q), Real.exp (score scale Q K h (context q) j - M)

theorem ctxTotal_ne (h : Fin 8) (q : Fin 256) (M : ℝ) : ctxTotal Q K h q M ≠ 0 := ne_of_gt (sum_exp_pos _ (keys_nonempty _) _)

theorem ctx_total (h : Fin 8) (q : Fin 256) (M : ℝ) (hM : (val_main_v21 (F := Ideal) (wide Q) (wide K) (ix2 h q) : EReal) = (M : EReal)) :
    (val_main_v28 (F := Ideal) (wide Q) (wide K) (ix2 h q) : EReal) = ((ctxTotal Q K h q M : ℝ) : EReal) := by
  rw [val_main_v28_apply, val_main_cst_5_apply, Ideal.ofBits_def, Ideal.ofBits_zero_f32]
  refine (zero_add _).trans ?_
  refine Eq.trans (Finset.sum_congr rfl fun k _ => ?_) ((coe_sum Finset.univ _).symm.trans (congrArg (fun x : ℝ => (x : EReal)) (sum_context q fun j => Real.exp (score scale Q K h (context q) j - M))))
  have e : idx_main_v28 (ix2 h q) k = ix3 h q k := funext fun a => by fin_cases a <;> rfl
  rw [e, ctx_exp Q K h q M hM]

theorem ctx_prob (h : Fin 8) (q : Fin 256) (k : Fin 256) :
    (val_main_v31 (F := Ideal) (wide Q) (wide K) (ix3 h q k) : EReal) = ((prob scale Q K h (context q) (context k) : ℝ) : EReal) := by
  obtain ⟨M, hM⟩ := ctx_max Q K h q
  rw [val_main_v31_apply, val_main_v30_apply, val_main_v29_apply]
  have e : idx_main_v29 (idx_main_v30 (ix3 h q k)) = ix2 h q := funext fun a => by fin_cases a <;> rfl
  rw [e, ctx_exp Q K h q M hM, ctx_total Q K h q M hM, Ideal.hostDivf_def, div_real _ (ctxTotal_ne Q K h q M), shift_prob]
  rfl

theorem ctx_mean (h : Fin 8) (q : Fin 256) (d : Fin 128) :
    (val_main_v33 (F := Ideal) (wide Q) (wide K) (thin W) (ix3 q h d) : EReal) = ((meanV scale Q K W (context q) h d : ℝ) : EReal) := by
  rw [val_main_v33_apply]
  have e : idx_main_v33 (ix3 q h d) = ix3 h d q := funext fun a => by fin_cases a <;> rfl
  rw [e, val_main_v32_apply]
  refine Eq.trans (Finset.sum_congr rfl fun k _ => ?_) ((coe_sum Finset.univ _).symm.trans (congrArg (fun x : ℝ => (x : EReal)) (sum_context q fun j => prob scale Q K h (context q) j * W j h d)))
  have e1 : lidx_main_v32 (ix3 h d q) k = ix3 k h d := funext fun a => by fin_cases a <;> rfl
  have e2 : ridx_main_v32 (ix3 h d q) k = ix3 h q k := funext fun a => by fin_cases a <;> rfl
  rw [e1, e2, ctx_prob, ctx_value, ← EReal.coe_mul, mul_comm]

theorem ctx_power (q : Fin 256) (h : Fin 8) (k : Fin 256) :
    (val_main_v49 (F := Ideal) (wide Q) (wide K) (ix3 q h k) : EReal) = ((Real.exp (score scale Q K h (context q) (context k)) : ℝ) : EReal) := by
  rw [val_main_v49_apply, val_main_v48_apply]
  have e : idx_main_v48 (ix3 q h k) = ix3 h k q := funext fun a => by fin_cases a <;> rfl
  have es : (val_main_v47 (F := Ideal) (wide Q) (wide K) (ix3 h k q) : EReal) = ((score scale Q K h (context q) (context k) : ℝ) : EReal) := by
    rw [val_main_v47_apply]
    unfold score
    rw [coe_sum]
    refine Finset.sum_congr rfl fun d _ => ?_
    have e1 : lidx_main_v47 (ix3 h k q) d = ix3 k h d := funext fun a => by fin_cases a <;> rfl
    have e2 : ridx_main_v47 (ix3 h k q) d = ix3 q h d := funext fun a => by fin_cases a <;> rfl
    rw [e1, e2, ctx_query', ctx_key', ← EReal.coe_mul, mul_comm]
  rw [e, es, Ideal.hostUnary_exp_def]
  exact Ideal.exp_coe _

theorem ctx_log (q : Fin 256) (h : Fin 8) :
    (val_main_v54 (F := Ideal) (wide Q) (wide K) (ix2 q h) : EReal) = ((logTotal scale Q K (context q) h : ℝ) : EReal) := by
  have es : (val_main_v50 (F := Ideal) (wide Q) (wide K) (ix2 q h) : EReal) = ((total scale Q K h (context q) : ℝ) : EReal) := by
    rw [val_main_v50_apply, val_main_cst_8_apply, Ideal.ofBits_def, Ideal.ofBits_zero_f32]
    refine (zero_add _).trans ?_
    refine Eq.trans (Finset.sum_congr rfl fun k _ => ?_) ((coe_sum Finset.univ _).symm.trans (congrArg (fun x : ℝ => (x : EReal)) (sum_context q fun j => Real.exp (score scale Q K h (context q) j))))
    have e : idx_main_v50 (ix2 q h) k = ix3 q h k := funext fun a => by fin_cases a <;> rfl
    rw [e, ctx_power]
  rw [val_main_v54_apply, val_main_v51_apply, es, val_main_v53_apply, val_main_v52_apply, val_main_cst_9_apply, Ideal.ofBits_def, two_eq,
    Ideal.hostDivf_def, Ideal.hostUnary_log_def, Ideal.hostUnary_log_def, log_real (total_pos scale Q K h (context q)), log_real (show (0 : ℝ) < 2 by norm_num),
    div_real _ (ne_of_gt (Real.log_pos (by norm_num)))]
  rfl

/-! ## The results -/

theorem v34_at (q : Fin 8448) (h : Fin 8) (d : Fin 128) :
    (val_main_v34 (F := Ideal) (wide Q) (wide K) (thin W) (ix3 q h d) : EReal) = ((meanV scale Q K W q h d : ℝ) : EReal) := by
  rcases latent_or_context q with ⟨i, rfl⟩ | ⟨i, rfl⟩
  · rw [← lat_mean]
    unfold val_main_v34
    generalize val_main_v16 (F := Ideal) (wide Q) (wide K) (thin W) = y
    generalize val_main_v33 (F := Ideal) (wide Q) (wide K) (thin W) = z
    pointwise
    rw [dif_pos (show (latent i).val < 8192 from i.isLt)]
    rfl
  · rw [← ctx_mean]
    unfold val_main_v34
    generalize val_main_v16 (F := Ideal) (wide Q) (wide K) (thin W) = y
    generalize val_main_v33 (F := Ideal) (wide Q) (wide K) (thin W) = z
    pointwise
    rw [dif_neg (show ¬ (context i).val < 8192 from Nat.not_lt.mpr (Nat.le_add_right 8192 i.val))]
    have e : ∀ hi : (context i).val - 8192 < 256, (⟨(context i).val - 8192, hi⟩ : Fin 256) = i := fun _ => Fin.ext (Nat.add_sub_cancel_left 8192 i.val)
    rw [e]

theorem v55_at (q : Fin 8448) (h : Fin 8) :
    (val_main_v55 (F := Ideal) (wide Q) (wide K) (ix2 q h) : EReal) = ((logTotal scale Q K q h : ℝ) : EReal) := by
  rcases latent_or_context q with ⟨i, rfl⟩ | ⟨i, rfl⟩
  · rw [← lat_log]
    unfold val_main_v55
    generalize val_main_v44 (F := Ideal) (wide Q) (wide K) = y
    generalize val_main_v54 (F := Ideal) (wide Q) (wide K) = z
    pointwise
    rw [dif_pos (show (latent i).val < 8192 from i.isLt)]
    rfl
  · rw [← ctx_log]
    unfold val_main_v55
    generalize val_main_v44 (F := Ideal) (wide Q) (wide K) = y
    generalize val_main_v54 (F := Ideal) (wide Q) (wide K) = z
    pointwise
    rw [dif_neg (show ¬ (context i).val < 8192 from Nat.not_lt.mpr (Nat.le_add_right 8192 i.val))]
    have e : ∀ hi : (context i).val - 8192 < 256, (⟨(context i).val - 8192, hi⟩ : Fin 256) = i := fun _ => Fin.ext (Nat.add_sub_cancel_left 8192 i.val)
    rw [e]

/-- The place in the heads of a column. -/
theorem col_at (q : Fin 8448) (h : Fin 8) (d : Fin 128) : idx_main_v35 (ix2 q ⟨128 * h.val + d.val, by omega⟩) = ix3 q h d := by
  funext a
  have hq : q.val < 8448 := q.isLt
  have hh : h.val < 8 := h.isLt
  have hd : d.val < 128 := d.isLt
  fin_cases a
  · exact Fin.ext (show (q.val * 1024 + (128 * h.val + d.val)) / 1024 = q.val by omega)
  · exact Fin.ext (show (q.val * 1024 + (128 * h.val + d.val)) / 128 % 8 = h.val by omega)
  · exact Fin.ext (show (q.val * 1024 + (128 * h.val + d.val)) % 128 = d.val by omega)

theorem ref_o (q : Fin 8448) (h : Fin 8) (d : Fin 128) :
    (val_main_v35 (F := Ideal) (wide Q) (wide K) (thin W) (ix2 q ⟨128 * h.val + d.val, by omega⟩) : EReal) = ((meanV scale Q K W q h d : ℝ) : EReal) := by
  rw [val_main_v35_apply, col_at, v34_at]

theorem ref_o_rounded (q : Fin 8448) (h : Fin 8) (d : Fin 128) :
    (val_main_v56 (F := Ideal) (wide Q) (wide K) (thin W) (ix2 q ⟨128 * h.val + d.val, by omega⟩) : EReal) = ((meanV scale Q K W q h d : ℝ) : EReal) := by
  rw [val_main_v56_apply, Ideal.truncf_def, ref_o]

theorem ref_log (q : Fin 8448) (h : Fin 8) (d : Fin 128) :
    (val_main_v59 (F := Ideal) (wide Q) (wide K) (ix2 q ⟨128 * h.val + d.val, by omega⟩) : EReal) = ((logTotal scale Q K q h : ℝ) : EReal) := by
  rw [val_main_v59_apply, show idx_main_v59 (ix2 q ⟨128 * h.val + d.val, by omega⟩) = ix3 q h d from col_at q h d, val_main_v58_apply, val_main_v57_apply]
  have e : idx_main_v57 (idx_main_v58 (ix3 q h d)) = ix2 q h := funext fun a => by fin_cases a <;> rfl
  rw [e, v55_at]

end Cert.FwdRefIdeal.Attn

end
-- ==== Proof.Pay.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

section pay
variable (kt : Vec Ideal S256x256 .bf16) (vt : Vec Ideal S256x128 .bf16) (q1 : Vec Ideal S1024x256 .bf16) (d1 : Vec Ideal S1024x128 .bf16)
    (l1 : Vec Ideal S1024x128 .f32) (a1 : Vec Ideal S1024x256 .f32) (ka : FVec Ideal S256x256 .f32) (va : FVec Ideal S256x128 .f32)
    (q2 : Vec Ideal S256x256 .bf16) (d2 : Vec Ideal S256x128 .bf16) (l2 : Vec Ideal S256x128 .f32) (a2 : Vec Ideal S256x256 .f32)

/-! ### The first chunk of a trip: 1024 query rows -/

theorem pay26_apply (r : Fin 1024) (k : Fin 256) :
    (k0_pay26 (k0_pay1 kt) q1 l1 (ix2 r k) : EReal) = Ideal.exp2 ((∑ d : Fin 256, q1 (ix2 r d) * kt (ix2 k d)) - l1 (ix2 r 0)) := by
  pointwise [k0_pay26, k0_pay23, k0_pay25, k0_pay1]
  rfl

theorem pay27_apply (r : Fin 1024) (k : Fin 256) :
    (k0_pay27 (k0_pay1 kt) (k0_pay2 vt) q1 d1 l1 (ix2 r k) : EReal)
      = k0_pay26 (k0_pay1 kt) q1 l1 (ix2 r k) * ((∑ d : Fin 128, d1 (ix2 r d) * vt (ix2 k d)) - l1 (ix2 r 64)) := by
  pointwise [k0_pay27, k0_pay24, k0_pay25, k0_pay2]

theorem pay28_apply (r : Fin 1024) (d : Fin 256) :
    (k0_pay28 (k0_pay1 kt) (k0_pay2 vt) q1 d1 l1 a1 (ix2 r d) : EReal)
      = a1 (ix2 r d) + ∑ k : Fin 256, k0_pay27 (k0_pay1 kt) (k0_pay2 vt) q1 d1 l1 (ix2 r k) * kt (ix2 k d) := by
  pointwise [k0_pay28, k0_pay1]

theorem pay29_apply (k : Fin 256) (d : Fin 256) :
    (k0_pay29 (k0_pay1 kt) (k0_pay2 vt) ka q1 d1 l1 (ix2 k d) : EReal)
      = ka (ix2 k d) + ∑ r : Fin 1024, k0_pay27 (k0_pay1 kt) (k0_pay2 vt) q1 d1 l1 (ix2 r k) * q1 (ix2 r d) := by
  pointwise [k0_pay29, k0_pay23]

theorem pay30_apply (k : Fin 256) (d : Fin 128) :
    (k0_pay30 (k0_pay1 kt) va q1 d1 l1 (ix2 k d) : EReal)
      = va (ix2 k d) + ∑ r : Fin 1024, k0_pay26 (k0_pay1 kt) q1 l1 (ix2 r k) * d1 (ix2 r d) := by
  pointwise [k0_pay30, k0_pay24]

/-! ### The second chunk of a trip -/

theorem pay8_apply (r : Fin 1024) (k : Fin 256) :
    (k0_pay8 kt q1 l1 (ix2 r k) : EReal) = Ideal.exp2 ((∑ d : Fin 256, q1 (ix2 r d) * kt (ix2 k d)) - l1 (ix2 r 0)) := by
  pointwise [k0_pay8, k0_pay7, k0_pay6, k0_pay1]
  rfl

theorem pay9_apply (r : Fin 1024) (k : Fin 256) :
    (k0_pay9 kt vt q1 d1 l1 (ix2 r k) : EReal)
      = k0_pay8 kt q1 l1 (ix2 r k) * ((∑ d : Fin 128, d1 (ix2 r d) * vt (ix2 k d)) - l1 (ix2 r 64)) := by
  pointwise [k0_pay9, k0_pay7, k0_pay6, k0_pay2]

theorem pay10_apply (r : Fin 1024) (d : Fin 256) :
    (k0_pay10 kt vt q1 d1 l1 a1 (ix2 r d) : EReal)
      = a1 (ix2 r d) + ∑ k : Fin 256, k0_pay9 kt vt q1 d1 l1 (ix2 r k) * kt (ix2 k d) := by
  pointwise [k0_pay10, k0_pay1]

theorem pay11_apply (k : Fin 256) (d : Fin 256) :
    (k0_pay11 kt vt ka q1 d1 l1 (ix2 k d) : EReal)
      = ka (ix2 k d) + ∑ r : Fin 1024, k0_pay9 kt vt q1 d1 l1 (ix2 r k) * q1 (ix2 r d) := by
  pointwise [k0_pay11]

theorem pay12_apply (k : Fin 256) (d : Fin 128) :
    (k0_pay12 kt va q1 d1 l1 (ix2 k d) : EReal)
      = va (ix2 k d) + ∑ r : Fin 1024, k0_pay8 kt q1 l1 (ix2 r k) * d1 (ix2 r d) := by
  pointwise [k0_pay12, k0_pay6]

/-! ### The 256 rows of the context queries -/

theorem pay18_apply (r : Fin 256) (k : Fin 256) :
    (k0_pay18 kt q2 l2 (ix2 r k) : EReal) = Ideal.exp2 ((∑ d : Fin 256, q2 (ix2 r d) * kt (ix2 k d)) - l2 (ix2 r 0)) := by
  pointwise [k0_pay18, k0_pay17, k0_pay15, k0_pay1]
  rfl

theorem pay19_apply (r : Fin 256) (k : Fin 256) :
    (k0_pay19 kt vt q2 d2 l2 (ix2 r k) : EReal)
      = k0_pay18 kt q2 l2 (ix2 r k) * ((∑ d : Fin 128, d2 (ix2 r d) * vt (ix2 k d)) - l2 (ix2 r 64)) := by
  pointwise [k0_pay19, k0_pay17, k0_pay16, k0_pay2]

theorem pay20_apply (r : Fin 256) (d : Fin 256) :
    (k0_pay20 kt vt q2 d2 l2 a2 (ix2 r d) : EReal)
      = a2 (ix2 r d) + ∑ k : Fin 256, k0_pay19 kt vt q2 d2 l2 (ix2 r k) * kt (ix2 k d) := by
  pointwise [k0_pay20, k0_pay1]

theorem pay21_apply (k : Fin 256) (d : Fin 256) :
    (k0_pay21 kt vt ka q2 d2 l2 (ix2 k d) : EReal)
      = (ka (ix2 k d) + ∑ r : Fin 256, k0_pay19 kt vt q2 d2 l2 (ix2 r k) * q2 (ix2 r d)) * ((Real.log 2 : ℝ) : EReal) := by
  pointwise [k0_pay21, k0_pay15]
  rfl
theorem pay22_apply (k : Fin 256) (d : Fin 128) :
    (k0_pay22 kt va q2 d2 l2 (ix2 k d) : EReal)
      = va (ix2 k d) + ∑ r : Fin 256, k0_pay18 kt q2 l2 (ix2 r k) * d2 (ix2 r d) := by
  pointwise [k0_pay22, k0_pay16]

/-! ### What is stored after the loop, and the zeros before it -/

theorem pay13_apply (k : Fin 256) (d : Fin 256) : (k0_pay13 ka (ix2 k d) : EReal) = ka (ix2 k d) * ((Real.log 2 : ℝ) : EReal) := by
  pointwise [k0_pay13]
  rfl

theorem pay14_apply (k : Fin 256) (d : Fin 128) : (k0_pay14 va (ix2 k d) : EReal) = va (ix2 k d) := by
  pointwise [k0_pay14]

theorem pay3_apply (q : Fin 8448) (d : Fin 256) : (k0_pay3 (F := Ideal) (ix2 q d) : EReal) = 0 := by
  pointwise [k0_pay3]

theorem pay4_apply (k : Fin 256) (d : Fin 256) : (k0_pay4 (F := Ideal) (ix2 k d) : EReal) = 0 := by
  pointwise [k0_pay4]

theorem pay5_apply (k : Fin 256) (d : Fin 128) : (k0_pay5 (F := Ideal) (ix2 k d) : EReal) = 0 := by
  pointwise [k0_pay5]

end pay

end Cert.KernelIdeal.Attn
end
-- ==== Proof.Trip.lean ====
module

public import proofs.«01_k».proof.Proof.Pay
public import Idealize.ShloMosaic.Lib.WritesUnit

@[expose] public section

set_option maxRecDepth 16384

noncomputable section

open Idealize.ShloMosaic Idealize.ShloMosaic.TcCoe Idealize.SL.Sem

namespace Cert.KernelIdeal.Attn

open Cert.KernelIdeal Cert.KernelIdeal.Gen

/-- The two chunks of trip `k` start at the rows `2048 k` and `2048 k + 1024`. -/
theorem off1_0 : ∀ k : Fin k0_t1_loop.trips, k0_off1 k 0#32 = ![2048 * k.val, 0] := by decide +kernel
theorem off1_1 : ∀ k : Fin k0_t1_loop.trips, k0_off1 k 1024#32 = ![2048 * k.val + 1024, 0] := by decide +kernel
theorem off2_0 : ∀ k : Fin k0_t1_loop.trips, k0_off2 k 0#32 = ![2048 * k.val, 0] := by decide +kernel
theorem off2_1 : ∀ k : Fin k0_t1_loop.trips, k0_off2 k 1024#32 = ![2048 * k.val + 1024, 0] := by decide +kernel
theorem trips_eq : k0_t1_loop.trips = 4 := by decide +kernel

/-- The kernel's probability of key `k` for query row `q`. -/
def prob (x2 : Vec Ideal S8448x256 .bf16) (x4 : Vec Ideal S8448x128 .f32) (kt : Vec Ideal S256x256 .bf16) (q : Fin 8448) (k : Fin 256) : EReal :=
  Ideal.exp2 ((∑ d : Fin 256, x2 (ix2 q d) * kt (ix2 k d)) - x4 (ix2 q 0))

/-- The gradient of the score of query row `q` and key `k`. -/
def dscore (x2 : Vec Ideal S8448x256 .bf16) (x3 : Vec Ideal S8448x128 .bf16) (x4 : Vec Ideal S8448x128 .f32) (kt : Vec Ideal S256x256 .bf16)
    (vt : Vec Ideal S256x128 .bf16) (q : Fin 8448) (k : Fin 256) : EReal :=
  prob x2 x4 kt q k * ((∑ d : Fin 128, x3 (ix2 q d) * vt (ix2 k d)) - x4 (ix2 q 64))

/-- `n` rows read at row `o` of a block, at an index. -/
theorem rows_apply {e : EltTy} {R C n : ℕ} (x : Vec Ideal ⟨2, ![R, C]⟩ e) (o : ℕ) (ho : o + n ≤ R) (off : Fin 2 → ℕ) (hoff : off = ![o, 0])
    (b : ∀ a, off a + (⟨2, ![n, C]⟩ : Shape).size a ≤ (⟨2, ![R, C]⟩ : Shape).size a) (r : Fin n) (d : Fin C) :
    View.ld (Val := Elt Ideal) x (Rect.unit (s := ⟨2, ![R, C]⟩) off (⟨2, ![n, C]⟩ : Shape).size b) (ix2 r d)
      = x (ix2 ⟨o + r.val, by omega⟩ d) := by
  subst hoff
  refine congrArg x ?_
  ext a
  fin_cases a
  · exact (Rect.idx_unit_val ..).trans rfl
  · exact (Rect.idx_unit_val ..).trans (Nat.zero_add _)

/-- The rows of a block that the two chunks of trip `k` load. -/
abbrev rowsA256 {e : EltTy} (x : Vec Ideal S8448x256 e) (k : Fin k0_t1_loop.trips) : Vec Ideal S1024x256 e :=
  View.ld (Val := Elt Ideal) x (Rect.unit (s := S8448x256) (k0_off1 k 0#32) S1024x256.size (k0_off1_inb k 0))
abbrev rowsB256 {e : EltTy} (x : Vec Ideal S8448x256 e) (k : Fin k0_t1_loop.trips) : Vec Ideal S1024x256 e :=
  View.ld (Val := Elt Ideal) x (Rect.unit (s := S8448x256) (k0_off1 k 1024#32) S1024x256.size (k0_off1_inb k 1))
abbrev rowsA128 {e : EltTy} (x : Vec Ideal S8448x128 e) (k : Fin k0_t1_loop.trips) : Vec Ideal S1024x128 e :=
  View.ld (Val := Elt Ideal) x (Rect.unit (s := S8448x128) (k0_off2 k 0#32) S1024x128.size (k0_off2_inb k 0))
abbrev rowsB128 {e : EltTy} (x : Vec Ideal S8448x128 e) (k : Fin k0_t1_loop.trips) : Vec Ideal S1024x128 e :=
  View.ld (Val := Elt Ideal) x (Rect.unit (s := S8448x128) (k0_off2 k 1024#32) S1024x128.size (k0_off2_inb k 1))
theorem rowsA256_apply {e : EltTy} (x : Vec Ideal S8448x256 e) (k : Fin k0_t1_loop.trips) (hk : 2048 * k.val + 1024 ≤ 8448) (r : Fin 1024) (d : Fin 256) :
    rowsA256 x k (ix2 r d) = x (ix2 ⟨2048 * k.val + r.val, by omega⟩ d) :=
  rows_apply x _ hk _ (off1_0 k) _ r d
theorem rowsB256_apply {e : EltTy} (x : Vec Ideal S8448x256 e) (k : Fin k0_t1_loop.trips) (hk : 2048 * k.val + 1024 + 1024 ≤ 8448) (r : Fin 1024) (d : Fin 256) :
    rowsB256 x k (ix2 r d) = x (ix2 ⟨2048 * k.val + 1024 + r.val, by omega⟩ d) :=
  rows_apply x _ hk _ (off1_1 k) _ r d
theorem rowsA128_apply {e : EltTy} (x : Vec Ideal S8448x128 e) (k : Fin k0_t1_loop.trips) (hk : 2048 * k.val + 1024 ≤ 8448) (r : Fin 1024) (d : Fin 128) :
    rowsA128 x k (ix2 r d) = x (ix2 ⟨2048 * k.val + r.val, by omega⟩ d) :=
  rows_apply x _ hk _ (off2_0 k) _ r d
theorem rowsB128_apply {e : EltTy} (x : Vec Ideal S8448x128 e) (k : Fin k0_t1_loop.trips) (hk : 2048 * k.val + 1024 + 1024 ≤ 8448) (r : Fin 1024) (d : Fin 128) :
    rowsB128 x k (ix2 r d) = x (ix2 ⟨2048 * k.val + 1024 + r.val, by omega⟩ d) :=
  rows_apply x _ hk _ (off2_1 k) _ r d

/-- The part of query row `r` in the gradient of key `kk`, and of value row `kk` (nothing past the last row). -/
def dkRow (x2 : Vec Ideal S8448x256 .bf16) (x3 : Vec Ideal S8448x128 .bf16) (x4 : Vec Ideal S8448x128 .f32) (kt : Vec Ideal S256x256 .bf16)
    (vt : Vec Ideal S256x128 .bf16) (kk d : Fin 256) (r : ℕ) : EReal :=
  if h : r < 8448 then dscore x2 x3 x4 kt vt ⟨r, h⟩ kk * x2 (ix2 ⟨r, h⟩ d) else 0
def dvRow (x2 : Vec Ideal S8448x256 .bf16) (x3 : Vec Ideal S8448x128 .bf16) (x4 : Vec Ideal S8448x128 .f32) (kt : Vec Ideal S256x256 .bf16)
    (kk : Fin 256) (d : Fin 128) (r : ℕ) : EReal :=
  if h : r < 8448 then prob x2 x4 kt ⟨r, h⟩ kk * x3 (ix2 ⟨r, h⟩ d) else 0

/-- What a trip's part of the queries' gradient is at row `q`. -/
def dqPart (x2 : Vec Ideal S8448x256 .bf16) (x3 : Vec Ideal S8448x128 .bf16) (x4 : Vec Ideal S8448x128 .f32) (kt : Vec Ideal S256x256 .bf16)
    (vt : Vec Ideal S256x128 .bf16) (q : Fin 8448) (d : Fin 256) : EReal :=
  ∑ kk : Fin 256, dscore x2 x3 x4 kt vt q kk * kt (ix2 kk d)

section trip
variable (𝒱 : Variants) (c : Dev nD) (bd : Option 𝒱.V) (i : grid0.Coords)
  (a2 : Memref sig .tc .vmem S8448x256 .bf16) (h2 : a2.IsWhole) (a3 : Memref sig .tc .vmem S8448x128 .bf16) (h3 : a3.IsWhole)
  (a4 : Memref sig .tc .vmem S8448x128 .f32) (h4 : a4.IsWhole) (a5 : Memref sig .tc .vmem S256x256 .bf16) (h5 : a5.IsWhole)
  (a6 : Memref sig .tc .vmem S256x128 .bf16) (h6 : a6.IsWhole) (a7 : Memref sig .tc .vmem S8448x256 .f32) (h7 : a7.IsWhole)
  (a8 : Memref sig .tc .vmem S256x256 .f32) (h8 : a8.IsWhole) (a9 : Memref sig .tc .vmem S256x128 .bf16) (h9 : a9.IsWhole)
  (kt : Vec Ideal S256x256 .bf16) (vt : Vec Ideal S256x128 .bf16)
  (x2 : Vec Ideal S8448x256 .bf16) (x3 : Vec Ideal S8448x128 .bf16) (x4 : Vec Ideal S8448x128 .f32)
  (k : Fin k0_t1_loop.trips) (acc : (FVec Ideal S256x256 .f32) × (FVec Ideal S256x128 .f32))
  (f7 : a7.view.ty.Contents (Elt Ideal))

/-- What a trip carries on: each chunk adds its part. -/
theorem tripR_eq : tripR_k0_t1 (F := Ideal) 𝒱 c bd i a2 h2 a3 h3 a4 h4 a5 h5 a6 h6 a7 h7 a8 h8 a9 h9 kt vt (h2.unread x2) (h3.unread x3) (h4.unread x4) k acc f7
    = (k0_pay11 kt vt (k0_pay29 (k0_pay1 kt) (k0_pay2 vt) acc.1 (rowsA256 x2 k) (rowsA128 x3 k) (rowsA128 x4 k)) (k0_pay31 (rowsB256 x2 k)) (rowsB128 x3 k) (rowsB128 x4 k),
       k0_pay12 kt (k0_pay30 (k0_pay1 kt) acc.2 (rowsA256 x2 k) (rowsA128 x3 k) (rowsA128 x4 k)) (k0_pay31 (rowsB256 x2 k)) (rowsB128 x3 k) (rowsB128 x4 k)) := by
  unfold tripR_k0_t1 trip_k0_t1; dsimp only
  sl_unfold_words
  simp only [View.readAt_eq_ld, h2.read_unread, h3.read_unread, h4.read_unread]
  rfl

/-- What a trip stores: each chunk's rows. -/
theorem tripL_eq : tripL_k0_t1 (F := Ideal) 𝒱 c bd i a2 h2 a3 h3 a4 h4 a5 h5 a6 h6 a7 h7 a8 h8 a9 h9 kt vt (h2.unread x2) (h3.unread x3) (h4.unread x4) k acc f7
    = [⟨Rect.unit (s := S8448x256) (k0_off1 k 1024#32) S1024x256.size (k0_off1_inb k 1), k0_pay10 kt vt (k0_pay31 (rowsB256 x2 k)) (rowsB128 x3 k) (rowsB128 x4 k) (rowsB256 (a7.view.read (Elt Ideal) f7) k)⟩,
       ⟨Rect.unit (s := S8448x256) (k0_off1 k 0#32) S1024x256.size (k0_off1_inb k 0), k0_pay28 (k0_pay1 kt) (k0_pay2 vt) (rowsA256 x2 k) (rowsA128 x3 k) (rowsA128 x4 k) (rowsA256 (a7.view.read (Elt Ideal) f7) k)⟩] := by
  unfold tripL_k0_t1 trip_k0_t1; dsimp only
  sl_unfold_words
  simp only [View.readAt_eq_ld, h2.read_unread, h3.read_unread, h4.read_unread]
  rfl

theorem pay31_eq (x : Vec Ideal S1024x256 .bf16) : k0_pay31 x = x := shapeCast_self _ _

/-- The scores of the two chunks are those of their rows. -/
theorem pay26_rows (hk : 2048 * k.val + 1024 ≤ 8448) (r : Fin 1024) (kk : Fin 256) :
    (k0_pay26 (k0_pay1 kt) (rowsA256 x2 k) (rowsA128 x4 k) (ix2 r kk) : EReal) = prob x2 x4 kt ⟨2048 * k.val + r.val, by omega⟩ kk := by
  rw [pay26_apply]
  simp only [rowsA256_apply x2 k hk, rowsA128_apply x4 k hk]
  rfl
theorem pay27_rows (hk : 2048 * k.val + 1024 ≤ 8448) (r : Fin 1024) (kk : Fin 256) :
    (k0_pay27 (k0_pay1 kt) (k0_pay2 vt) (rowsA256 x2 k) (rowsA128 x3 k) (rowsA128 x4 k) (ix2 r kk) : EReal)
      = dscore x2 x3 x4 kt vt ⟨2048 * k.val + r.val, by omega⟩ kk := by
  rw [pay27_apply, pay26_rows kt x2 x4 k hk]
  simp only [rowsA128_apply x3 k hk, rowsA128_apply x4 k hk]
  rfl
theorem pay8_rows (hk : 2048 * k.val + 1024 + 1024 ≤ 8448) (r : Fin 1024) (kk : Fin 256) :
    (k0_pay8 kt (rowsB256 x2 k) (rowsB128 x4 k) (ix2 r kk) : EReal) = prob x2 x4 kt ⟨2048 * k.val + 1024 + r.val, by omega⟩ kk := by
  rw [pay8_apply]
  simp only [rowsB256_apply x2 k hk, rowsB128_apply x4 k hk]
  rfl
theorem pay9_rows (hk : 2048 * k.val + 1024 + 1024 ≤ 8448) (r : Fin 1024) (kk : Fin 256) :
    (k0_pay9 kt vt (rowsB256 x2 k) (rowsB128 x3 k) (rowsB128 x4 k) (ix2 r kk) : EReal)
      = dscore x2 x3 x4 kt vt ⟨2048 * k.val + 1024 + r.val, by omega⟩ kk := by
  rw [pay9_apply, pay8_rows kt x2 x4 k hk]
  simp only [rowsB128_apply x3 k hk, rowsB128_apply x4 k hk]
  rfl

/-- A trip adds the parts of its 2048 rows to the gradient of the keys. -/
theorem tripR_fst (kk d : Fin 256) :
    ((tripR_k0_t1 (F := Ideal) 𝒱 c bd i a2 h2 a3 h3 a4 h4 a5 h5 a6 h6 a7 h7 a8 h8 a9 h9 kt vt (h2.unread x2) (h3.unread x3) (h4.unread x4) k acc f7).1 (ix2 kk d) : EReal)
      = acc.1 (ix2 kk d) + ∑ r ∈ Finset.range 2048, dkRow x2 x3 x4 kt vt kk d (2048 * k.val + r) := by
  have hk : k.val < 4 := trips_eq ▸ k.isLt
  rw [tripR_eq]
  show (k0_pay11 (F := Ideal) _ _ _ _ _ _ (ix2 kk d) : EReal) = _
  rw [pay31_eq, pay11_apply, pay29_apply, show (2048 : ℕ) = 1024 + 1024 from rfl, Finset.sum_range_add, ← add_assoc,
    Finset.sum_range, Finset.sum_range]
  refine congrArg₂ (· + ·) (congrArg₂ (· + ·) rfl ?_) ?_
  · refine Finset.sum_congr rfl fun r _ => ?_
    rw [pay27_rows kt vt x2 x3 x4 k (by omega), rowsA256_apply x2 k (by omega), dkRow, dif_pos (by omega)]
  · refine Finset.sum_congr rfl fun r _ => ?_
    rw [pay9_rows kt vt x2 x3 x4 k (by omega), rowsB256_apply x2 k (by omega), dkRow, dif_pos (by omega)]
    simp only [add_assoc]

/-- A trip adds the parts of its 2048 rows to the gradient of the values. -/
theorem tripR_snd (kk : Fin 256) (d : Fin 128) :
    ((tripR_k0_t1 (F := Ideal) 𝒱 c bd i a2 h2 a3 h3 a4 h4 a5 h5 a6 h6 a7 h7 a8 h8 a9 h9 kt vt (h2.unread x2) (h3.unread x3) (h4.unread x4) k acc f7).2 (ix2 kk d) : EReal)
      = acc.2 (ix2 kk d) + ∑ r ∈ Finset.range 2048, dvRow x2 x3 x4 kt kk d (2048 * k.val + r) := by
  have hk : k.val < 4 := trips_eq ▸ k.isLt
  rw [tripR_eq]
  show (k0_pay12 (F := Ideal) _ _ _ _ _ (ix2 kk d) : EReal) = _
  rw [pay31_eq, pay12_apply, pay30_apply, show (2048 : ℕ) = 1024 + 1024 from rfl, Finset.sum_range_add, ← add_assoc,
    Finset.sum_range, Finset.sum_range]
  refine congrArg₂ (· + ·) (congrArg₂ (· + ·) rfl ?_) ?_
  · refine Finset.sum_congr rfl fun r _ => ?_
    rw [pay26_rows kt x2 x4 k (by omega), rowsA128_apply x3 k (by omega), dvRow, dif_pos (by omega)]
  · refine Finset.sum_congr rfl fun r _ => ?_
    rw [pay8_rows kt x2 x4 k (by omega), rowsB128_apply x3 k (by omega), dvRow, dif_pos (by omega)]
    simp only [add_assoc]

/-- A trip adds its part to its own 2048 rows of the queries' gradient. -/
theorem tripL_read (q : Fin 8448) (d : Fin 256) :
    (a7.view.read (Elt Ideal) (a7.view.writes (Elt Ideal) f7 (tripL_k0_t1 (F := Ideal) 𝒱 c bd i a2 h2 a3 h3 a4 h4 a5 h5 a6 h6 a7 h7 a8 h8 a9 h9 kt vt (h2.unread x2) (h3.unread x3) (h4.unread x4) k acc f7)) (ix2 q d) : EReal)
      = a7.view.read (Elt Ideal) f7 (ix2 q d)
        + if 2048 * k.val ≤ q.val ∧ q.val < 2048 * k.val + 2048 then dqPart x2 x3 x4 kt vt q d else 0 := by
  have hk : k.val < 4 := trips_eq ▸ k.isLt
  rw [tripL_eq, pay31_eq]
  by_cases hB : 2048 * k.val + 1024 ≤ q.val ∧ q.val < 2048 * k.val + 1024 + 1024
  · rw [View.read_writes_cons_rows_of_mem (size := S1024x256.size) a7.view f7 _ _ _ (ix2 q d) (ix2 ⟨q.val - (2048 * k.val + 1024), by omega⟩ d) (off1_1 k)
      (by show q.val = _ + (q.val - _); omega) rfl]
    rw [pay10_apply, rowsB256_apply _ k (by omega), if_pos (by omega)]
    have e : (⟨2048 * k.val + 1024 + (q.val - (2048 * k.val + 1024)), by omega⟩ : Fin 8448) = q := Fin.ext (by show _ + (_ - _) = _; omega)
    simp only [pay9_rows kt vt x2 x3 x4 k (by omega), e]
    rfl
  rw [View.read_writes_cons_rows_of_not_mem (size := S1024x256.size) a7.view f7 _ _ _ (ix2 q d) (off1_1 k) (W := 1024) rfl
    (by show q.val < _ ∨ _ ≤ q.val; omega)]
  by_cases hA : 2048 * k.val ≤ q.val ∧ q.val < 2048 * k.val + 1024
  · rw [View.read_writes_cons_rows_of_mem (size := S1024x256.size) a7.view f7 _ _ _ (ix2 q d) (ix2 ⟨q.val - 2048 * k.val, by omega⟩ d) (off1_0 k)
      (by show q.val = _ + (q.val - _); omega) rfl]
    rw [pay28_apply, rowsA256_apply _ k (by omega), if_pos (by omega)]
    have e : (⟨2048 * k.val + (q.val - 2048 * k.val), by omega⟩ : Fin 8448) = q := Fin.ext (by show _ + (_ - _) = _; omega)
    simp only [pay27_rows kt vt x2 x3 x4 k (by omega), e]
    rfl
  rw [View.read_writes_cons_rows_of_not_mem (size := S1024x256.size) a7.view f7 _ _ _ (ix2 q d) (off1_0 k) (W := 1024) rfl
    (by show q.val < _ ∨ _ ≤ q.val; omega), if_neg (by omega), View.writes_nil, add_zero]

end trip

end Cert.KernelIdeal.Attn
end
-- ==== Proof.LoopSum.lean ====
module

public import proofs.«01_k».proof.Proof.Trip

@[expose] public section

set_option maxRecDepth 16384

noncomputable section

open Idealize.ShloMosaic Idealize.ShloMosaic.TcCoe Idealize.SL.Sem

namespace Cert.KernelIdeal.Attn

open Cert.KernelIdeal Cert.KernelIdeal.Gen

section loop
variable (𝒱 : Variants) (c : Dev nD) (bd : Option 𝒱.V) (i : grid0.Coords)
  (a2 : Memref sig .tc .vmem S8448x256 .bf16) (h2 : a2.IsWhole) (a3 : Memref sig .tc .vmem S8448x128 .bf16) (h3 : a3.IsWhole)
  (a4 : Memref sig .tc .vmem S8448x128 .f32) (h4 : a4.IsWhole) (a5 : Memref sig .tc .vmem S256x256 .bf16) (h5 : a5.IsWhole)
  (a6 : Memref sig .tc .vmem S256x128 .bf16) (h6 : a6.IsWhole) (a7 : Memref sig .tc .vmem S8448x256 .f32) (h7 : a7.IsWhole)
  (a8 : Memref sig .tc .vmem S256x256 .f32) (h8 : a8.IsWhole) (a9 : Memref sig .tc .vmem S256x128 .bf16) (h9 : a9.IsWhole)
  (kt : Vec Ideal S256x256 .bf16) (vt : Vec Ideal S256x128 .bf16)
  (x2 : Vec Ideal S8448x256 .bf16) (x3 : Vec Ideal S8448x128 .bf16) (x4 : Vec Ideal S8448x128 .f32)
  (init : (FVec Ideal S256x256 .f32) × (FVec Ideal S256x128 .f32))
  (G : a7.view.ty.Contents (Elt Ideal))

/-- The loop's state before trip `j`: the sums over the rows before `2048 j`, and these rows of the queries' gradient. -/
theorem st_apply (j : ℕ) (hj : j ≤ 4) :
    (∀ kk d, ((st_k0_t1 (F := Ideal) 𝒱 c bd i a2 h2 a3 h3 a4 h4 a5 h5 a6 h6 a7 h7 a8 h8 a9 h9 kt vt (h2.unread x2) (h3.unread x3) (h4.unread x4) G init j).1.1 (ix2 kk d) : EReal)
      = init.1 (ix2 kk d) + ∑ r ∈ Finset.range (2048 * j), dkRow x2 x3 x4 kt vt kk d r)
    ∧ (∀ kk d, ((st_k0_t1 (F := Ideal) 𝒱 c bd i a2 h2 a3 h3 a4 h4 a5 h5 a6 h6 a7 h7 a8 h8 a9 h9 kt vt (h2.unread x2) (h3.unread x3) (h4.unread x4) G init j).1.2 (ix2 kk d) : EReal)
      = init.2 (ix2 kk d) + ∑ r ∈ Finset.range (2048 * j), dvRow x2 x3 x4 kt kk d r)
    ∧ (∀ q d, (a7.view.read (Elt Ideal) (a7.view.writes (Elt Ideal) G (st_k0_t1 (F := Ideal) 𝒱 c bd i a2 h2 a3 h3 a4 h4 a5 h5 a6 h6 a7 h7 a8 h8 a9 h9 kt vt (h2.unread x2) (h3.unread x3) (h4.unread x4) G init j).2) (ix2 q d) : EReal)
      = a7.view.read (Elt Ideal) G (ix2 q d) + if q.val < 2048 * j then dqPart x2 x3 x4 kt vt q d else 0) := by
  induction j with
  | zero =>
    refine ⟨fun kk d => ?_, fun kk d => ?_, fun q d => ?_⟩
    · rw [Nat.mul_zero, Finset.range_zero, Finset.sum_empty, add_zero]; rfl
    · rw [Nat.mul_zero, Finset.range_zero, Finset.sum_empty, add_zero]; rfl
    · rw [if_neg (by omega), add_zero]; rfl
  | succ j ih =>
    obtain ⟨ih1, ih2, ih3⟩ := ih (by omega)
    have hs := st_k0_t1_succ (F := Ideal) 𝒱 c bd i a2 h2 a3 h3 a4 h4 a5 h5 a6 h6 a7 h7 a8 h8 a9 h9 kt vt (h2.unread x2) (h3.unread x3) (h4.unread x4) G init ⟨j, trips_eq ▸ (by omega)⟩
    refine ⟨fun kk d => ?_, fun kk d => ?_, fun q d => ?_⟩
    · rw [hs, tripR_fst, ih1, Nat.mul_succ, Finset.sum_range_add, add_assoc]
    · rw [hs, tripR_snd, ih2, Nat.mul_succ, Finset.sum_range_add, add_assoc]
    · rw [hs, View.writes_append, tripL_read, ih3, add_assoc]
      refine congrArg₂ (· + ·) rfl ?_
      show (if q.val < 2048 * j then _ else 0) + (if 2048 * j ≤ q.val ∧ q.val < 2048 * j + 2048 then _ else 0) = _
      by_cases h : q.val < 2048 * j
      · rw [if_pos h, if_neg (by omega), if_pos (by omega), add_zero]
      · by_cases h' : q.val < 2048 * j + 2048
        · rw [if_neg h, if_pos (by omega), if_pos (by omega), zero_add]
        · rw [if_neg h, if_neg (by omega), if_neg (by omega), add_zero]

end loop

end Cert.KernelIdeal.Attn
end
-- ==== Proof.Point.lean ====
module

public import proofs.«01_k».proof.Proof.LoopSum

@[expose] public section

set_option maxRecDepth 16384

noncomputable section

open Idealize.ShloMosaic Idealize.ShloMosaic.TcCoe Idealize.SL.Sem

namespace Cert.KernelIdeal.Attn

open Cert.KernelIdeal Cert.KernelIdeal.Gen

section point
variable (c : Dev nD) (i : grid0.Coords)
  (a2 : Memref sig .tc .vmem S8448x256 .bf16) (h2 : a2.IsWhole) (a3 : Memref sig .tc .vmem S8448x128 .bf16) (h3 : a3.IsWhole)
  (a4 : Memref sig .tc .vmem S8448x128 .f32) (h4 : a4.IsWhole) (a5 : Memref sig .tc .vmem S256x256 .bf16) (h5 : a5.IsWhole)
  (a6 : Memref sig .tc .vmem S256x128 .bf16) (h6 : a6.IsWhole) (a7 : Memref sig .tc .vmem S8448x256 .f32) (h7 : a7.IsWhole)
  (a8 : Memref sig .tc .vmem S256x256 .f32) (h8 : a8.IsWhole) (a9 : Memref sig .tc .vmem S256x128 .bf16) (h9 : a9.IsWhole)
  (x0 : Vec Ideal S8448x256 .bf16) (x1 : Vec Ideal S8448x128 .bf16) (x2 : Vec Ideal S8448x128 .f32)
  (x3 : Vec Ideal S256x256 .bf16) (x4 : Vec Ideal S256x128 .bf16) (xo5 : Vec Ideal S8448x256 .f32)

theorem init_apply_fst (kk d : Fin 256) : (((k0_pay4 (F := Ideal), k0_pay5 (F := Ideal)) : (FVec Ideal S256x256 .f32) × (FVec Ideal S256x128 .f32)).1 (ix2 kk d) : EReal) = 0 :=
  pay4_apply kk d
theorem init_apply_snd (kk : Fin 256) (d : Fin 128) : (((k0_pay4 (F := Ideal), k0_pay5 (F := Ideal)) : (FVec Ideal S256x256 .f32) × (FVec Ideal S256x128 .f32)).2 (ix2 kk d) : EReal) = 0 :=
  pay5_apply kk d
theorem zero2 : (![0, 0] : Fin 2 → ℕ) = fun _ => 0 := by funext a; fin_cases a <;> rfl

/-- The context queries' rows, as the last key tile's point loads them. -/
theorem ctx256_apply {e : EltTy} (x : Vec Ideal S8448x256 e) (r : Fin 256) (d : Fin 256) :
    View.ld (Val := Elt Ideal) x (Rect.unit (s := S8448x256) ![8192, 0] S256x256.size inb_S8448x256_S256x256_8192_0) (ix2 r d)
      = x (ix2 ⟨8192 + r.val, by omega⟩ d) := rows_apply x 8192 (by omega) _ rfl _ r d
theorem ctx128_apply {e : EltTy} (x : Vec Ideal S8448x128 e) (r : Fin 256) (d : Fin 128) :
    View.ld (Val := Elt Ideal) x (Rect.unit (s := S8448x128) ![8192, 0] S256x128.size inb_S8448x128_S256x128_8192_0) (ix2 r d)
      = x (ix2 ⟨8192 + r.val, by omega⟩ d) := rows_apply x 8192 (by omega) _ rfl _ r d

theorem pay18_ctx (r kk : Fin 256) :
    (k0_pay18 x3 (View.ld (Val := Elt Ideal) x0 (Rect.unit (s := S8448x256) ![8192, 0] S256x256.size inb_S8448x256_S256x256_8192_0))
      (View.ld (Val := Elt Ideal) x2 (Rect.unit (s := S8448x128) ![8192, 0] S256x128.size inb_S8448x128_S256x128_8192_0)) (ix2 r kk) : EReal)
      = prob x0 x2 x3 ⟨8192 + r.val, by omega⟩ kk := by
  rw [pay18_apply]
  exact congrArg Ideal.exp2 (congrArg₂ (· - ·) (Finset.sum_congr rfl fun d _ => congrArg (· * _) (ctx256_apply x0 r d)) (ctx128_apply x2 r 0))
theorem pay19_ctx (r kk : Fin 256) :
    (k0_pay19 x3 x4 (View.ld (Val := Elt Ideal) x0 (Rect.unit (s := S8448x256) ![8192, 0] S256x256.size inb_S8448x256_S256x256_8192_0))
      (View.ld (Val := Elt Ideal) x1 (Rect.unit (s := S8448x128) ![8192, 0] S256x128.size inb_S8448x128_S256x128_8192_0))
      (View.ld (Val := Elt Ideal) x2 (Rect.unit (s := S8448x128) ![8192, 0] S256x128.size inb_S8448x128_S256x128_8192_0)) (ix2 r kk) : EReal)
      = dscore x0 x1 x2 x3 x4 ⟨8192 + r.val, by omega⟩ kk := by
  rw [pay19_apply, pay18_ctx]
  exact congrArg _ (congrArg₂ (· - ·) (Finset.sum_congr rfl fun d _ => congrArg (· * _) (ctx128_apply x1 r d)) (ctx128_apply x2 r 64))

theorem out_A_5 (hc0) (hc1) (q : Fin 8448) (d : Fin 256) :
    (out0_A_5 (F := Ideal) c i a2 h2 a3 h3 a4 h4 a5 h5 a6 h6 a7 h7 a8 h8 a9 h9 hc0 hc1 x0 x1 x2 x3 x4 (ix2 q d) : EReal)
      = if q.val < 8192 then dqPart x0 x1 x2 x3 x4 q d else 0 := by
  have hc := cover0_A_5 (F := Ideal) c i a2 h2 a3 h3 a4 h4 a5 h5 a6 h6 a7 h7 a8 h8 a9 h9 hc0 hc1 x0 x1 x2 x3 x4
  unfold out0_A_5
  rw [View.read_writes_of_cover VO0_5 VO0_5.junk a7.view a7.view.junk _ hc]
  unfold kernelRun0_A
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  rw [View.writes_append]
  refine ((st_apply Variants.none c none i a2 h2 a3 h3 a4 h4 a5 h5 a6 h6 a7 h7 a8 h8 a9 h9 x3 x4 x0 x1 x2 (k0_pay4, k0_pay5) (a7.view.writes (Elt Ideal) a7.view.junk [⟨Rect.unit (s := S8448x256) ![0, 0] S8448x256.size inb_S8448x256_S8448x256_0_0, k0_pay3 (F := Ideal)⟩]) 4 le_rfl).2.2 q d).trans ?_
  refine (congrArg (· + _) (?_ : _ = (0 : EReal))).trans (zero_add _)
  exact (View.read_writes_cons_rows_of_mem (size := S8448x256.size) a7.view _ _ _ _ (ix2 q d) (ix2 q d) rfl (Nat.zero_add _).symm rfl).trans (pay3_apply q d)

theorem out_A_6 (hc0) (hc1) (kk : Fin 256) (d : Fin 256) :
    (out0_A_6 (F := Ideal) c i a2 h2 a3 h3 a4 h4 a5 h5 a6 h6 a7 h7 a8 h8 a9 h9 hc0 hc1 x0 x1 x2 x3 x4 (ix2 kk d) : EReal)
      = (∑ r ∈ Finset.range 8192, dkRow x0 x1 x2 x3 x4 kk d r) * ((Real.log 2 : ℝ) : EReal) := by
  unfold out0_A_6
  unfold kernelRun0_A
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine (View.read_writes_cons_rows_of_mem (size := S256x256.size) VO0_6 _ _ _ _ (ix2 kk d) (ix2 kk d) rfl (Nat.zero_add _).symm rfl).trans ?_
  refine (pay13_apply _ kk d).trans ?_
  refine congrArg (· * _) ?_
  refine ((st_apply Variants.none c none i a2 h2 a3 h3 a4 h4 a5 h5 a6 h6 a7 h7 a8 h8 a9 h9 x3 x4 x0 x1 x2 (k0_pay4, k0_pay5) (a7.view.writes (Elt Ideal) a7.view.junk [⟨Rect.unit (s := S8448x256) ![0, 0] S8448x256.size inb_S8448x256_S8448x256_0_0, k0_pay3 (F := Ideal)⟩]) 4 le_rfl).1 kk d).trans ?_
  rw [init_apply_fst, zero_add]

theorem out_A_7 (hc0) (hc1) (kk : Fin 256) (d : Fin 128) :
    (out0_A_7 (F := Ideal) c i a2 h2 a3 h3 a4 h4 a5 h5 a6 h6 a7 h7 a8 h8 a9 h9 hc0 hc1 x0 x1 x2 x3 x4 (ix2 kk d) : EReal)
      = ∑ r ∈ Finset.range 8192, dvRow x0 x1 x2 x3 kk d r := by
  unfold out0_A_7
  unfold kernelRun0_A
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine (View.read_writes_cons_rows_of_mem (size := S256x128.size) VO0_7 _ _ _ _ (ix2 kk d) (ix2 kk d) rfl (Nat.zero_add _).symm rfl).trans ?_
  refine (pay14_apply _ kk d).trans ?_
  refine ((st_apply Variants.none c none i a2 h2 a3 h3 a4 h4 a5 h5 a6 h6 a7 h7 a8 h8 a9 h9 x3 x4 x0 x1 x2 (k0_pay4, k0_pay5) (a7.view.writes (Elt Ideal) a7.view.junk [⟨Rect.unit (s := S8448x256) ![0, 0] S8448x256.size inb_S8448x256_S8448x256_0_0, k0_pay3 (F := Ideal)⟩]) 4 le_rfl).2.1 kk d).trans ?_
  rw [init_apply_snd, zero_add]

theorem out_B_5 (hc0) (hc1) (q : Fin 8448) (d : Fin 256) :
    (out0_B_5 (F := Ideal) c i a2 h2 a3 h3 a4 h4 a5 h5 a6 h6 a7 h7 a8 h8 a9 h9 hc0 hc1 x0 x1 x2 x3 x4 xo5 (ix2 q d) : EReal)
      = xo5 (ix2 q d) + if q.val < 8192 then dqPart x0 x1 x2 x3 x4 q d else 0 := by
  unfold out0_B_5
  unfold kernelRun0_B
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine ((st_apply Variants.none c none i a2 h2 a3 h3 a4 h4 a5 h5 a6 h6 a7 h7 a8 h8 a9 h9 x3 x4 x0 x1 x2 (k0_pay4, k0_pay5) (h7.unread xo5) 4 le_rfl).2.2 q d).trans ?_
  rw [h7.read_unread]

theorem out_B_6 (hc0) (hc1) (kk : Fin 256) (d : Fin 256) :
    (out0_B_6 (F := Ideal) c i a2 h2 a3 h3 a4 h4 a5 h5 a6 h6 a7 h7 a8 h8 a9 h9 hc0 hc1 x0 x1 x2 x3 x4 xo5 (ix2 kk d) : EReal)
      = (∑ r ∈ Finset.range 8192, dkRow x0 x1 x2 x3 x4 kk d r) * ((Real.log 2 : ℝ) : EReal) := by
  unfold out0_B_6
  unfold kernelRun0_B
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine (View.read_writes_cons_rows_of_mem (size := S256x256.size) VO0_6 _ _ _ _ (ix2 kk d) (ix2 kk d) rfl (Nat.zero_add _).symm rfl).trans ?_
  refine (pay13_apply _ kk d).trans ?_
  refine congrArg (· * _) ?_
  refine ((st_apply Variants.none c none i a2 h2 a3 h3 a4 h4 a5 h5 a6 h6 a7 h7 a8 h8 a9 h9 x3 x4 x0 x1 x2 (k0_pay4, k0_pay5) (h7.unread xo5) 4 le_rfl).1 kk d).trans ?_
  rw [init_apply_fst, zero_add]

theorem out_B_7 (hc0) (hc1) (kk : Fin 256) (d : Fin 128) :
    (out0_B_7 (F := Ideal) c i a2 h2 a3 h3 a4 h4 a5 h5 a6 h6 a7 h7 a8 h8 a9 h9 hc0 hc1 x0 x1 x2 x3 x4 xo5 (ix2 kk d) : EReal)
      = ∑ r ∈ Finset.range 8192, dvRow x0 x1 x2 x3 kk d r := by
  unfold out0_B_7
  unfold kernelRun0_B
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine (View.read_writes_cons_rows_of_mem (size := S256x128.size) VO0_7 _ _ _ _ (ix2 kk d) (ix2 kk d) rfl (Nat.zero_add _).symm rfl).trans ?_
  refine (pay14_apply _ kk d).trans ?_
  refine ((st_apply Variants.none c none i a2 h2 a3 h3 a4 h4 a5 h5 a6 h6 a7 h7 a8 h8 a9 h9 x3 x4 x0 x1 x2 (k0_pay4, k0_pay5) (h7.unread xo5) 4 le_rfl).2.1 kk d).trans ?_
  rw [init_apply_snd, zero_add]

theorem out_C_5 (hc0) (hc1) (q : Fin 8448) (d : Fin 256) :
    (out0_C_5 (F := Ideal) c i a2 h2 a3 h3 a4 h4 a5 h5 a6 h6 a7 h7 a8 h8 a9 h9 hc0 hc1 x0 x1 x2 x3 x4 xo5 (ix2 q d) : EReal)
      = xo5 (ix2 q d) + dqPart x0 x1 x2 x3 x4 q d := by
  unfold out0_C_5
  unfold kernelRun0_C
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  have hst := (st_apply Variants.none c none i a2 h2 a3 h3 a4 h4 a5 h5 a6 h6 a7 h7 a8 h8 a9 h9 x3 x4 x0 x1 x2 (k0_pay4, k0_pay5) (h7.unread xo5) 4 le_rfl).2.2
  by_cases hq : q.val < 8192
  · refine (View.read_writes_cons_rows_of_not_mem (size := S256x256.size) a7.view _ _ _ _ (ix2 q d) (o := 8192) rfl rfl (Or.inl hq)).trans ?_
    refine (hst q d).trans ?_
    rw [h7.read_unread, if_pos hq]
  · refine (View.read_writes_cons_rows_of_mem (size := S256x256.size) a7.view _ _ _ _ (ix2 q d) (ix2 ⟨q.val - 8192, by omega⟩ d) (o := 8192) rfl
      (by show q.val = 8192 + (q.val - 8192); omega) rfl).trans ?_
    have e : (⟨8192 + (q.val - 8192), by omega⟩ : Fin 8448) = q := Fin.ext (by show 8192 + (q.val - 8192) = q.val; omega)
    refine (pay20_apply _ _ _ _ _ _ _ d).trans ?_
    refine congrArg₂ (· + ·) ?_ ?_
    · refine (ctx256_apply _ _ d).trans ?_
      rw [e]
      refine (hst q d).trans ?_
      rw [h7.read_unread, if_neg hq, add_zero]
    · refine Finset.sum_congr rfl fun kk _ => ?_
      rw [pay19_ctx, e]

theorem out_C_6 (hc0) (hc1) (kk : Fin 256) (d : Fin 256) :
    (out0_C_6 (F := Ideal) c i a2 h2 a3 h3 a4 h4 a5 h5 a6 h6 a7 h7 a8 h8 a9 h9 hc0 hc1 x0 x1 x2 x3 x4 xo5 (ix2 kk d) : EReal)
      = (∑ r ∈ Finset.range 8448, dkRow x0 x1 x2 x3 x4 kk d r) * ((Real.log 2 : ℝ) : EReal) := by
  unfold out0_C_6
  unfold kernelRun0_C
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine (View.read_writes_cons_rows_of_mem (size := S256x256.size) VO0_6 _ _ _ _ (ix2 kk d) (ix2 kk d) rfl (Nat.zero_add _).symm rfl).trans ?_
  refine (pay21_apply _ _ _ _ _ _ kk d).trans ?_
  refine congrArg (· * _) ?_
  refine (congrArg (· + _) ((st_apply Variants.none c none i a2 h2 a3 h3 a4 h4 a5 h5 a6 h6 a7 h7 a8 h8 a9 h9 x3 x4 x0 x1 x2 (k0_pay4, k0_pay5) (h7.unread xo5) 4 le_rfl).1 kk d)).trans ?_
  rw [init_apply_fst, zero_add, show (8448 : ℕ) = 2048 * 4 + 256 from rfl, Finset.sum_range_add]
  refine congrArg₂ (· + ·) rfl ?_
  rw [Finset.sum_range]
  refine Finset.sum_congr rfl fun r _ => ?_
  rw [dkRow, dif_pos (by omega)]
  exact congrArg₂ (· * ·) (pay19_ctx x0 x1 x2 x3 x4 r kk) (ctx256_apply x0 r d)

theorem out_C_7 (hc0) (hc1) (kk : Fin 256) (d : Fin 128) :
    (out0_C_7 (F := Ideal) c i a2 h2 a3 h3 a4 h4 a5 h5 a6 h6 a7 h7 a8 h8 a9 h9 hc0 hc1 x0 x1 x2 x3 x4 xo5 (ix2 kk d) : EReal)
      = ∑ r ∈ Finset.range 8448, dvRow x0 x1 x2 x3 kk d r := by
  unfold out0_C_7
  unfold kernelRun0_C
  dsimp only
  sl_unfold_words
  simp only [View.readAt_eq_ld, h2.read_unread, h3.read_unread, h4.read_unread, h5.read_unread, h6.read_unread, h7.read_unread,
    View.ld_unit_zero (S := S256x256) zero2 inb_S256x256_S256x256_0_0, View.ld_unit_zero (S := S256x128) zero2 inb_S256x128_S256x128_0_0]
  refine (View.read_writes_cons_rows_of_mem (size := S256x128.size) VO0_7 _ _ _ _ (ix2 kk d) (ix2 kk d) rfl (Nat.zero_add _).symm rfl).trans ?_
  refine (pay22_apply _ _ _ _ _ kk d).trans ?_
  refine (congrArg (· + _) ((st_apply Variants.none c none i a2 h2 a3 h3 a4 h4 a5 h5 a6 h6 a7 h7 a8 h8 a9 h9 x3 x4 x0 x1 x2 (k0_pay4, k0_pay5) (h7.unread xo5) 4 le_rfl).2.1 kk d)).trans ?_
  rw [init_apply_snd, zero_add, show (8448 : ℕ) = 2048 * 4 + 256 from rfl, Finset.sum_range_add]
  refine congrArg₂ (· + ·) rfl ?_
  rw [Finset.sum_range]
  refine Finset.sum_congr rfl fun r _ => ?_
  rw [dvRow, dif_pos (by omega)]
  exact congrArg₂ (· * ·) (pay18_ctx x0 x2 x3 r kk) (ctx128_apply x1 r d)

end point

end Cert.KernelIdeal.Attn
end
-- ==== Proof.Arrays.lean ====
module

public import proofs.«01_k».proof.Proof.Point
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat Cfg Window)

namespace Cert.KernelIdeal.Attn

open Cert.KernelIdeal Cert.KernelIdeal.Gen

variable (m : (ℓ : Loc nD τ sig) → Buf (Elt Ideal) ℓ)

/-- The windows' index maps: point `t` is head `t / 33`, key tile `t % 33`. -/
theorem idx : ∀ t : Fin cfg0.N, win0_0.index t = ![0, t.val / 33] ∧ win0_1.index t = ![0, t.val / 33] ∧ win0_2.index t = ![0, t.val / 33]
    ∧ win0_3.index t = ![t.val % 33, t.val / 33] ∧ win0_4.index t = ![t.val % 33, 8 + t.val / 33] ∧ win0_5.index t = ![0, t.val / 33]
    ∧ win0_6.index t = ![t.val % 33, t.val / 33] ∧ win0_7.index t = ![t.val % 33, t.val / 33] :=
  (by decide +kernel : ∀ t : Fin grid0.N, _)

theorem N_eq : cfg0.N = 264 := by decide +kernel

variable (c : Dev nD) (t : Fin cfg0.N)

theorem t_lt : t.val / 33 < 8 := by have := t.isLt; have := N_eq; omega

/-- The blocks, as places of the arrays. -/
theorem q_apply (q : Fin 8448) (d : Fin 256) :
    (iblk m c 0 t (ix2 q d) : EReal) = V m c main_v70 (ix2 q ⟨256 * (t.val / 33) + d.val, by have := t_lt t; omega⟩) := by
  have := t_lt t
  blk_ext [iblk, idx t]
theorem do_apply (q : Fin 8448) (d : Fin 128) :
    (iblk m c 1 t (ix2 q d) : EReal) = V m c main_v75 (ix2 q ⟨128 * (t.val / 33) + d.val, by have := t_lt t; omega⟩) := by
  have := t_lt t
  blk_ext [iblk, idx t]
theorem ld_apply (q : Fin 8448) (d : Fin 128) :
    (iblk m c 2 t (ix2 q d) : EReal) = V m c main_v60 (ix2 q ⟨128 * (t.val / 33) + d.val, by have := t_lt t; omega⟩) := by
  have := t_lt t
  blk_ext [iblk, idx t]
theorem k_apply (k : Fin 256) (d : Fin 256) :
    (iblk m c 3 t (ix2 k d) : EReal) = V m c main_v72 (ix2 ⟨256 * (t.val % 33) + k.val, by omega⟩ ⟨256 * (t.val / 33) + d.val, by have := t_lt t; omega⟩) := by
  have := t_lt t
  blk_ext [iblk, idx t]
theorem v_apply (k : Fin 256) (d : Fin 128) :
    (iblk m c 4 t (ix2 k d) : EReal) = V m c main_v73 (ix2 ⟨256 * (t.val % 33) + k.val, by omega⟩ ⟨1024 + 128 * (t.val / 33) + d.val, by have := t_lt t; omega⟩) := by
  have := t_lt t
  blk_ext [iblk, idx t]

end Cert.KernelIdeal.Attn
end
-- ==== Proof.Accum.lean ====
module

public import proofs.«01_k».proof.Proof.Arrays
public import proofs.«01_k».proof.Proof.Model

@[expose] public section

set_option maxRecDepth 16384

noncomputable section

open Idealize.ShloMosaic Idealize.ShloMosaic.TcCoe Idealize.SL.Sem
open Idealize.ShloMosaic.Pipeline (Dat Cfg Window)

namespace Cert.KernelIdeal.Attn

open Cert.KernelIdeal Cert.KernelIdeal.Gen
open Cert.AttnModel (sees)

/-- The probability of key `k` for query row `q` in head `h`, of the whole arrays. -/
def scA (XQ : Vec Ideal S8448x2048 .bf16) (XL : Vec Ideal S8448x1024 .f32) (XK : Vec Ideal S8448x2048 .bf16) (h : ℕ) (hh : h < 8) (q k : Fin 8448) : EReal :=
  Ideal.exp2 ((∑ d : Fin 256, XQ (ix2 q ⟨256 * h + d.val, by omega⟩) * XK (ix2 k ⟨256 * h + d.val, by omega⟩)) - XL (ix2 q ⟨128 * h + 0, by omega⟩))

/-- The gradient of that score. -/
def dsA (XQ : Vec Ideal S8448x2048 .bf16) (XD : Vec Ideal S8448x1024 .bf16) (XL : Vec Ideal S8448x1024 .f32) (XK XV : Vec Ideal S8448x2048 .bf16)
    (h : ℕ) (hh : h < 8) (q k : Fin 8448) : EReal :=
  scA XQ XL XK h hh q k * ((∑ d : Fin 128, XD (ix2 q ⟨128 * h + d.val, by omega⟩) * XV (ix2 k ⟨1024 + 128 * h + d.val, by omega⟩)) - XL (ix2 q ⟨128 * h + 64, by omega⟩))

variable (m : (ℓ : Loc nD τ sig) → Buf (Elt Ideal) ℓ) (c : Dev nD)

/-- The same of the arrays the call is given. -/
abbrev sc (h : ℕ) (hh : h < 8) (q k : Fin 8448) : EReal := scA (V m c main_v70) (V m c main_v60) (V m c main_v72) h hh q k
abbrev dsc (h : ℕ) (hh : h < 8) (q k : Fin 8448) : EReal := dsA (V m c main_v70) (V m c main_v75) (V m c main_v60) (V m c main_v72) (V m c main_v73) h hh q k

/-- A point's scores are those of its head and its key tile. -/
theorem prob_eq (t : Fin cfg0.N) (q : Fin 8448) (kk : Fin 256) :
    prob (iblk m c 0 t) (iblk m c 2 t) (iblk m c 3 t) q kk = sc m c (t.val / 33) (t_lt t) q ⟨256 * (t.val % 33) + kk.val, by omega⟩ := by
  refine congrArg Ideal.exp2 (congrArg₂ (· - ·) (Finset.sum_congr rfl fun d _ => congrArg₂ (· * ·) (q_apply m c t q d) (k_apply m c t kk d)) (ld_apply m c t q 0))
theorem dscore_eq (t : Fin cfg0.N) (q : Fin 8448) (kk : Fin 256) :
    dscore (iblk m c 0 t) (iblk m c 1 t) (iblk m c 2 t) (iblk m c 3 t) (iblk m c 4 t) q kk
      = dsc m c (t.val / 33) (t_lt t) q ⟨256 * (t.val % 33) + kk.val, by omega⟩ := by
  refine congrArg₂ (· * ·) (prob_eq m c t q kk)
    (congrArg₂ (· - ·) (Finset.sum_congr rfl fun d _ => congrArg₂ (· * ·) (do_apply m c t q d) (v_apply m c t kk d)) (ld_apply m c t q 64))

/-! ## Sums over the rows before a bound -/

theorem sum_rows_all (F : ℕ → EReal) : ∑ r ∈ Finset.range 8448, F r = ∑ q : Fin 8448, F q.val := Finset.sum_range F
theorem sum_rows_lat (F : ℕ → EReal) : ∑ r ∈ Finset.range 8192, F r = ∑ q : Fin 8448, if q.val < 8192 then F q.val else 0 := by
  rw [← sum_rows_all fun r => if r < 8192 then F r else 0, show (8448 : ℕ) = 8192 + 256 from rfl, Finset.sum_range_add]
  rw [Finset.sum_eq_zero (s := Finset.range 256) fun r _ => if_neg (by omega), add_zero]
  exact Finset.sum_congr rfl fun r hr => (if_pos (Finset.mem_range.mp hr)).symm
theorem sum_tiles (F : ℕ → EReal) (n : ℕ) : ∑ s ∈ Finset.range n, ∑ kk : Fin 256, F (256 * s + kk.val) = ∑ r ∈ Finset.range (256 * n), F r := by
  induction n with
  | zero => rfl
  | succ n ih => rw [Finset.sum_range_succ, ih, Nat.mul_succ, Finset.sum_range_add, Finset.sum_range fun x => F (256 * n + x)]

/-! ## The keys' and the values' gradients: one block a point -/

/-- The rows summed at point `t`: a latent key tile is seen by the latent queries, the context's by all. -/
theorem rows_at (t : Fin cfg0.N) (kk : Fin 256) (F : Fin 8448 → EReal) :
    (∑ r ∈ Finset.range (if t.val % 33 = 32 then 8448 else 8192), if h : r < 8448 then F ⟨r, h⟩ else 0)
      = ∑ q : Fin 8448, if sees q ⟨256 * (t.val % 33) + kk.val, by omega⟩ then F q else 0 := by
  by_cases h : t.val % 33 = 32
  · rw [if_pos h, sum_rows_all fun r => if h : r < 8448 then F ⟨r, h⟩ else 0]
    refine Finset.sum_congr rfl fun q _ => ?_
    rw [dif_pos q.isLt, if_pos (show sees _ _ from Or.inr (by show 8192 ≤ 256 * (t.val % 33) + kk.val; omega))]
  · rw [if_neg h, sum_rows_lat fun r => if h : r < 8448 then F ⟨r, h⟩ else 0]
    refine Finset.sum_congr rfl fun q _ => ?_
    by_cases hq : q.val < 8192
    · rw [if_pos hq, dif_pos q.isLt, if_pos (show sees _ _ from Or.inl hq)]
    · rw [if_neg hq, if_neg (show ¬ sees _ _ by rintro (h' | h'); exacts [hq h', absurd h' (by show ¬ 8192 ≤ 256 * (t.val % 33) + kk.val; omega)])]

theorem outs6 (t : Fin cfg0.N) (kk d : Fin 256) :
    ((outsAt0 m c t.val t.isLt).2.1 (ix2 kk d) : EReal)
      = (∑ q : Fin 8448, if sees q ⟨256 * (t.val % 33) + kk.val, by omega⟩ then
          dsc m c (t.val / 33) (t_lt t) q ⟨256 * (t.val % 33) + kk.val, by omega⟩ * V m c main_v70 (ix2 q ⟨256 * (t.val / 33) + d.val, by have := t_lt t; omega⟩) else 0)
        * ((Real.log 2 : ℝ) : EReal) := by
  have key : ((outsAt0 m c t.val t.isLt).2.1 (ix2 kk d) : EReal)
      = (∑ r ∈ Finset.range (if t.val % 33 = 32 then 8448 else 8192), dkRow (iblk m c 0 t) (iblk m c 1 t) (iblk m c 2 t) (iblk m c 3 t) (iblk m c 4 t) kk d r)
        * ((Real.log 2 : ℝ) : EReal) := by
    by_cases h1 : t.val % 33 = 32
    · have h0 : ¬t.val % 33 = 0 := by omega
      rw [outsAt0_C m c t h0 h1, if_pos h1]
      dsimp only
      exact out_C_6 (hc0 := (fun h => h0 ((hcond0_0 t).mp h))) (hc1 := ((hcond0_1 t).mpr h1)) ..
    · rw [if_neg h1]
      by_cases h0 : t.val % 33 = 0
      · rw [outsAt0_A m c t h0 h1]
        dsimp only
        exact out_A_6 (hc0 := ((hcond0_0 t).mpr h0)) (hc1 := (fun h => h1 ((hcond0_1 t).mp h))) ..
      · rw [outsAt0_B m c t h0 h1]
        dsimp only
        exact out_B_6 (hc0 := (fun h => h0 ((hcond0_0 t).mp h))) (hc1 := (fun h => h1 ((hcond0_1 t).mp h))) ..
  rw [key]
  refine congrArg (· * _) ?_
  refine Eq.trans ?_ (rows_at t kk _)
  refine Finset.sum_congr rfl fun r _ => ?_
  unfold dkRow
  by_cases h : r < 8448
  · rw [dif_pos h, dif_pos h]
    exact congrArg₂ (· * ·) (dscore_eq m c t ⟨r, h⟩ kk) (q_apply m c t ⟨r, h⟩ d)
  · rw [dif_neg h, dif_neg h]

theorem outs7 (t : Fin cfg0.N) (kk : Fin 256) (d : Fin 128) :
    ((outsAt0 m c t.val t.isLt).2.2 (ix2 kk d) : EReal)
      = ∑ q : Fin 8448, if sees q ⟨256 * (t.val % 33) + kk.val, by omega⟩ then
          sc m c (t.val / 33) (t_lt t) q ⟨256 * (t.val % 33) + kk.val, by omega⟩ * V m c main_v75 (ix2 q ⟨128 * (t.val / 33) + d.val, by have := t_lt t; omega⟩) else 0 := by
  have key : ((outsAt0 m c t.val t.isLt).2.2 (ix2 kk d) : EReal)
      = ∑ r ∈ Finset.range (if t.val % 33 = 32 then 8448 else 8192), dvRow (iblk m c 0 t) (iblk m c 1 t) (iblk m c 2 t) (iblk m c 3 t) kk d r := by
    by_cases h1 : t.val % 33 = 32
    · have h0 : ¬t.val % 33 = 0 := by omega
      rw [outsAt0_C m c t h0 h1, if_pos h1]
      dsimp only
      exact out_C_7 (hc0 := (fun h => h0 ((hcond0_0 t).mp h))) (hc1 := ((hcond0_1 t).mpr h1)) ..
    · rw [if_neg h1]
      by_cases h0 : t.val % 33 = 0
      · rw [outsAt0_A m c t h0 h1]
        dsimp only
        exact out_A_7 (hc0 := ((hcond0_0 t).mpr h0)) (hc1 := (fun h => h1 ((hcond0_1 t).mp h))) ..
      · rw [outsAt0_B m c t h0 h1]
        dsimp only
        exact out_B_7 (hc0 := (fun h => h0 ((hcond0_0 t).mp h))) (hc1 := (fun h => h1 ((hcond0_1 t).mp h))) ..
  rw [key]
  refine Eq.trans ?_ (rows_at t kk _)
  refine Finset.sum_congr rfl fun r _ => ?_
  unfold dvRow
  by_cases h : r < 8448
  · rw [dif_pos h, dif_pos h]
    exact congrArg₂ (· * ·) (prob_eq m c t ⟨r, h⟩ kk) (do_apply m c t ⟨r, h⟩ d)
  · rw [dif_neg h, dif_neg h]

/-! ## The queries' gradient: gathered over a head's key tiles -/

/-- The part of key `r` in the gradient of query row `q`. -/
def dqKey (h : ℕ) (hh : h < 8) (q : Fin 8448) (d : Fin 256) (r : ℕ) : EReal :=
  if hr : r < 8448 then dsc m c h hh q ⟨r, hr⟩ * V m c main_v72 (ix2 ⟨r, hr⟩ ⟨256 * h + d.val, by omega⟩) else 0

theorem dqPart_eq (t : Fin cfg0.N) (q : Fin 8448) (d : Fin 256) :
    dqPart (iblk m c 0 t) (iblk m c 1 t) (iblk m c 2 t) (iblk m c 3 t) (iblk m c 4 t) q d
      = ∑ kk : Fin 256, dqKey m c (t.val / 33) (t_lt t) q d (256 * (t.val % 33) + kk.val) := by
  refine Finset.sum_congr rfl fun kk _ => ?_
  rw [dqKey, dif_pos (by omega)]
  exact congrArg₂ (· * ·) (dscore_eq m c t q kk) (k_apply m c t kk d)

/-- After point `t` a latent row holds the sum over the head's key tiles up to the point's; a context row is zero until the last. -/
theorem outs5 (n : ℕ) (hn : n < cfg0.N) (q : Fin 8448) (d : Fin 256) :
    ((outsAt0 m c n hn).1 (ix2 q d) : EReal)
      = if q.val < 8192 then ∑ r ∈ Finset.range (256 * (n % 33 + 1)), dqKey m c (n / 33) (t_lt ⟨n, hn⟩) q d r
        else if n % 33 = 32 then ∑ kk : Fin 256, dqKey m c (n / 33) (t_lt ⟨n, hn⟩) q d (256 * (n % 33) + kk.val) else 0 := by
  induction n with
  | zero =>
    have h0 : 0 % 33 = 0 := rfl
    have h1 : ¬0 % 33 = 32 := by decide
    rw [outsAt0_A m c ⟨0, hn⟩ h0 h1]
    dsimp only
    refine (out_A_5 (hc0 := ((hcond0_0 ⟨0, hn⟩).mpr h0)) (hc1 := (fun h => h1 ((hcond0_1 ⟨0, hn⟩).mp h))) ..).trans ?_
    rw [dqPart_eq]
    by_cases hq : q.val < 8192
    · rw [if_pos hq, if_pos hq]
      exact (Finset.sum_congr rfl fun kk _ => congrArg _ (by show 256 * (0 % 33) + kk.val = kk.val; omega)).trans (Finset.sum_range _).symm
    · rw [if_neg hq, if_neg hq, if_neg (by decide)]
  | succ n ih =>
    by_cases h0 : (n + 1) % 33 = 0
    · have h1 : ¬(n + 1) % 33 = 32 := by omega
      rw [outsAt0_A m c ⟨n + 1, hn⟩ h0 h1]
      dsimp only
      refine (out_A_5 (hc0 := ((hcond0_0 ⟨n + 1, hn⟩).mpr h0)) (hc1 := (fun h => h1 ((hcond0_1 ⟨n + 1, hn⟩).mp h))) ..).trans ?_
      rw [dqPart_eq]
      by_cases hq : q.val < 8192
      · rw [if_pos hq, if_pos hq]
        simp only [h0]
        exact (Finset.sum_congr rfl fun kk _ => congrArg _ (by omega)).trans (Finset.sum_range _).symm
      · rw [if_neg hq, if_neg hq, if_neg (by omega)]
    · have ih' := ih (by omega)
      have e1 : (n + 1) / 33 = n / 33 := by omega
      have e2 : (n + 1) % 33 = n % 33 + 1 := by omega
      by_cases h1 : (n + 1) % 33 = 32
      · rw [outsAt0_C m c ⟨n + 1, hn⟩ h0 h1]
        refine (out_C_5 (hc0 := (fun h => h0 ((hcond0_0 ⟨n + 1, hn⟩).mp h))) (hc1 := ((hcond0_1 ⟨n + 1, hn⟩).mpr h1)) ..).trans ?_
        refine (congrArg₂ (· + ·) ih' (dqPart_eq m c ⟨n + 1, hn⟩ q d)).trans ?_
        simp only [e1, e2]
        by_cases hq : q.val < 8192
        · rw [if_pos hq, if_pos hq, show 256 * (n % 33 + 1 + 1) = 256 * (n % 33 + 1) + 256 from rfl, Finset.sum_range_add,
            Finset.sum_range fun x => dqKey _ _ _ _ _ _ (256 * (n % 33 + 1) + x)]
        · rw [if_neg hq, if_neg hq, if_neg (by omega), if_pos (by omega), zero_add]
      · rw [outsAt0_B m c ⟨n + 1, hn⟩ h0 h1]
        refine (out_B_5 (hc0 := (fun h => h0 ((hcond0_0 ⟨n + 1, hn⟩).mp h))) (hc1 := (fun h => h1 ((hcond0_1 ⟨n + 1, hn⟩).mp h))) ..).trans ?_
        rw [dqPart_eq]
        refine (congrArg (· + _) ih').trans ?_
        simp only [e1, e2]
        by_cases hq : q.val < 8192
        · rw [if_pos hq, if_pos hq, if_pos hq, show 256 * (n % 33 + 1 + 1) = 256 * (n % 33 + 1) + 256 from rfl, Finset.sum_range_add,
            Finset.sum_range fun x => dqKey _ _ _ _ _ _ (256 * (n % 33 + 1) + x)]
        · rw [if_neg hq, if_neg hq, if_neg hq, if_neg (by omega), if_neg (by omega), zero_add]

/-- At a head's last point. -/
theorem outs5_last (t : Fin cfg0.N) (ht : t.val % 33 = 32) (q : Fin 8448) (d : Fin 256) :
    ((outsAt0 m c t.val t.isLt).1 (ix2 q d) : EReal)
      = ∑ k : Fin 8448, if sees q k then dsc m c (t.val / 33) (t_lt t) q k * V m c main_v72 (ix2 k ⟨256 * (t.val / 33) + d.val, by have := t_lt t; omega⟩) else 0 := by
  rw [outs5]
  by_cases hq : q.val < 8192
  · rw [if_pos hq, ht, sum_rows_all]
    refine Finset.sum_congr rfl fun k _ => ?_
    rw [dqKey, dif_pos k.isLt, if_pos (show sees _ _ from Or.inl hq)]
  · rw [if_neg hq, if_pos ht, ht]
    refine Eq.trans ?_ (sum_rows_all fun r => if 8192 ≤ r then dqKey m c (t.val / 33) (t_lt t) q d r else 0) |>.trans ?_
    · rw [show (8448 : ℕ) = 8192 + 256 from rfl, Finset.sum_range_add, Finset.sum_eq_zero (s := Finset.range 8192) fun r hr => if_neg (by
        have := Finset.mem_range.mp hr; omega), zero_add, Finset.sum_range]
      exact Finset.sum_congr rfl fun kk _ => (if_pos (by omega)).symm
    · refine Finset.sum_congr rfl fun k _ => ?_
      by_cases hk : 8192 ≤ k.val
      · rw [if_pos hk, if_pos (show sees _ _ from Or.inr hk), dqKey, dif_pos k.isLt]
      · rw [if_neg hk, if_neg (show ¬ sees _ _ by rintro (h' | h'); exacts [hq h', hk h'])]

end Cert.KernelIdeal.Attn
end
-- ==== Proof.Final.lean ====
module

public import proofs.«01_k».proof.Proof.Accum

@[expose] public section

set_option maxRecDepth 16384

noncomputable section

open Idealize.ShloMosaic Idealize.ShloMosaic.TcCoe Idealize.SL.Sem
open Idealize.ShloMosaic.Pipeline (Dat Cfg Window)

namespace Cert.KernelIdeal.Attn

open Cert.KernelIdeal Cert.KernelIdeal.Gen
open Cert.AttnModel (sees)

variable (m : (ℓ : Loc nD τ sig) → Buf (Elt Ideal) ℓ) (c : Dev nD)

theorem head256 (j : Fin 2048) : j.val / 256 < 8 := by omega
theorem head128 (j : Fin 1024) : j.val / 128 < 8 := by omega

/-- The three result arrays: the sums over the keys a query sees, or over the queries that see a key. -/
def dqArr (q : Fin 8448) (j : Fin 2048) : EReal :=
  ∑ k : Fin 8448, if sees q k then dsc m c (j.val / 256) (head256 j) q k * V m c main_v72 (ix2 k j) else 0
def dkArr (k : Fin 8448) (j : Fin 2048) : EReal :=
  (∑ q : Fin 8448, if sees q k then dsc m c (j.val / 256) (head256 j) q k * V m c main_v70 (ix2 q j) else 0) * ((Real.log 2 : ℝ) : EReal)
def dvArr (k : Fin 8448) (j : Fin 1024) : EReal :=
  ∑ q : Fin 8448, if sees q k then sc m c (j.val / 128) (head128 j) q k * V m c main_v75 (ix2 q j) else 0

theorem dqArr_at (q : Fin 8448) (h : ℕ) (hh : h < 8) (d : Fin 256) (hj : 256 * h + d.val < 2048) :
    dqArr m c q ⟨256 * h + d.val, hj⟩ = ∑ k : Fin 8448, if sees q k then dsc m c h hh q k * V m c main_v72 (ix2 k ⟨256 * h + d.val, hj⟩) else 0 := by
  unfold dqArr
  have e : (256 * h + d.val) / 256 = h := by omega
  simp only [e]
theorem dkArr_at (k : Fin 8448) (h : ℕ) (hh : h < 8) (d : Fin 256) (hj : 256 * h + d.val < 2048) :
    dkArr m c k ⟨256 * h + d.val, hj⟩ = (∑ q : Fin 8448, if sees q k then dsc m c h hh q k * V m c main_v70 (ix2 q ⟨256 * h + d.val, hj⟩) else 0)
      * ((Real.log 2 : ℝ) : EReal) := by
  unfold dkArr
  have e : (256 * h + d.val) / 256 = h := by omega
  simp only [e]
theorem dvArr_at (k : Fin 8448) (h : ℕ) (hh : h < 8) (d : Fin 128) (hj : 128 * h + d.val < 1024) :
    dvArr m c k ⟨128 * h + d.val, hj⟩ = ∑ q : Fin 8448, if sees q k then sc m c h hh q k * V m c main_v75 (ix2 q ⟨128 * h + d.val, hj⟩) else 0 := by
  unfold dvArr
  have e : (128 * h + d.val) / 128 = h := by omega
  simp only [e]

theorem final5 : (dats m 0 c).arrAt 5 cfg0.N = fun j => dqArr m c (j 0) (j 1) := by
  refine (dats m 0 c).arrAt_eq_of_covers 5 (fun j => dqArr m c (j 0) (j 1)) (by decide +kernel) fun t hf y => ?_
  blk_simp
  rw [after0_5]
  idx_vars y
  have e : ((View.whole main_v76_0).slice (win0_5.rect t)).emb (ix2 y0 y1) = ix2 y0 ⟨256 * (t.val / 33) + y1.val, by have := t_lt t; omega⟩ := by
    have := t_lt t
    blk_ext [idx t]
  rw [e]
  refine (outs5_last m c t ((flush0_5 t).mp hf) y0 y1).trans ?_
  exact (dqArr_at m c y0 (t.val / 33) (t_lt t) y1 _).symm

theorem final6 : (dats m 0 c).arrAt 6 cfg0.N = fun j => dkArr m c (j 0) (j 1) := by
  refine (dats m 0 c).arrAt_eq_of_covers 6 (fun j => dkArr m c (j 0) (j 1)) (by decide +kernel) fun t hf y => ?_
  blk_simp
  rw [after0_6]
  idx_vars y
  have e : ((View.whole main_v76_1).slice (win0_6.rect t)).emb (ix2 y0 y1)
      = ix2 ⟨256 * (t.val % 33) + y0.val, by omega⟩ ⟨256 * (t.val / 33) + y1.val, by have := t_lt t; omega⟩ := by
    have := t_lt t
    blk_ext [idx t]
  rw [e]
  refine (outs6 m c t y0 y1).trans ?_
  exact (dkArr_at m c _ (t.val / 33) (t_lt t) y1 _).symm

theorem final7 : (dats m 0 c).arrAt 7 cfg0.N = fun j => dvArr m c (j 0) (j 1) := by
  refine (dats m 0 c).arrAt_eq_of_covers 7 (fun j => dvArr m c (j 0) (j 1)) (by decide +kernel) fun t hf y => ?_
  blk_simp
  rw [after0_7]
  idx_vars y
  have e : ((View.whole main_v76_2).slice (win0_7.rect t)).emb (ix2 y0 y1)
      = ix2 ⟨256 * (t.val % 33) + y0.val, by omega⟩ ⟨128 * (t.val / 33) + y1.val, by have := t_lt t; omega⟩ := by
    have := t_lt t
    blk_ext [idx t]
  rw [e]
  refine (outs7 m c t y0 y1).trans ?_
  exact (dvArr_at m c _ (t.val / 33) (t_lt t) y1 _).symm

end Cert.KernelIdeal.Attn
end
-- ==== Proof.Saved.lean ====
/- What the host saves for each row before the call: the logarithm (to the base two) of the row's total and the mean of the
   gradients of its probabilities, over real arguments. -/
module

public import proofs.«01_k».proof.Proof.Gen.KernelIdeal.Value
public import proofs.«01_k».proof.Proof.Model
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnModel

theorem quotient_at {s : Shape} (y z w : FVec Ideal s .f32) (i : s.Idx) :
    (Host.divf (addf y (Host.log z)) w i : EReal) = Ideal.div ((y i : EReal) + Ideal.log (z i)) (w i) := rfl

abbrev WideArr : Type := FVec Ideal S8448x8x256 .f32
abbrev ThinArr : Type := FVec Ideal S8448x8x128 .f32
/-- Real numbers as an array of queries or keys. -/
abbrev wide (Q : Fin 8448 → Fin 8 → Fin 256 → ℝ) : WideArr := fun i => ((Q (i 0) (i 1) (i 2) : ℝ) : EReal)
/-- Real numbers as an array of values or cotangents. -/
abbrev thin (W : Fin 8448 → Fin 8 → Fin 128 → ℝ) : ThinArr := fun i => ((W (i 0) (i 1) (i 2) : ℝ) : EReal)

/-- The latent rows' scores. -/
def latScore (Q K : WideArr) : FVec Ideal S8x8192x8448 .f32 :=
  Host.dotGeneral dot_S8192x8x256_S8448x8x256_S8x8192x8448_2_2_0_0_1_1 none
    (mulf (extractStridedSlice S8192x8x256 ![0, 0, 0] Q slices_S8448x8x256_S8192x8x256_0_0_0) (broadcastInDim S8192x8x256 ![] bcast_S_S8192x8x256 (constant (F := Ideal) S_ .f32 0x3D93CD3A#32))) K
def latMax (Q K : WideArr) : FVec Ideal S8x8192 .f32 :=
  Host.reduce FloatOps.maximumf (latScore Q K) (constant (F := Ideal) S_ .f32 0xFF800000#32) reducesTo_S8x8192x8448_S8x8192_d2 h_S_
def latMax1 (Q K : WideArr) : FVec Ideal S8x8192x1 .f32 :=
  broadcastInDim S8x8192x1 ![0, 1] bcast_S8x8192_S8x8192x1_0_1 (latMax Q K)
def latExp (Q K : WideArr) : FVec Ideal S8x8192x8448 .f32 :=
  Host.exp (subf (latScore Q K) (broadcastInDim S8x8192x8448 ![0, 1, 2] bcast_S8x8192x1_S8x8192x8448_0_1_2 (latMax1 Q K)))
def latTotal (Q K : WideArr) : FVec Ideal S8x8192 .f32 :=
  Host.reduceAdd (latExp Q K) (constant (F := Ideal) S_ .f32 0x00000000#32) reducesTo_S8x8192x8448_S8x8192_d2 h_S_
def latTotal1 (Q K : WideArr) : FVec Ideal S8x8192x1 .f32 :=
  broadcastInDim S8x8192x1 ![0, 1] bcast_S8x8192_S8x8192x1_0_1 (latTotal Q K)
def latProb (Q K : WideArr) : FVec Ideal S8x8192x8448 .f32 :=
  Host.divf (latExp Q K) (broadcastInDim S8x8192x8448 ![0, 1, 2] bcast_S8x8192x1_S8x8192x8448_0_1_2 (latTotal1 Q K))
/-- The latent rows' results. -/
def latOut (Q K : WideArr) (W : ThinArr) : FVec Ideal S8192x8x128 .f32 :=
  transpose S8192x8x128 [2, 0, 1] (Host.dotGeneral dot_S8448x8x128_S8x8192x8448_S8x128x8192_0_2_2_1_1_0 none W (latProb Q K)) transposes_S8x128x8192_S8192x8x128_2_0_1
def latLse1 (Q K : WideArr) : FVec Ideal S8x8192x1 .f32 :=
  Host.divf (addf (latMax1 Q K) (Host.log (latTotal1 Q K)))
    (broadcastInDim S8x8192x1 ![] bcast_S_S8x8192x1 (Host.log (constant (F := Ideal) S_ .f32 0x40000000#32)))
def latLse (Q K : WideArr) : FVec Ideal S8192x8 .f32 :=
  transpose S8192x8 [1, 0] (shapeCast S8x8192 (latLse1 Q K) shapeCasts_S8x8192x1_S8x8192) transposes_S8x8192_S8192x8_1_0
def latDelta (Q K : WideArr) (W C : ThinArr) : FVec Ideal S8192x8 .f32 :=
  Host.reduceAdd (mulf (latOut Q K W) (extractStridedSlice S8192x8x128 ![0, 0, 0] C slices_S8448x8x128_S8192x8x128_0_0_0))
    (constant (F := Ideal) S_ .f32 0x00000000#32) reducesTo_S8192x8x128_S8192x8_d2 h_S_

/-- The context rows' scores. -/
def ctxScore (Q K : WideArr) : FVec Ideal S8x256x256 .f32 :=
  Host.dotGeneral dot_S256x8x256_S256x8x256_S8x256x256_2_2_0_0_1_1 none
    (mulf (extractStridedSlice S256x8x256 ![8192, 0, 0] Q slices_S8448x8x256_S256x8x256_8192_0_0) (broadcastInDim S256x8x256 ![] bcast_S_S256x8x256 (constant (F := Ideal) S_ .f32 0x3D93CD3A#32))) (extractStridedSlice S256x8x256 ![8192, 0, 0] K slices_S8448x8x256_S256x8x256_8192_0_0)
def ctxMax (Q K : WideArr) : FVec Ideal S8x256 .f32 :=
  Host.reduce FloatOps.maximumf (ctxScore Q K) (constant (F := Ideal) S_ .f32 0xFF800000#32) reducesTo_S8x256x256_S8x256_d2 h_S_
def ctxMax1 (Q K : WideArr) : FVec Ideal S8x256x1 .f32 :=
  broadcastInDim S8x256x1 ![0, 1] bcast_S8x256_S8x256x1_0_1 (ctxMax Q K)
def ctxExp (Q K : WideArr) : FVec Ideal S8x256x256 .f32 :=
  Host.exp (subf (ctxScore Q K) (broadcastInDim S8x256x256 ![0, 1, 2] bcast_S8x256x1_S8x256x256_0_1_2 (ctxMax1 Q K)))
def ctxTotal (Q K : WideArr) : FVec Ideal S8x256 .f32 :=
  Host.reduceAdd (ctxExp Q K) (constant (F := Ideal) S_ .f32 0x00000000#32) reducesTo_S8x256x256_S8x256_d2 h_S_
def ctxTotal1 (Q K : WideArr) : FVec Ideal S8x256x1 .f32 :=
  broadcastInDim S8x256x1 ![0, 1] bcast_S8x256_S8x256x1_0_1 (ctxTotal Q K)
def ctxProb (Q K : WideArr) : FVec Ideal S8x256x256 .f32 :=
  Host.divf (ctxExp Q K) (broadcastInDim S8x256x256 ![0, 1, 2] bcast_S8x256x1_S8x256x256_0_1_2 (ctxTotal1 Q K))
/-- The context rows' results. -/
def ctxOut (Q K : WideArr) (W : ThinArr) : FVec Ideal S256x8x128 .f32 :=
  transpose S256x8x128 [2, 0, 1] (Host.dotGeneral dot_S256x8x128_S8x256x256_S8x128x256_0_2_2_1_1_0 none (extractStridedSlice S256x8x128 ![8192, 0, 0] W slices_S8448x8x128_S256x8x128_8192_0_0) (ctxProb Q K)) transposes_S8x128x256_S256x8x128_2_0_1
def ctxLse1 (Q K : WideArr) : FVec Ideal S8x256x1 .f32 :=
  Host.divf (addf (ctxMax1 Q K) (Host.log (ctxTotal1 Q K)))
    (broadcastInDim S8x256x1 ![] bcast_S_S8x256x1 (Host.log (constant (F := Ideal) S_ .f32 0x40000000#32)))
def ctxLse (Q K : WideArr) : FVec Ideal S256x8 .f32 :=
  transpose S256x8 [1, 0] (shapeCast S8x256 (ctxLse1 Q K) shapeCasts_S8x256x1_S8x256) transposes_S8x256_S256x8_1_0
def ctxDelta (Q K : WideArr) (W C : ThinArr) : FVec Ideal S256x8 .f32 :=
  Host.reduceAdd (mulf (ctxOut Q K W) (extractStridedSlice S256x8x128 ![8192, 0, 0] C slices_S8448x8x128_S256x8x128_8192_0_0))
    (constant (F := Ideal) S_ .f32 0x00000000#32) reducesTo_S256x8x128_S256x8_d2 h_S_

/-- A row's 128 statistics of each head: the first 64 lanes hold the logarithm, the others the mean. -/
def savedLanes (L D : FVec Ideal S8448x8 .f32) : FVec Ideal S8448x8x128 .f32 :=
  select (broadcastInDim S8448x8x128 ![0, 1, 2] bcast_S1x1x128_S8448x8x128_0_1_2
      (cmpi .slt (iotaInDim S1x1x128 32 2) (broadcastInDim S1x1x128 ![] bcast_S_S1x1x128 (constantI S_ 32 64#32))))
    (broadcastInDim S8448x8x128 ![0, 1, 2] bcast_S8448x8x1_S8448x8x128_0_1_2 (broadcastInDim S8448x8x1 ![0, 1] bcast_S8448x8_S8448x8x1_0_1 L))
    (broadcastInDim S8448x8x128 ![0, 1, 2] bcast_S8448x8x1_S8448x8x128_0_1_2 (broadcastInDim S8448x8x1 ![0, 1] bcast_S8448x8_S8448x8x1_0_1 D))
def joined (a : FVec Ideal S8192x8 .f32) (b : FVec Ideal S256x8 .f32) : FVec Ideal S8448x8 .f32 :=
  concatenate S8448x8 0 [⟨S8192x8, a⟩, ⟨S256x8, b⟩] concatenates_S8192x8_S256x8_S8448x8_d0
/-- The saved array. -/
def saved (Q K : WideArr) (W C : ThinArr) : FVec Ideal S8448x1024 .f32 :=
  shapeCast S8448x1024 (savedLanes (joined (latLse Q K) (ctxLse Q K)) (joined (latDelta Q K W C) (ctxDelta Q K W C))) shapeCasts_S8448x8x128_S8448x1024

/-! ## The latent rows over real arguments -/

theorem latScore_apply (Q K : WideArr) (h : Fin 8) (q : Fin 8192) (k : Fin 8448) :
    (latScore Q K (ix3 h q k) : EReal) = ∑ d : Fin 256, (Q (ix3 (latent q) h d) * Ideal.ofBits .f32 0x3D93CD3A#32 : EReal) * K (ix3 k h d) := by
  unfold latScore
  pointwise
  exact Finset.sum_congr rfl fun _ _ => rfl
theorem latMax_apply (Q K : WideArr) (h : Fin 8) (q : Fin 8192) :
    (latMax Q K (ix2 h q) : EReal) = (Finset.univ : Finset (Fin 8448)).fold max (Ideal.ofBits .f32 0xFF800000#32) (fun k => latScore Q K (ix3 h q k)) := by
  unfold latMax
  generalize latScore Q K = y
  pointwise
theorem latMax1_apply (Q K : WideArr) (h : Fin 8) (q : Fin 8192) (z : Fin 1) : (latMax1 Q K (ix3 h q z) : EReal) = latMax Q K (ix2 h q) := by
  unfold latMax1
  generalize latMax Q K = y
  pointwise
theorem latExp_apply (Q K : WideArr) (h : Fin 8) (q : Fin 8192) (k : Fin 8448) :
    (latExp Q K (ix3 h q k) : EReal) = Ideal.exp ((latScore Q K (ix3 h q k) : EReal) - latMax Q K (ix2 h q)) := by
  rw [← latMax1_apply Q K h q 0]
  unfold latExp
  generalize latScore Q K = y
  generalize latMax1 Q K = z
  pointwise
theorem latTotal_apply (Q K : WideArr) (h : Fin 8) (q : Fin 8192) :
    (latTotal Q K (ix2 h q) : EReal) = ∑ k, (latExp Q K (ix3 h q k) : EReal) := by
  unfold latTotal
  generalize latExp Q K = y
  pointwise
theorem latTotal1_apply (Q K : WideArr) (h : Fin 8) (q : Fin 8192) (z : Fin 1) : (latTotal1 Q K (ix3 h q z) : EReal) = latTotal Q K (ix2 h q) := by
  unfold latTotal1
  generalize latTotal Q K = y
  pointwise
theorem latProb_apply (Q K : WideArr) (h : Fin 8) (q : Fin 8192) (k : Fin 8448) :
    (latProb Q K (ix3 h q k) : EReal) = Ideal.div (latExp Q K (ix3 h q k)) (latTotal Q K (ix2 h q)) := by
  rw [← latTotal1_apply Q K h q 0]
  unfold latProb
  generalize latExp Q K = y
  generalize latTotal1 Q K = z
  pointwise
theorem latOut_apply (Q K : WideArr) (W : ThinArr) (q : Fin 8192) (h : Fin 8) (d : Fin 128) :
    (latOut Q K W (ix3 q h d) : EReal) = ∑ k : Fin 8448, (W (ix3 k h d) : EReal) * latProb Q K (ix3 h q k) := by
  unfold latOut
  generalize latProb Q K = y
  pointwise
theorem latLse1_apply (Q K : WideArr) (q : Fin 8192) (h : Fin 8) :
    (latLse1 Q K (ix3 h q 0) : EReal) = Ideal.div ((latMax Q K (ix2 h q) : EReal) + Ideal.log (latTotal Q K (ix2 h q))) (Ideal.log (Ideal.ofBits .f32 0x40000000#32)) := by
  rw [← latTotal1_apply Q K h q 0, ← latMax1_apply Q K h q 0]
  unfold latLse1
  generalize latMax1 Q K = y
  generalize latTotal1 Q K = z
  rw [quotient_at]
  refine congrArg (Ideal.div _) ?_
  have e : ∀ w, (Host.log (constant (F := Ideal) S_ .f32 0x40000000#32) w : EReal) = Ideal.log (Ideal.ofBits .f32 0x40000000#32) := fun _ => rfl
  generalize Host.log (constant (F := Ideal) S_ .f32 0x40000000#32) = u at e ⊢
  exact e _
theorem latLse_apply (Q K : WideArr) (q : Fin 8192) (h : Fin 8) :
    (latLse Q K (ix2 q h) : EReal) = latLse1 Q K (ix3 h q 0) := by
  unfold latLse
  generalize latLse1 Q K = y
  rw [transpose_apply [1, 0] _ transposes_S8x8192_S8192x8_1_0 (ix2 q h) (ix2 h q) (fun b => match b with
    | ⟨0, _⟩ => rfl
    | ⟨1, _⟩ => rfl)]
  exact shapeCast_apply y shapeCasts_S8x8192x1_S8x8192 (ix2 h q) (ix3 h q 0) (by
    rewrite [Shape.rowMajor_val_two, Shape.rowMajor_val_three]
    show (h.val * 8192 + q.val) * 1 + 0 = h.val * 8192 + q.val
    omega)
theorem latDelta_apply (Q K : WideArr) (W C : ThinArr) (q : Fin 8192) (h : Fin 8) :
    (latDelta Q K W C (ix2 q h) : EReal) = ∑ d : Fin 128, (latOut Q K W (ix3 q h d) : EReal) * C (ix3 (latent q) h d) := by
  unfold latDelta
  generalize latOut Q K W = y
  pointwise
  exact Finset.sum_congr rfl fun _ _ => rfl

theorem latScore_real (Q K : Fin 8448 → Fin 8 → Fin 256 → ℝ) (h : Fin 8) (q : Fin 8192) (k : Fin 8448) :
    (latScore (wide Q) (wide K) (ix3 h q k) : EReal) = ((score scale Q K h (latent q) k : ℝ) : EReal) := by
  rw [latScore_apply, scale_eq]
  unfold score
  rw [coe_sum]
  exact Finset.sum_congr rfl fun d _ => by rw [EReal.coe_mul, EReal.coe_mul]; rfl

theorem latMax_real (Q K : Fin 8448 → Fin 8 → Fin 256 → ℝ) (h : Fin 8) (q : Fin 8192) :
    ∃ M : ℝ, (latMax (wide Q) (wide K) (ix2 h q) : EReal) = (M : EReal) := by
  obtain ⟨M, hM⟩ := fold_max_real (Finset.univ : Finset (Fin 8448)) ⟨0, Finset.mem_univ _⟩ (fun k => score scale Q K h (latent q) k)
  refine ⟨M, hM ▸ ?_⟩
  rw [latMax_apply, bot_eq]
  exact congrArg (fun f => (Finset.univ : Finset (Fin 8448)).fold max (⊥ : EReal) f) (funext fun k => latScore_real Q K h q k)

theorem latExp_real (Q K : Fin 8448 → Fin 8 → Fin 256 → ℝ) (h : Fin 8) (q : Fin 8192) (M : ℝ)
    (hM : (latMax (wide Q) (wide K) (ix2 h q) : EReal) = (M : EReal)) (k : Fin 8448) :
    (latExp (wide Q) (wide K) (ix3 h q k) : EReal) = ((Real.exp (score scale Q K h (latent q) k - M) : ℝ) : EReal) := by
  rw [latExp_apply, latScore_real, hM, ← EReal.coe_sub]
  exact Ideal.exp_coe _

theorem latTotal_real (Q K : Fin 8448 → Fin 8 → Fin 256 → ℝ) (h : Fin 8) (q : Fin 8192) (M : ℝ)
    (hM : (latMax (wide Q) (wide K) (ix2 h q) : EReal) = (M : EReal)) :
    (latTotal (wide Q) (wide K) (ix2 h q) : EReal) = ((∑ j ∈ keys sees (latent q), Real.exp (score scale Q K h (latent q) j - M) : ℝ) : EReal) := by
  rw [latTotal_apply]
  exact Eq.trans (Finset.sum_congr rfl fun k _ => latExp_real Q K h q M hM k) ((coe_sum Finset.univ _).symm.trans
    (congrArg (fun x : ℝ => (x : EReal)) (sum_latent q fun j => Real.exp (score scale Q K h (latent q) j - M))))

theorem latProb_real (Q K : Fin 8448 → Fin 8 → Fin 256 → ℝ) (h : Fin 8) (q : Fin 8192) (k : Fin 8448) :
    (latProb (wide Q) (wide K) (ix3 h q k) : EReal) = ((prob scale Q K h (latent q) k : ℝ) : EReal) := by
  obtain ⟨M, hM⟩ := latMax_real Q K h q
  rw [latProb_apply, latExp_real Q K h q M hM, latTotal_real Q K h q M hM,
    div_real _ (ne_of_gt (sum_exp_pos _ (keys_nonempty _) _)), shift_prob]
  rfl

theorem latLse_real (Q K : Fin 8448 → Fin 8 → Fin 256 → ℝ) (q : Fin 8192) (h : Fin 8) :
    ∃ M : ℝ, (latLse (wide Q) (wide K) (ix2 q h) : EReal)
      = (((M + Real.log (∑ j ∈ keys sees (latent q), Real.exp (score scale Q K h (latent q) j - M))) / Real.log 2 : ℝ) : EReal) := by
  obtain ⟨M, hM⟩ := latMax_real Q K h q
  refine ⟨M, ?_⟩
  rw [latLse_apply, latLse1_apply, hM, latTotal_real Q K h q M hM, two_eq, log_real (show (0 : ℝ) < 2 by norm_num),
    log_real (sum_exp_pos _ (keys_nonempty _) _), ← EReal.coe_add, div_real _ (ne_of_gt (Real.log_pos (by norm_num)))]

theorem latDelta_real (Q K : Fin 8448 → Fin 8 → Fin 256 → ℝ) (W C : Fin 8448 → Fin 8 → Fin 128 → ℝ) (q : Fin 8192) (h : Fin 8) :
    (latDelta (wide Q) (wide K) (thin W) (thin C) (ix2 q h) : EReal) = ((mean scale Q K W C h (latent q) : ℝ) : EReal) := by
  rw [latDelta_apply, ← mean_eq, coe_sum]
  refine Finset.sum_congr rfl fun d _ => ?_
  rw [EReal.coe_mul, latOut_apply]
  refine congrArg (· * ((C (latent q) h d : ℝ) : EReal)) ?_
  refine Eq.trans (Finset.sum_congr rfl fun k _ => ?_) ((coe_sum Finset.univ _).symm.trans
    (congrArg (fun x : ℝ => (x : EReal)) (sum_latent q fun j => W j h d * prob scale Q K h (latent q) j)))
  rw [latProb_real, EReal.coe_mul]
  rfl

/-! ## The context rows over real arguments -/

theorem ctxScore_apply (Q K : WideArr) (h : Fin 8) (q : Fin 256) (k : Fin 256) :
    (ctxScore Q K (ix3 h q k) : EReal) = ∑ d : Fin 256, (Q (ix3 (context q) h d) * Ideal.ofBits .f32 0x3D93CD3A#32 : EReal) * K (ix3 (context k) h d) := by
  unfold ctxScore
  pointwise
  exact Finset.sum_congr rfl fun _ _ => rfl
theorem ctxMax_apply (Q K : WideArr) (h : Fin 8) (q : Fin 256) :
    (ctxMax Q K (ix2 h q) : EReal) = (Finset.univ : Finset (Fin 256)).fold max (Ideal.ofBits .f32 0xFF800000#32) (fun k => ctxScore Q K (ix3 h q k)) := by
  unfold ctxMax
  generalize ctxScore Q K = y
  pointwise
theorem ctxMax1_apply (Q K : WideArr) (h : Fin 8) (q : Fin 256) (z : Fin 1) : (ctxMax1 Q K (ix3 h q z) : EReal) = ctxMax Q K (ix2 h q) := by
  unfold ctxMax1
  generalize ctxMax Q K = y
  pointwise
theorem ctxExp_apply (Q K : WideArr) (h : Fin 8) (q : Fin 256) (k : Fin 256) :
    (ctxExp Q K (ix3 h q k) : EReal) = Ideal.exp ((ctxScore Q K (ix3 h q k) : EReal) - ctxMax Q K (ix2 h q)) := by
  rw [← ctxMax1_apply Q K h q 0]
  unfold ctxExp
  generalize ctxScore Q K = y
  generalize ctxMax1 Q K = z
  pointwise
theorem ctxTotal_apply (Q K : WideArr) (h : Fin 8) (q : Fin 256) :
    (ctxTotal Q K (ix2 h q) : EReal) = ∑ k, (ctxExp Q K (ix3 h q k) : EReal) := by
  unfold ctxTotal
  generalize ctxExp Q K = y
  pointwise
theorem ctxTotal1_apply (Q K : WideArr) (h : Fin 8) (q : Fin 256) (z : Fin 1) : (ctxTotal1 Q K (ix3 h q z) : EReal) = ctxTotal Q K (ix2 h q) := by
  unfold ctxTotal1
  generalize ctxTotal Q K = y
  pointwise
theorem ctxProb_apply (Q K : WideArr) (h : Fin 8) (q : Fin 256) (k : Fin 256) :
    (ctxProb Q K (ix3 h q k) : EReal) = Ideal.div (ctxExp Q K (ix3 h q k)) (ctxTotal Q K (ix2 h q)) := by
  rw [← ctxTotal1_apply Q K h q 0]
  unfold ctxProb
  generalize ctxExp Q K = y
  generalize ctxTotal1 Q K = z
  pointwise
theorem ctxOut_apply (Q K : WideArr) (W : ThinArr) (q : Fin 256) (h : Fin 8) (d : Fin 128) :
    (ctxOut Q K W (ix3 q h d) : EReal) = ∑ k : Fin 256, (W (ix3 (context k) h d) : EReal) * ctxProb Q K (ix3 h q k) := by
  unfold ctxOut
  generalize ctxProb Q K = y
  pointwise
  exact Finset.sum_congr rfl fun _ _ => rfl
theorem ctxLse1_apply (Q K : WideArr) (q : Fin 256) (h : Fin 8) :
    (ctxLse1 Q K (ix3 h q 0) : EReal) = Ideal.div ((ctxMax Q K (ix2 h q) : EReal) + Ideal.log (ctxTotal Q K (ix2 h q))) (Ideal.log (Ideal.ofBits .f32 0x40000000#32)) := by
  rw [← ctxTotal1_apply Q K h q 0, ← ctxMax1_apply Q K h q 0]
  unfold ctxLse1
  generalize ctxMax1 Q K = y
  generalize ctxTotal1 Q K = z
  rw [quotient_at]
  refine congrArg (Ideal.div _) ?_
  have e : ∀ w, (Host.log (constant (F := Ideal) S_ .f32 0x40000000#32) w : EReal) = Ideal.log (Ideal.ofBits .f32 0x40000000#32) := fun _ => rfl
  generalize Host.log (constant (F := Ideal) S_ .f32 0x40000000#32) = u at e ⊢
  exact e _
theorem ctxLse_apply (Q K : WideArr) (q : Fin 256) (h : Fin 8) :
    (ctxLse Q K (ix2 q h) : EReal) = ctxLse1 Q K (ix3 h q 0) := by
  unfold ctxLse
  generalize ctxLse1 Q K = y
  rw [transpose_apply [1, 0] _ transposes_S8x256_S256x8_1_0 (ix2 q h) (ix2 h q) (fun b => match b with
    | ⟨0, _⟩ => rfl
    | ⟨1, _⟩ => rfl)]
  exact shapeCast_apply y shapeCasts_S8x256x1_S8x256 (ix2 h q) (ix3 h q 0) (by
    rewrite [Shape.rowMajor_val_two, Shape.rowMajor_val_three]
    show (h.val * 256 + q.val) * 1 + 0 = h.val * 256 + q.val
    omega)
theorem ctxDelta_apply (Q K : WideArr) (W C : ThinArr) (q : Fin 256) (h : Fin 8) :
    (ctxDelta Q K W C (ix2 q h) : EReal) = ∑ d : Fin 128, (ctxOut Q K W (ix3 q h d) : EReal) * C (ix3 (context q) h d) := by
  unfold ctxDelta
  generalize ctxOut Q K W = y
  pointwise
  exact Finset.sum_congr rfl fun _ _ => rfl

theorem ctxScore_real (Q K : Fin 8448 → Fin 8 → Fin 256 → ℝ) (h : Fin 8) (q : Fin 256) (k : Fin 256) :
    (ctxScore (wide Q) (wide K) (ix3 h q k) : EReal) = ((score scale Q K h (context q) (context k) : ℝ) : EReal) := by
  rw [ctxScore_apply, scale_eq]
  unfold score
  rw [coe_sum]
  exact Finset.sum_congr rfl fun d _ => by rw [EReal.coe_mul, EReal.coe_mul]; rfl

theorem ctxMax_real (Q K : Fin 8448 → Fin 8 → Fin 256 → ℝ) (h : Fin 8) (q : Fin 256) :
    ∃ M : ℝ, (ctxMax (wide Q) (wide K) (ix2 h q) : EReal) = (M : EReal) := by
  obtain ⟨M, hM⟩ := fold_max_real (Finset.univ : Finset (Fin 256)) ⟨0, Finset.mem_univ _⟩ (fun k => score scale Q K h (context q) (context k))
  refine ⟨M, hM ▸ ?_⟩
  rw [ctxMax_apply, bot_eq]
  exact congrArg (fun f => (Finset.univ : Finset (Fin 256)).fold max (⊥ : EReal) f) (funext fun k => ctxScore_real Q K h q k)

theorem ctxExp_real (Q K : Fin 8448 → Fin 8 → Fin 256 → ℝ) (h : Fin 8) (q : Fin 256) (M : ℝ)
    (hM : (ctxMax (wide Q) (wide K) (ix2 h q) : EReal) = (M : EReal)) (k : Fin 256) :
    (ctxExp (wide Q) (wide K) (ix3 h q k) : EReal) = ((Real.exp (score scale Q K h (context q) (context k) - M) : ℝ) : EReal) := by
  rw [ctxExp_apply, ctxScore_real, hM, ← EReal.coe_sub]
  exact Ideal.exp_coe _

theorem ctxTotal_real (Q K : Fin 8448 → Fin 8 → Fin 256 → ℝ) (h : Fin 8) (q : Fin 256) (M : ℝ)
    (hM : (ctxMax (wide Q) (wide K) (ix2 h q) : EReal) = (M : EReal)) :
    (ctxTotal (wide Q) (wide K) (ix2 h q) : EReal) = ((∑ j ∈ keys sees (context q), Real.exp (score scale Q K h (context q) j - M) : ℝ) : EReal) := by
  rw [ctxTotal_apply]
  exact Eq.trans (Finset.sum_congr rfl fun k _ => ctxExp_real Q K h q M hM k) ((coe_sum Finset.univ _).symm.trans
    (congrArg (fun x : ℝ => (x : EReal)) (sum_context q fun j => Real.exp (score scale Q K h (context q) j - M))))

theorem ctxProb_real (Q K : Fin 8448 → Fin 8 → Fin 256 → ℝ) (h : Fin 8) (q : Fin 256) (k : Fin 256) :
    (ctxProb (wide Q) (wide K) (ix3 h q k) : EReal) = ((prob scale Q K h (context q) (context k) : ℝ) : EReal) := by
  obtain ⟨M, hM⟩ := ctxMax_real Q K h q
  rw [ctxProb_apply, ctxExp_real Q K h q M hM, ctxTotal_real Q K h q M hM,
    div_real _ (ne_of_gt (sum_exp_pos _ (keys_nonempty _) _)), shift_prob]
  rfl

theorem ctxLse_real (Q K : Fin 8448 → Fin 8 → Fin 256 → ℝ) (q : Fin 256) (h : Fin 8) :
    ∃ M : ℝ, (ctxLse (wide Q) (wide K) (ix2 q h) : EReal)
      = (((M + Real.log (∑ j ∈ keys sees (context q), Real.exp (score scale Q K h (context q) j - M))) / Real.log 2 : ℝ) : EReal) := by
  obtain ⟨M, hM⟩ := ctxMax_real Q K h q
  refine ⟨M, ?_⟩
  rw [ctxLse_apply, ctxLse1_apply, hM, ctxTotal_real Q K h q M hM, two_eq, log_real (show (0 : ℝ) < 2 by norm_num),
    log_real (sum_exp_pos _ (keys_nonempty _) _), ← EReal.coe_add, div_real _ (ne_of_gt (Real.log_pos (by norm_num)))]

theorem ctxDelta_real (Q K : Fin 8448 → Fin 8 → Fin 256 → ℝ) (W C : Fin 8448 → Fin 8 → Fin 128 → ℝ) (q : Fin 256) (h : Fin 8) :
    (ctxDelta (wide Q) (wide K) (thin W) (thin C) (ix2 q h) : EReal) = ((mean scale Q K W C h (context q) : ℝ) : EReal) := by
  rw [ctxDelta_apply, ← mean_eq, coe_sum]
  refine Finset.sum_congr rfl fun d _ => ?_
  rw [EReal.coe_mul, ctxOut_apply]
  refine congrArg (· * ((C (context q) h d : ℝ) : EReal)) ?_
  refine Eq.trans (Finset.sum_congr rfl fun k _ => ?_) ((coe_sum Finset.univ _).symm.trans
    (congrArg (fun x : ℝ => (x : EReal)) (sum_context q fun j => W j h d * prob scale Q K h (context q) j)))
  rw [ctxProb_real, EReal.coe_mul]
  rfl

theorem joined_latent (a : FVec Ideal S8192x8 .f32) (b : FVec Ideal S256x8 .f32) (q : Fin 8192) (h : Fin 8) :
    (joined a b (ix2 (latent q) h) : EReal) = a (ix2 q h) := by
  unfold joined
  pointwise
  exact dif_pos q.isLt
theorem joined_context (a : FVec Ideal S8192x8 .f32) (b : FVec Ideal S256x8 .f32) (q : Fin 256) (h : Fin 8) :
    (joined a b (ix2 (context q) h) : EReal) = b (ix2 q h) := by
  unfold joined
  pointwise
  refine (dif_neg (show ¬ 8192 + q.val < 8192 by omega)).trans ?_
  exact congrArg (fun i => b (ix2 i h)) (Fin.ext (show 8192 + q.val - 8192 = q.val by omega))
theorem saved_at (Q K : WideArr) (W C : ThinArr) (q : Fin 8448) (h : ℕ) (hh : h < 8) (l : Fin 128) (hj : 128 * h + l.val < 1024) :
    saved Q K W C (ix2 q ⟨128 * h + l.val, hj⟩) = savedLanes (joined (latLse Q K) (ctxLse Q K)) (joined (latDelta Q K W C) (ctxDelta Q K W C)) (ix3 q ⟨h, hh⟩ l) := by
  unfold saved
  generalize savedLanes (joined (latLse Q K) (ctxLse Q K)) (joined (latDelta Q K W C) (ctxDelta Q K W C)) = y
  refine shapeCast_apply y shapeCasts_S8448x8x128_S8448x1024 _ (ix3 q ⟨h, hh⟩ l) ?_
  rewrite [Shape.rowMajor_val_two, Shape.rowMajor_val_three]
  show (q.val * 8 + h) * 128 + l.val = q.val * 1024 + (128 * h + l.val)
  omega
theorem savedLanes_first (L D : FVec Ideal S8448x8 .f32) (q : Fin 8448) (h : Fin 8) :
    (savedLanes L D (ix3 q h (0 : Fin 128)) : EReal) = L (ix2 q h) := by
  unfold savedLanes
  pointwise
  rw [show IntOp.cmpi .slt 0#32 64#32 = 1#1 by decide]
  rfl
theorem savedLanes_second (L D : FVec Ideal S8448x8 .f32) (q : Fin 8448) (h : Fin 8) :
    (savedLanes L D (ix3 q h (64 : Fin 128)) : EReal) = D (ix2 q h) := by
  unfold savedLanes
  pointwise
  rw [show IntOp.cmpi .slt 64#32 64#32 = 0#1 by decide]
  rfl

/-- The saved logarithm of a row, up to the shift that its maximum gives. -/
theorem saved_lse (Q K : Fin 8448 → Fin 8 → Fin 256 → ℝ) (W C : Fin 8448 → Fin 8 → Fin 128 → ℝ) (q : Fin 8448) (h : ℕ) (hh : h < 8) (hj : 128 * h + 0 < 1024) :
    ∃ M : ℝ, (saved (wide Q) (wide K) (thin W) (thin C) (ix2 q ⟨128 * h + 0, hj⟩) : EReal)
      = (((M + Real.log (∑ j ∈ keys sees q, Real.exp (score scale Q K ⟨h, hh⟩ q j - M))) / Real.log 2 : ℝ) : EReal) := by
  have e := saved_at (wide Q) (wide K) (thin W) (thin C) q h hh (0 : Fin 128) hj
  rw [savedLanes_first] at e
  rcases latent_or_context q with ⟨i, rfl⟩ | ⟨i, rfl⟩
  · rw [joined_latent] at e
    obtain ⟨M, hM⟩ := latLse_real Q K i ⟨h, hh⟩
    exact ⟨M, e.trans hM⟩
  · rw [joined_context] at e
    obtain ⟨M, hM⟩ := ctxLse_real Q K i ⟨h, hh⟩
    exact ⟨M, e.trans hM⟩

/-- The saved mean of a row's gradients. -/
theorem saved_mean (Q K : Fin 8448 → Fin 8 → Fin 256 → ℝ) (W C : Fin 8448 → Fin 8 → Fin 128 → ℝ) (q : Fin 8448) (h : ℕ) (hh : h < 8) (hj : 128 * h + 64 < 1024) :
    (saved (wide Q) (wide K) (thin W) (thin C) (ix2 q ⟨128 * h + 64, hj⟩) : EReal) = ((mean scale Q K W C ⟨h, hh⟩ q : ℝ) : EReal) := by
  have e := saved_at (wide Q) (wide K) (thin W) (thin C) q h hh (64 : Fin 128) hj
  rw [savedLanes_second] at e
  rcases latent_or_context q with ⟨i, rfl⟩ | ⟨i, rfl⟩
  · rw [joined_latent] at e
    exact e.trans (latDelta_real Q K W C i ⟨h, hh⟩)
  · rw [joined_context] at e
    exact e.trans (ctxDelta_real Q K W C i ⟨h, hh⟩)

end Cert.KernelIdeal.Attn

end
-- ==== Proof.Host.lean ====
/- The arrays the call is given, entry by entry: the scaled queries, the keys, the values, the cotangents and the saved statistics. -/
module

public import proofs.«01_k».proof.Proof.Final
public import proofs.«01_k».proof.Proof.Saved

@[expose] public section

set_option maxRecDepth 16384

noncomputable section

open Idealize.ShloMosaic Idealize.ShloMosaic.TcCoe Idealize.SL.Sem
open Idealize.ShloMosaic.Pipeline (Dat Cfg Window)

namespace Cert.KernelIdeal.Attn

open Cert.KernelIdeal Cert.KernelIdeal.Gen

variable (m : (ℓ : Loc nD τ sig) → Buf (Elt Ideal) ℓ) (c : Dev nD)

abbrev argQ : FVec Ideal S8448x8x256 .f32 := m ((c : Thread nD τ).loc main_arg0)
abbrev argK : FVec Ideal S8448x8x256 .f32 := m ((c : Thread nD τ).loc main_arg1)
abbrev argV : FVec Ideal S8448x8x128 .f32 := m ((c : Thread nD τ).loc main_arg2)
abbrev argC : FVec Ideal S8448x8x128 .f32 := m ((c : Thread nD τ).loc main_arg3)

theorem V_eq (b : Ref sig .tc) : V m c b = StableHlo.after hostOps0_2 (StableHlo.after hostOps0_1 (StableHlo.after hostOps0 (fun b => m (c, b)))) b := by
  show StableHlo.after (List.flatten [hostOps0, hostOps0_1, hostOps0_2]) (fun b => m (c, b)) b = _
  rw [List.flatten_cons, List.flatten_cons, List.flatten_cons, List.flatten_nil, List.append_nil, StableHlo.after_append, StableHlo.after_append]

theorem host_k (k : Fin 8448) (h : ℕ) (hh : h < 8) (d : Fin 256) (hj : 256 * h + d.val < 2048) :
    (V m c main_v72 (ix2 k ⟨256 * h + d.val, hj⟩) : EReal) = argK m c (ix3 k ⟨h, hh⟩ d) := by
  rw [V_eq]
  entry_read
  pointwise
  have e : (256 * h + d.val) / 256 = h := by have := d.isLt; omega
  simp only [e]

theorem host_do (k : Fin 8448) (h : ℕ) (hh : h < 8) (d : Fin 128) (hj : 128 * h + d.val < 1024) :
    (V m c main_v75 (ix2 k ⟨128 * h + d.val, hj⟩) : EReal) = argC m c (ix3 k ⟨h, hh⟩ d) := by
  rw [V_eq]
  entry_read
  pointwise
  have e : (128 * h + d.val) / 128 = h := by have := d.isLt; omega
  simp only [e]

theorem host_v (k : Fin 8448) (h : ℕ) (hh : h < 8) (d : Fin 128) (hj : 1024 + 128 * h + d.val < 2048) :
    (V m c main_v73 (ix2 k ⟨1024 + 128 * h + d.val, hj⟩) : EReal) = argV m c (ix3 k ⟨h, hh⟩ d) := by
  rw [V_eq]
  entry_read
  pointwise
  rw [dif_neg (by omega)]
  have e : (1024 + 128 * h + d.val - 1024) / 128 = h := by have := d.isLt; omega
  have e' : (1024 + 128 * h + d.val - 1024) % 128 = d.val := by have := d.isLt; omega
  simp only [e, e']

theorem host_q (k : Fin 8448) (h : ℕ) (hh : h < 8) (d : Fin 256) (hj : 256 * h + d.val < 2048) :
    (V m c main_v70 (ix2 k ⟨256 * h + d.val, hj⟩) : EReal) = argQ m c (ix3 k ⟨h, hh⟩ d) *
      Ideal.div (Ideal.ofBits .f32 0x3D93CD3A#32) (Ideal.log (Ideal.ofBits .f32 0x40000000#32)) := by
  rw [V_eq]
  entry_read
  pointwise
  have e : (256 * h + d.val) / 256 = h := by have := d.isLt; omega
  simp only [e]

/-- The statistics before they are laid out: the logarithm of each row's total and the mean of its gradients. -/
theorem host_saved : V m c main_v60 = saved (argQ m c) (argK m c) (argV m c) (argC m c) := by
  rw [V_eq]
  entry_read
  rfl

end Cert.KernelIdeal.Attn

end
-- ==== Proof.Equal.lean ====
/- The kernel's three results over real arguments are the gradients. -/
module

public import proofs.«01_k».proof.Proof.Host

@[expose] public section

set_option maxRecDepth 16384

noncomputable section

open Idealize.ShloMosaic Idealize.ShloMosaic.TcCoe Idealize.SL.Sem
open Idealize.ShloMosaic.Pipeline (Dat Cfg Window)

namespace Cert.KernelIdeal.Attn

open Cert.KernelIdeal Cert.KernelIdeal.Gen
open Cert.AttnModel (sees scale scale_eq two_eq coe_sum div_real log_real score keys keys_nonempty sum_exp_pos two_pow_prob shift_prob dprob mean gradQ gradK gradV)

variable (m : (ℓ : Loc nD τ sig) → Buf (Elt Ideal) ℓ) (c : Dev nD)
variable (Q K : Fin 8448 → Fin 8 → Fin 256 → ℝ) (W C : Fin 8448 → Fin 8 → Fin 128 → ℝ)

/-- The arguments are these real numbers. -/
structure Real4 : Prop where
  q : argQ m c = wide Q
  k : argK m c = wide K
  v : argV m c = thin W
  c : argC m c = thin C

theorem log2_pos : 0 < Real.log 2 := Real.log_pos (by norm_num)
theorem log2_ne : Real.log 2 ≠ 0 := ne_of_gt log2_pos

theorem scA_real (h : Fin 8) (q k : Fin 8448) (M : ℝ) (XQ XK : Vec Ideal S8448x2048 .bf16) (XL : Vec Ideal S8448x1024 .f32)
    (hq : ∀ d : Fin 256, (XQ (ix2 q ⟨256 * h.val + d.val, by omega⟩) : EReal) = ((Q q h d * (scale / Real.log 2) : ℝ) : EReal))
    (hk : ∀ d : Fin 256, (XK (ix2 k ⟨256 * h.val + d.val, by omega⟩) : EReal) = ((K k h d : ℝ) : EReal))
    (hl : (XL (ix2 q ⟨128 * h.val + 0, by omega⟩) : EReal)
      = (((M + Real.log (∑ j ∈ keys sees q, Real.exp (score scale Q K h q j - M))) / Real.log 2 : ℝ) : EReal)) :
    scA XQ XL XK h.val h.isLt q k = ((AttnModel.prob scale Q K h q k : ℝ) : EReal) := by
  unfold scA
  have e : (∑ d : Fin 256, (XQ (ix2 q ⟨256 * h.val + d.val, by omega⟩) : EReal) * XK (ix2 k ⟨256 * h.val + d.val, by omega⟩))
      = ((score scale Q K h q k / Real.log 2 : ℝ) : EReal) := by
    rw [score, Finset.sum_div, coe_sum]
    refine Finset.sum_congr rfl fun d _ => ?_
    rw [hq d, hk d, ← EReal.coe_mul]
    exact congrArg (fun x : ℝ => (x : EReal)) (by ring)
  rw [e, hl, ← EReal.coe_sub, Ideal.exp2_coe, two_pow_prob _ _ (sum_exp_pos _ (keys_nonempty _) _), shift_prob]
  rfl

theorem dprodA_real (h : Fin 8) (q k : Fin 8448) (XD : Vec Ideal S8448x1024 .bf16) (XV : Vec Ideal S8448x2048 .bf16)
    (hd : ∀ d : Fin 128, (XD (ix2 q ⟨128 * h.val + d.val, by omega⟩) : EReal) = ((C q h d : ℝ) : EReal))
    (hv : ∀ d : Fin 128, (XV (ix2 k ⟨1024 + 128 * h.val + d.val, by omega⟩) : EReal) = ((W k h d : ℝ) : EReal)) :
    (∑ d : Fin 128, (XD (ix2 q ⟨128 * h.val + d.val, by omega⟩) : EReal) * XV (ix2 k ⟨1024 + 128 * h.val + d.val, by omega⟩))
      = ((dprob W C h q k : ℝ) : EReal) := by
  rw [dprob, coe_sum]
  refine Finset.sum_congr rfl fun d _ => ?_
  rw [hd d, hv d, ← EReal.coe_mul]

theorem dsA_real (h : ℕ) (hh : h < 8) (q k : Fin 8448) (XQ : Vec Ideal S8448x2048 .bf16) (XD : Vec Ideal S8448x1024 .bf16) (XL : Vec Ideal S8448x1024 .f32)
    (XK XV : Vec Ideal S8448x2048 .bf16) (a b e : ℝ) (ha : scA XQ XL XK h hh q k = (a : EReal))
    (hb : (∑ d : Fin 128, (XD (ix2 q ⟨128 * h + d.val, by omega⟩) : EReal) * XV (ix2 k ⟨1024 + 128 * h + d.val, by omega⟩)) = (b : EReal))
    (he : (XL (ix2 q ⟨128 * h + 64, by omega⟩) : EReal) = (e : EReal)) :
    dsA XQ XD XL XK XV h hh q k = ((a * (b - e) : ℝ) : EReal) := by
  unfold dsA
  rw [ha, hb, he, ← EReal.coe_sub, ← EReal.coe_mul]

variable {m c Q K W C} (hr : Real4 m c Q K W C)
include hr

theorem q_real (q : Fin 8448) (h : ℕ) (hh : h < 8) (d : Fin 256) (hj : 256 * h + d.val < 2048) :
    (V m c main_v70 (ix2 q ⟨256 * h + d.val, hj⟩) : EReal) = ((Q q ⟨h, hh⟩ d * (scale / Real.log 2) : ℝ) : EReal) := by
  rw [host_q m c q h hh d hj, hr.q, scale_eq, two_eq, log_real (show (0 : ℝ) < 2 by norm_num), div_real _ log2_ne, EReal.coe_mul]
  rfl

theorem k_real (k : Fin 8448) (h : ℕ) (hh : h < 8) (d : Fin 256) (hj : 256 * h + d.val < 2048) :
    (V m c main_v72 (ix2 k ⟨256 * h + d.val, hj⟩) : EReal) = ((K k ⟨h, hh⟩ d : ℝ) : EReal) := by
  rw [host_k m c k h hh d hj, hr.k]
  rfl

theorem v_real (k : Fin 8448) (h : ℕ) (hh : h < 8) (d : Fin 128) (hj : 1024 + 128 * h + d.val < 2048) :
    (V m c main_v73 (ix2 k ⟨1024 + 128 * h + d.val, hj⟩) : EReal) = ((W k ⟨h, hh⟩ d : ℝ) : EReal) := by
  rw [host_v m c k h hh d hj, hr.v]
  rfl

theorem do_real (k : Fin 8448) (h : ℕ) (hh : h < 8) (d : Fin 128) (hj : 128 * h + d.val < 1024) :
    (V m c main_v75 (ix2 k ⟨128 * h + d.val, hj⟩) : EReal) = ((C k ⟨h, hh⟩ d : ℝ) : EReal) := by
  rw [host_do m c k h hh d hj, hr.c]
  rfl

theorem lse_real (q : Fin 8448) (h : ℕ) (hh : h < 8) (hj : 128 * h + 0 < 1024) :
    ∃ M : ℝ, (V m c main_v60 (ix2 q ⟨128 * h + 0, hj⟩) : EReal)
      = (((M + Real.log (∑ j ∈ keys sees q, Real.exp (score scale Q K ⟨h, hh⟩ q j - M))) / Real.log 2 : ℝ) : EReal) := by
  rw [host_saved, hr.q, hr.k, hr.v, hr.c]
  exact saved_lse Q K W C q h hh hj

theorem mean_real (q : Fin 8448) (h : ℕ) (hh : h < 8) (hj : 128 * h + 64 < 1024) :
    (V m c main_v60 (ix2 q ⟨128 * h + 64, hj⟩) : EReal) = ((mean scale Q K W C ⟨h, hh⟩ q : ℝ) : EReal) := by
  rw [host_saved, hr.q, hr.k, hr.v, hr.c]
  exact saved_mean Q K W C q h hh hj

/-- The kernel's exponential is the probability: both logarithms are to the base two. -/
theorem sc_real (h : ℕ) (hh : h < 8) (q k : Fin 8448) :
    sc m c h hh q k = ((AttnModel.prob scale Q K ⟨h, hh⟩ q k : ℝ) : EReal) := by
  obtain ⟨M, hM⟩ := lse_real hr q h hh (by omega)
  refine (scA_real Q K ⟨h, hh⟩ q k M _ _ _ (fun d => q_real hr q h hh d _) (fun d => k_real hr k h hh d _) hM)

theorem dsc_real (h : ℕ) (hh : h < 8) (q k : Fin 8448) :
    dsc m c h hh q k = ((AttnModel.dscore scale Q K W C ⟨h, hh⟩ q k : ℝ) : EReal) := by
  have e := dprodA_real W C ⟨h, hh⟩ q k (V m c main_v75) (V m c main_v73) (fun d => do_real hr q h hh d _) (fun d => v_real hr k h hh d _)
  exact dsA_real h hh q k _ _ _ _ _ _ _ _ (sc_real hr h hh q k) e (mean_real hr q h hh (by omega))

theorem dq_real (q : Fin 8448) (h : Fin 8) (d : Fin 256) (hj : 256 * h.val + d.val < 2048) :
    dqArr m c q ⟨256 * h.val + d.val, hj⟩ = ((gradQ scale Q K W C q h d : ℝ) : EReal) := by
  rw [dqArr_at m c q h.val h.isLt d hj, gradQ, coe_sum]
  refine Finset.sum_congr rfl fun k _ => ?_
  by_cases hs : sees q k
  · rw [if_pos hs, if_pos hs, dsc_real hr, k_real hr k h.val h.isLt d, ← EReal.coe_mul]
  · rw [if_neg hs, if_neg hs, EReal.coe_zero]

theorem dk_real (k : Fin 8448) (h : Fin 8) (d : Fin 256) (hj : 256 * h.val + d.val < 2048) :
    dkArr m c k ⟨256 * h.val + d.val, hj⟩ = ((gradK scale Q K W C k h d : ℝ) : EReal) := by
  rw [dkArr_at m c k h.val h.isLt d hj]
  have e : (∑ q : Fin 8448, if sees q k then dsc m c h.val h.isLt q k * V m c main_v70 (ix2 q ⟨256 * h.val + d.val, hj⟩) else 0)
      = ((∑ q : Fin 8448, if sees q k then AttnModel.dscore scale Q K W C h q k * (Q q h d * (scale / Real.log 2)) else 0 : ℝ) : EReal) := by
    rw [coe_sum]
    refine Finset.sum_congr rfl fun q _ => ?_
    by_cases hs : sees q k
    · rw [if_pos hs, if_pos hs, dsc_real hr, q_real hr q h.val h.isLt d, ← EReal.coe_mul]
    · rw [if_neg hs, if_neg hs, EReal.coe_zero]
  rw [e, ← EReal.coe_mul, gradK, Finset.sum_mul]
  refine congrArg (fun x : ℝ => (x : EReal)) (Finset.sum_congr rfl fun q _ => ?_)
  by_cases hs : sees q k
  · rw [if_pos hs, if_pos hs]
    have := log2_ne
    field_simp
  · rw [if_neg hs, if_neg hs, zero_mul]

theorem dv_real (k : Fin 8448) (h : Fin 8) (d : Fin 128) (hj : 128 * h.val + d.val < 1024) :
    dvArr m c k ⟨128 * h.val + d.val, hj⟩ = ((gradV scale Q K C k h d : ℝ) : EReal) := by
  rw [dvArr_at m c k h.val h.isLt d hj, gradV, coe_sum]
  refine Finset.sum_congr rfl fun q _ => ?_
  by_cases hs : sees q k
  · rw [if_pos hs, if_pos hs, sc_real hr, do_real hr q h.val h.isLt d, ← EReal.coe_mul]
  · rw [if_neg hs, if_neg hs, EReal.coe_zero]

end Cert.KernelIdeal.Attn

end
-- ==== Proof.Ref.lean ====
/- The reference's three results over real arguments: each row's scores, exponentials and their sum, the probabilities,
   the scores' gradients, and the sums that make the three gradients. The latent rows and the context rows are two
   stretches of the same operations. -/
module

public import proofs.«01_k».proof.Proof.Gen.ReferenceIdeal.Read
public import proofs.«01_k».proof.Proof.Model
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.ReferenceIdeal.Attn

open Cert.ReferenceIdeal Cert.ReferenceIdeal.Value Cert.ReferenceIdeal.Read Cert.AttnModel

/-- Real numbers as an array of queries or keys. -/
abbrev wide (Q : Fin 8448 → Fin 8 → Fin 256 → ℝ) : (⟨S8448x8x256, .f32⟩ : BufTy).Contents (Elt Ideal) := fun i => ((Q (i 0) (i 1) (i 2) : ℝ) : EReal)
/-- Real numbers as an array of values or cotangents. -/
abbrev thin (W : Fin 8448 → Fin 8 → Fin 128 → ℝ) : (⟨S8448x8x128, .f32⟩ : BufTy).Contents (Elt Ideal) := fun i => ((W (i 0) (i 1) (i 2) : ℝ) : EReal)

variable (Q K : Fin 8448 → Fin 8 → Fin 256 → ℝ) (W C : Fin 8448 → Fin 8 → Fin 128 → ℝ)

theorem scaled_at (q : Fin 8448) (h : Fin 8) (d : Fin 256) :
    (val_main_v1 (F := Ideal) (wide Q) (ix3 q h d) : EReal) = ((Q q h d * scale : ℝ) : EReal) := by
  rw [val_main_v1_apply, val_main_v0_apply, val_main_cst_apply, Ideal.mulf_def, Ideal.ofBits_def, scale_eq, EReal.coe_mul]
  rfl

/-! ## The latent rows -/

theorem lat_query (q : Fin 8192) (h : Fin 8) (d : Fin 256) :
    (val_main_v2 (F := Ideal) (wide Q) (ix3 q h d) : EReal) = ((Q (latent q) h d * scale : ℝ) : EReal) := by
  rw [val_main_v2_apply, ← scaled_at]
  exact congrArg _ (funext fun a => by fin_cases a <;> rfl)

theorem lat_key (k : Fin 8448) (h : Fin 8) (d : Fin 256) : (wide K (ix3 k h d) : EReal) = ((K k h d : ℝ) : EReal) := rfl
theorem lat_value (k : Fin 8448) (h : Fin 8) (d : Fin 128) : (thin W (ix3 k h d) : EReal) = ((W k h d : ℝ) : EReal) := rfl

theorem lat_score (h : Fin 8) (q : Fin 8192) (k : Fin 8448) :
    (val_main_v3 (F := Ideal) (wide Q) (wide K) (ix3 h q k) : EReal) = ((score scale Q K h (latent q) k : ℝ) : EReal) := by
  rw [val_main_v3_apply]
  unfold score
  rw [coe_sum]
  refine Finset.sum_congr rfl fun d _ => ?_
  have e1 : lidx_main_v3 (ix3 h q k) d = ix3 q h d := funext fun a => by fin_cases a <;> rfl
  have e2 : ridx_main_v3 (ix3 h q k) d = ix3 k h d := funext fun a => by fin_cases a <;> rfl
  rw [e1, e2, lat_query, lat_key, ← EReal.coe_mul]

theorem lat_max (h : Fin 8) (q : Fin 8192) :
    ∃ M : ℝ, (val_main_v4 (F := Ideal) (wide Q) (wide K) (ix2 h q) : EReal) = (M : EReal) := by
  obtain ⟨M, hM⟩ := fold_max_real (Finset.univ : Finset (Fin 8448)) ⟨0, Finset.mem_univ _⟩ (fun k => score scale Q K h (latent q) k)
  refine ⟨M, hM ▸ ?_⟩
  have e : ∀ k, (val_main_v3 (F := Ideal) (wide Q) (wide K) (ix3 h q k) : EReal) = _ := fun k => lat_score Q K h q k
  simp only [← e, ← bot_eq]
  unfold val_main_v4 val_main_cst_0
  generalize val_main_v3 (F := Ideal) (wide Q) (wide K) = y
  pointwise

theorem lat_exp (h : Fin 8) (q : Fin 8192) (M : ℝ) (hM : (val_main_v4 (F := Ideal) (wide Q) (wide K) (ix2 h q) : EReal) = (M : EReal)) (k : Fin 8448) :
    (val_main_v24 (F := Ideal) (wide Q) (wide K) (ix3 h q k) : EReal)
      = ((Real.exp (score scale Q K h (latent q) k - M) : ℝ) : EReal) := by
  rw [val_main_v24_apply, val_main_v23_apply, val_main_v22_apply, val_main_v21_apply, val_main_v11_apply, val_main_v10_apply,
    val_main_cst_2_apply]
  have e : idx_main_v21 (idx_main_v22 (ix3 h q k)) = ix2 h q := funext fun a => by fin_cases a <;> rfl
  rw [e, lat_score, hM, Ideal.ofBits_def, bot_eq, Ideal.subf_def, Ideal.maximumf_def, Ideal.hostUnary_exp_def]
  rw [show max (⊥ : EReal) ((M : ℝ) : EReal) = ((M : ℝ) : EReal) from max_eq_right bot_le, ← EReal.coe_sub]
  exact Ideal.exp_coe _

/-- The sum of a row's exponentials, shifted by `M`. -/
abbrev latTotal (h : Fin 8) (q : Fin 8192) (M : ℝ) : ℝ := ∑ j ∈ keys sees (latent q), Real.exp (score scale Q K h (latent q) j - M)

theorem latTotal_ne (h : Fin 8) (q : Fin 8192) (M : ℝ) : latTotal Q K h q M ≠ 0 := ne_of_gt (sum_exp_pos _ (keys_nonempty _) _)

theorem lat_total (h : Fin 8) (q : Fin 8192) (M : ℝ) (hM : (val_main_v4 (F := Ideal) (wide Q) (wide K) (ix2 h q) : EReal) = (M : EReal)) :
    (val_main_v25 (F := Ideal) (wide Q) (wide K) (ix2 h q) : EReal) = ((latTotal Q K h q M : ℝ) : EReal) := by
  rw [val_main_v25_apply, val_main_cst_8_apply, Ideal.ofBits_def, Ideal.ofBits_zero_f32]
  refine (zero_add _).trans ?_
  refine Eq.trans (Finset.sum_congr rfl fun k _ => ?_) ((coe_sum Finset.univ _).symm.trans (congrArg (fun x : ℝ => (x : EReal)) (sum_latent q fun j => Real.exp (score scale Q K h (latent q) j - M))))
  have e : idx_main_v25 (ix2 h q) k = ix3 h q k := funext fun a => by fin_cases a <;> rfl
  rw [e, lat_exp Q K h q M hM]

theorem lat_total1 (h : Fin 8) (q : Fin 8192) (M : ℝ) (hM : (val_main_v4 (F := Ideal) (wide Q) (wide K) (ix2 h q) : EReal) = (M : EReal)) :
    (val_main_v26 (F := Ideal) (wide Q) (wide K) (ix3 h q 0) : EReal) = ((latTotal Q K h q M : ℝ) : EReal) := by
  rw [val_main_v26_apply, ← lat_total Q K h q M hM]
  exact congrArg _ (funext fun a => by fin_cases a <;> rfl)

theorem lat_prob (h : Fin 8) (q : Fin 8192) (k : Fin 8448) :
    (val_main_v28 (F := Ideal) (wide Q) (wide K) (ix3 h q k) : EReal) = ((prob scale Q K h (latent q) k : ℝ) : EReal) := by
  obtain ⟨M, hM⟩ := lat_max Q K h q
  rw [val_main_v28_apply, val_main_v27_apply]
  have e : idx_main_v27 (ix3 h q k) = ix3 h q 0 := funext fun a => by fin_cases a <;> rfl
  rw [e, lat_exp Q K h q M hM, lat_total1 Q K h q M hM, Ideal.hostDivf_def, div_real _ (latTotal_ne Q K h q M), shift_prob]
  rfl

theorem lat_inv (h : Fin 8) (q : Fin 8192) (M : ℝ) (hM : (val_main_v4 (F := Ideal) (wide Q) (wide K) (ix2 h q) : EReal) = (M : EReal)) :
    (val_main_v31 (F := Ideal) (wide Q) (wide K) (ix3 h q 0) : EReal) = ((1 / (latTotal Q K h q M * latTotal Q K h q M) : ℝ) : EReal) := by
  rw [val_main_v31_apply, val_main_v30_apply, val_main_v29_apply, val_main_cst_9_apply, lat_total1 Q K h q M hM, Ideal.hostDivf_def,
    Ideal.mulf_def, Ideal.ofBits_def, Ideal.ofBits_one_f32, ← EReal.coe_mul, ← EReal.coe_one,
    div_real _ (mul_ne_zero (latTotal_ne Q K h q M) (latTotal_ne Q K h q M))]

theorem lat_cotangent (h : Fin 8) (d : Fin 128) (q : Fin 8192) :
    (val_main_v94 (F := Ideal) (thin C) (ix3 h d q) : EReal) = ((C (latent q) h d : ℝ) : EReal) := by
  rw [val_main_v94_apply, val_main_v69_apply]
  have e : idx_main_v69 (idx_main_v94 (ix3 h d q)) = ix3 (latent q) h d := funext fun a => by fin_cases a <;> rfl
  rw [e]
  rfl

theorem lat_dprob (h : Fin 8) (q : Fin 8192) (k : Fin 8448) :
    (val_main_v95 (F := Ideal) (thin W) (thin C) (ix3 h q k) : EReal) = ((dprob W C h (latent q) k : ℝ) : EReal) := by
  rw [val_main_v95_apply]
  unfold dprob
  rw [coe_sum]
  refine Finset.sum_congr rfl fun d _ => ?_
  have e1 : lidx_main_v95 (ix3 h q k) d = ix3 h d q := funext fun a => by fin_cases a <;> rfl
  have e2 : ridx_main_v95 (ix3 h q k) d = ix3 k h d := funext fun a => by fin_cases a <;> rfl
  rw [e1, e2, lat_cotangent, lat_value, EReal.coe_mul]

theorem lat_correction (h : Fin 8) (q : Fin 8192) (M : ℝ) (hM : (val_main_v4 (F := Ideal) (wide Q) (wide K) (ix2 h q) : EReal) = (M : EReal)) :
    (val_main_v107 (F := Ideal) (wide Q) (wide K) (thin W) (thin C) (ix2 h q) : EReal)
      = ((-(∑ j ∈ keys sees (latent q), dprob W C h (latent q) j * (1 / (latTotal Q K h q M * latTotal Q K h q M))
            * Real.exp (score scale Q K h (latent q) j - M)) : ℝ) : EReal) := by
  rw [val_main_v107_apply, val_main_cst_26_apply, Ideal.ofBits_def, Ideal.ofBits_zero_f32]
  refine (zero_add _).trans ?_
  rw [Fin.sum_univ_one, val_main_v104_apply, val_main_v103_apply, Ideal.hostNegf_def, EReal.coe_neg]
  have e : idx_main_v103 (idx_main_v107 (ix2 h q) 0) = ix2 h q := by
    funext a
    have hq : q.val < 8192 := q.isLt
    have hh : h.val < 8 := h.isLt
    fin_cases a
    · exact Fin.ext (show ((h.val * 8192 + q.val) * 1 + 0) / 8192 = h.val by omega)
    · exact Fin.ext (show ((h.val * 8192 + q.val) * 1 + 0) % 8192 = q.val by omega)
  rw [e, val_main_v102_apply, val_main_cst_25_apply, Ideal.ofBits_def, Ideal.ofBits_zero_f32]
  refine congrArg (fun x : EReal => -x) ((zero_add _).trans ?_)
  refine Eq.trans (Finset.sum_congr rfl fun k _ => ?_) ((coe_sum Finset.univ _).symm.trans (congrArg (fun x : ℝ => (x : EReal)) (sum_latent q
    fun j => dprob W C h (latent q) j * (1 / (latTotal Q K h q M * latTotal Q K h q M)) * Real.exp (score scale Q K h (latent q) j - M))))
  have e1 : idx_main_v102 (ix2 h q) k = ix3 h q k := funext fun a => by fin_cases a <;> rfl
  have e2 : idx_main_v99 (ix3 h q k) = ix3 h q 0 := funext fun a => by fin_cases a <;> rfl
  rw [e1, val_main_v101_apply, val_main_v100_apply, val_main_v99_apply, e2, lat_inv Q K h q M hM, lat_exp Q K h q M hM, lat_dprob,
    Ideal.mulf_def, Ideal.mulf_def, ← EReal.coe_mul, ← EReal.coe_mul]

theorem lat_dscore (h : Fin 8) (q : Fin 8192) (k : Fin 8448) :
    (val_main_v110 (F := Ideal) (wide Q) (wide K) (thin W) (thin C) (ix3 h q k) : EReal)
      = ((dscore scale Q K W C h (latent q) k : ℝ) : EReal) := by
  obtain ⟨M, hM⟩ := lat_max Q K h q
  rw [val_main_v110_apply, val_main_v109_apply, val_main_v108_apply, val_main_v106_apply, val_main_v105_apply]
  have e1 : idx_main_v108 (ix3 h q k) = ix2 h q := funext fun a => by fin_cases a <;> rfl
  have e2 : idx_main_v105 (ix3 h q k) = ix3 h q 0 := funext fun a => by fin_cases a <;> rfl
  rw [e1, e2, lat_correction Q K W C h q M hM, lat_total1 Q K h q M hM, lat_exp Q K h q M hM, lat_dprob, Ideal.hostDivf_def,
    div_real _ (latTotal_ne Q K h q M), Ideal.addf_def, Ideal.mulf_def, ← EReal.coe_add, ← EReal.coe_mul, ← dscore_eq scale Q K W C h (latent q) k M]

theorem lat_gradV (k : Fin 8448) (h : Fin 8) (d : Fin 128) :
    (val_main_v97 (F := Ideal) (wide Q) (wide K) (thin C) (ix3 k h d) : EReal)
      = ((∑ q : Fin 8192, prob scale Q K h (latent q) k * C (latent q) h d : ℝ) : EReal) := by
  rw [val_main_v97_apply, val_main_v96_apply]
  rw [coe_sum]
  refine Finset.sum_congr rfl fun q _ => ?_
  have e1 : lidx_main_v96 (idx_main_v97 (ix3 k h d)) q = ix3 h d q := funext fun a => by fin_cases a <;> rfl
  have e2 : ridx_main_v96 (idx_main_v97 (ix3 k h d)) q = ix3 h q k := funext fun a => by fin_cases a <;> rfl
  rw [e1, e2, lat_cotangent, lat_prob, ← EReal.coe_mul, mul_comm]

theorem lat_gradK (k : Fin 8448) (h : Fin 8) (d : Fin 256) :
    (val_main_v112 (F := Ideal) (wide Q) (wide K) (thin W) (thin C) (ix3 k h d) : EReal)
      = ((∑ q : Fin 8192, dscore scale Q K W C h (latent q) k * (Q (latent q) h d * scale) : ℝ) : EReal) := by
  rw [val_main_v112_apply, val_main_v111_apply]
  rw [coe_sum]
  refine Finset.sum_congr rfl fun q _ => ?_
  have e1 : lidx_main_v111 (idx_main_v112 (ix3 k h d)) q = ix3 h q k := funext fun a => by fin_cases a <;> rfl
  have e2 : ridx_main_v111 (idx_main_v112 (ix3 k h d)) q = ix3 q h d := funext fun a => by fin_cases a <;> rfl
  rw [e1, e2, lat_dscore, lat_query, ← EReal.coe_mul]

theorem lat_gradQ (q : Fin 8192) (h : Fin 8) (d : Fin 256) :
    (val_main_v115 (F := Ideal) (wide Q) (wide K) (thin W) (thin C) (ix3 q h d) : EReal)
      = ((∑ k ∈ keys sees (latent q), dscore scale Q K W C h (latent q) k * K k h d : ℝ) : EReal) := by
  rw [val_main_v115_apply, val_main_v114_apply]
  refine Eq.trans (Finset.sum_congr rfl fun k _ => ?_) ((coe_sum Finset.univ _).symm.trans (congrArg (fun x : ℝ => (x : EReal)) (sum_latent q
    fun j => dscore scale Q K W C h (latent q) j * K j h d)))
  have e1 : lidx_main_v114 (idx_main_v115 (ix3 q h d)) k = ix3 h q k := funext fun a => by fin_cases a <;> rfl
  have e2 : ridx_main_v114 (idx_main_v115 (ix3 q h d)) k = ix3 k h d := funext fun a => by fin_cases a <;> rfl
  rw [e1, e2, lat_dscore, lat_key, ← EReal.coe_mul]

/-! ## The context rows -/

theorem ctx_query (q : Fin 256) (h : Fin 8) (d : Fin 256) :
    (val_main_v34 (F := Ideal) (wide Q) (ix3 q h d) : EReal) = ((Q (context q) h d * scale : ℝ) : EReal) := by
  rw [val_main_v34_apply, ← scaled_at]
  exact congrArg _ (funext fun a => by fin_cases a <;> rfl)

theorem ctx_key (k : Fin 256) (h : Fin 8) (d : Fin 256) :
    (val_main_v35 (F := Ideal) (wide K) (ix3 k h d) : EReal) = ((K (context k) h d : ℝ) : EReal) := by
  rw [val_main_v35_apply]
  have e : idx_main_v35 (ix3 k h d) = ix3 (context k) h d := funext fun a => by fin_cases a <;> rfl
  rw [e]
  rfl
theorem ctx_value (k : Fin 256) (h : Fin 8) (d : Fin 128) :
    (val_main_v36 (F := Ideal) (thin W) (ix3 k h d) : EReal) = ((W (context k) h d : ℝ) : EReal) := by
  rw [val_main_v36_apply]
  have e : idx_main_v36 (ix3 k h d) = ix3 (context k) h d := funext fun a => by fin_cases a <;> rfl
  rw [e]
  rfl

theorem ctx_score (h : Fin 8) (q : Fin 256) (k : Fin 256) :
    (val_main_v37 (F := Ideal) (wide Q) (wide K) (ix3 h q k) : EReal) = ((score scale Q K h (context q) (context k) : ℝ) : EReal) := by
  rw [val_main_v37_apply]
  unfold score
  rw [coe_sum]
  refine Finset.sum_congr rfl fun d _ => ?_
  have e1 : lidx_main_v37 (ix3 h q k) d = ix3 q h d := funext fun a => by fin_cases a <;> rfl
  have e2 : ridx_main_v37 (ix3 h q k) d = ix3 k h d := funext fun a => by fin_cases a <;> rfl
  rw [e1, e2, ctx_query, ctx_key, ← EReal.coe_mul]

theorem ctx_max (h : Fin 8) (q : Fin 256) :
    ∃ M : ℝ, (val_main_v38 (F := Ideal) (wide Q) (wide K) (ix2 h q) : EReal) = (M : EReal) := by
  obtain ⟨M, hM⟩ := fold_max_real (Finset.univ : Finset (Fin 256)) ⟨0, Finset.mem_univ _⟩ (fun k => score scale Q K h (context q) (context k))
  refine ⟨M, hM ▸ ?_⟩
  have e : ∀ k, (val_main_v37 (F := Ideal) (wide Q) (wide K) (ix3 h q k) : EReal) = _ := fun k => ctx_score Q K h q k
  simp only [← e, ← bot_eq]
  unfold val_main_v38 val_main_cst_10
  generalize val_main_v37 (F := Ideal) (wide Q) (wide K) = y
  pointwise

theorem ctx_exp (h : Fin 8) (q : Fin 256) (M : ℝ) (hM : (val_main_v38 (F := Ideal) (wide Q) (wide K) (ix2 h q) : EReal) = (M : EReal)) (k : Fin 256) :
    (val_main_v58 (F := Ideal) (wide Q) (wide K) (ix3 h q k) : EReal)
      = ((Real.exp (score scale Q K h (context q) (context k) - M) : ℝ) : EReal) := by
  rw [val_main_v58_apply, val_main_v57_apply, val_main_v56_apply, val_main_v55_apply, val_main_v45_apply, val_main_v44_apply,
    val_main_cst_12_apply]
  have e : idx_main_v55 (idx_main_v56 (ix3 h q k)) = ix2 h q := funext fun a => by fin_cases a <;> rfl
  rw [e, ctx_score, hM, Ideal.ofBits_def, bot_eq, Ideal.subf_def, Ideal.maximumf_def, Ideal.hostUnary_exp_def]
  rw [show max (⊥ : EReal) ((M : ℝ) : EReal) = ((M : ℝ) : EReal) from max_eq_right bot_le, ← EReal.coe_sub]
  exact Ideal.exp_coe _

/-- The sum of a row's exponentials, shifted by `M`. -/
abbrev ctxTotal (h : Fin 8) (q : Fin 256) (M : ℝ) : ℝ := ∑ j ∈ keys sees (context q), Real.exp (score scale Q K h (context q) j - M)

theorem ctxTotal_ne (h : Fin 8) (q : Fin 256) (M : ℝ) : ctxTotal Q K h q M ≠ 0 := ne_of_gt (sum_exp_pos _ (keys_nonempty _) _)

theorem ctx_total (h : Fin 8) (q : Fin 256) (M : ℝ) (hM : (val_main_v38 (F := Ideal) (wide Q) (wide K) (ix2 h q) : EReal) = (M : EReal)) :
    (val_main_v59 (F := Ideal) (wide Q) (wide K) (ix2 h q) : EReal) = ((ctxTotal Q K h q M : ℝ) : EReal) := by
  rw [val_main_v59_apply, val_main_cst_18_apply, Ideal.ofBits_def, Ideal.ofBits_zero_f32]
  refine (zero_add _).trans ?_
  refine Eq.trans (Finset.sum_congr rfl fun k _ => ?_) ((coe_sum Finset.univ _).symm.trans (congrArg (fun x : ℝ => (x : EReal)) (sum_context q fun j => Real.exp (score scale Q K h (context q) j - M))))
  have e : idx_main_v59 (ix2 h q) k = ix3 h q k := funext fun a => by fin_cases a <;> rfl
  rw [e, ctx_exp Q K h q M hM]

theorem ctx_total1 (h : Fin 8) (q : Fin 256) (M : ℝ) (hM : (val_main_v38 (F := Ideal) (wide Q) (wide K) (ix2 h q) : EReal) = (M : EReal)) :
    (val_main_v60 (F := Ideal) (wide Q) (wide K) (ix3 h q 0) : EReal) = ((ctxTotal Q K h q M : ℝ) : EReal) := by
  rw [val_main_v60_apply, ← ctx_total Q K h q M hM]
  exact congrArg _ (funext fun a => by fin_cases a <;> rfl)

theorem ctx_prob (h : Fin 8) (q : Fin 256) (k : Fin 256) :
    (val_main_v62 (F := Ideal) (wide Q) (wide K) (ix3 h q k) : EReal) = ((prob scale Q K h (context q) (context k) : ℝ) : EReal) := by
  obtain ⟨M, hM⟩ := ctx_max Q K h q
  rw [val_main_v62_apply, val_main_v61_apply]
  have e : idx_main_v61 (ix3 h q k) = ix3 h q 0 := funext fun a => by fin_cases a <;> rfl
  rw [e, ctx_exp Q K h q M hM, ctx_total1 Q K h q M hM, Ideal.hostDivf_def, div_real _ (ctxTotal_ne Q K h q M), shift_prob]
  rfl

theorem ctx_inv (h : Fin 8) (q : Fin 256) (M : ℝ) (hM : (val_main_v38 (F := Ideal) (wide Q) (wide K) (ix2 h q) : EReal) = (M : EReal)) :
    (val_main_v65 (F := Ideal) (wide Q) (wide K) (ix3 h q 0) : EReal) = ((1 / (ctxTotal Q K h q M * ctxTotal Q K h q M) : ℝ) : EReal) := by
  rw [val_main_v65_apply, val_main_v64_apply, val_main_v63_apply, val_main_cst_19_apply, ctx_total1 Q K h q M hM, Ideal.hostDivf_def,
    Ideal.mulf_def, Ideal.ofBits_def, Ideal.ofBits_one_f32, ← EReal.coe_mul, ← EReal.coe_one,
    div_real _ (mul_ne_zero (ctxTotal_ne Q K h q M) (ctxTotal_ne Q K h q M))]

theorem ctx_cotangent (h : Fin 8) (d : Fin 128) (q : Fin 256) :
    (val_main_v71 (F := Ideal) (thin C) (ix3 h d q) : EReal) = ((C (context q) h d : ℝ) : EReal) := by
  rw [val_main_v71_apply, val_main_v70_apply]
  have e : idx_main_v70 (idx_main_v71 (ix3 h d q)) = ix3 (context q) h d := funext fun a => by fin_cases a <;> rfl
  rw [e]
  rfl

theorem ctx_dprob (h : Fin 8) (q : Fin 256) (k : Fin 256) :
    (val_main_v72 (F := Ideal) (thin W) (thin C) (ix3 h q k) : EReal) = ((dprob W C h (context q) (context k) : ℝ) : EReal) := by
  rw [val_main_v72_apply]
  unfold dprob
  rw [coe_sum]
  refine Finset.sum_congr rfl fun d _ => ?_
  have e1 : lidx_main_v72 (ix3 h q k) d = ix3 h d q := funext fun a => by fin_cases a <;> rfl
  have e2 : ridx_main_v72 (ix3 h q k) d = ix3 k h d := funext fun a => by fin_cases a <;> rfl
  rw [e1, e2, ctx_cotangent, ctx_value, EReal.coe_mul]

theorem ctx_correction (h : Fin 8) (q : Fin 256) (M : ℝ) (hM : (val_main_v38 (F := Ideal) (wide Q) (wide K) (ix2 h q) : EReal) = (M : EReal)) :
    (val_main_v83 (F := Ideal) (wide Q) (wide K) (thin W) (thin C) (ix2 h q) : EReal)
      = ((-(∑ j ∈ keys sees (context q), dprob W C h (context q) j * (1 / (ctxTotal Q K h q M * ctxTotal Q K h q M))
            * Real.exp (score scale Q K h (context q) j - M)) : ℝ) : EReal) := by
  rw [val_main_v83_apply, val_main_cst_21_apply, Ideal.ofBits_def, Ideal.ofBits_zero_f32]
  refine (zero_add _).trans ?_
  rw [Fin.sum_univ_one, val_main_v80_apply, val_main_v79_apply, Ideal.hostNegf_def, EReal.coe_neg]
  have e : idx_main_v79 (idx_main_v83 (ix2 h q) 0) = ix2 h q := by
    funext a
    have hq : q.val < 256 := q.isLt
    have hh : h.val < 8 := h.isLt
    fin_cases a
    · exact Fin.ext (show ((h.val * 256 + q.val) * 1 + 0) / 256 = h.val by omega)
    · exact Fin.ext (show ((h.val * 256 + q.val) * 1 + 0) % 256 = q.val by omega)
  rw [e, val_main_v78_apply, val_main_cst_20_apply, Ideal.ofBits_def, Ideal.ofBits_zero_f32]
  refine congrArg (fun x : EReal => -x) ((zero_add _).trans ?_)
  refine Eq.trans (Finset.sum_congr rfl fun k _ => ?_) ((coe_sum Finset.univ _).symm.trans (congrArg (fun x : ℝ => (x : EReal)) (sum_context q
    fun j => dprob W C h (context q) j * (1 / (ctxTotal Q K h q M * ctxTotal Q K h q M)) * Real.exp (score scale Q K h (context q) j - M))))
  have e1 : idx_main_v78 (ix2 h q) k = ix3 h q k := funext fun a => by fin_cases a <;> rfl
  have e2 : idx_main_v75 (ix3 h q k) = ix3 h q 0 := funext fun a => by fin_cases a <;> rfl
  rw [e1, val_main_v77_apply, val_main_v76_apply, val_main_v75_apply, e2, ctx_inv Q K h q M hM, ctx_exp Q K h q M hM, ctx_dprob,
    Ideal.mulf_def, Ideal.mulf_def, ← EReal.coe_mul, ← EReal.coe_mul]

theorem ctx_dscore (h : Fin 8) (q : Fin 256) (k : Fin 256) :
    (val_main_v86 (F := Ideal) (wide Q) (wide K) (thin W) (thin C) (ix3 h q k) : EReal)
      = ((dscore scale Q K W C h (context q) (context k) : ℝ) : EReal) := by
  obtain ⟨M, hM⟩ := ctx_max Q K h q
  rw [val_main_v86_apply, val_main_v85_apply, val_main_v84_apply, val_main_v82_apply, val_main_v81_apply]
  have e1 : idx_main_v84 (ix3 h q k) = ix2 h q := funext fun a => by fin_cases a <;> rfl
  have e2 : idx_main_v81 (ix3 h q k) = ix3 h q 0 := funext fun a => by fin_cases a <;> rfl
  rw [e1, e2, ctx_correction Q K W C h q M hM, ctx_total1 Q K h q M hM, ctx_exp Q K h q M hM, ctx_dprob, Ideal.hostDivf_def,
    div_real _ (ctxTotal_ne Q K h q M), Ideal.addf_def, Ideal.mulf_def, ← EReal.coe_add, ← EReal.coe_mul, ← dscore_eq scale Q K W C h (context q) (context k) M]

theorem ctx_gradV (k : Fin 256) (h : Fin 8) (d : Fin 128) :
    (val_main_v74 (F := Ideal) (wide Q) (wide K) (thin C) (ix3 k h d) : EReal)
      = ((∑ q : Fin 256, prob scale Q K h (context q) (context k) * C (context q) h d : ℝ) : EReal) := by
  rw [val_main_v74_apply, val_main_v73_apply]
  rw [coe_sum]
  refine Finset.sum_congr rfl fun q _ => ?_
  have e1 : lidx_main_v73 (idx_main_v74 (ix3 k h d)) q = ix3 h d q := funext fun a => by fin_cases a <;> rfl
  have e2 : ridx_main_v73 (idx_main_v74 (ix3 k h d)) q = ix3 h q k := funext fun a => by fin_cases a <;> rfl
  rw [e1, e2, ctx_cotangent, ctx_prob, ← EReal.coe_mul, mul_comm]

theorem ctx_gradK (k : Fin 256) (h : Fin 8) (d : Fin 256) :
    (val_main_v88 (F := Ideal) (wide Q) (wide K) (thin W) (thin C) (ix3 k h d) : EReal)
      = ((∑ q : Fin 256, dscore scale Q K W C h (context q) (context k) * (Q (context q) h d * scale) : ℝ) : EReal) := by
  rw [val_main_v88_apply, val_main_v87_apply]
  rw [coe_sum]
  refine Finset.sum_congr rfl fun q _ => ?_
  have e1 : lidx_main_v87 (idx_main_v88 (ix3 k h d)) q = ix3 h q k := funext fun a => by fin_cases a <;> rfl
  have e2 : ridx_main_v87 (idx_main_v88 (ix3 k h d)) q = ix3 q h d := funext fun a => by fin_cases a <;> rfl
  rw [e1, e2, ctx_dscore, ctx_query, ← EReal.coe_mul]

theorem ctx_gradQ (q : Fin 256) (h : Fin 8) (d : Fin 256) :
    (val_main_v90 (F := Ideal) (wide Q) (wide K) (thin W) (thin C) (ix3 q h d) : EReal)
      = ((∑ k ∈ keys sees (context q), dscore scale Q K W C h (context q) k * K k h d : ℝ) : EReal) := by
  rw [val_main_v90_apply, val_main_v89_apply]
  refine Eq.trans (Finset.sum_congr rfl fun k _ => ?_) ((coe_sum Finset.univ _).symm.trans (congrArg (fun x : ℝ => (x : EReal)) (sum_context q
    fun j => dscore scale Q K W C h (context q) j * K j h d)))
  have e1 : lidx_main_v89 (idx_main_v90 (ix3 q h d)) k = ix3 h q k := funext fun a => by fin_cases a <;> rfl
  have e2 : ridx_main_v89 (idx_main_v90 (ix3 q h d)) k = ix3 k h d := funext fun a => by fin_cases a <;> rfl
  rw [e1, e2, ctx_dscore, ctx_key, ← EReal.coe_mul]

/-! ## The three results -/

theorem v91_latent (k : Fin 8192) (h : Fin 8) (d : Fin 128) :
    (val_main_v91 (F := Ideal) (wide Q) (wide K) (thin C) (ix3 (latent k) h d) : EReal) = 0 := by
  unfold val_main_v91
  generalize val_main_v74 (F := Ideal) (wide Q) (wide K) (thin C) = y
  rw [pad_apply_of_not_inside _ _ _ _ _ _ _ _ (0 : Fin 3)]
  · rw [val_main_cst_22_apply, Ideal.ofBits_def, Ideal.ofBits_zero_f32]
  · rintro ⟨h1, -⟩
    have h2 : 8192 ≤ k.val := h1
    have := k.isLt
    omega

theorem v91_context (k : Fin 256) (h : Fin 8) (d : Fin 128) :
    (val_main_v91 (F := Ideal) (wide Q) (wide K) (thin C) (ix3 (context k) h d) : EReal) = val_main_v74 (F := Ideal) (wide Q) (wide K) (thin C) (ix3 k h d) := by
  unfold val_main_v91
  generalize val_main_v74 (F := Ideal) (wide Q) (wide K) (thin C) = y
  refine pad_apply_of_inside _ _ _ _ _ _ _ _ (ix3 k h d) fun a => ?_
  fin_cases a
  · show 8192 + k.val = 8192 + k.val * 1
    omega
  · show h.val = 0 + h.val * 1
    omega
  · show d.val = 0 + d.val * 1
    omega

theorem v92_latent (k : Fin 8192) (h : Fin 8) (d : Fin 256) :
    (val_main_v92 (F := Ideal) (wide Q) (wide K) (thin W) (thin C) (ix3 (latent k) h d) : EReal) = 0 := by
  unfold val_main_v92
  generalize val_main_v88 (F := Ideal) (wide Q) (wide K) (thin W) (thin C) = y
  rw [pad_apply_of_not_inside _ _ _ _ _ _ _ _ (0 : Fin 3)]
  · rw [val_main_cst_23_apply, Ideal.ofBits_def, Ideal.ofBits_zero_f32]
  · rintro ⟨h1, -⟩
    have h2 : 8192 ≤ k.val := h1
    have := k.isLt
    omega

theorem v92_context (k : Fin 256) (h : Fin 8) (d : Fin 256) :
    (val_main_v92 (F := Ideal) (wide Q) (wide K) (thin W) (thin C) (ix3 (context k) h d) : EReal) = val_main_v88 (F := Ideal) (wide Q) (wide K) (thin W) (thin C) (ix3 k h d) := by
  unfold val_main_v92
  generalize val_main_v88 (F := Ideal) (wide Q) (wide K) (thin W) (thin C) = y
  refine pad_apply_of_inside _ _ _ _ _ _ _ _ (ix3 k h d) fun a => ?_
  fin_cases a
  · show 8192 + k.val = 8192 + k.val * 1
    omega
  · show h.val = 0 + h.val * 1
    omega
  · show d.val = 0 + d.val * 1
    omega

theorem v93_latent (k : Fin 8192) (h : Fin 8) (d : Fin 256) :
    (val_main_v93 (F := Ideal) (wide Q) (wide K) (thin W) (thin C) (ix3 (latent k) h d) : EReal) = 0 := by
  unfold val_main_v93
  generalize val_main_v90 (F := Ideal) (wide Q) (wide K) (thin W) (thin C) = y
  rw [pad_apply_of_not_inside _ _ _ _ _ _ _ _ (0 : Fin 3)]
  · rw [val_main_cst_24_apply, Ideal.ofBits_def, Ideal.ofBits_zero_f32]
  · rintro ⟨h1, -⟩
    have h2 : 8192 ≤ k.val := h1
    have := k.isLt
    omega

theorem v93_context (k : Fin 256) (h : Fin 8) (d : Fin 256) :
    (val_main_v93 (F := Ideal) (wide Q) (wide K) (thin W) (thin C) (ix3 (context k) h d) : EReal) = val_main_v90 (F := Ideal) (wide Q) (wide K) (thin W) (thin C) (ix3 k h d) := by
  unfold val_main_v93
  generalize val_main_v90 (F := Ideal) (wide Q) (wide K) (thin W) (thin C) = y
  refine pad_apply_of_inside _ _ _ _ _ _ _ _ (ix3 k h d) fun a => ?_
  fin_cases a
  · show 8192 + k.val = 8192 + k.val * 1
    omega
  · show h.val = 0 + h.val * 1
    omega
  · show d.val = 0 + d.val * 1
    omega

theorem v116_latent (q : Fin 8192) (h : Fin 8) (d : Fin 256) :
    (val_main_v116 (F := Ideal) (wide Q) (wide K) (thin W) (thin C) (ix3 (latent q) h d) : EReal) = val_main_v115 (F := Ideal) (wide Q) (wide K) (thin W) (thin C) (ix3 q h d) := by
  unfold val_main_v116
  generalize val_main_v115 (F := Ideal) (wide Q) (wide K) (thin W) (thin C) = y
  refine pad_apply_of_inside _ _ _ _ _ _ _ _ (ix3 q h d) fun a => ?_
  fin_cases a
  · show q.val = 0 + q.val * 1
    omega
  · show h.val = 0 + h.val * 1
    omega
  · show d.val = 0 + d.val * 1
    omega

theorem v116_context (q : Fin 256) (h : Fin 8) (d : Fin 256) :
    (val_main_v116 (F := Ideal) (wide Q) (wide K) (thin W) (thin C) (ix3 (context q) h d) : EReal) = 0 := by
  unfold val_main_v116
  generalize val_main_v115 (F := Ideal) (wide Q) (wide K) (thin W) (thin C) = y
  rw [pad_apply_of_not_inside _ _ _ _ _ _ _ _ (0 : Fin 3)]
  · rw [val_main_cst_27_apply, Ideal.ofBits_def, Ideal.ofBits_zero_f32]
  · rintro ⟨-, -, h1⟩
    have h2 : (8192 + q.val - 0) / 1 < 8192 := h1
    omega

/-- The reference's gradient of a query. -/
theorem ref_dq (q : Fin 8448) (h : Fin 8) (d : Fin 256) :
    (val_main_v118 (F := Ideal) (wide Q) (wide K) (thin W) (thin C) (ix2 q ⟨256 * h.val + d.val, by omega⟩) : EReal) = ((gradQ scale Q K W C q h d : ℝ) : EReal) := by
  rw [val_main_v118_apply]
  have e : idx_main_v118 (ix2 q ⟨256 * h.val + d.val, by omega⟩) = ix3 q h d := by
    funext a
    have hq : q.val < 8448 := q.isLt
    have hh : h.val < 8 := h.isLt
    have hd : d.val < 256 := d.isLt
    fin_cases a
    · exact Fin.ext (show (q.val * 2048 + (256 * h.val + d.val)) / 2048 = q.val by omega)
    · exact Fin.ext (show (q.val * 2048 + (256 * h.val + d.val)) / 256 % 8 = h.val by omega)
    · exact Fin.ext (show (q.val * 2048 + (256 * h.val + d.val)) % 256 = d.val by omega)
  rw [e, val_main_v117_apply, Ideal.addf_def, gradQ, ← Finset.sum_filter]
  rcases latent_or_context q with ⟨i, rfl⟩ | ⟨i, rfl⟩
  · rw [v93_latent, v116_latent, lat_gradQ]
    exact zero_add _
  · rw [v93_context, v116_context, ctx_gradQ]
    exact add_zero _

/-- The reference's gradient of a key. -/
theorem ref_dk (k : Fin 8448) (h : Fin 8) (d : Fin 256) :
    (val_main_v119 (F := Ideal) (wide Q) (wide K) (thin W) (thin C) (ix2 k ⟨256 * h.val + d.val, by omega⟩) : EReal) = ((gradK scale Q K W C k h d : ℝ) : EReal) := by
  rw [val_main_v119_apply]
  have e : idx_main_v119 (ix2 k ⟨256 * h.val + d.val, by omega⟩) = ix3 k h d := by
    funext a
    have hq : k.val < 8448 := k.isLt
    have hh : h.val < 8 := h.isLt
    have hd : d.val < 256 := d.isLt
    fin_cases a
    · exact Fin.ext (show (k.val * 2048 + (256 * h.val + d.val)) / 2048 = k.val by omega)
    · exact Fin.ext (show (k.val * 2048 + (256 * h.val + d.val)) / 256 % 8 = h.val by omega)
    · exact Fin.ext (show (k.val * 2048 + (256 * h.val + d.val)) % 256 = d.val by omega)
  rw [e, val_main_v113_apply, Ideal.addf_def, lat_gradK, gradK]
  rcases latent_or_context k with ⟨i, rfl⟩ | ⟨i, rfl⟩
  · rw [v92_latent, sum_sees_latent]
    exact zero_add _
  · rw [v92_context, ctx_gradK, sum_sees_context, EReal.coe_add]

/-- The reference's gradient of a value. -/
theorem ref_dv (k : Fin 8448) (h : Fin 8) (d : Fin 128) :
    (val_main_v121 (F := Ideal) (wide Q) (wide K) (thin C) (ix2 k ⟨128 * h.val + d.val, by omega⟩) : EReal) = ((gradV scale Q K C k h d : ℝ) : EReal) := by
  rw [val_main_v121_apply]
  have e : idx_main_v121 (ix2 k ⟨128 * h.val + d.val, by omega⟩) = ix3 k h d := by
    funext a
    have hq : k.val < 8448 := k.isLt
    have hh : h.val < 8 := h.isLt
    have hd : d.val < 128 := d.isLt
    fin_cases a
    · exact Fin.ext (show (k.val * 1024 + (128 * h.val + d.val)) / 1024 = k.val by omega)
    · exact Fin.ext (show (k.val * 1024 + (128 * h.val + d.val)) / 128 % 8 = h.val by omega)
    · exact Fin.ext (show (k.val * 1024 + (128 * h.val + d.val)) % 128 = d.val by omega)
  rw [e, val_main_v120_apply, Ideal.truncf_def, val_main_v98_apply, Ideal.addf_def, lat_gradV, gradV]
  rcases latent_or_context k with ⟨i, rfl⟩ | ⟨i, rfl⟩
  · rw [v91_latent, sum_sees_latent]
    exact zero_add _
  · rw [v91_context, ctx_gradV, sum_sees_context, EReal.coe_add]

end Cert.ReferenceIdeal.Attn

end
-- ==== Proof.Meet.lean ====
/- The equation: over finite arguments the kernel's three arrays are the reference's. -/
module

public import proofs.«01_k».proof.Proof.Equal
public import proofs.«01_k».proof.Proof.Ref
public import proofs.«01_k».proof.Pre_finite

@[expose] public section

set_option maxRecDepth 16384

noncomputable section

open Idealize.ShloMosaic Idealize.ShloMosaic.TcCoe Idealize.SL.Sem

namespace Cert.Meet

open Cert.AttnModel (scale gradQ gradK gradV)
open Cert.KernelIdeal Cert.KernelIdeal.Attn

/-- The precondition's shape relations. -/
theorem finite_facts : Cert.Pre_finite.Facts := ⟨by decide, by decide⟩

/-- A value whose magnitude is below infinity is a real number. -/
theorem real_of_finite {x : Ideal .f32}
    (h : FloatOps.cmpf .olt (FloatOps.hostAbsf x) (FloatOps.ofBits (F := Ideal) .f32 0x7F800000#32) = 1#1) :
    (x : EReal) = (((x : EReal).toReal : ℝ) : EReal) := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hc
    rw [decide_eq_false hc] at h'
    exact absurd h' (by decide)
  rw [max_lt_iff] at hlt
  refine (EReal.coe_toReal (ne_of_lt hlt.1) fun hb => ?_).symm
  rw [hb] at hlt
  exact absurd hlt.2 (by simp)

variable (m : (ℓ : Loc nD τ sig) → Buf (Elt Ideal) ℓ) (c : Dev nD)

abbrev realQ (q : Fin 8448) (h : Fin 8) (d : Fin 256) : ℝ := (argQ m c (ix3 q h d) : EReal).toReal
abbrev realK (q : Fin 8448) (h : Fin 8) (d : Fin 256) : ℝ := (argK m c (ix3 q h d) : EReal).toReal
abbrev realV (q : Fin 8448) (h : Fin 8) (d : Fin 128) : ℝ := (argV m c (ix3 q h d) : EReal).toReal
abbrev realC (q : Fin 8448) (h : Fin 8) (d : Fin 128) : ℝ := (argC m c (ix3 q h d) : EReal).toReal

theorem wide_of_finite (x : WideArr)
    (h : ∀ i, FloatOps.cmpf .olt (FloatOps.hostAbsf (x i)) (FloatOps.ofBits (F := Ideal) .f32 0x7F800000#32) = 1#1) :
    x = wide fun q h d => (x (ix3 q h d) : EReal).toReal := by
  funext i
  have e : i = ix3 (i 0) (i 1) (i 2) := funext fun a => by fin_cases a <;> rfl
  refine (real_of_finite (h i)).trans ?_
  exact congrArg (fun j => (((x j : EReal).toReal : ℝ) : EReal)) e

theorem thin_of_finite (x : ThinArr)
    (h : ∀ i, FloatOps.cmpf .olt (FloatOps.hostAbsf (x i)) (FloatOps.ofBits (F := Ideal) .f32 0x7F800000#32) = 1#1) :
    x = thin fun q h d => (x (ix3 q h d) : EReal).toReal := by
  funext i
  have e : i = ix3 (i 0) (i 1) (i 2) := funext fun a => by fin_cases a <;> rfl
  refine (real_of_finite (h i)).trans ?_
  exact congrArg (fun j => (((x j : EReal).toReal : ℝ) : EReal)) e

theorem real4 [hP : Cert.Pre_finite.Facts]
    (hf : (Cert.Pre_finite.fn (F := Ideal) (argQ m c) (argK m c) (argV m c) (argC m c)).1 = (fun _ => 1#1)
      ∧ (Cert.Pre_finite.fn (F := Ideal) (argQ m c) (argK m c) (argV m c) (argC m c)).2.1 = (fun _ => 1#1)
      ∧ (Cert.Pre_finite.fn (F := Ideal) (argQ m c) (argK m c) (argV m c) (argC m c)).2.2.1 = (fun _ => 1#1)
      ∧ (Cert.Pre_finite.fn (F := Ideal) (argQ m c) (argK m c) (argV m c) (argC m c)).2.2.2 = (fun _ => 1#1)) :
    Real4 m c (realQ m c) (realK m c) (realV m c) (realC m c) :=
  ⟨wide_of_finite _ fun i => congrFun hf.1 i, wide_of_finite _ fun i => congrFun hf.2.1 i,
    thin_of_finite _ fun i => congrFun hf.2.2.1 i, thin_of_finite _ fun i => congrFun hf.2.2.2 i⟩

variable {m c} {Q K : Fin 8448 → Fin 8 → Fin 256 → ℝ} {W C : Fin 8448 → Fin 8 → Fin 128 → ℝ} (hr : Real4 m c Q K W C)
include hr

theorem dq_meets : (fun j => dqArr m c (j 0) (j 1) : FVec Ideal S8448x2048 .f32)
    = Cert.ReferenceIdeal.Read.val_main_v118 (F := Ideal) (argQ m c) (argK m c) (argV m c) (argC m c) := by
  rw [hr.q, hr.k, hr.v, hr.c]
  funext j
  have hj : (j 1).val < 2048 := (j 1).isLt
  have e : j = ix2 (j 0) ⟨256 * (⟨(j 1).val / 256, by omega⟩ : Fin 8).val + (⟨(j 1).val % 256, by omega⟩ : Fin 256).val, by show 256 * ((j 1).val / 256) + (j 1).val % 256 < 2048; omega⟩ := by
    funext a
    fin_cases a
    · rfl
    · exact Fin.ext (show (j 1).val = 256 * ((j 1).val / 256) + (j 1).val % 256 by omega)
  rw [e]
  exact (dq_real hr _ ⟨(j 1).val / 256, by omega⟩ ⟨(j 1).val % 256, by omega⟩ _).trans
    (Cert.ReferenceIdeal.Attn.ref_dq Q K W C (j 0) ⟨(j 1).val / 256, by omega⟩ ⟨(j 1).val % 256, by omega⟩).symm

theorem dk_meets : (fun j => dkArr m c (j 0) (j 1) : FVec Ideal S8448x2048 .f32)
    = Cert.ReferenceIdeal.Read.val_main_v119 (F := Ideal) (argQ m c) (argK m c) (argV m c) (argC m c) := by
  rw [hr.q, hr.k, hr.v, hr.c]
  funext j
  have hj : (j 1).val < 2048 := (j 1).isLt
  have e : j = ix2 (j 0) ⟨256 * (⟨(j 1).val / 256, by omega⟩ : Fin 8).val + (⟨(j 1).val % 256, by omega⟩ : Fin 256).val, by show 256 * ((j 1).val / 256) + (j 1).val % 256 < 2048; omega⟩ := by
    funext a
    fin_cases a
    · rfl
    · exact Fin.ext (show (j 1).val = 256 * ((j 1).val / 256) + (j 1).val % 256 by omega)
  rw [e]
  exact (dk_real hr _ ⟨(j 1).val / 256, by omega⟩ ⟨(j 1).val % 256, by omega⟩ _).trans
    (Cert.ReferenceIdeal.Attn.ref_dk Q K W C (j 0) ⟨(j 1).val / 256, by omega⟩ ⟨(j 1).val % 256, by omega⟩).symm

theorem dv_meets : (fun j => dvArr m c (j 0) (j 1) : FVec Ideal S8448x1024 .bf16)
    = Cert.ReferenceIdeal.Read.val_main_v121 (F := Ideal) (argQ m c) (argK m c) (argC m c) := by
  rw [hr.q, hr.k, hr.c]
  funext j
  have hj : (j 1).val < 1024 := (j 1).isLt
  have e : j = ix2 (j 0) ⟨128 * (⟨(j 1).val / 128, by omega⟩ : Fin 8).val + (⟨(j 1).val % 128, by omega⟩ : Fin 128).val, by show 128 * ((j 1).val / 128) + (j 1).val % 128 < 1024; omega⟩ := by
    funext a
    fin_cases a
    · rfl
    · exact Fin.ext (show (j 1).val = 128 * ((j 1).val / 128) + (j 1).val % 128 by omega)
  rw [e]
  exact (dv_real hr _ ⟨(j 1).val / 128, by omega⟩ ⟨(j 1).val % 128, by omega⟩ _).trans
    (Cert.ReferenceIdeal.Attn.ref_dv Q K C (j 0) ⟨(j 1).val / 128, by omega⟩ ⟨(j 1).val % 128, by omega⟩).symm

end Cert.Meet

end
-- ==== Proof.FwdMeet.lean ====
/- The equation of the forward attention: over finite arguments the kernel's three arrays are the reference's. -/
module

public import proofs.«01_k».proof.Proof.FwdFinal
public import proofs.«01_k».proof.Proof.FwdRef
public import proofs.«01_k».proof.Proof.Meet
public import proofs.«01_k».proof.Pre_finite3

@[expose] public section

set_option maxRecDepth 16384

noncomputable section

open Idealize.ShloMosaic Idealize.ShloMosaic.TcCoe Idealize.SL.Sem

namespace Cert.FwdMeet

open Cert.FwdIdeal Cert.FwdIdeal.Attn

/-- The precondition's shape relations. -/
theorem finite3_facts : Cert.Pre_finite3.Facts := ⟨by decide, by decide⟩

variable (m : (ℓ : Loc nD τ sig) → Buf (Elt Ideal) ℓ) (c : Dev nD)

theorem real3 [hP : Cert.Pre_finite3.Facts]
    (hf : (Cert.Pre_finite3.fn (F := Ideal) (argQ m c) (argK m c) (argV m c)).1 = (fun _ => 1#1)
      ∧ (Cert.Pre_finite3.fn (F := Ideal) (argQ m c) (argK m c) (argV m c)).2.1 = (fun _ => 1#1)
      ∧ (Cert.Pre_finite3.fn (F := Ideal) (argQ m c) (argK m c) (argV m c)).2.2 = (fun _ => 1#1)) :
    Real3 m c (fun q h d => (argQ m c (ix3 q h d) : EReal).toReal) (fun q h d => (argK m c (ix3 q h d) : EReal).toReal)
      (fun q h d => (argV m c (ix3 q h d) : EReal).toReal) :=
  ⟨Cert.Meet.wide_of_finite _ fun i => congrFun hf.1 i, Cert.Meet.wide_of_finite _ fun i => congrFun hf.2.1 i,
    Cert.Meet.thin_of_finite _ fun i => congrFun hf.2.2 i⟩

/-- A place of a result is a head's column. -/
theorem place (j : S8448x1024.Idx) :
    j = ix2 (j 0) ⟨128 * (colHead (j 1)).val + (colAt (j 1)).val, by
      have : (j 1).val < 1024 := (j 1).isLt
      show 128 * ((j 1).val / 128) + (j 1).val % 128 < 1024
      omega⟩ := by
  funext a
  fin_cases a
  · rfl
  · exact Fin.ext (show (j 1).val = 128 * ((j 1).val / 128) + (j 1).val % 128 by omega)

variable {m c} {Q K : Fin 8448 → Fin 8 → Fin 256 → ℝ} {W : Fin 8448 → Fin 8 → Fin 128 → ℝ} (hr : Real3 m c Q K W)
include hr

theorem o_meets : (fun j => meanArr Q K W (j 0) (j 1) : FVec Ideal S8448x1024 .f32)
    = Cert.FwdRefIdeal.Read.val_main_v35 (F := Ideal) (argQ m c) (argK m c) (argV m c) := by
  rw [hr.q, hr.k, hr.v]
  funext j
  rw [place j]
  exact (meanArr_at (j 0) (colHead (j 1)) (colAt (j 1)) _).trans (Cert.FwdRefIdeal.Attn.ref_o Q K W (j 0) (colHead (j 1)) (colAt (j 1))).symm

theorem o_rounded_meets : (fun j => meanArr Q K W (j 0) (j 1) : FVec Ideal S8448x1024 .bf16)
    = Cert.FwdRefIdeal.Read.val_main_v56 (F := Ideal) (argQ m c) (argK m c) (argV m c) := by
  rw [hr.q, hr.k, hr.v]
  funext j
  rw [place j]
  exact (meanArr_at (j 0) (colHead (j 1)) (colAt (j 1)) _).trans (Cert.FwdRefIdeal.Attn.ref_o_rounded Q K W (j 0) (colHead (j 1)) (colAt (j 1))).symm

theorem log_meets : (fun j => logArr Q K (j 0) (j 1) : FVec Ideal S8448x1024 .f32)
    = Cert.FwdRefIdeal.Read.val_main_v59 (F := Ideal) (argQ m c) (argK m c) := by
  rw [hr.q, hr.k]
  funext j
  rw [place j]
  exact (logArr_at (j 0) (colHead (j 1)) (colAt (j 1)) _).trans (Cert.FwdRefIdeal.Attn.ref_log Q K (j 0) (colHead (j 1)) (colAt (j 1))).symm

end Cert.FwdMeet

end
-- ==== Proof.Steps.lean ====
/- A sum over an axis walked in steps of equal length. -/
module

public import Idealize.ShloMosaic.PureOps.Ideal.Laws

@[expose] public section

namespace Cert.Steps

theorem sum_steps (n s : ℕ) {K : ℕ} (hK : n * s = K) (f : Fin K → EReal) :
    ∑ p : Fin s, ∑ k : Fin n, f ⟨n * p.val + k.val, by have := p.isLt; have := k.isLt; have : n * p.val + n ≤ n * s := by rw [← Nat.mul_succ]; exact Nat.mul_le_mul_left n p.isLt
                                                       omega⟩ = ∑ k : Fin K, f k := by
  subst hK
  rw [← Fintype.sum_prod_type', ← Equiv.sum_comp ((finProdFinEquiv (m := s) (n := n)).trans (finCongr (Nat.mul_comm s n)))]
  refine Finset.sum_congr rfl fun x _ => congrArg f (Fin.ext ?_)
  simp [finProdFinEquiv, Nat.add_comm]

end Cert.Steps
-- ==== Proof.UpDwValue.lean ====
/- The weight gradient of the feed-forward block's first product. -/
module

public import proofs.«01_k».proof.Proof.Gen.UpDwIdeal.Value
public import proofs.«01_k».proof.Proof.Gen.UpDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.UpDwIdeal.Product

open Cert.UpDwIdeal Cert.UpDwIdeal.Gen

/-- A point's part of an entry of its block. -/
def dot (x0 : Vec Ideal S2816x512 .bf16) (x1 : Vec Ideal S2816x1408 .bf16) (a : Fin 512) (b : Fin 1408) : EReal := ∑ k : Fin 2816, x0 (ix2 k a) * x1 (ix2 k b)

/-! ## The payloads at an index -/

theorem pay1_apply (x0 : Vec Ideal S2816x512 .bf16) (x1 : Vec Ideal S2816x1408 .bf16) (a : Fin 512) (b : Fin 1408) :
    (k0_pay1 x0 x1 (ix2 a b) : EReal) = dot x0 x1 a b := by
  pointwise [k0_pay1, dot]
theorem pay2_apply (acc : Vec Ideal S512x1408 .f32) (x0 : Vec Ideal S2816x512 .bf16) (x1 : Vec Ideal S2816x1408 .bf16) (a : Fin 512) (b : Fin 1408) :
    (k0_pay2 acc x0 x1 (ix2 a b) : EReal) = acc (ix2 a b) + dot x0 x1 a b := by
  pointwise [k0_pay2, dot]
theorem pay3_apply (acc : Vec Ideal S512x1408 .f32) (x0 : Vec Ideal S2816x512 .bf16) (x1 : Vec Ideal S2816x1408 .bf16) (a : Fin 512) (b : Fin 1408) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x512 .bf16) (h3 : a3.IsWhole) (a4 : Memref sig .tc .vmem S2816x1408 .bf16) (h4 : a4.IsWhole)
  (a5 : Memref sig .tc .vmem S512x1408 .bf16) (h5 : a5.IsWhole) (a6 : Memref sig .tc .vmem S512x1408 .f32) (h6 : a6.IsWhole)
  (x0 : Vec Ideal S2816x512 .bf16) (x1 : Vec Ideal S2816x1408 .bf16) (acc : Vec Ideal S512x1408 .f32) (a : Fin 512) (b : Fin 1408)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x512) zero2 inb_S2816x512_S2816x512_0_0, View.ld_unit_zero (S := S2816x1408) zero2 inb_S2816x1408_S2816x1408_0_0]
  exact (View.read_writes_cons_rows_of_mem (size := S512x1408.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x512) zero2 inb_S2816x512_S2816x512_0_0, View.ld_unit_zero (S := S2816x1408) zero2 inb_S2816x1408_S2816x1408_0_0, View.ld_unit_zero (S := S512x1408) zero2 inb_S512x1408_S512x1408_0_0]
  exact (View.read_writes_cons_rows_of_mem (size := S512x1408.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x512) zero2 inb_S2816x512_S2816x512_0_0, View.ld_unit_zero (S := S2816x1408) zero2 inb_S2816x1408_S2816x1408_0_0, View.ld_unit_zero (S := S512x1408) zero2 inb_S512x1408_S512x1408_0_0]
  exact (View.read_writes_cons_rows_of_mem (size := S512x1408.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 12)] ∧ win0_1.index t = ![(t.val % 3), (t.val / 3 % 4)] ∧ win0_2.index t = ![t.val / 12, (t.val / 3 % 4)] :=
  (by decide +kernel : ∀ t : Fin grid0.N, _)

theorem N_eq : cfg0.N = 48 := by decide +kernel
theorem t_lt (t : Fin cfg0.N) : t.val < 48 := by have := t.isLt; have := N_eq; omega

abbrev argX : FVec Ideal S8448x2048 .f32 := m ((c : Thread nD τ).loc main_arg0)
abbrev argY : FVec Ideal S8448x5632 .f32 := m ((c : Thread nD τ).loc main_arg1)

theorem host0 (j : S8448x2048.Idx) : (V m c main_v0 j : EReal) = argX m c j := rfl
theorem host1 (j : S8448x5632.Idx) : (V m c main_v1 j : EReal) = argY m c j := rfl

abbrev blk0 (t : Fin cfg0.N) : Vec Ideal S2816x512 .bf16 := iblk m c 0 t
theorem blk0_apply (t : Fin cfg0.N) (k : Fin 2816) (a : Fin 512) :
    (blk0 m c t (ix2 k a) : EReal) = V m c main_v0 (ix2 ⟨2816 * (t.val % 3) + k.val, by have := t_lt t; omega⟩ ⟨512 * (t.val / 12) + a.val, by have := t_lt t; omega⟩) := by
  have := t_lt t
  blk_ext [blk0, iblk, idx t]
abbrev blk1 (t : Fin cfg0.N) : Vec Ideal S2816x1408 .bf16 := iblk m c 1 t
theorem blk1_apply (t : Fin cfg0.N) (k : Fin 2816) (b : Fin 1408) :
    (blk1 m c t (ix2 k b) : EReal) = V m c main_v1 (ix2 ⟨2816 * (t.val % 3) + k.val, by have := t_lt t; omega⟩ ⟨1408 * (t.val / 3 % 4) + b.val, by have := t_lt t; omega⟩) := by
  have := t_lt t
  blk_ext [blk1, iblk, idx t]

/-- The product's term at row `k` of the contraction. -/
def term0 (p : Fin 2048) (q : Fin 5632) (k : Fin 8448) : EReal := argX m c (ix2 k p) * argY m c (ix2 k q)

/-- One contraction step's part of an entry. -/
def part (p : Fin 2048) (q : Fin 5632) (s : Fin 3) : EReal := (∑ k : Fin 2816, term0 m c p q ⟨2816 * s.val + k.val, by have := s.isLt; omega⟩)

theorem part_at (t : Fin cfg0.N) (a : Fin 512) (b : Fin 1408) (s : Fin 3) (hs : t.val % 3 = s.val) (p : Fin 2048) (q : Fin 5632)
    (hp : p.val = 512 * (t.val / 12) + a.val) (hq : q.val = 1408 * (t.val / 3 % 4) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 512 * (t.val / 12) + a.val := hp
  obtain rfl : q = 1408 * (t.val / 3 % 4) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 512) (b : Fin 1408) (p : Fin 2048) (q : Fin 5632)
    (hp : p.val = 512 * (t.val / 12) + a.val) (hq : q.val = 1408 * (t.val / 3 % 4) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 512) (b : Fin 1408) (p : Fin 2048) (q : Fin 5632)
    (hp : p.val = 512 * (t.val / 12) + a.val) (hq : q.val = 1408 * (t.val / 3 % 4) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 512) (b : Fin 1408) (p : Fin 2048) (q : Fin 5632)
    (hp : p.val = 512 * (t.val / 12) + a.val) (hq : q.val = 1408 * (t.val / 3 % 4) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 2048) (q : Fin 5632) : EReal := ∑ k : Fin 8448, term0 m c p q k

theorem parts (p : Fin 2048) (q : Fin 5632) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨512 * (t.val / 12) + y0.val, by have := t_lt t; omega⟩ ⟨1408 * (t.val / 3 % 4) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 2048) (q : Fin 5632) :
    (Cert.UpDwRefIdeal.Read.val_main_v2 (F := Ideal) (argX m c) (argY m c) (ix2 p q) : EReal) = product m c p q := by
  rw [Cert.UpDwRefIdeal.Read.val_main_v2_apply]
  rw [Cert.UpDwRefIdeal.Read.val_main_v1_apply]
  refine (Cert.UpDwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.UpDwRefIdeal.Read.val_main_v2 (F := Ideal) (argX m c) (argY m c) := by
  rw [final]
  funext j
  idx_vars j
  exact (reference m c j0 j1).symm

end Cert.UpDwIdeal.Product
end
-- ==== Proof.UpDxValue.lean ====
/- The token gradient of the feed-forward block's first product. -/
module

public import proofs.«01_k».proof.Proof.Gen.UpDxIdeal.Value
public import proofs.«01_k».proof.Proof.Gen.UpDxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.UpDxIdeal.Product

open Cert.UpDxIdeal Cert.UpDxIdeal.Gen

/-- A point's part of an entry of its block. -/
def dot (x0 : Vec Ideal S768x2816 .bf16) (x1 : Vec Ideal S1024x2816 .bf16) (x2 : Vec Ideal S768x2816 .bf16) (x3 : Vec Ideal S1024x2816 .bf16) (a : Fin 768) (b : Fin 1024) : EReal := ((∑ k : Fin 2816, x0 (ix2 a k) * x1 (ix2 b k)) + (∑ k : Fin 2816, x2 (ix2 a k) * x3 (ix2 b k)))

/-! ## The payloads at an index -/

theorem pay1_apply (x0 : Vec Ideal S768x2816 .bf16) (x1 : Vec Ideal S1024x2816 .bf16) (x2 : Vec Ideal S768x2816 .bf16) (x3 : Vec Ideal S1024x2816 .bf16) (a : Fin 768) (b : Fin 1024) :
    (k0_pay1 x0 x1 x2 x3 (ix2 a b) : EReal) = dot x0 x1 x2 x3 a b := by
  pointwise [k0_pay1, dot]
theorem pay2_apply (acc : Vec Ideal S768x1024 .f32) (x0 : Vec Ideal S768x2816 .bf16) (x1 : Vec Ideal S1024x2816 .bf16) (x2 : Vec Ideal S768x2816 .bf16) (x3 : Vec Ideal S1024x2816 .bf16) (a : Fin 768) (b : Fin 1024) :
    (k0_pay2 acc x0 x1 x2 x3 (ix2 a b) : EReal) = acc (ix2 a b) + dot x0 x1 x2 x3 a b := by
  pointwise [k0_pay2, dot]
theorem pay3_apply (acc : Vec Ideal S768x1024 .f32) (x0 : Vec Ideal S768x2816 .bf16) (x1 : Vec Ideal S1024x2816 .bf16) (x2 : Vec Ideal S768x2816 .bf16) (x3 : Vec Ideal S1024x2816 .bf16) (a : Fin 768) (b : Fin 1024) :
    (k0_pay3 acc x0 x1 x2 x3 (ix2 a b) : EReal) = acc (ix2 a b) + dot x0 x1 x2 x3 a b := by
  pointwise [k0_pay3, dot]

/-! ## The cases' contents at an index -/

section cases
variable (c : Dev nD) (i : grid0.Coords)
  (a3 : Memref sig .tc .vmem S768x2816 .bf16) (h3 : a3.IsWhole) (a4 : Memref sig .tc .vmem S1024x2816 .bf16) (h4 : a4.IsWhole) (a5 : Memref sig .tc .vmem S768x2816 .bf16) (h5 : a5.IsWhole) (a6 : Memref sig .tc .vmem S1024x2816 .bf16) (h6 : a6.IsWhole)
  (a7 : Memref sig .tc .vmem S768x1024 .f32) (h7 : a7.IsWhole) (a8 : Memref sig .tc .vmem S768x1024 .f32) (h8 : a8.IsWhole)
  (x0 : Vec Ideal S768x2816 .bf16) (x1 : Vec Ideal S1024x2816 .bf16) (x2 : Vec Ideal S768x2816 .bf16) (x3 : Vec Ideal S1024x2816 .bf16) (acc : Vec Ideal S768x1024 .f32) (a : Fin 768) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 a7 h7 a8 h8 hc0 hc1 hc2 x0 x1 x2 x3 (ix2 a b) : EReal) = dot x0 x1 x2 x3 a b := by
  unfold sout0_A_0
  unfold kernelRun0_A
  dsimp only
  sl_unfold_words
  simp only [View.readAt_eq_ld, h3.read_unread, h4.read_unread, h5.read_unread, h6.read_unread, h8.read_unread,
    View.ld_unit_zero (S := S768x2816) zero2 inb_S768x2816_S768x2816_0_0, View.ld_unit_zero (S := S1024x2816) zero2 inb_S1024x2816_S1024x2816_0_0]
  exact (View.read_writes_cons_rows_of_mem (size := S768x1024.size) VS0_0 _ _ _ _ (ix2 a b) (ix2 a b) rfl (Nat.zero_add _).symm rfl).trans (pay1_apply  x0 x1 x2 x3 a b)

theorem last_apply (hc0) (hc1) (hc2) :
    (out0_B_4 (F := Ideal) c i a3 h3 a4 h4 a5 h5 a6 h6 a7 h7 a8 h8 hc0 hc1 hc2 x0 x1 x2 x3 acc (ix2 a b) : EReal) = acc (ix2 a b) + dot x0 x1 x2 x3 a b := by
  unfold out0_B_4
  unfold kernelRun0_B
  dsimp only
  sl_unfold_words
  simp only [View.readAt_eq_ld, h3.read_unread, h4.read_unread, h5.read_unread, h6.read_unread, h8.read_unread,
    View.ld_unit_zero (S := S768x2816) zero2 inb_S768x2816_S768x2816_0_0, View.ld_unit_zero (S := S1024x2816) zero2 inb_S1024x2816_S1024x2816_0_0, View.ld_unit_zero (S := S768x1024) zero2 inb_S768x1024_S768x1024_0_0]
  exact (View.read_writes_cons_rows_of_mem (size := S768x1024.size) VO0_4 _ _ _ _ (ix2 a b) (ix2 a b) rfl (Nat.zero_add _).symm rfl).trans (pay3_apply acc x0 x1 x2 x3 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 4), (t.val % 2)] ∧ win0_1.index t = ![(t.val / 2 % 2), (t.val % 2)] ∧ win0_2.index t = ![(t.val / 4), (t.val % 2)] ∧ win0_3.index t = ![(t.val / 2 % 2), (t.val % 2)] ∧ win0_4.index t = ![t.val / 4, (t.val / 2 % 2)] :=
  (by decide +kernel : ∀ t : Fin grid0.N, _)

theorem N_eq : cfg0.N = 44 := by decide +kernel
theorem t_lt (t : Fin cfg0.N) : t.val < 44 := by have := t.isLt; have := N_eq; omega

abbrev argX : FVec Ideal S8448x5632 .f32 := m ((c : Thread nD τ).loc main_arg0)
abbrev argY : FVec Ideal S8448x5632 .f32 := m ((c : Thread nD τ).loc main_arg1)
abbrev argW : FVec Ideal S2048x11264 .f32 := m ((c : Thread nD τ).loc main_arg2)

theorem host0 (j : S8448x5632.Idx) : (V m c main_v1 j : EReal) = argX m c j := rfl
theorem host1 (p : Fin 2048) (k : Fin 5632) : (V m c main_v2 (ix2 p k) : EReal) = argW m c (ix2 p ⟨k.val, by omega⟩) := by
  show StableHlo.after hostOps0 (fun b => m (c, b)) main_v2 (ix2 p k) = _
  entry_read
  pointwise
theorem host2 (j : S8448x5632.Idx) : (V m c main_v3 j : EReal) = argY m c j := rfl
theorem host3 (p : Fin 2048) (k : Fin 5632) : (V m c main_v4 (ix2 p k) : EReal) = argW m c (ix2 p ⟨5632 + k.val, by omega⟩) := by
  show StableHlo.after hostOps0 (fun b => m (c, b)) main_v4 (ix2 p k) = _
  entry_read
  pointwise

abbrev blk0 (t : Fin cfg0.N) : Vec Ideal S768x2816 .bf16 := iblk m c 0 t
theorem blk0_apply (t : Fin cfg0.N) (k : Fin 2816) (a : Fin 768) :
    (blk0 m c t (ix2 a k) : EReal) = V m c main_v1 (ix2 ⟨768 * (t.val / 4) + a.val, by have := t_lt t; omega⟩ ⟨2816 * (t.val % 2) + k.val, by have := t_lt t; omega⟩) := by
  have := t_lt t
  blk_ext [blk0, iblk, idx t]
abbrev blk1 (t : Fin cfg0.N) : Vec Ideal S1024x2816 .bf16 := iblk m c 1 t
theorem blk1_apply (t : Fin cfg0.N) (k : Fin 2816) (b : Fin 1024) :
    (blk1 m c t (ix2 b k) : EReal) = V m c main_v2 (ix2 ⟨1024 * (t.val / 2 % 2) + b.val, by have := t_lt t; omega⟩ ⟨2816 * (t.val % 2) + k.val, by have := t_lt t; omega⟩) := by
  have := t_lt t
  blk_ext [blk1, iblk, idx t]
abbrev blk2 (t : Fin cfg0.N) : Vec Ideal S768x2816 .bf16 := iblk m c 2 t
theorem blk2_apply (t : Fin cfg0.N) (k : Fin 2816) (a : Fin 768) :
    (blk2 m c t (ix2 a k) : EReal) = V m c main_v3 (ix2 ⟨768 * (t.val / 4) + a.val, by have := t_lt t; omega⟩ ⟨2816 * (t.val % 2) + k.val, by have := t_lt t; omega⟩) := by
  have := t_lt t
  blk_ext [blk2, iblk, idx t]
abbrev blk3 (t : Fin cfg0.N) : Vec Ideal S1024x2816 .bf16 := iblk m c 3 t
theorem blk3_apply (t : Fin cfg0.N) (k : Fin 2816) (b : Fin 1024) :
    (blk3 m c t (ix2 b k) : EReal) = V m c main_v4 (ix2 ⟨1024 * (t.val / 2 % 2) + b.val, by have := t_lt t; omega⟩ ⟨2816 * (t.val % 2) + k.val, by have := t_lt t; omega⟩) := by
  have := t_lt t
  blk_ext [blk3, iblk, idx t]

/-- The first product's term at row `k` of the contraction. -/
def term0 (p : Fin 8448) (q : Fin 2048) (k : Fin 5632) : EReal := argX m c (ix2 p k) * argW m c (ix2 q ⟨(k : Fin 5632).val, by omega⟩)

/-- The second product's term at row `k` of the contraction. -/
def term1 (p : Fin 8448) (q : Fin 2048) (k : Fin 5632) : EReal := argY m c (ix2 p k) * argW m c (ix2 q ⟨5632 + (k : Fin 5632).val, by omega⟩)

/-- One contraction step's part of an entry. -/
def part (p : Fin 8448) (q : Fin 2048) (s : Fin 2) : EReal := (∑ k : Fin 2816, term0 m c p q ⟨2816 * s.val + k.val, by have := s.isLt; omega⟩) + (∑ k : Fin 2816, term1 m c p q ⟨2816 * s.val + k.val, by have := s.isLt; omega⟩)

theorem part_at (t : Fin cfg0.N) (a : Fin 768) (b : Fin 1024) (s : Fin 2) (hs : t.val % 2 = s.val) (p : Fin 8448) (q : Fin 2048)
    (hp : p.val = 768 * (t.val / 4) + a.val) (hq : q.val = 1024 * (t.val / 2 % 2) + b.val) :
    dot (blk0 m c t) (blk1 m c t) (blk2 m c t) (blk3 m c t) a b = part m c p q s := by
  obtain ⟨s, hs'⟩ := s
  obtain rfl : t.val % 2 = s := hs
  obtain ⟨p, hp'⟩ := p
  obtain ⟨q, hq'⟩ := q
  obtain rfl : p = 768 * (t.val / 4) + a.val := hp
  obtain rfl : q = 1024 * (t.val / 2 % 2) + b.val := hq
  exact congrArg₂ (· + ·) (Finset.sum_congr rfl fun k _ => congrArg₂ (· * ·) ((blk0_apply m c t k a).trans (host0 m c _)) ((blk1_apply m c t k b).trans (host1 m c _ _)))
    (Finset.sum_congr rfl fun k _ => congrArg₂ (· * ·) ((blk2_apply m c t k a).trans (host2 m c _)) ((blk3_apply m c t k b).trans (host3 m c _ _)))

/-- After a step but the last, the scratch holds the parts so far. -/
theorem scratch_first (t : Fin cfg0.N) (h : t.val % 2 = 0) (a : Fin 768) (b : Fin 1024) (p : Fin 8448) (q : Fin 2048)
    (hp : p.val = 768 * (t.val / 4) + a.val) (hq : q.val = 1024 * (t.val / 2 % 2) + b.val) :
    ((outsAt0 m c t.val t.isLt).2 (ix2 a b) : EReal) = part m c p q 0 := by
  rw [outsAt0_A m c t h (by omega)]
  dsimp only
  exact (first_apply ..).trans (part_at m c t a b 0 h p q hp hq)
theorem block_last (t : Fin cfg0.N) (h : t.val % 2 = 1) (a : Fin 768) (b : Fin 1024) (p : Fin 8448) (q : Fin 2048)
    (hp : p.val = 768 * (t.val / 4) + a.val) (hq : q.val = 1024 * (t.val / 2 % 2) + b.val) :
    ((outsAt0 m c t.val t.isLt).1 (ix2 a b) : EReal) = part m c p q 0 + part m c p q 1 := by
  rw [outsAt0_B m c t (by omega) h]
  dsimp only
  refine (last_apply ..).trans (congrArg₂ (· + ·) ?_ (part_at m c t a b 1 h p q hp hq))
  exact scratch_first m c ⟨t.val - 1, by have := t.isLt; omega⟩ (by show (t.val - 1) % 2 = 0; omega) a b p q
    (by show p.val = _ * ((t.val - 1) / _) + a.val; omega) (by show q.val = _ * ((t.val - 1) / _ % _) + b.val; omega)

/-- The product of the whole arrays. -/
def product (p : Fin 8448) (q : Fin 2048) : EReal := (∑ k : Fin 5632, term0 m c p q k) + (∑ k : Fin 5632, term1 m c p q k)

theorem parts (p : Fin 8448) (q : Fin 2048) : part m c p q 0 + part m c p q 1 = product m c p q := by
  refine (Fin.sum_univ_two (part m c p q)).symm.trans ?_
  refine Finset.sum_add_distrib.trans ?_
  exact congrArg₂ (· + ·) (Cert.Steps.sum_steps 2816 2 (by decide) (term0 m c p q)) (Cert.Steps.sum_steps 2816 2 (by decide) (term1 m c p q))

theorem final : (dats m 0 c).arrAt 4 cfg0.N = fun j => product m c (j 0) (j 1) := by
  refine (dats m 0 c).arrAt_eq_of_covers 4 (fun j => product m c (j 0) (j 1)) (by decide +kernel) fun t hf y => ?_
  blk_simp
  rw [after0_4]
  idx_vars y
  have e : ((View.whole main_v5).slice (win0_4.rect t)).emb (ix2 y0 y1)
      = ix2 ⟨768 * (t.val / 4) + y0.val, by have := t_lt t; omega⟩ ⟨1024 * (t.val / 2 % 2) + y1.val, by have := t_lt t; omega⟩ := by
    have := t_lt t
    blk_ext [idx t]
  rw [e]
  exact (block_last m c t ((flush0_4 t).mp hf) y0 y1 _ _ rfl rfl).trans (parts m c _ _)

/-! ## The reference's array -/

theorem reference (p : Fin 8448) (q : Fin 2048) :
    (Cert.UpDxRefIdeal.Read.val_main_v1 (F := Ideal) (argX m c) (argY m c) (argW m c) (ix2 p q) : EReal) = product m c p q := by
  refine (Cert.UpDxRefIdeal.Read.val_main_v1_apply (argX m c) (argY m c) (argW m c) _).trans ?_
  refine (Fin.sum_univ_add (a := 5632) (b := 5632) _).trans (congrArg₂ (· + ·) (Finset.sum_congr rfl fun k _ => congrArg₂ (· * ·) ?_ ?_) (Finset.sum_congr rfl fun k _ => congrArg₂ (· * ·) ?_ ?_))
  · rw [show Cert.UpDxRefIdeal.Read.lidx_main_v1 (ix2 p q) (Fin.castAdd 5632 k) = ix2 p ⟨k.val, by omega⟩ from funext fun d => by fin_cases d <;> rfl]
    unfold Cert.UpDxRefIdeal.Read.val_main_v0
    pointwise
  · exact congrArg _ (funext fun d => by fin_cases d <;> rfl)
  · rw [show Cert.UpDxRefIdeal.Read.lidx_main_v1 (ix2 p q) (Fin.natAdd 5632 k) = ix2 p ⟨5632 + k.val, by omega⟩ from funext fun d => by fin_cases d <;> rfl]
    unfold Cert.UpDxRefIdeal.Read.val_main_v0
    pointwise
  · exact congrArg _ (funext fun d => by fin_cases d <;> rfl)

/-- The kernel's array is the reference's. -/
theorem value : (dats m 0 c).arrAt 4 cfg0.N = Cert.UpDxRefIdeal.Read.val_main_v1 (F := Ideal) (argX m c) (argY m c) (argW m c) := by
  rw [final]
  funext j
  idx_vars j
  exact (reference m c j0 j1).symm

end Cert.UpDxIdeal.Product
end
-- ==== Proof.DownDxValue.lean ====
/- The token gradient of the feed-forward block's second product. -/
module

public import proofs.«01_k».proof.Proof.Gen.DownDxIdeal.Value
public import proofs.«01_k».proof.Proof.Gen.DownDxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.DownDxIdeal.Product

open Cert.DownDxIdeal Cert.DownDxIdeal.Gen

/-- A point's part of an entry of its block. -/
def dot (x0 : Vec Ideal S768x2048 .bf16) (x1 : Vec Ideal S1408x2048 .bf16) (a : Fin 768) (b : Fin 1408) : EReal := ∑ k : Fin 2048, x0 (ix2 a k) * x1 (ix2 b k)

/-! ## The payloads at an index -/

theorem pay1_apply (x0 : Vec Ideal S768x2048 .bf16) (x1 : Vec Ideal S1408x2048 .bf16) (a : Fin 768) (b : Fin 1408) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S1408x2048 .bf16) (h4 : a4.IsWhole)
  (a5 : Memref sig .tc .vmem S768x1408 .f32) (h5 : a5.IsWhole) (a6 : Memref sig .tc .vmem S768x1408 .f32) (h6 : a6.IsWhole)
  (x0 : Vec Ideal S768x2048 .bf16) (x1 : Vec Ideal S1408x2048 .bf16) (acc : Vec Ideal S768x1408 .f32) (a : Fin 768) (b : Fin 1408)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S1408x2048) zero2 inb_S1408x2048_S1408x2048_0_0]
  exact (View.read_writes_cons_rows_of_mem (size := S768x1408.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 4), 0] ∧ win0_1.index t = ![(t.val % 4), 0] ∧ win0_2.index t = ![t.val / 4, (t.val % 4)] :=
  (by decide +kernel : ∀ t : Fin grid0.N, _)

theorem N_eq : cfg0.N = 44 := by decide +kernel
theorem t_lt (t : Fin cfg0.N) : t.val < 44 := by have := t.isLt; have := N_eq; omega

abbrev argX : FVec Ideal S8448x2048 .f32 := m ((c : Thread nD τ).loc main_arg0)
abbrev argY : FVec Ideal S5632x2048 .f32 := m ((c : Thread nD τ).loc main_arg1)

theorem host0 (j : S8448x2048.Idx) : (V m c main_v0 j : EReal) = argX m c j := rfl
theorem host1 (j : S5632x2048.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 4) + a.val, by have := t_lt t; omega⟩ k) := by
  have := t_lt t
  blk_ext [blk0, iblk, idx t]
abbrev blk1 (t : Fin cfg0.N) : Vec Ideal S1408x2048 .bf16 := iblk m c 1 t
theorem blk1_apply (t : Fin cfg0.N) (k : Fin 2048) (b : Fin 1408) :
    (blk1 m c t (ix2 b k) : EReal) = V m c main_v1 (ix2 ⟨1408 * (t.val % 4) + b.val, by have := t_lt t; omega⟩ k) := by
  have := t_lt t
  blk_ext [blk1, iblk, idx t]

/-- The product's term at row `k` of the contraction. -/
def term0 (p : Fin 8448) (q : Fin 5632) (k : Fin 2048) : EReal := argX m c (ix2 p k) * argY m c (ix2 q k)

theorem part_at (t : Fin cfg0.N) (a : Fin 768) (b : Fin 1408) (p : Fin 8448) (q : Fin 5632)
    (hp : p.val = 768 * (t.val / 4) + a.val) (hq : q.val = 1408 * (t.val % 4) + b.val) :
    dot (blk0 m c t) (blk1 m c t) a b = (∑ k : Fin 2048, term0 m c p q k) := by
  obtain ⟨p, hp'⟩ := p
  obtain ⟨q, hq'⟩ := q
  obtain rfl : p = 768 * (t.val / 4) + a.val := hp
  obtain rfl : q = 1408 * (t.val % 4) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 5632) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 4) + y0.val, by have := t_lt t; omega⟩ ⟨1408 * (t.val % 4) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 5632) :
    (Cert.DownDxRefIdeal.Read.val_main_v0 (F := Ideal) (argX m c) (argY m c) (ix2 p q) : EReal) = product m c p q := by
  refine (Cert.DownDxRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.DownDxRefIdeal.Read.val_main_v0 (F := Ideal) (argX m c) (argY m c) := by
  rw [final]
  funext j
  idx_vars j
  exact (reference m c j0 j1).symm

end Cert.DownDxIdeal.Product
end
-- ==== Proof.DownDwValue.lean ====
/- The weight gradient of the feed-forward block's second product. -/
module

public import proofs.«01_k».proof.Proof.Gen.DownDwIdeal.Value
public import proofs.«01_k».proof.Proof.Gen.DownDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.DownDwIdeal.Product

open Cert.DownDwIdeal Cert.DownDwIdeal.Gen

/-- A point's part of an entry of its block. -/
def dot (x0 : Vec Ideal S2816x512 .bf16) (x1 : Vec Ideal S2816x1024 .bf16) (a : Fin 512) (b : Fin 1024) : EReal := ∑ k : Fin 2816, x0 (ix2 k a) * x1 (ix2 k b)

/-! ## The payloads at an index -/

theorem pay1_apply (x0 : Vec Ideal S2816x512 .bf16) (x1 : Vec Ideal S2816x1024 .bf16) (a : Fin 512) (b : Fin 1024) :
    (k0_pay1 x0 x1 (ix2 a b) : EReal) = dot x0 x1 a b := by
  pointwise [k0_pay1, dot]
theorem pay2_apply (acc : Vec Ideal S512x1024 .f32) (x0 : Vec Ideal S2816x512 .bf16) (x1 : Vec Ideal S2816x1024 .bf16) (a : Fin 512) (b : Fin 1024) :
    (k0_pay2 acc x0 x1 (ix2 a b) : EReal) = acc (ix2 a b) + dot x0 x1 a b := by
  pointwise [k0_pay2, dot]
theorem pay3_apply (acc : Vec Ideal S512x1024 .f32) (x0 : Vec Ideal S2816x512 .bf16) (x1 : Vec Ideal S2816x1024 .bf16) (a : Fin 512) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x512 .bf16) (h3 : a3.IsWhole) (a4 : Memref sig .tc .vmem S2816x1024 .bf16) (h4 : a4.IsWhole)
  (a5 : Memref sig .tc .vmem S512x1024 .bf16) (h5 : a5.IsWhole) (a6 : Memref sig .tc .vmem S512x1024 .f32) (h6 : a6.IsWhole)
  (x0 : Vec Ideal S2816x512 .bf16) (x1 : Vec Ideal S2816x1024 .bf16) (acc : Vec Ideal S512x1024 .f32) (a : Fin 512) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0]
  exact (View.read_writes_cons_rows_of_mem (size := S512x1024.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 6)] ∧ win0_1.index t = ![(t.val % 3), (t.val / 3 % 2)] ∧ win0_2.index t = ![t.val / 6, (t.val / 3 % 2)] :=
  (by decide +kernel : ∀ t : Fin grid0.N, _)

theorem N_eq : cfg0.N = 66 := by decide +kernel
theorem t_lt (t : Fin cfg0.N) : t.val < 66 := by have := t.isLt; have := N_eq; omega

abbrev argX : FVec Ideal S8448x5632 .f32 := m ((c : Thread nD τ).loc main_arg0)
abbrev argY : FVec Ideal S8448x2048 .f32 := m ((c : Thread nD τ).loc main_arg1)

theorem host0 (j : S8448x5632.Idx) : (V m c main_v0 j : EReal) = argX m c j := rfl
theorem host1 (j : S8448x2048.Idx) : (V m c main_v1 j : EReal) = argY m c j := rfl

abbrev blk0 (t : Fin cfg0.N) : Vec Ideal S2816x512 .bf16 := iblk m c 0 t
theorem blk0_apply (t : Fin cfg0.N) (k : Fin 2816) (a : Fin 512) :
    (blk0 m c t (ix2 k a) : EReal) = V m c main_v0 (ix2 ⟨2816 * (t.val % 3) + k.val, by have := t_lt t; omega⟩ ⟨512 * (t.val / 6) + a.val, by have := t_lt t; omega⟩) := by
  have := t_lt t
  blk_ext [blk0, iblk, idx t]
abbrev blk1 (t : Fin cfg0.N) : Vec Ideal S2816x1024 .bf16 := iblk m c 1 t
theorem blk1_apply (t : Fin cfg0.N) (k : Fin 2816) (b : Fin 1024) :
    (blk1 m c t (ix2 k b) : EReal) = V m c main_v1 (ix2 ⟨2816 * (t.val % 3) + k.val, by have := t_lt t; omega⟩ ⟨1024 * (t.val / 3 % 2) + b.val, by have := t_lt t; omega⟩) := by
  have := t_lt t
  blk_ext [blk1, iblk, idx t]

/-- The product's term at row `k` of the contraction. -/
def term0 (p : Fin 5632) (q : Fin 2048) (k : Fin 8448) : EReal := argX m c (ix2 k p) * argY m c (ix2 k q)

/-- One contraction step's part of an entry. -/
def part (p : Fin 5632) (q : Fin 2048) (s : Fin 3) : EReal := (∑ k : Fin 2816, term0 m c p q ⟨2816 * s.val + k.val, by have := s.isLt; omega⟩)

theorem part_at (t : Fin cfg0.N) (a : Fin 512) (b : Fin 1024) (s : Fin 3) (hs : t.val % 3 = s.val) (p : Fin 5632) (q : Fin 2048)
    (hp : p.val = 512 * (t.val / 6) + a.val) (hq : q.val = 1024 * (t.val / 3 % 2) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 512 * (t.val / 6) + a.val := hp
  obtain rfl : q = 1024 * (t.val / 3 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 512) (b : Fin 1024) (p : Fin 5632) (q : Fin 2048)
    (hp : p.val = 512 * (t.val / 6) + a.val) (hq : q.val = 1024 * (t.val / 3 % 2) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 512) (b : Fin 1024) (p : Fin 5632) (q : Fin 2048)
    (hp : p.val = 512 * (t.val / 6) + a.val) (hq : q.val = 1024 * (t.val / 3 % 2) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 512) (b : Fin 1024) (p : Fin 5632) (q : Fin 2048)
    (hp : p.val = 512 * (t.val / 6) + a.val) (hq : q.val = 1024 * (t.val / 3 % 2) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 5632) (q : Fin 2048) : EReal := ∑ k : Fin 8448, term0 m c p q k

theorem parts (p : Fin 5632) (q : Fin 2048) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨512 * (t.val / 6) + y0.val, by have := t_lt t; omega⟩ ⟨1024 * (t.val / 3 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 5632) (q : Fin 2048) :
    (Cert.DownDwRefIdeal.Read.val_main_v2 (F := Ideal) (argX m c) (argY m c) (ix2 p q) : EReal) = product m c p q := by
  rw [Cert.DownDwRefIdeal.Read.val_main_v2_apply]
  rw [Cert.DownDwRefIdeal.Read.val_main_v1_apply]
  refine (Cert.DownDwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.DownDwRefIdeal.Read.val_main_v2 (F := Ideal) (argX m c) (argY m c) := by
  rw [final]
  funext j
  idx_vars j
  exact (reference m c j0 j1).symm

end Cert.DownDwIdeal.Product
end
-- ==== Proof.UpValue.lean ====
/- The feed-forward block's first product. -/
module

public import proofs.«01_k».proof.Proof.Gen.UpIdeal.Value
public import proofs.«01_k».proof.Proof.Gen.UpRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.UpIdeal.Product

open Cert.UpIdeal Cert.UpIdeal.Gen

/-- A point's part of an entry of its block. -/
def dot (x0 : Vec Ideal S768x2048 .bf16) (x1 : Vec Ideal S2048x1024 .bf16) (a : Fin 768) (b : Fin 1024) : EReal := ∑ k : Fin 2048, x0 (ix2 a k) * x1 (ix2 k b)

/-! ## The payloads at an index -/

theorem pay1_apply (x0 : Vec Ideal S768x2048 .bf16) (x1 : Vec Ideal S2048x1024 .bf16) (a : Fin 768) (b : Fin 1024) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S2048x1024 .bf16) (h4 : a4.IsWhole)
  (a5 : Memref sig .tc .vmem S768x1024 .f32) (h5 : a5.IsWhole) (a6 : Memref sig .tc .vmem S768x1024 .f32) (h6 : a6.IsWhole)
  (x0 : Vec Ideal S768x2048 .bf16) (x1 : Vec Ideal S2048x1024 .bf16) (acc : Vec Ideal S768x1024 .f32) (a : Fin 768) (b : Fin 1024)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S2048x1024) zero2 inb_S2048x1024_S2048x1024_0_0]
  exact (View.read_writes_cons_rows_of_mem (size := S768x1024.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 11), 0] ∧ win0_1.index t = ![0, (t.val % 11)] ∧ win0_2.index t = ![t.val / 11, (t.val % 11)] :=
  (by decide +kernel : ∀ t : Fin grid0.N, _)

theorem N_eq : cfg0.N = 121 := by decide +kernel
theorem t_lt (t : Fin cfg0.N) : t.val < 121 := by have := t.isLt; have := N_eq; omega

abbrev argX : FVec Ideal S8448x2048 .f32 := m ((c : Thread nD τ).loc main_arg0)
abbrev argY : FVec Ideal S2048x11264 .f32 := m ((c : Thread nD τ).loc main_arg1)

theorem host0 (j : S8448x2048.Idx) : (V m c main_v0 j : EReal) = argX m c j := rfl
theorem host1 (j : S2048x11264.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 11) + a.val, by have := t_lt t; omega⟩ k) := by
  have := t_lt t
  blk_ext [blk0, iblk, idx t]
abbrev blk1 (t : Fin cfg0.N) : Vec Ideal S2048x1024 .bf16 := iblk m c 1 t
theorem blk1_apply (t : Fin cfg0.N) (k : Fin 2048) (b : Fin 1024) :
    (blk1 m c t (ix2 k b) : EReal) = V m c main_v1 (ix2 k ⟨1024 * (t.val % 11) + b.val, by have := t_lt t; omega⟩) := by
  have := t_lt t
  blk_ext [blk1, iblk, idx t]

/-- The product's term at row `k` of the contraction. -/
def term0 (p : Fin 8448) (q : Fin 11264) (k : Fin 2048) : EReal := argX m c (ix2 p k) * argY m c (ix2 k q)

theorem part_at (t : Fin cfg0.N) (a : Fin 768) (b : Fin 1024) (p : Fin 8448) (q : Fin 11264)
    (hp : p.val = 768 * (t.val / 11) + a.val) (hq : q.val = 1024 * (t.val % 11) + b.val) :
    dot (blk0 m c t) (blk1 m c t) a b = (∑ k : Fin 2048, term0 m c p q k) := by
  obtain ⟨p, hp'⟩ := p
  obtain ⟨q, hq'⟩ := q
  obtain rfl : p = 768 * (t.val / 11) + a.val := hp
  obtain rfl : q = 1024 * (t.val % 11) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 11264) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 11) + y0.val, by have := t_lt t; omega⟩ ⟨1024 * (t.val % 11) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 11264) :
    (Cert.UpRefIdeal.Read.val_main_v0 (F := Ideal) (argX m c) (argY m c) (ix2 p q) : EReal) = product m c p q := by
  refine (Cert.UpRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.UpRefIdeal.Read.val_main_v0 (F := Ideal) (argX m c) (argY m c) := by
  rw [final]
  funext j
  idx_vars j
  exact (reference m c j0 j1).symm

end Cert.UpIdeal.Product
end
-- ==== Proof.DownValue.lean ====
/- The feed-forward block's second product. -/
module

public import proofs.«01_k».proof.Proof.Gen.DownIdeal.Value
public import proofs.«01_k».proof.Proof.Gen.DownRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.DownIdeal.Product

open Cert.DownIdeal Cert.DownIdeal.Gen

/-- A point's part of an entry of its block. -/
def dot (x0 : Vec Ideal S768x2816 .bf16) (x1 : Vec Ideal S2816x1024 .bf16) (a : Fin 768) (b : Fin 1024) : EReal := ∑ k : Fin 2816, x0 (ix2 a k) * x1 (ix2 k b)

/-! ## The payloads at an index -/

theorem pay1_apply (x0 : Vec Ideal S768x2816 .bf16) (x1 : Vec Ideal S2816x1024 .bf16) (a : Fin 768) (b : Fin 1024) :
    (k0_pay1 x0 x1 (ix2 a b) : EReal) = dot x0 x1 a b := by
  pointwise [k0_pay1, dot]
theorem pay2_apply (acc : Vec Ideal S768x1024 .f32) (x0 : Vec Ideal S768x2816 .bf16) (x1 : Vec Ideal S2816x1024 .bf16) (a : Fin 768) (b : Fin 1024) :
    (k0_pay2 acc x0 x1 (ix2 a b) : EReal) = acc (ix2 a b) + dot x0 x1 a b := by
  pointwise [k0_pay2, dot]
theorem pay3_apply (acc : Vec Ideal S768x1024 .f32) (x0 : Vec Ideal S768x2816 .bf16) (x1 : Vec Ideal S2816x1024 .bf16) (a : Fin 768) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S768x2816 .bf16) (h3 : a3.IsWhole) (a4 : Memref sig .tc .vmem S2816x1024 .bf16) (h4 : a4.IsWhole)
  (a5 : Memref sig .tc .vmem S768x1024 .f32) (h5 : a5.IsWhole) (a6 : Memref sig .tc .vmem S768x1024 .f32) (h6 : a6.IsWhole)
  (x0 : Vec Ideal S768x2816 .bf16) (x1 : Vec Ideal S2816x1024 .bf16) (acc : Vec Ideal S768x1024 .f32) (a : Fin 768) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S768x2816) zero2 inb_S768x2816_S768x2816_0_0, View.ld_unit_zero (S := S2816x1024) zero2 inb_S2816x1024_S2816x1024_0_0]
  exact (View.read_writes_cons_rows_of_mem (size := S768x1024.size) VS0_0 _ _ _ _ (ix2 a b) (ix2 a b) rfl (Nat.zero_add _).symm rfl).trans (pay1_apply  x0 x1 a b)

theorem last_apply (hc0) (hc1) (hc2) :
    (out0_B_2 (F := Ideal) c i a3 h3 a4 h4 a5 h5 a6 h6 hc0 hc1 hc2 x0 x1 acc (ix2 a b) : EReal) = acc (ix2 a b) + dot x0 x1 a b := by
  unfold out0_B_2
  unfold kernelRun0_B
  dsimp only
  sl_unfold_words
  simp only [View.readAt_eq_ld, h3.read_unread, h4.read_unread, h6.read_unread,
    View.ld_unit_zero (S := S768x2816) zero2 inb_S768x2816_S768x2816_0_0, View.ld_unit_zero (S := S2816x1024) zero2 inb_S2816x1024_S2816x1024_0_0, View.ld_unit_zero (S := S768x1024) zero2 inb_S768x1024_S768x1024_0_0]
  exact (View.read_writes_cons_rows_of_mem (size := S768x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 4), (t.val % 2)] ∧ win0_1.index t = ![(t.val % 2), (t.val / 2 % 2)] ∧ win0_2.index t = ![t.val / 4, (t.val / 2 % 2)] :=
  (by decide +kernel : ∀ t : Fin grid0.N, _)

theorem N_eq : cfg0.N = 44 := by decide +kernel
theorem t_lt (t : Fin cfg0.N) : t.val < 44 := by have := t.isLt; have := N_eq; omega

abbrev argX : FVec Ideal S8448x5632 .f32 := m ((c : Thread nD τ).loc main_arg0)
abbrev argY : FVec Ideal S5632x2048 .f32 := m ((c : Thread nD τ).loc main_arg1)

theorem host0 (j : S8448x5632.Idx) : (V m c main_v0 j : EReal) = argX m c j := rfl
theorem host1 (j : S5632x2048.Idx) : (V m c main_v1 j : EReal) = argY m c j := rfl

abbrev blk0 (t : Fin cfg0.N) : Vec Ideal S768x2816 .bf16 := iblk m c 0 t
theorem blk0_apply (t : Fin cfg0.N) (k : Fin 2816) (a : Fin 768) :
    (blk0 m c t (ix2 a k) : EReal) = V m c main_v0 (ix2 ⟨768 * (t.val / 4) + a.val, by have := t_lt t; omega⟩ ⟨2816 * (t.val % 2) + k.val, by have := t_lt t; omega⟩) := by
  have := t_lt t
  blk_ext [blk0, iblk, idx t]
abbrev blk1 (t : Fin cfg0.N) : Vec Ideal S2816x1024 .bf16 := iblk m c 1 t
theorem blk1_apply (t : Fin cfg0.N) (k : Fin 2816) (b : Fin 1024) :
    (blk1 m c t (ix2 k b) : EReal) = V m c main_v1 (ix2 ⟨2816 * (t.val % 2) + k.val, by have := t_lt t; omega⟩ ⟨1024 * (t.val / 2 % 2) + b.val, by have := t_lt t; omega⟩) := by
  have := t_lt t
  blk_ext [blk1, iblk, idx t]

/-- The product's term at row `k` of the contraction. -/
def term0 (p : Fin 8448) (q : Fin 2048) (k : Fin 5632) : EReal := argX m c (ix2 p k) * argY m c (ix2 k q)

/-- One contraction step's part of an entry. -/
def part (p : Fin 8448) (q : Fin 2048) (s : Fin 2) : EReal := (∑ k : Fin 2816, term0 m c p q ⟨2816 * s.val + k.val, by have := s.isLt; omega⟩)

theorem part_at (t : Fin cfg0.N) (a : Fin 768) (b : Fin 1024) (s : Fin 2) (hs : t.val % 2 = s.val) (p : Fin 8448) (q : Fin 2048)
    (hp : p.val = 768 * (t.val / 4) + a.val) (hq : q.val = 1024 * (t.val / 2 % 2) + b.val) :
    dot (blk0 m c t) (blk1 m c t) a b = part m c p q s := by
  obtain ⟨s, hs'⟩ := s
  obtain rfl : t.val % 2 = s := hs
  obtain ⟨p, hp'⟩ := p
  obtain ⟨q, hq'⟩ := q
  obtain rfl : p = 768 * (t.val / 4) + a.val := hp
  obtain rfl : q = 1024 * (t.val / 2 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 2 = 0) (a : Fin 768) (b : Fin 1024) (p : Fin 8448) (q : Fin 2048)
    (hp : p.val = 768 * (t.val / 4) + a.val) (hq : q.val = 1024 * (t.val / 2 % 2) + b.val) :
    ((outsAt0 m c t.val t.isLt).2 (ix2 a b) : EReal) = part m c p q 0 := by
  rw [outsAt0_A m c t h (by omega)]
  dsimp only
  exact (first_apply ..).trans (part_at m c t a b 0 h p q hp hq)
theorem block_last (t : Fin cfg0.N) (h : t.val % 2 = 1) (a : Fin 768) (b : Fin 1024) (p : Fin 8448) (q : Fin 2048)
    (hp : p.val = 768 * (t.val / 4) + a.val) (hq : q.val = 1024 * (t.val / 2 % 2) + b.val) :
    ((outsAt0 m c t.val t.isLt).1 (ix2 a b) : EReal) = part m c p q 0 + part m c p q 1 := by
  rw [outsAt0_B m c t (by omega) h]
  dsimp only
  refine (last_apply ..).trans (congrArg₂ (· + ·) ?_ (part_at m c t a b 1 h p q hp hq))
  exact scratch_first m c ⟨t.val - 1, by have := t.isLt; omega⟩ (by show (t.val - 1) % 2 = 0; omega) a b p q
    (by show p.val = _ * ((t.val - 1) / _) + a.val; omega) (by show q.val = _ * ((t.val - 1) / _ % _) + b.val; omega)

/-- The product of the whole arrays. -/
def product (p : Fin 8448) (q : Fin 2048) : EReal := ∑ k : Fin 5632, term0 m c p q k

theorem parts (p : Fin 8448) (q : Fin 2048) : part m c p q 0 + part m c p q 1 = product m c p q := by
  exact (Fin.sum_univ_two (part m c p q)).symm.trans (Cert.Steps.sum_steps 2816 2 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 4) + y0.val, by have := t_lt t; omega⟩ ⟨1024 * (t.val / 2 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 8448) (q : Fin 2048) :
    (Cert.DownRefIdeal.Read.val_main_v0 (F := Ideal) (argX m c) (argY m c) (ix2 p q) : EReal) = product m c p q := by
  refine (Cert.DownRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.DownRefIdeal.Read.val_main_v0 (F := Ideal) (argX m c) (argY m c) := by
  rw [final]
  funext j
  idx_vars j
  exact (reference m c j0 j1).symm

end Cert.DownIdeal.Product
end
-- ==== Proof.InAValue.lean ====
/- The first layer's input projection. -/
module

public import proofs.«01_k».proof.Proof.Gen.InAIdeal.Value
public import proofs.«01_k».proof.Proof.Gen.InARefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.InAIdeal.Product

open Cert.InAIdeal Cert.InAIdeal.Gen

/-- A point's part of an entry of its block. -/
def dot (x0 : Vec Ideal S768x2048 .bf16) (x1 : Vec Ideal S2048x1024 .bf16) (a : Fin 768) (b : Fin 1024) : EReal := ∑ k : Fin 2048, x0 (ix2 a k) * x1 (ix2 k b)

/-! ## The payloads at an index -/

theorem pay1_apply (x0 : Vec Ideal S768x2048 .bf16) (x1 : Vec Ideal S2048x1024 .bf16) (a : Fin 768) (b : Fin 1024) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S2048x1024 .bf16) (h4 : a4.IsWhole)
  (a5 : Memref sig .tc .vmem S768x1024 .f32) (h5 : a5.IsWhole) (a6 : Memref sig .tc .vmem S768x1024 .f32) (h6 : a6.IsWhole)
  (x0 : Vec Ideal S768x2048 .bf16) (x1 : Vec Ideal S2048x1024 .bf16) (acc : Vec Ideal S768x1024 .f32) (a : Fin 768) (b : Fin 1024)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S2048x1024) zero2 inb_S2048x1024_S2048x1024_0_0]
  exact (View.read_writes_cons_rows_of_mem (size := S768x1024.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 4), 0] ∧ win0_1.index t = ![0, (t.val % 4)] ∧ win0_2.index t = ![t.val / 4, (t.val % 4)] :=
  (by decide +kernel : ∀ t : Fin grid0.N, _)

theorem N_eq : cfg0.N = 44 := by decide +kernel
theorem t_lt (t : Fin cfg0.N) : t.val < 44 := by have := t.isLt; have := N_eq; omega

abbrev argX : FVec Ideal S8448x2048 .f32 := m ((c : Thread nD τ).loc main_arg0)
abbrev argY : FVec Ideal S2048x4096 .f32 := m ((c : Thread nD τ).loc main_arg1)

theorem host0 (j : S8448x2048.Idx) : (V m c main_v0 j : EReal) = argX m c j := rfl
theorem host1 (j : S2048x4096.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 4) + a.val, by have := t_lt t; omega⟩ k) := by
  have := t_lt t
  blk_ext [blk0, iblk, idx t]
abbrev blk1 (t : Fin cfg0.N) : Vec Ideal S2048x1024 .bf16 := iblk m c 1 t
theorem blk1_apply (t : Fin cfg0.N) (k : Fin 2048) (b : Fin 1024) :
    (blk1 m c t (ix2 k b) : EReal) = V m c main_v1 (ix2 k ⟨1024 * (t.val % 4) + b.val, by have := t_lt t; omega⟩) := by
  have := t_lt t
  blk_ext [blk1, iblk, idx t]

/-- The product's term at row `k` of the contraction. -/
def term0 (p : Fin 8448) (q : Fin 4096) (k : Fin 2048) : EReal := argX m c (ix2 p k) * argY m c (ix2 k q)

theorem part_at (t : Fin cfg0.N) (a : Fin 768) (b : Fin 1024) (p : Fin 8448) (q : Fin 4096)
    (hp : p.val = 768 * (t.val / 4) + a.val) (hq : q.val = 1024 * (t.val % 4) + b.val) :
    dot (blk0 m c t) (blk1 m c t) a b = (∑ k : Fin 2048, term0 m c p q k) := by
  obtain ⟨p, hp'⟩ := p
  obtain ⟨q, hq'⟩ := q
  obtain rfl : p = 768 * (t.val / 4) + a.val := hp
  obtain rfl : q = 1024 * (t.val % 4) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 4096) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 4) + y0.val, by have := t_lt t; omega⟩ ⟨1024 * (t.val % 4) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 4096) :
    (Cert.InARefIdeal.Read.val_main_v0 (F := Ideal) (argX m c) (argY m c) (ix2 p q) : EReal) = product m c p q := by
  refine (Cert.InARefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.InARefIdeal.Read.val_main_v0 (F := Ideal) (argX m c) (argY m c) := by
  rw [final]
  funext j
  idx_vars j
  exact (reference m c j0 j1).symm

end Cert.InAIdeal.Product
end
-- ==== Proof.InADxValue.lean ====
/- The rows' gradient of the first layer's input projection. -/
module

public import proofs.«01_k».proof.Proof.Gen.InADxIdeal.Value
public import proofs.«01_k».proof.Proof.Gen.InADxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.InADxIdeal.Product

open Cert.InADxIdeal Cert.InADxIdeal.Gen

/-- A point's part of an entry of its block. -/
def dot (x0 : Vec Ideal S768x2048 .bf16) (x1 : Vec Ideal S1024x2048 .bf16) (a : Fin 768) (b : Fin 1024) : EReal := ∑ k : Fin 2048, x0 (ix2 a k) * x1 (ix2 b k)

/-! ## The payloads at an index -/

theorem pay1_apply (x0 : Vec Ideal S768x2048 .bf16) (x1 : Vec Ideal S1024x2048 .bf16) (a : Fin 768) (b : Fin 1024) :
    (k0_pay1 x0 x1 (ix2 a b) : EReal) = dot x0 x1 a b := by
  pointwise [k0_pay1, dot]
theorem pay2_apply (acc : Vec Ideal S768x1024 .f32) (x0 : Vec Ideal S768x2048 .bf16) (x1 : Vec Ideal S1024x2048 .bf16) (a : Fin 768) (b : Fin 1024) :
    (k0_pay2 acc x0 x1 (ix2 a b) : EReal) = acc (ix2 a b) + dot x0 x1 a b := by
  pointwise [k0_pay2, dot]
theorem pay3_apply (acc : Vec Ideal S768x1024 .f32) (x0 : Vec Ideal S768x2048 .bf16) (x1 : Vec Ideal S1024x2048 .bf16) (a : Fin 768) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S768x2048 .bf16) (h3 : a3.IsWhole) (a4 : Memref sig .tc .vmem S1024x2048 .bf16) (h4 : a4.IsWhole)
  (a5 : Memref sig .tc .vmem S768x1024 .f32) (h5 : a5.IsWhole) (a6 : Memref sig .tc .vmem S768x1024 .f32) (h6 : a6.IsWhole)
  (x0 : Vec Ideal S768x2048 .bf16) (x1 : Vec Ideal S1024x2048 .bf16) (acc : Vec Ideal S768x1024 .f32) (a : Fin 768) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S1024x2048) zero2 inb_S1024x2048_S1024x2048_0_0]
  exact (View.read_writes_cons_rows_of_mem (size := S768x1024.size) VS0_0 _ _ _ _ (ix2 a b) (ix2 a b) rfl (Nat.zero_add _).symm rfl).trans (pay1_apply  x0 x1 a b)

theorem last_apply (hc0) (hc1) (hc2) :
    (out0_B_2 (F := Ideal) c i a3 h3 a4 h4 a5 h5 a6 h6 hc0 hc1 hc2 x0 x1 acc (ix2 a b) : EReal) = acc (ix2 a b) + dot x0 x1 a b := by
  unfold out0_B_2
  unfold kernelRun0_B
  dsimp only
  sl_unfold_words
  simp only [View.readAt_eq_ld, h3.read_unread, h4.read_unread, h6.read_unread,
    View.ld_unit_zero (S := S768x2048) zero2 inb_S768x2048_S768x2048_0_0, View.ld_unit_zero (S := S1024x2048) zero2 inb_S1024x2048_S1024x2048_0_0, View.ld_unit_zero (S := S768x1024) zero2 inb_S768x1024_S768x1024_0_0]
  exact (View.read_writes_cons_rows_of_mem (size := S768x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 4), (t.val % 2)] ∧ win0_1.index t = ![(t.val / 2 % 2), (t.val % 2)] ∧ win0_2.index t = ![t.val / 4, (t.val / 2 % 2)] :=
  (by decide +kernel : ∀ t : Fin grid0.N, _)

theorem N_eq : cfg0.N = 44 := by decide +kernel
theorem t_lt (t : Fin cfg0.N) : t.val < 44 := by have := t.isLt; have := N_eq; omega

abbrev argX : FVec Ideal S8448x4096 .f32 := m ((c : Thread nD τ).loc main_arg0)
abbrev argY : FVec Ideal S2048x4096 .f32 := m ((c : Thread nD τ).loc main_arg1)

theorem host0 (j : S8448x4096.Idx) : (V m c main_v0 j : EReal) = argX m c j := rfl
theorem host1 (j : S2048x4096.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 4) + a.val, by have := t_lt t; omega⟩ ⟨2048 * (t.val % 2) + k.val, by have := t_lt t; omega⟩) := by
  have := t_lt t
  blk_ext [blk0, iblk, idx t]
abbrev blk1 (t : Fin cfg0.N) : Vec Ideal S1024x2048 .bf16 := iblk m c 1 t
theorem blk1_apply (t : Fin cfg0.N) (k : Fin 2048) (b : Fin 1024) :
    (blk1 m c t (ix2 b k) : EReal) = V m c main_v1 (ix2 ⟨1024 * (t.val / 2 % 2) + b.val, by have := t_lt t; omega⟩ ⟨2048 * (t.val % 2) + k.val, by have := t_lt t; omega⟩) := by
  have := t_lt t
  blk_ext [blk1, iblk, idx t]

/-- The product's term at row `k` of the contraction. -/
def term0 (p : Fin 8448) (q : Fin 2048) (k : Fin 4096) : EReal := argX m c (ix2 p k) * argY m c (ix2 q k)

/-- One contraction step's part of an entry. -/
def part (p : Fin 8448) (q : Fin 2048) (s : Fin 2) : EReal := (∑ k : Fin 2048, term0 m c p q ⟨2048 * s.val + k.val, by have := s.isLt; omega⟩)

theorem part_at (t : Fin cfg0.N) (a : Fin 768) (b : Fin 1024) (s : Fin 2) (hs : t.val % 2 = s.val) (p : Fin 8448) (q : Fin 2048)
    (hp : p.val = 768 * (t.val / 4) + a.val) (hq : q.val = 1024 * (t.val / 2 % 2) + b.val) :
    dot (blk0 m c t) (blk1 m c t) a b = part m c p q s := by
  obtain ⟨s, hs'⟩ := s
  obtain rfl : t.val % 2 = s := hs
  obtain ⟨p, hp'⟩ := p
  obtain ⟨q, hq'⟩ := q
  obtain rfl : p = 768 * (t.val / 4) + a.val := hp
  obtain rfl : q = 1024 * (t.val / 2 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 2 = 0) (a : Fin 768) (b : Fin 1024) (p : Fin 8448) (q : Fin 2048)
    (hp : p.val = 768 * (t.val / 4) + a.val) (hq : q.val = 1024 * (t.val / 2 % 2) + b.val) :
    ((outsAt0 m c t.val t.isLt).2 (ix2 a b) : EReal) = part m c p q 0 := by
  rw [outsAt0_A m c t h (by omega)]
  dsimp only
  exact (first_apply ..).trans (part_at m c t a b 0 h p q hp hq)
theorem block_last (t : Fin cfg0.N) (h : t.val % 2 = 1) (a : Fin 768) (b : Fin 1024) (p : Fin 8448) (q : Fin 2048)
    (hp : p.val = 768 * (t.val / 4) + a.val) (hq : q.val = 1024 * (t.val / 2 % 2) + b.val) :
    ((outsAt0 m c t.val t.isLt).1 (ix2 a b) : EReal) = part m c p q 0 + part m c p q 1 := by
  rw [outsAt0_B m c t (by omega) h]
  dsimp only
  refine (last_apply ..).trans (congrArg₂ (· + ·) ?_ (part_at m c t a b 1 h p q hp hq))
  exact scratch_first m c ⟨t.val - 1, by have := t.isLt; omega⟩ (by show (t.val - 1) % 2 = 0; omega) a b p q
    (by show p.val = _ * ((t.val - 1) / _) + a.val; omega) (by show q.val = _ * ((t.val - 1) / _ % _) + b.val; omega)

/-- The product of the whole arrays. -/
def product (p : Fin 8448) (q : Fin 2048) : EReal := ∑ k : Fin 4096, term0 m c p q k

theorem parts (p : Fin 8448) (q : Fin 2048) : part m c p q 0 + part m c p q 1 = product m c p q := by
  exact (Fin.sum_univ_two (part m c p q)).symm.trans (Cert.Steps.sum_steps 2048 2 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 4) + y0.val, by have := t_lt t; omega⟩ ⟨1024 * (t.val / 2 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 8448) (q : Fin 2048) :
    (Cert.InADxRefIdeal.Read.val_main_v0 (F := Ideal) (argX m c) (argY m c) (ix2 p q) : EReal) = product m c p q := by
  refine (Cert.InADxRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.InADxRefIdeal.Read.val_main_v0 (F := Ideal) (argX m c) (argY m c) := by
  rw [final]
  funext j
  idx_vars j
  exact (reference m c j0 j1).symm

end Cert.InADxIdeal.Product
end
-- ==== Proof.InADwValue.lean ====
/- The weights' gradient of the first layer's input projection. -/
module

public import proofs.«01_k».proof.Proof.Gen.InADwIdeal.Value
public import proofs.«01_k».proof.Proof.Gen.InADwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.InADwIdeal.Product

open Cert.InADwIdeal Cert.InADwIdeal.Gen

/-- A point's part of an entry of its block. -/
def dot (x0 : Vec Ideal S2816x512 .bf16) (x1 : Vec Ideal S2816x1024 .bf16) (a : Fin 512) (b : Fin 1024) : EReal := ∑ k : Fin 2816, x0 (ix2 k a) * x1 (ix2 k b)

/-! ## The payloads at an index -/

theorem pay1_apply (x0 : Vec Ideal S2816x512 .bf16) (x1 : Vec Ideal S2816x1024 .bf16) (a : Fin 512) (b : Fin 1024) :
    (k0_pay1 x0 x1 (ix2 a b) : EReal) = dot x0 x1 a b := by
  pointwise [k0_pay1, dot]
theorem pay2_apply (acc : Vec Ideal S512x1024 .f32) (x0 : Vec Ideal S2816x512 .bf16) (x1 : Vec Ideal S2816x1024 .bf16) (a : Fin 512) (b : Fin 1024) :
    (k0_pay2 acc x0 x1 (ix2 a b) : EReal) = acc (ix2 a b) + dot x0 x1 a b := by
  pointwise [k0_pay2, dot]
theorem pay3_apply (acc : Vec Ideal S512x1024 .f32) (x0 : Vec Ideal S2816x512 .bf16) (x1 : Vec Ideal S2816x1024 .bf16) (a : Fin 512) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x512 .bf16) (h3 : a3.IsWhole) (a4 : Memref sig .tc .vmem S2816x1024 .bf16) (h4 : a4.IsWhole)
  (a5 : Memref sig .tc .vmem S512x1024 .bf16) (h5 : a5.IsWhole) (a6 : Memref sig .tc .vmem S512x1024 .f32) (h6 : a6.IsWhole)
  (x0 : Vec Ideal S2816x512 .bf16) (x1 : Vec Ideal S2816x1024 .bf16) (acc : Vec Ideal S512x1024 .f32) (a : Fin 512) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0]
  exact (View.read_writes_cons_rows_of_mem (size := S512x1024.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 12)] ∧ win0_1.index t = ![(t.val % 3), (t.val / 3 % 4)] ∧ win0_2.index t = ![t.val / 12, (t.val / 3 % 4)] :=
  (by decide +kernel : ∀ t : Fin grid0.N, _)

theorem N_eq : cfg0.N = 48 := by decide +kernel
theorem t_lt (t : Fin cfg0.N) : t.val < 48 := by have := t.isLt; have := N_eq; omega

abbrev argX : FVec Ideal S8448x2048 .f32 := m ((c : Thread nD τ).loc main_arg0)
abbrev argY : FVec Ideal S8448x4096 .f32 := m ((c : Thread nD τ).loc main_arg1)

theorem host0 (j : S8448x2048.Idx) : (V m c main_v0 j : EReal) = argX m c j := rfl
theorem host1 (j : S8448x4096.Idx) : (V m c main_v1 j : EReal) = argY m c j := rfl

abbrev blk0 (t : Fin cfg0.N) : Vec Ideal S2816x512 .bf16 := iblk m c 0 t
theorem blk0_apply (t : Fin cfg0.N) (k : Fin 2816) (a : Fin 512) :
    (blk0 m c t (ix2 k a) : EReal) = V m c main_v0 (ix2 ⟨2816 * (t.val % 3) + k.val, by have := t_lt t; omega⟩ ⟨512 * (t.val / 12) + a.val, by have := t_lt t; omega⟩) := by
  have := t_lt t
  blk_ext [blk0, iblk, idx t]
abbrev blk1 (t : Fin cfg0.N) : Vec Ideal S2816x1024 .bf16 := iblk m c 1 t
theorem blk1_apply (t : Fin cfg0.N) (k : Fin 2816) (b : Fin 1024) :
    (blk1 m c t (ix2 k b) : EReal) = V m c main_v1 (ix2 ⟨2816 * (t.val % 3) + k.val, by have := t_lt t; omega⟩ ⟨1024 * (t.val / 3 % 4) + b.val, by have := t_lt t; omega⟩) := by
  have := t_lt t
  blk_ext [blk1, iblk, idx t]

/-- The product's term at row `k` of the contraction. -/
def term0 (p : Fin 2048) (q : Fin 4096) (k : Fin 8448) : EReal := argX m c (ix2 k p) * argY m c (ix2 k q)

/-- One contraction step's part of an entry. -/
def part (p : Fin 2048) (q : Fin 4096) (s : Fin 3) : EReal := (∑ k : Fin 2816, term0 m c p q ⟨2816 * s.val + k.val, by have := s.isLt; omega⟩)

theorem part_at (t : Fin cfg0.N) (a : Fin 512) (b : Fin 1024) (s : Fin 3) (hs : t.val % 3 = s.val) (p : Fin 2048) (q : Fin 4096)
    (hp : p.val = 512 * (t.val / 12) + a.val) (hq : q.val = 1024 * (t.val / 3 % 4) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 512 * (t.val / 12) + a.val := hp
  obtain rfl : q = 1024 * (t.val / 3 % 4) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 512) (b : Fin 1024) (p : Fin 2048) (q : Fin 4096)
    (hp : p.val = 512 * (t.val / 12) + a.val) (hq : q.val = 1024 * (t.val / 3 % 4) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 512) (b : Fin 1024) (p : Fin 2048) (q : Fin 4096)
    (hp : p.val = 512 * (t.val / 12) + a.val) (hq : q.val = 1024 * (t.val / 3 % 4) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 512) (b : Fin 1024) (p : Fin 2048) (q : Fin 4096)
    (hp : p.val = 512 * (t.val / 12) + a.val) (hq : q.val = 1024 * (t.val / 3 % 4) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 2048) (q : Fin 4096) : EReal := ∑ k : Fin 8448, term0 m c p q k

theorem parts (p : Fin 2048) (q : Fin 4096) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨512 * (t.val / 12) + y0.val, by have := t_lt t; omega⟩ ⟨1024 * (t.val / 3 % 4) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 2048) (q : Fin 4096) :
    (Cert.InADwRefIdeal.Read.val_main_v2 (F := Ideal) (argX m c) (argY m c) (ix2 p q) : EReal) = product m c p q := by
  rw [Cert.InADwRefIdeal.Read.val_main_v2_apply]
  rw [Cert.InADwRefIdeal.Read.val_main_v1_apply]
  refine (Cert.InADwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.InADwRefIdeal.Read.val_main_v2 (F := Ideal) (argX m c) (argY m c) := by
  rw [final]
  funext j
  idx_vars j
  exact (reference m c j0 j1).symm

end Cert.InADwIdeal.Product
end
-- ==== Proof.InBValue.lean ====
/- The second layer's input projection. -/
module

public import proofs.«01_k».proof.Proof.Gen.InBIdeal.Value
public import proofs.«01_k».proof.Proof.Gen.InBRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.InBIdeal.Product

open Cert.InBIdeal Cert.InBIdeal.Gen

/-- A point's part of an entry of its block. -/
def dot (x0 : Vec Ideal S768x2048 .bf16) (x1 : Vec Ideal S2048x896 .bf16) (a : Fin 768) (b : Fin 896) : EReal := ∑ k : Fin 2048, x0 (ix2 a k) * x1 (ix2 k b)

/-! ## The payloads at an index -/

theorem pay1_apply (x0 : Vec Ideal S768x2048 .bf16) (x1 : Vec Ideal S2048x896 .bf16) (a : Fin 768) (b : Fin 896) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S2048x896 .bf16) (h4 : a4.IsWhole)
  (a5 : Memref sig .tc .vmem S768x896 .f32) (h5 : a5.IsWhole) (a6 : Memref sig .tc .vmem S768x896 .f32) (h6 : a6.IsWhole)
  (x0 : Vec Ideal S768x2048 .bf16) (x1 : Vec Ideal S2048x896 .bf16) (acc : Vec Ideal S768x896 .f32) (a : Fin 768) (b : Fin 896)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S2048x896) zero2 inb_S2048x896_S2048x896_0_0]
  exact (View.read_writes_cons_rows_of_mem (size := S768x896.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 7), 0] ∧ win0_1.index t = ![0, (t.val % 7)] ∧ win0_2.index t = ![t.val / 7, (t.val % 7)] :=
  (by decide +kernel : ∀ t : Fin grid0.N, _)

theorem N_eq : cfg0.N = 77 := by decide +kernel
theorem t_lt (t : Fin cfg0.N) : t.val < 77 := by have := t.isLt; have := N_eq; omega

abbrev argX : FVec Ideal S8448x2048 .f32 := m ((c : Thread nD τ).loc main_arg0)
abbrev argY : FVec Ideal S2048x6272 .f32 := m ((c : Thread nD τ).loc main_arg1)

theorem host0 (j : S8448x2048.Idx) : (V m c main_v0 j : EReal) = argX m c j := rfl
theorem host1 (j : S2048x6272.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 7) + a.val, by have := t_lt t; omega⟩ k) := by
  have := t_lt t
  blk_ext [blk0, iblk, idx t]
abbrev blk1 (t : Fin cfg0.N) : Vec Ideal S2048x896 .bf16 := iblk m c 1 t
theorem blk1_apply (t : Fin cfg0.N) (k : Fin 2048) (b : Fin 896) :
    (blk1 m c t (ix2 k b) : EReal) = V m c main_v1 (ix2 k ⟨896 * (t.val % 7) + b.val, by have := t_lt t; omega⟩) := by
  have := t_lt t
  blk_ext [blk1, iblk, idx t]

/-- The product's term at row `k` of the contraction. -/
def term0 (p : Fin 8448) (q : Fin 6272) (k : Fin 2048) : EReal := argX m c (ix2 p k) * argY m c (ix2 k q)

theorem part_at (t : Fin cfg0.N) (a : Fin 768) (b : Fin 896) (p : Fin 8448) (q : Fin 6272)
    (hp : p.val = 768 * (t.val / 7) + a.val) (hq : q.val = 896 * (t.val % 7) + b.val) :
    dot (blk0 m c t) (blk1 m c t) a b = (∑ k : Fin 2048, term0 m c p q k) := by
  obtain ⟨p, hp'⟩ := p
  obtain ⟨q, hq'⟩ := q
  obtain rfl : p = 768 * (t.val / 7) + a.val := hp
  obtain rfl : q = 896 * (t.val % 7) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 6272) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 7) + y0.val, by have := t_lt t; omega⟩ ⟨896 * (t.val % 7) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 6272) :
    (Cert.InBRefIdeal.Read.val_main_v0 (F := Ideal) (argX m c) (argY m c) (ix2 p q) : EReal) = product m c p q := by
  refine (Cert.InBRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.InBRefIdeal.Read.val_main_v0 (F := Ideal) (argX m c) (argY m c) := by
  rw [final]
  funext j
  idx_vars j
  exact (reference m c j0 j1).symm

end Cert.InBIdeal.Product
end
-- ==== Proof.InBDxValue.lean ====
/- The rows' gradient of the second layer's input projection. -/
module

public import proofs.«01_k».proof.Proof.Gen.InBDxIdeal.Value
public import proofs.«01_k».proof.Proof.Gen.InBDxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.InBDxIdeal.Product

open Cert.InBDxIdeal Cert.InBDxIdeal.Gen

/-- A point's part of an entry of its block. -/
def dot (x0 : Vec Ideal S768x896 .bf16) (x1 : Vec Ideal S1024x896 .bf16) (a : Fin 768) (b : Fin 1024) : EReal := ∑ k : Fin 896, x0 (ix2 a k) * x1 (ix2 b k)

/-! ## The payloads at an index -/

theorem pay1_apply (x0 : Vec Ideal S768x896 .bf16) (x1 : Vec Ideal S1024x896 .bf16) (a : Fin 768) (b : Fin 1024) :
    (k0_pay1 x0 x1 (ix2 a b) : EReal) = dot x0 x1 a b := by
  pointwise [k0_pay1, dot]
theorem pay2_apply (acc : Vec Ideal S768x1024 .f32) (x0 : Vec Ideal S768x896 .bf16) (x1 : Vec Ideal S1024x896 .bf16) (a : Fin 768) (b : Fin 1024) :
    (k0_pay2 acc x0 x1 (ix2 a b) : EReal) = acc (ix2 a b) + dot x0 x1 a b := by
  pointwise [k0_pay2, dot]
theorem pay3_apply (acc : Vec Ideal S768x1024 .f32) (x0 : Vec Ideal S768x896 .bf16) (x1 : Vec Ideal S1024x896 .bf16) (a : Fin 768) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S768x896 .bf16) (h3 : a3.IsWhole) (a4 : Memref sig .tc .vmem S1024x896 .bf16) (h4 : a4.IsWhole)
  (a5 : Memref sig .tc .vmem S768x1024 .f32) (h5 : a5.IsWhole) (a6 : Memref sig .tc .vmem S768x1024 .f32) (h6 : a6.IsWhole)
  (x0 : Vec Ideal S768x896 .bf16) (x1 : Vec Ideal S1024x896 .bf16) (acc : Vec Ideal S768x1024 .f32) (a : Fin 768) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S768x896) zero2 inb_S768x896_S768x896_0_0, View.ld_unit_zero (S := S1024x896) zero2 inb_S1024x896_S1024x896_0_0]
  exact (View.read_writes_cons_rows_of_mem (size := S768x1024.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S768x896) zero2 inb_S768x896_S768x896_0_0, View.ld_unit_zero (S := S1024x896) zero2 inb_S1024x896_S1024x896_0_0, View.ld_unit_zero (S := S768x1024) zero2 inb_S768x1024_S768x1024_0_0]
  exact (View.read_writes_cons_rows_of_mem (size := S768x1024.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S768x896) zero2 inb_S768x896_S768x896_0_0, View.ld_unit_zero (S := S1024x896) zero2 inb_S1024x896_S1024x896_0_0, View.ld_unit_zero (S := S768x1024) zero2 inb_S768x1024_S768x1024_0_0]
  exact (View.read_writes_cons_rows_of_mem (size := S768x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 14), (t.val % 7)] ∧ win0_1.index t = ![(t.val / 7 % 2), (t.val % 7)] ∧ win0_2.index t = ![t.val / 14, (t.val / 7 % 2)] :=
  (by decide +kernel : ∀ t : Fin grid0.N, _)

theorem N_eq : cfg0.N = 154 := by decide +kernel
theorem t_lt (t : Fin cfg0.N) : t.val < 154 := by have := t.isLt; have := N_eq; omega

abbrev argX : FVec Ideal S8448x6272 .f32 := m ((c : Thread nD τ).loc main_arg0)
abbrev argY : FVec Ideal S2048x6272 .f32 := m ((c : Thread nD τ).loc main_arg1)

theorem host0 (j : S8448x6272.Idx) : (V m c main_v0 j : EReal) = argX m c j := rfl
theorem host1 (j : S2048x6272.Idx) : (V m c main_v1 j : EReal) = argY m c j := rfl

abbrev blk0 (t : Fin cfg0.N) : Vec Ideal S768x896 .bf16 := iblk m c 0 t
theorem blk0_apply (t : Fin cfg0.N) (k : Fin 896) (a : Fin 768) :
    (blk0 m c t (ix2 a k) : EReal) = V m c main_v0 (ix2 ⟨768 * (t.val / 14) + a.val, by have := t_lt t; omega⟩ ⟨896 * (t.val % 7) + k.val, by have := t_lt t; omega⟩) := by
  have := t_lt t
  blk_ext [blk0, iblk, idx t]
abbrev blk1 (t : Fin cfg0.N) : Vec Ideal S1024x896 .bf16 := iblk m c 1 t
theorem blk1_apply (t : Fin cfg0.N) (k : Fin 896) (b : Fin 1024) :
    (blk1 m c t (ix2 b k) : EReal) = V m c main_v1 (ix2 ⟨1024 * (t.val / 7 % 2) + b.val, by have := t_lt t; omega⟩ ⟨896 * (t.val % 7) + k.val, by have := t_lt t; omega⟩) := by
  have := t_lt t
  blk_ext [blk1, iblk, idx t]

/-- The product's term at row `k` of the contraction. -/
def term0 (p : Fin 8448) (q : Fin 2048) (k : Fin 6272) : EReal := argX m c (ix2 p k) * argY m c (ix2 q k)

/-- One contraction step's part of an entry. -/
def part (p : Fin 8448) (q : Fin 2048) (s : Fin 7) : EReal := (∑ k : Fin 896, term0 m c p q ⟨896 * s.val + k.val, by have := s.isLt; omega⟩)

theorem part_at (t : Fin cfg0.N) (a : Fin 768) (b : Fin 1024) (s : Fin 7) (hs : t.val % 7 = s.val) (p : Fin 8448) (q : Fin 2048)
    (hp : p.val = 768 * (t.val / 14) + a.val) (hq : q.val = 1024 * (t.val / 7 % 2) + b.val) :
    dot (blk0 m c t) (blk1 m c t) a b = part m c p q s := by
  obtain ⟨s, hs'⟩ := s
  obtain rfl : t.val % 7 = s := hs
  obtain ⟨p, hp'⟩ := p
  obtain ⟨q, hq'⟩ := q
  obtain rfl : p = 768 * (t.val / 14) + a.val := hp
  obtain rfl : q = 1024 * (t.val / 7 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch (s : ℕ) (hs : s < 6) : ∀ (t : Fin cfg0.N) (h : t.val % 7 = s) (a : Fin 768) (b : Fin 1024) (p : Fin 8448) (q : Fin 2048)
    (hp : p.val = 768 * (t.val / 14) + a.val) (hq : q.val = 1024 * (t.val / 7 % 2) + b.val),
    ((outsAt0 m c t.val t.isLt).2 (ix2 a b) : EReal) = ∑ i : Fin (s + 1), part m c p q ⟨i.val, by have := i.isLt; omega⟩ := by
  induction s with
  | zero =>
    intro t h a b p q hp hq
    rw [outsAt0_A m c t h (by omega) (by omega)]
    dsimp only
    exact (first_apply ..).trans ((part_at m c t a b 0 h p q hp hq).trans (Fin.sum_univ_one fun i : Fin 1 => part m c p q ⟨i.val, by have := i.isLt; omega⟩).symm)
  | succ s ih =>
    intro t h a b p q hp hq
    rw [outsAt0_B m c t (by omega) (by omega) (by omega)]
    dsimp only
    rw [Fin.sum_univ_castSucc]
    refine (next_apply ..).trans (congrArg₂ (· + ·) ?_ (part_at m c t a b ⟨s + 1, by omega⟩ h p q hp hq))
    exact ih (by omega) ⟨t.val - 1, by have := t.isLt; omega⟩ (by show (t.val - 1) % 7 = s; omega) a b p q
      (by show p.val = _ * ((t.val - 1) / _) + a.val; omega) (by show q.val = _ * ((t.val - 1) / _ % _) + b.val; omega)
theorem block_last (t : Fin cfg0.N) (h : t.val % 7 = 6) (a : Fin 768) (b : Fin 1024) (p : Fin 8448) (q : Fin 2048)
    (hp : p.val = 768 * (t.val / 14) + a.val) (hq : q.val = 1024 * (t.val / 7 % 2) + b.val) :
    ((outsAt0 m c t.val t.isLt).1 (ix2 a b) : EReal) = ∑ i : Fin 7, part m c p q i := by
  rw [outsAt0_C m c t (by omega) (by omega) h]
  dsimp only
  rw [Fin.sum_univ_castSucc]
  refine (last_apply ..).trans (congrArg₂ (· + ·) ?_ (part_at m c t a b 6 h p q hp hq))
  exact scratch m c 5 (by decide) ⟨t.val - 1, by have := t.isLt; omega⟩ (by show (t.val - 1) % 7 = 5; omega) a b p q
    (by show p.val = _ * ((t.val - 1) / _) + a.val; omega) (by show q.val = _ * ((t.val - 1) / _ % _) + b.val; omega)

/-- The product of the whole arrays. -/
def product (p : Fin 8448) (q : Fin 2048) : EReal := ∑ k : Fin 6272, term0 m c p q k

theorem parts (p : Fin 8448) (q : Fin 2048) : ∑ i : Fin 7, part m c p q i = product m c p q := by
  exact Cert.Steps.sum_steps 896 7 (by decide) (term0 m c p q)

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 14) + y0.val, by have := t_lt t; omega⟩ ⟨1024 * (t.val / 7 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 8448) (q : Fin 2048) :
    (Cert.InBDxRefIdeal.Read.val_main_v0 (F := Ideal) (argX m c) (argY m c) (ix2 p q) : EReal) = product m c p q := by
  refine (Cert.InBDxRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.InBDxRefIdeal.Read.val_main_v0 (F := Ideal) (argX m c) (argY m c) := by
  rw [final]
  funext j
  idx_vars j
  exact (reference m c j0 j1).symm

end Cert.InBDxIdeal.Product
end
-- ==== Proof.InBDwValue.lean ====
/- The weights' gradient of the second layer's input projection. -/
module

public import proofs.«01_k».proof.Proof.Gen.InBDwIdeal.Value
public import proofs.«01_k».proof.Proof.Gen.InBDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.InBDwIdeal.Product

open Cert.InBDwIdeal Cert.InBDwIdeal.Gen

/-- A point's part of an entry of its block. -/
def dot (x0 : Vec Ideal S2816x512 .bf16) (x1 : Vec Ideal S2816x896 .bf16) (a : Fin 512) (b : Fin 896) : EReal := ∑ k : Fin 2816, x0 (ix2 k a) * x1 (ix2 k b)

/-! ## The payloads at an index -/

theorem pay1_apply (x0 : Vec Ideal S2816x512 .bf16) (x1 : Vec Ideal S2816x896 .bf16) (a : Fin 512) (b : Fin 896) :
    (k0_pay1 x0 x1 (ix2 a b) : EReal) = dot x0 x1 a b := by
  pointwise [k0_pay1, dot]
theorem pay2_apply (acc : Vec Ideal S512x896 .f32) (x0 : Vec Ideal S2816x512 .bf16) (x1 : Vec Ideal S2816x896 .bf16) (a : Fin 512) (b : Fin 896) :
    (k0_pay2 acc x0 x1 (ix2 a b) : EReal) = acc (ix2 a b) + dot x0 x1 a b := by
  pointwise [k0_pay2, dot]
theorem pay3_apply (acc : Vec Ideal S512x896 .f32) (x0 : Vec Ideal S2816x512 .bf16) (x1 : Vec Ideal S2816x896 .bf16) (a : Fin 512) (b : Fin 896) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x512 .bf16) (h3 : a3.IsWhole) (a4 : Memref sig .tc .vmem S2816x896 .bf16) (h4 : a4.IsWhole)
  (a5 : Memref sig .tc .vmem S512x896 .bf16) (h5 : a5.IsWhole) (a6 : Memref sig .tc .vmem S512x896 .f32) (h6 : a6.IsWhole)
  (x0 : Vec Ideal S2816x512 .bf16) (x1 : Vec Ideal S2816x896 .bf16) (acc : Vec Ideal S512x896 .f32) (a : Fin 512) (b : Fin 896)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x512) zero2 inb_S2816x512_S2816x512_0_0, View.ld_unit_zero (S := S2816x896) zero2 inb_S2816x896_S2816x896_0_0]
  exact (View.read_writes_cons_rows_of_mem (size := S512x896.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x512) zero2 inb_S2816x512_S2816x512_0_0, View.ld_unit_zero (S := S2816x896) zero2 inb_S2816x896_S2816x896_0_0, View.ld_unit_zero (S := S512x896) zero2 inb_S512x896_S512x896_0_0]
  exact (View.read_writes_cons_rows_of_mem (size := S512x896.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x512) zero2 inb_S2816x512_S2816x512_0_0, View.ld_unit_zero (S := S2816x896) zero2 inb_S2816x896_S2816x896_0_0, View.ld_unit_zero (S := S512x896) zero2 inb_S512x896_S512x896_0_0]
  exact (View.read_writes_cons_rows_of_mem (size := S512x896.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 21)] ∧ win0_1.index t = ![(t.val % 3), (t.val / 3 % 7)] ∧ win0_2.index t = ![t.val / 21, (t.val / 3 % 7)] :=
  (by decide +kernel : ∀ t : Fin grid0.N, _)

theorem N_eq : cfg0.N = 84 := by decide +kernel
theorem t_lt (t : Fin cfg0.N) : t.val < 84 := by have := t.isLt; have := N_eq; omega

abbrev argX : FVec Ideal S8448x2048 .f32 := m ((c : Thread nD τ).loc main_arg0)
abbrev argY : FVec Ideal S8448x6272 .f32 := m ((c : Thread nD τ).loc main_arg1)

theorem host0 (j : S8448x2048.Idx) : (V m c main_v0 j : EReal) = argX m c j := rfl
theorem host1 (j : S8448x6272.Idx) : (V m c main_v1 j : EReal) = argY m c j := rfl

abbrev blk0 (t : Fin cfg0.N) : Vec Ideal S2816x512 .bf16 := iblk m c 0 t
theorem blk0_apply (t : Fin cfg0.N) (k : Fin 2816) (a : Fin 512) :
    (blk0 m c t (ix2 k a) : EReal) = V m c main_v0 (ix2 ⟨2816 * (t.val % 3) + k.val, by have := t_lt t; omega⟩ ⟨512 * (t.val / 21) + a.val, by have := t_lt t; omega⟩) := by
  have := t_lt t
  blk_ext [blk0, iblk, idx t]
abbrev blk1 (t : Fin cfg0.N) : Vec Ideal S2816x896 .bf16 := iblk m c 1 t
theorem blk1_apply (t : Fin cfg0.N) (k : Fin 2816) (b : Fin 896) :
    (blk1 m c t (ix2 k b) : EReal) = V m c main_v1 (ix2 ⟨2816 * (t.val % 3) + k.val, by have := t_lt t; omega⟩ ⟨896 * (t.val / 3 % 7) + b.val, by have := t_lt t; omega⟩) := by
  have := t_lt t
  blk_ext [blk1, iblk, idx t]

/-- The product's term at row `k` of the contraction. -/
def term0 (p : Fin 2048) (q : Fin 6272) (k : Fin 8448) : EReal := argX m c (ix2 k p) * argY m c (ix2 k q)

/-- One contraction step's part of an entry. -/
def part (p : Fin 2048) (q : Fin 6272) (s : Fin 3) : EReal := (∑ k : Fin 2816, term0 m c p q ⟨2816 * s.val + k.val, by have := s.isLt; omega⟩)

theorem part_at (t : Fin cfg0.N) (a : Fin 512) (b : Fin 896) (s : Fin 3) (hs : t.val % 3 = s.val) (p : Fin 2048) (q : Fin 6272)
    (hp : p.val = 512 * (t.val / 21) + a.val) (hq : q.val = 896 * (t.val / 3 % 7) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 512 * (t.val / 21) + a.val := hp
  obtain rfl : q = 896 * (t.val / 3 % 7) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 512) (b : Fin 896) (p : Fin 2048) (q : Fin 6272)
    (hp : p.val = 512 * (t.val / 21) + a.val) (hq : q.val = 896 * (t.val / 3 % 7) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 512) (b : Fin 896) (p : Fin 2048) (q : Fin 6272)
    (hp : p.val = 512 * (t.val / 21) + a.val) (hq : q.val = 896 * (t.val / 3 % 7) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 512) (b : Fin 896) (p : Fin 2048) (q : Fin 6272)
    (hp : p.val = 512 * (t.val / 21) + a.val) (hq : q.val = 896 * (t.val / 3 % 7) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 2048) (q : Fin 6272) : EReal := ∑ k : Fin 8448, term0 m c p q k

theorem parts (p : Fin 2048) (q : Fin 6272) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨512 * (t.val / 21) + y0.val, by have := t_lt t; omega⟩ ⟨896 * (t.val / 3 % 7) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 2048) (q : Fin 6272) :
    (Cert.InBDwRefIdeal.Read.val_main_v2 (F := Ideal) (argX m c) (argY m c) (ix2 p q) : EReal) = product m c p q := by
  rw [Cert.InBDwRefIdeal.Read.val_main_v2_apply]
  rw [Cert.InBDwRefIdeal.Read.val_main_v1_apply]
  refine (Cert.InBDwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.InBDwRefIdeal.Read.val_main_v2 (F := Ideal) (argX m c) (argY m c) := by
  rw [final]
  funext j
  idx_vars j
  exact (reference m c j0 j1).symm

end Cert.InBDwIdeal.Product
end
-- ==== Proof.OutValue.lean ====
/- A layer's output projection. -/
module

public import proofs.«01_k».proof.Proof.Gen.OutIdeal.Value
public import proofs.«01_k».proof.Proof.Gen.OutRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.OutIdeal.Product

open Cert.OutIdeal Cert.OutIdeal.Gen

/-- A point's part of an entry of its block. -/
def dot (x0 : Vec Ideal S768x2048 .bf16) (x1 : Vec Ideal S2048x1024 .bf16) (a : Fin 768) (b : Fin 1024) : EReal := ∑ k : Fin 2048, x0 (ix2 a k) * x1 (ix2 k b)

/-! ## The payloads at an index -/

theorem pay1_apply (x0 : Vec Ideal S768x2048 .bf16) (x1 : Vec Ideal S2048x1024 .bf16) (a : Fin 768) (b : Fin 1024) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S2048x1024 .bf16) (h4 : a4.IsWhole)
  (a5 : Memref sig .tc .vmem S768x1024 .f32) (h5 : a5.IsWhole) (a6 : Memref sig .tc .vmem S768x1024 .f32) (h6 : a6.IsWhole)
  (x0 : Vec Ideal S768x2048 .bf16) (x1 : Vec Ideal S2048x1024 .bf16) (acc : Vec Ideal S768x1024 .f32) (a : Fin 768) (b : Fin 1024)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S2048x1024) zero2 inb_S2048x1024_S2048x1024_0_0]
  exact (View.read_writes_cons_rows_of_mem (size := S768x1024.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 2), 0] ∧ win0_1.index t = ![0, (t.val % 2)] ∧ win0_2.index t = ![t.val / 2, (t.val % 2)] :=
  (by decide +kernel : ∀ t : Fin grid0.N, _)

theorem N_eq : cfg0.N = 22 := by decide +kernel
theorem t_lt (t : Fin cfg0.N) : t.val < 22 := by have := t.isLt; have := N_eq; omega

abbrev argX : FVec Ideal S8448x2048 .f32 := m ((c : Thread nD τ).loc main_arg0)
abbrev argY : FVec Ideal S2048x2048 .f32 := m ((c : Thread nD τ).loc main_arg1)

theorem host0 (j : S8448x2048.Idx) : (V m c main_v0 j : EReal) = argX m c j := rfl
theorem host1 (j : S2048x2048.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 2) + a.val, by have := t_lt t; omega⟩ k) := by
  have := t_lt t
  blk_ext [blk0, iblk, idx t]
abbrev blk1 (t : Fin cfg0.N) : Vec Ideal S2048x1024 .bf16 := iblk m c 1 t
theorem blk1_apply (t : Fin cfg0.N) (k : Fin 2048) (b : Fin 1024) :
    (blk1 m c t (ix2 k b) : EReal) = V m c main_v1 (ix2 k ⟨1024 * (t.val % 2) + b.val, by have := t_lt t; omega⟩) := by
  have := t_lt t
  blk_ext [blk1, iblk, idx t]

/-- The product's term at row `k` of the contraction. -/
def term0 (p : Fin 8448) (q : Fin 2048) (k : Fin 2048) : EReal := argX m c (ix2 p k) * argY m c (ix2 k q)

theorem part_at (t : Fin cfg0.N) (a : Fin 768) (b : Fin 1024) (p : Fin 8448) (q : Fin 2048)
    (hp : p.val = 768 * (t.val / 2) + a.val) (hq : q.val = 1024 * (t.val % 2) + b.val) :
    dot (blk0 m c t) (blk1 m c t) a b = (∑ k : Fin 2048, term0 m c p q k) := by
  obtain ⟨p, hp'⟩ := p
  obtain ⟨q, hq'⟩ := q
  obtain rfl : p = 768 * (t.val / 2) + a.val := hp
  obtain rfl : q = 1024 * (t.val % 2) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 2048) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 2) + y0.val, by have := t_lt t; omega⟩ ⟨1024 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 2048) :
    (Cert.OutRefIdeal.Read.val_main_v0 (F := Ideal) (argX m c) (argY m c) (ix2 p q) : EReal) = product m c p q := by
  refine (Cert.OutRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.OutRefIdeal.Read.val_main_v0 (F := Ideal) (argX m c) (argY m c) := by
  rw [final]
  funext j
  idx_vars j
  exact (reference m c j0 j1).symm

end Cert.OutIdeal.Product
end
-- ==== Proof.OutDxValue.lean ====
/- The rows' gradient of a layer's output projection. -/
module

public import proofs.«01_k».proof.Proof.Gen.OutDxIdeal.Value
public import proofs.«01_k».proof.Proof.Gen.OutDxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.OutDxIdeal.Product

open Cert.OutDxIdeal Cert.OutDxIdeal.Gen

/-- A point's part of an entry of its block. -/
def dot (x0 : Vec Ideal S768x2048 .bf16) (x1 : Vec Ideal S1024x2048 .bf16) (a : Fin 768) (b : Fin 1024) : EReal := ∑ k : Fin 2048, x0 (ix2 a k) * x1 (ix2 b k)

/-! ## The payloads at an index -/

theorem pay1_apply (x0 : Vec Ideal S768x2048 .bf16) (x1 : Vec Ideal S1024x2048 .bf16) (a : Fin 768) (b : Fin 1024) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S1024x2048 .bf16) (h4 : a4.IsWhole)
  (a5 : Memref sig .tc .vmem S768x1024 .f32) (h5 : a5.IsWhole) (a6 : Memref sig .tc .vmem S768x1024 .f32) (h6 : a6.IsWhole)
  (x0 : Vec Ideal S768x2048 .bf16) (x1 : Vec Ideal S1024x2048 .bf16) (acc : Vec Ideal S768x1024 .f32) (a : Fin 768) (b : Fin 1024)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S1024x2048) zero2 inb_S1024x2048_S1024x2048_0_0]
  exact (View.read_writes_cons_rows_of_mem (size := S768x1024.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 2), 0] ∧ win0_1.index t = ![(t.val % 2), 0] ∧ win0_2.index t = ![t.val / 2, (t.val % 2)] :=
  (by decide +kernel : ∀ t : Fin grid0.N, _)

theorem N_eq : cfg0.N = 22 := by decide +kernel
theorem t_lt (t : Fin cfg0.N) : t.val < 22 := by have := t.isLt; have := N_eq; omega

abbrev argX : FVec Ideal S8448x2048 .f32 := m ((c : Thread nD τ).loc main_arg0)
abbrev argY : FVec Ideal S2048x2048 .f32 := m ((c : Thread nD τ).loc main_arg1)

theorem host0 (j : S8448x2048.Idx) : (V m c main_v0 j : EReal) = argX m c j := rfl
theorem host1 (j : S2048x2048.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 2) + a.val, by have := t_lt t; omega⟩ k) := by
  have := t_lt t
  blk_ext [blk0, iblk, idx t]
abbrev blk1 (t : Fin cfg0.N) : Vec Ideal S1024x2048 .bf16 := iblk m c 1 t
theorem blk1_apply (t : Fin cfg0.N) (k : Fin 2048) (b : Fin 1024) :
    (blk1 m c t (ix2 b k) : EReal) = V m c main_v1 (ix2 ⟨1024 * (t.val % 2) + b.val, by have := t_lt t; omega⟩ k) := by
  have := t_lt t
  blk_ext [blk1, iblk, idx t]

/-- The product's term at row `k` of the contraction. -/
def term0 (p : Fin 8448) (q : Fin 2048) (k : Fin 2048) : EReal := argX m c (ix2 p k) * argY m c (ix2 q k)

theorem part_at (t : Fin cfg0.N) (a : Fin 768) (b : Fin 1024) (p : Fin 8448) (q : Fin 2048)
    (hp : p.val = 768 * (t.val / 2) + a.val) (hq : q.val = 1024 * (t.val % 2) + b.val) :
    dot (blk0 m c t) (blk1 m c t) a b = (∑ k : Fin 2048, term0 m c p q k) := by
  obtain ⟨p, hp'⟩ := p
  obtain ⟨q, hq'⟩ := q
  obtain rfl : p = 768 * (t.val / 2) + a.val := hp
  obtain rfl : q = 1024 * (t.val % 2) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 2048) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 2) + y0.val, by have := t_lt t; omega⟩ ⟨1024 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 2048) :
    (Cert.OutDxRefIdeal.Read.val_main_v0 (F := Ideal) (argX m c) (argY m c) (ix2 p q) : EReal) = product m c p q := by
  refine (Cert.OutDxRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.OutDxRefIdeal.Read.val_main_v0 (F := Ideal) (argX m c) (argY m c) := by
  rw [final]
  funext j
  idx_vars j
  exact (reference m c j0 j1).symm

end Cert.OutDxIdeal.Product
end
-- ==== Proof.OutDwValue.lean ====
/- The weights' gradient of a layer's output projection. -/
module

public import proofs.«01_k».proof.Proof.Gen.OutDwIdeal.Value
public import proofs.«01_k».proof.Proof.Gen.OutDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.OutDwIdeal.Product

open Cert.OutDwIdeal Cert.OutDwIdeal.Gen

/-- A point's part of an entry of its block. -/
def dot (x0 : Vec Ideal S2816x512 .bf16) (x1 : Vec Ideal S2816x1024 .bf16) (a : Fin 512) (b : Fin 1024) : EReal := ∑ k : Fin 2816, x0 (ix2 k a) * x1 (ix2 k b)

/-! ## The payloads at an index -/

theorem pay1_apply (x0 : Vec Ideal S2816x512 .bf16) (x1 : Vec Ideal S2816x1024 .bf16) (a : Fin 512) (b : Fin 1024) :
    (k0_pay1 x0 x1 (ix2 a b) : EReal) = dot x0 x1 a b := by
  pointwise [k0_pay1, dot]
theorem pay2_apply (acc : Vec Ideal S512x1024 .f32) (x0 : Vec Ideal S2816x512 .bf16) (x1 : Vec Ideal S2816x1024 .bf16) (a : Fin 512) (b : Fin 1024) :
    (k0_pay2 acc x0 x1 (ix2 a b) : EReal) = acc (ix2 a b) + dot x0 x1 a b := by
  pointwise [k0_pay2, dot]
theorem pay3_apply (acc : Vec Ideal S512x1024 .f32) (x0 : Vec Ideal S2816x512 .bf16) (x1 : Vec Ideal S2816x1024 .bf16) (a : Fin 512) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x512 .bf16) (h3 : a3.IsWhole) (a4 : Memref sig .tc .vmem S2816x1024 .bf16) (h4 : a4.IsWhole)
  (a5 : Memref sig .tc .vmem S512x1024 .bf16) (h5 : a5.IsWhole) (a6 : Memref sig .tc .vmem S512x1024 .f32) (h6 : a6.IsWhole)
  (x0 : Vec Ideal S2816x512 .bf16) (x1 : Vec Ideal S2816x1024 .bf16) (acc : Vec Ideal S512x1024 .f32) (a : Fin 512) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0]
  exact (View.read_writes_cons_rows_of_mem (size := S512x1024.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 6)] ∧ win0_1.index t = ![(t.val % 3), (t.val / 3 % 2)] ∧ win0_2.index t = ![t.val / 6, (t.val / 3 % 2)] :=
  (by decide +kernel : ∀ t : Fin grid0.N, _)

theorem N_eq : cfg0.N = 24 := by decide +kernel
theorem t_lt (t : Fin cfg0.N) : t.val < 24 := by have := t.isLt; have := N_eq; omega

abbrev argX : FVec Ideal S8448x2048 .f32 := m ((c : Thread nD τ).loc main_arg0)
abbrev argY : FVec Ideal S8448x2048 .f32 := m ((c : Thread nD τ).loc main_arg1)

theorem host0 (j : S8448x2048.Idx) : (V m c main_v0 j : EReal) = argX m c j := rfl
theorem host1 (j : S8448x2048.Idx) : (V m c main_v1 j : EReal) = argY m c j := rfl

abbrev blk0 (t : Fin cfg0.N) : Vec Ideal S2816x512 .bf16 := iblk m c 0 t
theorem blk0_apply (t : Fin cfg0.N) (k : Fin 2816) (a : Fin 512) :
    (blk0 m c t (ix2 k a) : EReal) = V m c main_v0 (ix2 ⟨2816 * (t.val % 3) + k.val, by have := t_lt t; omega⟩ ⟨512 * (t.val / 6) + a.val, by have := t_lt t; omega⟩) := by
  have := t_lt t
  blk_ext [blk0, iblk, idx t]
abbrev blk1 (t : Fin cfg0.N) : Vec Ideal S2816x1024 .bf16 := iblk m c 1 t
theorem blk1_apply (t : Fin cfg0.N) (k : Fin 2816) (b : Fin 1024) :
    (blk1 m c t (ix2 k b) : EReal) = V m c main_v1 (ix2 ⟨2816 * (t.val % 3) + k.val, by have := t_lt t; omega⟩ ⟨1024 * (t.val / 3 % 2) + b.val, by have := t_lt t; omega⟩) := by
  have := t_lt t
  blk_ext [blk1, iblk, idx t]

/-- The product's term at row `k` of the contraction. -/
def term0 (p : Fin 2048) (q : Fin 2048) (k : Fin 8448) : EReal := argX m c (ix2 k p) * argY m c (ix2 k q)

/-- One contraction step's part of an entry. -/
def part (p : Fin 2048) (q : Fin 2048) (s : Fin 3) : EReal := (∑ k : Fin 2816, term0 m c p q ⟨2816 * s.val + k.val, by have := s.isLt; omega⟩)

theorem part_at (t : Fin cfg0.N) (a : Fin 512) (b : Fin 1024) (s : Fin 3) (hs : t.val % 3 = s.val) (p : Fin 2048) (q : Fin 2048)
    (hp : p.val = 512 * (t.val / 6) + a.val) (hq : q.val = 1024 * (t.val / 3 % 2) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 512 * (t.val / 6) + a.val := hp
  obtain rfl : q = 1024 * (t.val / 3 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 512) (b : Fin 1024) (p : Fin 2048) (q : Fin 2048)
    (hp : p.val = 512 * (t.val / 6) + a.val) (hq : q.val = 1024 * (t.val / 3 % 2) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 512) (b : Fin 1024) (p : Fin 2048) (q : Fin 2048)
    (hp : p.val = 512 * (t.val / 6) + a.val) (hq : q.val = 1024 * (t.val / 3 % 2) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 512) (b : Fin 1024) (p : Fin 2048) (q : Fin 2048)
    (hp : p.val = 512 * (t.val / 6) + a.val) (hq : q.val = 1024 * (t.val / 3 % 2) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 2048) (q : Fin 2048) : EReal := ∑ k : Fin 8448, term0 m c p q k

theorem parts (p : Fin 2048) (q : Fin 2048) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨512 * (t.val / 6) + y0.val, by have := t_lt t; omega⟩ ⟨1024 * (t.val / 3 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 2048) (q : Fin 2048) :
    (Cert.OutDwRefIdeal.Read.val_main_v2 (F := Ideal) (argX m c) (argY m c) (ix2 p q) : EReal) = product m c p q := by
  rw [Cert.OutDwRefIdeal.Read.val_main_v2_apply]
  rw [Cert.OutDwRefIdeal.Read.val_main_v1_apply]
  refine (Cert.OutDwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.OutDwRefIdeal.Read.val_main_v2 (F := Ideal) (argX m c) (argY m c) := by
  rw [final]
  funext j
  idx_vars j
  exact (reference m c j0 j1).symm

end Cert.OutDwIdeal.Product
end
-- ==== Proof.QbValue.lean ====
/- The queries' projection. -/
module

public import proofs.«01_k».proof.Proof.Gen.QbIdeal.Value
public import proofs.«01_k».proof.Proof.Gen.QbRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.QbIdeal.Product

open Cert.QbIdeal Cert.QbIdeal.Gen

/-- A point's part of an entry of its block. -/
def dot (x0 : Vec Ideal S768x512 .bf16) (x1 : Vec Ideal S512x1024 .bf16) (a : Fin 768) (b : Fin 1024) : EReal := ∑ k : Fin 512, x0 (ix2 a k) * x1 (ix2 k b)

/-! ## The payloads at an index -/

theorem pay1_apply (x0 : Vec Ideal S768x512 .bf16) (x1 : Vec Ideal S512x1024 .bf16) (a : Fin 768) (b : Fin 1024) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x512 .bf16) (h3 : a3.IsWhole) (a4 : Memref sig .tc .vmem S512x1024 .bf16) (h4 : a4.IsWhole)
  (a5 : Memref sig .tc .vmem S768x1024 .f32) (h5 : a5.IsWhole) (a6 : Memref sig .tc .vmem S768x1024 .f32) (h6 : a6.IsWhole)
  (x0 : Vec Ideal S768x512 .bf16) (x1 : Vec Ideal S512x1024 .bf16) (acc : Vec Ideal S768x1024 .f32) (a : Fin 768) (b : Fin 1024)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x512) zero2 inb_S768x512_S768x512_0_0, View.ld_unit_zero (S := S512x1024) zero2 inb_S512x1024_S512x1024_0_0]
  exact (View.read_writes_cons_rows_of_mem (size := S768x1024.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 2), 0] ∧ win0_1.index t = ![0, (t.val % 2)] ∧ win0_2.index t = ![t.val / 2, (t.val % 2)] :=
  (by decide +kernel : ∀ t : Fin grid0.N, _)

theorem N_eq : cfg0.N = 22 := by decide +kernel
theorem t_lt (t : Fin cfg0.N) : t.val < 22 := by have := t.isLt; have := N_eq; omega

abbrev argX : FVec Ideal S8448x512 .f32 := m ((c : Thread nD τ).loc main_arg0)
abbrev argY : FVec Ideal S512x2048 .f32 := m ((c : Thread nD τ).loc main_arg1)

theorem host0 (j : S8448x512.Idx) : (V m c main_v0 j : EReal) = argX m c j := rfl
theorem host1 (j : S512x2048.Idx) : (V m c main_v1 j : EReal) = argY m c j := rfl

abbrev blk0 (t : Fin cfg0.N) : Vec Ideal S768x512 .bf16 := iblk m c 0 t
theorem blk0_apply (t : Fin cfg0.N) (k : Fin 512) (a : Fin 768) :
    (blk0 m c t (ix2 a k) : EReal) = V m c main_v0 (ix2 ⟨768 * (t.val / 2) + a.val, by have := t_lt t; omega⟩ k) := by
  have := t_lt t
  blk_ext [blk0, iblk, idx t]
abbrev blk1 (t : Fin cfg0.N) : Vec Ideal S512x1024 .bf16 := iblk m c 1 t
theorem blk1_apply (t : Fin cfg0.N) (k : Fin 512) (b : Fin 1024) :
    (blk1 m c t (ix2 k b) : EReal) = V m c main_v1 (ix2 k ⟨1024 * (t.val % 2) + b.val, by have := t_lt t; omega⟩) := by
  have := t_lt t
  blk_ext [blk1, iblk, idx t]

/-- The product's term at row `k` of the contraction. -/
def term0 (p : Fin 8448) (q : Fin 2048) (k : Fin 512) : EReal := argX m c (ix2 p k) * argY m c (ix2 k q)

theorem part_at (t : Fin cfg0.N) (a : Fin 768) (b : Fin 1024) (p : Fin 8448) (q : Fin 2048)
    (hp : p.val = 768 * (t.val / 2) + a.val) (hq : q.val = 1024 * (t.val % 2) + b.val) :
    dot (blk0 m c t) (blk1 m c t) a b = (∑ k : Fin 512, term0 m c p q k) := by
  obtain ⟨p, hp'⟩ := p
  obtain ⟨q, hq'⟩ := q
  obtain rfl : p = 768 * (t.val / 2) + a.val := hp
  obtain rfl : q = 1024 * (t.val % 2) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 2048) : EReal := ∑ k : Fin 512, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 2) + y0.val, by have := t_lt t; omega⟩ ⟨1024 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 2048) :
    (Cert.QbRefIdeal.Read.val_main_v0 (F := Ideal) (argX m c) (argY m c) (ix2 p q) : EReal) = product m c p q := by
  refine (Cert.QbRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.QbRefIdeal.Read.val_main_v0 (F := Ideal) (argX m c) (argY m c) := by
  rw [final]
  funext j
  idx_vars j
  exact (reference m c j0 j1).symm

end Cert.QbIdeal.Product
end
-- ==== Proof.QbDxValue.lean ====
/- The rows' gradient of the queries' projection. -/
module

public import proofs.«01_k».proof.Proof.Gen.QbDxIdeal.Value
public import proofs.«01_k».proof.Proof.Gen.QbDxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.QbDxIdeal.Product

open Cert.QbDxIdeal Cert.QbDxIdeal.Gen

/-- A point's part of an entry of its block. -/
def dot (x0 : Vec Ideal S768x2048 .bf16) (x1 : Vec Ideal S512x2048 .bf16) (a : Fin 768) (b : Fin 512) : EReal := ∑ k : Fin 2048, x0 (ix2 a k) * x1 (ix2 b k)

/-! ## The payloads at an index -/

theorem pay1_apply (x0 : Vec Ideal S768x2048 .bf16) (x1 : Vec Ideal S512x2048 .bf16) (a : Fin 768) (b : Fin 512) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S512x2048 .bf16) (h4 : a4.IsWhole)
  (a5 : Memref sig .tc .vmem S768x512 .f32) (h5 : a5.IsWhole) (a6 : Memref sig .tc .vmem S768x512 .f32) (h6 : a6.IsWhole)
  (x0 : Vec Ideal S768x2048 .bf16) (x1 : Vec Ideal S512x2048 .bf16) (acc : Vec Ideal S768x512 .f32) (a : Fin 768) (b : Fin 512)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S512x2048) zero2 inb_S512x2048_S512x2048_0_0]
  exact (View.read_writes_cons_rows_of_mem (size := S768x512.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 1), 0] ∧ win0_1.index t = ![0, 0] ∧ win0_2.index t = ![t.val / 1, 0] :=
  (by decide +kernel : ∀ t : Fin grid0.N, _)

theorem N_eq : cfg0.N = 11 := by decide +kernel
theorem t_lt (t : Fin cfg0.N) : t.val < 11 := by have := t.isLt; have := N_eq; omega

abbrev argX : FVec Ideal S8448x2048 .f32 := m ((c : Thread nD τ).loc main_arg0)
abbrev argY : FVec Ideal S512x2048 .f32 := m ((c : Thread nD τ).loc main_arg1)

theorem host0 (j : S8448x2048.Idx) : (V m c main_v0 j : EReal) = argX m c j := rfl
theorem host1 (j : S512x2048.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 1) + a.val, by have := t_lt t; omega⟩ k) := by
  have := t_lt t
  blk_ext [blk0, iblk, idx t]
abbrev blk1 (t : Fin cfg0.N) : Vec Ideal S512x2048 .bf16 := iblk m c 1 t
theorem blk1_apply (t : Fin cfg0.N) (k : Fin 2048) (b : Fin 512) :
    (blk1 m c t (ix2 b k) : EReal) = V m c main_v1 (ix2 ⟨b.val, by have := t_lt t; omega⟩ k) := by
  have := t_lt t
  blk_ext [blk1, iblk, idx t]

/-- The product's term at row `k` of the contraction. -/
def term0 (p : Fin 8448) (q : Fin 512) (k : Fin 2048) : EReal := argX m c (ix2 p k) * argY m c (ix2 q k)

theorem part_at (t : Fin cfg0.N) (a : Fin 768) (b : Fin 512) (p : Fin 8448) (q : Fin 512)
    (hp : p.val = 768 * (t.val / 1) + a.val) (hq : q.val = b.val) :
    dot (blk0 m c t) (blk1 m c t) a b = (∑ k : Fin 2048, term0 m c p q k) := by
  obtain ⟨p, hp'⟩ := p
  obtain ⟨q, hq'⟩ := q
  obtain rfl : p = 768 * (t.val / 1) + a.val := hp
  obtain rfl : q = b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 512) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 1) + y0.val, by have := t_lt t; omega⟩ ⟨y1.val, by have := t_lt t; omega⟩ := by
    have := t_lt t
    blk_ext [idx t]
  rw [e]
  exact (only_apply ..).trans (part_at m c t y0 y1 _ _ rfl rfl)

/-! ## The reference's array -/

theorem reference (p : Fin 8448) (q : Fin 512) :
    (Cert.QbDxRefIdeal.Read.val_main_v0 (F := Ideal) (argX m c) (argY m c) (ix2 p q) : EReal) = product m c p q := by
  refine (Cert.QbDxRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.QbDxRefIdeal.Read.val_main_v0 (F := Ideal) (argX m c) (argY m c) := by
  rw [final]
  funext j
  idx_vars j
  exact (reference m c j0 j1).symm

end Cert.QbDxIdeal.Product
end
-- ==== Proof.QbDwValue.lean ====
/- The weights' gradient of the queries' projection. -/
module

public import proofs.«01_k».proof.Proof.Gen.QbDwIdeal.Value
public import proofs.«01_k».proof.Proof.Gen.QbDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.QbDwIdeal.Product

open Cert.QbDwIdeal Cert.QbDwIdeal.Gen

/-- A point's part of an entry of its block. -/
def dot (x0 : Vec Ideal S2816x512 .bf16) (x1 : Vec Ideal S2816x1024 .bf16) (a : Fin 512) (b : Fin 1024) : EReal := ∑ k : Fin 2816, x0 (ix2 k a) * x1 (ix2 k b)

/-! ## The payloads at an index -/

theorem pay1_apply (x0 : Vec Ideal S2816x512 .bf16) (x1 : Vec Ideal S2816x1024 .bf16) (a : Fin 512) (b : Fin 1024) :
    (k0_pay1 x0 x1 (ix2 a b) : EReal) = dot x0 x1 a b := by
  pointwise [k0_pay1, dot]
theorem pay2_apply (acc : Vec Ideal S512x1024 .f32) (x0 : Vec Ideal S2816x512 .bf16) (x1 : Vec Ideal S2816x1024 .bf16) (a : Fin 512) (b : Fin 1024) :
    (k0_pay2 acc x0 x1 (ix2 a b) : EReal) = acc (ix2 a b) + dot x0 x1 a b := by
  pointwise [k0_pay2, dot]
theorem pay3_apply (acc : Vec Ideal S512x1024 .f32) (x0 : Vec Ideal S2816x512 .bf16) (x1 : Vec Ideal S2816x1024 .bf16) (a : Fin 512) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x512 .bf16) (h3 : a3.IsWhole) (a4 : Memref sig .tc .vmem S2816x1024 .bf16) (h4 : a4.IsWhole)
  (a5 : Memref sig .tc .vmem S512x1024 .bf16) (h5 : a5.IsWhole) (a6 : Memref sig .tc .vmem S512x1024 .f32) (h6 : a6.IsWhole)
  (x0 : Vec Ideal S2816x512 .bf16) (x1 : Vec Ideal S2816x1024 .bf16) (acc : Vec Ideal S512x1024 .f32) (a : Fin 512) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0]
  exact (View.read_writes_cons_rows_of_mem (size := S512x1024.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x512) zero2 inb_S2816x512_S2816x512_0_0, View.ld_unit_zero (S := S2816x1024) zero2 inb_S2816x1024_S2816x1024_0_0, View.ld_unit_zero (S := S512x1024) zero2 inb_S512x1024_S512x1024_0_0]
  exact (View.read_writes_cons_rows_of_mem (size := S512x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 6)] ∧ win0_1.index t = ![(t.val % 3), (t.val / 3 % 2)] ∧ win0_2.index t = ![t.val / 6, (t.val / 3 % 2)] :=
  (by decide +kernel : ∀ t : Fin grid0.N, _)

theorem N_eq : cfg0.N = 6 := by decide +kernel
theorem t_lt (t : Fin cfg0.N) : t.val < 6 := by have := t.isLt; have := N_eq; omega

abbrev argX : FVec Ideal S8448x512 .f32 := m ((c : Thread nD τ).loc main_arg0)
abbrev argY : FVec Ideal S8448x2048 .f32 := m ((c : Thread nD τ).loc main_arg1)

theorem host0 (j : S8448x512.Idx) : (V m c main_v0 j : EReal) = argX m c j := rfl
theorem host1 (j : S8448x2048.Idx) : (V m c main_v1 j : EReal) = argY m c j := rfl

abbrev blk0 (t : Fin cfg0.N) : Vec Ideal S2816x512 .bf16 := iblk m c 0 t
theorem blk0_apply (t : Fin cfg0.N) (k : Fin 2816) (a : Fin 512) :
    (blk0 m c t (ix2 k a) : EReal) = V m c main_v0 (ix2 ⟨2816 * (t.val % 3) + k.val, by have := t_lt t; omega⟩ ⟨512 * (t.val / 6) + a.val, by have := t_lt t; omega⟩) := by
  have := t_lt t
  blk_ext [blk0, iblk, idx t]
abbrev blk1 (t : Fin cfg0.N) : Vec Ideal S2816x1024 .bf16 := iblk m c 1 t
theorem blk1_apply (t : Fin cfg0.N) (k : Fin 2816) (b : Fin 1024) :
    (blk1 m c t (ix2 k b) : EReal) = V m c main_v1 (ix2 ⟨2816 * (t.val % 3) + k.val, by have := t_lt t; omega⟩ ⟨1024 * (t.val / 3 % 2) + b.val, by have := t_lt t; omega⟩) := by
  have := t_lt t
  blk_ext [blk1, iblk, idx t]

/-- The product's term at row `k` of the contraction. -/
def term0 (p : Fin 512) (q : Fin 2048) (k : Fin 8448) : EReal := argX m c (ix2 k p) * argY m c (ix2 k q)

/-- One contraction step's part of an entry. -/
def part (p : Fin 512) (q : Fin 2048) (s : Fin 3) : EReal := (∑ k : Fin 2816, term0 m c p q ⟨2816 * s.val + k.val, by have := s.isLt; omega⟩)

theorem part_at (t : Fin cfg0.N) (a : Fin 512) (b : Fin 1024) (s : Fin 3) (hs : t.val % 3 = s.val) (p : Fin 512) (q : Fin 2048)
    (hp : p.val = 512 * (t.val / 6) + a.val) (hq : q.val = 1024 * (t.val / 3 % 2) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 512 * (t.val / 6) + a.val := hp
  obtain rfl : q = 1024 * (t.val / 3 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 512) (b : Fin 1024) (p : Fin 512) (q : Fin 2048)
    (hp : p.val = 512 * (t.val / 6) + a.val) (hq : q.val = 1024 * (t.val / 3 % 2) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 512) (b : Fin 1024) (p : Fin 512) (q : Fin 2048)
    (hp : p.val = 512 * (t.val / 6) + a.val) (hq : q.val = 1024 * (t.val / 3 % 2) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 512) (b : Fin 1024) (p : Fin 512) (q : Fin 2048)
    (hp : p.val = 512 * (t.val / 6) + a.val) (hq : q.val = 1024 * (t.val / 3 % 2) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 512) (q : Fin 2048) : EReal := ∑ k : Fin 8448, term0 m c p q k

theorem parts (p : Fin 512) (q : Fin 2048) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨512 * (t.val / 6) + y0.val, by have := t_lt t; omega⟩ ⟨1024 * (t.val / 3 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 512) (q : Fin 2048) :
    (Cert.QbDwRefIdeal.Read.val_main_v2 (F := Ideal) (argX m c) (argY m c) (ix2 p q) : EReal) = product m c p q := by
  rw [Cert.QbDwRefIdeal.Read.val_main_v2_apply]
  rw [Cert.QbDwRefIdeal.Read.val_main_v1_apply]
  refine (Cert.QbDwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.QbDwRefIdeal.Read.val_main_v2 (F := Ideal) (argX m c) (argY m c) := by
  rw [final]
  funext j
  idx_vars j
  exact (reference m c j0 j1).symm

end Cert.QbDwIdeal.Product
end
-- ==== Proof.KvbValue.lean ====
/- The keys' and values' projection. -/
module

public import proofs.«01_k».proof.Proof.Gen.KvbIdeal.Value
public import proofs.«01_k».proof.Proof.Gen.KvbRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.KvbIdeal.Product

open Cert.KvbIdeal Cert.KvbIdeal.Gen

/-- A point's part of an entry of its block. -/
def dot (x0 : Vec Ideal S768x256 .bf16) (x1 : Vec Ideal S256x1024 .bf16) (a : Fin 768) (b : Fin 1024) : EReal := ∑ k : Fin 256, x0 (ix2 a k) * x1 (ix2 k b)

/-! ## The payloads at an index -/

theorem pay1_apply (x0 : Vec Ideal S768x256 .bf16) (x1 : Vec Ideal S256x1024 .bf16) (a : Fin 768) (b : Fin 1024) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x256 .bf16) (h3 : a3.IsWhole) (a4 : Memref sig .tc .vmem S256x1024 .bf16) (h4 : a4.IsWhole)
  (a5 : Memref sig .tc .vmem S768x1024 .bf16) (h5 : a5.IsWhole) (a6 : Memref sig .tc .vmem S768x1024 .f32) (h6 : a6.IsWhole)
  (x0 : Vec Ideal S768x256 .bf16) (x1 : Vec Ideal S256x1024 .bf16) (acc : Vec Ideal S768x1024 .f32) (a : Fin 768) (b : Fin 1024)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x256) zero2 inb_S768x256_S768x256_0_0, View.ld_unit_zero (S := S256x1024) zero2 inb_S256x1024_S256x1024_0_0]
  exact (View.read_writes_cons_rows_of_mem (size := S768x1024.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 2), 0] ∧ win0_1.index t = ![0, (t.val % 2)] ∧ win0_2.index t = ![t.val / 2, (t.val % 2)] :=
  (by decide +kernel : ∀ t : Fin grid0.N, _)

theorem N_eq : cfg0.N = 22 := by decide +kernel
theorem t_lt (t : Fin cfg0.N) : t.val < 22 := by have := t.isLt; have := N_eq; omega

abbrev argX : FVec Ideal S8448x256 .f32 := m ((c : Thread nD τ).loc main_arg0)
abbrev argY : FVec Ideal S256x2048 .f32 := m ((c : Thread nD τ).loc main_arg1)

theorem host0 (j : S8448x256.Idx) : (V m c main_v0 j : EReal) = argX m c j := rfl
theorem host1 (j : S256x2048.Idx) : (V m c main_v1 j : EReal) = argY m c j := rfl

abbrev blk0 (t : Fin cfg0.N) : Vec Ideal S768x256 .bf16 := iblk m c 0 t
theorem blk0_apply (t : Fin cfg0.N) (k : Fin 256) (a : Fin 768) :
    (blk0 m c t (ix2 a k) : EReal) = V m c main_v0 (ix2 ⟨768 * (t.val / 2) + a.val, by have := t_lt t; omega⟩ k) := by
  have := t_lt t
  blk_ext [blk0, iblk, idx t]
abbrev blk1 (t : Fin cfg0.N) : Vec Ideal S256x1024 .bf16 := iblk m c 1 t
theorem blk1_apply (t : Fin cfg0.N) (k : Fin 256) (b : Fin 1024) :
    (blk1 m c t (ix2 k b) : EReal) = V m c main_v1 (ix2 k ⟨1024 * (t.val % 2) + b.val, by have := t_lt t; omega⟩) := by
  have := t_lt t
  blk_ext [blk1, iblk, idx t]

/-- The product's term at row `k` of the contraction. -/
def term0 (p : Fin 8448) (q : Fin 2048) (k : Fin 256) : EReal := argX m c (ix2 p k) * argY m c (ix2 k q)

theorem part_at (t : Fin cfg0.N) (a : Fin 768) (b : Fin 1024) (p : Fin 8448) (q : Fin 2048)
    (hp : p.val = 768 * (t.val / 2) + a.val) (hq : q.val = 1024 * (t.val % 2) + b.val) :
    dot (blk0 m c t) (blk1 m c t) a b = (∑ k : Fin 256, term0 m c p q k) := by
  obtain ⟨p, hp'⟩ := p
  obtain ⟨q, hq'⟩ := q
  obtain rfl : p = 768 * (t.val / 2) + a.val := hp
  obtain rfl : q = 1024 * (t.val % 2) + b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 2048) : EReal := ∑ k : Fin 256, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 2) + y0.val, by have := t_lt t; omega⟩ ⟨1024 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 8448) (q : Fin 2048) :
    (Cert.KvbRefIdeal.Read.val_main_v1 (F := Ideal) (argX m c) (argY m c) (ix2 p q) : EReal) = product m c p q := by
  rw [Cert.KvbRefIdeal.Read.val_main_v1_apply]
  refine (Cert.KvbRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.KvbRefIdeal.Read.val_main_v1 (F := Ideal) (argX m c) (argY m c) := by
  rw [final]
  funext j
  idx_vars j
  exact (reference m c j0 j1).symm

end Cert.KvbIdeal.Product
end
-- ==== Proof.KvbDxValue.lean ====
/- The rows' gradient of the keys' and values' projection. -/
module

public import proofs.«01_k».proof.Proof.Gen.KvbDxIdeal.Value
public import proofs.«01_k».proof.Proof.Gen.KvbDxRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.KvbDxIdeal.Product

open Cert.KvbDxIdeal Cert.KvbDxIdeal.Gen

/-- A point's part of an entry of its block. -/
def dot (x0 : Vec Ideal S768x2048 .bf16) (x1 : Vec Ideal S256x2048 .bf16) (a : Fin 768) (b : Fin 256) : EReal := ∑ k : Fin 2048, x0 (ix2 a k) * x1 (ix2 b k)

/-! ## The payloads at an index -/

theorem pay1_apply (x0 : Vec Ideal S768x2048 .bf16) (x1 : Vec Ideal S256x2048 .bf16) (a : Fin 768) (b : Fin 256) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S768x2048 .bf16) (h3 : a3.IsWhole) (a4 : Memref sig .tc .vmem S256x2048 .bf16) (h4 : a4.IsWhole)
  (a5 : Memref sig .tc .vmem S768x256 .f32) (h5 : a5.IsWhole) (a6 : Memref sig .tc .vmem S768x256 .f32) (h6 : a6.IsWhole)
  (x0 : Vec Ideal S768x2048 .bf16) (x1 : Vec Ideal S256x2048 .bf16) (acc : Vec Ideal S768x256 .f32) (a : Fin 768) (b : Fin 256)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S768x2048) zero2 inb_S768x2048_S768x2048_0_0, View.ld_unit_zero (S := S256x2048) zero2 inb_S256x2048_S256x2048_0_0]
  exact (View.read_writes_cons_rows_of_mem (size := S768x256.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 1), 0] ∧ win0_1.index t = ![0, 0] ∧ win0_2.index t = ![t.val / 1, 0] :=
  (by decide +kernel : ∀ t : Fin grid0.N, _)

theorem N_eq : cfg0.N = 11 := by decide +kernel
theorem t_lt (t : Fin cfg0.N) : t.val < 11 := by have := t.isLt; have := N_eq; omega

abbrev argX : FVec Ideal S8448x2048 .f32 := m ((c : Thread nD τ).loc main_arg0)
abbrev argY : FVec Ideal S256x2048 .f32 := m ((c : Thread nD τ).loc main_arg1)

theorem host0 (j : S8448x2048.Idx) : (V m c main_v0 j : EReal) = argX m c j := rfl
theorem host1 (j : S256x2048.Idx) : (V m c main_v1 j : EReal) = argY m c j := rfl

abbrev blk0 (t : Fin cfg0.N) : Vec Ideal S768x2048 .bf16 := iblk m c 0 t
theorem blk0_apply (t : Fin cfg0.N) (k : Fin 2048) (a : Fin 768) :
    (blk0 m c t (ix2 a k) : EReal) = V m c main_v0 (ix2 ⟨768 * (t.val / 1) + a.val, by have := t_lt t; omega⟩ k) := by
  have := t_lt t
  blk_ext [blk0, iblk, idx t]
abbrev blk1 (t : Fin cfg0.N) : Vec Ideal S256x2048 .bf16 := iblk m c 1 t
theorem blk1_apply (t : Fin cfg0.N) (k : Fin 2048) (b : Fin 256) :
    (blk1 m c t (ix2 b k) : EReal) = V m c main_v1 (ix2 ⟨b.val, by have := t_lt t; omega⟩ k) := by
  have := t_lt t
  blk_ext [blk1, iblk, idx t]

/-- The product's term at row `k` of the contraction. -/
def term0 (p : Fin 8448) (q : Fin 256) (k : Fin 2048) : EReal := argX m c (ix2 p k) * argY m c (ix2 q k)

theorem part_at (t : Fin cfg0.N) (a : Fin 768) (b : Fin 256) (p : Fin 8448) (q : Fin 256)
    (hp : p.val = 768 * (t.val / 1) + a.val) (hq : q.val = b.val) :
    dot (blk0 m c t) (blk1 m c t) a b = (∑ k : Fin 2048, term0 m c p q k) := by
  obtain ⟨p, hp'⟩ := p
  obtain ⟨q, hq'⟩ := q
  obtain rfl : p = 768 * (t.val / 1) + a.val := hp
  obtain rfl : q = b.val := hq
  exact Finset.sum_congr rfl fun k _ => congrArg₂ (· * ·) ((blk0_apply m c t k a).trans (host0 m c _)) ((blk1_apply m c t k b).trans (host1 m c _))

/-- The product of the whole arrays. -/
def product (p : Fin 8448) (q : Fin 256) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨768 * (t.val / 1) + y0.val, by have := t_lt t; omega⟩ ⟨y1.val, by have := t_lt t; omega⟩ := by
    have := t_lt t
    blk_ext [idx t]
  rw [e]
  exact (only_apply ..).trans (part_at m c t y0 y1 _ _ rfl rfl)

/-! ## The reference's array -/

theorem reference (p : Fin 8448) (q : Fin 256) :
    (Cert.KvbDxRefIdeal.Read.val_main_v0 (F := Ideal) (argX m c) (argY m c) (ix2 p q) : EReal) = product m c p q := by
  refine (Cert.KvbDxRefIdeal.Read.val_main_v0_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.KvbDxRefIdeal.Read.val_main_v0 (F := Ideal) (argX m c) (argY m c) := by
  rw [final]
  funext j
  idx_vars j
  exact (reference m c j0 j1).symm

end Cert.KvbDxIdeal.Product
end
-- ==== Proof.KvbDwValue.lean ====
/- The weights' gradient of the keys' and values' projection. -/
module

public import proofs.«01_k».proof.Proof.Gen.KvbDwIdeal.Value
public import proofs.«01_k».proof.Proof.Gen.KvbDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.KvbDwIdeal.Product

open Cert.KvbDwIdeal Cert.KvbDwIdeal.Gen

/-- A point's part of an entry of its block. -/
def dot (x0 : Vec Ideal S2816x256 .bf16) (x1 : Vec Ideal S2816x1024 .bf16) (a : Fin 256) (b : Fin 1024) : EReal := ∑ k : Fin 2816, x0 (ix2 k a) * x1 (ix2 k b)

/-! ## The payloads at an index -/

theorem pay1_apply (x0 : Vec Ideal S2816x256 .bf16) (x1 : Vec Ideal S2816x1024 .bf16) (a : Fin 256) (b : Fin 1024) :
    (k0_pay1 x0 x1 (ix2 a b) : EReal) = dot x0 x1 a b := by
  pointwise [k0_pay1, dot]
theorem pay2_apply (acc : Vec Ideal S256x1024 .f32) (x0 : Vec Ideal S2816x256 .bf16) (x1 : Vec Ideal S2816x1024 .bf16) (a : Fin 256) (b : Fin 1024) :
    (k0_pay2 acc x0 x1 (ix2 a b) : EReal) = acc (ix2 a b) + dot x0 x1 a b := by
  pointwise [k0_pay2, dot]
theorem pay3_apply (acc : Vec Ideal S256x1024 .f32) (x0 : Vec Ideal S2816x256 .bf16) (x1 : Vec Ideal S2816x1024 .bf16) (a : Fin 256) (b : Fin 1024) :
    (k0_pay3 acc x0 x1 (ix2 a b) : EReal) = acc (ix2 a b) + dot x0 x1 a b := by
  pointwise [k0_pay3, dot]

/-! ## The cases' contents at an index -/

section cases
variable (c : Dev nD) (i : grid0.Coords)
  (a3 : Memref sig .tc .vmem S2816x256 .bf16) (h3 : a3.IsWhole) (a4 : Memref sig .tc .vmem S2816x1024 .bf16) (h4 : a4.IsWhole)
  (a5 : Memref sig .tc .vmem S256x1024 .bf16) (h5 : a5.IsWhole) (a6 : Memref sig .tc .vmem S256x1024 .f32) (h6 : a6.IsWhole)
  (x0 : Vec Ideal S2816x256 .bf16) (x1 : Vec Ideal S2816x1024 .bf16) (acc : Vec Ideal S256x1024 .f32) (a : Fin 256) (b : Fin 1024)

theorem zero2 : (![0, 0] : Fin 2 → ℕ) = fun _ => 0 := by funext d; fin_cases d <;> rfl

theorem first_apply (hc0) (hc1) (hc2) :
    (sout0_A_0 (F := Ideal) c i a3 h3 a4 h4 a5 h5 a6 h6 hc0 hc1 hc2 x0 x1 (ix2 a b) : EReal) = dot x0 x1 a b := by
  unfold sout0_A_0
  unfold kernelRun0_A
  dsimp only
  sl_unfold_words
  simp only [View.readAt_eq_ld, h3.read_unread, h4.read_unread, h6.read_unread,
    View.ld_unit_zero (S := S2816x256) zero2 inb_S2816x256_S2816x256_0_0, View.ld_unit_zero (S := S2816x1024) zero2 inb_S2816x1024_S2816x1024_0_0]
  exact (View.read_writes_cons_rows_of_mem (size := S256x1024.size) VS0_0 _ _ _ _ (ix2 a b) (ix2 a b) rfl (Nat.zero_add _).symm rfl).trans (pay1_apply  x0 x1 a b)

theorem next_apply (hc0) (hc1) (hc2) :
    (sout0_B_0 (F := Ideal) c i a3 h3 a4 h4 a5 h5 a6 h6 hc0 hc1 hc2 x0 x1 acc (ix2 a b) : EReal) = acc (ix2 a b) + dot x0 x1 a b := by
  unfold sout0_B_0
  unfold kernelRun0_B
  dsimp only
  sl_unfold_words
  simp only [View.readAt_eq_ld, h3.read_unread, h4.read_unread, h6.read_unread,
    View.ld_unit_zero (S := S2816x256) zero2 inb_S2816x256_S2816x256_0_0, View.ld_unit_zero (S := S2816x1024) zero2 inb_S2816x1024_S2816x1024_0_0, View.ld_unit_zero (S := S256x1024) zero2 inb_S256x1024_S256x1024_0_0]
  exact (View.read_writes_cons_rows_of_mem (size := S256x1024.size) VS0_0 _ _ _ _ (ix2 a b) (ix2 a b) rfl (Nat.zero_add _).symm rfl).trans (pay2_apply acc x0 x1 a b)

theorem last_apply (hc0) (hc1) (hc2) :
    (out0_C_2 (F := Ideal) c i a3 h3 a4 h4 a5 h5 a6 h6 hc0 hc1 hc2 x0 x1 acc (ix2 a b) : EReal) = acc (ix2 a b) + dot x0 x1 a b := by
  unfold out0_C_2
  unfold kernelRun0_C
  dsimp only
  sl_unfold_words
  simp only [View.readAt_eq_ld, h3.read_unread, h4.read_unread, h6.read_unread,
    View.ld_unit_zero (S := S2816x256) zero2 inb_S2816x256_S2816x256_0_0, View.ld_unit_zero (S := S2816x1024) zero2 inb_S2816x1024_S2816x1024_0_0, View.ld_unit_zero (S := S256x1024) zero2 inb_S256x1024_S256x1024_0_0]
  exact (View.read_writes_cons_rows_of_mem (size := S256x1024.size) VO0_2 _ _ _ _ (ix2 a b) (ix2 a b) rfl (Nat.zero_add _).symm rfl).trans (pay3_apply acc x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val % 3), (t.val / 6)] ∧ win0_1.index t = ![(t.val % 3), (t.val / 3 % 2)] ∧ win0_2.index t = ![t.val / 6, (t.val / 3 % 2)] :=
  (by decide +kernel : ∀ t : Fin grid0.N, _)

theorem N_eq : cfg0.N = 6 := by decide +kernel
theorem t_lt (t : Fin cfg0.N) : t.val < 6 := by have := t.isLt; have := N_eq; omega

abbrev argX : FVec Ideal S8448x256 .f32 := m ((c : Thread nD τ).loc main_arg0)
abbrev argY : FVec Ideal S8448x2048 .f32 := m ((c : Thread nD τ).loc main_arg1)

theorem host0 (j : S8448x256.Idx) : (V m c main_v0 j : EReal) = argX m c j := rfl
theorem host1 (j : S8448x2048.Idx) : (V m c main_v1 j : EReal) = argY m c j := rfl

abbrev blk0 (t : Fin cfg0.N) : Vec Ideal S2816x256 .bf16 := iblk m c 0 t
theorem blk0_apply (t : Fin cfg0.N) (k : Fin 2816) (a : Fin 256) :
    (blk0 m c t (ix2 k a) : EReal) = V m c main_v0 (ix2 ⟨2816 * (t.val % 3) + k.val, by have := t_lt t; omega⟩ ⟨256 * (t.val / 6) + a.val, by have := t_lt t; omega⟩) := by
  have := t_lt t
  blk_ext [blk0, iblk, idx t]
abbrev blk1 (t : Fin cfg0.N) : Vec Ideal S2816x1024 .bf16 := iblk m c 1 t
theorem blk1_apply (t : Fin cfg0.N) (k : Fin 2816) (b : Fin 1024) :
    (blk1 m c t (ix2 k b) : EReal) = V m c main_v1 (ix2 ⟨2816 * (t.val % 3) + k.val, by have := t_lt t; omega⟩ ⟨1024 * (t.val / 3 % 2) + b.val, by have := t_lt t; omega⟩) := by
  have := t_lt t
  blk_ext [blk1, iblk, idx t]

/-- The product's term at row `k` of the contraction. -/
def term0 (p : Fin 256) (q : Fin 2048) (k : Fin 8448) : EReal := argX m c (ix2 k p) * argY m c (ix2 k q)

/-- One contraction step's part of an entry. -/
def part (p : Fin 256) (q : Fin 2048) (s : Fin 3) : EReal := (∑ k : Fin 2816, term0 m c p q ⟨2816 * s.val + k.val, by have := s.isLt; omega⟩)

theorem part_at (t : Fin cfg0.N) (a : Fin 256) (b : Fin 1024) (s : Fin 3) (hs : t.val % 3 = s.val) (p : Fin 256) (q : Fin 2048)
    (hp : p.val = 256 * (t.val / 6) + a.val) (hq : q.val = 1024 * (t.val / 3 % 2) + b.val) :
    dot (blk0 m c t) (blk1 m c t) a b = part m c p q s := by
  obtain ⟨s, hs'⟩ := s
  obtain rfl : t.val % 3 = s := hs
  obtain ⟨p, hp'⟩ := p
  obtain ⟨q, hq'⟩ := q
  obtain rfl : p = 256 * (t.val / 6) + a.val := hp
  obtain rfl : q = 1024 * (t.val / 3 % 2) + b.val := hq
  exact Finset.sum_congr rfl fun k _ => congrArg₂ (· * ·) ((blk0_apply m c t k a).trans (host0 m c _)) ((blk1_apply m c t k b).trans (host1 m c _))

/-- After a step but the last, the scratch holds the parts so far. -/
theorem scratch_first (t : Fin cfg0.N) (h : t.val % 3 = 0) (a : Fin 256) (b : Fin 1024) (p : Fin 256) (q : Fin 2048)
    (hp : p.val = 256 * (t.val / 6) + a.val) (hq : q.val = 1024 * (t.val / 3 % 2) + b.val) :
    ((outsAt0 m c t.val t.isLt).2 (ix2 a b) : EReal) = part m c p q 0 := by
  rw [outsAt0_A m c t h (by omega) (by omega)]
  dsimp only
  exact (first_apply ..).trans (part_at m c t a b 0 h p q hp hq)
theorem scratch_next (t : Fin cfg0.N) (h : t.val % 3 = 1) (a : Fin 256) (b : Fin 1024) (p : Fin 256) (q : Fin 2048)
    (hp : p.val = 256 * (t.val / 6) + a.val) (hq : q.val = 1024 * (t.val / 3 % 2) + b.val) :
    ((outsAt0 m c t.val t.isLt).2 (ix2 a b) : EReal) = part m c p q 0 + part m c p q 1 := by
  rw [outsAt0_B m c t (by omega) h (by omega)]
  dsimp only
  refine (next_apply ..).trans (congrArg₂ (· + ·) ?_ (part_at m c t a b 1 h p q hp hq))
  exact scratch_first m c ⟨t.val - 1, by have := t.isLt; omega⟩ (by show (t.val - 1) % 3 = 0; omega) a b p q
    (by show p.val = _ * ((t.val - 1) / _) + a.val; omega) (by show q.val = _ * ((t.val - 1) / _ % _) + b.val; omega)
theorem block_last (t : Fin cfg0.N) (h : t.val % 3 = 2) (a : Fin 256) (b : Fin 1024) (p : Fin 256) (q : Fin 2048)
    (hp : p.val = 256 * (t.val / 6) + a.val) (hq : q.val = 1024 * (t.val / 3 % 2) + b.val) :
    ((outsAt0 m c t.val t.isLt).1 (ix2 a b) : EReal) = part m c p q 0 + part m c p q 1 + part m c p q 2 := by
  rw [outsAt0_C m c t (by omega) (by omega) h]
  dsimp only
  refine (last_apply ..).trans (congrArg₂ (· + ·) ?_ (part_at m c t a b 2 h p q hp hq))
  exact scratch_next m c ⟨t.val - 1, by have := t.isLt; omega⟩ (by show (t.val - 1) % 3 = 1; omega) a b p q
    (by show p.val = _ * ((t.val - 1) / _) + a.val; omega) (by show q.val = _ * ((t.val - 1) / _ % _) + b.val; omega)

/-- The product of the whole arrays. -/
def product (p : Fin 256) (q : Fin 2048) : EReal := ∑ k : Fin 8448, term0 m c p q k

theorem parts (p : Fin 256) (q : Fin 2048) : part m c p q 0 + part m c p q 1 + part m c p q 2 = product m c p q := by
  exact (Fin.sum_univ_three (part m c p q)).symm.trans (Cert.Steps.sum_steps 2816 3 (by decide) (term0 m c p q))

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v2).slice (win0_2.rect t)).emb (ix2 y0 y1)
      = ix2 ⟨256 * (t.val / 6) + y0.val, by have := t_lt t; omega⟩ ⟨1024 * (t.val / 3 % 2) + y1.val, by have := t_lt t; omega⟩ := by
    have := t_lt t
    blk_ext [idx t]
  rw [e]
  exact (block_last m c t ((flush0_2 t).mp hf) y0 y1 _ _ rfl rfl).trans (parts m c _ _)

/-! ## The reference's array -/

theorem reference (p : Fin 256) (q : Fin 2048) :
    (Cert.KvbDwRefIdeal.Read.val_main_v2 (F := Ideal) (argX m c) (argY m c) (ix2 p q) : EReal) = product m c p q := by
  rw [Cert.KvbDwRefIdeal.Read.val_main_v2_apply]
  rw [Cert.KvbDwRefIdeal.Read.val_main_v1_apply]
  refine (Cert.KvbDwRefIdeal.Read.val_main_v0_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.KvbDwRefIdeal.Read.val_main_v2 (F := Ideal) (argX m c) (argY m c) := by
  rw [final]
  funext j
  idx_vars j
  exact (reference m c j0 j1).symm

end Cert.KvbDwIdeal.Product
end
-- ==== Proof.AdamStep.lean ====
/- One AdamW step of one weight, from its summed gradient. -/
module

public import Idealize.ShloMosaic.PureOps.Ideal.Laws

@[expose] public section

noncomputable section

open Idealize.ShloMosaic

namespace Cert.AdamStep

/-- The new first moment. -/
def first (g m : Ideal .f32) : Ideal .f32 :=
  FloatOps.addf (FloatOps.mulf (FloatOps.ofBits .f32 0x3F666666#32) m) (FloatOps.mulf (FloatOps.ofBits .f32 0x3DCCCCCD#32) g)

/-- The new second moment. -/
def second (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The weight's update: the corrected moments' quotient and the decay, times the learning rate. -/
def update (g w m v : Ideal .f32) : Ideal .f32 :=
  FloatOps.mulf (FloatOps.ofBits .f32 0xBA83126F#32)
    (FloatOps.addf
      (FloatOps.divf (FloatOps.divf (first g m) (FloatOps.ofBits .f32 0x3F26BD02#32))
        (FloatOps.addf (FloatOps.sqrt (FloatOps.divf (second g v) (FloatOps.ofBits .f32 0x3C231ACC#32)))
          (FloatOps.ofBits .f32 0x322BCC77#32)))
      (FloatOps.mulf (FloatOps.ofBits .f32 0x3C23D70A#32) w))

theorem update_congr {g g' w w' m m' v v' : Ideal .f32} (hg : g = g') (hw : w = w') (hm : m = m') (hv : v = v') :
    update g w m v = update g' w' m' v' := by rw [hg, hw, hm, hv]

end Cert.AdamStep
end
-- ==== Proof.StepUpValue.lean ====
/- AdamW's step of the feed-forward block's first weight. -/
module

public import proofs.«01_k».proof.Proof.Gen.StepUpIdeal.Value
public import proofs.«01_k».proof.Proof.Gen.StepUpRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepUpIdeal.Step

open Cert.StepUpIdeal Cert.StepUpIdeal.Gen Cert.StepUpRefIdeal.Read

theorem zero2 : (![0, 0] : Fin 2 → ℕ) = fun _ => 0 := by funext d; fin_cases d <;> rfl

/-! ## The body's results at an index -/

section body
variable (x0 : Vec Ideal S8x64x1408 .bf16) (x1 x2 x3 : Vec Ideal S64x1408 .f32) (a : Fin 64) (b : Fin 1408)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 32 := by decide +kernel
theorem t_lt (t : Fin cfg0.N) : t.val < 32 := by have := t.isLt; have := N_eq; omega

abbrev parts : FVec Ideal S8x2048x1408 .bf16 := m ((c : Thread nD τ).loc main_arg0)
abbrev weight : FVec Ideal S2048x1408 .f32 := m ((c : Thread nD τ).loc main_arg1)
abbrev mom1 : FVec Ideal S2048x1408 .f32 := m ((c : Thread nD τ).loc main_arg2)
abbrev mom2 : FVec Ideal S2048x1408 .f32 := m ((c : Thread nD τ).loc main_arg3)

/-- Row `a` of point `t`'s blocks. -/
abbrev row (t : Fin cfg0.N) (a : Fin 64) : Fin 2048 := ⟨64 * t.val + a.val, by have := t_lt t; omega⟩

abbrev blk0 (t : Fin cfg0.N) : Vec Ideal S8x64x1408 .bf16 := iblk m c 0 t
theorem blk0_apply (t : Fin cfg0.N) (k : Fin 8) (a : Fin 64) (b : Fin 1408) : blk0 m c t (ix3 k a b) = parts m c (ix3 k (row t a) b) := by
  have := t_lt t
  blk_ext [blk0, iblk, idx t]
abbrev blk1 (t : Fin cfg0.N) : Vec Ideal S64x1408 .f32 := iblk m c 1 t
theorem blk1_apply (t : Fin cfg0.N) (a : Fin 64) (b : Fin 1408) : blk1 m c t (ix2 a b) = weight m c (ix2 (row t a) b) := by
  have := t_lt t
  blk_ext [blk1, iblk, idx t]
abbrev blk2 (t : Fin cfg0.N) : Vec Ideal S64x1408 .f32 := iblk m c 2 t
theorem blk2_apply (t : Fin cfg0.N) (a : Fin 64) (b : Fin 1408) : blk2 m c t (ix2 a b) = mom1 m c (ix2 (row t a) b) := by
  have := t_lt t
  blk_ext [blk2, iblk, idx t]
abbrev blk3 (t : Fin cfg0.N) : Vec Ideal S64x1408 .f32 := iblk m c 3 t
theorem blk3_apply (t : Fin cfg0.N) (a : Fin 64) (b : Fin 1408) : blk3 m c t (ix2 a b) = mom2 m c (ix2 (row t a) b) := by
  have := t_lt t
  blk_ext [blk3, iblk, idx t]

/-- The gradient at an entry of the weight. -/
def grad (p : Fin 2048) (q : Fin 1408) : Ideal .f32 := (∑ k : Fin 8, (parts m c (ix3 k p q) : EReal) : EReal)

theorem total_blk (t : Fin cfg0.N) (a : Fin 64) (b : Fin 1408) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 2048) (q : Fin 1408) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepUpIdeal.Step
end
-- ==== Proof.StepDownValue.lean ====
/- AdamW's step of the feed-forward block's second weight. -/
module

public import proofs.«01_k».proof.Proof.Gen.StepDownIdeal.Value
public import proofs.«01_k».proof.Proof.Gen.StepDownRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepDownIdeal.Step

open Cert.StepDownIdeal Cert.StepDownIdeal.Gen Cert.StepDownRefIdeal.Read

theorem zero2 : (![0, 0] : Fin 2 → ℕ) = fun _ => 0 := by funext d; fin_cases d <;> rfl

/-! ## The body's results at an index -/

section body
variable (x0 : Vec Ideal S8x64x2048 .bf16) (x1 x2 x3 : Vec Ideal S64x2048 .f32) (a : Fin 64) (b : Fin 2048)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 11 := by decide +kernel
theorem t_lt (t : Fin cfg0.N) : t.val < 11 := by have := t.isLt; have := N_eq; omega

abbrev parts : FVec Ideal S8x704x2048 .bf16 := m ((c : Thread nD τ).loc main_arg0)
abbrev weight : FVec Ideal S704x2048 .f32 := m ((c : Thread nD τ).loc main_arg1)
abbrev mom1 : FVec Ideal S704x2048 .f32 := m ((c : Thread nD τ).loc main_arg2)
abbrev mom2 : FVec Ideal S704x2048 .f32 := m ((c : Thread nD τ).loc main_arg3)

/-- Row `a` of point `t`'s blocks. -/
abbrev row (t : Fin cfg0.N) (a : Fin 64) : Fin 704 := ⟨64 * t.val + a.val, by have := t_lt t; omega⟩

abbrev blk0 (t : Fin cfg0.N) : Vec Ideal S8x64x2048 .bf16 := iblk m c 0 t
theorem blk0_apply (t : Fin cfg0.N) (k : Fin 8) (a : Fin 64) (b : Fin 2048) : blk0 m c t (ix3 k a b) = parts m c (ix3 k (row t a) b) := by
  have := t_lt t
  blk_ext [blk0, iblk, idx t]
abbrev blk1 (t : Fin cfg0.N) : Vec Ideal S64x2048 .f32 := iblk m c 1 t
theorem blk1_apply (t : Fin cfg0.N) (a : Fin 64) (b : Fin 2048) : blk1 m c t (ix2 a b) = weight m c (ix2 (row t a) b) := by
  have := t_lt t
  blk_ext [blk1, iblk, idx t]
abbrev blk2 (t : Fin cfg0.N) : Vec Ideal S64x2048 .f32 := iblk m c 2 t
theorem blk2_apply (t : Fin cfg0.N) (a : Fin 64) (b : Fin 2048) : blk2 m c t (ix2 a b) = mom1 m c (ix2 (row t a) b) := by
  have := t_lt t
  blk_ext [blk2, iblk, idx t]
abbrev blk3 (t : Fin cfg0.N) : Vec Ideal S64x2048 .f32 := iblk m c 3 t
theorem blk3_apply (t : Fin cfg0.N) (a : Fin 64) (b : Fin 2048) : blk3 m c t (ix2 a b) = mom2 m c (ix2 (row t a) b) := by
  have := t_lt t
  blk_ext [blk3, iblk, idx t]

/-- The gradient at an entry of the weight. -/
def grad (p : Fin 704) (q : Fin 2048) : Ideal .f32 := (∑ k : Fin 8, (parts m c (ix3 k p q) : EReal) : EReal)

theorem total_blk (t : Fin cfg0.N) (a : Fin 64) (b : Fin 2048) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 704) (q : Fin 2048) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepDownIdeal.Step
end
-- ==== Proof.StepInAValue.lean ====
/- AdamW's step of the first layer's input projection. -/
module

public import proofs.«01_k».proof.Proof.Gen.StepInAIdeal.Value
public import proofs.«01_k».proof.Proof.Gen.StepInARefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepInAIdeal.Step

open Cert.StepInAIdeal Cert.StepInAIdeal.Gen Cert.StepInARefIdeal.Read

theorem zero2 : (![0, 0] : Fin 2 → ℕ) = fun _ => 0 := by funext d; fin_cases d <;> rfl

/-! ## The body's results at an index -/

section body
variable (x0 : Vec Ideal S8x64x488 .bf16) (x1 x2 x3 : Vec Ideal S64x488 .f32) (a : Fin 64) (b : Fin 488)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 32 := by decide +kernel
theorem t_lt (t : Fin cfg0.N) : t.val < 32 := by have := t.isLt; have := N_eq; omega

abbrev parts : FVec Ideal S8x2048x488 .bf16 := m ((c : Thread nD τ).loc main_arg0)
abbrev weight : FVec Ideal S2048x488 .f32 := m ((c : Thread nD τ).loc main_arg1)
abbrev mom1 : FVec Ideal S2048x488 .f32 := m ((c : Thread nD τ).loc main_arg2)
abbrev mom2 : FVec Ideal S2048x488 .f32 := m ((c : Thread nD τ).loc main_arg3)

/-- Row `a` of point `t`'s blocks. -/
abbrev row (t : Fin cfg0.N) (a : Fin 64) : Fin 2048 := ⟨64 * t.val + a.val, by have := t_lt t; omega⟩

abbrev blk0 (t : Fin cfg0.N) : Vec Ideal S8x64x488 .bf16 := iblk m c 0 t
theorem blk0_apply (t : Fin cfg0.N) (k : Fin 8) (a : Fin 64) (b : Fin 488) : blk0 m c t (ix3 k a b) = parts m c (ix3 k (row t a) b) := by
  have := t_lt t
  blk_ext [blk0, iblk, idx t]
abbrev blk1 (t : Fin cfg0.N) : Vec Ideal S64x488 .f32 := iblk m c 1 t
theorem blk1_apply (t : Fin cfg0.N) (a : Fin 64) (b : Fin 488) : blk1 m c t (ix2 a b) = weight m c (ix2 (row t a) b) := by
  have := t_lt t
  blk_ext [blk1, iblk, idx t]
abbrev blk2 (t : Fin cfg0.N) : Vec Ideal S64x488 .f32 := iblk m c 2 t
theorem blk2_apply (t : Fin cfg0.N) (a : Fin 64) (b : Fin 488) : blk2 m c t (ix2 a b) = mom1 m c (ix2 (row t a) b) := by
  have := t_lt t
  blk_ext [blk2, iblk, idx t]
abbrev blk3 (t : Fin cfg0.N) : Vec Ideal S64x488 .f32 := iblk m c 3 t
theorem blk3_apply (t : Fin cfg0.N) (a : Fin 64) (b : Fin 488) : blk3 m c t (ix2 a b) = mom2 m c (ix2 (row t a) b) := by
  have := t_lt t
  blk_ext [blk3, iblk, idx t]

/-- The gradient at an entry of the weight. -/
def grad (p : Fin 2048) (q : Fin 488) : Ideal .f32 := (∑ k : Fin 8, (parts m c (ix3 k p q) : EReal) : EReal)

theorem total_blk (t : Fin cfg0.N) (a : Fin 64) (b : Fin 488) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 2048) (q : Fin 488) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepInAIdeal.Step
end
-- ==== Proof.StepInBValue.lean ====
/- AdamW's step of the second layer's input projection. -/
module

public import proofs.«01_k».proof.Proof.Gen.StepInBIdeal.Value
public import proofs.«01_k».proof.Proof.Gen.StepInBRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepInBIdeal.Step

open Cert.StepInBIdeal Cert.StepInBIdeal.Gen Cert.StepInBRefIdeal.Read

theorem zero2 : (![0, 0] : Fin 2 → ℕ) = fun _ => 0 := by funext d; fin_cases d <;> rfl

/-! ## The body's results at an index -/

section body
variable (x0 : Vec Ideal S8x64x772 .bf16) (x1 x2 x3 : Vec Ideal S64x772 .f32) (a : Fin 64) (b : Fin 772)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 32 := by decide +kernel
theorem t_lt (t : Fin cfg0.N) : t.val < 32 := by have := t.isLt; have := N_eq; omega

abbrev parts : FVec Ideal S8x2048x772 .bf16 := m ((c : Thread nD τ).loc main_arg0)
abbrev weight : FVec Ideal S2048x772 .f32 := m ((c : Thread nD τ).loc main_arg1)
abbrev mom1 : FVec Ideal S2048x772 .f32 := m ((c : Thread nD τ).loc main_arg2)
abbrev mom2 : FVec Ideal S2048x772 .f32 := m ((c : Thread nD τ).loc main_arg3)

/-- Row `a` of point `t`'s blocks. -/
abbrev row (t : Fin cfg0.N) (a : Fin 64) : Fin 2048 := ⟨64 * t.val + a.val, by have := t_lt t; omega⟩

abbrev blk0 (t : Fin cfg0.N) : Vec Ideal S8x64x772 .bf16 := iblk m c 0 t
theorem blk0_apply (t : Fin cfg0.N) (k : Fin 8) (a : Fin 64) (b : Fin 772) : blk0 m c t (ix3 k a b) = parts m c (ix3 k (row t a) b) := by
  have := t_lt t
  blk_ext [blk0, iblk, idx t]
abbrev blk1 (t : Fin cfg0.N) : Vec Ideal S64x772 .f32 := iblk m c 1 t
theorem blk1_apply (t : Fin cfg0.N) (a : Fin 64) (b : Fin 772) : blk1 m c t (ix2 a b) = weight m c (ix2 (row t a) b) := by
  have := t_lt t
  blk_ext [blk1, iblk, idx t]
abbrev blk2 (t : Fin cfg0.N) : Vec Ideal S64x772 .f32 := iblk m c 2 t
theorem blk2_apply (t : Fin cfg0.N) (a : Fin 64) (b : Fin 772) : blk2 m c t (ix2 a b) = mom1 m c (ix2 (row t a) b) := by
  have := t_lt t
  blk_ext [blk2, iblk, idx t]
abbrev blk3 (t : Fin cfg0.N) : Vec Ideal S64x772 .f32 := iblk m c 3 t
theorem blk3_apply (t : Fin cfg0.N) (a : Fin 64) (b : Fin 772) : blk3 m c t (ix2 a b) = mom2 m c (ix2 (row t a) b) := by
  have := t_lt t
  blk_ext [blk3, iblk, idx t]

/-- The gradient at an entry of the weight. -/
def grad (p : Fin 2048) (q : Fin 772) : Ideal .f32 := (∑ k : Fin 8, (parts m c (ix3 k p q) : EReal) : EReal)

theorem total_blk (t : Fin cfg0.N) (a : Fin 64) (b : Fin 772) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 2048) (q : Fin 772) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepInBIdeal.Step
end
-- ==== Proof.StepOutValue.lean ====
/- AdamW's step of the output projection. -/
module

public import proofs.«01_k».proof.Proof.Gen.StepOutIdeal.Value
public import proofs.«01_k».proof.Proof.Gen.StepOutRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepOutIdeal.Step

open Cert.StepOutIdeal Cert.StepOutIdeal.Gen Cert.StepOutRefIdeal.Read

theorem zero2 : (![0, 0] : Fin 2 → ℕ) = fun _ => 0 := by funext d; fin_cases d <;> rfl

/-! ## The body's results at an index -/

section body
variable (x0 : Vec Ideal S8x64x2048 .bf16) (x1 x2 x3 : Vec Ideal S64x2048 .f32) (a : Fin 64) (b : Fin 2048)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 4 := by decide +kernel
theorem t_lt (t : Fin cfg0.N) : t.val < 4 := by have := t.isLt; have := N_eq; omega

abbrev parts : FVec Ideal S8x256x2048 .bf16 := m ((c : Thread nD τ).loc main_arg0)
abbrev weight : FVec Ideal S256x2048 .f32 := m ((c : Thread nD τ).loc main_arg1)
abbrev mom1 : FVec Ideal S256x2048 .f32 := m ((c : Thread nD τ).loc main_arg2)
abbrev mom2 : FVec Ideal S256x2048 .f32 := m ((c : Thread nD τ).loc main_arg3)

/-- Row `a` of point `t`'s blocks. -/
abbrev row (t : Fin cfg0.N) (a : Fin 64) : Fin 256 := ⟨64 * t.val + a.val, by have := t_lt t; omega⟩

abbrev blk0 (t : Fin cfg0.N) : Vec Ideal S8x64x2048 .bf16 := iblk m c 0 t
theorem blk0_apply (t : Fin cfg0.N) (k : Fin 8) (a : Fin 64) (b : Fin 2048) : blk0 m c t (ix3 k a b) = parts m c (ix3 k (row t a) b) := by
  have := t_lt t
  blk_ext [blk0, iblk, idx t]
abbrev blk1 (t : Fin cfg0.N) : Vec Ideal S64x2048 .f32 := iblk m c 1 t
theorem blk1_apply (t : Fin cfg0.N) (a : Fin 64) (b : Fin 2048) : blk1 m c t (ix2 a b) = weight m c (ix2 (row t a) b) := by
  have := t_lt t
  blk_ext [blk1, iblk, idx t]
abbrev blk2 (t : Fin cfg0.N) : Vec Ideal S64x2048 .f32 := iblk m c 2 t
theorem blk2_apply (t : Fin cfg0.N) (a : Fin 64) (b : Fin 2048) : blk2 m c t (ix2 a b) = mom1 m c (ix2 (row t a) b) := by
  have := t_lt t
  blk_ext [blk2, iblk, idx t]
abbrev blk3 (t : Fin cfg0.N) : Vec Ideal S64x2048 .f32 := iblk m c 3 t
theorem blk3_apply (t : Fin cfg0.N) (a : Fin 64) (b : Fin 2048) : blk3 m c t (ix2 a b) = mom2 m c (ix2 (row t a) b) := by
  have := t_lt t
  blk_ext [blk3, iblk, idx t]

/-- The gradient at an entry of the weight. -/
def grad (p : Fin 256) (q : Fin 2048) : Ideal .f32 := (∑ k : Fin 8, (parts m c (ix3 k p q) : EReal) : EReal)

theorem total_blk (t : Fin cfg0.N) (a : Fin 64) (b : Fin 2048) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 256) (q : Fin 2048) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepOutIdeal.Step
end
-- ==== Proof.StepQbValue.lean ====
/- AdamW's step of the query projection. -/
module

public import proofs.«01_k».proof.Proof.Gen.StepQbIdeal.Value
public import proofs.«01_k».proof.Proof.Gen.StepQbRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepQbIdeal.Step

open Cert.StepQbIdeal Cert.StepQbIdeal.Gen Cert.StepQbRefIdeal.Read

theorem zero2 : (![0, 0] : Fin 2 → ℕ) = fun _ => 0 := by funext d; fin_cases d <;> rfl

/-! ## The body's results at an index -/

section body
variable (x0 : Vec Ideal S8x64x192 .bf16) (x1 x2 x3 : Vec Ideal S64x192 .f32) (a : Fin 64) (b : Fin 192)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 8 := by decide +kernel
theorem t_lt (t : Fin cfg0.N) : t.val < 8 := by have := t.isLt; have := N_eq; omega

abbrev parts : FVec Ideal S8x512x192 .bf16 := m ((c : Thread nD τ).loc main_arg0)
abbrev weight : FVec Ideal S512x192 .f32 := m ((c : Thread nD τ).loc main_arg1)
abbrev mom1 : FVec Ideal S512x192 .f32 := m ((c : Thread nD τ).loc main_arg2)
abbrev mom2 : FVec Ideal S512x192 .f32 := m ((c : Thread nD τ).loc main_arg3)

/-- Row `a` of point `t`'s blocks. -/
abbrev row (t : Fin cfg0.N) (a : Fin 64) : Fin 512 := ⟨64 * t.val + a.val, by have := t_lt t; omega⟩

abbrev blk0 (t : Fin cfg0.N) : Vec Ideal S8x64x192 .bf16 := iblk m c 0 t
theorem blk0_apply (t : Fin cfg0.N) (k : Fin 8) (a : Fin 64) (b : Fin 192) : blk0 m c t (ix3 k a b) = parts m c (ix3 k (row t a) b) := by
  have := t_lt t
  blk_ext [blk0, iblk, idx t]
abbrev blk1 (t : Fin cfg0.N) : Vec Ideal S64x192 .f32 := iblk m c 1 t
theorem blk1_apply (t : Fin cfg0.N) (a : Fin 64) (b : Fin 192) : blk1 m c t (ix2 a b) = weight m c (ix2 (row t a) b) := by
  have := t_lt t
  blk_ext [blk1, iblk, idx t]
abbrev blk2 (t : Fin cfg0.N) : Vec Ideal S64x192 .f32 := iblk m c 2 t
theorem blk2_apply (t : Fin cfg0.N) (a : Fin 64) (b : Fin 192) : blk2 m c t (ix2 a b) = mom1 m c (ix2 (row t a) b) := by
  have := t_lt t
  blk_ext [blk2, iblk, idx t]
abbrev blk3 (t : Fin cfg0.N) : Vec Ideal S64x192 .f32 := iblk m c 3 t
theorem blk3_apply (t : Fin cfg0.N) (a : Fin 64) (b : Fin 192) : blk3 m c t (ix2 a b) = mom2 m c (ix2 (row t a) b) := by
  have := t_lt t
  blk_ext [blk3, iblk, idx t]

/-- The gradient at an entry of the weight. -/
def grad (p : Fin 512) (q : Fin 192) : Ideal .f32 := (∑ k : Fin 8, (parts m c (ix3 k p q) : EReal) : EReal)

theorem total_blk (t : Fin cfg0.N) (a : Fin 64) (b : Fin 192) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 512) (q : Fin 192) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepQbIdeal.Step
end
-- ==== Proof.StepKvbValue.lean ====
/- AdamW's step of the key and value projection. -/
module

public import proofs.«01_k».proof.Proof.Gen.StepKvbIdeal.Value
public import proofs.«01_k».proof.Proof.Gen.StepKvbRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepKvbIdeal.Step

open Cert.StepKvbIdeal Cert.StepKvbIdeal.Gen Cert.StepKvbRefIdeal.Read

theorem zero2 : (![0, 0] : Fin 2 → ℕ) = fun _ => 0 := by funext d; fin_cases d <;> rfl

/-! ## The body's results at an index -/

section body
variable (x0 : Vec Ideal S8x64x256 .bf16) (x1 x2 x3 : Vec Ideal S64x256 .f32) (a : Fin 64) (b : Fin 256)

/-- The parts' sum. -/
def total : Ideal .f32 := (∑ k : Fin 8, (x0 (ix3 k a b) : EReal) : EReal)

theorem grad_apply : out0_4 x0 x1 x2 x3 (ix2 a b) = total x0 a b := by
  unfold out0_4 k0_pay5 total
  rw [Value.canon4_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

theorem sum_apply : k0_pay5 x0 x1 x2 x3 (ix2 a b) = total x0 a b := by
  rw [← grad_apply x0 x1 x2 x3 a b]
  unfold out0_4
  rw [View.canon_unit_zero zero2]

theorem first_apply : out0_6 x0 x1 x2 x3 (ix2 a b) = first (total x0 a b) (x2 (ix2 a b)) := by
  unfold out0_6
  rw [View.canon_unit_zero zero2, View.ld_unit_zero zero2, ← sum_apply x0 x1 x2 x3]
  rfl

theorem second_apply : out0_7 x0 x1 x2 x3 (ix2 a b) = second (total x0 a b) (x3 (ix2 a b)) := by
  unfold out0_7
  rw [View.canon_unit_zero zero2, View.ld_unit_zero zero2, ← sum_apply x0 x1 x2 x3]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero zero2, View.ld_unit_zero zero2, View.ld_unit_zero zero2, ← sum_apply x0 x1 x2 x3]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 4 := by decide +kernel
theorem t_lt (t : Fin cfg0.N) : t.val < 4 := by have := t.isLt; have := N_eq; omega

abbrev parts : FVec Ideal S8x256x256 .bf16 := m ((c : Thread nD τ).loc main_arg0)
abbrev weight : FVec Ideal S256x256 .f32 := m ((c : Thread nD τ).loc main_arg1)
abbrev mom1 : FVec Ideal S256x256 .f32 := m ((c : Thread nD τ).loc main_arg2)
abbrev mom2 : FVec Ideal S256x256 .f32 := m ((c : Thread nD τ).loc main_arg3)

/-- Row `a` of point `t`'s blocks. -/
abbrev row (t : Fin cfg0.N) (a : Fin 64) : Fin 256 := ⟨64 * t.val + a.val, by have := t_lt t; omega⟩

abbrev blk0 (t : Fin cfg0.N) : Vec Ideal S8x64x256 .bf16 := iblk m c 0 t
theorem blk0_apply (t : Fin cfg0.N) (k : Fin 8) (a : Fin 64) (b : Fin 256) : blk0 m c t (ix3 k a b) = parts m c (ix3 k (row t a) b) := by
  have := t_lt t
  blk_ext [blk0, iblk, idx t]
abbrev blk1 (t : Fin cfg0.N) : Vec Ideal S64x256 .f32 := iblk m c 1 t
theorem blk1_apply (t : Fin cfg0.N) (a : Fin 64) (b : Fin 256) : blk1 m c t (ix2 a b) = weight m c (ix2 (row t a) b) := by
  have := t_lt t
  blk_ext [blk1, iblk, idx t]
abbrev blk2 (t : Fin cfg0.N) : Vec Ideal S64x256 .f32 := iblk m c 2 t
theorem blk2_apply (t : Fin cfg0.N) (a : Fin 64) (b : Fin 256) : blk2 m c t (ix2 a b) = mom1 m c (ix2 (row t a) b) := by
  have := t_lt t
  blk_ext [blk2, iblk, idx t]
abbrev blk3 (t : Fin cfg0.N) : Vec Ideal S64x256 .f32 := iblk m c 3 t
theorem blk3_apply (t : Fin cfg0.N) (a : Fin 64) (b : Fin 256) : blk3 m c t (ix2 a b) = mom2 m c (ix2 (row t a) b) := by
  have := t_lt t
  blk_ext [blk3, iblk, idx t]

/-- The gradient at an entry of the weight. -/
def grad (p : Fin 256) (q : Fin 256) : Ideal .f32 := (∑ k : Fin 8, (parts m c (ix3 k p q) : EReal) : EReal)

theorem total_blk (t : Fin cfg0.N) (a : Fin 64) (b : Fin 256) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 256) (q : Fin 256) : val_main_v1 (F := Ideal) (parts m c) (ix2 p q) = grad m c p q := by
  refine (val_main_v1_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v1 (F := Ideal) (parts m c) := by
  rw [final4]
  funext j
  idx_vars j
  exact (reference m c j0 j1).symm

/-- The kernel's update is the reference's. -/
theorem value5 : (dats m 0 c).arrAt 5 cfg0.N = val_main_v25 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v6 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v12 (F := Ideal) (parts m c) (mom2 m c) := by
  rw [final7]
  funext j
  idx_vars j
  exact (congrArg (fun g => second g _) (reference m c j0 j1)).symm

end Cert.StepKvbIdeal.Step
end
-- ==== Proof.StepAdaValue.lean ====
/- AdamW's step of the modulation. -/
module

public import proofs.«01_k».proof.Proof.Gen.StepAdaIdeal.Value
public import proofs.«01_k».proof.Proof.Gen.StepAdaRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepAdaIdeal.Step

open Cert.StepAdaIdeal Cert.StepAdaIdeal.Gen Cert.StepAdaRefIdeal.Read

theorem zero2 : (![0, 0] : Fin 2 → ℕ) = fun _ => 0 := by funext d; fin_cases d <;> rfl
theorem zero3 : (![0, 0, 0] : Fin 3 → ℕ) = fun _ => 0 := by funext d; fin_cases d <;> rfl

/-! ## The body's results at an index -/

section body
variable (x0 : Vec Ideal S1x64x1536 .f32) (x1 x2 x3 : Vec Ideal S64x1536 .f32) (a : Fin 64) (b : Fin 1536)

/-- The parts' sum. -/
def total : Ideal .f32 := (∑ k : Fin 1, (x0 (ix3 k a b) : EReal) : EReal)

theorem sum_apply : k0_pay1 (View.ld x0 r0_0) (ix2 a b) = total x0 a b := by
  unfold total
  rw [View.ld_unit_zero zero3, Fin.sum_univ_one]
  have h := Value.canon4_eq x0 (ix2 a b)
  rw [View.canon_unit_zero zero2] at h
  exact h.trans (congrArg x0 (funext fun d => Fin.ext (by fin_cases d <;> rfl)))

theorem grad_apply : out0_4 x0 x1 x2 x3 (ix2 a b) = total x0 a b := by
  unfold out0_4
  rw [View.canon_unit_zero zero2, sum_apply]

theorem first_apply : out0_6 x0 x1 x2 x3 (ix2 a b) = first (total x0 a b) (x2 (ix2 a b)) := by
  unfold out0_6
  rw [View.canon_unit_zero zero2, View.ld_unit_zero (S := S64x1536) zero2, ← sum_apply x0]
  rfl

theorem second_apply : out0_7 x0 x1 x2 x3 (ix2 a b) = second (total x0 a b) (x3 (ix2 a b)) := by
  unfold out0_7
  rw [View.canon_unit_zero zero2, View.ld_unit_zero (S := S64x1536) zero2, ← sum_apply x0]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero (S := S64x1536) zero2, View.ld_unit_zero (S := S64x1536) zero2, View.ld_unit_zero (S := S64x1536) zero2, ← sum_apply x0]
  rfl

end body

/-! ## The arrays behind the blocks -/

variable (m : (ℓ : Loc nD τ sig) → Buf (Elt Ideal) ℓ) (c : Dev nD)

/-- Point `t`'s blocks are the rows from `64 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 32 := by decide +kernel
theorem t_lt (t : Fin cfg0.N) : t.val < 32 := by have := t.isLt; have := N_eq; omega

abbrev parts : FVec Ideal S1x2048x1536 .f32 := m ((c : Thread nD τ).loc main_arg0)
abbrev weight : FVec Ideal S2048x1536 .f32 := m ((c : Thread nD τ).loc main_arg1)
abbrev mom1 : FVec Ideal S2048x1536 .f32 := m ((c : Thread nD τ).loc main_arg2)
abbrev mom2 : FVec Ideal S2048x1536 .f32 := m ((c : Thread nD τ).loc main_arg3)

/-- Row `a` of point `t`'s blocks. -/
abbrev row (t : Fin cfg0.N) (a : Fin 64) : Fin 2048 := ⟨64 * t.val + a.val, by have := t_lt t; omega⟩

abbrev blk0 (t : Fin cfg0.N) : Vec Ideal S1x64x1536 .f32 := iblk m c 0 t
theorem blk0_apply (t : Fin cfg0.N) (k : Fin 1) (a : Fin 64) (b : Fin 1536) : blk0 m c t (ix3 k a b) = parts m c (ix3 k (row t a) b) := by
  have := t_lt t
  blk_ext [blk0, iblk, idx t]
abbrev blk1 (t : Fin cfg0.N) : Vec Ideal S64x1536 .f32 := iblk m c 1 t
theorem blk1_apply (t : Fin cfg0.N) (a : Fin 64) (b : Fin 1536) : blk1 m c t (ix2 a b) = weight m c (ix2 (row t a) b) := by
  have := t_lt t
  blk_ext [blk1, iblk, idx t]
abbrev blk2 (t : Fin cfg0.N) : Vec Ideal S64x1536 .f32 := iblk m c 2 t
theorem blk2_apply (t : Fin cfg0.N) (a : Fin 64) (b : Fin 1536) : blk2 m c t (ix2 a b) = mom1 m c (ix2 (row t a) b) := by
  have := t_lt t
  blk_ext [blk2, iblk, idx t]
abbrev blk3 (t : Fin cfg0.N) : Vec Ideal S64x1536 .f32 := iblk m c 3 t
theorem blk3_apply (t : Fin cfg0.N) (a : Fin 64) (b : Fin 1536) : blk3 m c t (ix2 a b) = mom2 m c (ix2 (row t a) b) := by
  have := t_lt t
  blk_ext [blk3, iblk, idx t]

/-- The gradient at an entry of the weight. -/
def grad (p : Fin 2048) (q : Fin 1536) : Ideal .f32 := (∑ k : Fin 1, (parts m c (ix3 k p q) : EReal) : EReal)

theorem total_blk (t : Fin cfg0.N) (a : Fin 64) (b : Fin 1536) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 2048) (q : Fin 1536) : val_main_v0 (F := Ideal) (parts m c) (ix2 p q) = grad m c p q := by
  refine (val_main_v0_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v0 (F := Ideal) (parts m c) := by
  rw [final4]
  funext j
  idx_vars j
  exact (reference m c j0 j1).symm

/-- The kernel's update is the reference's. -/
theorem value5 : (dats m 0 c).arrAt 5 cfg0.N = val_main_v24 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v5 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v11 (F := Ideal) (parts m c) (mom2 m c) := by
  rw [final7]
  funext j
  idx_vars j
  exact (congrArg (fun g => second g _) (reference m c j0 j1)).symm

end Cert.StepAdaIdeal.Step
end
-- ==== Proof.SumSmallValue.lean ====
/- The sum of the devices' gradients of the small weights, packed in rows. -/
module

public import proofs.«01_k».proof.Proof.Gen.SumSmallIdeal.Value
public import proofs.«01_k».proof.Proof.Gen.SumSmallRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)

namespace Cert.SumSmallIdeal.Sum

open Cert.SumSmallIdeal Cert.SumSmallIdeal.Gen Cert.SumSmallRefIdeal.Read

theorem zero2 : (![0, 0] : Fin 2 → ℕ) = fun _ => 0 := by funext d; fin_cases d <;> rfl

/-! ## The body's result at an index -/

section body
variable (x0 : Vec Ideal S8x8x128 .f32) (a : Fin 8) (b : Fin 128)

/-- The parts' sum. -/
def total : Ideal .f32 := (∑ k : Fin 8, (x0 (ix3 k a b) : EReal) : EReal)

theorem sum_apply : out0_1 x0 (ix2 a b) = total x0 a b := by
  unfold out0_1 total
  rw [Value.canon1_eq, Fin.sum_univ_eight]
  refine congrArg₂ (fun s t : EReal => s + t) (congrArg₂ (fun s t : EReal => s + t) (congrArg₂ (fun s t : EReal => s + t) (congrArg₂ (fun s t : EReal => s + t) (congrArg₂ (fun s t : EReal => s + t)
    (congrArg₂ (fun s t : EReal => s + t) (congrArg₂ (fun s t : EReal => s + t) ?_ ?_) ?_) ?_) ?_) ?_) ?_) ?_ <;>
  exact congrArg x0 (funext fun d => Fin.ext (by fin_cases d <;> first | rfl | exact (Nat.zero_add _).trans (Nat.one_mul _) | exact (Nat.zero_add _).trans (Nat.mul_one _)))

end body

/-! ## The arrays behind the blocks -/

variable (m : (ℓ : Loc nD τ sig) → Buf (Elt Ideal) ℓ) (c : Dev nD)

/-- Point `t`'s blocks are the rows from `8 t`. -/
theorem idx : ∀ t : Fin cfg0.N, win0_0.index t = ![0, t.val, 0] ∧ win0_1.index t = ![t.val, 0] :=
  (by decide +kernel : ∀ t : Fin grid0.N, _)

theorem N_eq : cfg0.N = 139 := by decide +kernel
theorem t_lt (t : Fin cfg0.N) : t.val < 139 := by have := t.isLt; have := N_eq; omega

abbrev parts : FVec Ideal S8x1112x128 .f32 := m ((c : Thread nD τ).loc main_arg0)

/-- Row `a` of point `t`'s blocks. -/
abbrev row (t : Fin cfg0.N) (a : Fin 8) : Fin 1112 := ⟨8 * t.val + a.val, by have := t_lt t; omega⟩

abbrev blk0 (t : Fin cfg0.N) : Vec Ideal S8x8x128 .f32 := iblk m c 0 t
theorem blk0_apply (t : Fin cfg0.N) (k : Fin 8) (a : Fin 8) (b : Fin 128) : blk0 m c t (ix3 k a b) = parts m c (ix3 k (row t a) b) := by
  have := t_lt t
  blk_ext [blk0, iblk, idx t]

/-- The sum at an entry. -/
def sum (p : Fin 1112) (q : Fin 128) : Ideal .f32 := (∑ k : Fin 8, (parts m c (ix3 k p q) : EReal) : EReal)

theorem final : (dats m 0 c).arrAt 1 cfg0.N = fun j => sum m c (j 0) (j 1) := by
  refine (dats m 0 c).arrAt_eq_of_covers 1 (fun j => sum m c (j 0) (j 1)) (by decide +kernel) fun t hf y => ?_
  blk_simp
  rw [after0_1]
  idx_vars y
  have e : ((View.whole main_v0).slice (win0_1.rect t)).emb (ix2 y0 y1) = ix2 (row t y0) y1 := by
    have := t_lt t
    blk_ext [idx t]
  rw [e]
  exact (sum_apply ..).trans (Finset.sum_congr rfl fun k _ => blk0_apply m c t k y0 y1)

/-! ## The reference's array -/

theorem reference (p : Fin 1112) (q : Fin 128) : val_main_v0 (F := Ideal) (parts m c) (ix2 p q) = sum m c p q := by
  refine (val_main_v0_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's array is the reference's. -/
theorem value : (dats m 0 c).arrAt 1 cfg0.N = val_main_v0 (F := Ideal) (parts m c) := by
  rw [final]
  funext j
  idx_vars j
  exact (reference m c j0 j1).symm

end Cert.SumSmallIdeal.Sum
end
-- ==== Proof.PrepValue.lean ====
/- The modulation's cotangents, put together from the devices' gathered rows, and its bias gradients. -/
module

public import proofs.«01_k».proof.Proof.Gen.PrepIdeal.Value
public import proofs.«01_k».proof.Proof.Gen.PrepRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PrepIdeal.Rows

open Cert.PrepIdeal Cert.PrepIdeal.Gen Cert.PrepRefIdeal.Read

variable (x y : FVec Ideal S2x8x12288 .f32)

/-- The sum of eight rows at a column. -/
def total (z : FVec Ideal S2x8x12288 .f32) (l : Fin 2) (n : Fin 12288) : Ideal .f32 := (∑ k : Fin 8, (z (ix3 l k n) : EReal) : EReal)

theorem pay1_apply (l : Fin 2) (k : Fin 1) (n : Fin 12288) : k0_pay1 y (ix3 l k n) = total y l n := by
  unfold k0_pay1
  pointwise
  rfl

theorem ref1_apply (l : Fin 2) (k : Fin 1) (n : Fin 12288) : val_main_v1 (F := Ideal) y (ix3 l k n) = total y l n := by
  rw [val_main_v1_apply, val_main_v0_apply]
  refine (congrArg₂ (fun s t : EReal => s + t) Ideal.ofBits_zero_f32 rfl).trans ((zero_add _).trans (Finset.sum_congr rfl fun k _ => ?_))
  exact congrArg y (funext fun d => by fin_cases d <;> rfl)

theorem pay3_eq : @Eq (FVec Ideal S2x1x12288 .f32) (k0_pay3 x y) (val_main_v6 (F := Ideal) x y) := by
  funext j
  idx_vars j
  refine Eq.trans ?_ ((congrArg₂ (fun s t : EReal => s + t) (ref1_apply x j0 j1 j2) (ref1_apply y j0 j1 j2)).symm)
  exact congrArg₂ (fun s t : EReal => s + t) (pay1_apply x j0 j1 j2) (pay1_apply y j0 j1 j2)

/-! ## The sixteen rows -/

theorem pay2_low (l : Fin 2) (k : Fin 8) (n : Fin 12288) : k0_pay2 x y (ix3 l ⟨k.val, by omega⟩ n) = x (ix3 l k n) := by
  unfold k0_pay2
  pointwise
theorem pay2_mid (l : Fin 2) (n : Fin 12288) : k0_pay2 x y (ix3 l ⟨8 + (0 : Fin 8).val, by decide⟩ n) = total y l n := by
  unfold k0_pay2
  pointwise
  exact pay1_apply y l 0 n
theorem pay2_high (l : Fin 2) (k : Fin 7) (n : Fin 12288) :
    k0_pay2 (F := Ideal) x y (ix3 l ⟨8 + (⟨1 + k.val, by omega⟩ : Fin 8).val, by show 8 + (1 + k.val) < 16; omega⟩ n) = (0 : EReal) := by
  unfold k0_pay2
  pointwise
  exact if_neg (by revert k; decide)

theorem ref_low (l : Fin 2) (k : Fin 8) (n : Fin 12288) : val_main_v3 (F := Ideal) x y (ix3 l ⟨k.val, by omega⟩ n) = x (ix3 l k n) := by
  unfold val_main_v3
  pointwise
theorem ref_mid (l : Fin 2) (n : Fin 12288) : val_main_v3 (F := Ideal) x y (ix3 l ⟨8, by omega⟩ n) = total y l n := by
  unfold val_main_v3
  pointwise
  exact ref1_apply y l 0 n
theorem ref_high (l : Fin 2) (k : Fin 7) (n : Fin 12288) : val_main_v3 (F := Ideal) x y (ix3 l ⟨9 + k.val, by omega⟩ n) = (0 : EReal) := by
  unfold val_main_v3
  pointwise
  refine (dif_neg (show ¬ 9 + k.val < 8 by omega)).trans ((dif_neg (show ¬ 9 + k.val - 8 < 1 by omega)).trans ?_)
  exact (val_main_v2_apply _).trans Ideal.ofBits_zero_f32

theorem pay2_eq : @Eq (FVec Ideal S2x16x12288 .f32) (k0_pay2 x y) (val_main_v3 (F := Ideal) x y) := by
  funext j
  idx_vars j
  obtain ⟨r, hr⟩ := j1
  by_cases h : r < 8
  · exact (pay2_low x y j0 ⟨r, h⟩ j2).trans (ref_low x y j0 ⟨r, h⟩ j2).symm
  by_cases h' : r = 8
  · subst h'
    exact (pay2_mid x y j0 j2).trans (ref_mid x y j0 j2).symm
  obtain ⟨k, rfl⟩ : ∃ k, r = 9 + k := ⟨r - 9, by omega⟩
  have e := pay2_high x y j0 ⟨k, by omega⟩ j2
  have i : (⟨8 + (1 + k), by omega⟩ : Fin 16) = ⟨9 + k, hr⟩ := Fin.ext (by show 8 + (1 + k) = 9 + k; omega)
  refine Eq.trans (b := ((0 : EReal) : Ideal .f32)) ?_ (ref_high x y j0 ⟨k, by omega⟩ j2).symm
  exact (congrArg (fun i => k0_pay2 (F := Ideal) x y (ix3 j0 i j2)) i).symm.trans e

end Cert.PrepIdeal.Rows
end
-- ==== Proof.StepSmallValue.lean ====
/- AdamW's step of the small weights, packed in rows. -/
module

public import proofs.«01_k».proof.Proof.Gen.StepSmallIdeal.Value
public import proofs.«01_k».proof.Proof.Gen.StepSmallRefIdeal.Read
public import proofs.«01_k».proof.Proof.AdamStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)
open Cert.AdamStep

namespace Cert.StepSmallIdeal.Step

open Cert.StepSmallIdeal Cert.StepSmallIdeal.Gen Cert.StepSmallRefIdeal.Read

theorem zero2 : (![0, 0] : Fin 2 → ℕ) = fun _ => 0 := by funext d; fin_cases d <;> rfl
theorem zero3 : (![0, 0, 0] : Fin 3 → ℕ) = fun _ => 0 := by funext d; fin_cases d <;> rfl

/-! ## The body's results at an index -/

section body
variable (x0 : Vec Ideal S1x16x128 .f32) (x1 x2 x3 : Vec Ideal S16x128 .f32) (a : Fin 16) (b : Fin 128)

/-- The parts' sum. -/
def total : Ideal .f32 := (∑ k : Fin 1, (x0 (ix3 k a b) : EReal) : EReal)

theorem sum_apply : k0_pay1 (View.ld x0 r0_0) (ix2 a b) = total x0 a b := by
  unfold total
  rw [View.ld_unit_zero zero3, Fin.sum_univ_one]
  have h := Value.canon4_eq x0 (ix2 a b)
  rw [View.canon_unit_zero zero2] at h
  exact h.trans (congrArg x0 (funext fun d => Fin.ext (by fin_cases d <;> rfl)))

theorem grad_apply : out0_4 x0 x1 x2 x3 (ix2 a b) = total x0 a b := by
  unfold out0_4
  rw [View.canon_unit_zero zero2, sum_apply]

theorem first_apply : out0_6 x0 x1 x2 x3 (ix2 a b) = first (total x0 a b) (x2 (ix2 a b)) := by
  unfold out0_6
  rw [View.canon_unit_zero zero2, View.ld_unit_zero (S := S16x128) zero2, ← sum_apply x0]
  rfl

theorem second_apply : out0_7 x0 x1 x2 x3 (ix2 a b) = second (total x0 a b) (x3 (ix2 a b)) := by
  unfold out0_7
  rw [View.canon_unit_zero zero2, View.ld_unit_zero (S := S16x128) zero2, ← sum_apply x0]
  rfl

theorem update_apply : out0_5 x0 x1 x2 x3 (ix2 a b) = update (total x0 a b) (x1 (ix2 a b)) (x2 (ix2 a b)) (x3 (ix2 a b)) := by
  unfold out0_5
  rw [View.canon_unit_zero zero2, View.ld_unit_zero (S := S16x128) zero2, View.ld_unit_zero (S := S16x128) zero2, View.ld_unit_zero (S := S16x128) zero2, ← sum_apply x0]
  rfl

end body

/-! ## The arrays behind the blocks -/

variable (m : (ℓ : Loc nD τ sig) → Buf (Elt Ideal) ℓ) (c : Dev nD)

/-- Point `t`'s blocks are the rows from `16 t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_eq : cfg0.N = 37 := by decide +kernel
theorem t_lt (t : Fin cfg0.N) : t.val < 37 := by have := t.isLt; have := N_eq; omega

abbrev parts : FVec Ideal S1x592x128 .f32 := m ((c : Thread nD τ).loc main_arg0)
abbrev weight : FVec Ideal S592x128 .f32 := m ((c : Thread nD τ).loc main_arg1)
abbrev mom1 : FVec Ideal S592x128 .f32 := m ((c : Thread nD τ).loc main_arg2)
abbrev mom2 : FVec Ideal S592x128 .f32 := m ((c : Thread nD τ).loc main_arg3)

/-- Row `a` of point `t`'s blocks. -/
abbrev row (t : Fin cfg0.N) (a : Fin 16) : Fin 592 := ⟨16 * t.val + a.val, by have := t_lt t; omega⟩

abbrev blk0 (t : Fin cfg0.N) : Vec Ideal S1x16x128 .f32 := iblk m c 0 t
theorem blk0_apply (t : Fin cfg0.N) (k : Fin 1) (a : Fin 16) (b : Fin 128) : blk0 m c t (ix3 k a b) = parts m c (ix3 k (row t a) b) := by
  have := t_lt t
  blk_ext [blk0, iblk, idx t]
abbrev blk1 (t : Fin cfg0.N) : Vec Ideal S16x128 .f32 := iblk m c 1 t
theorem blk1_apply (t : Fin cfg0.N) (a : Fin 16) (b : Fin 128) : blk1 m c t (ix2 a b) = weight m c (ix2 (row t a) b) := by
  have := t_lt t
  blk_ext [blk1, iblk, idx t]
abbrev blk2 (t : Fin cfg0.N) : Vec Ideal S16x128 .f32 := iblk m c 2 t
theorem blk2_apply (t : Fin cfg0.N) (a : Fin 16) (b : Fin 128) : blk2 m c t (ix2 a b) = mom1 m c (ix2 (row t a) b) := by
  have := t_lt t
  blk_ext [blk2, iblk, idx t]
abbrev blk3 (t : Fin cfg0.N) : Vec Ideal S16x128 .f32 := iblk m c 3 t
theorem blk3_apply (t : Fin cfg0.N) (a : Fin 16) (b : Fin 128) : blk3 m c t (ix2 a b) = mom2 m c (ix2 (row t a) b) := by
  have := t_lt t
  blk_ext [blk3, iblk, idx t]

/-- The gradient at an entry of the weight. -/
def grad (p : Fin 592) (q : Fin 128) : Ideal .f32 := (∑ k : Fin 1, (parts m c (ix3 k p q) : EReal) : EReal)

theorem total_blk (t : Fin cfg0.N) (a : Fin 16) (b : Fin 128) : total (blk0 m c t) a b = grad m c (row t a) b :=
  Finset.sum_congr rfl fun k _ => blk0_apply m c t k a b

theorem final4 : (dats m 0 c).arrAt 4 cfg0.N = fun j => grad m c (j 0) (j 1) := by
  refine (dats m 0 c).arrAt_eq_of_covers 4 (fun j => grad m c (j 0) (j 1)) (by decide +kernel) fun t hf y => ?_
  blk_simp
  rw [after0_4]
  idx_vars y
  have e : ((View.whole main_v0_0).slice (win0_4.rect t)).emb (ix2 y0 y1) = ix2 (row t y0) y1 := by
    have := t_lt t
    blk_ext [idx t]
  rw [e]
  exact (grad_apply ..).trans (total_blk m c t y0 y1)

theorem final5 : (dats m 0 c).arrAt 5 cfg0.N = fun j => update (grad m c (j 0) (j 1)) (weight m c j) (mom1 m c j) (mom2 m c j) := by
  refine (dats m 0 c).arrAt_eq_of_covers 5 (fun j => update (grad m c (j 0) (j 1)) (weight m c j) (mom1 m c j) (mom2 m c j)) (by decide +kernel) fun t hf y => ?_
  blk_simp
  rw [after0_5]
  idx_vars y
  have e : ((View.whole main_v0_1).slice (win0_5.rect t)).emb (ix2 y0 y1) = ix2 (row t y0) y1 := by
    have := t_lt t
    blk_ext [idx t]
  rw [e]
  exact (update_apply ..).trans (update_congr (total_blk m c t y0 y1) (blk1_apply m c t y0 y1) (blk2_apply m c t y0 y1) (blk3_apply m c t y0 y1))

theorem final6 : (dats m 0 c).arrAt 6 cfg0.N = fun j => first (grad m c (j 0) (j 1)) (mom1 m c j) := by
  refine (dats m 0 c).arrAt_eq_of_covers 6 (fun j => first (grad m c (j 0) (j 1)) (mom1 m c j)) (by decide +kernel) fun t hf y => ?_
  blk_simp
  rw [after0_6]
  idx_vars y
  have e : ((View.whole main_v0_2).slice (win0_6.rect t)).emb (ix2 y0 y1) = ix2 (row t y0) y1 := by
    have := t_lt t
    blk_ext [idx t]
  rw [e]
  exact (first_apply ..).trans (congrArg₂ first (total_blk m c t y0 y1) (blk2_apply m c t y0 y1))

theorem final7 : (dats m 0 c).arrAt 7 cfg0.N = fun j => second (grad m c (j 0) (j 1)) (mom2 m c j) := by
  refine (dats m 0 c).arrAt_eq_of_covers 7 (fun j => second (grad m c (j 0) (j 1)) (mom2 m c j)) (by decide +kernel) fun t hf y => ?_
  blk_simp
  rw [after0_7]
  idx_vars y
  have e : ((View.whole main_v0_3).slice (win0_7.rect t)).emb (ix2 y0 y1) = ix2 (row t y0) y1 := by
    have := t_lt t
    blk_ext [idx t]
  rw [e]
  exact (second_apply ..).trans (congrArg₂ second (total_blk m c t y0 y1) (blk3_apply m c t y0 y1))

/-! ## The reference's arrays -/

theorem reference (p : Fin 592) (q : Fin 128) : val_main_v0 (F := Ideal) (parts m c) (ix2 p q) = grad m c p q := by
  refine (val_main_v0_apply (parts m c) _).trans ((congrArg₂ (fun s t : EReal => s + t) Ideal.ofBits_zero_f32 rfl).trans ((zero_add _).trans (Finset.sum_congr rfl fun k _ => ?_)))
  exact congrArg (parts m c) (funext fun d => by fin_cases d <;> rfl)

/-- The kernel's gradient is the reference's. -/
theorem value4 : (dats m 0 c).arrAt 4 cfg0.N = val_main_v0 (F := Ideal) (parts m c) := by
  rw [final4]
  funext j
  idx_vars j
  exact (reference m c j0 j1).symm

/-- The kernel's update is the reference's. -/
theorem value5 : (dats m 0 c).arrAt 5 cfg0.N = val_main_v24 (F := Ideal) (parts m c) (weight m c) (mom1 m c) (mom2 m c) := by
  rw [final5]
  funext j
  idx_vars j
  exact (congrArg (fun g => update g _ _ _) (reference m c j0 j1)).symm

/-- The kernel's first moment is the reference's. -/
theorem value6 : (dats m 0 c).arrAt 6 cfg0.N = val_main_v5 (F := Ideal) (parts m c) (mom1 m c) := by
  rw [final6]
  funext j
  idx_vars j
  exact (congrArg (fun g => first g _) (reference m c j0 j1)).symm

/-- The kernel's second moment is the reference's. -/
theorem value7 : (dats m 0 c).arrAt 7 cfg0.N = val_main_v11 (F := Ideal) (parts m c) (mom2 m c) := by
  rw [final7]
  funext j
  idx_vars j
  exact (congrArg (fun g => second g _) (reference m c j0 j1)).symm

end Cert.StepSmallIdeal.Step
end
-- ==== Proof.AdaValue.lean ====
/- The modulation of the conditions' rows. -/
module

public import proofs.«01_k».proof.Proof.Gen.AdaIdeal.Value
public import proofs.«01_k».proof.Proof.Gen.AdaRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.AdaIdeal.Product

open Cert.AdaIdeal Cert.AdaIdeal.Gen

/-- A point's part of an entry of its block. -/
def dot (x0 : Vec Ideal S16x2048 .bf16) (x1 : Vec Ideal S2048x768 .f32) (a : Fin 16) (b : Fin 768) : EReal := ∑ k : Fin 2048, x0 (ix2 a k) * x1 (ix2 k b)

/-! ## The payloads at an index -/

theorem pay1_apply (x0 : Vec Ideal S16x2048 .bf16) (x1 : Vec Ideal S2048x768 .f32) (a : Fin 16) (b : Fin 768) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S16x2048 .bf16) (h3 : a3.IsWhole) (a4 : Memref sig .tc .vmem S2048x768 .f32) (h4 : a4.IsWhole)
  (a5 : Memref sig .tc .vmem S16x768 .f32) (h5 : a5.IsWhole) (a6 : Memref sig .tc .vmem S16x768 .f32) (h6 : a6.IsWhole)
  (x0 : Vec Ideal S16x2048 .bf16) (x1 : Vec Ideal S2048x768 .f32) (acc : Vec Ideal S16x768 .f32) (a : Fin 16) (b : Fin 768)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S16x2048) zero2 inb_S16x2048_S16x2048_0_0, View.ld_unit_zero (S := S2048x768) zero2 inb_S2048x768_S2048x768_0_0]
  exact (View.read_writes_cons_rows_of_mem (size := S16x768.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 2), 0] ∧ win0_1.index t = ![0, (t.val % 2)] ∧ win0_2.index t = ![t.val / 2, (t.val % 2)] :=
  (by decide +kernel : ∀ t : Fin grid0.N, _)

theorem N_eq : cfg0.N = 2 := by decide +kernel
theorem t_lt (t : Fin cfg0.N) : t.val < 2 := by have := t.isLt; have := N_eq; omega

abbrev argX : FVec Ideal S16x2048 .bf16 := m ((c : Thread nD τ).loc main_arg0)
abbrev argY : FVec Ideal S2048x1536 .f32 := m ((c : Thread nD τ).loc main_arg1)

theorem host0 (j : S16x2048.Idx) : (V m c main_arg0 j : EReal) = argX m c j := rfl
theorem host1 (j : S2048x1536.Idx) : (V m c main_arg1 j : EReal) = argY m c j := rfl

abbrev blk0 (t : Fin cfg0.N) : Vec Ideal S16x2048 .bf16 := iblk m c 0 t
theorem blk0_apply (t : Fin cfg0.N) (k : Fin 2048) (a : Fin 16) :
    (blk0 m c t (ix2 a k) : EReal) = V m c main_arg0 (ix2 ⟨16 * (t.val / 2) + a.val, by have := t_lt t; omega⟩ k) := by
  have := t_lt t
  blk_ext [blk0, iblk, idx t]
abbrev blk1 (t : Fin cfg0.N) : Vec Ideal S2048x768 .f32 := iblk m c 1 t
theorem blk1_apply (t : Fin cfg0.N) (k : Fin 2048) (b : Fin 768) :
    (blk1 m c t (ix2 k b) : EReal) = V m c main_arg1 (ix2 k ⟨768 * (t.val % 2) + b.val, by have := t_lt t; omega⟩) := by
  have := t_lt t
  blk_ext [blk1, iblk, idx t]

/-- The product's term at row `k` of the contraction. -/
def term0 (p : Fin 16) (q : Fin 1536) (k : Fin 2048) : EReal := argX m c (ix2 p k) * argY m c (ix2 k q)

theorem part_at (t : Fin cfg0.N) (a : Fin 16) (b : Fin 768) (p : Fin 16) (q : Fin 1536)
    (hp : p.val = 16 * (t.val / 2) + a.val) (hq : q.val = 768 * (t.val % 2) + b.val) :
    dot (blk0 m c t) (blk1 m c t) a b = (∑ k : Fin 2048, term0 m c p q k) := by
  obtain ⟨p, hp'⟩ := p
  obtain ⟨q, hq'⟩ := q
  obtain rfl : p = 16 * (t.val / 2) + a.val := hp
  obtain rfl : q = 768 * (t.val % 2) + b.val := hq
  exact Finset.sum_congr rfl fun k _ => congrArg₂ (· * ·) ((blk0_apply m c t k a).trans (host0 m c _)) ((blk1_apply m c t k b).trans (host1 m c _))

/-- The product of the whole arrays. -/
def product (p : Fin 16) (q : Fin 1536) : EReal := ∑ k : Fin 2048, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v0).slice (win0_2.rect t)).emb (ix2 y0 y1)
      = ix2 ⟨16 * (t.val / 2) + y0.val, by have := t_lt t; omega⟩ ⟨768 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 16) (q : Fin 1536) :
    (Cert.AdaRefIdeal.Read.val_main_v1 (F := Ideal) (argX m c) (argY m c) (ix2 p q) : EReal) = product m c p q := by
  refine (Cert.AdaRefIdeal.Read.val_main_v1_apply (argX m c) (argY m c) _).trans (Finset.sum_congr rfl fun k _ => ?_)
  exact congrArg₂ (fun s t => argX m c s * argY m c t) (funext fun d => by fin_cases d <;> rfl) (funext fun d => by fin_cases d <;> rfl)

/-- The kernel's array is the reference's. -/
theorem value : (dats m 0 c).arrAt 2 cfg0.N = Cert.AdaRefIdeal.Read.val_main_v1 (F := Ideal) (argX m c) (argY m c) := by
  rw [final]
  funext j
  idx_vars j
  exact (reference m c j0 j1).symm

end Cert.AdaIdeal.Product
end
-- ==== Proof.AdaDwValue.lean ====
/- The weights' gradient of the modulation of the conditions' rows. -/
module

public import proofs.«01_k».proof.Proof.Gen.AdaDwIdeal.Value
public import proofs.«01_k».proof.Proof.Gen.AdaDwRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.AdaDwIdeal.Product

open Cert.AdaDwIdeal Cert.AdaDwIdeal.Gen

/-- A point's part of an entry of its block. -/
def dot (x0 : Vec Ideal S16x512 .bf16) (x1 : Vec Ideal S16x768 .f32) (a : Fin 512) (b : Fin 768) : EReal := ∑ k : Fin 16, x0 (ix2 k a) * x1 (ix2 k b)

/-! ## The payloads at an index -/

theorem pay1_apply (x0 : Vec Ideal S16x512 .bf16) (x1 : Vec Ideal S16x768 .f32) (a : Fin 512) (b : Fin 768) :
    (k0_pay1 x0 x1 (ix2 a b) : EReal) = dot x0 x1 a b := by
  pointwise [k0_pay1, dot]

/-! ## The cases' contents at an index -/

section cases
variable (c : Dev nD) (i : grid0.Coords)
  (a3 : Memref sig .tc .vmem S16x512 .bf16) (h3 : a3.IsWhole) (a4 : Memref sig .tc .vmem S16x768 .f32) (h4 : a4.IsWhole)
  (a5 : Memref sig .tc .vmem S512x768 .f32) (h5 : a5.IsWhole) (a6 : Memref sig .tc .vmem S512x768 .f32) (h6 : a6.IsWhole)
  (x0 : Vec Ideal S16x512 .bf16) (x1 : Vec Ideal S16x768 .f32) (acc : Vec Ideal S512x768 .f32) (a : Fin 512) (b : Fin 768)

theorem zero2 : (![0, 0] : Fin 2 → ℕ) = fun _ => 0 := by funext d; fin_cases d <;> rfl

theorem only_apply :
    (out0_A_2 (F := Ideal) c i a3 h3 a4 h4 a5 h5 a6 h6 x0 x1 (ix2 a b) : EReal) = dot x0 x1 a b := by
  unfold out0_A_2
  unfold kernelRun0_A
  dsimp only
  sl_unfold_words
  simp only [View.readAt_eq_ld, h3.read_unread, h4.read_unread, h6.read_unread,
    View.ld_unit_zero (S := S16x512) zero2 inb_S16x512_S16x512_0_0, View.ld_unit_zero (S := S16x768) zero2 inb_S16x768_S16x768_0_0]
  exact (View.read_writes_cons_rows_of_mem (size := S512x768.size) VO0_2 _ _ _ _ (ix2 a b) (ix2 a b) rfl (Nat.zero_add _).symm rfl).trans (pay1_apply  x0 x1 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![0, (t.val / 2)] ∧ win0_1.index t = ![0, (t.val % 2)] ∧ win0_2.index t = ![t.val / 2, (t.val % 2)] :=
  (by decide +kernel : ∀ t : Fin grid0.N, _)

theorem N_eq : cfg0.N = 8 := by decide +kernel
theorem t_lt (t : Fin cfg0.N) : t.val < 8 := by have := t.isLt; have := N_eq; omega

abbrev argX : FVec Ideal S16x2048 .bf16 := m ((c : Thread nD τ).loc main_arg0)
abbrev argY : FVec Ideal S16x1536 .f32 := m ((c : Thread nD τ).loc main_arg1)

theorem host0 (j : S16x2048.Idx) : (V m c main_arg0 j : EReal) = argX m c j := rfl
theorem host1 (j : S16x1536.Idx) : (V m c main_arg1 j : EReal) = argY m c j := rfl

abbrev blk0 (t : Fin cfg0.N) : Vec Ideal S16x512 .bf16 := iblk m c 0 t
theorem blk0_apply (t : Fin cfg0.N) (k : Fin 16) (a : Fin 512) :
    (blk0 m c t (ix2 k a) : EReal) = V m c main_arg0 (ix2 k ⟨512 * (t.val / 2) + a.val, by have := t_lt t; omega⟩) := by
  have := t_lt t
  blk_ext [blk0, iblk, idx t]
abbrev blk1 (t : Fin cfg0.N) : Vec Ideal S16x768 .f32 := iblk m c 1 t
theorem blk1_apply (t : Fin cfg0.N) (k : Fin 16) (b : Fin 768) :
    (blk1 m c t (ix2 k b) : EReal) = V m c main_arg1 (ix2 k ⟨768 * (t.val % 2) + b.val, by have := t_lt t; omega⟩) := by
  have := t_lt t
  blk_ext [blk1, iblk, idx t]

/-- The product's term at row `k` of the contraction. -/
def term0 (p : Fin 2048) (q : Fin 1536) (k : Fin 16) : EReal := argX m c (ix2 k p) * argY m c (ix2 k q)

theorem part_at (t : Fin cfg0.N) (a : Fin 512) (b : Fin 768) (p : Fin 2048) (q : Fin 1536)
    (hp : p.val = 512 * (t.val / 2) + a.val) (hq : q.val = 768 * (t.val % 2) + b.val) :
    dot (blk0 m c t) (blk1 m c t) a b = (∑ k : Fin 16, term0 m c p q k) := by
  obtain ⟨p, hp'⟩ := p
  obtain ⟨q, hq'⟩ := q
  obtain rfl : p = 512 * (t.val / 2) + a.val := hp
  obtain rfl : q = 768 * (t.val % 2) + b.val := hq
  exact Finset.sum_congr rfl fun k _ => congrArg₂ (· * ·) ((blk0_apply m c t k a).trans (host0 m c _)) ((blk1_apply m c t k b).trans (host1 m c _))

/-- The product of the whole arrays. -/
def product (p : Fin 2048) (q : Fin 1536) : EReal := ∑ k : Fin 16, term0 m c p q k

theorem final : (dats m 0 c).arrAt 2 cfg0.N = fun j => product m c (j 0) (j 1) := by
  refine (dats m 0 c).arrAt_eq_of_covers 2 (fun j => product m c (j 0) (j 1)) (by decide +kernel) fun t hf y => ?_
  blk_simp
  rw [after0_2]
  idx_vars y
  have e : ((View.whole main_v0).slice (win0_2.rect t)).emb (ix2 y0 y1)
      = ix2 ⟨512 * (t.val / 2) + y0.val, by have := t_lt t; omega⟩ ⟨768 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 2048) (q : Fin 1536) :
    (Cert.AdaDwRefIdeal.Read.val_main_v2 (F := Ideal) (argX m c) (argY m c) (ix2 p q) : EReal) = product m c p q := by
  rw [Cert.AdaDwRefIdeal.Read.val_main_v2_apply]
  refine (Cert.AdaDwRefIdeal.Read.val_main_v1_apply (argX m c) (argY m c) _).trans (Finset.sum_congr rfl fun k _ => ?_)
  refine (mul_comm _ _).trans ?_
  exact congrArg₂ (fun s t => argX m c s * argY m c t) (funext fun d => by fin_cases d <;> rfl) (funext fun d => by fin_cases d <;> rfl)

/-- The kernel's array is the reference's. -/
theorem value : (dats m 0 c).arrAt 2 cfg0.N = Cert.AdaDwRefIdeal.Read.val_main_v2 (F := Ideal) (argX m c) (argY m c) := by
  rw [final]
  funext j
  idx_vars j
  exact (reference m c j0 j1).symm

end Cert.AdaDwIdeal.Product
end
-- ==== Proof.AdaDactValue.lean ====
/- The gradient of the conditions' rows, which two layers' modulations read. -/
module

public import proofs.«01_k».proof.Proof.Gen.AdaDactIdeal.Value
public import proofs.«01_k».proof.Proof.Gen.AdaDactRefIdeal.Read
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat Cfg Window)

namespace Cert.AdaDactIdeal.Product

open Cert.AdaDactIdeal Cert.AdaDactIdeal.Gen

/-- A point's part of an entry of its block. -/
def dot (x0 : Vec Ideal S16x1536 .f32) (x1 : Vec Ideal S1024x1536 .f32) (x2 : Vec Ideal S16x1536 .f32) (x3 : Vec Ideal S1024x1536 .f32) (a : Fin 16) (b : Fin 1024) : EReal := ((∑ k : Fin 1536, x0 (ix2 a k) * x1 (ix2 b k)) + (∑ k : Fin 1536, x2 (ix2 a k) * x3 (ix2 b k)))

/-! ## The payloads at an index -/

theorem pay1_apply (x0 : Vec Ideal S16x1536 .f32) (x1 : Vec Ideal S1024x1536 .f32) (x2 : Vec Ideal S16x1536 .f32) (x3 : Vec Ideal S1024x1536 .f32) (a : Fin 16) (b : Fin 1024) :
    (k0_pay1 x0 x1 x2 x3 (ix2 a b) : EReal) = dot x0 x1 x2 x3 a b := by
  pointwise [k0_pay1, dot]

/-! ## The cases' contents at an index -/

section cases
variable (c : Dev nD) (i : grid0.Coords)
  (a3 : Memref sig .tc .vmem S16x1536 .f32) (h3 : a3.IsWhole) (a4 : Memref sig .tc .vmem S1024x1536 .f32) (h4 : a4.IsWhole) (a5 : Memref sig .tc .vmem S16x1536 .f32) (h5 : a5.IsWhole) (a6 : Memref sig .tc .vmem S1024x1536 .f32) (h6 : a6.IsWhole)
  (a7 : Memref sig .tc .vmem S16x1024 .f32) (h7 : a7.IsWhole) (a8 : Memref sig .tc .vmem S16x1024 .f32) (h8 : a8.IsWhole)
  (x0 : Vec Ideal S16x1536 .f32) (x1 : Vec Ideal S1024x1536 .f32) (x2 : Vec Ideal S16x1536 .f32) (x3 : Vec Ideal S1024x1536 .f32) (acc : Vec Ideal S16x1024 .f32) (a : Fin 16) (b : Fin 1024)

theorem zero2 : (![0, 0] : Fin 2 → ℕ) = fun _ => 0 := by funext d; fin_cases d <;> rfl

theorem only_apply :
    (out0_A_4 (F := Ideal) c i a3 h3 a4 h4 a5 h5 a6 h6 a7 h7 a8 h8 x0 x1 x2 x3 (ix2 a b) : EReal) = dot x0 x1 x2 x3 a b := by
  unfold out0_A_4
  unfold kernelRun0_A
  dsimp only
  sl_unfold_words
  simp only [View.readAt_eq_ld, h3.read_unread, h4.read_unread, h5.read_unread, h6.read_unread, h8.read_unread,
    View.ld_unit_zero (S := S16x1536) zero2 inb_S16x1536_S16x1536_0_0, View.ld_unit_zero (S := S1024x1536) zero2 inb_S1024x1536_S1024x1536_0_0]
  exact (View.read_writes_cons_rows_of_mem (size := S16x1024.size) VO0_4 _ _ _ _ (ix2 a b) (ix2 a b) rfl (Nat.zero_add _).symm rfl).trans (pay1_apply  x0 x1 x2 x3 a b)

end cases

/-! ## The arrays behind the blocks -/

variable (m : (ℓ : Loc nD τ sig) → Buf (Elt Ideal) ℓ) (c : Dev nD)

/-- The windows' index maps: the row block, the column block and the contraction's step of point `t`. -/
theorem idx : ∀ t : Fin cfg0.N, win0_0.index t = ![(t.val / 2), 0] ∧ win0_1.index t = ![(t.val % 2), 0] ∧ win0_2.index t = ![(t.val / 2), 0] ∧ win0_3.index t = ![(t.val % 2), 0] ∧ win0_4.index t = ![t.val / 2, (t.val % 2)] :=
  (by decide +kernel : ∀ t : Fin grid0.N, _)

theorem N_eq : cfg0.N = 2 := by decide +kernel
theorem t_lt (t : Fin cfg0.N) : t.val < 2 := by have := t.isLt; have := N_eq; omega

abbrev argX : FVec Ideal S16x1536 .f32 := m ((c : Thread nD τ).loc main_arg0)
abbrev argY : FVec Ideal S2048x1536 .f32 := m ((c : Thread nD τ).loc main_arg1)
abbrev argU : FVec Ideal S16x1536 .f32 := m ((c : Thread nD τ).loc main_arg2)
abbrev argW : FVec Ideal S2048x1536 .f32 := m ((c : Thread nD τ).loc main_arg3)

theorem host0 (j : S16x1536.Idx) : (V m c main_arg0 j : EReal) = argX m c j := rfl
theorem host1 (j : S2048x1536.Idx) : (V m c main_arg1 j : EReal) = argY m c j := rfl
theorem host2 (j : S16x1536.Idx) : (V m c main_arg2 j : EReal) = argU m c j := rfl
theorem host3 (j : S2048x1536.Idx) : (V m c main_arg3 j : EReal) = argW m c j := rfl

abbrev blk0 (t : Fin cfg0.N) : Vec Ideal S16x1536 .f32 := iblk m c 0 t
theorem blk0_apply (t : Fin cfg0.N) (k : Fin 1536) (a : Fin 16) :
    (blk0 m c t (ix2 a k) : EReal) = V m c main_arg0 (ix2 ⟨16 * (t.val / 2) + a.val, by have := t_lt t; omega⟩ k) := by
  have := t_lt t
  blk_ext [blk0, iblk, idx t]
abbrev blk1 (t : Fin cfg0.N) : Vec Ideal S1024x1536 .f32 := iblk m c 1 t
theorem blk1_apply (t : Fin cfg0.N) (k : Fin 1536) (b : Fin 1024) :
    (blk1 m c t (ix2 b k) : EReal) = V m c main_arg1 (ix2 ⟨1024 * (t.val % 2) + b.val, by have := t_lt t; omega⟩ k) := by
  have := t_lt t
  blk_ext [blk1, iblk, idx t]
abbrev blk2 (t : Fin cfg0.N) : Vec Ideal S16x1536 .f32 := iblk m c 2 t
theorem blk2_apply (t : Fin cfg0.N) (k : Fin 1536) (a : Fin 16) :
    (blk2 m c t (ix2 a k) : EReal) = V m c main_arg2 (ix2 ⟨16 * (t.val / 2) + a.val, by have := t_lt t; omega⟩ k) := by
  have := t_lt t
  blk_ext [blk2, iblk, idx t]
abbrev blk3 (t : Fin cfg0.N) : Vec Ideal S1024x1536 .f32 := iblk m c 3 t
theorem blk3_apply (t : Fin cfg0.N) (k : Fin 1536) (b : Fin 1024) :
    (blk3 m c t (ix2 b k) : EReal) = V m c main_arg3 (ix2 ⟨1024 * (t.val % 2) + b.val, by have := t_lt t; omega⟩ k) := by
  have := t_lt t
  blk_ext [blk3, iblk, idx t]

/-- The first product's term at row `k` of the contraction. -/
def term0 (p : Fin 16) (q : Fin 2048) (k : Fin 1536) : EReal := argX m c (ix2 p k) * argY m c (ix2 q k)

/-- The second product's term at row `k` of the contraction. -/
def term1 (p : Fin 16) (q : Fin 2048) (k : Fin 1536) : EReal := argU m c (ix2 p k) * argW m c (ix2 q k)

theorem part_at (t : Fin cfg0.N) (a : Fin 16) (b : Fin 1024) (p : Fin 16) (q : Fin 2048)
    (hp : p.val = 16 * (t.val / 2) + a.val) (hq : q.val = 1024 * (t.val % 2) + b.val) :
    dot (blk0 m c t) (blk1 m c t) (blk2 m c t) (blk3 m c t) a b = (∑ k : Fin 1536, term0 m c p q k) + (∑ k : Fin 1536, term1 m c p q k) := by
  obtain ⟨p, hp'⟩ := p
  obtain ⟨q, hq'⟩ := q
  obtain rfl : p = 16 * (t.val / 2) + a.val := hp
  obtain rfl : q = 1024 * (t.val % 2) + b.val := hq
  exact congrArg₂ (· + ·) (Finset.sum_congr rfl fun k _ => congrArg₂ (· * ·) ((blk0_apply m c t k a).trans (host0 m c _)) ((blk1_apply m c t k b).trans (host1 m c _)))
    (Finset.sum_congr rfl fun k _ => congrArg₂ (· * ·) ((blk2_apply m c t k a).trans (host2 m c _)) ((blk3_apply m c t k b).trans (host3 m c _)))

/-- The product of the whole arrays. -/
def product (p : Fin 16) (q : Fin 2048) : EReal := (∑ k : Fin 1536, term0 m c p q k) + (∑ k : Fin 1536, term1 m c p q k)

theorem final : (dats m 0 c).arrAt 4 cfg0.N = fun j => product m c (j 0) (j 1) := by
  refine (dats m 0 c).arrAt_eq_of_covers 4 (fun j => product m c (j 0) (j 1)) (by decide +kernel) fun t hf y => ?_
  blk_simp
  rw [after0_4]
  idx_vars y
  have e : ((View.whole main_v0).slice (win0_4.rect t)).emb (ix2 y0 y1)
      = ix2 ⟨16 * (t.val / 2) + y0.val, by have := t_lt t; omega⟩ ⟨1024 * (t.val % 2) + y1.val, by have := t_lt t; omega⟩ := by
    have := t_lt t
    blk_ext [idx t]
  rw [e]
  exact (only_apply ..).trans (part_at m c t y0 y1 _ _ rfl rfl)

/-! ## The reference's array -/

theorem reference (p : Fin 16) (q : Fin 2048) :
    (Cert.AdaDactRefIdeal.Read.val_main_v2 (F := Ideal) (argX m c) (argY m c) (argU m c) (argW m c) (ix2 p q) : EReal) = product m c p q := by
  refine (Cert.AdaDactRefIdeal.Read.val_main_v2_apply (F := Ideal) (argX m c) (argY m c) (argU m c) (argW m c) _).trans ?_
  refine (add_comm _ _).trans (congrArg₂ (· + ·) ?_ ?_)
  · refine (Cert.AdaDactRefIdeal.Read.val_main_v1_apply (argX m c) (argY m c) _).trans (Finset.sum_congr rfl fun k _ => ?_)
    exact congrArg₂ (fun s t => argX m c s * argY m c t) (funext fun d => by fin_cases d <;> rfl) (funext fun d => by fin_cases d <;> rfl)
  · refine (Cert.AdaDactRefIdeal.Read.val_main_v0_apply (argU m c) (argW m c) _).trans (Finset.sum_congr rfl fun k _ => ?_)
    exact congrArg₂ (fun s t => argU m c s * argW m c t) (funext fun d => by fin_cases d <;> rfl) (funext fun d => by fin_cases d <;> rfl)

/-- The kernel's array is the reference's. -/
theorem value : (dats m 0 c).arrAt 4 cfg0.N = Cert.AdaDactRefIdeal.Read.val_main_v2 (F := Ideal) (argX m c) (argY m c) (argU m c) (argW m c) := by
  rw [final]
  funext j
  idx_vars j
  exact (reference m c j0 j1).symm

end Cert.AdaDactIdeal.Product
end
-- ==== Proof.lean ====
/- The proof of the certificate's claims: the latent attention, its gradient, the step's products, the
   optimiser's steps and the sums of the small gradients, as the kernel computes them tile by tile, run, keep their arguments, and over the reals are what the plain
   references compute. -/
module

public import proofs.«01_k».proof.Proof.Gen.Fwd.Frame
public import proofs.«01_k».proof.Proof.Gen.FwdIdeal.Frame
public import proofs.«01_k».proof.Proof.Gen.FwdIdeal.Value
public import proofs.«01_k».proof.Proof.Gen.FwdRefIdeal.Run
public import proofs.«01_k».proof.Proof.Gen.FwdRefIdeal.Read
public import proofs.«01_k».proof.Proof.FwdMeet
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.UpDwValue
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.UpDxValue
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.DownDxValue
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.DownDwValue
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.UpValue
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownValue
public import proofs.«01_k».proof.Proof.Gen.InA.Frame
public import proofs.«01_k».proof.Proof.Gen.InAIdeal.Frame
public import proofs.«01_k».proof.Proof.Gen.InAIdeal.Value
public import proofs.«01_k».proof.Proof.Gen.InARefIdeal.Run
public import proofs.«01_k».proof.Proof.Gen.InARefIdeal.Read
public import proofs.«01_k».proof.Proof.InAValue
public import proofs.«01_k».proof.Proof.Gen.InADx.Frame
public import proofs.«01_k».proof.Proof.Gen.InADxIdeal.Frame
public import proofs.«01_k».proof.Proof.Gen.InADxIdeal.Value
public import proofs.«01_k».proof.Proof.Gen.InADxRefIdeal.Run
public import proofs.«01_k».proof.Proof.Gen.InADxRefIdeal.Read
public import proofs.«01_k».proof.Proof.InADxValue
public import proofs.«01_k».proof.Proof.Gen.InADw.Frame
public import proofs.«01_k».proof.Proof.Gen.InADwIdeal.Frame
public import proofs.«01_k».proof.Proof.Gen.InADwIdeal.Value
public import proofs.«01_k».proof.Proof.Gen.InADwRefIdeal.Run
public import proofs.«01_k».proof.Proof.Gen.InADwRefIdeal.Read
public import proofs.«01_k».proof.Proof.InADwValue
public import proofs.«01_k».proof.Proof.Gen.InB.Frame
public import proofs.«01_k».proof.Proof.Gen.InBIdeal.Frame
public import proofs.«01_k».proof.Proof.Gen.InBIdeal.Value
public import proofs.«01_k».proof.Proof.Gen.InBRefIdeal.Run
public import proofs.«01_k».proof.Proof.Gen.InBRefIdeal.Read
public import proofs.«01_k».proof.Proof.InBValue
public import proofs.«01_k».proof.Proof.Gen.InBDx.Frame
public import proofs.«01_k».proof.Proof.Gen.InBDxIdeal.Frame
public import proofs.«01_k».proof.Proof.Gen.InBDxIdeal.Value
public import proofs.«01_k».proof.Proof.Gen.InBDxRefIdeal.Run
public import proofs.«01_k».proof.Proof.Gen.InBDxRefIdeal.Read
public import proofs.«01_k».proof.Proof.InBDxValue
public import proofs.«01_k».proof.Proof.Gen.InBDw.Frame
public import proofs.«01_k».proof.Proof.Gen.InBDwIdeal.Frame
public import proofs.«01_k».proof.Proof.Gen.InBDwIdeal.Value
public import proofs.«01_k».proof.Proof.Gen.InBDwRefIdeal.Run
public import proofs.«01_k».proof.Proof.Gen.InBDwRefIdeal.Read
public import proofs.«01_k».proof.Proof.InBDwValue
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.OutValue
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.OutDxValue
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.OutDwValue
public import proofs.«01_k».proof.Proof.Gen.Qb.Frame
public import proofs.«01_k».proof.Proof.Gen.QbIdeal.Frame
public import proofs.«01_k».proof.Proof.Gen.QbIdeal.Value
public import proofs.«01_k».proof.Proof.Gen.QbRefIdeal.Run
public import proofs.«01_k».proof.Proof.Gen.QbRefIdeal.Read
public import proofs.«01_k».proof.Proof.QbValue
public import proofs.«01_k».proof.Proof.Gen.QbDx.Frame
public import proofs.«01_k».proof.Proof.Gen.QbDxIdeal.Frame
public import proofs.«01_k».proof.Proof.Gen.QbDxIdeal.Value
public import proofs.«01_k».proof.Proof.Gen.QbDxRefIdeal.Run
public import proofs.«01_k».proof.Proof.Gen.QbDxRefIdeal.Read
public import proofs.«01_k».proof.Proof.QbDxValue
public import proofs.«01_k».proof.Proof.Gen.QbDw.Frame
public import proofs.«01_k».proof.Proof.Gen.QbDwIdeal.Frame
public import proofs.«01_k».proof.Proof.Gen.QbDwIdeal.Value
public import proofs.«01_k».proof.Proof.Gen.QbDwRefIdeal.Run
public import proofs.«01_k».proof.Proof.Gen.QbDwRefIdeal.Read
public import proofs.«01_k».proof.Proof.QbDwValue
public import proofs.«01_k».proof.Proof.Gen.Kvb.Frame
public import proofs.«01_k».proof.Proof.Gen.KvbIdeal.Frame
public import proofs.«01_k».proof.Proof.Gen.KvbIdeal.Value
public import proofs.«01_k».proof.Proof.Gen.KvbRefIdeal.Run
public import proofs.«01_k».proof.Proof.Gen.KvbRefIdeal.Read
public import proofs.«01_k».proof.Proof.KvbValue
public import proofs.«01_k».proof.Proof.Gen.KvbDx.Frame
public import proofs.«01_k».proof.Proof.Gen.KvbDxIdeal.Frame
public import proofs.«01_k».proof.Proof.Gen.KvbDxIdeal.Value
public import proofs.«01_k».proof.Proof.Gen.KvbDxRefIdeal.Run
public import proofs.«01_k».proof.Proof.Gen.KvbDxRefIdeal.Read
public import proofs.«01_k».proof.Proof.KvbDxValue
public import proofs.«01_k».proof.Proof.Gen.KvbDw.Frame
public import proofs.«01_k».proof.Proof.Gen.KvbDwIdeal.Frame
public import proofs.«01_k».proof.Proof.Gen.KvbDwIdeal.Value
public import proofs.«01_k».proof.Proof.Gen.KvbDwRefIdeal.Run
public import proofs.«01_k».proof.Proof.Gen.KvbDwRefIdeal.Read
public import proofs.«01_k».proof.Proof.KvbDwValue
public import proofs.«01_k».proof.Proof.Gen.StepUp.Frame
public import proofs.«01_k».proof.Proof.Gen.StepUpIdeal.Frame
public import proofs.«01_k».proof.Proof.Gen.StepUpIdeal.Value
public import proofs.«01_k».proof.Proof.Gen.StepUpRefIdeal.Run
public import proofs.«01_k».proof.Proof.Gen.StepUpRefIdeal.Read
public import proofs.«01_k».proof.Proof.StepUpValue
public import proofs.«01_k».proof.Proof.Gen.StepDown.Frame
public import proofs.«01_k».proof.Proof.Gen.StepDownIdeal.Frame
public import proofs.«01_k».proof.Proof.Gen.StepDownIdeal.Value
public import proofs.«01_k».proof.Proof.Gen.StepDownRefIdeal.Run
public import proofs.«01_k».proof.Proof.Gen.StepDownRefIdeal.Read
public import proofs.«01_k».proof.Proof.StepDownValue
public import proofs.«01_k».proof.Proof.Gen.StepInA.Frame
public import proofs.«01_k».proof.Proof.Gen.StepInAIdeal.Frame
public import proofs.«01_k».proof.Proof.Gen.StepInAIdeal.Value
public import proofs.«01_k».proof.Proof.Gen.StepInARefIdeal.Run
public import proofs.«01_k».proof.Proof.Gen.StepInARefIdeal.Read
public import proofs.«01_k».proof.Proof.StepInAValue
public import proofs.«01_k».proof.Proof.Gen.StepInB.Frame
public import proofs.«01_k».proof.Proof.Gen.StepInBIdeal.Frame
public import proofs.«01_k».proof.Proof.Gen.StepInBIdeal.Value
public import proofs.«01_k».proof.Proof.Gen.StepInBRefIdeal.Run
public import proofs.«01_k».proof.Proof.Gen.StepInBRefIdeal.Read
public import proofs.«01_k».proof.Proof.StepInBValue
public import proofs.«01_k».proof.Proof.Gen.StepOut.Frame
public import proofs.«01_k».proof.Proof.Gen.StepOutIdeal.Frame
public import proofs.«01_k».proof.Proof.Gen.StepOutIdeal.Value
public import proofs.«01_k».proof.Proof.Gen.StepOutRefIdeal.Run
public import proofs.«01_k».proof.Proof.Gen.StepOutRefIdeal.Read
public import proofs.«01_k».proof.Proof.StepOutValue
public import proofs.«01_k».proof.Proof.Gen.StepQb.Frame
public import proofs.«01_k».proof.Proof.Gen.StepQbIdeal.Frame
public import proofs.«01_k».proof.Proof.Gen.StepQbIdeal.Value
public import proofs.«01_k».proof.Proof.Gen.StepQbRefIdeal.Run
public import proofs.«01_k».proof.Proof.Gen.StepQbRefIdeal.Read
public import proofs.«01_k».proof.Proof.StepQbValue
public import proofs.«01_k».proof.Proof.Gen.StepKvb.Frame
public import proofs.«01_k».proof.Proof.Gen.StepKvbIdeal.Frame
public import proofs.«01_k».proof.Proof.Gen.StepKvbIdeal.Value
public import proofs.«01_k».proof.Proof.Gen.StepKvbRefIdeal.Run
public import proofs.«01_k».proof.Proof.Gen.StepKvbRefIdeal.Read
public import proofs.«01_k».proof.Proof.StepKvbValue
public import proofs.«01_k».proof.Proof.Gen.StepAda.Frame
public import proofs.«01_k».proof.Proof.Gen.StepAdaIdeal.Frame
public import proofs.«01_k».proof.Proof.Gen.StepAdaIdeal.Value
public import proofs.«01_k».proof.Proof.Gen.StepAdaRefIdeal.Run
public import proofs.«01_k».proof.Proof.Gen.StepAdaRefIdeal.Read
public import proofs.«01_k».proof.Proof.StepAdaValue
public import proofs.«01_k».proof.Proof.Gen.SumSmall.Frame
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.SumSmallValue
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.PrepValue
public import proofs.«01_k».proof.Proof.Gen.StepSmall.Frame
public import proofs.«01_k».proof.Proof.Gen.StepSmallIdeal.Frame
public import proofs.«01_k».proof.Proof.Gen.StepSmallIdeal.Value
public import proofs.«01_k».proof.Proof.Gen.StepSmallRefIdeal.Run
public import proofs.«01_k».proof.Proof.Gen.StepSmallRefIdeal.Read
public import proofs.«01_k».proof.Proof.StepSmallValue
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.AdaValue
public import proofs.«01_k».proof.Proof.Gen.AdaDw.Frame
public import proofs.«01_k».proof.Proof.Gen.AdaDwIdeal.Frame
public import proofs.«01_k».proof.Proof.Gen.AdaDwIdeal.Value
public import proofs.«01_k».proof.Proof.Gen.AdaDwRefIdeal.Run
public import proofs.«01_k».proof.Proof.Gen.AdaDwRefIdeal.Read
public import proofs.«01_k».proof.Proof.AdaDwValue
public import proofs.«01_k».proof.Proof.Gen.AdaDact.Frame
public import proofs.«01_k».proof.Proof.Gen.AdaDactIdeal.Frame
public import proofs.«01_k».proof.Proof.Gen.AdaDactIdeal.Value
public import proofs.«01_k».proof.Proof.Gen.AdaDactRefIdeal.Run
public import proofs.«01_k».proof.Proof.Gen.AdaDactRefIdeal.Read
public import proofs.«01_k».proof.Proof.AdaDactValue
public import proofs.«01_k».proof.Proof.Final
public import proofs.«01_k».proof.Proof.Meet
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and leaves every counter at zero: it names none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

open Cert.KernelIdeal Cert.KernelIdeal.Attn in
/-- Of finite arguments the kernel's three results are the reference's. -/
theorem attention_value : @Cert.algebraic_KernelIdeal_ReferenceIdeal_pre_finite Cert.KernelIdeal.Gen.facts Cert.ReferenceIdeal.Gen.facts Cert.Meet.finite_facts := by
  intro m g m' g' hpre hargs
  have hr (c : Dev nD) := Cert.Meet.real4 (hP := Cert.Meet.finite_facts) m c (hpre c)
  refine ⟨_, _, _, (θ_run defs _ _).mono (fun r h => h) (Cert.KernelIdeal.Value.run_blocks (F := Ideal) m g),
    (θ_run Cert.ReferenceIdeal.defs _ _).mono (fun r h c => ⟨(h c).1.trans ?_, (h c).2.1.trans ?_, (h c).2.2.1.trans ?_, (h c).2.2.2⟩)
      (Cert.ReferenceIdeal.Value.run (F := Ideal) m' g')⟩
  · refine (Cert.ReferenceIdeal.Read.val_main_v118_eq m' c).trans ?_
    rw [(hargs c).1, (hargs c).2.1, (hargs c).2.2.1, (hargs c).2.2.2]
    exact ((final5 m c).trans (Cert.Meet.dq_meets (hr c))).symm
  · refine (Cert.ReferenceIdeal.Read.val_main_v119_eq m' c).trans ?_
    rw [(hargs c).1, (hargs c).2.1, (hargs c).2.2.1, (hargs c).2.2.2]
    exact ((final6 m c).trans (Cert.Meet.dk_meets (hr c))).symm
  · refine (Cert.ReferenceIdeal.Read.val_main_v121_eq m' c).trans ?_
    rw [(hargs c).1, (hargs c).2.1, (hargs c).2.2.2]
    exact ((final7 m c).trans (Cert.Meet.dv_meets (hr c))).symm

/-! ### The latent attention, forwards. -/

theorem fwd_reference_frame (m : (ℓ : Loc Cert.FwdRefIdeal.nD Cert.FwdRefIdeal.τ Cert.FwdRefIdeal.sig) → Buf (Elt Ideal) ℓ) (ρ : Dev Cert.FwdRefIdeal.nD → PrngReg) :
    θ_run (Cert.FwdRefIdeal.defs (F := Ideal)) (onTc (τ := Cert.FwdRefIdeal.τ) (Cert.FwdRefIdeal.main (F := Ideal))) ⟨m, fun _ => 0, ρ⟩
      (fun r => (∀ c : Dev Cert.FwdRefIdeal.nD,
        r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
        ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
        ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
        ∧ r.2.sem = fun _ => 0) :=
  (θ_run Cert.FwdRefIdeal.defs _ _).mono (fun r h => ⟨fun c => (h c).2.2.2, sem_eq_zero_of_no_sems (by decide) r.2⟩)
    (Cert.FwdRefIdeal.Value.run (F := Ideal) m ρ)

open Cert.FwdIdeal Cert.FwdIdeal.Attn in
/-- Of finite arguments the forward attention's three results are the reference's. -/
theorem fwd_value : @Cert.algebraic_FwdIdeal_FwdRefIdeal_pre_finite3 Cert.FwdIdeal.Gen.facts Cert.FwdRefIdeal.Gen.facts Cert.FwdMeet.finite3_facts := by
  intro m g m' g' hpre hargs
  have hr (c : Dev nD) := Cert.FwdMeet.real3 (hP := Cert.FwdMeet.finite3_facts) m c (hpre c)
  refine ⟨_, _, _, (θ_run defs _ _).mono (fun r h => h) (Cert.FwdIdeal.Value.run_blocks (F := Ideal) m g),
    (θ_run Cert.FwdRefIdeal.defs _ _).mono (fun r h c => ⟨(h c).1.trans ?_, (h c).2.1.trans ?_, (h c).2.2.1.trans ?_, (h c).2.2.2⟩)
      (Cert.FwdRefIdeal.Value.run (F := Ideal) m' g')⟩
  · refine (Cert.FwdRefIdeal.Read.val_main_v35_eq m' c).trans ?_
    rw [(hargs c).1, (hargs c).2.1, (hargs c).2.2]
    exact ((final3 (hr c)).trans (Cert.FwdMeet.o_meets (hr c))).symm
  · refine (Cert.FwdRefIdeal.Read.val_main_v56_eq m' c).trans ?_
    rw [(hargs c).1, (hargs c).2.1, (hargs c).2.2]
    exact ((final4 (hr c)).trans (Cert.FwdMeet.o_rounded_meets (hr c))).symm
  · refine (Cert.FwdRefIdeal.Read.val_main_v59_eq _ _).trans ?_
    rw [(hargs c).1, (hargs c).2.1]
    exact ((final5 (hr c)).trans (Cert.FwdMeet.log_meets (hr c))).symm

/-! ### The weight gradient of the feed-forward block's first product. -/

theorem upDw_reference_frame (m : (ℓ : Loc Cert.UpDwRefIdeal.nD Cert.UpDwRefIdeal.τ Cert.UpDwRefIdeal.sig) → Buf (Elt Ideal) ℓ) (ρ : Dev Cert.UpDwRefIdeal.nD → PrngReg) :
    θ_run (Cert.UpDwRefIdeal.defs (F := Ideal)) (onTc (τ := Cert.UpDwRefIdeal.τ) (Cert.UpDwRefIdeal.main (F := Ideal))) ⟨m, fun _ => 0, ρ⟩
      (fun r => (∀ c : Dev Cert.UpDwRefIdeal.nD,
        r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
        ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
        ∧ r.2.sem = fun _ => 0) :=
  (θ_run Cert.UpDwRefIdeal.defs _ _).mono (fun r h => ⟨fun c => (h c).2, sem_eq_zero_of_no_sems (by decide) r.2⟩)
    (Cert.UpDwRefIdeal.Value.run (F := Ideal) m ρ)

theorem upDw_value : @Cert.algebraic_UpDwIdeal_UpDwRefIdeal Cert.UpDwIdeal.Gen.facts Cert.UpDwRefIdeal.Gen.facts := by
  intro m g m' g' _ hargs
  refine ⟨_, (θ_run Cert.UpDwIdeal.defs _ _).mono (fun r h => h) (Cert.UpDwIdeal.Value.run_blocks (F := Ideal) m g),
    (θ_run Cert.UpDwRefIdeal.defs _ _).mono (fun r h c => ⟨(h c).1.trans ?_, (h c).2⟩) (Cert.UpDwRefIdeal.Value.run (F := Ideal) m' g')⟩
  refine (Cert.UpDwRefIdeal.Read.val_main_v2_eq _ _).trans ?_
  rw [(hargs c).1, (hargs c).2]
  exact (Cert.UpDwIdeal.Product.value m c).symm

/-! ### The token gradient of the feed-forward block's first product. -/

theorem upDx_reference_frame (m : (ℓ : Loc Cert.UpDxRefIdeal.nD Cert.UpDxRefIdeal.τ Cert.UpDxRefIdeal.sig) → Buf (Elt Ideal) ℓ) (ρ : Dev Cert.UpDxRefIdeal.nD → PrngReg) :
    θ_run (Cert.UpDxRefIdeal.defs (F := Ideal)) (onTc (τ := Cert.UpDxRefIdeal.τ) (Cert.UpDxRefIdeal.main (F := Ideal))) ⟨m, fun _ => 0, ρ⟩
      (fun r => (∀ c : Dev Cert.UpDxRefIdeal.nD,
        r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
        ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
        ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
        ∧ r.2.sem = fun _ => 0) :=
  (θ_run Cert.UpDxRefIdeal.defs _ _).mono (fun r h => ⟨fun c => (h c).2, sem_eq_zero_of_no_sems (by decide) r.2⟩)
    (Cert.UpDxRefIdeal.Value.run (F := Ideal) m ρ)

theorem upDx_value : @Cert.algebraic_UpDxIdeal_UpDxRefIdeal Cert.UpDxIdeal.Gen.facts Cert.UpDxRefIdeal.Gen.facts := by
  intro m g m' g' _ hargs
  refine ⟨_, (θ_run Cert.UpDxIdeal.defs _ _).mono (fun r h => h) (Cert.UpDxIdeal.Value.run_blocks (F := Ideal) m g),
    (θ_run Cert.UpDxRefIdeal.defs _ _).mono (fun r h c => ⟨(h c).1.trans ?_, (h c).2⟩) (Cert.UpDxRefIdeal.Value.run (F := Ideal) m' g')⟩
  refine (Cert.UpDxRefIdeal.Read.val_main_v1_eq _ _ _).trans ?_
  rw [(hargs c).1, (hargs c).2.1, (hargs c).2.2]
  exact (Cert.UpDxIdeal.Product.value m c).symm

/-! ### The token gradient of the feed-forward block's second product. -/

theorem downDx_reference_frame (m : (ℓ : Loc Cert.DownDxRefIdeal.nD Cert.DownDxRefIdeal.τ Cert.DownDxRefIdeal.sig) → Buf (Elt Ideal) ℓ) (ρ : Dev Cert.DownDxRefIdeal.nD → PrngReg) :
    θ_run (Cert.DownDxRefIdeal.defs (F := Ideal)) (onTc (τ := Cert.DownDxRefIdeal.τ) (Cert.DownDxRefIdeal.main (F := Ideal))) ⟨m, fun _ => 0, ρ⟩
      (fun r => (∀ c : Dev Cert.DownDxRefIdeal.nD,
        r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
        ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
        ∧ r.2.sem = fun _ => 0) :=
  (θ_run Cert.DownDxRefIdeal.defs _ _).mono (fun r h => ⟨fun c => (h c).2, sem_eq_zero_of_no_sems (by decide) r.2⟩)
    (Cert.DownDxRefIdeal.Value.run (F := Ideal) m ρ)

theorem downDx_value : @Cert.algebraic_DownDxIdeal_DownDxRefIdeal Cert.DownDxIdeal.Gen.facts Cert.DownDxRefIdeal.Gen.facts := by
  intro m g m' g' _ hargs
  refine ⟨_, (θ_run Cert.DownDxIdeal.defs _ _).mono (fun r h => h) (Cert.DownDxIdeal.Value.run_blocks (F := Ideal) m g),
    (θ_run Cert.DownDxRefIdeal.defs _ _).mono (fun r h c => ⟨(h c).1.trans ?_, (h c).2⟩) (Cert.DownDxRefIdeal.Value.run (F := Ideal) m' g')⟩
  refine (Cert.DownDxRefIdeal.Read.val_main_v0_eq _ _).trans ?_
  rw [(hargs c).1, (hargs c).2]
  exact (Cert.DownDxIdeal.Product.value m c).symm

/-! ### The weight gradient of the feed-forward block's second product. -/

theorem downDw_reference_frame (m : (ℓ : Loc Cert.DownDwRefIdeal.nD Cert.DownDwRefIdeal.τ Cert.DownDwRefIdeal.sig) → Buf (Elt Ideal) ℓ) (ρ : Dev Cert.DownDwRefIdeal.nD → PrngReg) :
    θ_run (Cert.DownDwRefIdeal.defs (F := Ideal)) (onTc (τ := Cert.DownDwRefIdeal.τ) (Cert.DownDwRefIdeal.main (F := Ideal))) ⟨m, fun _ => 0, ρ⟩
      (fun r => (∀ c : Dev Cert.DownDwRefIdeal.nD,
        r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
        ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
        ∧ r.2.sem = fun _ => 0) :=
  (θ_run Cert.DownDwRefIdeal.defs _ _).mono (fun r h => ⟨fun c => (h c).2, sem_eq_zero_of_no_sems (by decide) r.2⟩)
    (Cert.DownDwRefIdeal.Value.run (F := Ideal) m ρ)

theorem downDw_value : @Cert.algebraic_DownDwIdeal_DownDwRefIdeal Cert.DownDwIdeal.Gen.facts Cert.DownDwRefIdeal.Gen.facts := by
  intro m g m' g' _ hargs
  refine ⟨_, (θ_run Cert.DownDwIdeal.defs _ _).mono (fun r h => h) (Cert.DownDwIdeal.Value.run_blocks (F := Ideal) m g),
    (θ_run Cert.DownDwRefIdeal.defs _ _).mono (fun r h c => ⟨(h c).1.trans ?_, (h c).2⟩) (Cert.DownDwRefIdeal.Value.run (F := Ideal) m' g')⟩
  refine (Cert.DownDwRefIdeal.Read.val_main_v2_eq _ _).trans ?_
  rw [(hargs c).1, (hargs c).2]
  exact (Cert.DownDwIdeal.Product.value m c).symm

/-! ### The feed-forward block's first product. -/

theorem up_reference_frame (m : (ℓ : Loc Cert.UpRefIdeal.nD Cert.UpRefIdeal.τ Cert.UpRefIdeal.sig) → Buf (Elt Ideal) ℓ) (ρ : Dev Cert.UpRefIdeal.nD → PrngReg) :
    θ_run (Cert.UpRefIdeal.defs (F := Ideal)) (onTc (τ := Cert.UpRefIdeal.τ) (Cert.UpRefIdeal.main (F := Ideal))) ⟨m, fun _ => 0, ρ⟩
      (fun r => (∀ c : Dev Cert.UpRefIdeal.nD,
        r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
        ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
        ∧ r.2.sem = fun _ => 0) :=
  (θ_run Cert.UpRefIdeal.defs _ _).mono (fun r h => ⟨fun c => (h c).2, sem_eq_zero_of_no_sems (by decide) r.2⟩)
    (Cert.UpRefIdeal.Value.run (F := Ideal) m ρ)

theorem up_value : @Cert.algebraic_UpIdeal_UpRefIdeal Cert.UpIdeal.Gen.facts Cert.UpRefIdeal.Gen.facts := by
  intro m g m' g' _ hargs
  refine ⟨_, (θ_run Cert.UpIdeal.defs _ _).mono (fun r h => h) (Cert.UpIdeal.Value.run_blocks (F := Ideal) m g),
    (θ_run Cert.UpRefIdeal.defs _ _).mono (fun r h c => ⟨(h c).1.trans ?_, (h c).2⟩) (Cert.UpRefIdeal.Value.run (F := Ideal) m' g')⟩
  refine (Cert.UpRefIdeal.Read.val_main_v0_eq _ _).trans ?_
  rw [(hargs c).1, (hargs c).2]
  exact (Cert.UpIdeal.Product.value m c).symm

/-! ### The feed-forward block's second product. -/

theorem down_reference_frame (m : (ℓ : Loc Cert.DownRefIdeal.nD Cert.DownRefIdeal.τ Cert.DownRefIdeal.sig) → Buf (Elt Ideal) ℓ) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩
      (fun r => (∀ c : Dev Cert.DownRefIdeal.nD,
        r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
        ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
        ∧ r.2.sem = fun _ => 0) :=
  (θ_run Cert.DownRefIdeal.defs _ _).mono (fun r h => ⟨fun c => (h c).2, sem_eq_zero_of_no_sems (by decide) r.2⟩)
    (Cert.DownRefIdeal.Value.run (F := Ideal) m ρ)

theorem down_value : @Cert.algebraic_DownIdeal_DownRefIdeal Cert.DownIdeal.Gen.facts Cert.DownRefIdeal.Gen.facts := by
  intro m g m' g' _ hargs
  refine ⟨_, (θ_run Cert.DownIdeal.defs _ _).mono (fun r h => h) (Cert.DownIdeal.Value.run_blocks (F := Ideal) m g),
    (θ_run Cert.DownRefIdeal.defs _ _).mono (fun r h c => ⟨(h c).1.trans ?_, (h c).2⟩) (Cert.DownRefIdeal.Value.run (F := Ideal) m' g')⟩
  refine (Cert.DownRefIdeal.Read.val_main_v0_eq _ _).trans ?_
  rw [(hargs c).1, (hargs c).2]
  exact (Cert.DownIdeal.Product.value m c).symm

/-! ### The first layer's input projection. -/

theorem inA_reference_frame (m : (ℓ : Loc Cert.InARefIdeal.nD Cert.InARefIdeal.τ Cert.InARefIdeal.sig) → Buf (Elt Ideal) ℓ) (ρ : Dev Cert.InARefIdeal.nD → PrngReg) :
    θ_run (Cert.InARefIdeal.defs (F := Ideal)) (onTc (τ := Cert.InARefIdeal.τ) (Cert.InARefIdeal.main (F := Ideal))) ⟨m, fun _ => 0, ρ⟩
      (fun r => (∀ c : Dev Cert.InARefIdeal.nD,
        r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
        ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
        ∧ r.2.sem = fun _ => 0) :=
  (θ_run Cert.InARefIdeal.defs _ _).mono (fun r h => ⟨fun c => (h c).2, sem_eq_zero_of_no_sems (by decide) r.2⟩)
    (Cert.InARefIdeal.Value.run (F := Ideal) m ρ)

theorem inA_value : @Cert.algebraic_InAIdeal_InARefIdeal Cert.InAIdeal.Gen.facts Cert.InARefIdeal.Gen.facts := by
  intro m g m' g' _ hargs
  refine ⟨_, (θ_run Cert.InAIdeal.defs _ _).mono (fun r h => h) (Cert.InAIdeal.Value.run_blocks (F := Ideal) m g),
    (θ_run Cert.InARefIdeal.defs _ _).mono (fun r h c => ⟨(h c).1.trans ?_, (h c).2⟩) (Cert.InARefIdeal.Value.run (F := Ideal) m' g')⟩
  refine (Cert.InARefIdeal.Read.val_main_v0_eq _ _).trans ?_
  rw [(hargs c).1, (hargs c).2]
  exact (Cert.InAIdeal.Product.value m c).symm

/-! ### The rows' gradient of the first layer's input projection. -/

theorem inADx_reference_frame (m : (ℓ : Loc Cert.InADxRefIdeal.nD Cert.InADxRefIdeal.τ Cert.InADxRefIdeal.sig) → Buf (Elt Ideal) ℓ) (ρ : Dev Cert.InADxRefIdeal.nD → PrngReg) :
    θ_run (Cert.InADxRefIdeal.defs (F := Ideal)) (onTc (τ := Cert.InADxRefIdeal.τ) (Cert.InADxRefIdeal.main (F := Ideal))) ⟨m, fun _ => 0, ρ⟩
      (fun r => (∀ c : Dev Cert.InADxRefIdeal.nD,
        r.2.mem ((c.tc : Thread Cert.InADxRefIdeal.nD Cert.InADxRefIdeal.τ).loc Cert.InADxRefIdeal.main_arg0) = m ((c.tc : Thread Cert.InADxRefIdeal.nD Cert.InADxRefIdeal.τ).loc Cert.InADxRefIdeal.main_arg0)
        ∧ r.2.mem ((c.tc : Thread Cert.InADxRefIdeal.nD Cert.InADxRefIdeal.τ).loc Cert.InADxRefIdeal.main_arg1) = m ((c.tc : Thread Cert.InADxRefIdeal.nD Cert.InADxRefIdeal.τ).loc Cert.InADxRefIdeal.main_arg1))
        ∧ r.2.sem = fun _ => 0) :=
  (θ_run Cert.InADxRefIdeal.defs _ _).mono (fun r h => ⟨fun c => (h c).2, sem_eq_zero_of_no_sems (by decide) r.2⟩)
    (Cert.InADxRefIdeal.Value.run (F := Ideal) m ρ)

theorem inADx_value : @Cert.algebraic_InADxIdeal_InADxRefIdeal Cert.InADxIdeal.Gen.facts Cert.InADxRefIdeal.Gen.facts := by
  intro m g m' g' _ hargs
  refine ⟨_, (θ_run Cert.InADxIdeal.defs _ _).mono (fun r h => h) (Cert.InADxIdeal.Value.run_blocks (F := Ideal) m g),
    (θ_run Cert.InADxRefIdeal.defs _ _).mono (fun r h c => ⟨(h c).1.trans ?_, (h c).2⟩) (Cert.InADxRefIdeal.Value.run (F := Ideal) m' g')⟩
  refine (Cert.InADxRefIdeal.Read.val_main_v0_eq _ _).trans ?_
  rw [(hargs c).1, (hargs c).2]
  exact (Cert.InADxIdeal.Product.value m c).symm

/-! ### The weights' gradient of the first layer's input projection. -/

theorem inADw_reference_frame (m : (ℓ : Loc Cert.InADwRefIdeal.nD Cert.InADwRefIdeal.τ Cert.InADwRefIdeal.sig) → Buf (Elt Ideal) ℓ) (ρ : Dev Cert.InADwRefIdeal.nD → PrngReg) :
    θ_run (Cert.InADwRefIdeal.defs (F := Ideal)) (onTc (τ := Cert.InADwRefIdeal.τ) (Cert.InADwRefIdeal.main (F := Ideal))) ⟨m, fun _ => 0, ρ⟩
      (fun r => (∀ c : Dev Cert.InADwRefIdeal.nD,
        r.2.mem ((c.tc : Thread Cert.InADwRefIdeal.nD Cert.InADwRefIdeal.τ).loc Cert.InADwRefIdeal.main_arg0) = m ((c.tc : Thread Cert.InADwRefIdeal.nD Cert.InADwRefIdeal.τ).loc Cert.InADwRefIdeal.main_arg0)
        ∧ r.2.mem ((c.tc : Thread Cert.InADwRefIdeal.nD Cert.InADwRefIdeal.τ).loc Cert.InADwRefIdeal.main_arg1) = m ((c.tc : Thread Cert.InADwRefIdeal.nD Cert.InADwRefIdeal.τ).loc Cert.InADwRefIdeal.main_arg1))
        ∧ r.2.sem = fun _ => 0) :=
  (θ_run Cert.InADwRefIdeal.defs _ _).mono (fun r h => ⟨fun c => (h c).2, sem_eq_zero_of_no_sems (by decide) r.2⟩)
    (Cert.InADwRefIdeal.Value.run (F := Ideal) m ρ)

theorem inADw_value : @Cert.algebraic_InADwIdeal_InADwRefIdeal Cert.InADwIdeal.Gen.facts Cert.InADwRefIdeal.Gen.facts := by
  intro m g m' g' _ hargs
  refine ⟨_, (θ_run Cert.InADwIdeal.defs _ _).mono (fun r h => h) (Cert.InADwIdeal.Value.run_blocks (F := Ideal) m g),
    (θ_run Cert.InADwRefIdeal.defs _ _).mono (fun r h c => ⟨(h c).1.trans ?_, (h c).2⟩) (Cert.InADwRefIdeal.Value.run (F := Ideal) m' g')⟩
  refine (Cert.InADwRefIdeal.Read.val_main_v2_eq _ _).trans ?_
  rw [(hargs c).1, (hargs c).2]
  exact (Cert.InADwIdeal.Product.value m c).symm

/-! ### The second layer's input projection. -/

theorem inB_reference_frame (m : (ℓ : Loc Cert.InBRefIdeal.nD Cert.InBRefIdeal.τ Cert.InBRefIdeal.sig) → Buf (Elt Ideal) ℓ) (ρ : Dev Cert.InBRefIdeal.nD → PrngReg) :
    θ_run (Cert.InBRefIdeal.defs (F := Ideal)) (onTc (τ := Cert.InBRefIdeal.τ) (Cert.InBRefIdeal.main (F := Ideal))) ⟨m, fun _ => 0, ρ⟩
      (fun r => (∀ c : Dev Cert.InBRefIdeal.nD,
        r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
        ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
        ∧ r.2.sem = fun _ => 0) :=
  (θ_run Cert.InBRefIdeal.defs _ _).mono (fun r h => ⟨fun c => (h c).2, sem_eq_zero_of_no_sems (by decide) r.2⟩)
    (Cert.InBRefIdeal.Value.run (F := Ideal) m ρ)

theorem inB_value : @Cert.algebraic_InBIdeal_InBRefIdeal Cert.InBIdeal.Gen.facts Cert.InBRefIdeal.Gen.facts := by
  intro m g m' g' _ hargs
  refine ⟨_, (θ_run Cert.InBIdeal.defs _ _).mono (fun r h => h) (Cert.InBIdeal.Value.run_blocks (F := Ideal) m g),
    (θ_run Cert.InBRefIdeal.defs _ _).mono (fun r h c => ⟨(h c).1.trans ?_, (h c).2⟩) (Cert.InBRefIdeal.Value.run (F := Ideal) m' g')⟩
  refine (Cert.InBRefIdeal.Read.val_main_v0_eq _ _).trans ?_
  rw [(hargs c).1, (hargs c).2]
  exact (Cert.InBIdeal.Product.value m c).symm

/-! ### The rows' gradient of the second layer's input projection. -/

theorem inBDx_reference_frame (m : (ℓ : Loc Cert.InBDxRefIdeal.nD Cert.InBDxRefIdeal.τ Cert.InBDxRefIdeal.sig) → Buf (Elt Ideal) ℓ) (ρ : Dev Cert.InBDxRefIdeal.nD → PrngReg) :
    θ_run (Cert.InBDxRefIdeal.defs (F := Ideal)) (onTc (τ := Cert.InBDxRefIdeal.τ) (Cert.InBDxRefIdeal.main (F := Ideal))) ⟨m, fun _ => 0, ρ⟩
      (fun r => (∀ c : Dev Cert.InBDxRefIdeal.nD,
        r.2.mem ((c.tc : Thread Cert.InBDxRefIdeal.nD Cert.InBDxRefIdeal.τ).loc Cert.InBDxRefIdeal.main_arg0) = m ((c.tc : Thread Cert.InBDxRefIdeal.nD Cert.InBDxRefIdeal.τ).loc Cert.InBDxRefIdeal.main_arg0)
        ∧ r.2.mem ((c.tc : Thread Cert.InBDxRefIdeal.nD Cert.InBDxRefIdeal.τ).loc Cert.InBDxRefIdeal.main_arg1) = m ((c.tc : Thread Cert.InBDxRefIdeal.nD Cert.InBDxRefIdeal.τ).loc Cert.InBDxRefIdeal.main_arg1))
        ∧ r.2.sem = fun _ => 0) :=
  (θ_run Cert.InBDxRefIdeal.defs _ _).mono (fun r h => ⟨fun c => (h c).2, sem_eq_zero_of_no_sems (by decide) r.2⟩)
    (Cert.InBDxRefIdeal.Value.run (F := Ideal) m ρ)

theorem inBDx_value : @Cert.algebraic_InBDxIdeal_InBDxRefIdeal Cert.InBDxIdeal.Gen.facts Cert.InBDxRefIdeal.Gen.facts := by
  intro m g m' g' _ hargs
  refine ⟨_, (θ_run Cert.InBDxIdeal.defs _ _).mono (fun r h => h) (Cert.InBDxIdeal.Value.run_blocks (F := Ideal) m g),
    (θ_run Cert.InBDxRefIdeal.defs _ _).mono (fun r h c => ⟨(h c).1.trans ?_, (h c).2⟩) (Cert.InBDxRefIdeal.Value.run (F := Ideal) m' g')⟩
  refine (Cert.InBDxRefIdeal.Read.val_main_v0_eq _ _).trans ?_
  rw [(hargs c).1, (hargs c).2]
  exact (Cert.InBDxIdeal.Product.value m c).symm

/-! ### The weights' gradient of the second layer's input projection. -/

theorem inBDw_reference_frame (m : (ℓ : Loc Cert.InBDwRefIdeal.nD Cert.InBDwRefIdeal.τ Cert.InBDwRefIdeal.sig) → Buf (Elt Ideal) ℓ) (ρ : Dev Cert.InBDwRefIdeal.nD → PrngReg) :
    θ_run (Cert.InBDwRefIdeal.defs (F := Ideal)) (onTc (τ := Cert.InBDwRefIdeal.τ) (Cert.InBDwRefIdeal.main (F := Ideal))) ⟨m, fun _ => 0, ρ⟩
      (fun r => (∀ c : Dev Cert.InBDwRefIdeal.nD,
        r.2.mem ((c.tc : Thread Cert.InBDwRefIdeal.nD Cert.InBDwRefIdeal.τ).loc Cert.InBDwRefIdeal.main_arg0) = m ((c.tc : Thread Cert.InBDwRefIdeal.nD Cert.InBDwRefIdeal.τ).loc Cert.InBDwRefIdeal.main_arg0)
        ∧ r.2.mem ((c.tc : Thread Cert.InBDwRefIdeal.nD Cert.InBDwRefIdeal.τ).loc Cert.InBDwRefIdeal.main_arg1) = m ((c.tc : Thread Cert.InBDwRefIdeal.nD Cert.InBDwRefIdeal.τ).loc Cert.InBDwRefIdeal.main_arg1))
        ∧ r.2.sem = fun _ => 0) :=
  (θ_run Cert.InBDwRefIdeal.defs _ _).mono (fun r h => ⟨fun c => (h c).2, sem_eq_zero_of_no_sems (by decide) r.2⟩)
    (Cert.InBDwRefIdeal.Value.run (F := Ideal) m ρ)

theorem inBDw_value : @Cert.algebraic_InBDwIdeal_InBDwRefIdeal Cert.InBDwIdeal.Gen.facts Cert.InBDwRefIdeal.Gen.facts := by
  intro m g m' g' _ hargs
  refine ⟨_, (θ_run Cert.InBDwIdeal.defs _ _).mono (fun r h => h) (Cert.InBDwIdeal.Value.run_blocks (F := Ideal) m g),
    (θ_run Cert.InBDwRefIdeal.defs _ _).mono (fun r h c => ⟨(h c).1.trans ?_, (h c).2⟩) (Cert.InBDwRefIdeal.Value.run (F := Ideal) m' g')⟩
  refine (Cert.InBDwRefIdeal.Read.val_main_v2_eq _ _).trans ?_
  rw [(hargs c).1, (hargs c).2]
  exact (Cert.InBDwIdeal.Product.value m c).symm

/-! ### A layer's output projection. -/

theorem out_reference_frame (m : (ℓ : Loc Cert.OutRefIdeal.nD Cert.OutRefIdeal.τ Cert.OutRefIdeal.sig) → Buf (Elt Ideal) ℓ) (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩
      (fun r => (∀ c : Dev Cert.OutRefIdeal.nD,
        r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
        ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
        ∧ r.2.sem = fun _ => 0) :=
  (θ_run Cert.OutRefIdeal.defs _ _).mono (fun r h => ⟨fun c => (h c).2, sem_eq_zero_of_no_sems (by decide) r.2⟩)
    (Cert.OutRefIdeal.Value.run (F := Ideal) m ρ)

theorem out_value : @Cert.algebraic_OutIdeal_OutRefIdeal Cert.OutIdeal.Gen.facts Cert.OutRefIdeal.Gen.facts := by
  intro m g m' g' _ hargs
  refine ⟨_, (θ_run Cert.OutIdeal.defs _ _).mono (fun r h => h) (Cert.OutIdeal.Value.run_blocks (F := Ideal) m g),
    (θ_run Cert.OutRefIdeal.defs _ _).mono (fun r h c => ⟨(h c).1.trans ?_, (h c).2⟩) (Cert.OutRefIdeal.Value.run (F := Ideal) m' g')⟩
  refine (Cert.OutRefIdeal.Read.val_main_v0_eq _ _).trans ?_
  rw [(hargs c).1, (hargs c).2]
  exact (Cert.OutIdeal.Product.value m c).symm

/-! ### The rows' gradient of a layer's output projection. -/

theorem outDx_reference_frame (m : (ℓ : Loc Cert.OutDxRefIdeal.nD Cert.OutDxRefIdeal.τ Cert.OutDxRefIdeal.sig) → Buf (Elt Ideal) ℓ) (ρ : Dev Cert.OutDxRefIdeal.nD → PrngReg) :
    θ_run (Cert.OutDxRefIdeal.defs (F := Ideal)) (onTc (τ := Cert.OutDxRefIdeal.τ) (Cert.OutDxRefIdeal.main (F := Ideal))) ⟨m, fun _ => 0, ρ⟩
      (fun r => (∀ c : Dev Cert.OutDxRefIdeal.nD,
        r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
        ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
        ∧ r.2.sem = fun _ => 0) :=
  (θ_run Cert.OutDxRefIdeal.defs _ _).mono (fun r h => ⟨fun c => (h c).2, sem_eq_zero_of_no_sems (by decide) r.2⟩)
    (Cert.OutDxRefIdeal.Value.run (F := Ideal) m ρ)

theorem outDx_value : @Cert.algebraic_OutDxIdeal_OutDxRefIdeal Cert.OutDxIdeal.Gen.facts Cert.OutDxRefIdeal.Gen.facts := by
  intro m g m' g' _ hargs
  refine ⟨_, (θ_run Cert.OutDxIdeal.defs _ _).mono (fun r h => h) (Cert.OutDxIdeal.Value.run_blocks (F := Ideal) m g),
    (θ_run Cert.OutDxRefIdeal.defs _ _).mono (fun r h c => ⟨(h c).1.trans ?_, (h c).2⟩) (Cert.OutDxRefIdeal.Value.run (F := Ideal) m' g')⟩
  refine (Cert.OutDxRefIdeal.Read.val_main_v0_eq _ _).trans ?_
  rw [(hargs c).1, (hargs c).2]
  exact (Cert.OutDxIdeal.Product.value m c).symm

/-! ### The weights' gradient of a layer's output projection. -/

theorem outDw_reference_frame (m : (ℓ : Loc Cert.OutDwRefIdeal.nD Cert.OutDwRefIdeal.τ Cert.OutDwRefIdeal.sig) → Buf (Elt Ideal) ℓ) (ρ : Dev Cert.OutDwRefIdeal.nD → PrngReg) :
    θ_run (Cert.OutDwRefIdeal.defs (F := Ideal)) (onTc (τ := Cert.OutDwRefIdeal.τ) (Cert.OutDwRefIdeal.main (F := Ideal))) ⟨m, fun _ => 0, ρ⟩
      (fun r => (∀ c : Dev Cert.OutDwRefIdeal.nD,
        r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
        ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
        ∧ r.2.sem = fun _ => 0) :=
  (θ_run Cert.OutDwRefIdeal.defs _ _).mono (fun r h => ⟨fun c => (h c).2, sem_eq_zero_of_no_sems (by decide) r.2⟩)
    (Cert.OutDwRefIdeal.Value.run (F := Ideal) m ρ)

theorem outDw_value : @Cert.algebraic_OutDwIdeal_OutDwRefIdeal Cert.OutDwIdeal.Gen.facts Cert.OutDwRefIdeal.Gen.facts := by
  intro m g m' g' _ hargs
  refine ⟨_, (θ_run Cert.OutDwIdeal.defs _ _).mono (fun r h => h) (Cert.OutDwIdeal.Value.run_blocks (F := Ideal) m g),
    (θ_run Cert.OutDwRefIdeal.defs _ _).mono (fun r h c => ⟨(h c).1.trans ?_, (h c).2⟩) (Cert.OutDwRefIdeal.Value.run (F := Ideal) m' g')⟩
  refine (Cert.OutDwRefIdeal.Read.val_main_v2_eq _ _).trans ?_
  rw [(hargs c).1, (hargs c).2]
  exact (Cert.OutDwIdeal.Product.value m c).symm

/-! ### The queries' projection. -/

theorem qb_reference_frame (m : (ℓ : Loc Cert.QbRefIdeal.nD Cert.QbRefIdeal.τ Cert.QbRefIdeal.sig) → Buf (Elt Ideal) ℓ) (ρ : Dev Cert.QbRefIdeal.nD → PrngReg) :
    θ_run (Cert.QbRefIdeal.defs (F := Ideal)) (onTc (τ := Cert.QbRefIdeal.τ) (Cert.QbRefIdeal.main (F := Ideal))) ⟨m, fun _ => 0, ρ⟩
      (fun r => (∀ c : Dev Cert.QbRefIdeal.nD,
        r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
        ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1))
        ∧ r.2.sem = fun _ => 0) :=
  (θ_run Cert.QbRefIdeal.defs _ _).mono (fun r h => ⟨fun c => (h c).2, sem_eq_zero_of_no_sems (by decide) r.2⟩)
    (Cert.QbRefIdeal.Value.run (F := Ideal) m ρ)

theorem qb_value : @Cert.algebraic_QbIdeal_QbRefIdeal Cert.QbIdeal.Gen.facts Cert.QbRefIdeal.Gen.facts := by
  intro m g m' g' _ hargs
  refine ⟨_, (θ_run Cert.QbIdeal.defs _ _).mono (fun r h => h) (Cert.QbIdeal.Value.run_blocks (F := Ideal) m g),
    (θ_run Cert.QbRefIdeal.defs _ _).mono (fun r h c => ⟨(h c).1.trans ?_, (h c).2⟩) (Cert.QbRefIdeal.Value.run (F := Ideal) m' g')⟩
  refine (Cert.QbRefIdeal.Read.val_main_v0_eq _ _).trans ?_
  rw [(hargs c).1, (hargs c).2]
  exact (Cert.QbIdeal.Product.value m c).symm

/-! ### The rows' gradient of the queries' projection. -/

theorem qbDx_reference_frame (m : (ℓ : Loc Cert.QbDxRefIdeal.nD Cert.QbDxRefIdeal.τ Cert.QbDxRefIdeal.sig) → Buf (Elt Ideal) ℓ) (ρ : Dev Cert.QbDxRefIdeal.nD → PrngReg) :
    θ_run (Cert.QbDxRefIdeal.defs (F := Ideal)) (onTc (τ := Cert.QbDxRefIdeal.τ) (Cert.QbDxRefIdeal.main (F := Ideal))) ⟨m, fun _ => 0, ρ⟩
      (fun r => (∀ c : Dev Cert.QbDxRefIdeal.nD,
        r.2.mem ((c.tc : Thread Cert.QbDxRefIdeal.nD Cert.QbDxRefIdeal.τ).loc Cert.QbDxRefIdeal.main_arg0) = m ((c.tc : Thread Cert.QbDxRefIdeal.nD Cert.QbDxRefIdeal.τ).loc Cert.QbDxRefIdeal.main_arg0)
        ∧ r.2.mem ((c.tc : Thread Cert.QbDxRefIdeal.nD Cert.QbDxRefIdeal.τ).loc Cert.QbDxRefIdeal.main_arg1) = m ((c.tc : Thread Cert.QbDxRefIdeal.nD Cert.QbDxRefIdeal.τ).loc Cert.QbDxRefIdeal.main_arg1))
        ∧ r.2.sem = fun _ => 0) :=
  (θ_run Cert.QbDxRefIdeal.defs _ _).mono (fun r h => ⟨fun c => (h c).2, sem_eq_zero_of_no_sems (by decide) r.2⟩)
    (Cert.QbDxRefIdeal.Value.run (F := Ideal) m ρ)

theorem qbDx_value : @Cert.algebraic_QbDxIdeal_QbDxRefIdeal Cert.QbDxIdeal.Gen.facts Cert.QbDxRefIdeal.Gen.facts := by
  intro m g m' g' _ hargs
  refine ⟨_, (θ_run Cert.QbDxIdeal.defs _ _).mono (fun r h => h) (Cert.QbDxIdeal.Value.run_blocks (F := Ideal) m g),
    (θ_run Cert.QbDxRefIdeal.defs _ _).mono (fun r h c => ⟨(h c).1.trans ?_, (h c).2⟩) (Cert.QbDxRefIdeal.Value.run (F := Ideal) m' g')⟩
  refine (Cert.QbDxRefIdeal.Read.val_main_v0_eq _ _).trans ?_
  rw [(hargs c).1, (hargs c).2]
  exact (Cert.QbDxIdeal.Product.value m c).symm

/-! ### The weights' gradient of the queries' projection. -/

theorem qbDw_reference_frame (m : (ℓ : Loc Cert.QbDwRefIdeal.nD Cert.QbDwRefIdeal.τ Cert.QbDwRefIdeal.sig) → Buf (Elt Ideal) ℓ) (ρ : Dev Cert.QbDwRefIdeal.nD → PrngReg) :
    θ_run (Cert.QbDwRefIdeal.defs (F := Ideal)) (onTc (τ := Cert.QbDwRefIdeal.τ) (Cert.QbDwRefIdeal.main (F := Ideal))) ⟨m, fun _ => 0, ρ⟩
      (fun r => (∀ c : Dev Cert.QbDwRefIdeal.nD,
        r.2.mem ((c.tc : Thread Cert.QbDwRefIdeal.nD Cert.QbDwRefIdeal.τ).loc Cert.QbDwRefIdeal.main_arg0) = m ((c.tc : Thread Cert.QbDwRefIdeal.nD Cert.QbDwRefIdeal.τ).loc Cert.QbDwRefIdeal.main_arg0)
        ∧ r.2.mem ((c.tc : Thread Cert.QbDwRefIdeal.nD Cert.QbDwRefIdeal.τ).loc Cert.QbDwRefIdeal.main_arg1) = m ((c.tc : Thread Cert.QbDwRefIdeal.nD Cert.QbDwRefIdeal.τ).loc Cert.QbDwRefIdeal.main_arg1))
        ∧ r.2.sem = fun _ => 0) :=
  (θ_run Cert.QbDwRefIdeal.defs _ _).mono (fun r h => ⟨fun c => (h c).2, sem_eq_zero_of_no_sems (by decide) r.2⟩)
    (Cert.QbDwRefIdeal.Value.run (F := Ideal) m ρ)

theorem qbDw_value : @Cert.algebraic_QbDwIdeal_QbDwRefIdeal Cert.QbDwIdeal.Gen.facts Cert.QbDwRefIdeal.Gen.facts := by
  intro m g m' g' _ hargs
  refine ⟨_, (θ_run Cert.QbDwIdeal.defs _ _).mono (fun r h => h) (Cert.QbDwIdeal.Value.run_blocks (F := Ideal) m g),
    (θ_run Cert.QbDwRefIdeal.defs _ _).mono (fun r h c => ⟨(h c).1.trans ?_, (h c).2⟩) (Cert.QbDwRefIdeal.Value.run (F := Ideal) m' g')⟩
  refine (Cert.QbDwRefIdeal.Read.val_main_v2_eq _ _).trans ?_
  rw [(hargs c).1, (hargs c).2]
  exact (Cert.QbDwIdeal.Product.value m c).symm

/-! ### The keys' and values' projection. -/

theorem kvb_reference_frame (m : (ℓ : Loc Cert.KvbRefIdeal.nD Cert.KvbRefIdeal.τ Cert.KvbRefIdeal.sig) → Buf (Elt Ideal) ℓ) (ρ : Dev Cert.KvbRefIdeal.nD → PrngReg) :
    θ_run (Cert.KvbRefIdeal.defs (F := Ideal)) (onTc (τ := Cert.KvbRefIdeal.τ) (Cert.KvbRefIdeal.main (F := Ideal))) ⟨m, fun _ => 0, ρ⟩
      (fun r => (∀ c : Dev Cert.KvbRefIdeal.nD,
        r.2.mem ((c.tc : Thread Cert.KvbRefIdeal.nD Cert.KvbRefIdeal.τ).loc Cert.KvbRefIdeal.main_arg0) = m ((c.tc : Thread Cert.KvbRefIdeal.nD Cert.KvbRefIdeal.τ).loc Cert.KvbRefIdeal.main_arg0)
        ∧ r.2.mem ((c.tc : Thread Cert.KvbRefIdeal.nD Cert.KvbRefIdeal.τ).loc Cert.KvbRefIdeal.main_arg1) = m ((c.tc : Thread Cert.KvbRefIdeal.nD Cert.KvbRefIdeal.τ).loc Cert.KvbRefIdeal.main_arg1))
        ∧ r.2.sem = fun _ => 0) :=
  (θ_run Cert.KvbRefIdeal.defs _ _).mono (fun r h => ⟨fun c => (h c).2, sem_eq_zero_of_no_sems (by decide) r.2⟩)
    (Cert.KvbRefIdeal.Value.run (F := Ideal) m ρ)

theorem kvb_value : @Cert.algebraic_KvbIdeal_KvbRefIdeal Cert.KvbIdeal.Gen.facts Cert.KvbRefIdeal.Gen.facts := by
  intro m g m' g' _ hargs
  refine ⟨_, (θ_run Cert.KvbIdeal.defs _ _).mono (fun r h => h) (Cert.KvbIdeal.Value.run_blocks (F := Ideal) m g),
    (θ_run Cert.KvbRefIdeal.defs _ _).mono (fun r h c => ⟨(h c).1.trans ?_, (h c).2⟩) (Cert.KvbRefIdeal.Value.run (F := Ideal) m' g')⟩
  refine (Cert.KvbRefIdeal.Read.val_main_v1_eq _ _).trans ?_
  rw [(hargs c).1, (hargs c).2]
  exact (Cert.KvbIdeal.Product.value m c).symm

/-! ### The rows' gradient of the keys' and values' projection. -/

theorem kvbDx_reference_frame (m : (ℓ : Loc Cert.KvbDxRefIdeal.nD Cert.KvbDxRefIdeal.τ Cert.KvbDxRefIdeal.sig) → Buf (Elt Ideal) ℓ) (ρ : Dev Cert.KvbDxRefIdeal.nD → PrngReg) :
    θ_run (Cert.KvbDxRefIdeal.defs (F := Ideal)) (onTc (τ := Cert.KvbDxRefIdeal.τ) (Cert.KvbDxRefIdeal.main (F := Ideal))) ⟨m, fun _ => 0, ρ⟩
      (fun r => (∀ c : Dev Cert.KvbDxRefIdeal.nD,
        r.2.mem ((c.tc : Thread Cert.KvbDxRefIdeal.nD Cert.KvbDxRefIdeal.τ).loc Cert.KvbDxRefIdeal.main_arg0) = m ((c.tc : Thread Cert.KvbDxRefIdeal.nD Cert.KvbDxRefIdeal.τ).loc Cert.KvbDxRefIdeal.main_arg0)
        ∧ r.2.mem ((c.tc : Thread Cert.KvbDxRefIdeal.nD Cert.KvbDxRefIdeal.τ).loc Cert.KvbDxRefIdeal.main_arg1) = m ((c.tc : Thread Cert.KvbDxRefIdeal.nD Cert.KvbDxRefIdeal.τ).loc Cert.KvbDxRefIdeal.main_arg1))
        ∧ r.2.sem = fun _ => 0) :=
  (θ_run Cert.KvbDxRefIdeal.defs _ _).mono (fun r h => ⟨fun c => (h c).2, sem_eq_zero_of_no_sems (by decide) r.2⟩)
    (Cert.KvbDxRefIdeal.Value.run (F := Ideal) m ρ)

theorem kvbDx_value : @Cert.algebraic_KvbDxIdeal_KvbDxRefIdeal Cert.KvbDxIdeal.Gen.facts Cert.KvbDxRefIdeal.Gen.facts := by
  intro m g m' g' _ hargs
  refine ⟨_, (θ_run Cert.KvbDxIdeal.defs _ _).mono (fun r h => h) (Cert.KvbDxIdeal.Value.run_blocks (F := Ideal) m g),
    (θ_run Cert.KvbDxRefIdeal.defs _ _).mono (fun r h c => ⟨(h c).1.trans ?_, (h c).2⟩) (Cert.KvbDxRefIdeal.Value.run (F := Ideal) m' g')⟩
  refine (Cert.KvbDxRefIdeal.Read.val_main_v0_eq _ _).trans ?_
  rw [(hargs c).1, (hargs c).2]
  exact (Cert.KvbDxIdeal.Product.value m c).symm

/-! ### The weights' gradient of the keys' and values' projection. -/

theorem kvbDw_reference_frame (m : (ℓ : Loc Cert.KvbDwRefIdeal.nD Cert.KvbDwRefIdeal.τ Cert.KvbDwRefIdeal.sig) → Buf (Elt Ideal) ℓ) (ρ : Dev Cert.KvbDwRefIdeal.nD → PrngReg) :
    θ_run (Cert.KvbDwRefIdeal.defs (F := Ideal)) (onTc (τ := Cert.KvbDwRefIdeal.τ) (Cert.KvbDwRefIdeal.main (F := Ideal))) ⟨m, fun _ => 0, ρ⟩
      (fun r => (∀ c : Dev Cert.KvbDwRefIdeal.nD,
        r.2.mem ((c.tc : Thread Cert.KvbDwRefIdeal.nD Cert.KvbDwRefIdeal.τ).loc Cert.KvbDwRefIdeal.main_arg0) = m ((c.tc : Thread Cert.KvbDwRefIdeal.nD Cert.KvbDwRefIdeal.τ).loc Cert.KvbDwRefIdeal.main_arg0)
        ∧ r.2.mem ((c.tc : Thread Cert.KvbDwRefIdeal.nD Cert.KvbDwRefIdeal.τ).loc Cert.KvbDwRefIdeal.main_arg1) = m ((c.tc : Thread Cert.KvbDwRefIdeal.nD Cert.KvbDwRefIdeal.τ).loc Cert.KvbDwRefIdeal.main_arg1))
        ∧ r.2.sem = fun _ => 0) :=
  (θ_run Cert.KvbDwRefIdeal.defs _ _).mono (fun r h => ⟨fun c => (h c).2, sem_eq_zero_of_no_sems (by decide) r.2⟩)
    (Cert.KvbDwRefIdeal.Value.run (F := Ideal) m ρ)

theorem kvbDw_value : @Cert.algebraic_KvbDwIdeal_KvbDwRefIdeal Cert.KvbDwIdeal.Gen.facts Cert.KvbDwRefIdeal.Gen.facts := by
  intro m g m' g' _ hargs
  refine ⟨_, (θ_run Cert.KvbDwIdeal.defs _ _).mono (fun r h => h) (Cert.KvbDwIdeal.Value.run_blocks (F := Ideal) m g),
    (θ_run Cert.KvbDwRefIdeal.defs _ _).mono (fun r h c => ⟨(h c).1.trans ?_, (h c).2⟩) (Cert.KvbDwRefIdeal.Value.run (F := Ideal) m' g')⟩
  refine (Cert.KvbDwRefIdeal.Read.val_main_v2_eq _ _).trans ?_
  rw [(hargs c).1, (hargs c).2]
  exact (Cert.KvbDwIdeal.Product.value m c).symm

/-! ### The optimiser's step of the feed-forward block's first weight. -/

theorem stepUp_reference_frame (m : (ℓ : Loc Cert.StepUpRefIdeal.nD Cert.StepUpRefIdeal.τ Cert.StepUpRefIdeal.sig) → Buf (Elt Ideal) ℓ) (ρ : Dev Cert.StepUpRefIdeal.nD → PrngReg) :
    θ_run (Cert.StepUpRefIdeal.defs (F := Ideal)) (onTc (τ := Cert.StepUpRefIdeal.τ) (Cert.StepUpRefIdeal.main (F := Ideal))) ⟨m, fun _ => 0, ρ⟩
      (fun r => (∀ c : Dev Cert.StepUpRefIdeal.nD,
        r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
        ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
        ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
        ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3))
        ∧ r.2.sem = fun _ => 0) :=
  (θ_run Cert.StepUpRefIdeal.defs _ _).mono (fun r h => ⟨fun c => (h c).2.2.2.2, sem_eq_zero_of_no_sems (by decide) r.2⟩)
    (Cert.StepUpRefIdeal.Value.run (F := Ideal) m ρ)

open Cert.StepUpIdeal.Step in
theorem stepUp_value : @Cert.algebraic_StepUpIdeal_StepUpRefIdeal Cert.StepUpIdeal.Gen.facts Cert.StepUpRefIdeal.Gen.facts := by
  intro m g m' g' _ hargs
  refine ⟨_, _, _, _, (θ_run Cert.StepUpIdeal.defs _ _).mono (fun r h => h) (Cert.StepUpIdeal.Value.run_blocks (F := Ideal) m g),
    (θ_run Cert.StepUpRefIdeal.defs _ _).mono (fun r h c => ⟨(h c).1.trans ?_, (h c).2.1.trans ?_, (h c).2.2.1.trans ?_, (h c).2.2.2.1.trans ?_, (h c).2.2.2.2⟩)
      (Cert.StepUpRefIdeal.Value.run (F := Ideal) m' g')⟩
  · refine (Cert.StepUpRefIdeal.Read.val_main_v1_eq _).trans ?_
    rw [(hargs c).1]
    exact (value4 m c).symm
  · refine (Cert.StepUpRefIdeal.Read.val_main_v25_eq _ _ _ _).trans ?_
    rw [(hargs c).1, (hargs c).2.1, (hargs c).2.2.1, (hargs c).2.2.2]
    exact (value5 m c).symm
  · refine (Cert.StepUpRefIdeal.Read.val_main_v6_eq _ _).trans ?_
    rw [(hargs c).1, (hargs c).2.2.1]
    exact (value6 m c).symm
  · refine (Cert.StepUpRefIdeal.Read.val_main_v12_eq _ _).trans ?_
    rw [(hargs c).1, (hargs c).2.2.2]
    exact (value7 m c).symm

/-! ### The optimiser's step of the feed-forward block's second weight. -/

theorem stepDown_reference_frame (m : (ℓ : Loc Cert.StepDownRefIdeal.nD Cert.StepDownRefIdeal.τ Cert.StepDownRefIdeal.sig) → Buf (Elt Ideal) ℓ) (ρ : Dev Cert.StepDownRefIdeal.nD → PrngReg) :
    θ_run (Cert.StepDownRefIdeal.defs (F := Ideal)) (onTc (τ := Cert.StepDownRefIdeal.τ) (Cert.StepDownRefIdeal.main (F := Ideal))) ⟨m, fun _ => 0, ρ⟩
      (fun r => (∀ c : Dev Cert.StepDownRefIdeal.nD,
        r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
        ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
        ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
        ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
        ∧ r.2.sem = fun _ => 0) :=
  (θ_run Cert.StepDownRefIdeal.defs _ _).mono (fun r h => ⟨fun c => (h c).2.2.2.2, sem_eq_zero_of_no_sems (by decide) r.2⟩)
    (Cert.StepDownRefIdeal.Value.run (F := Ideal) m ρ)

open Cert.StepDownIdeal.Step in
theorem stepDown_value : @Cert.algebraic_StepDownIdeal_StepDownRefIdeal Cert.StepDownIdeal.Gen.facts Cert.StepDownRefIdeal.Gen.facts := by
  intro m g m' g' _ hargs
  refine ⟨_, _, _, _, (θ_run Cert.StepDownIdeal.defs _ _).mono (fun r h => h) (Cert.StepDownIdeal.Value.run_blocks (F := Ideal) m g),
    (θ_run Cert.StepDownRefIdeal.defs _ _).mono (fun r h c => ⟨(h c).1.trans ?_, (h c).2.1.trans ?_, (h c).2.2.1.trans ?_, (h c).2.2.2.1.trans ?_, (h c).2.2.2.2⟩)
      (Cert.StepDownRefIdeal.Value.run (F := Ideal) m' g')⟩
  · refine (Cert.StepDownRefIdeal.Read.val_main_v1_eq _).trans ?_
    rw [(hargs c).1]
    exact (value4 m c).symm
  · refine (Cert.StepDownRefIdeal.Read.val_main_v25_eq _ _ _ _).trans ?_
    rw [(hargs c).1, (hargs c).2.1, (hargs c).2.2.1, (hargs c).2.2.2]
    exact (value5 m c).symm
  · refine (Cert.StepDownRefIdeal.Read.val_main_v6_eq _ _).trans ?_
    rw [(hargs c).1, (hargs c).2.2.1]
    exact (value6 m c).symm
  · refine (Cert.StepDownRefIdeal.Read.val_main_v12_eq _ _).trans ?_
    rw [(hargs c).1, (hargs c).2.2.2]
    exact (value7 m c).symm

/-! ### The optimiser's step of the first layer's input projection. -/

theorem stepInA_reference_frame (m : (ℓ : Loc Cert.StepInARefIdeal.nD Cert.StepInARefIdeal.τ Cert.StepInARefIdeal.sig) → Buf (Elt Ideal) ℓ) (ρ : Dev Cert.StepInARefIdeal.nD → PrngReg) :
    θ_run (Cert.StepInARefIdeal.defs (F := Ideal)) (onTc (τ := Cert.StepInARefIdeal.τ) (Cert.StepInARefIdeal.main (F := Ideal))) ⟨m, fun _ => 0, ρ⟩
      (fun r => (∀ c : Dev Cert.StepInARefIdeal.nD,
        r.2.mem ((c.tc : Thread Cert.StepInARefIdeal.nD Cert.StepInARefIdeal.τ).loc Cert.StepInARefIdeal.main_arg0) = m ((c.tc : Thread Cert.StepInARefIdeal.nD Cert.StepInARefIdeal.τ).loc Cert.StepInARefIdeal.main_arg0)
        ∧ r.2.mem ((c.tc : Thread Cert.StepInARefIdeal.nD Cert.StepInARefIdeal.τ).loc Cert.StepInARefIdeal.main_arg1) = m ((c.tc : Thread Cert.StepInARefIdeal.nD Cert.StepInARefIdeal.τ).loc Cert.StepInARefIdeal.main_arg1)
        ∧ r.2.mem ((c.tc : Thread Cert.StepInARefIdeal.nD Cert.StepInARefIdeal.τ).loc Cert.StepInARefIdeal.main_arg2) = m ((c.tc : Thread Cert.StepInARefIdeal.nD Cert.StepInARefIdeal.τ).loc Cert.StepInARefIdeal.main_arg2)
        ∧ r.2.mem ((c.tc : Thread Cert.StepInARefIdeal.nD Cert.StepInARefIdeal.τ).loc Cert.StepInARefIdeal.main_arg3) = m ((c.tc : Thread Cert.StepInARefIdeal.nD Cert.StepInARefIdeal.τ).loc Cert.StepInARefIdeal.main_arg3))
        ∧ r.2.sem = fun _ => 0) :=
  (θ_run Cert.StepInARefIdeal.defs _ _).mono (fun r h => ⟨fun c => (h c).2.2.2.2, sem_eq_zero_of_no_sems (by decide) r.2⟩)
    (Cert.StepInARefIdeal.Value.run (F := Ideal) m ρ)

open Cert.StepInAIdeal.Step in
theorem stepInA_value : @Cert.algebraic_StepInAIdeal_StepInARefIdeal Cert.StepInAIdeal.Gen.facts Cert.StepInARefIdeal.Gen.facts := by
  intro m g m' g' _ hargs
  refine ⟨_, _, _, _, (θ_run Cert.StepInAIdeal.defs _ _).mono (fun r h => h) (Cert.StepInAIdeal.Value.run_blocks (F := Ideal) m g),
    (θ_run Cert.StepInARefIdeal.defs _ _).mono (fun r h c => ⟨(h c).1.trans ?_, (h c).2.1.trans ?_, (h c).2.2.1.trans ?_, (h c).2.2.2.1.trans ?_, (h c).2.2.2.2⟩)
      (Cert.StepInARefIdeal.Value.run (F := Ideal) m' g')⟩
  · refine (Cert.StepInARefIdeal.Read.val_main_v1_eq _).trans ?_
    rw [(hargs c).1]
    exact (value4 m c).symm
  · refine (Cert.StepInARefIdeal.Read.val_main_v25_eq _ _ _ _).trans ?_
    rw [(hargs c).1, (hargs c).2.1, (hargs c).2.2.1, (hargs c).2.2.2]
    exact (value5 m c).symm
  · refine (Cert.StepInARefIdeal.Read.val_main_v6_eq _ _).trans ?_
    rw [(hargs c).1, (hargs c).2.2.1]
    exact (value6 m c).symm
  · refine (Cert.StepInARefIdeal.Read.val_main_v12_eq _ _).trans ?_
    rw [(hargs c).1, (hargs c).2.2.2]
    exact (value7 m c).symm

/-! ### The optimiser's step of the second layer's input projection. -/

theorem stepInB_reference_frame (m : (ℓ : Loc Cert.StepInBRefIdeal.nD Cert.StepInBRefIdeal.τ Cert.StepInBRefIdeal.sig) → Buf (Elt Ideal) ℓ) (ρ : Dev Cert.StepInBRefIdeal.nD → PrngReg) :
    θ_run (Cert.StepInBRefIdeal.defs (F := Ideal)) (onTc (τ := Cert.StepInBRefIdeal.τ) (Cert.StepInBRefIdeal.main (F := Ideal))) ⟨m, fun _ => 0, ρ⟩
      (fun r => (∀ c : Dev Cert.StepInBRefIdeal.nD,
        r.2.mem ((c.tc : Thread Cert.StepInBRefIdeal.nD Cert.StepInBRefIdeal.τ).loc Cert.StepInBRefIdeal.main_arg0) = m ((c.tc : Thread Cert.StepInBRefIdeal.nD Cert.StepInBRefIdeal.τ).loc Cert.StepInBRefIdeal.main_arg0)
        ∧ r.2.mem ((c.tc : Thread Cert.StepInBRefIdeal.nD Cert.StepInBRefIdeal.τ).loc Cert.StepInBRefIdeal.main_arg1) = m ((c.tc : Thread Cert.StepInBRefIdeal.nD Cert.StepInBRefIdeal.τ).loc Cert.StepInBRefIdeal.main_arg1)
        ∧ r.2.mem ((c.tc : Thread Cert.StepInBRefIdeal.nD Cert.StepInBRefIdeal.τ).loc Cert.StepInBRefIdeal.main_arg2) = m ((c.tc : Thread Cert.StepInBRefIdeal.nD Cert.StepInBRefIdeal.τ).loc Cert.StepInBRefIdeal.main_arg2)
        ∧ r.2.mem ((c.tc : Thread Cert.StepInBRefIdeal.nD Cert.StepInBRefIdeal.τ).loc Cert.StepInBRefIdeal.main_arg3) = m ((c.tc : Thread Cert.StepInBRefIdeal.nD Cert.StepInBRefIdeal.τ).loc Cert.StepInBRefIdeal.main_arg3))
        ∧ r.2.sem = fun _ => 0) :=
  (θ_run Cert.StepInBRefIdeal.defs _ _).mono (fun r h => ⟨fun c => (h c).2.2.2.2, sem_eq_zero_of_no_sems (by decide) r.2⟩)
    (Cert.StepInBRefIdeal.Value.run (F := Ideal) m ρ)

open Cert.StepInBIdeal.Step in
theorem stepInB_value : @Cert.algebraic_StepInBIdeal_StepInBRefIdeal Cert.StepInBIdeal.Gen.facts Cert.StepInBRefIdeal.Gen.facts := by
  intro m g m' g' _ hargs
  refine ⟨_, _, _, _, (θ_run Cert.StepInBIdeal.defs _ _).mono (fun r h => h) (Cert.StepInBIdeal.Value.run_blocks (F := Ideal) m g),
    (θ_run Cert.StepInBRefIdeal.defs _ _).mono (fun r h c => ⟨(h c).1.trans ?_, (h c).2.1.trans ?_, (h c).2.2.1.trans ?_, (h c).2.2.2.1.trans ?_, (h c).2.2.2.2⟩)
      (Cert.StepInBRefIdeal.Value.run (F := Ideal) m' g')⟩
  · refine (Cert.StepInBRefIdeal.Read.val_main_v1_eq _).trans ?_
    rw [(hargs c).1]
    exact (value4 m c).symm
  · refine (Cert.StepInBRefIdeal.Read.val_main_v25_eq _ _ _ _).trans ?_
    rw [(hargs c).1, (hargs c).2.1, (hargs c).2.2.1, (hargs c).2.2.2]
    exact (value5 m c).symm
  · refine (Cert.StepInBRefIdeal.Read.val_main_v6_eq _ _).trans ?_
    rw [(hargs c).1, (hargs c).2.2.1]
    exact (value6 m c).symm
  · refine (Cert.StepInBRefIdeal.Read.val_main_v12_eq _ _).trans ?_
    rw [(hargs c).1, (hargs c).2.2.2]
    exact (value7 m c).symm

/-! ### The optimiser's step of the output projection. -/

theorem stepOut_reference_frame (m : (ℓ : Loc Cert.StepOutRefIdeal.nD Cert.StepOutRefIdeal.τ Cert.StepOutRefIdeal.sig) → Buf (Elt Ideal) ℓ) (ρ : Dev Cert.StepOutRefIdeal.nD → PrngReg) :
    θ_run (Cert.StepOutRefIdeal.defs (F := Ideal)) (onTc (τ := Cert.StepOutRefIdeal.τ) (Cert.StepOutRefIdeal.main (F := Ideal))) ⟨m, fun _ => 0, ρ⟩
      (fun r => (∀ c : Dev Cert.StepOutRefIdeal.nD,
        r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
        ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
        ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
        ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
        ∧ r.2.sem = fun _ => 0) :=
  (θ_run Cert.StepOutRefIdeal.defs _ _).mono (fun r h => ⟨fun c => (h c).2.2.2.2, sem_eq_zero_of_no_sems (by decide) r.2⟩)
    (Cert.StepOutRefIdeal.Value.run (F := Ideal) m ρ)

open Cert.StepOutIdeal.Step in
theorem stepOut_value : @Cert.algebraic_StepOutIdeal_StepOutRefIdeal Cert.StepOutIdeal.Gen.facts Cert.StepOutRefIdeal.Gen.facts := by
  intro m g m' g' _ hargs
  refine ⟨_, _, _, _, (θ_run Cert.StepOutIdeal.defs _ _).mono (fun r h => h) (Cert.StepOutIdeal.Value.run_blocks (F := Ideal) m g),
    (θ_run Cert.StepOutRefIdeal.defs _ _).mono (fun r h c => ⟨(h c).1.trans ?_, (h c).2.1.trans ?_, (h c).2.2.1.trans ?_, (h c).2.2.2.1.trans ?_, (h c).2.2.2.2⟩)
      (Cert.StepOutRefIdeal.Value.run (F := Ideal) m' g')⟩
  · refine (Cert.StepOutRefIdeal.Read.val_main_v1_eq _).trans ?_
    rw [(hargs c).1]
    exact (value4 m c).symm
  · refine (Cert.StepOutRefIdeal.Read.val_main_v25_eq _ _ _ _).trans ?_
    rw [(hargs c).1, (hargs c).2.1, (hargs c).2.2.1, (hargs c).2.2.2]
    exact (value5 m c).symm
  · refine (Cert.StepOutRefIdeal.Read.val_main_v6_eq _ _).trans ?_
    rw [(hargs c).1, (hargs c).2.2.1]
    exact (value6 m c).symm
  · refine (Cert.StepOutRefIdeal.Read.val_main_v12_eq _ _).trans ?_
    rw [(hargs c).1, (hargs c).2.2.2]
    exact (value7 m c).symm

/-! ### The optimiser's step of the queries' projection. -/

theorem stepQb_reference_frame (m : (ℓ : Loc Cert.StepQbRefIdeal.nD Cert.StepQbRefIdeal.τ Cert.StepQbRefIdeal.sig) → Buf (Elt Ideal) ℓ) (ρ : Dev Cert.StepQbRefIdeal.nD → PrngReg) :
    θ_run (Cert.StepQbRefIdeal.defs (F := Ideal)) (onTc (τ := Cert.StepQbRefIdeal.τ) (Cert.StepQbRefIdeal.main (F := Ideal))) ⟨m, fun _ => 0, ρ⟩
      (fun r => (∀ c : Dev Cert.StepQbRefIdeal.nD,
        r.2.mem ((c.tc : Thread Cert.StepQbRefIdeal.nD Cert.StepQbRefIdeal.τ).loc Cert.StepQbRefIdeal.main_arg0) = m ((c.tc : Thread Cert.StepQbRefIdeal.nD Cert.StepQbRefIdeal.τ).loc Cert.StepQbRefIdeal.main_arg0)
        ∧ r.2.mem ((c.tc : Thread Cert.StepQbRefIdeal.nD Cert.StepQbRefIdeal.τ).loc Cert.StepQbRefIdeal.main_arg1) = m ((c.tc : Thread Cert.StepQbRefIdeal.nD Cert.StepQbRefIdeal.τ).loc Cert.StepQbRefIdeal.main_arg1)
        ∧ r.2.mem ((c.tc : Thread Cert.StepQbRefIdeal.nD Cert.StepQbRefIdeal.τ).loc Cert.StepQbRefIdeal.main_arg2) = m ((c.tc : Thread Cert.StepQbRefIdeal.nD Cert.StepQbRefIdeal.τ).loc Cert.StepQbRefIdeal.main_arg2)
        ∧ r.2.mem ((c.tc : Thread Cert.StepQbRefIdeal.nD Cert.StepQbRefIdeal.τ).loc Cert.StepQbRefIdeal.main_arg3) = m ((c.tc : Thread Cert.StepQbRefIdeal.nD Cert.StepQbRefIdeal.τ).loc Cert.StepQbRefIdeal.main_arg3))
        ∧ r.2.sem = fun _ => 0) :=
  (θ_run Cert.StepQbRefIdeal.defs _ _).mono (fun r h => ⟨fun c => (h c).2.2.2.2, sem_eq_zero_of_no_sems (by decide) r.2⟩)
    (Cert.StepQbRefIdeal.Value.run (F := Ideal) m ρ)

open Cert.StepQbIdeal.Step in
theorem stepQb_value : @Cert.algebraic_StepQbIdeal_StepQbRefIdeal Cert.StepQbIdeal.Gen.facts Cert.StepQbRefIdeal.Gen.facts := by
  intro m g m' g' _ hargs
  refine ⟨_, _, _, _, (θ_run Cert.StepQbIdeal.defs _ _).mono (fun r h => h) (Cert.StepQbIdeal.Value.run_blocks (F := Ideal) m g),
    (θ_run Cert.StepQbRefIdeal.defs _ _).mono (fun r h c => ⟨(h c).1.trans ?_, (h c).2.1.trans ?_, (h c).2.2.1.trans ?_, (h c).2.2.2.1.trans ?_, (h c).2.2.2.2⟩)
      (Cert.StepQbRefIdeal.Value.run (F := Ideal) m' g')⟩
  · refine (Cert.StepQbRefIdeal.Read.val_main_v1_eq _).trans ?_
    rw [(hargs c).1]
    exact (value4 m c).symm
  · refine (Cert.StepQbRefIdeal.Read.val_main_v25_eq _ _ _ _).trans ?_
    rw [(hargs c).1, (hargs c).2.1, (hargs c).2.2.1, (hargs c).2.2.2]
    exact (value5 m c).symm
  · refine (Cert.StepQbRefIdeal.Read.val_main_v6_eq _ _).trans ?_
    rw [(hargs c).1, (hargs c).2.2.1]
    exact (value6 m c).symm
  · refine (Cert.StepQbRefIdeal.Read.val_main_v12_eq _ _).trans ?_
    rw [(hargs c).1, (hargs c).2.2.2]
    exact (value7 m c).symm

/-! ### The optimiser's step of the keys' and values' projection. -/

theorem stepKvb_reference_frame (m : (ℓ : Loc Cert.StepKvbRefIdeal.nD Cert.StepKvbRefIdeal.τ Cert.StepKvbRefIdeal.sig) → Buf (Elt Ideal) ℓ) (ρ : Dev Cert.StepKvbRefIdeal.nD → PrngReg) :
    θ_run (Cert.StepKvbRefIdeal.defs (F := Ideal)) (onTc (τ := Cert.StepKvbRefIdeal.τ) (Cert.StepKvbRefIdeal.main (F := Ideal))) ⟨m, fun _ => 0, ρ⟩
      (fun r => (∀ c : Dev Cert.StepKvbRefIdeal.nD,
        r.2.mem ((c.tc : Thread Cert.StepKvbRefIdeal.nD Cert.StepKvbRefIdeal.τ).loc Cert.StepKvbRefIdeal.main_arg0) = m ((c.tc : Thread Cert.StepKvbRefIdeal.nD Cert.StepKvbRefIdeal.τ).loc Cert.StepKvbRefIdeal.main_arg0)
        ∧ r.2.mem ((c.tc : Thread Cert.StepKvbRefIdeal.nD Cert.StepKvbRefIdeal.τ).loc Cert.StepKvbRefIdeal.main_arg1) = m ((c.tc : Thread Cert.StepKvbRefIdeal.nD Cert.StepKvbRefIdeal.τ).loc Cert.StepKvbRefIdeal.main_arg1)
        ∧ r.2.mem ((c.tc : Thread Cert.StepKvbRefIdeal.nD Cert.StepKvbRefIdeal.τ).loc Cert.StepKvbRefIdeal.main_arg2) = m ((c.tc : Thread Cert.StepKvbRefIdeal.nD Cert.StepKvbRefIdeal.τ).loc Cert.StepKvbRefIdeal.main_arg2)
        ∧ r.2.mem ((c.tc : Thread Cert.StepKvbRefIdeal.nD Cert.StepKvbRefIdeal.τ).loc Cert.StepKvbRefIdeal.main_arg3) = m ((c.tc : Thread Cert.StepKvbRefIdeal.nD Cert.StepKvbRefIdeal.τ).loc Cert.StepKvbRefIdeal.main_arg3))
        ∧ r.2.sem = fun _ => 0) :=
  (θ_run Cert.StepKvbRefIdeal.defs _ _).mono (fun r h => ⟨fun c => (h c).2.2.2.2, sem_eq_zero_of_no_sems (by decide) r.2⟩)
    (Cert.StepKvbRefIdeal.Value.run (F := Ideal) m ρ)

open Cert.StepKvbIdeal.Step in
theorem stepKvb_value : @Cert.algebraic_StepKvbIdeal_StepKvbRefIdeal Cert.StepKvbIdeal.Gen.facts Cert.StepKvbRefIdeal.Gen.facts := by
  intro m g m' g' _ hargs
  refine ⟨_, _, _, _, (θ_run Cert.StepKvbIdeal.defs _ _).mono (fun r h => h) (Cert.StepKvbIdeal.Value.run_blocks (F := Ideal) m g),
    (θ_run Cert.StepKvbRefIdeal.defs _ _).mono (fun r h c => ⟨(h c).1.trans ?_, (h c).2.1.trans ?_, (h c).2.2.1.trans ?_, (h c).2.2.2.1.trans ?_, (h c).2.2.2.2⟩)
      (Cert.StepKvbRefIdeal.Value.run (F := Ideal) m' g')⟩
  · refine (Cert.StepKvbRefIdeal.Read.val_main_v1_eq _).trans ?_
    rw [(hargs c).1]
    exact (value4 m c).symm
  · refine (Cert.StepKvbRefIdeal.Read.val_main_v25_eq _ _ _ _).trans ?_
    rw [(hargs c).1, (hargs c).2.1, (hargs c).2.2.1, (hargs c).2.2.2]
    exact (value5 m c).symm
  · refine (Cert.StepKvbRefIdeal.Read.val_main_v6_eq _ _).trans ?_
    rw [(hargs c).1, (hargs c).2.2.1]
    exact (value6 m c).symm
  · refine (Cert.StepKvbRefIdeal.Read.val_main_v12_eq _ _).trans ?_
    rw [(hargs c).1, (hargs c).2.2.2]
    exact (value7 m c).symm

/-! ### The optimiser's step of the modulation. -/

theorem stepAda_reference_frame (m : (ℓ : Loc Cert.StepAdaRefIdeal.nD Cert.StepAdaRefIdeal.τ Cert.StepAdaRefIdeal.sig) → Buf (Elt Ideal) ℓ) (ρ : Dev Cert.StepAdaRefIdeal.nD → PrngReg) :
    θ_run (Cert.StepAdaRefIdeal.defs (F := Ideal)) (onTc (τ := Cert.StepAdaRefIdeal.τ) (Cert.StepAdaRefIdeal.main (F := Ideal))) ⟨m, fun _ => 0, ρ⟩
      (fun r => (∀ c : Dev Cert.StepAdaRefIdeal.nD,
        r.2.mem ((c.tc : Thread Cert.StepAdaRefIdeal.nD Cert.StepAdaRefIdeal.τ).loc Cert.StepAdaRefIdeal.main_arg0) = m ((c.tc : Thread Cert.StepAdaRefIdeal.nD Cert.StepAdaRefIdeal.τ).loc Cert.StepAdaRefIdeal.main_arg0)
        ∧ r.2.mem ((c.tc : Thread Cert.StepAdaRefIdeal.nD Cert.StepAdaRefIdeal.τ).loc Cert.StepAdaRefIdeal.main_arg1) = m ((c.tc : Thread Cert.StepAdaRefIdeal.nD Cert.StepAdaRefIdeal.τ).loc Cert.StepAdaRefIdeal.main_arg1)
        ∧ r.2.mem ((c.tc : Thread Cert.StepAdaRefIdeal.nD Cert.StepAdaRefIdeal.τ).loc Cert.StepAdaRefIdeal.main_arg2) = m ((c.tc : Thread Cert.StepAdaRefIdeal.nD Cert.StepAdaRefIdeal.τ).loc Cert.StepAdaRefIdeal.main_arg2)
        ∧ r.2.mem ((c.tc : Thread Cert.StepAdaRefIdeal.nD Cert.StepAdaRefIdeal.τ).loc Cert.StepAdaRefIdeal.main_arg3) = m ((c.tc : Thread Cert.StepAdaRefIdeal.nD Cert.StepAdaRefIdeal.τ).loc Cert.StepAdaRefIdeal.main_arg3))
        ∧ r.2.sem = fun _ => 0) :=
  (θ_run Cert.StepAdaRefIdeal.defs _ _).mono (fun r h => ⟨fun c => (h c).2.2.2.2, sem_eq_zero_of_no_sems (by decide) r.2⟩)
    (Cert.StepAdaRefIdeal.Value.run (F := Ideal) m ρ)

open Cert.StepAdaIdeal.Step in
theorem stepAda_value : @Cert.algebraic_StepAdaIdeal_StepAdaRefIdeal Cert.StepAdaIdeal.Gen.facts Cert.StepAdaRefIdeal.Gen.facts := by
  intro m g m' g' _ hargs
  refine ⟨_, _, _, _, (θ_run Cert.StepAdaIdeal.defs _ _).mono (fun r h => h) (Cert.StepAdaIdeal.Value.run_blocks (F := Ideal) m g),
    (θ_run Cert.StepAdaRefIdeal.defs _ _).mono (fun r h c => ⟨(h c).1.trans ?_, (h c).2.1.trans ?_, (h c).2.2.1.trans ?_, (h c).2.2.2.1.trans ?_, (h c).2.2.2.2⟩)
      (Cert.StepAdaRefIdeal.Value.run (F := Ideal) m' g')⟩
  · refine (Cert.StepAdaRefIdeal.Read.val_main_v0_eq _).trans ?_
    rw [(hargs c).1]
    exact (value4 m c).symm
  · refine (Cert.StepAdaRefIdeal.Read.val_main_v24_eq _ _ _ _).trans ?_
    rw [(hargs c).1, (hargs c).2.1, (hargs c).2.2.1, (hargs c).2.2.2]
    exact (value5 m c).symm
  · refine (Cert.StepAdaRefIdeal.Read.val_main_v5_eq _ _).trans ?_
    rw [(hargs c).1, (hargs c).2.2.1]
    exact (value6 m c).symm
  · refine (Cert.StepAdaRefIdeal.Read.val_main_v11_eq _ _).trans ?_
    rw [(hargs c).1, (hargs c).2.2.2]
    exact (value7 m c).symm

/-! ### The optimiser's step of the small weights, packed in one array. -/

theorem stepSmall_reference_frame (m : (ℓ : Loc Cert.StepSmallRefIdeal.nD Cert.StepSmallRefIdeal.τ Cert.StepSmallRefIdeal.sig) → Buf (Elt Ideal) ℓ) (ρ : Dev Cert.StepSmallRefIdeal.nD → PrngReg) :
    θ_run (Cert.StepSmallRefIdeal.defs (F := Ideal)) (onTc (τ := Cert.StepSmallRefIdeal.τ) (Cert.StepSmallRefIdeal.main (F := Ideal))) ⟨m, fun _ => 0, ρ⟩
      (fun r => (∀ c : Dev Cert.StepSmallRefIdeal.nD,
        r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
        ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
        ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
        ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3))
        ∧ r.2.sem = fun _ => 0) :=
  (θ_run Cert.StepSmallRefIdeal.defs _ _).mono (fun r h => ⟨fun c => (h c).2.2.2.2, sem_eq_zero_of_no_sems (by decide) r.2⟩)
    (Cert.StepSmallRefIdeal.Value.run (F := Ideal) m ρ)

open Cert.StepSmallIdeal.Step in
theorem stepSmall_value : @Cert.algebraic_StepSmallIdeal_StepSmallRefIdeal Cert.StepSmallIdeal.Gen.facts Cert.StepSmallRefIdeal.Gen.facts := by
  intro m g m' g' _ hargs
  refine ⟨_, _, _, _, (θ_run Cert.StepSmallIdeal.defs _ _).mono (fun r h => h) (Cert.StepSmallIdeal.Value.run_blocks (F := Ideal) m g),
    (θ_run Cert.StepSmallRefIdeal.defs _ _).mono (fun r h c => ⟨(h c).1.trans ?_, (h c).2.1.trans ?_, (h c).2.2.1.trans ?_, (h c).2.2.2.1.trans ?_, (h c).2.2.2.2⟩)
      (Cert.StepSmallRefIdeal.Value.run (F := Ideal) m' g')⟩
  · refine (Cert.StepSmallRefIdeal.Read.val_main_v0_eq _).trans ?_
    rw [(hargs c).1]
    exact (value4 m c).symm
  · refine (Cert.StepSmallRefIdeal.Read.val_main_v24_eq _ _ _ _).trans ?_
    rw [(hargs c).1, (hargs c).2.1, (hargs c).2.2.1, (hargs c).2.2.2]
    exact (value5 m c).symm
  · refine (Cert.StepSmallRefIdeal.Read.val_main_v5_eq _ _).trans ?_
    rw [(hargs c).1, (hargs c).2.2.1]
    exact (value6 m c).symm
  · refine (Cert.StepSmallRefIdeal.Read.val_main_v11_eq _ _).trans ?_
    rw [(hargs c).1, (hargs c).2.2.2]
    exact (value7 m c).symm

/-! ### The modulation. -/

theorem ada_reference_frame (m : (ℓ : Loc Cert.AdaRefIdeal.nD Cert.AdaRefIdeal.τ Cert.AdaRefIdeal.sig) → Buf (Elt Ideal) ℓ) (ρ : Dev Cert.AdaRefIdeal.nD → PrngReg) :
    θ_run (Cert.AdaRefIdeal.defs (F := Ideal)) (onTc (τ := Cert.AdaRefIdeal.τ) (Cert.AdaRefIdeal.main (F := Ideal))) ⟨m, fun _ => 0, ρ⟩
      (fun r => (∀ c : Dev Cert.AdaRefIdeal.nD,
        r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
        ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
        ∧ r.2.sem = fun _ => 0) :=
  (θ_run Cert.AdaRefIdeal.defs _ _).mono (fun r h => ⟨fun c => (h c).2, sem_eq_zero_of_no_sems (by decide) r.2⟩)
    (Cert.AdaRefIdeal.Value.run (F := Ideal) m ρ)

open Cert.AdaIdeal.Product in
theorem ada_value : @Cert.algebraic_AdaIdeal_AdaRefIdeal Cert.AdaIdeal.Gen.facts Cert.AdaRefIdeal.Gen.facts := by
  intro m g m' g' _ hargs
  refine ⟨_, (θ_run Cert.AdaIdeal.defs _ _).mono (fun r h => h) (Cert.AdaIdeal.Value.run_blocks (F := Ideal) m g),
    (θ_run Cert.AdaRefIdeal.defs _ _).mono (fun r h c => ⟨(h c).1.trans ?_, (h c).2⟩) (Cert.AdaRefIdeal.Value.run (F := Ideal) m' g')⟩
  refine (Cert.AdaRefIdeal.Read.val_main_v1_eq _ _).trans ?_
  rw [(hargs c).1, (hargs c).2]
  exact (value m c).symm

/-! ### The gradient of the modulation's weights. -/

theorem adaDw_reference_frame (m : (ℓ : Loc Cert.AdaDwRefIdeal.nD Cert.AdaDwRefIdeal.τ Cert.AdaDwRefIdeal.sig) → Buf (Elt Ideal) ℓ) (ρ : Dev Cert.AdaDwRefIdeal.nD → PrngReg) :
    θ_run (Cert.AdaDwRefIdeal.defs (F := Ideal)) (onTc (τ := Cert.AdaDwRefIdeal.τ) (Cert.AdaDwRefIdeal.main (F := Ideal))) ⟨m, fun _ => 0, ρ⟩
      (fun r => (∀ c : Dev Cert.AdaDwRefIdeal.nD,
        r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
        ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
        ∧ r.2.sem = fun _ => 0) :=
  (θ_run Cert.AdaDwRefIdeal.defs _ _).mono (fun r h => ⟨fun c => (h c).2, sem_eq_zero_of_no_sems (by decide) r.2⟩)
    (Cert.AdaDwRefIdeal.Value.run (F := Ideal) m ρ)

open Cert.AdaDwIdeal.Product in
theorem adaDw_value : @Cert.algebraic_AdaDwIdeal_AdaDwRefIdeal Cert.AdaDwIdeal.Gen.facts Cert.AdaDwRefIdeal.Gen.facts := by
  intro m g m' g' _ hargs
  refine ⟨_, (θ_run Cert.AdaDwIdeal.defs _ _).mono (fun r h => h) (Cert.AdaDwIdeal.Value.run_blocks (F := Ideal) m g),
    (θ_run Cert.AdaDwRefIdeal.defs _ _).mono (fun r h c => ⟨(h c).1.trans ?_, (h c).2⟩) (Cert.AdaDwRefIdeal.Value.run (F := Ideal) m' g')⟩
  refine (Cert.AdaDwRefIdeal.Read.val_main_v2_eq _ _).trans ?_
  rw [(hargs c).1, (hargs c).2]
  exact (value m c).symm

/-! ### The gradient of the conditions' rows. -/

theorem adaDact_reference_frame (m : (ℓ : Loc Cert.AdaDactRefIdeal.nD Cert.AdaDactRefIdeal.τ Cert.AdaDactRefIdeal.sig) → Buf (Elt Ideal) ℓ) (ρ : Dev Cert.AdaDactRefIdeal.nD → PrngReg) :
    θ_run (Cert.AdaDactRefIdeal.defs (F := Ideal)) (onTc (τ := Cert.AdaDactRefIdeal.τ) (Cert.AdaDactRefIdeal.main (F := Ideal))) ⟨m, fun _ => 0, ρ⟩
      (fun r => (∀ c : Dev Cert.AdaDactRefIdeal.nD,
        r.2.mem ((c.tc : Thread Cert.AdaDactRefIdeal.nD Cert.AdaDactRefIdeal.τ).loc Cert.AdaDactRefIdeal.main_arg0) = m ((c.tc : Thread Cert.AdaDactRefIdeal.nD Cert.AdaDactRefIdeal.τ).loc Cert.AdaDactRefIdeal.main_arg0)
        ∧ r.2.mem ((c.tc : Thread Cert.AdaDactRefIdeal.nD Cert.AdaDactRefIdeal.τ).loc Cert.AdaDactRefIdeal.main_arg1) = m ((c.tc : Thread Cert.AdaDactRefIdeal.nD Cert.AdaDactRefIdeal.τ).loc Cert.AdaDactRefIdeal.main_arg1)
        ∧ r.2.mem ((c.tc : Thread Cert.AdaDactRefIdeal.nD Cert.AdaDactRefIdeal.τ).loc Cert.AdaDactRefIdeal.main_arg2) = m ((c.tc : Thread Cert.AdaDactRefIdeal.nD Cert.AdaDactRefIdeal.τ).loc Cert.AdaDactRefIdeal.main_arg2)
        ∧ r.2.mem ((c.tc : Thread Cert.AdaDactRefIdeal.nD Cert.AdaDactRefIdeal.τ).loc Cert.AdaDactRefIdeal.main_arg3) = m ((c.tc : Thread Cert.AdaDactRefIdeal.nD Cert.AdaDactRefIdeal.τ).loc Cert.AdaDactRefIdeal.main_arg3))
        ∧ r.2.sem = fun _ => 0) :=
  (θ_run Cert.AdaDactRefIdeal.defs _ _).mono (fun r h => ⟨fun c => (h c).2, sem_eq_zero_of_no_sems (by decide) r.2⟩)
    (Cert.AdaDactRefIdeal.Value.run (F := Ideal) m ρ)

open Cert.AdaDactIdeal.Product in
theorem adaDact_value : @Cert.algebraic_AdaDactIdeal_AdaDactRefIdeal Cert.AdaDactIdeal.Gen.facts Cert.AdaDactRefIdeal.Gen.facts := by
  intro m g m' g' _ hargs
  refine ⟨_, (θ_run Cert.AdaDactIdeal.defs _ _).mono (fun r h => h) (Cert.AdaDactIdeal.Value.run_blocks (F := Ideal) m g),
    (θ_run Cert.AdaDactRefIdeal.defs _ _).mono (fun r h c => ⟨(h c).1.trans ?_, (h c).2⟩) (Cert.AdaDactRefIdeal.Value.run (F := Ideal) m' g')⟩
  refine (Cert.AdaDactRefIdeal.Read.val_main_v2_eq _ _ _ _).trans ?_
  rw [(hargs c).1, (hargs c).2.1, (hargs c).2.2.1, (hargs c).2.2.2]
  exact (value m c).symm

/-! ### The sum of the devices' gradients of the small weights. -/

theorem sumSmall_reference_frame (m : (ℓ : Loc Cert.SumSmallRefIdeal.nD Cert.SumSmallRefIdeal.τ Cert.SumSmallRefIdeal.sig) → Buf (Elt Ideal) ℓ) (ρ : Dev Cert.SumSmallRefIdeal.nD → PrngReg) :
    θ_run (Cert.SumSmallRefIdeal.defs (F := Ideal)) (onTc (τ := Cert.SumSmallRefIdeal.τ) (Cert.SumSmallRefIdeal.main (F := Ideal))) ⟨m, fun _ => 0, ρ⟩
      (fun r => (∀ c : Dev Cert.SumSmallRefIdeal.nD,
        r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
        ∧ r.2.sem = fun _ => 0) :=
  (θ_run Cert.SumSmallRefIdeal.defs _ _).mono (fun r h => ⟨fun c => (h c).2, sem_eq_zero_of_no_sems (by decide) r.2⟩)
    (Cert.SumSmallRefIdeal.Value.run (F := Ideal) m ρ)

open Cert.SumSmallIdeal.Sum in
theorem sumSmall_value : @Cert.algebraic_SumSmallIdeal_SumSmallRefIdeal Cert.SumSmallIdeal.Gen.facts Cert.SumSmallRefIdeal.Gen.facts := by
  intro m g m' g' _ hargs
  refine ⟨_, (θ_run Cert.SumSmallIdeal.defs _ _).mono (fun r h => h) (Cert.SumSmallIdeal.Value.run_blocks (F := Ideal) m g),
    (θ_run Cert.SumSmallRefIdeal.defs _ _).mono (fun r h c => ⟨(h c).1.trans ?_, (h c).2⟩) (Cert.SumSmallRefIdeal.Value.run (F := Ideal) m' g')⟩
  refine (Cert.SumSmallRefIdeal.Read.val_main_v0_eq _).trans ?_
  rw [(hargs c)]
  exact (value m c).symm

/-! ### The modulation's cotangents and its bias gradients. -/

theorem prep_reference_frame (m : (ℓ : Loc Cert.PrepRefIdeal.nD Cert.PrepRefIdeal.τ Cert.PrepRefIdeal.sig) → Buf (Elt Ideal) ℓ) (ρ : Dev Cert.PrepRefIdeal.nD → PrngReg) :
    θ_run (Cert.PrepRefIdeal.defs (F := Ideal)) (onTc (τ := Cert.PrepRefIdeal.τ) (Cert.PrepRefIdeal.main (F := Ideal))) ⟨m, fun _ => 0, ρ⟩
      (fun r => (∀ c : Dev Cert.PrepRefIdeal.nD,
        r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
        ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
        ∧ r.2.sem = fun _ => 0) :=
  (θ_run Cert.PrepRefIdeal.defs _ _).mono (fun r h => ⟨fun c => (h c).2.2, sem_eq_zero_of_no_sems (by decide) r.2⟩)
    (Cert.PrepRefIdeal.Value.run (F := Ideal) m ρ)

open Cert.PrepIdeal.Rows in
theorem prep_value : @Cert.algebraic_PrepIdeal_PrepRefIdeal Cert.PrepIdeal.Gen.facts Cert.PrepRefIdeal.Gen.facts := by
  intro m g m' g' _ hargs
  refine ⟨_, _, (θ_run Cert.PrepIdeal.defs _ _).mono (fun r h => h) (Cert.PrepIdeal.Value.run (F := Ideal) m g),
    (θ_run Cert.PrepRefIdeal.defs _ _).mono (fun r h c => ⟨(h c).1.trans ?_, (h c).2.1.trans ?_, (h c).2.2⟩) (Cert.PrepRefIdeal.Value.run (F := Ideal) m' g')⟩
  · refine (Cert.PrepRefIdeal.Read.val_main_v3_eq _ _).trans ?_
    rw [(hargs c).1, (hargs c).2]
    exact (pay2_eq _ _).symm
  · refine (Cert.PrepRefIdeal.Read.val_main_v6_eq _ _).trans ?_
    rw [(hargs c).1, (hargs c).2]
    exact (pay3_eq _ _).symm

theorem claim : Cert.Claim :=
  ⟨Cert.Kernel.Gen.facts, Cert.KernelIdeal.Gen.facts, Cert.ReferenceIdeal.Gen.facts,
    Cert.Fwd.Gen.facts, Cert.FwdIdeal.Gen.facts, Cert.FwdRefIdeal.Gen.facts,
    Cert.UpDw.Gen.facts, Cert.UpDwIdeal.Gen.facts, Cert.UpDwRefIdeal.Gen.facts, Cert.UpDx.Gen.facts, Cert.UpDxIdeal.Gen.facts, Cert.UpDxRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.Up.Gen.facts, Cert.UpIdeal.Gen.facts, Cert.UpRefIdeal.Gen.facts, Cert.Down.Gen.facts, Cert.DownIdeal.Gen.facts, Cert.DownRefIdeal.Gen.facts, Cert.InA.Gen.facts, Cert.InAIdeal.Gen.facts, Cert.InARefIdeal.Gen.facts, Cert.InADx.Gen.facts, Cert.InADxIdeal.Gen.facts, Cert.InADxRefIdeal.Gen.facts, Cert.InADw.Gen.facts, Cert.InADwIdeal.Gen.facts, Cert.InADwRefIdeal.Gen.facts, Cert.InB.Gen.facts, Cert.InBIdeal.Gen.facts, Cert.InBRefIdeal.Gen.facts, Cert.InBDx.Gen.facts, Cert.InBDxIdeal.Gen.facts, Cert.InBDxRefIdeal.Gen.facts, Cert.InBDw.Gen.facts, Cert.InBDwIdeal.Gen.facts, Cert.InBDwRefIdeal.Gen.facts, Cert.Out.Gen.facts, Cert.OutIdeal.Gen.facts, Cert.OutRefIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.Qb.Gen.facts, Cert.QbIdeal.Gen.facts, Cert.QbRefIdeal.Gen.facts, Cert.QbDx.Gen.facts, Cert.QbDxIdeal.Gen.facts, Cert.QbDxRefIdeal.Gen.facts, Cert.QbDw.Gen.facts, Cert.QbDwIdeal.Gen.facts, Cert.QbDwRefIdeal.Gen.facts, Cert.Kvb.Gen.facts, Cert.KvbIdeal.Gen.facts, Cert.KvbRefIdeal.Gen.facts, Cert.KvbDx.Gen.facts, Cert.KvbDxIdeal.Gen.facts, Cert.KvbDxRefIdeal.Gen.facts, Cert.KvbDw.Gen.facts, Cert.KvbDwIdeal.Gen.facts, Cert.KvbDwRefIdeal.Gen.facts, Cert.StepUp.Gen.facts, Cert.StepUpIdeal.Gen.facts, Cert.StepUpRefIdeal.Gen.facts, Cert.StepDown.Gen.facts, Cert.StepDownIdeal.Gen.facts, Cert.StepDownRefIdeal.Gen.facts, Cert.StepInA.Gen.facts, Cert.StepInAIdeal.Gen.facts, Cert.StepInARefIdeal.Gen.facts, Cert.StepInB.Gen.facts, Cert.StepInBIdeal.Gen.facts, Cert.StepInBRefIdeal.Gen.facts, Cert.StepOut.Gen.facts, Cert.StepOutIdeal.Gen.facts, Cert.StepOutRefIdeal.Gen.facts, Cert.StepQb.Gen.facts, Cert.StepQbIdeal.Gen.facts, Cert.StepQbRefIdeal.Gen.facts, Cert.StepKvb.Gen.facts, Cert.StepKvbIdeal.Gen.facts, Cert.StepKvbRefIdeal.Gen.facts, Cert.StepAda.Gen.facts, Cert.StepAdaIdeal.Gen.facts, Cert.StepAdaRefIdeal.Gen.facts, Cert.StepSmall.Gen.facts, Cert.StepSmallIdeal.Gen.facts, Cert.StepSmallRefIdeal.Gen.facts, Cert.Ada.Gen.facts, Cert.AdaIdeal.Gen.facts, Cert.AdaRefIdeal.Gen.facts, Cert.AdaDw.Gen.facts, Cert.AdaDwIdeal.Gen.facts, Cert.AdaDwRefIdeal.Gen.facts, Cert.AdaDact.Gen.facts, Cert.AdaDactIdeal.Gen.facts, Cert.AdaDactRefIdeal.Gen.facts, Cert.SumSmall.Gen.facts, Cert.SumSmallIdeal.Gen.facts, Cert.SumSmallRefIdeal.Gen.facts, Cert.Prep.Gen.facts, Cert.PrepIdeal.Gen.facts, Cert.PrepRefIdeal.Gen.facts, Cert.Meet.finite_facts, Cert.FwdMeet.finite3_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.Fwd.Gen.frame m ρ,
    fun m ρ _ => Cert.FwdIdeal.Gen.frame m ρ,
    fun m ρ _ => Cert.FwdIdeal.Gen.frame m ρ,
    fun m ρ _ => fwd_reference_frame m ρ,
    fun m ρ _ => fwd_reference_frame m ρ,
    fun m ρ _ => Cert.UpDw.Gen.frame m ρ, fun m ρ _ => Cert.UpDwIdeal.Gen.frame m ρ, fun m ρ _ => upDw_reference_frame m ρ,
    fun m ρ _ => Cert.UpDx.Gen.frame m ρ, fun m ρ _ => Cert.UpDxIdeal.Gen.frame m ρ, fun m ρ _ => upDx_reference_frame m ρ,
    fun m ρ _ => Cert.DownDx.Gen.frame m ρ, fun m ρ _ => Cert.DownDxIdeal.Gen.frame m ρ, fun m ρ _ => downDx_reference_frame m ρ,
    fun m ρ _ => Cert.DownDw.Gen.frame m ρ, fun m ρ _ => Cert.DownDwIdeal.Gen.frame m ρ, fun m ρ _ => downDw_reference_frame m ρ,
    fun m ρ _ => Cert.Up.Gen.frame m ρ, fun m ρ _ => Cert.UpIdeal.Gen.frame m ρ, fun m ρ _ => up_reference_frame m ρ,
    fun m ρ _ => Cert.Down.Gen.frame m ρ, fun m ρ _ => Cert.DownIdeal.Gen.frame m ρ, fun m ρ _ => down_reference_frame m ρ,
    fun m ρ _ => Cert.InA.Gen.frame m ρ, fun m ρ _ => Cert.InAIdeal.Gen.frame m ρ, fun m ρ _ => inA_reference_frame m ρ,
    fun m ρ _ => Cert.InADx.Gen.frame m ρ, fun m ρ _ => Cert.InADxIdeal.Gen.frame m ρ, fun m ρ _ => inADx_reference_frame m ρ,
    fun m ρ _ => Cert.InADw.Gen.frame m ρ, fun m ρ _ => Cert.InADwIdeal.Gen.frame m ρ, fun m ρ _ => inADw_reference_frame m ρ,
    fun m ρ _ => Cert.InB.Gen.frame m ρ, fun m ρ _ => Cert.InBIdeal.Gen.frame m ρ, fun m ρ _ => inB_reference_frame m ρ,
    fun m ρ _ => Cert.InBDx.Gen.frame m ρ, fun m ρ _ => Cert.InBDxIdeal.Gen.frame m ρ, fun m ρ _ => inBDx_reference_frame m ρ,
    fun m ρ _ => Cert.InBDw.Gen.frame m ρ, fun m ρ _ => Cert.InBDwIdeal.Gen.frame m ρ, fun m ρ _ => inBDw_reference_frame m ρ,
    fun m ρ _ => Cert.Out.Gen.frame m ρ, fun m ρ _ => Cert.OutIdeal.Gen.frame m ρ, fun m ρ _ => out_reference_frame m ρ,
    fun m ρ _ => Cert.OutDx.Gen.frame m ρ, fun m ρ _ => Cert.OutDxIdeal.Gen.frame m ρ, fun m ρ _ => outDx_reference_frame m ρ,
    fun m ρ _ => Cert.OutDw.Gen.frame m ρ, fun m ρ _ => Cert.OutDwIdeal.Gen.frame m ρ, fun m ρ _ => outDw_reference_frame m ρ,
    fun m ρ _ => Cert.Qb.Gen.frame m ρ, fun m ρ _ => Cert.QbIdeal.Gen.frame m ρ, fun m ρ _ => qb_reference_frame m ρ,
    fun m ρ _ => Cert.QbDx.Gen.frame m ρ, fun m ρ _ => Cert.QbDxIdeal.Gen.frame m ρ, fun m ρ _ => qbDx_reference_frame m ρ,
    fun m ρ _ => Cert.QbDw.Gen.frame m ρ, fun m ρ _ => Cert.QbDwIdeal.Gen.frame m ρ, fun m ρ _ => qbDw_reference_frame m ρ,
    fun m ρ _ => Cert.Kvb.Gen.frame m ρ, fun m ρ _ => Cert.KvbIdeal.Gen.frame m ρ, fun m ρ _ => kvb_reference_frame m ρ,
    fun m ρ _ => Cert.KvbDx.Gen.frame m ρ, fun m ρ _ => Cert.KvbDxIdeal.Gen.frame m ρ, fun m ρ _ => kvbDx_reference_frame m ρ,
    fun m ρ _ => Cert.KvbDw.Gen.frame m ρ, fun m ρ _ => Cert.KvbDwIdeal.Gen.frame m ρ, fun m ρ _ => kvbDw_reference_frame m ρ,
    fun m ρ _ => Cert.StepUp.Gen.frame m ρ, fun m ρ _ => Cert.StepUpIdeal.Gen.frame m ρ, fun m ρ _ => stepUp_reference_frame m ρ,
    fun m ρ _ => Cert.StepDown.Gen.frame m ρ, fun m ρ _ => Cert.StepDownIdeal.Gen.frame m ρ, fun m ρ _ => stepDown_reference_frame m ρ,
    fun m ρ _ => Cert.StepInA.Gen.frame m ρ, fun m ρ _ => Cert.StepInAIdeal.Gen.frame m ρ, fun m ρ _ => stepInA_reference_frame m ρ,
    fun m ρ _ => Cert.StepInB.Gen.frame m ρ, fun m ρ _ => Cert.StepInBIdeal.Gen.frame m ρ, fun m ρ _ => stepInB_reference_frame m ρ,
    fun m ρ _ => Cert.StepOut.Gen.frame m ρ, fun m ρ _ => Cert.StepOutIdeal.Gen.frame m ρ, fun m ρ _ => stepOut_reference_frame m ρ,
    fun m ρ _ => Cert.StepQb.Gen.frame m ρ, fun m ρ _ => Cert.StepQbIdeal.Gen.frame m ρ, fun m ρ _ => stepQb_reference_frame m ρ,
    fun m ρ _ => Cert.StepKvb.Gen.frame m ρ, fun m ρ _ => Cert.StepKvbIdeal.Gen.frame m ρ, fun m ρ _ => stepKvb_reference_frame m ρ,
    fun m ρ _ => Cert.StepAda.Gen.frame m ρ, fun m ρ _ => Cert.StepAdaIdeal.Gen.frame m ρ, fun m ρ _ => stepAda_reference_frame m ρ,
    fun m ρ _ => Cert.StepSmall.Gen.frame m ρ, fun m ρ _ => Cert.StepSmallIdeal.Gen.frame m ρ, fun m ρ _ => stepSmall_reference_frame m ρ,
    fun m ρ _ => Cert.Ada.Gen.frame m ρ, fun m ρ _ => Cert.AdaIdeal.Gen.frame m ρ, fun m ρ _ => ada_reference_frame m ρ,
    fun m ρ _ => Cert.AdaDw.Gen.frame m ρ, fun m ρ _ => Cert.AdaDwIdeal.Gen.frame m ρ, fun m ρ _ => adaDw_reference_frame m ρ,
    fun m ρ _ => Cert.AdaDact.Gen.frame m ρ, fun m ρ _ => Cert.AdaDactIdeal.Gen.frame m ρ, fun m ρ _ => adaDact_reference_frame m ρ,
    fun m ρ _ => Cert.SumSmall.Gen.frame m ρ, fun m ρ _ => Cert.SumSmallIdeal.Gen.frame m ρ, fun m ρ _ => sumSmall_reference_frame m ρ,
    fun m ρ _ => Cert.Prep.Gen.frame m ρ, fun m ρ _ => Cert.PrepIdeal.Gen.frame m ρ, fun m ρ _ => prep_reference_frame m ρ,
    IdealRules.named_const.statement Cert.KernelIdeal.κ "ln2" .f32 0x3F317218#32 ((Real.log 2 : ℝ) : EReal) rfl,
    attention_value,
    IdealRules.named_const.statement Cert.FwdIdeal.κ "ln2" .f32 0x3F317218#32 ((Real.log 2 : ℝ) : EReal) rfl,
    fwd_value,
    trivial, upDw_value,
    trivial, upDx_value,
    trivial, downDx_value,
    trivial, downDw_value,
    trivial, up_value,
    trivial, down_value,
    trivial, inA_value,
    trivial, inADx_value,
    trivial, inADw_value,
    trivial, inB_value,
    trivial, inBDx_value,
    trivial, inBDw_value,
    trivial, out_value,
    trivial, outDx_value,
    trivial, outDw_value,
    trivial, qb_value,
    trivial, qbDx_value,
    trivial, qbDw_value,
    trivial, kvb_value,
    trivial, kvbDx_value,
    trivial, kvbDw_value,
    trivial, stepUp_value,
    trivial, stepDown_value,
    trivial, stepInA_value,
    trivial, stepInB_value,
    trivial, stepOut_value,
    trivial, stepQb_value,
    trivial, stepKvb_value,
    trivial, stepAda_value,
    trivial, stepSmall_value,
    trivial, ada_value,
    trivial, adaDw_value,
    trivial, adaDact_value,
    trivial, sumSmall_value,
    trivial, prep_value⟩

end Cert.Proof

end
